-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelInB (m : (ℓ : Loc Cert.KernelInB.nD Cert.KernelInB.τ Cert.KernelInB.sig) → Buf (Elt Bits) ℓ) : Prop :=
  True

def Pre_KernelInBIdeal (m : (ℓ : Loc Cert.KernelInBIdeal.nD Cert.KernelInBIdeal.τ Cert.KernelInBIdeal.sig) → Buf (Elt Ideal) ℓ) : Prop :=
  True

def Pre_ReferenceInBIdeal (m : (ℓ : Loc Cert.ReferenceInBIdeal.nD Cert.ReferenceInBIdeal.τ Cert.ReferenceInBIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelBias (m : (ℓ : Loc Cert.KernelBias.nD Cert.KernelBias.τ Cert.KernelBias.sig) → Buf (Elt Bits) ℓ) : Prop :=
  True

def Pre_KernelBiasIdeal (m : (ℓ : Loc Cert.KernelBiasIdeal.nD Cert.KernelBiasIdeal.τ Cert.KernelBiasIdeal.sig) → Buf (Elt Ideal) ℓ) : Prop :=
  True

def Pre_ReferenceBiasIdeal (m : (ℓ : Loc Cert.ReferenceBiasIdeal.nD Cert.ReferenceBiasIdeal.τ Cert.ReferenceBiasIdeal.sig) → Buf (Elt Ideal) ℓ) : Prop :=
  True

def Pre_KernelPost (m : (ℓ : Loc Cert.KernelPost.nD Cert.KernelPost.τ Cert.KernelPost.sig) → Buf (Elt Bits) ℓ) : Prop :=
  True

def Pre_KernelPostIdeal (m : (ℓ : Loc Cert.KernelPostIdeal.nD Cert.KernelPostIdeal.τ Cert.KernelPostIdeal.sig) → Buf (Elt Ideal) ℓ) : Prop :=
  True

def Pre_ReferencePostIdeal (m : (ℓ : Loc Cert.ReferencePostIdeal.nD Cert.ReferencePostIdeal.τ Cert.ReferencePostIdeal.sig) → Buf (Elt Ideal) ℓ) : Prop :=
  True

def Pre_KernelPostB (m : (ℓ : Loc Cert.KernelPostB.nD Cert.KernelPostB.τ Cert.KernelPostB.sig) → Buf (Elt Bits) ℓ) : Prop :=
  True

def Pre_KernelPostBIdeal (m : (ℓ : Loc Cert.KernelPostBIdeal.nD Cert.KernelPostBIdeal.τ Cert.KernelPostBIdeal.sig) → Buf (Elt Ideal) ℓ) : Prop :=
  True

def Pre_ReferencePostBIdeal (m : (ℓ : Loc Cert.ReferencePostBIdeal.nD Cert.ReferencePostBIdeal.τ Cert.ReferencePostBIdeal.sig) → Buf (Elt Ideal) ℓ) : Prop :=
  True

def Pre_KernelPostP (m : (ℓ : Loc Cert.KernelPostP.nD Cert.KernelPostP.τ Cert.KernelPostP.sig) → Buf (Elt Bits) ℓ) : Prop :=
  True

def Pre_KernelPostPIdeal (m : (ℓ : Loc Cert.KernelPostPIdeal.nD Cert.KernelPostPIdeal.τ Cert.KernelPostPIdeal.sig) → Buf (Elt Ideal) ℓ) : Prop :=
  True

def Pre_ReferencePostPIdeal (m : (ℓ : Loc Cert.ReferencePostPIdeal.nD Cert.ReferencePostPIdeal.τ Cert.ReferencePostPIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelInB [hKernelInB : Cert.KernelInB.Facts] : Prop :=
  ∀ (m : (ℓ : Loc Cert.KernelInB.nD Cert.KernelInB.τ Cert.KernelInB.sig) → Buf (Elt Bits) ℓ) (g : Dev Cert.KernelInB.nD → PrngReg), Pre_KernelInB m →
    θ_run (Cert.KernelInB.defs (F := Bits)) (onTc (τ := Cert.KernelInB.τ) (Cert.KernelInB.main (F := Bits))) ⟨m, fun _ => 0, g⟩ (fun r => (∀ c : Dev Cert.KernelInB.nD,
      r.2.mem ((c.tc : Thread Cert.KernelInB.nD Cert.KernelInB.τ).loc Cert.KernelInB.main_arg0) = m ((c.tc : Thread Cert.KernelInB.nD Cert.KernelInB.τ).loc Cert.KernelInB.main_arg0)
      ∧ r.2.mem ((c.tc : Thread Cert.KernelInB.nD Cert.KernelInB.τ).loc Cert.KernelInB.main_arg1) = m ((c.tc : Thread Cert.KernelInB.nD Cert.KernelInB.τ).loc Cert.KernelInB.main_arg1))
      ∧ r.2.sem = fun _ => 0)

def quiescent_KernelInBIdeal [hKernelInBIdeal : Cert.KernelInBIdeal.Facts] : Prop :=
  ∀ (m : (ℓ : Loc Cert.KernelInBIdeal.nD Cert.KernelInBIdeal.τ Cert.KernelInBIdeal.sig) → Buf (Elt Ideal) ℓ) (g : Dev Cert.KernelInBIdeal.nD → PrngReg), Pre_KernelInBIdeal m →
    θ_run (Cert.KernelInBIdeal.defs (F := Ideal)) (onTc (τ := Cert.KernelInBIdeal.τ) (Cert.KernelInBIdeal.main (F := Ideal))) ⟨m, fun _ => 0, g⟩ (fun r => (∀ c : Dev Cert.KernelInBIdeal.nD,
      r.2.mem ((c.tc : Thread Cert.KernelInBIdeal.nD Cert.KernelInBIdeal.τ).loc Cert.KernelInBIdeal.main_arg0) = m ((c.tc : Thread Cert.KernelInBIdeal.nD Cert.KernelInBIdeal.τ).loc Cert.KernelInBIdeal.main_arg0)
      ∧ r.2.mem ((c.tc : Thread Cert.KernelInBIdeal.nD Cert.KernelInBIdeal.τ).loc Cert.KernelInBIdeal.main_arg1) = m ((c.tc : Thread Cert.KernelInBIdeal.nD Cert.KernelInBIdeal.τ).loc Cert.KernelInBIdeal.main_arg1))
      ∧ r.2.sem = fun _ => 0)

def quiescent_ReferenceInBIdeal [hReferenceInBIdeal : Cert.ReferenceInBIdeal.Facts] : Prop :=
  ∀ (m : (ℓ : Loc Cert.ReferenceInBIdeal.nD Cert.ReferenceInBIdeal.τ Cert.ReferenceInBIdeal.sig) → Buf (Elt Ideal) ℓ) (g : Dev Cert.ReferenceInBIdeal.nD → PrngReg), Pre_ReferenceInBIdeal m →
    θ_run (Cert.ReferenceInBIdeal.defs (F := Ideal)) (onTc (τ := Cert.ReferenceInBIdeal.τ) (Cert.ReferenceInBIdeal.main (F := Ideal))) ⟨m, fun _ => 0, g⟩ (fun r => (∀ c : Dev Cert.ReferenceInBIdeal.nD,
      r.2.mem ((c.tc : Thread Cert.ReferenceInBIdeal.nD Cert.ReferenceInBIdeal.τ).loc Cert.ReferenceInBIdeal.main_arg0) = m ((c.tc : Thread Cert.ReferenceInBIdeal.nD Cert.ReferenceInBIdeal.τ).loc Cert.ReferenceInBIdeal.main_arg0)
      ∧ r.2.mem ((c.tc : Thread Cert.ReferenceInBIdeal.nD Cert.ReferenceInBIdeal.τ).loc Cert.ReferenceInBIdeal.main_arg1) = m ((c.tc : Thread Cert.ReferenceInBIdeal.nD Cert.ReferenceInBIdeal.τ).loc Cert.ReferenceInBIdeal.main_arg1))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelBias [hKernelBias : Cert.KernelBias.Facts] : Prop :=
  ∀ (m : (ℓ : Loc Cert.KernelBias.nD Cert.KernelBias.τ Cert.KernelBias.sig) → Buf (Elt Bits) ℓ) (g : Dev Cert.KernelBias.nD → PrngReg), Pre_KernelBias m →
    θ_run (Cert.KernelBias.defs (F := Bits)) (onTc (τ := Cert.KernelBias.τ) (Cert.KernelBias.main (F := Bits))) ⟨m, fun _ => 0, g⟩ (fun r => (∀ c : Dev Cert.KernelBias.nD,
      r.2.mem ((c.tc : Thread Cert.KernelBias.nD Cert.KernelBias.τ).loc Cert.KernelBias.main_arg0) = m ((c.tc : Thread Cert.KernelBias.nD Cert.KernelBias.τ).loc Cert.KernelBias.main_arg0)
      ∧ r.2.mem ((c.tc : Thread Cert.KernelBias.nD Cert.KernelBias.τ).loc Cert.KernelBias.main_arg1) = m ((c.tc : Thread Cert.KernelBias.nD Cert.KernelBias.τ).loc Cert.KernelBias.main_arg1))
      ∧ r.2.sem = fun _ => 0)

def quiescent_KernelBiasIdeal [hKernelBiasIdeal : Cert.KernelBiasIdeal.Facts] : Prop :=
  ∀ (m : (ℓ : Loc Cert.KernelBiasIdeal.nD Cert.KernelBiasIdeal.τ Cert.KernelBiasIdeal.sig) → Buf (Elt Ideal) ℓ) (g : Dev Cert.KernelBiasIdeal.nD → PrngReg), Pre_KernelBiasIdeal m →
    θ_run (Cert.KernelBiasIdeal.defs (F := Ideal)) (onTc (τ := Cert.KernelBiasIdeal.τ) (Cert.KernelBiasIdeal.main (F := Ideal))) ⟨m, fun _ => 0, g⟩ (fun r => (∀ c : Dev Cert.KernelBiasIdeal.nD,
      r.2.mem ((c.tc : Thread Cert.KernelBiasIdeal.nD Cert.KernelBiasIdeal.τ).loc Cert.KernelBiasIdeal.main_arg0) = m ((c.tc : Thread Cert.KernelBiasIdeal.nD Cert.KernelBiasIdeal.τ).loc Cert.KernelBiasIdeal.main_arg0)
      ∧ r.2.mem ((c.tc : Thread Cert.KernelBiasIdeal.nD Cert.KernelBiasIdeal.τ).loc Cert.KernelBiasIdeal.main_arg1) = m ((c.tc : Thread Cert.KernelBiasIdeal.nD Cert.KernelBiasIdeal.τ).loc Cert.KernelBiasIdeal.main_arg1))
      ∧ r.2.sem = fun _ => 0)

def quiescent_ReferenceBiasIdeal [hReferenceBiasIdeal : Cert.ReferenceBiasIdeal.Facts] : Prop :=
  ∀ (m : (ℓ : Loc Cert.ReferenceBiasIdeal.nD Cert.ReferenceBiasIdeal.τ Cert.ReferenceBiasIdeal.sig) → Buf (Elt Ideal) ℓ) (g : Dev Cert.ReferenceBiasIdeal.nD → PrngReg), Pre_ReferenceBiasIdeal m →
    θ_run (Cert.ReferenceBiasIdeal.defs (F := Ideal)) (onTc (τ := Cert.ReferenceBiasIdeal.τ) (Cert.ReferenceBiasIdeal.main (F := Ideal))) ⟨m, fun _ => 0, g⟩ (fun r => (∀ c : Dev Cert.ReferenceBiasIdeal.nD,
      r.2.mem ((c.tc : Thread Cert.ReferenceBiasIdeal.nD Cert.ReferenceBiasIdeal.τ).loc Cert.ReferenceBiasIdeal.main_arg0) = m ((c.tc : Thread Cert.ReferenceBiasIdeal.nD Cert.ReferenceBiasIdeal.τ).loc Cert.ReferenceBiasIdeal.main_arg0)
      ∧ r.2.mem ((c.tc : Thread Cert.ReferenceBiasIdeal.nD Cert.ReferenceBiasIdeal.τ).loc Cert.ReferenceBiasIdeal.main_arg1) = m ((c.tc : Thread Cert.ReferenceBiasIdeal.nD Cert.ReferenceBiasIdeal.τ).loc Cert.ReferenceBiasIdeal.main_arg1))
      ∧ r.2.sem = fun _ => 0)

def quiescent_KernelPost [hKernelPost : Cert.KernelPost.Facts] : Prop :=
  ∀ (m : (ℓ : Loc Cert.KernelPost.nD Cert.KernelPost.τ Cert.KernelPost.sig) → Buf (Elt Bits) ℓ) (g : Dev Cert.KernelPost.nD → PrngReg), Pre_KernelPost m →
    θ_run (Cert.KernelPost.defs (F := Bits)) (onTc (τ := Cert.KernelPost.τ) (Cert.KernelPost.main (F := Bits))) ⟨m, fun _ => 0, g⟩ (fun r => (∀ c : Dev Cert.KernelPost.nD,
      r.2.mem ((c.tc : Thread Cert.KernelPost.nD Cert.KernelPost.τ).loc Cert.KernelPost.main_arg0) = m ((c.tc : Thread Cert.KernelPost.nD Cert.KernelPost.τ).loc Cert.KernelPost.main_arg0)
      ∧ r.2.mem ((c.tc : Thread Cert.KernelPost.nD Cert.KernelPost.τ).loc Cert.KernelPost.main_arg1) = m ((c.tc : Thread Cert.KernelPost.nD Cert.KernelPost.τ).loc Cert.KernelPost.main_arg1)
      ∧ r.2.mem ((c.tc : Thread Cert.KernelPost.nD Cert.KernelPost.τ).loc Cert.KernelPost.main_arg2) = m ((c.tc : Thread Cert.KernelPost.nD Cert.KernelPost.τ).loc Cert.KernelPost.main_arg2))
      ∧ r.2.sem = fun _ => 0)

def quiescent_KernelPostIdeal [hKernelPostIdeal : Cert.KernelPostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2))
      ∧ r.2.sem = fun _ => 0)

def quiescent_ReferencePostIdeal [hReferencePostIdeal : Cert.ReferencePostIdeal.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2))
      ∧ r.2.sem = fun _ => 0)

def quiescent_KernelPostB [hKernelPostB : Cert.KernelPostB.Facts] : Prop :=
  ∀ (m : (ℓ : Loc Cert.KernelPostB.nD Cert.KernelPostB.τ Cert.KernelPostB.sig) → Buf (Elt Bits) ℓ) (g : Dev Cert.KernelPostB.nD → PrngReg), Pre_KernelPostB m →
    θ_run (Cert.KernelPostB.defs (F := Bits)) (onTc (τ := Cert.KernelPostB.τ) (Cert.KernelPostB.main (F := Bits))) ⟨m, fun _ => 0, g⟩ (fun r => (∀ c : Dev Cert.KernelPostB.nD,
      r.2.mem ((c.tc : Thread Cert.KernelPostB.nD Cert.KernelPostB.τ).loc Cert.KernelPostB.main_arg0) = m ((c.tc : Thread Cert.KernelPostB.nD Cert.KernelPostB.τ).loc Cert.KernelPostB.main_arg0)
      ∧ r.2.mem ((c.tc : Thread Cert.KernelPostB.nD Cert.KernelPostB.τ).loc Cert.KernelPostB.main_arg1) = m ((c.tc : Thread Cert.KernelPostB.nD Cert.KernelPostB.τ).loc Cert.KernelPostB.main_arg1)
      ∧ r.2.mem ((c.tc : Thread Cert.KernelPostB.nD Cert.KernelPostB.τ).loc Cert.KernelPostB.main_arg2) = m ((c.tc : Thread Cert.KernelPostB.nD Cert.KernelPostB.τ).loc Cert.KernelPostB.main_arg2))
      ∧ r.2.sem = fun _ => 0)

def quiescent_KernelPostBIdeal [hKernelPostBIdeal : Cert.KernelPostBIdeal.Facts] : Prop :=
  ∀ (m : (ℓ : Loc Cert.KernelPostBIdeal.nD Cert.KernelPostBIdeal.τ Cert.KernelPostBIdeal.sig) → Buf (Elt Ideal) ℓ) (g : Dev Cert.KernelPostBIdeal.nD → PrngReg), Pre_KernelPostBIdeal m →
    θ_run (Cert.KernelPostBIdeal.defs (F := Ideal)) (onTc (τ := Cert.KernelPostBIdeal.τ) (Cert.KernelPostBIdeal.main (F := Ideal))) ⟨m, fun _ => 0, g⟩ (fun r => (∀ c : Dev Cert.KernelPostBIdeal.nD,
      r.2.mem ((c.tc : Thread Cert.KernelPostBIdeal.nD Cert.KernelPostBIdeal.τ).loc Cert.KernelPostBIdeal.main_arg0) = m ((c.tc : Thread Cert.KernelPostBIdeal.nD Cert.KernelPostBIdeal.τ).loc Cert.KernelPostBIdeal.main_arg0)
      ∧ r.2.mem ((c.tc : Thread Cert.KernelPostBIdeal.nD Cert.KernelPostBIdeal.τ).loc Cert.KernelPostBIdeal.main_arg1) = m ((c.tc : Thread Cert.KernelPostBIdeal.nD Cert.KernelPostBIdeal.τ).loc Cert.KernelPostBIdeal.main_arg1)
      ∧ r.2.mem ((c.tc : Thread Cert.KernelPostBIdeal.nD Cert.KernelPostBIdeal.τ).loc Cert.KernelPostBIdeal.main_arg2) = m ((c.tc : Thread Cert.KernelPostBIdeal.nD Cert.KernelPostBIdeal.τ).loc Cert.KernelPostBIdeal.main_arg2))
      ∧ r.2.sem = fun _ => 0)

def quiescent_ReferencePostBIdeal [hReferencePostBIdeal : Cert.ReferencePostBIdeal.Facts] : Prop :=
  ∀ (m : (ℓ : Loc Cert.ReferencePostBIdeal.nD Cert.ReferencePostBIdeal.τ Cert.ReferencePostBIdeal.sig) → Buf (Elt Ideal) ℓ) (g : Dev Cert.ReferencePostBIdeal.nD → PrngReg), Pre_ReferencePostBIdeal m →
    θ_run (Cert.ReferencePostBIdeal.defs (F := Ideal)) (onTc (τ := Cert.ReferencePostBIdeal.τ) (Cert.ReferencePostBIdeal.main (F := Ideal))) ⟨m, fun _ => 0, g⟩ (fun r => (∀ c : Dev Cert.ReferencePostBIdeal.nD,
      r.2.mem ((c.tc : Thread Cert.ReferencePostBIdeal.nD Cert.ReferencePostBIdeal.τ).loc Cert.ReferencePostBIdeal.main_arg0) = m ((c.tc : Thread Cert.ReferencePostBIdeal.nD Cert.ReferencePostBIdeal.τ).loc Cert.ReferencePostBIdeal.main_arg0)
      ∧ r.2.mem ((c.tc : Thread Cert.ReferencePostBIdeal.nD Cert.ReferencePostBIdeal.τ).loc Cert.ReferencePostBIdeal.main_arg1) = m ((c.tc : Thread Cert.ReferencePostBIdeal.nD Cert.ReferencePostBIdeal.τ).loc Cert.ReferencePostBIdeal.main_arg1)
      ∧ r.2.mem ((c.tc : Thread Cert.ReferencePostBIdeal.nD Cert.ReferencePostBIdeal.τ).loc Cert.ReferencePostBIdeal.main_arg2) = m ((c.tc : Thread Cert.ReferencePostBIdeal.nD Cert.ReferencePostBIdeal.τ).loc Cert.ReferencePostBIdeal.main_arg2))
      ∧ r.2.sem = fun _ => 0)

def quiescent_KernelPostP [hKernelPostP : Cert.KernelPostP.Facts] : Prop :=
  ∀ (m : (ℓ : Loc Cert.KernelPostP.nD Cert.KernelPostP.τ Cert.KernelPostP.sig) → Buf (Elt Bits) ℓ) (g : Dev Cert.KernelPostP.nD → PrngReg), Pre_KernelPostP m →
    θ_run (Cert.KernelPostP.defs (F := Bits)) (onTc (τ := Cert.KernelPostP.τ) (Cert.KernelPostP.main (F := Bits))) ⟨m, fun _ => 0, g⟩ (fun r => (∀ c : Dev Cert.KernelPostP.nD,
      r.2.mem ((c.tc : Thread Cert.KernelPostP.nD Cert.KernelPostP.τ).loc Cert.KernelPostP.main_arg0) = m ((c.tc : Thread Cert.KernelPostP.nD Cert.KernelPostP.τ).loc Cert.KernelPostP.main_arg0)
      ∧ r.2.mem ((c.tc : Thread Cert.KernelPostP.nD Cert.KernelPostP.τ).loc Cert.KernelPostP.main_arg1) = m ((c.tc : Thread Cert.KernelPostP.nD Cert.KernelPostP.τ).loc Cert.KernelPostP.main_arg1)
      ∧ r.2.mem ((c.tc : Thread Cert.KernelPostP.nD Cert.KernelPostP.τ).loc Cert.KernelPostP.main_arg2) = m ((c.tc : Thread Cert.KernelPostP.nD Cert.KernelPostP.τ).loc Cert.KernelPostP.main_arg2))
      ∧ r.2.sem = fun _ => 0)

def quiescent_KernelPostPIdeal [hKernelPostPIdeal : Cert.KernelPostPIdeal.Facts] : Prop :=
  ∀ (m : (ℓ : Loc Cert.KernelPostPIdeal.nD Cert.KernelPostPIdeal.τ Cert.KernelPostPIdeal.sig) → Buf (Elt Ideal) ℓ) (g : Dev Cert.KernelPostPIdeal.nD → PrngReg), Pre_KernelPostPIdeal m →
    θ_run (Cert.KernelPostPIdeal.defs (F := Ideal)) (onTc (τ := Cert.KernelPostPIdeal.τ) (Cert.KernelPostPIdeal.main (F := Ideal))) ⟨m, fun _ => 0, g⟩ (fun r => (∀ c : Dev Cert.KernelPostPIdeal.nD,
      r.2.mem ((c.tc : Thread Cert.KernelPostPIdeal.nD Cert.KernelPostPIdeal.τ).loc Cert.KernelPostPIdeal.main_arg0) = m ((c.tc : Thread Cert.KernelPostPIdeal.nD Cert.KernelPostPIdeal.τ).loc Cert.KernelPostPIdeal.main_arg0)
      ∧ r.2.mem ((c.tc : Thread Cert.KernelPostPIdeal.nD Cert.KernelPostPIdeal.τ).loc Cert.KernelPostPIdeal.main_arg1) = m ((c.tc : Thread Cert.KernelPostPIdeal.nD Cert.KernelPostPIdeal.τ).loc Cert.KernelPostPIdeal.main_arg1)
      ∧ r.2.mem ((c.tc : Thread Cert.KernelPostPIdeal.nD Cert.KernelPostPIdeal.τ).loc Cert.KernelPostPIdeal.main_arg2) = m ((c.tc : Thread Cert.KernelPostPIdeal.nD Cert.KernelPostPIdeal.τ).loc Cert.KernelPostPIdeal.main_arg2))
      ∧ r.2.sem = fun _ => 0)

def quiescent_ReferencePostPIdeal [hReferencePostPIdeal : Cert.ReferencePostPIdeal.Facts] : Prop :=
  ∀ (m : (ℓ : Loc Cert.ReferencePostPIdeal.nD Cert.ReferencePostPIdeal.τ Cert.ReferencePostPIdeal.sig) → Buf (Elt Ideal) ℓ) (g : Dev Cert.ReferencePostPIdeal.nD → PrngReg), Pre_ReferencePostPIdeal m →
    θ_run (Cert.ReferencePostPIdeal.defs (F := Ideal)) (onTc (τ := Cert.ReferencePostPIdeal.τ) (Cert.ReferencePostPIdeal.main (F := Ideal))) ⟨m, fun _ => 0, g⟩ (fun r => (∀ c : Dev Cert.ReferencePostPIdeal.nD,
      r.2.mem ((c.tc : Thread Cert.ReferencePostPIdeal.nD Cert.ReferencePostPIdeal.τ).loc Cert.ReferencePostPIdeal.main_arg0) = m ((c.tc : Thread Cert.ReferencePostPIdeal.nD Cert.ReferencePostPIdeal.τ).loc Cert.ReferencePostPIdeal.main_arg0)
      ∧ r.2.mem ((c.tc : Thread Cert.ReferencePostPIdeal.nD Cert.ReferencePostPIdeal.τ).loc Cert.ReferencePostPIdeal.main_arg1) = m ((c.tc : Thread Cert.ReferencePostPIdeal.nD Cert.ReferencePostPIdeal.τ).loc Cert.ReferencePostPIdeal.main_arg1)
      ∧ r.2.mem ((c.tc : Thread Cert.ReferencePostPIdeal.nD Cert.ReferencePostPIdeal.τ).loc Cert.ReferencePostPIdeal.main_arg2) = m ((c.tc : Thread Cert.ReferencePostPIdeal.nD Cert.ReferencePostPIdeal.τ).loc Cert.ReferencePostPIdeal.main_arg2))
      ∧ r.2.sem = fun _ => 0)

def preserves_Kernel_KernelIdeal : Prop :=
  IdealRules.named_const.Statement Cert.KernelIdeal.κ "scale" .f32 0x3E0293EE#32 (((Real.sqrt 128)⁻¹ * (Real.log 2)⁻¹ : ℝ) : EReal)
  ∧ IdealRules.named_const.Statement Cert.KernelIdeal.κ "neg" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v1) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v5) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v2)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v2) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v1) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v2) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelInB_KernelInBIdeal : Prop :=
  True

def algebraic_KernelInBIdeal_ReferenceInBIdeal [hKernelInBIdeal : Cert.KernelInBIdeal.Facts] [hReferenceInBIdeal : Cert.ReferenceInBIdeal.Facts] : Prop :=
  ∀ (m : (ℓ : Loc Cert.KernelInBIdeal.nD Cert.KernelInBIdeal.τ Cert.KernelInBIdeal.sig) → Buf (Elt Ideal) ℓ) (g : Dev Cert.KernelInBIdeal.nD → PrngReg)
    (m' : (ℓ : Loc Cert.ReferenceInBIdeal.nD Cert.ReferenceInBIdeal.τ Cert.ReferenceInBIdeal.sig) → Buf (Elt Ideal) ℓ) (g' : Dev Cert.ReferenceInBIdeal.nD → PrngReg), Pre_KernelInBIdeal m →
    (∀ c : Dev Cert.KernelInBIdeal.nD,
      m' ((c.tc : Thread Cert.ReferenceInBIdeal.nD Cert.ReferenceInBIdeal.τ).loc Cert.ReferenceInBIdeal.main_arg0) = m ((c.tc : Thread Cert.KernelInBIdeal.nD Cert.KernelInBIdeal.τ).loc Cert.KernelInBIdeal.main_arg0)
      ∧ m' ((c.tc : Thread Cert.ReferenceInBIdeal.nD Cert.ReferenceInBIdeal.τ).loc Cert.ReferenceInBIdeal.main_arg1) = m ((c.tc : Thread Cert.KernelInBIdeal.nD Cert.KernelInBIdeal.τ).loc Cert.KernelInBIdeal.main_arg1)) →
    ∃ (v0 : (c : Dev Cert.KernelInBIdeal.nD) → Buf (Elt Ideal) ((c.tc : Thread Cert.KernelInBIdeal.nD Cert.KernelInBIdeal.τ).loc Cert.KernelInBIdeal.main_v3)),
      θ_run (Cert.KernelInBIdeal.defs (F := Ideal)) (onTc (τ := Cert.KernelInBIdeal.τ) (Cert.KernelInBIdeal.main (F := Ideal))) ⟨m, fun _ => 0, g⟩ (fun r => ∀ c : Dev Cert.KernelInBIdeal.nD,
          r.2.mem ((c.tc : Thread Cert.KernelInBIdeal.nD Cert.KernelInBIdeal.τ).loc Cert.KernelInBIdeal.main_v3) = v0 c
          ∧ r.2.mem ((c.tc : Thread Cert.KernelInBIdeal.nD Cert.KernelInBIdeal.τ).loc Cert.KernelInBIdeal.main_arg0) = m ((c.tc : Thread Cert.KernelInBIdeal.nD Cert.KernelInBIdeal.τ).loc Cert.KernelInBIdeal.main_arg0)
          ∧ r.2.mem ((c.tc : Thread Cert.KernelInBIdeal.nD Cert.KernelInBIdeal.τ).loc Cert.KernelInBIdeal.main_arg1) = m ((c.tc : Thread Cert.KernelInBIdeal.nD Cert.KernelInBIdeal.τ).loc Cert.KernelInBIdeal.main_arg1))
      ∧ θ_run (Cert.ReferenceInBIdeal.defs (F := Ideal)) (onTc (τ := Cert.ReferenceInBIdeal.τ) (Cert.ReferenceInBIdeal.main (F := Ideal))) ⟨m', fun _ => 0, g'⟩ (fun r => ∀ c : Dev Cert.ReferenceInBIdeal.nD,
          r.2.mem ((c.tc : Thread Cert.ReferenceInBIdeal.nD Cert.ReferenceInBIdeal.τ).loc Cert.ReferenceInBIdeal.main_v3) = v0 c
          ∧ r.2.mem ((c.tc : Thread Cert.ReferenceInBIdeal.nD Cert.ReferenceInBIdeal.τ).loc Cert.ReferenceInBIdeal.main_arg0) = m' ((c.tc : Thread Cert.ReferenceInBIdeal.nD Cert.ReferenceInBIdeal.τ).loc Cert.ReferenceInBIdeal.main_arg0)
          ∧ r.2.mem ((c.tc : Thread Cert.ReferenceInBIdeal.nD Cert.ReferenceInBIdeal.τ).loc Cert.ReferenceInBIdeal.main_arg1) = m' ((c.tc : Thread Cert.ReferenceInBIdeal.nD Cert.ReferenceInBIdeal.τ).loc Cert.ReferenceInBIdeal.main_arg1))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v13) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelBias_KernelBiasIdeal : Prop :=
  IdealRules.named_const.Statement Cert.KernelBiasIdeal.κ "log2e" .f32 0x3FB8AA3B#32 (((Real.log 2)⁻¹ : ℝ) : EReal)
  ∧ IdealRules.named_const.Statement Cert.KernelBiasIdeal.κ "neg" .f32 0xF149F2CA#32 ⊥

def algebraic_KernelBiasIdeal_ReferenceBiasIdeal [hKernelBiasIdeal : Cert.KernelBiasIdeal.Facts] [hReferenceBiasIdeal : Cert.ReferenceBiasIdeal.Facts] : Prop :=
  ∀ (m : (ℓ : Loc Cert.KernelBiasIdeal.nD Cert.KernelBiasIdeal.τ Cert.KernelBiasIdeal.sig) → Buf (Elt Ideal) ℓ) (g : Dev Cert.KernelBiasIdeal.nD → PrngReg)
    (m' : (ℓ : Loc Cert.ReferenceBiasIdeal.nD Cert.ReferenceBiasIdeal.τ Cert.ReferenceBiasIdeal.sig) → Buf (Elt Ideal) ℓ) (g' : Dev Cert.ReferenceBiasIdeal.nD → PrngReg), Pre_KernelBiasIdeal m →
    (∀ c : Dev Cert.KernelBiasIdeal.nD,
      m' ((c.tc : Thread Cert.ReferenceBiasIdeal.nD Cert.ReferenceBiasIdeal.τ).loc Cert.ReferenceBiasIdeal.main_arg0) = m ((c.tc : Thread Cert.KernelBiasIdeal.nD Cert.KernelBiasIdeal.τ).loc Cert.KernelBiasIdeal.main_arg0)
      ∧ m' ((c.tc : Thread Cert.ReferenceBiasIdeal.nD Cert.ReferenceBiasIdeal.τ).loc Cert.ReferenceBiasIdeal.main_arg1) = m ((c.tc : Thread Cert.KernelBiasIdeal.nD Cert.KernelBiasIdeal.τ).loc Cert.KernelBiasIdeal.main_arg1)) →
    ∃ (v0 : (c : Dev Cert.KernelBiasIdeal.nD) → Buf (Elt Ideal) ((c.tc : Thread Cert.KernelBiasIdeal.nD Cert.KernelBiasIdeal.τ).loc Cert.KernelBiasIdeal.main_v1)),
      θ_run (Cert.KernelBiasIdeal.defs (F := Ideal)) (onTc (τ := Cert.KernelBiasIdeal.τ) (Cert.KernelBiasIdeal.main (F := Ideal))) ⟨m, fun _ => 0, g⟩ (fun r => ∀ c : Dev Cert.KernelBiasIdeal.nD,
          r.2.mem ((c.tc : Thread Cert.KernelBiasIdeal.nD Cert.KernelBiasIdeal.τ).loc Cert.KernelBiasIdeal.main_v1) = v0 c
          ∧ r.2.mem ((c.tc : Thread Cert.KernelBiasIdeal.nD Cert.KernelBiasIdeal.τ).loc Cert.KernelBiasIdeal.main_arg0) = m ((c.tc : Thread Cert.KernelBiasIdeal.nD Cert.KernelBiasIdeal.τ).loc Cert.KernelBiasIdeal.main_arg0)
          ∧ r.2.mem ((c.tc : Thread Cert.KernelBiasIdeal.nD Cert.KernelBiasIdeal.τ).loc Cert.KernelBiasIdeal.main_arg1) = m ((c.tc : Thread Cert.KernelBiasIdeal.nD Cert.KernelBiasIdeal.τ).loc Cert.KernelBiasIdeal.main_arg1))
      ∧ θ_run (Cert.ReferenceBiasIdeal.defs (F := Ideal)) (onTc (τ := Cert.ReferenceBiasIdeal.τ) (Cert.ReferenceBiasIdeal.main (F := Ideal))) ⟨m', fun _ => 0, g'⟩ (fun r => ∀ c : Dev Cert.ReferenceBiasIdeal.nD,
          r.2.mem ((c.tc : Thread Cert.ReferenceBiasIdeal.nD Cert.ReferenceBiasIdeal.τ).loc Cert.ReferenceBiasIdeal.main_v38) = v0 c
          ∧ r.2.mem ((c.tc : Thread Cert.ReferenceBiasIdeal.nD Cert.ReferenceBiasIdeal.τ).loc Cert.ReferenceBiasIdeal.main_arg0) = m' ((c.tc : Thread Cert.ReferenceBiasIdeal.nD Cert.ReferenceBiasIdeal.τ).loc Cert.ReferenceBiasIdeal.main_arg0)
          ∧ r.2.mem ((c.tc : Thread Cert.ReferenceBiasIdeal.nD Cert.ReferenceBiasIdeal.τ).loc Cert.ReferenceBiasIdeal.main_arg1) = m' ((c.tc : Thread Cert.ReferenceBiasIdeal.nD Cert.ReferenceBiasIdeal.τ).loc Cert.ReferenceBiasIdeal.main_arg1))

def preserves_KernelPost_KernelPostIdeal : Prop :=
  IdealRules.named_const.Statement Cert.KernelPostIdeal.κ "scale" .f32 0x3E0293EE#32 (((Real.sqrt 128)⁻¹ * (Real.log 2)⁻¹ : ℝ) : EReal)

def algebraic_KernelPostIdeal_ReferencePostIdeal [hKernelPostIdeal : Cert.KernelPostIdeal.Facts] [hReferencePostIdeal : Cert.ReferencePostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg)
    (m' : (ℓ : Loc Cert.ReferencePostIdeal.nD Cert.ReferencePostIdeal.τ Cert.ReferencePostIdeal.sig) → Buf (Elt Ideal) ℓ) (g' : Dev Cert.ReferencePostIdeal.nD → PrngReg), Pre_KernelPostIdeal m →
    (∀ c : Dev Cert.KernelPostIdeal.nD,
      m' ((c.tc : Thread Cert.ReferencePostIdeal.nD Cert.ReferencePostIdeal.τ).loc Cert.ReferencePostIdeal.main_arg0) = m ((c.tc : Thread Cert.KernelPostIdeal.nD Cert.KernelPostIdeal.τ).loc Cert.KernelPostIdeal.main_arg0)
      ∧ m' ((c.tc : Thread Cert.ReferencePostIdeal.nD Cert.ReferencePostIdeal.τ).loc Cert.ReferencePostIdeal.main_arg1) = m ((c.tc : Thread Cert.KernelPostIdeal.nD Cert.KernelPostIdeal.τ).loc Cert.KernelPostIdeal.main_arg1)
      ∧ m' ((c.tc : Thread Cert.ReferencePostIdeal.nD Cert.ReferencePostIdeal.τ).loc Cert.ReferencePostIdeal.main_arg2) = m ((c.tc : Thread Cert.KernelPostIdeal.nD Cert.KernelPostIdeal.τ).loc Cert.KernelPostIdeal.main_arg2)) →
    ∃ (v0 : (c : Dev Cert.KernelPostIdeal.nD) → Buf (Elt Ideal) ((c.tc : Thread Cert.KernelPostIdeal.nD Cert.KernelPostIdeal.τ).loc Cert.KernelPostIdeal.main_v2_0)) (v1 : (c : Dev Cert.KernelPostIdeal.nD) → Buf (Elt Ideal) ((c.tc : Thread Cert.KernelPostIdeal.nD Cert.KernelPostIdeal.τ).loc Cert.KernelPostIdeal.main_v2_1)) (v2 : (c : Dev Cert.KernelPostIdeal.nD) → Buf (Elt Ideal) ((c.tc : Thread Cert.KernelPostIdeal.nD Cert.KernelPostIdeal.τ).loc Cert.KernelPostIdeal.main_v2_2)) (v3 : (c : Dev Cert.KernelPostIdeal.nD) → Buf (Elt Ideal) ((c.tc : Thread Cert.KernelPostIdeal.nD Cert.KernelPostIdeal.τ).loc Cert.KernelPostIdeal.main_v2_3)) (v4 : (c : Dev Cert.KernelPostIdeal.nD) → Buf (Elt Ideal) ((c.tc : Thread Cert.KernelPostIdeal.nD Cert.KernelPostIdeal.τ).loc Cert.KernelPostIdeal.main_v2_4)),
      θ_run (Cert.KernelPostIdeal.defs (F := Ideal)) (onTc (τ := Cert.KernelPostIdeal.τ) (Cert.KernelPostIdeal.main (F := Ideal))) ⟨m, fun _ => 0, g⟩ (fun r => ∀ c : Dev Cert.KernelPostIdeal.nD,
          r.2.mem ((c.tc : Thread Cert.KernelPostIdeal.nD Cert.KernelPostIdeal.τ).loc Cert.KernelPostIdeal.main_v2_0) = v0 c
          ∧ r.2.mem ((c.tc : Thread Cert.KernelPostIdeal.nD Cert.KernelPostIdeal.τ).loc Cert.KernelPostIdeal.main_v2_1) = v1 c
          ∧ r.2.mem ((c.tc : Thread Cert.KernelPostIdeal.nD Cert.KernelPostIdeal.τ).loc Cert.KernelPostIdeal.main_v2_2) = v2 c
          ∧ r.2.mem ((c.tc : Thread Cert.KernelPostIdeal.nD Cert.KernelPostIdeal.τ).loc Cert.KernelPostIdeal.main_v2_3) = v3 c
          ∧ r.2.mem ((c.tc : Thread Cert.KernelPostIdeal.nD Cert.KernelPostIdeal.τ).loc Cert.KernelPostIdeal.main_v2_4) = v4 c
          ∧ r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
          ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
          ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2))
      ∧ θ_run (Cert.ReferencePostIdeal.defs (F := Ideal)) (onTc (τ := Cert.ReferencePostIdeal.τ) (Cert.ReferencePostIdeal.main (F := Ideal))) ⟨m', fun _ => 0, g'⟩ (fun r => ∀ c : Dev Cert.ReferencePostIdeal.nD,
          r.2.mem ((c.tc : Thread Cert.ReferencePostIdeal.nD Cert.ReferencePostIdeal.τ).loc Cert.ReferencePostIdeal.main_v39) = v0 c
          ∧ r.2.mem ((c.tc : Thread Cert.ReferencePostIdeal.nD Cert.ReferencePostIdeal.τ).loc Cert.ReferencePostIdeal.main_v40) = v1 c
          ∧ r.2.mem ((c.tc : Thread Cert.ReferencePostIdeal.nD Cert.ReferencePostIdeal.τ).loc Cert.ReferencePostIdeal.main_v42) = v2 c
          ∧ r.2.mem ((c.tc : Thread Cert.ReferencePostIdeal.nD Cert.ReferencePostIdeal.τ).loc Cert.ReferencePostIdeal.main_v43) = v3 c
          ∧ r.2.mem ((c.tc : Thread Cert.ReferencePostIdeal.nD Cert.ReferencePostIdeal.τ).loc Cert.ReferencePostIdeal.main_v46) = v4 c
          ∧ r.2.mem ((c.tc : Thread Cert.ReferencePostIdeal.nD Cert.ReferencePostIdeal.τ).loc Cert.ReferencePostIdeal.main_arg0) = m' ((c.tc : Thread Cert.ReferencePostIdeal.nD Cert.ReferencePostIdeal.τ).loc Cert.ReferencePostIdeal.main_arg0)
          ∧ r.2.mem ((c.tc : Thread Cert.ReferencePostIdeal.nD Cert.ReferencePostIdeal.τ).loc Cert.ReferencePostIdeal.main_arg1) = m' ((c.tc : Thread Cert.ReferencePostIdeal.nD Cert.ReferencePostIdeal.τ).loc Cert.ReferencePostIdeal.main_arg1)
          ∧ r.2.mem ((c.tc : Thread Cert.ReferencePostIdeal.nD Cert.ReferencePostIdeal.τ).loc Cert.ReferencePostIdeal.main_arg2) = m' ((c.tc : Thread Cert.ReferencePostIdeal.nD Cert.ReferencePostIdeal.τ).loc Cert.ReferencePostIdeal.main_arg2))

def preserves_KernelPostB_KernelPostBIdeal : Prop :=
  IdealRules.named_const.Statement Cert.KernelPostBIdeal.κ "scale" .f32 0x3E0293EE#32 (((Real.sqrt 128)⁻¹ * (Real.log 2)⁻¹ : ℝ) : EReal)
  ∧ IdealRules.named_const.Statement Cert.KernelPostBIdeal.κ "iscale" .f32 0x3DB504F3#32 (((Real.sqrt 128)⁻¹ : ℝ) : EReal)

def algebraic_KernelPostBIdeal_ReferencePostBIdeal [hKernelPostBIdeal : Cert.KernelPostBIdeal.Facts] [hReferencePostBIdeal : Cert.ReferencePostBIdeal.Facts] : Prop :=
  ∀ (m : (ℓ : Loc Cert.KernelPostBIdeal.nD Cert.KernelPostBIdeal.τ Cert.KernelPostBIdeal.sig) → Buf (Elt Ideal) ℓ) (g : Dev Cert.KernelPostBIdeal.nD → PrngReg)
    (m' : (ℓ : Loc Cert.ReferencePostBIdeal.nD Cert.ReferencePostBIdeal.τ Cert.ReferencePostBIdeal.sig) → Buf (Elt Ideal) ℓ) (g' : Dev Cert.ReferencePostBIdeal.nD → PrngReg), Pre_KernelPostBIdeal m →
    (∀ c : Dev Cert.KernelPostBIdeal.nD,
      m' ((c.tc : Thread Cert.ReferencePostBIdeal.nD Cert.ReferencePostBIdeal.τ).loc Cert.ReferencePostBIdeal.main_arg0) = m ((c.tc : Thread Cert.KernelPostBIdeal.nD Cert.KernelPostBIdeal.τ).loc Cert.KernelPostBIdeal.main_arg0)
      ∧ m' ((c.tc : Thread Cert.ReferencePostBIdeal.nD Cert.ReferencePostBIdeal.τ).loc Cert.ReferencePostBIdeal.main_arg1) = m ((c.tc : Thread Cert.KernelPostBIdeal.nD Cert.KernelPostBIdeal.τ).loc Cert.KernelPostBIdeal.main_arg1)
      ∧ m' ((c.tc : Thread Cert.ReferencePostBIdeal.nD Cert.ReferencePostBIdeal.τ).loc Cert.ReferencePostBIdeal.main_arg2) = m ((c.tc : Thread Cert.KernelPostBIdeal.nD Cert.KernelPostBIdeal.τ).loc Cert.KernelPostBIdeal.main_arg2)) →
    ∃ (v0 : (c : Dev Cert.KernelPostBIdeal.nD) → Buf (Elt Ideal) ((c.tc : Thread Cert.KernelPostBIdeal.nD Cert.KernelPostBIdeal.τ).loc Cert.KernelPostBIdeal.main_v2_0)) (v1 : (c : Dev Cert.KernelPostBIdeal.nD) → Buf (Elt Ideal) ((c.tc : Thread Cert.KernelPostBIdeal.nD Cert.KernelPostBIdeal.τ).loc Cert.KernelPostBIdeal.main_v2_1)) (v2 : (c : Dev Cert.KernelPostBIdeal.nD) → Buf (Elt Ideal) ((c.tc : Thread Cert.KernelPostBIdeal.nD Cert.KernelPostBIdeal.τ).loc Cert.KernelPostBIdeal.main_v2_2)) (v3 : (c : Dev Cert.KernelPostBIdeal.nD) → Buf (Elt Ideal) ((c.tc : Thread Cert.KernelPostBIdeal.nD Cert.KernelPostBIdeal.τ).loc Cert.KernelPostBIdeal.main_v2_3)) (v4 : (c : Dev Cert.KernelPostBIdeal.nD) → Buf (Elt Ideal) ((c.tc : Thread Cert.KernelPostBIdeal.nD Cert.KernelPostBIdeal.τ).loc Cert.KernelPostBIdeal.main_v2_4)) (v5 : (c : Dev Cert.KernelPostBIdeal.nD) → Buf (Elt Ideal) ((c.tc : Thread Cert.KernelPostBIdeal.nD Cert.KernelPostBIdeal.τ).loc Cert.KernelPostBIdeal.main_v2_5)) (v6 : (c : Dev Cert.KernelPostBIdeal.nD) → Buf (Elt Ideal) ((c.tc : Thread Cert.KernelPostBIdeal.nD Cert.KernelPostBIdeal.τ).loc Cert.KernelPostBIdeal.main_v2_6)) (v7 : (c : Dev Cert.KernelPostBIdeal.nD) → Buf (Elt Ideal) ((c.tc : Thread Cert.KernelPostBIdeal.nD Cert.KernelPostBIdeal.τ).loc Cert.KernelPostBIdeal.main_v2_7)) (v8 : (c : Dev Cert.KernelPostBIdeal.nD) → Buf (Elt Ideal) ((c.tc : Thread Cert.KernelPostBIdeal.nD Cert.KernelPostBIdeal.τ).loc Cert.KernelPostBIdeal.main_v2_8)),
      θ_run (Cert.KernelPostBIdeal.defs (F := Ideal)) (onTc (τ := Cert.KernelPostBIdeal.τ) (Cert.KernelPostBIdeal.main (F := Ideal))) ⟨m, fun _ => 0, g⟩ (fun r => ∀ c : Dev Cert.KernelPostBIdeal.nD,
          r.2.mem ((c.tc : Thread Cert.KernelPostBIdeal.nD Cert.KernelPostBIdeal.τ).loc Cert.KernelPostBIdeal.main_v2_0) = v0 c
          ∧ r.2.mem ((c.tc : Thread Cert.KernelPostBIdeal.nD Cert.KernelPostBIdeal.τ).loc Cert.KernelPostBIdeal.main_v2_1) = v1 c
          ∧ r.2.mem ((c.tc : Thread Cert.KernelPostBIdeal.nD Cert.KernelPostBIdeal.τ).loc Cert.KernelPostBIdeal.main_v2_2) = v2 c
          ∧ r.2.mem ((c.tc : Thread Cert.KernelPostBIdeal.nD Cert.KernelPostBIdeal.τ).loc Cert.KernelPostBIdeal.main_v2_3) = v3 c
          ∧ r.2.mem ((c.tc : Thread Cert.KernelPostBIdeal.nD Cert.KernelPostBIdeal.τ).loc Cert.KernelPostBIdeal.main_v2_4) = v4 c
          ∧ r.2.mem ((c.tc : Thread Cert.KernelPostBIdeal.nD Cert.KernelPostBIdeal.τ).loc Cert.KernelPostBIdeal.main_v2_5) = v5 c
          ∧ r.2.mem ((c.tc : Thread Cert.KernelPostBIdeal.nD Cert.KernelPostBIdeal.τ).loc Cert.KernelPostBIdeal.main_v2_6) = v6 c
          ∧ r.2.mem ((c.tc : Thread Cert.KernelPostBIdeal.nD Cert.KernelPostBIdeal.τ).loc Cert.KernelPostBIdeal.main_v2_7) = v7 c
          ∧ r.2.mem ((c.tc : Thread Cert.KernelPostBIdeal.nD Cert.KernelPostBIdeal.τ).loc Cert.KernelPostBIdeal.main_v2_8) = v8 c
          ∧ r.2.mem ((c.tc : Thread Cert.KernelPostBIdeal.nD Cert.KernelPostBIdeal.τ).loc Cert.KernelPostBIdeal.main_arg0) = m ((c.tc : Thread Cert.KernelPostBIdeal.nD Cert.KernelPostBIdeal.τ).loc Cert.KernelPostBIdeal.main_arg0)
          ∧ r.2.mem ((c.tc : Thread Cert.KernelPostBIdeal.nD Cert.KernelPostBIdeal.τ).loc Cert.KernelPostBIdeal.main_arg1) = m ((c.tc : Thread Cert.KernelPostBIdeal.nD Cert.KernelPostBIdeal.τ).loc Cert.KernelPostBIdeal.main_arg1)
          ∧ r.2.mem ((c.tc : Thread Cert.KernelPostBIdeal.nD Cert.KernelPostBIdeal.τ).loc Cert.KernelPostBIdeal.main_arg2) = m ((c.tc : Thread Cert.KernelPostBIdeal.nD Cert.KernelPostBIdeal.τ).loc Cert.KernelPostBIdeal.main_arg2))
      ∧ θ_run (Cert.ReferencePostBIdeal.defs (F := Ideal)) (onTc (τ := Cert.ReferencePostBIdeal.τ) (Cert.ReferencePostBIdeal.main (F := Ideal))) ⟨m', fun _ => 0, g'⟩ (fun r => ∀ c : Dev Cert.ReferencePostBIdeal.nD,
          r.2.mem ((c.tc : Thread Cert.ReferencePostBIdeal.nD Cert.ReferencePostBIdeal.τ).loc Cert.ReferencePostBIdeal.main_v48) = v0 c
          ∧ r.2.mem ((c.tc : Thread Cert.ReferencePostBIdeal.nD Cert.ReferencePostBIdeal.τ).loc Cert.ReferencePostBIdeal.main_v49) = v1 c
          ∧ r.2.mem ((c.tc : Thread Cert.ReferencePostBIdeal.nD Cert.ReferencePostBIdeal.τ).loc Cert.ReferencePostBIdeal.main_v51) = v2 c
          ∧ r.2.mem ((c.tc : Thread Cert.ReferencePostBIdeal.nD Cert.ReferencePostBIdeal.τ).loc Cert.ReferencePostBIdeal.main_v52) = v3 c
          ∧ r.2.mem ((c.tc : Thread Cert.ReferencePostBIdeal.nD Cert.ReferencePostBIdeal.τ).loc Cert.ReferencePostBIdeal.main_v53) = v4 c
          ∧ r.2.mem ((c.tc : Thread Cert.ReferencePostBIdeal.nD Cert.ReferencePostBIdeal.τ).loc Cert.ReferencePostBIdeal.main_v54) = v5 c
          ∧ r.2.mem ((c.tc : Thread Cert.ReferencePostBIdeal.nD Cert.ReferencePostBIdeal.τ).loc Cert.ReferencePostBIdeal.main_v46) = v6 c
          ∧ r.2.mem ((c.tc : Thread Cert.ReferencePostBIdeal.nD Cert.ReferencePostBIdeal.τ).loc Cert.ReferencePostBIdeal.main_v55) = v7 c
          ∧ r.2.mem ((c.tc : Thread Cert.ReferencePostBIdeal.nD Cert.ReferencePostBIdeal.τ).loc Cert.ReferencePostBIdeal.main_v42) = v8 c
          ∧ r.2.mem ((c.tc : Thread Cert.ReferencePostBIdeal.nD Cert.ReferencePostBIdeal.τ).loc Cert.ReferencePostBIdeal.main_arg0) = m' ((c.tc : Thread Cert.ReferencePostBIdeal.nD Cert.ReferencePostBIdeal.τ).loc Cert.ReferencePostBIdeal.main_arg0)
          ∧ r.2.mem ((c.tc : Thread Cert.ReferencePostBIdeal.nD Cert.ReferencePostBIdeal.τ).loc Cert.ReferencePostBIdeal.main_arg1) = m' ((c.tc : Thread Cert.ReferencePostBIdeal.nD Cert.ReferencePostBIdeal.τ).loc Cert.ReferencePostBIdeal.main_arg1)
          ∧ r.2.mem ((c.tc : Thread Cert.ReferencePostBIdeal.nD Cert.ReferencePostBIdeal.τ).loc Cert.ReferencePostBIdeal.main_arg2) = m' ((c.tc : Thread Cert.ReferencePostBIdeal.nD Cert.ReferencePostBIdeal.τ).loc Cert.ReferencePostBIdeal.main_arg2))

def preserves_KernelPostP_KernelPostPIdeal : Prop :=
  IdealRules.named_const.Statement Cert.KernelPostPIdeal.κ "scale" .f32 0x3E0293EE#32 (((Real.sqrt 128)⁻¹ * (Real.log 2)⁻¹ : ℝ) : EReal)

def algebraic_KernelPostPIdeal_ReferencePostPIdeal [hKernelPostPIdeal : Cert.KernelPostPIdeal.Facts] [hReferencePostPIdeal : Cert.ReferencePostPIdeal.Facts] : Prop :=
  ∀ (m : (ℓ : Loc Cert.KernelPostPIdeal.nD Cert.KernelPostPIdeal.τ Cert.KernelPostPIdeal.sig) → Buf (Elt Ideal) ℓ) (g : Dev Cert.KernelPostPIdeal.nD → PrngReg)
    (m' : (ℓ : Loc Cert.ReferencePostPIdeal.nD Cert.ReferencePostPIdeal.τ Cert.ReferencePostPIdeal.sig) → Buf (Elt Ideal) ℓ) (g' : Dev Cert.ReferencePostPIdeal.nD → PrngReg), Pre_KernelPostPIdeal m →
    (∀ c : Dev Cert.KernelPostPIdeal.nD,
      m' ((c.tc : Thread Cert.ReferencePostPIdeal.nD Cert.ReferencePostPIdeal.τ).loc Cert.ReferencePostPIdeal.main_arg0) = m ((c.tc : Thread Cert.KernelPostPIdeal.nD Cert.KernelPostPIdeal.τ).loc Cert.KernelPostPIdeal.main_arg0)
      ∧ m' ((c.tc : Thread Cert.ReferencePostPIdeal.nD Cert.ReferencePostPIdeal.τ).loc Cert.ReferencePostPIdeal.main_arg1) = m ((c.tc : Thread Cert.KernelPostPIdeal.nD Cert.KernelPostPIdeal.τ).loc Cert.KernelPostPIdeal.main_arg1)
      ∧ m' ((c.tc : Thread Cert.ReferencePostPIdeal.nD Cert.ReferencePostPIdeal.τ).loc Cert.ReferencePostPIdeal.main_arg2) = m ((c.tc : Thread Cert.KernelPostPIdeal.nD Cert.KernelPostPIdeal.τ).loc Cert.KernelPostPIdeal.main_arg2)) →
    ∃ (v0 : (c : Dev Cert.KernelPostPIdeal.nD) → Buf (Elt Ideal) ((c.tc : Thread Cert.KernelPostPIdeal.nD Cert.KernelPostPIdeal.τ).loc Cert.KernelPostPIdeal.main_v2_0)) (v1 : (c : Dev Cert.KernelPostPIdeal.nD) → Buf (Elt Ideal) ((c.tc : Thread Cert.KernelPostPIdeal.nD Cert.KernelPostPIdeal.τ).loc Cert.KernelPostPIdeal.main_v2_2)) (v2 : (c : Dev Cert.KernelPostPIdeal.nD) → Buf (Elt Ideal) ((c.tc : Thread Cert.KernelPostPIdeal.nD Cert.KernelPostPIdeal.τ).loc Cert.KernelPostPIdeal.main_v2_3)),
      θ_run (Cert.KernelPostPIdeal.defs (F := Ideal)) (onTc (τ := Cert.KernelPostPIdeal.τ) (Cert.KernelPostPIdeal.main (F := Ideal))) ⟨m, fun _ => 0, g⟩ (fun r => ∀ c : Dev Cert.KernelPostPIdeal.nD,
          r.2.mem ((c.tc : Thread Cert.KernelPostPIdeal.nD Cert.KernelPostPIdeal.τ).loc Cert.KernelPostPIdeal.main_v2_0) = v0 c
          ∧ r.2.mem ((c.tc : Thread Cert.KernelPostPIdeal.nD Cert.KernelPostPIdeal.τ).loc Cert.KernelPostPIdeal.main_v2_2) = v1 c
          ∧ r.2.mem ((c.tc : Thread Cert.KernelPostPIdeal.nD Cert.KernelPostPIdeal.τ).loc Cert.KernelPostPIdeal.main_v2_3) = v2 c
          ∧ r.2.mem ((c.tc : Thread Cert.KernelPostPIdeal.nD Cert.KernelPostPIdeal.τ).loc Cert.KernelPostPIdeal.main_arg0) = m ((c.tc : Thread Cert.KernelPostPIdeal.nD Cert.KernelPostPIdeal.τ).loc Cert.KernelPostPIdeal.main_arg0)
          ∧ r.2.mem ((c.tc : Thread Cert.KernelPostPIdeal.nD Cert.KernelPostPIdeal.τ).loc Cert.KernelPostPIdeal.main_arg1) = m ((c.tc : Thread Cert.KernelPostPIdeal.nD Cert.KernelPostPIdeal.τ).loc Cert.KernelPostPIdeal.main_arg1)
          ∧ r.2.mem ((c.tc : Thread Cert.KernelPostPIdeal.nD Cert.KernelPostPIdeal.τ).loc Cert.KernelPostPIdeal.main_arg2) = m ((c.tc : Thread Cert.KernelPostPIdeal.nD Cert.KernelPostPIdeal.τ).loc Cert.KernelPostPIdeal.main_arg2))
      ∧ θ_run (Cert.ReferencePostPIdeal.defs (F := Ideal)) (onTc (τ := Cert.ReferencePostPIdeal.τ) (Cert.ReferencePostPIdeal.main (F := Ideal))) ⟨m', fun _ => 0, g'⟩ (fun r => ∀ c : Dev Cert.ReferencePostPIdeal.nD,
          r.2.mem ((c.tc : Thread Cert.ReferencePostPIdeal.nD Cert.ReferencePostPIdeal.τ).loc Cert.ReferencePostPIdeal.main_v39) = v0 c
          ∧ r.2.mem ((c.tc : Thread Cert.ReferencePostPIdeal.nD Cert.ReferencePostPIdeal.τ).loc Cert.ReferencePostPIdeal.main_v41) = v1 c
          ∧ r.2.mem ((c.tc : Thread Cert.ReferencePostPIdeal.nD Cert.ReferencePostPIdeal.τ).loc Cert.ReferencePostPIdeal.main_v42) = v2 c
          ∧ r.2.mem ((c.tc : Thread Cert.ReferencePostPIdeal.nD Cert.ReferencePostPIdeal.τ).loc Cert.ReferencePostPIdeal.main_arg0) = m' ((c.tc : Thread Cert.ReferencePostPIdeal.nD Cert.ReferencePostPIdeal.τ).loc Cert.ReferencePostPIdeal.main_arg0)
          ∧ r.2.mem ((c.tc : Thread Cert.ReferencePostPIdeal.nD Cert.ReferencePostPIdeal.τ).loc Cert.ReferencePostPIdeal.main_arg1) = m' ((c.tc : Thread Cert.ReferencePostPIdeal.nD Cert.ReferencePostPIdeal.τ).loc Cert.ReferencePostPIdeal.main_arg1)
          ∧ r.2.mem ((c.tc : Thread Cert.ReferencePostPIdeal.nD Cert.ReferencePostPIdeal.τ).loc Cert.ReferencePostPIdeal.main_arg2) = m' ((c.tc : Thread Cert.ReferencePostPIdeal.nD Cert.ReferencePostPIdeal.τ).loc Cert.ReferencePostPIdeal.main_arg2))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelInB : Cert.KernelInB.Facts) (hKernelInBIdeal : Cert.KernelInBIdeal.Facts) (hReferenceInBIdeal : Cert.ReferenceInBIdeal.Facts) (hKernelNorm : Cert.KernelNorm.Facts) (hKernelNormIdeal : Cert.KernelNormIdeal.Facts) (hReferenceNormIdeal : Cert.ReferenceNormIdeal.Facts) (hKernelBias : Cert.KernelBias.Facts) (hKernelBiasIdeal : Cert.KernelBiasIdeal.Facts) (hReferenceBiasIdeal : Cert.ReferenceBiasIdeal.Facts) (hKernelPost : Cert.KernelPost.Facts) (hKernelPostIdeal : Cert.KernelPostIdeal.Facts) (hReferencePostIdeal : Cert.ReferencePostIdeal.Facts) (hKernelPostB : Cert.KernelPostB.Facts) (hKernelPostBIdeal : Cert.KernelPostBIdeal.Facts) (hReferencePostBIdeal : Cert.ReferencePostBIdeal.Facts) (hKernelPostP : Cert.KernelPostP.Facts) (hKernelPostPIdeal : Cert.KernelPostPIdeal.Facts) (hReferencePostPIdeal : Cert.ReferencePostPIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelInB (hKernelInB := hKernelInB)
    ∧ quiescent_KernelInBIdeal (hKernelInBIdeal := hKernelInBIdeal)
    ∧ quiescent_ReferenceInBIdeal (hReferenceInBIdeal := hReferenceInBIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelBias (hKernelBias := hKernelBias)
    ∧ quiescent_KernelBiasIdeal (hKernelBiasIdeal := hKernelBiasIdeal)
    ∧ quiescent_ReferenceBiasIdeal (hReferenceBiasIdeal := hReferenceBiasIdeal)
    ∧ quiescent_KernelPost (hKernelPost := hKernelPost)
    ∧ quiescent_KernelPostIdeal (hKernelPostIdeal := hKernelPostIdeal)
    ∧ quiescent_ReferencePostIdeal (hReferencePostIdeal := hReferencePostIdeal)
    ∧ quiescent_KernelPostB (hKernelPostB := hKernelPostB)
    ∧ quiescent_KernelPostBIdeal (hKernelPostBIdeal := hKernelPostBIdeal)
    ∧ quiescent_ReferencePostBIdeal (hReferencePostBIdeal := hReferencePostBIdeal)
    ∧ quiescent_KernelPostP (hKernelPostP := hKernelPostP)
    ∧ quiescent_KernelPostPIdeal (hKernelPostPIdeal := hKernelPostPIdeal)
    ∧ quiescent_ReferencePostPIdeal (hReferencePostPIdeal := hReferencePostPIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelInB_KernelInBIdeal
    ∧ algebraic_KernelInBIdeal_ReferenceInBIdeal (hKernelInBIdeal := hKernelInBIdeal) (hReferenceInBIdeal := hReferenceInBIdeal)
    ∧ preserves_KernelNorm_KernelNormIdeal
    ∧ algebraic_KernelNormIdeal_ReferenceNormIdeal (hKernelNormIdeal := hKernelNormIdeal) (hReferenceNormIdeal := hReferenceNormIdeal)
    ∧ preserves_KernelBias_KernelBiasIdeal
    ∧ algebraic_KernelBiasIdeal_ReferenceBiasIdeal (hKernelBiasIdeal := hKernelBiasIdeal) (hReferenceBiasIdeal := hReferenceBiasIdeal)
    ∧ preserves_KernelPost_KernelPostIdeal
    ∧ algebraic_KernelPostIdeal_ReferencePostIdeal (hKernelPostIdeal := hKernelPostIdeal) (hReferencePostIdeal := hReferencePostIdeal)
    ∧ preserves_KernelPostB_KernelPostBIdeal
    ∧ algebraic_KernelPostBIdeal_ReferencePostBIdeal (hKernelPostBIdeal := hKernelPostBIdeal) (hReferencePostBIdeal := hReferencePostBIdeal)
    ∧ preserves_KernelPostP_KernelPostPIdeal
    ∧ algebraic_KernelPostPIdeal_ReferencePostPIdeal (hKernelPostPIdeal := hKernelPostPIdeal) (hReferencePostPIdeal := hReferencePostPIdeal)
-- ==== Pre_finite.lean ====
abbrev S8448x2048 : Shape := ⟨2, ![8448, 2048]⟩
abbrev S32x16 : Shape := ⟨2, ![32, 16]⟩
abbrev S4x128 : Shape := ⟨2, ![4, 128]⟩
abbrev S256 : Shape := ⟨1, ![256]⟩
abbrev S_ : Shape := ⟨0, ![]⟩

class Facts : Prop where
  bcast_S_S8448x2048 : S_.BroadcastsInDim S8448x2048 (![] : Fin 0 → Fin S8448x2048.rank)
  reducesTo_S8448x2048_S_d0_1 : S8448x2048.ReducesTo [0, 1] S_
  h_S_ : 0 < S_.numel
  bcast_S_S32x16 : S_.BroadcastsInDim S32x16 (![] : Fin 0 → Fin S32x16.rank)
  reducesTo_S32x16_S_d0_1 : S32x16.ReducesTo [0, 1] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg4 : FVec F S4x128 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S4x128 .f32 := Host.absf main_arg4
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  main_v23

def fn {F : FTy → Type} [FloatOps F] (main_arg0 : FVec F S8448x2048 .f32) (main_arg1 : FVec F S8448x2048 .f32) (main_arg2 : FVec F S8448x2048 .f32) (main_arg3 : FVec F S32x16 .f32) (main_arg4 : FVec F S4x128 .f32) (main_arg5 : FVec F S256 .f32) : IVec S_ 1 :=
  let main_v0 : FVec F S8448x2048 .f32 := Host.absf main_arg0
  let main_cst : FVec F S_ .f32 := constant S_ .f32 0x7F800000#32
  let main_v1 : FVec F S8448x2048 .f32 := broadcastInDim S8448x2048 ![] bcast_S_S8448x2048 main_cst
  let main_v2 : IVec S8448x2048 1 := cmpf .olt main_v0 main_v1
  let main_c : IVec S_ 1 := constantI S_ 1 1#1
  let main_v3 : IVec S_ 1 := (fun x v => Host.reduce IntOp.andi x v reducesTo_S8448x2048_S_d0_1 h_S_) main_v2 main_c
  let main_v4 : FVec F S8448x2048 .f32 := Host.absf main_arg1
  let main_cst_0 : FVec F S_ .f32 := constant S_ .f32 0x7F800000#32
  let main_v5 : FVec F S8448x2048 .f32 := broadcastInDim S8448x2048 ![] bcast_S_S8448x2048 main_cst_0
  let main_v6 : IVec S8448x2048 1 := cmpf .olt main_v4 main_v5
  let main_c_1 : IVec S_ 1 := constantI S_ 1 1#1
  let main_v7 : IVec S_ 1 := (fun x v => Host.reduce IntOp.andi x v reducesTo_S8448x2048_S_d0_1 h_S_) main_v6 main_c_1
  let main_v8 : IVec S_ 1 := andi main_v3 main_v7
  let main_v9 : FVec F S8448x2048 .f32 := Host.absf main_arg2
  let main_cst_2 : FVec F S_ .f32 := constant S_ .f32 0x7F800000#32
  let main_v10 : FVec F S8448x2048 .f32 := broadcastInDim S8448x2048 ![] bcast_S_S8448x2048 main_cst_2
  let main_v11 : IVec S8448x2048 1 := cmpf .olt main_v9 main_v10
  let main_c_3 : IVec S_ 1 := constantI S_ 1 1#1
  let main_v12 : IVec S_ 1 := (fun x v => Host.reduce IntOp.andi x v reducesTo_S8448x2048_S_d0_1 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_v13 main_v16
-- ==== Kernel.lean ====
abbrev S8448x2048 : Shape := ⟨2, ![8448, 2048]⟩
abbrev S32x16 : Shape := ⟨2, ![32, 16]⟩
abbrev S4x128 : Shape := ⟨2, ![4, 128]⟩
abbrev S256 : Shape := ⟨1, ![256]⟩
abbrev S768x384 : Shape := ⟨2, ![768, 384]⟩
abbrev S_ : Shape := ⟨0, ![]⟩
abbrev S768x384x1 : Shape := ⟨3, ![768, 384, 1]⟩
abbrev S768x384x16 : Shape := ⟨3, ![768, 384, 16]⟩
abbrev S16x768x384 : Shape := ⟨3, ![16, 768, 384]⟩
abbrev S1x16 : Shape := ⟨2, ![1, 16]⟩
abbrev S16 : Shape := ⟨1, ![16]⟩
abbrev S16x1x1 : Shape := ⟨3, ![16, 1, 1]⟩
abbrev S1x768x384 : Shape := ⟨3, ![1, 768, 384]⟩
abbrev S1x256 : Shape := ⟨2, ![1, 256]⟩
abbrev S384x256 : Shape := ⟨2, ![384, 256]⟩
abbrev S4224x256 : Shape := ⟨2, ![4224, 256]⟩
abbrev S2x768x384 : Shape := ⟨3, ![2, 768, 384]⟩
abbrev S768x4224 : Shape := ⟨2, ![768, 4224]⟩
abbrev S768x128 : Shape := ⟨2, ![768, 128]⟩
abbrev S768x256 : Shape := ⟨2, ![768, 256]⟩
abbrev S384x128 : Shape := ⟨2, ![384, 128]⟩
abbrev S1536x128 : Shape := ⟨2, ![1536, 128]⟩
abbrev S384x1536 : Shape := ⟨2, ![384, 1536]⟩
abbrev S384x768 : Shape := ⟨2, ![384, 768]⟩
abbrev S384x384 : Shape := ⟨2, ![384, 384]⟩
abbrev S1x384x384 : Shape := ⟨3, ![1, 384, 384]⟩
abbrev S768 : Shape := ⟨1, ![768]⟩
abbrev S768x1 : Shape := ⟨2, ![768, 1]⟩
abbrev S768x1536 : Shape := ⟨2, ![768, 1536]⟩
abbrev S1536x256 : Shape := ⟨2, ![1536, 256]⟩
abbrev S768x768 : Shape := ⟨2, ![768, 768]⟩
abbrev S1x128 : Shape := ⟨2, ![1, 128]⟩
abbrev S1 : Shape := ⟨1, ![1]⟩
abbrev S1x1 : Shape := ⟨2, ![1, 1]⟩
abbrev S384 : Shape := ⟨1, ![384]⟩
abbrev S384x1 : Shape := ⟨2, ![384, 1]⟩

abbrev nBuf : Space → Nat
  | .hbm => 69
  | .vmem => 16
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S8448x2048, .f32⟩
  | .hbm, ⟨3, _⟩ => ⟨S32x16, .f32⟩
  | .hbm, ⟨4, _⟩ => ⟨S4x128, .f32⟩
  | .hbm, ⟨5, _⟩ => ⟨S256, .f32⟩
  | .hbm, ⟨6, _⟩ => ⟨S8448x2048, .bf16⟩
  | .hbm, ⟨7, _⟩ => ⟨S8448x2048, .bf16⟩
  | .hbm, ⟨8, _⟩ => ⟨S768x384, .i32⟩
  | .hbm, ⟨9, _⟩ => ⟨S768x384, .i32⟩
  | .hbm, ⟨10, _⟩ => ⟨S768x384, .i32⟩
  | .hbm, ⟨11, _⟩ => ⟨S_, .i32⟩
  | .hbm, ⟨12, _⟩ => ⟨S768x384, .i32⟩
  | .hbm, ⟨13, _⟩ => ⟨S768x384, .i32⟩
  | .hbm, ⟨14, _⟩ => ⟨S_, .i32⟩
  | .hbm, ⟨15, _⟩ => ⟨S768x384, .i32⟩
  | .hbm, ⟨16, _⟩ => ⟨S768x384, .i32⟩
  | .hbm, ⟨17, _⟩ => ⟨S768x384, .f32⟩
  | .hbm, ⟨18, _⟩ => ⟨S_, .f32⟩
  | .hbm, ⟨19, _⟩ => ⟨S768x384, .f32⟩
  | .hbm, ⟨20, _⟩ => ⟨S768x384, .f32⟩
  | .hbm, ⟨21, _⟩ => ⟨S768x384, .f32⟩
  | .hbm, ⟨22, _⟩ => ⟨S_, .f32⟩
  | .hbm, ⟨23, _⟩ => ⟨S768x384, .f32⟩
  | .hbm, ⟨24, _⟩ => ⟨S768x384, .f32⟩
  | .hbm, ⟨25, _⟩ => ⟨S_, .f32⟩
  | .hbm, ⟨26, _⟩ => ⟨S768x384, .f32⟩
  | .hbm, ⟨27, _⟩ => ⟨S768x384, .f32⟩
  | .hbm, ⟨28, _⟩ => ⟨S768x384, .i32⟩
  | .hbm, ⟨29, _⟩ => ⟨S_, .i32⟩
  | .hbm, ⟨30, _⟩ => ⟨S768x384, .i32⟩
  | .hbm, ⟨31, _⟩ => ⟨S768x384, .i32⟩
  | .hbm, ⟨32, _⟩ => ⟨S_, .i32⟩
  | .hbm, ⟨33, _⟩ => ⟨S768x384, .i32⟩
  | .hbm, ⟨34, _⟩ => ⟨S768x384, .i1⟩
  | .hbm, ⟨35, _⟩ => ⟨S_, .i32⟩
  | .hbm, ⟨36, _⟩ => ⟨S768x384, .i32⟩
  | .hbm, ⟨37, _⟩ => ⟨S768x384, .i32⟩
  | .hbm, ⟨38, _⟩ => ⟨S768x384, .i32⟩
  | .hbm, ⟨39, _⟩ => ⟨S_, .i32⟩
  | .hbm, ⟨40, _⟩ => ⟨S768x384, .i32⟩
  | .hbm, ⟨41, _⟩ => ⟨S768x384, .i1⟩
  | .hbm, ⟨42, _⟩ => ⟨S_, .i32⟩
  | .hbm, ⟨43, _⟩ => ⟨S768x384, .i32⟩
  | .hbm, ⟨44, _⟩ => ⟨S768x384, .i32⟩
  | .hbm, ⟨45, _⟩ => ⟨S768x384, .i32⟩
  | .hbm, ⟨46, _⟩ => ⟨S768x384x1, .i32⟩
  | .hbm, ⟨47, _⟩ => ⟨S768x384x16, .f32⟩
  | .hbm, ⟨48, _⟩ => ⟨S16x768x384, .f32⟩
  | .hbm, ⟨49, _⟩ => ⟨S1x16, .f32⟩
  | .hbm, ⟨50, _⟩ => ⟨S16, .f32⟩
  | .hbm, ⟨51, _⟩ => ⟨S16x1x1, .f32⟩
  | .hbm, ⟨52, _⟩ => ⟨S1x768x384, .i32⟩
  | .hbm, ⟨53, _⟩ => ⟨S_, .i32⟩
  | .hbm, ⟨54, _⟩ => ⟨S1x768x384, .i32⟩
  | .hbm, ⟨55, _⟩ => ⟨S1x768x384, .i1⟩
  | .hbm, ⟨56, _⟩ => ⟨S16x768x384, .f32⟩
  | .hbm, ⟨57, _⟩ => ⟨S16x768x384, .f32⟩
  | .hbm, ⟨58, _⟩ => ⟨S_, .f32⟩
  | .hbm, ⟨59, _⟩ => ⟨S_, .f32⟩
  | .hbm, ⟨60, _⟩ => ⟨S16x768x384, .f32⟩
  | .hbm, ⟨61, _⟩ => ⟨S16x768x384, .f32⟩
  | .hbm, ⟨62, _⟩ => ⟨S_, .f32⟩
  | .hbm, ⟨63, _⟩ => ⟨S_, .f32⟩
  | .hbm, ⟨64, _⟩ => ⟨S16x768x384, .i1⟩
  | .hbm, ⟨65, _⟩ => ⟨S16x768x384, .f32⟩
  | .hbm, ⟨66, _⟩ => ⟨S16x768x384, .f32⟩
  | .hbm, ⟨67, _⟩ => ⟨S1x256, .f32⟩
  | .hbm, ⟨68, _⟩ => ⟨S8448x2048, .bf16⟩
  | .local _ .vmem, ⟨0, _⟩ => ⟨S384x256, .f32⟩
  | .local _ .vmem, ⟨1, _⟩ => ⟨S384x256, .f32⟩
  | .local _ .vmem, ⟨2, _⟩ => ⟨S4224x256, .bf16⟩
  | .local _ .vmem, ⟨3, _⟩ => ⟨S4224x256, .bf16⟩
  | .local _ .vmem, ⟨4, _⟩ => ⟨S4224x256, .bf16⟩
  | .local _ .vmem, ⟨5, _⟩ => ⟨S4224x256, .bf16⟩
  | .local _ .vmem, ⟨6, _⟩ => ⟨S2x768x384, .f32⟩
  | .local _ .vmem, ⟨7, _⟩ => ⟨S2x768x384, .f32⟩
  | .local _ .vmem, ⟨8, _⟩ => ⟨S4x128, .f32⟩
  | .local _ .vmem, ⟨9, _⟩ => ⟨S1x256, .f32⟩
  | .local _ .vmem, ⟨10, _⟩ => ⟨S384x256, .bf16⟩
  | .local _ .vmem, ⟨11, _⟩ => ⟨S384x256, .bf16⟩
  | .local _ .vmem, ⟨12, _⟩ => ⟨S768x4224, .f32⟩
  | .local _ .vmem, ⟨13, _⟩ => ⟨S768x128, .f32⟩
  | .local _ .vmem, ⟨14, _⟩ => ⟨S768x128, .f32⟩
  | .local _ .vmem, ⟨15, _⟩ => ⟨S768x256, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 8, 11], ![false, false, false]⟩

@[reducible] def k0_t1_loop (i : grid0.Coords) : Scf.Loop 32 :=
  let c0_i32_13 : BitVec 32 := 0#32
  let arg2 : BitVec 32 := BitVec.ofNat 32 (i 2).val
  let c1_i32 : BitVec 32 := 1#32
  let v12 : BitVec 32 := Scalar.subi arg2 c1_i32
  let c0_i32 : BitVec 32 := 0#32
  let v13 : BitVec 32 := Scalar.maxsi v12 c0_i32
  let c0_i32_6 : BitVec 32 := 0#32
  let v15 : BitVec 1 := Scalar.cmpi .sgt v13 c0_i32_6
  let v16 : BitVec 32 := Scalar.extui v15
  let c0_i32_7 : BitVec 32 := 0#32
  let v17 : BitVec 1 := Scalar.cmpi .slt v13 c0_i32_7
  let v18 : BitVec 32 := Scalar.extui v17
  let v19 : BitVec 32 := Scalar.subi v16 v18
  let c4_i32 : BitVec 32 := 4#32
  let c0_i32_8 : BitVec 32 := 0#32
  let v20 : BitVec 1 := Scalar.cmpi .sgt c4_i32 c0_i32_8
  let v21 : BitVec 32 := Scalar.extui v20
  let c0_i32_9 : BitVec 32 := 0#32
  let v22 : BitVec 1 := Scalar.cmpi .slt c4_i32 c0_i32_9
  let v23 : BitVec 32 := Scalar.extui v22
  let v24 : BitVec 32 := Scalar.subi v21 v23
  let v25 : BitVec 1 := Scalar.cmpi .ne v19 v24
  let v26 : BitVec 32 := Scalar.remsi v13 c4_i32
  let c0_i32_10 : BitVec 32 := 0#32
  let v27 : BitVec 1 := Scalar.cmpi .ne v26 c0_i32_10
  let v28 : BitVec 1 := Scalar.andi v25 v27
  let v14 : BitVec 32 := Scalar.divsi v13 c4_i32
  let c1_i32_11 : BitVec 32 := 1#32
  let v29 : BitVec 32 := Scalar.subi v14 c1_i32_11
  let v30 : BitVec 32 := Scalar.select v28 v29 v14
  let v31 : BitVec 32 := Scalar.subi v30 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_15 : BitVec 32 := 1#32
  ⟨c0_i32_13, v35, c1_i32_15⟩
def k0_mult1 (i : grid0.Coords) (k0_t1 : Fin (k0_t1_loop i).trips) : BitVec 32 :=
  let c4_i32_130 : BitVec 32 := 4#32
  let c0_i32_13 : BitVec 32 := 0#32
  let c1_i32_15 : BitVec 32 := 1#32
  let arg14 : BitVec 32 := Scf.iv c0_i32_13 c1_i32_15 k0_t1
  let v263 : BitVec 32 := Scalar.muli c4_i32_130 arg14
  let c384_i32_131 : BitVec 32 := 384#32
  let v264 : BitVec 32 := Scalar.muli v263 c384_i32_131
  v264
def k0_off1 (i : grid0.Coords) (k0_t1 : Fin (k0_t1_loop i).trips) : Fin 2 → Nat :=
  let c4_i32_130 : BitVec 32 := 4#32
  let c0_i32_13 : BitVec 32 := 0#32
  let c1_i32_15 : BitVec 32 := 1#32
  let arg14 : BitVec 32 := Scf.iv c0_i32_13 c1_i32_15 k0_t1
  let v263 : BitVec 32 := Scalar.muli c4_i32_130 arg14
  let c384_i32_131 : BitVec 32 := 384#32
  let v264 : BitVec 32 := Scalar.muli v263 c384_i32_131
  let v265 : BitVec 32 := v264
  let v266 : Index := Scalar.indexCast v265
  let c0_132 : Index := 0#32
  ![v266.toNat, 0]
def k0_off2 (i : grid0.Coords) (k0_t1 : Fin (k0_t1_loop i).trips) : Fin 2 → Nat :=
  let c0_134 : Index := 0#32
  let c4_i32_130 : BitVec 32 := 4#32
  let c0_i32_13 : BitVec 32 := 0#32
  let c1_i32_15 : BitVec 32 := 1#32
  let arg14 : BitVec 32 := Scf.iv c0_i32_13 c1_i32_15 k0_t1
  let v263 : BitVec 32 := Scalar.muli c4_i32_130 arg14
  let c384_i32_131 : BitVec 32 := 384#32
  let v264 : BitVec 32 := Scalar.muli v263 c384_i32_131
  let v265 : BitVec 32 := v264
  let v270 : Index := Scalar.indexCast v265
  ![0, v270.toNat]
def k0_off3 (i : grid0.Coords) (k0_t1 : Fin (k0_t1_loop i).trips) : Fin 2 → Nat :=
  let c4_i32_130 : BitVec 32 := 4#32
  let c0_i32_13 : BitVec 32 := 0#32
  let c1_i32_15 : BitVec 32 := 1#32
  let arg14 : BitVec 32 := Scf.iv c0_i32_13 c1_i32_15 k0_t1
  let v263 : BitVec 32 := Scalar.muli c4_i32_130 arg14
  let c384_i32_131 : BitVec 32 := 384#32
  let v264 : BitVec 32 := Scalar.muli v263 c384_i32_131
  let v265 : BitVec 32 := v264
  let v302 : Index := Scalar.indexCast v265
  let c128_139 : Index := 128#32
  ![v302.toNat, 128]
def k0_off4 (i : grid0.Coords) (k0_t1 : Fin (k0_t1_loop i).trips) : Fin 2 → Nat :=
  let c384_141 : Index := 384#32
  let c4_i32_130 : BitVec 32 := 4#32
  let c0_i32_13 : BitVec 32 := 0#32
  let c1_i32_15 : BitVec 32 := 1#32
  let arg14 : BitVec 32 := Scf.iv c0_i32_13 c1_i32_15 k0_t1
  let v263 : BitVec 32 := Scalar.muli c4_i32_130 arg14
  let c384_i32_131 : BitVec 32 := 384#32
  let v264 : BitVec 32 := Scalar.muli v263 c384_i32_131
  let v265 : BitVec 32 := v264
  let v306 : Index := Scalar.indexCast v265
  ![384, v306.toNat]
@[reducible] def k0_t2_loop (i : grid0.Coords) : Scf.Loop 32 :=
  let c0_i32_13 : BitVec 32 := 0#32
  let arg2 : BitVec 32 := BitVec.ofNat 32 (i 2).val
  let c1_i32 : BitVec 32 := 1#32
  let v12 : BitVec 32 := Scalar.subi arg2 c1_i32
  let c0_i32 : BitVec 32 := 0#32
  let v13 : BitVec 32 := Scalar.maxsi v12 c0_i32
  let c0_i32_6 : BitVec 32 := 0#32
  let v15 : BitVec 1 := Scalar.cmpi .sgt v13 c0_i32_6
  let v16 : BitVec 32 := Scalar.extui v15
  let c0_i32_7 : BitVec 32 := 0#32
  let v17 : BitVec 1 := Scalar.cmpi .slt v13 c0_i32_7
  let v18 : BitVec 32 := Scalar.extui v17
  let v19 : BitVec 32 := Scalar.subi v16 v18
  let c4_i32 : BitVec 32 := 4#32
  let c0_i32_8 : BitVec 32 := 0#32
  let v20 : BitVec 1 := Scalar.cmpi .sgt c4_i32 c0_i32_8
  let v21 : BitVec 32 := Scalar.extui v20
  let c0_i32_9 : BitVec 32 := 0#32
  let v22 : BitVec 1 := Scalar.cmpi .slt c4_i32 c0_i32_9
  let v23 : BitVec 32 := Scalar.extui v22
  let v24 : BitVec 32 := Scalar.subi v21 v23
  let v25 : BitVec 1 := Scalar.cmpi .ne v19 v24
  let v26 : BitVec 32 := Scalar.remsi v13 c4_i32
  let c0_i32_10 : BitVec 32 := 0#32
  let v27 : BitVec 1 := Scalar.cmpi .ne v26 c0_i32_10
  let v28 : BitVec 1 := Scalar.andi v25 v27
  let v14 : BitVec 32 := Scalar.divsi v13 c4_i32
  let c1_i32_11 : BitVec 32 := 1#32
  let v29 : BitVec 32 := Scalar.subi v14 c1_i32_11
  let v30 : BitVec 32 := Scalar.select v28 v29 v14
  let v31 : BitVec 32 := Scalar.subi v30 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let v32 : BitVec 32 := Scalar.addi c0_i32_13 v31
  let c1_i32_16 : BitVec 32 := 1#32
  ⟨v35, v32, c1_i32_16⟩
def k0_mult2 (i : grid0.Coords) (k0_t2 : Fin (k0_t2_loop i).trips) : BitVec 32 :=
  let c4_i32_130 : BitVec 32 := 4#32
  let c0_i32_13 : BitVec 32 := 0#32
  let arg2 : BitVec 32 := BitVec.ofNat 32 (i 2).val
  let c1_i32 : BitVec 32 := 1#32
  let v12 : BitVec 32 := Scalar.subi arg2 c1_i32
  let c0_i32 : BitVec 32 := 0#32
  let v13 : BitVec 32 := Scalar.maxsi v12 c0_i32
  let c0_i32_6 : BitVec 32 := 0#32
  let v15 : BitVec 1 := Scalar.cmpi .sgt v13 c0_i32_6
  let v16 : BitVec 32 := Scalar.extui v15
  let c0_i32_7 : BitVec 32 := 0#32
  let v17 : BitVec 1 := Scalar.cmpi .slt v13 c0_i32_7
  let v18 : BitVec 32 := Scalar.extui v17
  let v19 : BitVec 32 := Scalar.subi v16 v18
  let c4_i32 : BitVec 32 := 4#32
  let c0_i32_8 : BitVec 32 := 0#32
  let v20 : BitVec 1 := Scalar.cmpi .sgt c4_i32 c0_i32_8
  let v21 : BitVec 32 := Scalar.extui v20
  let c0_i32_9 : BitVec 32 := 0#32
  let v22 : BitVec 1 := Scalar.cmpi .slt c4_i32 c0_i32_9
  let v23 : BitVec 32 := Scalar.extui v22
  let v24 : BitVec 32 := Scalar.subi v21 v23
  let v25 : BitVec 1 := Scalar.cmpi .ne v19 v24
  let v26 : BitVec 32 := Scalar.remsi v13 c4_i32
  let c0_i32_10 : BitVec 32 := 0#32
  let v27 : BitVec 1 := Scalar.cmpi .ne v26 c0_i32_10
  let v28 : BitVec 1 := Scalar.andi v25 v27
  let v14 : BitVec 32 := Scalar.divsi v13 c4_i32
  let c1_i32_11 : BitVec 32 := 1#32
  let v29 : BitVec 32 := Scalar.subi v14 c1_i32_11
  let v30 : BitVec 32 := Scalar.select v28 v29 v14
  let v31 : BitVec 32 := Scalar.subi v30 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg14 : BitVec 32 := Scf.iv v35 c1_i32_16 k0_t2
  let v263 : BitVec 32 := Scalar.muli c4_i32_130 arg14
  let c384_i32_131 : BitVec 32 := 384#32
  let v264 : BitVec 32 := Scalar.muli v263 c384_i32_131
  v264
def k0_off5 (i : grid0.Coords) (k0_t2 : Fin (k0_t2_loop i).trips) : Fin 2 → Nat :=
  let c4_i32_130 : BitVec 32 := 4#32
  let c0_i32_13 : BitVec 32 := 0#32
  let arg2 : BitVec 32 := BitVec.ofNat 32 (i 2).val
  let c1_i32 : BitVec 32 := 1#32
  let v12 : BitVec 32 := Scalar.subi arg2 c1_i32
  let c0_i32 : BitVec 32 := 0#32
  let v13 : BitVec 32 := Scalar.maxsi v12 c0_i32
  let c0_i32_6 : BitVec 32 := 0#32
  let v15 : BitVec 1 := Scalar.cmpi .sgt v13 c0_i32_6
  let v16 : BitVec 32 := Scalar.extui v15
  let c0_i32_7 : BitVec 32 := 0#32
  let v17 : BitVec 1 := Scalar.cmpi .slt v13 c0_i32_7
  let v18 : BitVec 32 := Scalar.extui v17
  let v19 : BitVec 32 := Scalar.subi v16 v18
  let c4_i32 : BitVec 32 := 4#32
  let c0_i32_8 : BitVec 32 := 0#32
  let v20 : BitVec 1 := Scalar.cmpi .sgt c4_i32 c0_i32_8
  let v21 : BitVec 32 := Scalar.extui v20
  let c0_i32_9 : BitVec 32 := 0#32
  let v22 : BitVec 1 := Scalar.cmpi .slt c4_i32 c0_i32_9
  let v23 : BitVec 32 := Scalar.extui v22
  let v24 : BitVec 32 := Scalar.subi v21 v23
  let v25 : BitVec 1 := Scalar.cmpi .ne v19 v24
  let v26 : BitVec 32 := Scalar.remsi v13 c4_i32
  let c0_i32_10 : BitVec 32 := 0#32
  let v27 : BitVec 1 := Scalar.cmpi .ne v26 c0_i32_10
  let v28 : BitVec 1 := Scalar.andi v25 v27
  let v14 : BitVec 32 := Scalar.divsi v13 c4_i32
  let c1_i32_11 : BitVec 32 := 1#32
  let v29 : BitVec 32 := Scalar.subi v14 c1_i32_11
  let v30 : BitVec 32 := Scalar.select v28 v29 v14
  let v31 : BitVec 32 := Scalar.subi v30 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg14 : BitVec 32 := Scf.iv v35 c1_i32_16 k0_t2
  let v263 : BitVec 32 := Scalar.muli c4_i32_130 arg14
  let c384_i32_131 : BitVec 32 := 384#32
  let v264 : BitVec 32 := Scalar.muli v263 c384_i32_131
  let v265 : BitVec 32 := v264
  let v266 : Index := Scalar.indexCast v265
  let c0_132 : Index := 0#32
  ![v266.toNat, 0]
def k0_off6 (i : grid0.Coords) (k0_t2 : Fin (k0_t2_loop i).trips) : Fin 2 → Nat :=
  let c0_134 : Index := 0#32
  let c4_i32_130 : BitVec 32 := 4#32
  let c0_i32_13 : BitVec 32 := 0#32
  let arg2 : BitVec 32 := BitVec.ofNat 32 (i 2).val
  let c1_i32 : BitVec 32 := 1#32
  let v12 : BitVec 32 := Scalar.subi arg2 c1_i32
  let c0_i32 : BitVec 32 := 0#32
  let v13 : BitVec 32 := Scalar.maxsi v12 c0_i32
  let c0_i32_6 : BitVec 32 := 0#32
  let v15 : BitVec 1 := Scalar.cmpi .sgt v13 c0_i32_6
  let v16 : BitVec 32 := Scalar.extui v15
  let c0_i32_7 : BitVec 32 := 0#32
  let v17 : BitVec 1 := Scalar.cmpi .slt v13 c0_i32_7
  let v18 : BitVec 32 := Scalar.extui v17
  let v19 : BitVec 32 := Scalar.subi v16 v18
  let c4_i32 : BitVec 32 := 4#32
  let c0_i32_8 : BitVec 32 := 0#32
  let v20 : BitVec 1 := Scalar.cmpi .sgt c4_i32 c0_i32_8
  let v21 : BitVec 32 := Scalar.extui v20
  let c0_i32_9 : BitVec 32 := 0#32
  let v22 : BitVec 1 := Scalar.cmpi .slt c4_i32 c0_i32_9
  let v23 : BitVec 32 := Scalar.extui v22
  let v24 : BitVec 32 := Scalar.subi v21 v23
  let v25 : BitVec 1 := Scalar.cmpi .ne v19 v24
  let v26 : BitVec 32 := Scalar.remsi v13 c4_i32
  let c0_i32_10 : BitVec 32 := 0#32
  let v27 : BitVec 1 := Scalar.cmpi .ne v26 c0_i32_10
  let v28 : BitVec 1 := Scalar.andi v25 v27
  let v14 : BitVec 32 := Scalar.divsi v13 c4_i32
  let c1_i32_11 : BitVec 32 := 1#32
  let v29 : BitVec 32 := Scalar.subi v14 c1_i32_11
  let v30 : BitVec 32 := Scalar.select v28 v29 v14
  let v31 : BitVec 32 := Scalar.subi v30 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg14 : BitVec 32 := Scf.iv v35 c1_i32_16 k0_t2
  let v263 : BitVec 32 := Scalar.muli c4_i32_130 arg14
  let c384_i32_131 : BitVec 32 := 384#32
  let v264 : BitVec 32 := Scalar.muli v263 c384_i32_131
  let v265 : BitVec 32 := v264
  let v270 : Index := Scalar.indexCast v265
  ![0, v270.toNat]
def k0_off7 (i : grid0.Coords) (k0_t2 : Fin (k0_t2_loop i).trips) : Fin 2 → Nat :=
  let c4_i32_130 : BitVec 32 := 4#32
  let c0_i32_13 : BitVec 32 := 0#32
  let arg2 : BitVec 32 := BitVec.ofNat 32 (i 2).val
  let c1_i32 : BitVec 32 := 1#32
  let v12 : BitVec 32 := Scalar.subi arg2 c1_i32
  let c0_i32 : BitVec 32 := 0#32
  let v13 : BitVec 32 := Scalar.maxsi v12 c0_i32
  let c0_i32_6 : BitVec 32 := 0#32
  let v15 : BitVec 1 := Scalar.cmpi .sgt v13 c0_i32_6
  let v16 : BitVec 32 := Scalar.extui v15
  let c0_i32_7 : BitVec 32 := 0#32
  let v17 : BitVec 1 := Scalar.cmpi .slt v13 c0_i32_7
  let v18 : BitVec 32 := Scalar.extui v17
  let v19 : BitVec 32 := Scalar.subi v16 v18
  let c4_i32 : BitVec 32 := 4#32
  let c0_i32_8 : BitVec 32 := 0#32
  let v20 : BitVec 1 := Scalar.cmpi .sgt c4_i32 c0_i32_8
  let v21 : BitVec 32 := Scalar.extui v20
  let c0_i32_9 : BitVec 32 := 0#32
  let v22 : BitVec 1 := Scalar.cmpi .slt c4_i32 c0_i32_9
  let v23 : BitVec 32 := Scalar.extui v22
  let v24 : BitVec 32 := Scalar.subi v21 v23
  let v25 : BitVec 1 := Scalar.cmpi .ne v19 v24
  let v26 : BitVec 32 := Scalar.remsi v13 c4_i32
  let c0_i32_10 : BitVec 32 := 0#32
  let v27 : BitVec 1 := Scalar.cmpi .ne v26 c0_i32_10
  let v28 : BitVec 1 := Scalar.andi v25 v27
  let v14 : BitVec 32 := Scalar.divsi v13 c4_i32
  let c1_i32_11 : BitVec 32 := 1#32
  let v29 : BitVec 32 := Scalar.subi v14 c1_i32_11
  let v30 : BitVec 32 := Scalar.select v28 v29 v14
  let v31 : BitVec 32 := Scalar.subi v30 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg14 : BitVec 32 := Scf.iv v35 c1_i32_16 k0_t2
  let v263 : BitVec 32 := Scalar.muli c4_i32_130 arg14
  let c384_i32_131 : BitVec 32 := 384#32
  let v264 : BitVec 32 := Scalar.muli v263 c384_i32_131
  let v265 : BitVec 32 := v264
  let v302 : Index := Scalar.indexCast v265
  let c128_139 : Index := 128#32
  ![v302.toNat, 128]
def k0_off8 (i : grid0.Coords) (k0_t2 : Fin (k0_t2_loop i).trips) : Fin 2 → Nat :=
  let c384_141 : Index := 384#32
  let c4_i32_130 : BitVec 32 := 4#32
  let c0_i32_13 : BitVec 32 := 0#32
  let arg2 : BitVec 32 := BitVec.ofNat 32 (i 2).val
  let c1_i32 : BitVec 32 := 1#32
  let v12 : BitVec 32 := Scalar.subi arg2 c1_i32
  let c0_i32 : BitVec 32 := 0#32
  let v13 : BitVec 32 := Scalar.maxsi v12 c0_i32
  let c0_i32_6 : BitVec 32 := 0#32
  let v15 : BitVec 1 := Scalar.cmpi .sgt v13 c0_i32_6
  let v16 : BitVec 32 := Scalar.extui v15
  let c0_i32_7 : BitVec 32 := 0#32
  let v17 : BitVec 1 := Scalar.cmpi .slt v13 c0_i32_7
  let v18 : BitVec 32 := Scalar.extui v17
  let v19 : BitVec 32 := Scalar.subi v16 v18
  let c4_i32 : BitVec 32 := 4#32
  let c0_i32_8 : BitVec 32 := 0#32
  let v20 : BitVec 1 := Scalar.cmpi .sgt c4_i32 c0_i32_8
  let v21 : BitVec 32 := Scalar.extui v20
  let c0_i32_9 : BitVec 32 := 0#32
  let v22 : BitVec 1 := Scalar.cmpi .slt c4_i32 c0_i32_9
  let v23 : BitVec 32 := Scalar.extui v22
  let v24 : BitVec 32 := Scalar.subi v21 v23
  let v25 : BitVec 1 := Scalar.cmpi .ne v19 v24
  let v26 : BitVec 32 := Scalar.remsi v13 c4_i32
  let c0_i32_10 : BitVec 32 := 0#32
  let v27 : BitVec 1 := Scalar.cmpi .ne v26 c0_i32_10
  let v28 : BitVec 1 := Scalar.andi v25 v27
  let v14 : BitVec 32 := Scalar.divsi v13 c4_i32
  let c1_i32_11 : BitVec 32 := 1#32
  let v29 : BitVec 32 := Scalar.subi v14 c1_i32_11
  let v30 : BitVec 32 := Scalar.select v28 v29 v14
  let v31 : BitVec 32 := Scalar.subi v30 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg14 : BitVec 32 := Scf.iv v35 c1_i32_16 k0_t2
  let v263 : BitVec 32 := Scalar.muli c4_i32_130 arg14
  let c384_i32_131 : BitVec 32 := 384#32
  let v264 : BitVec 32 := Scalar.muli v263 c384_i32_131
  let v265 : BitVec 32 := v264
  let v306 : Index := Scalar.indexCast v265
  ![384, v306.toNat]
def k0_cond1 (i : grid0.Coords) : BitVec 1 :=
  let arg2 : BitVec 32 := BitVec.ofNat 32 (i 2).val
  let c1_i32 : BitVec 32 := 1#32
  let v12 : BitVec 32 := Scalar.subi arg2 c1_i32
  let c0_i32 : BitVec 32 := 0#32
  let v13 : BitVec 32 := Scalar.maxsi v12 c0_i32
  let c0_i32_18 : BitVec 32 := 0#32
  let v37 : BitVec 1 := Scalar.cmpi .sgt v13 c0_i32_18
  let v38 : BitVec 32 := Scalar.extui v37
  let c0_i32_19 : BitVec 32 := 0#32
  let v39 : BitVec 1 := Scalar.cmpi .slt v13 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi v13 c4_i32_17
  let c0_i32_22 : BitVec 32 := 0#32
  let v49 : BitVec 1 := Scalar.cmpi .ne v48 c0_i32_22
  let v50 : BitVec 1 := Scalar.andi v47 v49
  let v36 : BitVec 32 := Scalar.divsi v13 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let v54 : BitVec 32 := Scalar.subi v13 v53
  let c4_i32_25 : BitVec 32 := 4#32
  let c0_i32_26 : BitVec 32 := 0#32
  let v55 : BitVec 1 := Scalar.cmpi .eq c4_i32_25 c0_i32_26
  let c1_i32_27 : BitVec 32 := 1#32
  let v56 : BitVec 32 := Scalar.select v55 c1_i32_27 c4_i32_25
  let v57 : BitVec 32 := Scalar.remsi v54 v56
  let c0_i32_29 : BitVec 32 := 0#32
  let v59 : BitVec 1 := Scalar.cmpi .slt v57 c0_i32_29
  let c0_i32_30 : BitVec 32 := 0#32
  let v60 : BitVec 1 := Scalar.cmpi .slt v56 c0_i32_30
  let v61 : BitVec 1 := Scalar.xori v59 v60
  let c0_i32_28 : BitVec 32 := 0#32
  let v58 : BitVec 1 := Scalar.cmpi .ne v57 c0_i32_28
  let v62 : BitVec 1 := Scalar.andi v61 v58
  let v63 : BitVec 32 := Scalar.addi v57 v56
  let v64 : BitVec 32 := Scalar.select v62 v63 v57
  let c2_i32 : BitVec 32 := 2#32
  let v65 : BitVec 1 := Scalar.cmpi .sge v64 c2_i32
  let v66 : BitVec 32 := Scalar.extui v65
  let c0_i32_31 : BitVec 32 := 0#32
  let v67 : BitVec 1 := Scalar.cmpi .ne v66 c0_i32_31
  v67

def k0_mult3 (i : grid0.Coords) : BitVec 32 :=
  let arg2 : BitVec 32 := BitVec.ofNat 32 (i 2).val
  let c1_i32 : BitVec 32 := 1#32
  let v12 : BitVec 32 := Scalar.subi arg2 c1_i32
  let c0_i32 : BitVec 32 := 0#32
  let v13 : BitVec 32 := Scalar.maxsi v12 c0_i32
  let c0_i32_18 : BitVec 32 := 0#32
  let v37 : BitVec 1 := Scalar.cmpi .sgt v13 c0_i32_18
  let v38 : BitVec 32 := Scalar.extui v37
  let c0_i32_19 : BitVec 32 := 0#32
  let v39 : BitVec 1 := Scalar.cmpi .slt v13 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi v13 c4_i32_17
  let c0_i32_22 : BitVec 32 := 0#32
  let v49 : BitVec 1 := Scalar.cmpi .ne v48 c0_i32_22
  let v50 : BitVec 1 := Scalar.andi v47 v49
  let v36 : BitVec 32 := Scalar.divsi v13 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let c384_i32_130 : BitVec 32 := 384#32
  let v263 : BitVec 32 := Scalar.muli v53 c384_i32_130
  v263
def k0_off9 (i : grid0.Coords) : Fin 2 → Nat :=
  let arg2 : BitVec 32 := BitVec.ofNat 32 (i 2).val
  let c1_i32 : BitVec 32 := 1#32
  let v12 : BitVec 32 := Scalar.subi arg2 c1_i32
  let c0_i32 : BitVec 32 := 0#32
  let v13 : BitVec 32 := Scalar.maxsi v12 c0_i32
  let c0_i32_18 : BitVec 32 := 0#32
  let v37 : BitVec 1 := Scalar.cmpi .sgt v13 c0_i32_18
  let v38 : BitVec 32 := Scalar.extui v37
  let c0_i32_19 : BitVec 32 := 0#32
  let v39 : BitVec 1 := Scalar.cmpi .slt v13 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi v13 c4_i32_17
  let c0_i32_22 : BitVec 32 := 0#32
  let v49 : BitVec 1 := Scalar.cmpi .ne v48 c0_i32_22
  let v50 : BitVec 1 := Scalar.andi v47 v49
  let v36 : BitVec 32 := Scalar.divsi v13 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let c384_i32_130 : BitVec 32 := 384#32
  let v263 : BitVec 32 := Scalar.muli v53 c384_i32_130
  let v264 : BitVec 32 := v263
  let v265 : Index := Scalar.indexCast v264
  let c0_131 : Index := 0#32
  ![v265.toNat, 0]
def k0_off10 (i : grid0.Coords) : Fin 2 → Nat :=
  let c0_133 : Index := 0#32
  let arg2 : BitVec 32 := BitVec.ofNat 32 (i 2).val
  let c1_i32 : BitVec 32 := 1#32
  let v12 : BitVec 32 := Scalar.subi arg2 c1_i32
  let c0_i32 : BitVec 32 := 0#32
  let v13 : BitVec 32 := Scalar.maxsi v12 c0_i32
  let c0_i32_18 : BitVec 32 := 0#32
  let v37 : BitVec 1 := Scalar.cmpi .sgt v13 c0_i32_18
  let v38 : BitVec 32 := Scalar.extui v37
  let c0_i32_19 : BitVec 32 := 0#32
  let v39 : BitVec 1 := Scalar.cmpi .slt v13 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi v13 c4_i32_17
  let c0_i32_22 : BitVec 32 := 0#32
  let v49 : BitVec 1 := Scalar.cmpi .ne v48 c0_i32_22
  let v50 : BitVec 1 := Scalar.andi v47 v49
  let v36 : BitVec 32 := Scalar.divsi v13 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let c384_i32_130 : BitVec 32 := 384#32
  let v263 : BitVec 32 := Scalar.muli v53 c384_i32_130
  let v264 : BitVec 32 := v263
  let v269 : Index := Scalar.indexCast v264
  ![0, v269.toNat]
def k0_off11 (i : grid0.Coords) : Fin 2 → Nat :=
  let arg2 : BitVec 32 := BitVec.ofNat 32 (i 2).val
  let c1_i32 : BitVec 32 := 1#32
  let v12 : BitVec 32 := Scalar.subi arg2 c1_i32
  let c0_i32 : BitVec 32 := 0#32
  let v13 : BitVec 32 := Scalar.maxsi v12 c0_i32
  let c0_i32_18 : BitVec 32 := 0#32
  let v37 : BitVec 1 := Scalar.cmpi .sgt v13 c0_i32_18
  let v38 : BitVec 32 := Scalar.extui v37
  let c0_i32_19 : BitVec 32 := 0#32
  let v39 : BitVec 1 := Scalar.cmpi .slt v13 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi v13 c4_i32_17
  let c0_i32_22 : BitVec 32 := 0#32
  let v49 : BitVec 1 := Scalar.cmpi .ne v48 c0_i32_22
  let v50 : BitVec 1 := Scalar.andi v47 v49
  let v36 : BitVec 32 := Scalar.divsi v13 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let c384_i32_130 : BitVec 32 := 384#32
  let v263 : BitVec 32 := Scalar.muli v53 c384_i32_130
  let v264 : BitVec 32 := v263
  let v289 : Index := Scalar.indexCast v264
  let c128_138 : Index := 128#32
  ![v289.toNat, 128]
def k0_off12 (i : grid0.Coords) : Fin 2 → Nat :=
  let c384_140 : Index := 384#32
  let arg2 : BitVec 32 := BitVec.ofNat 32 (i 2).val
  let c1_i32 : BitVec 32 := 1#32
  let v12 : BitVec 32 := Scalar.subi arg2 c1_i32
  let c0_i32 : BitVec 32 := 0#32
  let v13 : BitVec 32 := Scalar.maxsi v12 c0_i32
  let c0_i32_18 : BitVec 32 := 0#32
  let v37 : BitVec 1 := Scalar.cmpi .sgt v13 c0_i32_18
  let v38 : BitVec 32 := Scalar.extui v37
  let c0_i32_19 : BitVec 32 := 0#32
  let v39 : BitVec 1 := Scalar.cmpi .slt v13 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi v13 c4_i32_17
  let c0_i32_22 : BitVec 32 := 0#32
  let v49 : BitVec 1 := Scalar.cmpi .ne v48 c0_i32_22
  let v50 : BitVec 1 := Scalar.andi v47 v49
  let v36 : BitVec 32 := Scalar.divsi v13 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let c384_i32_130 : BitVec 32 := 384#32
  let v263 : BitVec 32 := Scalar.muli v53 c384_i32_130
  let v264 : BitVec 32 := v263
  let v293 : Index := Scalar.indexCast v264
  ![384, v293.toNat]
def k0_cond2 (i : grid0.Coords) : BitVec 1 :=
  let arg2 : BitVec 32 := BitVec.ofNat 32 (i 2).val
  let c1_i32 : BitVec 32 := 1#32
  let v12 : BitVec 32 := Scalar.subi arg2 c1_i32
  let c0_i32 : BitVec 32 := 0#32
  let v13 : BitVec 32 := Scalar.maxsi v12 c0_i32
  let c0_i32_18 : BitVec 32 := 0#32
  let v37 : BitVec 1 := Scalar.cmpi .sgt v13 c0_i32_18
  let v38 : BitVec 32 := Scalar.extui v37
  let c0_i32_19 : BitVec 32 := 0#32
  let v39 : BitVec 1 := Scalar.cmpi .slt v13 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi v13 c4_i32_17
  let c0_i32_22 : BitVec 32 := 0#32
  let v49 : BitVec 1 := Scalar.cmpi .ne v48 c0_i32_22
  let v50 : BitVec 1 := Scalar.andi v47 v49
  let v36 : BitVec 32 := Scalar.divsi v13 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let v54 : BitVec 32 := Scalar.subi v13 v53
  let c4_i32_25 : BitVec 32 := 4#32
  let c0_i32_26 : BitVec 32 := 0#32
  let v55 : BitVec 1 := Scalar.cmpi .eq c4_i32_25 c0_i32_26
  let c1_i32_27 : BitVec 32 := 1#32
  let v56 : BitVec 32 := Scalar.select v55 c1_i32_27 c4_i32_25
  let v57 : BitVec 32 := Scalar.remsi v54 v56
  let c0_i32_29 : BitVec 32 := 0#32
  let v59 : BitVec 1 := Scalar.cmpi .slt v57 c0_i32_29
  let c0_i32_30 : BitVec 32 := 0#32
  let v60 : BitVec 1 := Scalar.cmpi .slt v56 c0_i32_30
  let v61 : BitVec 1 := Scalar.xori v59 v60
  let c0_i32_28 : BitVec 32 := 0#32
  let v58 : BitVec 1 := Scalar.cmpi .ne v57 c0_i32_28
  let v62 : BitVec 1 := Scalar.andi v61 v58
  let v63 : BitVec 32 := Scalar.addi v57 v56
  let v64 : BitVec 32 := Scalar.select v62 v63 v57
  let c2_i32 : BitVec 32 := 2#32
  let v65 : BitVec 1 := Scalar.cmpi .sge v64 c2_i32
  let c2_i32_32 : BitVec 32 := 2#32
  let c0_i32_33 : BitVec 32 := 0#32
  let v68 : BitVec 32 := Scalar.select v65 c2_i32_32 c0_i32_33
  let v69 : BitVec 32 := Scalar.addi v53 v68
  let v70 : BitVec 32 := Scalar.subi v13 v69
  let c2_i32_34 : BitVec 32 := 2#32
  let c0_i32_35 : BitVec 32 := 0#32
  let v71 : BitVec 1 := Scalar.cmpi .eq c2_i32_34 c0_i32_35
  let c1_i32_36 : BitVec 32 := 1#32
  let v72 : BitVec 32 := Scalar.select v71 c1_i32_36 c2_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c1_i32_40 : BitVec 32 := 1#32
  let v81 : BitVec 1 := Scalar.cmpi .sge v80 c1_i32_40
  let v82 : BitVec 32 := Scalar.extui v81
  let c0_i32_41 : BitVec 32 := 0#32
  let v83 : BitVec 1 := Scalar.cmpi .ne v82 c0_i32_41
  v83

def k0_mult4 (i : grid0.Coords) : BitVec 32 :=
  let arg2 : BitVec 32 := BitVec.ofNat 32 (i 2).val
  let c1_i32 : BitVec 32 := 1#32
  let v12 : BitVec 32 := Scalar.subi arg2 c1_i32
  let c0_i32 : BitVec 32 := 0#32
  let v13 : BitVec 32 := Scalar.maxsi v12 c0_i32
  let c0_i32_18 : BitVec 32 := 0#32
  let v37 : BitVec 1 := Scalar.cmpi .sgt v13 c0_i32_18
  let v38 : BitVec 32 := Scalar.extui v37
  let c0_i32_19 : BitVec 32 := 0#32
  let v39 : BitVec 1 := Scalar.cmpi .slt v13 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi v13 c4_i32_17
  let c0_i32_22 : BitVec 32 := 0#32
  let v49 : BitVec 1 := Scalar.cmpi .ne v48 c0_i32_22
  let v50 : BitVec 1 := Scalar.andi v47 v49
  let v36 : BitVec 32 := Scalar.divsi v13 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let v54 : BitVec 32 := Scalar.subi v13 v53
  let c4_i32_25 : BitVec 32 := 4#32
  let c0_i32_26 : BitVec 32 := 0#32
  let v55 : BitVec 1 := Scalar.cmpi .eq c4_i32_25 c0_i32_26
  let c1_i32_27 : BitVec 32 := 1#32
  let v56 : BitVec 32 := Scalar.select v55 c1_i32_27 c4_i32_25
  let v57 : BitVec 32 := Scalar.remsi v54 v56
  let c0_i32_29 : BitVec 32 := 0#32
  let v59 : BitVec 1 := Scalar.cmpi .slt v57 c0_i32_29
  let c0_i32_30 : BitVec 32 := 0#32
  let v60 : BitVec 1 := Scalar.cmpi .slt v56 c0_i32_30
  let v61 : BitVec 1 := Scalar.xori v59 v60
  let c0_i32_28 : BitVec 32 := 0#32
  let v58 : BitVec 1 := Scalar.cmpi .ne v57 c0_i32_28
  let v62 : BitVec 1 := Scalar.andi v61 v58
  let v63 : BitVec 32 := Scalar.addi v57 v56
  let v64 : BitVec 32 := Scalar.select v62 v63 v57
  let c2_i32 : BitVec 32 := 2#32
  let v65 : BitVec 1 := Scalar.cmpi .sge v64 c2_i32
  let c2_i32_32 : BitVec 32 := 2#32
  let c0_i32_33 : BitVec 32 := 0#32
  let v68 : BitVec 32 := Scalar.select v65 c2_i32_32 c0_i32_33
  let v69 : BitVec 32 := Scalar.addi v53 v68
  let c384_i32_130 : BitVec 32 := 384#32
  let v263 : BitVec 32 := Scalar.muli v69 c384_i32_130
  v263
def k0_off13 (i : grid0.Coords) : Fin 2 → Nat :=
  let arg2 : BitVec 32 := BitVec.ofNat 32 (i 2).val
  let c1_i32 : BitVec 32 := 1#32
  let v12 : BitVec 32 := Scalar.subi arg2 c1_i32
  let c0_i32 : BitVec 32 := 0#32
  let v13 : BitVec 32 := Scalar.maxsi v12 c0_i32
  let c0_i32_18 : BitVec 32 := 0#32
  let v37 : BitVec 1 := Scalar.cmpi .sgt v13 c0_i32_18
  let v38 : BitVec 32 := Scalar.extui v37
  let c0_i32_19 : BitVec 32 := 0#32
  let v39 : BitVec 1 := Scalar.cmpi .slt v13 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi v13 c4_i32_17
  let c0_i32_22 : BitVec 32 := 0#32
  let v49 : BitVec 1 := Scalar.cmpi .ne v48 c0_i32_22
  let v50 : BitVec 1 := Scalar.andi v47 v49
  let v36 : BitVec 32 := Scalar.divsi v13 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let v54 : BitVec 32 := Scalar.subi v13 v53
  let c4_i32_25 : BitVec 32 := 4#32
  let c0_i32_26 : BitVec 32 := 0#32
  let v55 : BitVec 1 := Scalar.cmpi .eq c4_i32_25 c0_i32_26
  let c1_i32_27 : BitVec 32 := 1#32
  let v56 : BitVec 32 := Scalar.select v55 c1_i32_27 c4_i32_25
  let v57 : BitVec 32 := Scalar.remsi v54 v56
  let c0_i32_29 : BitVec 32 := 0#32
  let v59 : BitVec 1 := Scalar.cmpi .slt v57 c0_i32_29
  let c0_i32_30 : BitVec 32 := 0#32
  let v60 : BitVec 1 := Scalar.cmpi .slt v56 c0_i32_30
  let v61 : BitVec 1 := Scalar.xori v59 v60
  let c0_i32_28 : BitVec 32 := 0#32
  let v58 : BitVec 1 := Scalar.cmpi .ne v57 c0_i32_28
  let v62 : BitVec 1 := Scalar.andi v61 v58
  let v63 : BitVec 32 := Scalar.addi v57 v56
  let v64 : BitVec 32 := Scalar.select v62 v63 v57
  let c2_i32 : BitVec 32 := 2#32
  let v65 : BitVec 1 := Scalar.cmpi .sge v64 c2_i32
  let c2_i32_32 : BitVec 32 := 2#32
  let c0_i32_33 : BitVec 32 := 0#32
  let v68 : BitVec 32 := Scalar.select v65 c2_i32_32 c0_i32_33
  let v69 : BitVec 32 := Scalar.addi v53 v68
  let c384_i32_130 : BitVec 32 := 384#32
  let v263 : BitVec 32 := Scalar.muli v69 c384_i32_130
  let v264 : BitVec 32 := v263
  let v265 : Index := Scalar.indexCast v264
  let c0_131 : Index := 0#32
  ![v265.toNat, 0]
def k0_off14 (i : grid0.Coords) : Fin 2 → Nat :=
  let c0_133 : Index := 0#32
  let arg2 : BitVec 32 := BitVec.ofNat 32 (i 2).val
  let c1_i32 : BitVec 32 := 1#32
  let v12 : BitVec 32 := Scalar.subi arg2 c1_i32
  let c0_i32 : BitVec 32 := 0#32
  let v13 : BitVec 32 := Scalar.maxsi v12 c0_i32
  let c0_i32_18 : BitVec 32 := 0#32
  let v37 : BitVec 1 := Scalar.cmpi .sgt v13 c0_i32_18
  let v38 : BitVec 32 := Scalar.extui v37
  let c0_i32_19 : BitVec 32 := 0#32
  let v39 : BitVec 1 := Scalar.cmpi .slt v13 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi v13 c4_i32_17
  let c0_i32_22 : BitVec 32 := 0#32
  let v49 : BitVec 1 := Scalar.cmpi .ne v48 c0_i32_22
  let v50 : BitVec 1 := Scalar.andi v47 v49
  let v36 : BitVec 32 := Scalar.divsi v13 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let v54 : BitVec 32 := Scalar.subi v13 v53
  let c4_i32_25 : BitVec 32 := 4#32
  let c0_i32_26 : BitVec 32 := 0#32
  let v55 : BitVec 1 := Scalar.cmpi .eq c4_i32_25 c0_i32_26
  let c1_i32_27 : BitVec 32 := 1#32
  let v56 : BitVec 32 := Scalar.select v55 c1_i32_27 c4_i32_25
  let v57 : BitVec 32 := Scalar.remsi v54 v56
  let c0_i32_29 : BitVec 32 := 0#32
  let v59 : BitVec 1 := Scalar.cmpi .slt v57 c0_i32_29
  let c0_i32_30 : BitVec 32 := 0#32
  let v60 : BitVec 1 := Scalar.cmpi .slt v56 c0_i32_30
  let v61 : BitVec 1 := Scalar.xori v59 v60
  let c0_i32_28 : BitVec 32 := 0#32
  let v58 : BitVec 1 := Scalar.cmpi .ne v57 c0_i32_28
  let v62 : BitVec 1 := Scalar.andi v61 v58
  let v63 : BitVec 32 := Scalar.addi v57 v56
  let v64 : BitVec 32 := Scalar.select v62 v63 v57
  let c2_i32 : BitVec 32 := 2#32
  let v65 : BitVec 1 := Scalar.cmpi .sge v64 c2_i32
  let c2_i32_32 : BitVec 32 := 2#32
  let c0_i32_33 : BitVec 32 := 0#32
  let v68 : BitVec 32 := Scalar.select v65 c2_i32_32 c0_i32_33
  let v69 : BitVec 32 := Scalar.addi v53 v68
  let c384_i32_130 : BitVec 32 := 384#32
  let v263 : BitVec 32 := Scalar.muli v69 c384_i32_130
  let v264 : BitVec 32 := v263
  let v269 : Index := Scalar.indexCast v264
  ![0, v269.toNat]
def k0_off15 (i : grid0.Coords) : Fin 2 → Nat :=
  let arg2 : BitVec 32 := BitVec.ofNat 32 (i 2).val
  let c1_i32 : BitVec 32 := 1#32
  let v12 : BitVec 32 := Scalar.subi arg2 c1_i32
  let c0_i32 : BitVec 32 := 0#32
  let v13 : BitVec 32 := Scalar.maxsi v12 c0_i32
  let c0_i32_18 : BitVec 32 := 0#32
  let v37 : BitVec 1 := Scalar.cmpi .sgt v13 c0_i32_18
  let v38 : BitVec 32 := Scalar.extui v37
  let c0_i32_19 : BitVec 32 := 0#32
  let v39 : BitVec 1 := Scalar.cmpi .slt v13 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi v13 c4_i32_17
  let c0_i32_22 : BitVec 32 := 0#32
  let v49 : BitVec 1 := Scalar.cmpi .ne v48 c0_i32_22
  let v50 : BitVec 1 := Scalar.andi v47 v49
  let v36 : BitVec 32 := Scalar.divsi v13 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let v54 : BitVec 32 := Scalar.subi v13 v53
  let c4_i32_25 : BitVec 32 := 4#32
  let c0_i32_26 : BitVec 32 := 0#32
  let v55 : BitVec 1 := Scalar.cmpi .eq c4_i32_25 c0_i32_26
  let c1_i32_27 : BitVec 32 := 1#32
  let v56 : BitVec 32 := Scalar.select v55 c1_i32_27 c4_i32_25
  let v57 : BitVec 32 := Scalar.remsi v54 v56
  let c0_i32_29 : BitVec 32 := 0#32
  let v59 : BitVec 1 := Scalar.cmpi .slt v57 c0_i32_29
  let c0_i32_30 : BitVec 32 := 0#32
  let v60 : BitVec 1 := Scalar.cmpi .slt v56 c0_i32_30
  let v61 : BitVec 1 := Scalar.xori v59 v60
  let c0_i32_28 : BitVec 32 := 0#32
  let v58 : BitVec 1 := Scalar.cmpi .ne v57 c0_i32_28
  let v62 : BitVec 1 := Scalar.andi v61 v58
  let v63 : BitVec 32 := Scalar.addi v57 v56
  let v64 : BitVec 32 := Scalar.select v62 v63 v57
  let c2_i32 : BitVec 32 := 2#32
  let v65 : BitVec 1 := Scalar.cmpi .sge v64 c2_i32
  let c2_i32_32 : BitVec 32 := 2#32
  let c0_i32_33 : BitVec 32 := 0#32
  let v68 : BitVec 32 := Scalar.select v65 c2_i32_32 c0_i32_33
  let v69 : BitVec 32 := Scalar.addi v53 v68
  let c384_i32_130 : BitVec 32 := 384#32
  let v263 : BitVec 32 := Scalar.muli v69 c384_i32_130
  let v264 : BitVec 32 := v263
  let v283 : Index := Scalar.indexCast v264
  let c128_138 : Index := 128#32
  ![v283.toNat, 128]
def k0_off16 (i : grid0.Coords) : Fin 2 → Nat :=
  let c384_140 : Index := 384#32
  let arg2 : BitVec 32 := BitVec.ofNat 32 (i 2).val
  let c1_i32 : BitVec 32 := 1#32
  let v12 : BitVec 32 := Scalar.subi arg2 c1_i32
  let c0_i32 : BitVec 32 := 0#32
  let v13 : BitVec 32 := Scalar.maxsi v12 c0_i32
  let c0_i32_18 : BitVec 32 := 0#32
  let v37 : BitVec 1 := Scalar.cmpi .sgt v13 c0_i32_18
  let v38 : BitVec 32 := Scalar.extui v37
  let c0_i32_19 : BitVec 32 := 0#32
  let v39 : BitVec 1 := Scalar.cmpi .slt v13 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi v13 c4_i32_17
  let c0_i32_22 : BitVec 32 := 0#32
  let v49 : BitVec 1 := Scalar.cmpi .ne v48 c0_i32_22
  let v50 : BitVec 1 := Scalar.andi v47 v49
  let v36 : BitVec 32 := Scalar.divsi v13 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let v54 : BitVec 32 := Scalar.subi v13 v53
  let c4_i32_25 : BitVec 32 := 4#32
  let c0_i32_26 : BitVec 32 := 0#32
  let v55 : BitVec 1 := Scalar.cmpi .eq c4_i32_25 c0_i32_26
  let c1_i32_27 : BitVec 32 := 1#32
  let v56 : BitVec 32 := Scalar.select v55 c1_i32_27 c4_i32_25
  let v57 : BitVec 32 := Scalar.remsi v54 v56
  let c0_i32_29 : BitVec 32 := 0#32
  let v59 : BitVec 1 := Scalar.cmpi .slt v57 c0_i32_29
  let c0_i32_30 : BitVec 32 := 0#32
  let v60 : BitVec 1 := Scalar.cmpi .slt v56 c0_i32_30
  let v61 : BitVec 1 := Scalar.xori v59 v60
  let c0_i32_28 : BitVec 32 := 0#32
  let v58 : BitVec 1 := Scalar.cmpi .ne v57 c0_i32_28
  let v62 : BitVec 1 := Scalar.andi v61 v58
  let v63 : BitVec 32 := Scalar.addi v57 v56
  let v64 : BitVec 32 := Scalar.select v62 v63 v57
  let c2_i32 : BitVec 32 := 2#32
  let v65 : BitVec 1 := Scalar.cmpi .sge v64 c2_i32
  let c2_i32_32 : BitVec 32 := 2#32
  let c0_i32_33 : BitVec 32 := 0#32
  let v68 : BitVec 32 := Scalar.select v65 c2_i32_32 c0_i32_33
  let v69 : BitVec 32 := Scalar.addi v53 v68
  let c384_i32_130 : BitVec 32 := 384#32
  let v263 : BitVec 32 := Scalar.muli v69 c384_i32_130
  let v264 : BitVec 32 := v263
  let v287 : Index := Scalar.indexCast v264
  ![384, v287.toNat]
def k0_cond3 (i : grid0.Coords) : BitVec 1 :=
  let arg2 : BitVec 32 := BitVec.ofNat 32 (i 2).val
  let c1_i32_42 : BitVec 32 := 1#32
  let v84 : BitVec 1 := Scalar.cmpi .sge arg2 c1_i32_42
  let v85 : BitVec 32 := Scalar.extui v84
  let c0_i32_43 : BitVec 32 := 0#32
  let v86 : BitVec 1 := Scalar.cmpi .ne v85 c0_i32_43
  v86

def k0_mult5 (i : grid0.Coords) : BitVec 32 :=
  let arg2 : BitVec 32 := BitVec.ofNat 32 (i 2).val
  let c1_i32_130 : BitVec 32 := 1#32
  let v263 : BitVec 32 := Scalar.subi arg2 c1_i32_130
  let c384_i32_131 : BitVec 32 := 384#32
  let v264 : BitVec 32 := Scalar.muli v263 c384_i32_131
  v264
def k0_off17 (i : grid0.Coords) : Fin 2 → Nat :=
  let arg2 : BitVec 32 := BitVec.ofNat 32 (i 2).val
  let c1_i32_130 : BitVec 32 := 1#32
  let v263 : BitVec 32 := Scalar.subi arg2 c1_i32_130
  let c384_i32_131 : BitVec 32 := 384#32
  let v264 : BitVec 32 := Scalar.muli v263 c384_i32_131
  let v265 : BitVec 32 := v264
  let v266 : Index := Scalar.indexCast v265
  let c0_132 : Index := 0#32
  ![v266.toNat, 0]
def k0_off18 (i : grid0.Coords) : Fin 2 → Nat :=
  let c0_137 : Index := 0#32
  let arg2 : BitVec 32 := BitVec.ofNat 32 (i 2).val
  let c1_i32_130 : BitVec 32 := 1#32
  let v263 : BitVec 32 := Scalar.subi arg2 c1_i32_130
  let c384_i32_131 : BitVec 32 := 384#32
  let v264 : BitVec 32 := Scalar.muli v263 c384_i32_131
  let v265 : BitVec 32 := v264
  let v273 : Index := Scalar.indexCast v265
  ![0, v273.toNat]
def k0_off19 (i : grid0.Coords) : Fin 2 → Nat :=
  let arg2 : BitVec 32 := BitVec.ofNat 32 (i 2).val
  let c1_i32_130 : BitVec 32 := 1#32
  let v263 : BitVec 32 := Scalar.subi arg2 c1_i32_130
  let c384_i32_131 : BitVec 32 := 384#32
  let v264 : BitVec 32 := Scalar.muli v263 c384_i32_131
  let v265 : BitVec 32 := v264
  let v287 : Index := Scalar.indexCast v265
  let c128_142 : Index := 128#32
  ![v287.toNat, 128]
def k0_off20 (i : grid0.Coords) : Fin 2 → Nat :=
  let c384_147 : Index := 384#32
  let arg2 : BitVec 32 := BitVec.ofNat 32 (i 2).val
  let c1_i32_130 : BitVec 32 := 1#32
  let v263 : BitVec 32 := Scalar.subi arg2 c1_i32_130
  let c384_i32_131 : BitVec 32 := 384#32
  let v264 : BitVec 32 := Scalar.muli v263 c384_i32_131
  let v265 : BitVec 32 := v264
  let v294 : Index := Scalar.indexCast v265
  ![384, v294.toNat]
def k0_mult6 (i : grid0.Coords) : BitVec 32 :=
  let arg2 : BitVec 32 := BitVec.ofNat 32 (i 2).val
  let c384_i32 : BitVec 32 := 384#32
  let v87 : BitVec 32 := Scalar.muli arg2 c384_i32
  v87
def k0_off21 (i : grid0.Coords) : Fin 2 → Nat :=
  let arg2 : BitVec 32 := BitVec.ofNat 32 (i 2).val
  let c384_i32 : BitVec 32 := 384#32
  let v87 : BitVec 32 := Scalar.muli arg2 c384_i32
  let v88 : BitVec 32 := v87
  let v89 : Index := Scalar.indexCast v88
  let c0_44 : Index := 0#32
  ![v89.toNat, 0]
def k0_off22 (i : grid0.Coords) : Fin 2 → Nat :=
  let c0_49 : Index := 0#32
  let arg2 : BitVec 32 := BitVec.ofNat 32 (i 2).val
  let c384_i32 : BitVec 32 := 384#32
  let v87 : BitVec 32 := Scalar.muli arg2 c384_i32
  let v88 : BitVec 32 := v87
  let v96 : Index := Scalar.indexCast v88
  ![0, v96.toNat]
def k0_off23 (i : grid0.Coords) : Fin 2 → Nat :=
  let arg2 : BitVec 32 := BitVec.ofNat 32 (i 2).val
  let c384_i32 : BitVec 32 := 384#32
  let v87 : BitVec 32 := Scalar.muli arg2 c384_i32
  let v88 : BitVec 32 := v87
  let v110 : Index := Scalar.indexCast v88
  let c128_54 : Index := 128#32
  ![v110.toNat, 128]
def k0_off24 (i : grid0.Coords) : Fin 2 → Nat :=
  let c384 : Index := 384#32
  let arg2 : BitVec 32 := BitVec.ofNat 32 (i 2).val
  let c384_i32 : BitVec 32 := 384#32
  let v87 : BitVec 32 := Scalar.muli arg2 c384_i32
  let v88 : BitVec 32 := v87
  let v117 : Index := Scalar.indexCast v88
  ![384, v117.toNat]
@[reducible] def k0_t3_loop (i : grid0.Coords) : Scf.Loop 32 :=
  let c0_i32_82 : BitVec 32 := 0#32
  let arg2 : BitVec 32 := BitVec.ofNat 32 (i 2).val
  let c1_i32_73 : BitVec 32 := 1#32
  let v147 : BitVec 32 := Scalar.addi arg2 c1_i32_73
  let c0_i32_75 : BitVec 32 := 0#32
  let v149 : BitVec 1 := Scalar.cmpi .sgt v147 c0_i32_75
  let v150 : BitVec 32 := Scalar.extui v149
  let c0_i32_76 : BitVec 32 := 0#32
  let v151 : BitVec 1 := Scalar.cmpi .slt v147 c0_i32_76
  let v152 : BitVec 32 := Scalar.extui v151
  let v153 : BitVec 32 := Scalar.subi v150 v152
  let c4_i32_74 : BitVec 32 := 4#32
  let c0_i32_77 : BitVec 32 := 0#32
  let v154 : BitVec 1 := Scalar.cmpi .sgt c4_i32_74 c0_i32_77
  let v155 : BitVec 32 := Scalar.extui v154
  let c0_i32_78 : BitVec 32 := 0#32
  let v156 : BitVec 1 := Scalar.cmpi .slt c4_i32_74 c0_i32_78
  let v157 : BitVec 32 := Scalar.extui v156
  let v158 : BitVec 32 := Scalar.subi v155 v157
  let v159 : BitVec 1 := Scalar.cmpi .ne v153 v158
  let v160 : BitVec 32 := Scalar.remsi v147 c4_i32_74
  let c0_i32_79 : BitVec 32 := 0#32
  let v161 : BitVec 1 := Scalar.cmpi .ne v160 c0_i32_79
  let v162 : BitVec 1 := Scalar.andi v159 v161
  let v148 : BitVec 32 := Scalar.divsi v147 c4_i32_74
  let c1_i32_80 : BitVec 32 := 1#32
  let v163 : BitVec 32 := Scalar.subi v148 c1_i32_80
  let v164 : BitVec 32 := Scalar.select v162 v163 v148
  let v165 : BitVec 32 := Scalar.subi v164 c0_i32_82
  let c1_i32_83 : BitVec 32 := 1#32
  let v167 : BitVec 32 := Scalar.divsi v165 c1_i32_83
  let v168 : BitVec 32 := Scalar.muli v167 c1_i32_83
  let v169 : BitVec 32 := Scalar.addi c0_i32_82 v168
  let c1_i32_84 : BitVec 32 := 1#32
  ⟨c0_i32_82, v169, c1_i32_84⟩
def k0_mult7 (i : grid0.Coords) (k0_t3 : Fin (k0_t3_loop i).trips) : BitVec 32 :=
  let c4_i32_130 : BitVec 32 := 4#32
  let c0_i32_82 : BitVec 32 := 0#32
  let c1_i32_84 : BitVec 32 := 1#32
  let arg14 : BitVec 32 := Scf.iv c0_i32_82 c1_i32_84 k0_t3
  let v263 : BitVec 32 := Scalar.muli c4_i32_130 arg14
  let c384_i32_131 : BitVec 32 := 384#32
  let v264 : BitVec 32 := Scalar.muli v263 c384_i32_131
  v264
def k0_off25 (i : grid0.Coords) (k0_t3 : Fin (k0_t3_loop i).trips) : Fin 2 → Nat :=
  let c0_132 : Index := 0#32
  let c4_i32_130 : BitVec 32 := 4#32
  let c0_i32_82 : BitVec 32 := 0#32
  let c1_i32_84 : BitVec 32 := 1#32
  let arg14 : BitVec 32 := Scf.iv c0_i32_82 c1_i32_84 k0_t3
  let v263 : BitVec 32 := Scalar.muli c4_i32_130 arg14
  let c384_i32_131 : BitVec 32 := 384#32
  let v264 : BitVec 32 := Scalar.muli v263 c384_i32_131
  let v265 : BitVec 32 := v264
  let v266 : Index := Scalar.indexCast v265
  ![0, v266.toNat]
def k0_off26 (i : grid0.Coords) (k0_t3 : Fin (k0_t3_loop i).trips) : Fin 2 → Nat :=
  let c4_i32_130 : BitVec 32 := 4#32
  let c0_i32_82 : BitVec 32 := 0#32
  let c1_i32_84 : BitVec 32 := 1#32
  let arg14 : BitVec 32 := Scf.iv c0_i32_82 c1_i32_84 k0_t3
  let v263 : BitVec 32 := Scalar.muli c4_i32_130 arg14
  let c384_i32_131 : BitVec 32 := 384#32
  let v264 : BitVec 32 := Scalar.muli v263 c384_i32_131
  let v265 : BitVec 32 := v264
  let v324 : Index := Scalar.indexCast v265
  let c0_141 : Index := 0#32
  ![v324.toNat, 0]
@[reducible] def k0_t4_loop (i : grid0.Coords) : Scf.Loop 32 :=
  let c0_i32_82 : BitVec 32 := 0#32
  let arg2 : BitVec 32 := BitVec.ofNat 32 (i 2).val
  let c1_i32_73 : BitVec 32 := 1#32
  let v147 : BitVec 32 := Scalar.addi arg2 c1_i32_73
  let c0_i32_75 : BitVec 32 := 0#32
  let v149 : BitVec 1 := Scalar.cmpi .sgt v147 c0_i32_75
  let v150 : BitVec 32 := Scalar.extui v149
  let c0_i32_76 : BitVec 32 := 0#32
  let v151 : BitVec 1 := Scalar.cmpi .slt v147 c0_i32_76
  let v152 : BitVec 32 := Scalar.extui v151
  let v153 : BitVec 32 := Scalar.subi v150 v152
  let c4_i32_74 : BitVec 32 := 4#32
  let c0_i32_77 : BitVec 32 := 0#32
  let v154 : BitVec 1 := Scalar.cmpi .sgt c4_i32_74 c0_i32_77
  let v155 : BitVec 32 := Scalar.extui v154
  let c0_i32_78 : BitVec 32 := 0#32
  let v156 : BitVec 1 := Scalar.cmpi .slt c4_i32_74 c0_i32_78
  let v157 : BitVec 32 := Scalar.extui v156
  let v158 : BitVec 32 := Scalar.subi v155 v157
  let v159 : BitVec 1 := Scalar.cmpi .ne v153 v158
  let v160 : BitVec 32 := Scalar.remsi v147 c4_i32_74
  let c0_i32_79 : BitVec 32 := 0#32
  let v161 : BitVec 1 := Scalar.cmpi .ne v160 c0_i32_79
  let v162 : BitVec 1 := Scalar.andi v159 v161
  let v148 : BitVec 32 := Scalar.divsi v147 c4_i32_74
  let c1_i32_80 : BitVec 32 := 1#32
  let v163 : BitVec 32 := Scalar.subi v148 c1_i32_80
  let v164 : BitVec 32 := Scalar.select v162 v163 v148
  let v165 : BitVec 32 := Scalar.subi v164 c0_i32_82
  let c1_i32_83 : BitVec 32 := 1#32
  let v167 : BitVec 32 := Scalar.divsi v165 c1_i32_83
  let v168 : BitVec 32 := Scalar.muli v167 c1_i32_83
  let v169 : BitVec 32 := Scalar.addi c0_i32_82 v168
  let v166 : BitVec 32 := Scalar.addi c0_i32_82 v165
  let c1_i32_85 : BitVec 32 := 1#32
  ⟨v169, v166, c1_i32_85⟩
def k0_mult8 (i : grid0.Coords) (k0_t4 : Fin (k0_t4_loop i).trips) : BitVec 32 :=
  let c4_i32_130 : BitVec 32 := 4#32
  let c0_i32_82 : BitVec 32 := 0#32
  let arg2 : BitVec 32 := BitVec.ofNat 32 (i 2).val
  let c1_i32_73 : BitVec 32 := 1#32
  let v147 : BitVec 32 := Scalar.addi arg2 c1_i32_73
  let c0_i32_75 : BitVec 32 := 0#32
  let v149 : BitVec 1 := Scalar.cmpi .sgt v147 c0_i32_75
  let v150 : BitVec 32 := Scalar.extui v149
  let c0_i32_76 : BitVec 32 := 0#32
  let v151 : BitVec 1 := Scalar.cmpi .slt v147 c0_i32_76
  let v152 : BitVec 32 := Scalar.extui v151
  let v153 : BitVec 32 := Scalar.subi v150 v152
  let c4_i32_74 : BitVec 32 := 4#32
  let c0_i32_77 : BitVec 32 := 0#32
  let v154 : BitVec 1 := Scalar.cmpi .sgt c4_i32_74 c0_i32_77
  let v155 : BitVec 32 := Scalar.extui v154
  let c0_i32_78 : BitVec 32 := 0#32
  let v156 : BitVec 1 := Scalar.cmpi .slt c4_i32_74 c0_i32_78
  let v157 : BitVec 32 := Scalar.extui v156
  let v158 : BitVec 32 := Scalar.subi v155 v157
  let v159 : BitVec 1 := Scalar.cmpi .ne v153 v158
  let v160 : BitVec 32 := Scalar.remsi v147 c4_i32_74
  let c0_i32_79 : BitVec 32 := 0#32
  let v161 : BitVec 1 := Scalar.cmpi .ne v160 c0_i32_79
  let v162 : BitVec 1 := Scalar.andi v159 v161
  let v148 : BitVec 32 := Scalar.divsi v147 c4_i32_74
  let c1_i32_80 : BitVec 32 := 1#32
  let v163 : BitVec 32 := Scalar.subi v148 c1_i32_80
  let v164 : BitVec 32 := Scalar.select v162 v163 v148
  let v165 : BitVec 32 := Scalar.subi v164 c0_i32_82
  let c1_i32_83 : BitVec 32 := 1#32
  let v167 : BitVec 32 := Scalar.divsi v165 c1_i32_83
  let v168 : BitVec 32 := Scalar.muli v167 c1_i32_83
  let v169 : BitVec 32 := Scalar.addi c0_i32_82 v168
  let c1_i32_85 : BitVec 32 := 1#32
  let arg14 : BitVec 32 := Scf.iv v169 c1_i32_85 k0_t4
  let v263 : BitVec 32 := Scalar.muli c4_i32_130 arg14
  let c384_i32_131 : BitVec 32 := 384#32
  let v264 : BitVec 32 := Scalar.muli v263 c384_i32_131
  v264
def k0_off27 (i : grid0.Coords) (k0_t4 : Fin (k0_t4_loop i).trips) : Fin 2 → Nat :=
  let c0_132 : Index := 0#32
  let c4_i32_130 : BitVec 32 := 4#32
  let c0_i32_82 : BitVec 32 := 0#32
  let arg2 : BitVec 32 := BitVec.ofNat 32 (i 2).val
  let c1_i32_73 : BitVec 32 := 1#32
  let v147 : BitVec 32 := Scalar.addi arg2 c1_i32_73
  let c0_i32_75 : BitVec 32 := 0#32
  let v149 : BitVec 1 := Scalar.cmpi .sgt v147 c0_i32_75
  let v150 : BitVec 32 := Scalar.extui v149
  let c0_i32_76 : BitVec 32 := 0#32
  let v151 : BitVec 1 := Scalar.cmpi .slt v147 c0_i32_76
  let v152 : BitVec 32 := Scalar.extui v151
  let v153 : BitVec 32 := Scalar.subi v150 v152
  let c4_i32_74 : BitVec 32 := 4#32
  let c0_i32_77 : BitVec 32 := 0#32
  let v154 : BitVec 1 := Scalar.cmpi .sgt c4_i32_74 c0_i32_77
  let v155 : BitVec 32 := Scalar.extui v154
  let c0_i32_78 : BitVec 32 := 0#32
  let v156 : BitVec 1 := Scalar.cmpi .slt c4_i32_74 c0_i32_78
  let v157 : BitVec 32 := Scalar.extui v156
  let v158 : BitVec 32 := Scalar.subi v155 v157
  let v159 : BitVec 1 := Scalar.cmpi .ne v153 v158
  let v160 : BitVec 32 := Scalar.remsi v147 c4_i32_74
  let c0_i32_79 : BitVec 32 := 0#32
  let v161 : BitVec 1 := Scalar.cmpi .ne v160 c0_i32_79
  let v162 : BitVec 1 := Scalar.andi v159 v161
  let v148 : BitVec 32 := Scalar.divsi v147 c4_i32_74
  let c1_i32_80 : BitVec 32 := 1#32
  let v163 : BitVec 32 := Scalar.subi v148 c1_i32_80
  let v164 : BitVec 32 := Scalar.select v162 v163 v148
  let v165 : BitVec 32 := Scalar.subi v164 c0_i32_82
  let c1_i32_83 : BitVec 32 := 1#32
  let v167 : BitVec 32 := Scalar.divsi v165 c1_i32_83
  let v168 : BitVec 32 := Scalar.muli v167 c1_i32_83
  let v169 : BitVec 32 := Scalar.addi c0_i32_82 v168
  let c1_i32_85 : BitVec 32 := 1#32
  let arg14 : BitVec 32 := Scf.iv v169 c1_i32_85 k0_t4
  let v263 : BitVec 32 := Scalar.muli c4_i32_130 arg14
  let c384_i32_131 : BitVec 32 := 384#32
  let v264 : BitVec 32 := Scalar.muli v263 c384_i32_131
  let v265 : BitVec 32 := v264
  let v266 : Index := Scalar.indexCast v265
  ![0, v266.toNat]
def k0_off28 (i : grid0.Coords) (k0_t4 : Fin (k0_t4_loop i).trips) : Fin 2 → Nat :=
  let c4_i32_130 : BitVec 32 := 4#32
  let c0_i32_82 : BitVec 32 := 0#32
  let arg2 : BitVec 32 := BitVec.ofNat 32 (i 2).val
  let c1_i32_73 : BitVec 32 := 1#32
  let v147 : BitVec 32 := Scalar.addi arg2 c1_i32_73
  let c0_i32_75 : BitVec 32 := 0#32
  let v149 : BitVec 1 := Scalar.cmpi .sgt v147 c0_i32_75
  let v150 : BitVec 32 := Scalar.extui v149
  let c0_i32_76 : BitVec 32 := 0#32
  let v151 : BitVec 1 := Scalar.cmpi .slt v147 c0_i32_76
  let v152 : BitVec 32 := Scalar.extui v151
  let v153 : BitVec 32 := Scalar.subi v150 v152
  let c4_i32_74 : BitVec 32 := 4#32
  let c0_i32_77 : BitVec 32 := 0#32
  let v154 : BitVec 1 := Scalar.cmpi .sgt c4_i32_74 c0_i32_77
  let v155 : BitVec 32 := Scalar.extui v154
  let c0_i32_78 : BitVec 32 := 0#32
  let v156 : BitVec 1 := Scalar.cmpi .slt c4_i32_74 c0_i32_78
  let v157 : BitVec 32 := Scalar.extui v156
  let v158 : BitVec 32 := Scalar.subi v155 v157
  let v159 : BitVec 1 := Scalar.cmpi .ne v153 v158
  let v160 : BitVec 32 := Scalar.remsi v147 c4_i32_74
  let c0_i32_79 : BitVec 32 := 0#32
  let v161 : BitVec 1 := Scalar.cmpi .ne v160 c0_i32_79
  let v162 : BitVec 1 := Scalar.andi v159 v161
  let v148 : BitVec 32 := Scalar.divsi v147 c4_i32_74
  let c1_i32_80 : BitVec 32 := 1#32
  let v163 : BitVec 32 := Scalar.subi v148 c1_i32_80
  let v164 : BitVec 32 := Scalar.select v162 v163 v148
  let v165 : BitVec 32 := Scalar.subi v164 c0_i32_82
  let c1_i32_83 : BitVec 32 := 1#32
  let v167 : BitVec 32 := Scalar.divsi v165 c1_i32_83
  let v168 : BitVec 32 := Scalar.muli v167 c1_i32_83
  let v169 : BitVec 32 := Scalar.addi c0_i32_82 v168
  let c1_i32_85 : BitVec 32 := 1#32
  let arg14 : BitVec 32 := Scf.iv v169 c1_i32_85 k0_t4
  let v263 : BitVec 32 := Scalar.muli c4_i32_130 arg14
  let c384_i32_131 : BitVec 32 := 384#32
  let v264 : BitVec 32 := Scalar.muli v263 c384_i32_131
  let v265 : BitVec 32 := v264
  let v324 : Index := Scalar.indexCast v265
  let c0_141 : Index := 0#32
  ![v324.toNat, 0]
def k0_cond4 (i : grid0.Coords) : BitVec 1 :=
  let arg2 : BitVec 32 := BitVec.ofNat 32 (i 2).val
  let c1_i32_73 : BitVec 32 := 1#32
  let v147 : BitVec 32 := Scalar.addi arg2 c1_i32_73
  let c0_i32_87 : BitVec 32 := 0#32
  let v171 : BitVec 1 := Scalar.cmpi .sgt v147 c0_i32_87
  let v172 : BitVec 32 := Scalar.extui v171
  let c0_i32_88 : BitVec 32 := 0#32
  let v173 : BitVec 1 := Scalar.cmpi .slt v147 c0_i32_88
  let v174 : BitVec 32 := Scalar.extui v173
  let v175 : BitVec 32 := Scalar.subi v172 v174
  let c4_i32_86 : BitVec 32 := 4#32
  let c0_i32_89 : BitVec 32 := 0#32
  let v176 : BitVec 1 := Scalar.cmpi .sgt c4_i32_86 c0_i32_89
  let v177 : BitVec 32 := Scalar.extui v176
  let c0_i32_90 : BitVec 32 := 0#32
  let v178 : BitVec 1 := Scalar.cmpi .slt c4_i32_86 c0_i32_90
  let v179 : BitVec 32 := Scalar.extui v178
  let v180 : BitVec 32 := Scalar.subi v177 v179
  let v181 : BitVec 1 := Scalar.cmpi .ne v175 v180
  let v182 : BitVec 32 := Scalar.remsi v147 c4_i32_86
  let c0_i32_91 : BitVec 32 := 0#32
  let v183 : BitVec 1 := Scalar.cmpi .ne v182 c0_i32_91
  let v184 : BitVec 1 := Scalar.andi v181 v183
  let v170 : BitVec 32 := Scalar.divsi v147 c4_i32_86
  let c1_i32_92 : BitVec 32 := 1#32
  let v185 : BitVec 32 := Scalar.subi v170 c1_i32_92
  let v186 : BitVec 32 := Scalar.select v184 v185 v170
  let c4_i32_93 : BitVec 32 := 4#32
  let v187 : BitVec 32 := Scalar.muli v186 c4_i32_93
  let v188 : BitVec 32 := Scalar.subi v147 v187
  let c4_i32_94 : BitVec 32 := 4#32
  let c0_i32_95 : BitVec 32 := 0#32
  let v189 : BitVec 1 := Scalar.cmpi .eq c4_i32_94 c0_i32_95
  let c1_i32_96 : BitVec 32 := 1#32
  let v190 : BitVec 32 := Scalar.select v189 c1_i32_96 c4_i32_94
  let v191 : BitVec 32 := Scalar.remsi v188 v190
  let c0_i32_98 : BitVec 32 := 0#32
  let v193 : BitVec 1 := Scalar.cmpi .slt v191 c0_i32_98
  let c0_i32_99 : BitVec 32 := 0#32
  let v194 : BitVec 1 := Scalar.cmpi .slt v190 c0_i32_99
  let v195 : BitVec 1 := Scalar.xori v193 v194
  let c0_i32_97 : BitVec 32 := 0#32
  let v192 : BitVec 1 := Scalar.cmpi .ne v191 c0_i32_97
  let v196 : BitVec 1 := Scalar.andi v195 v192
  let v197 : BitVec 32 := Scalar.addi v191 v190
  let v198 : BitVec 32 := Scalar.select v196 v197 v191
  let c2_i32_100 : BitVec 32 := 2#32
  let v199 : BitVec 1 := Scalar.cmpi .sge v198 c2_i32_100
  let v200 : BitVec 32 := Scalar.extui v199
  let c0_i32_101 : BitVec 32 := 0#32
  let v201 : BitVec 1 := Scalar.cmpi .ne v200 c0_i32_101
  v201

def k0_mult9 (i : grid0.Coords) : BitVec 32 :=
  let arg2 : BitVec 32 := BitVec.ofNat 32 (i 2).val
  let c1_i32_73 : BitVec 32 := 1#32
  let v147 : BitVec 32 := Scalar.addi arg2 c1_i32_73
  let c0_i32_87 : BitVec 32 := 0#32
  let v171 : BitVec 1 := Scalar.cmpi .sgt v147 c0_i32_87
  let v172 : BitVec 32 := Scalar.extui v171
  let c0_i32_88 : BitVec 32 := 0#32
  let v173 : BitVec 1 := Scalar.cmpi .slt v147 c0_i32_88
  let v174 : BitVec 32 := Scalar.extui v173
  let v175 : BitVec 32 := Scalar.subi v172 v174
  let c4_i32_86 : BitVec 32 := 4#32
  let c0_i32_89 : BitVec 32 := 0#32
  let v176 : BitVec 1 := Scalar.cmpi .sgt c4_i32_86 c0_i32_89
  let v177 : BitVec 32 := Scalar.extui v176
  let c0_i32_90 : BitVec 32 := 0#32
  let v178 : BitVec 1 := Scalar.cmpi .slt c4_i32_86 c0_i32_90
  let v179 : BitVec 32 := Scalar.extui v178
  let v180 : BitVec 32 := Scalar.subi v177 v179
  let v181 : BitVec 1 := Scalar.cmpi .ne v175 v180
  let v182 : BitVec 32 := Scalar.remsi v147 c4_i32_86
  let c0_i32_91 : BitVec 32 := 0#32
  let v183 : BitVec 1 := Scalar.cmpi .ne v182 c0_i32_91
  let v184 : BitVec 1 := Scalar.andi v181 v183
  let v170 : BitVec 32 := Scalar.divsi v147 c4_i32_86
  let c1_i32_92 : BitVec 32 := 1#32
  let v185 : BitVec 32 := Scalar.subi v170 c1_i32_92
  let v186 : BitVec 32 := Scalar.select v184 v185 v170
  let c4_i32_93 : BitVec 32 := 4#32
  let v187 : BitVec 32 := Scalar.muli v186 c4_i32_93
  let c384_i32_130 : BitVec 32 := 384#32
  let v263 : BitVec 32 := Scalar.muli v187 c384_i32_130
  v263
def k0_off29 (i : grid0.Coords) : Fin 2 → Nat :=
  let c0_131 : Index := 0#32
  let arg2 : BitVec 32 := BitVec.ofNat 32 (i 2).val
  let c1_i32_73 : BitVec 32 := 1#32
  let v147 : BitVec 32 := Scalar.addi arg2 c1_i32_73
  let c0_i32_87 : BitVec 32 := 0#32
  let v171 : BitVec 1 := Scalar.cmpi .sgt v147 c0_i32_87
  let v172 : BitVec 32 := Scalar.extui v171
  let c0_i32_88 : BitVec 32 := 0#32
  let v173 : BitVec 1 := Scalar.cmpi .slt v147 c0_i32_88
  let v174 : BitVec 32 := Scalar.extui v173
  let v175 : BitVec 32 := Scalar.subi v172 v174
  let c4_i32_86 : BitVec 32 := 4#32
  let c0_i32_89 : BitVec 32 := 0#32
  let v176 : BitVec 1 := Scalar.cmpi .sgt c4_i32_86 c0_i32_89
  let v177 : BitVec 32 := Scalar.extui v176
  let c0_i32_90 : BitVec 32 := 0#32
  let v178 : BitVec 1 := Scalar.cmpi .slt c4_i32_86 c0_i32_90
  let v179 : BitVec 32 := Scalar.extui v178
  let v180 : BitVec 32 := Scalar.subi v177 v179
  let v181 : BitVec 1 := Scalar.cmpi .ne v175 v180
  let v182 : BitVec 32 := Scalar.remsi v147 c4_i32_86
  let c0_i32_91 : BitVec 32 := 0#32
  let v183 : BitVec 1 := Scalar.cmpi .ne v182 c0_i32_91
  let v184 : BitVec 1 := Scalar.andi v181 v183
  let v170 : BitVec 32 := Scalar.divsi v147 c4_i32_86
  let c1_i32_92 : BitVec 32 := 1#32
  let v185 : BitVec 32 := Scalar.subi v170 c1_i32_92
  let v186 : BitVec 32 := Scalar.select v184 v185 v170
  let c4_i32_93 : BitVec 32 := 4#32
  let v187 : BitVec 32 := Scalar.muli v186 c4_i32_93
  let c384_i32_130 : BitVec 32 := 384#32
  let v263 : BitVec 32 := Scalar.muli v187 c384_i32_130
  let v264 : BitVec 32 := v263
  let v265 : Index := Scalar.indexCast v264
  ![0, v265.toNat]
def k0_off30 (i : grid0.Coords) : Fin 2 → Nat :=
  let arg2 : BitVec 32 := BitVec.ofNat 32 (i 2).val
  let c1_i32_73 : BitVec 32 := 1#32
  let v147 : BitVec 32 := Scalar.addi arg2 c1_i32_73
  let c0_i32_87 : BitVec 32 := 0#32
  let v171 : BitVec 1 := Scalar.cmpi .sgt v147 c0_i32_87
  let v172 : BitVec 32 := Scalar.extui v171
  let c0_i32_88 : BitVec 32 := 0#32
  let v173 : BitVec 1 := Scalar.cmpi .slt v147 c0_i32_88
  let v174 : BitVec 32 := Scalar.extui v173
  let v175 : BitVec 32 := Scalar.subi v172 v174
  let c4_i32_86 : BitVec 32 := 4#32
  let c0_i32_89 : BitVec 32 := 0#32
  let v176 : BitVec 1 := Scalar.cmpi .sgt c4_i32_86 c0_i32_89
  let v177 : BitVec 32 := Scalar.extui v176
  let c0_i32_90 : BitVec 32 := 0#32
  let v178 : BitVec 1 := Scalar.cmpi .slt c4_i32_86 c0_i32_90
  let v179 : BitVec 32 := Scalar.extui v178
  let v180 : BitVec 32 := Scalar.subi v177 v179
  let v181 : BitVec 1 := Scalar.cmpi .ne v175 v180
  let v182 : BitVec 32 := Scalar.remsi v147 c4_i32_86
  let c0_i32_91 : BitVec 32 := 0#32
  let v183 : BitVec 1 := Scalar.cmpi .ne v182 c0_i32_91
  let v184 : BitVec 1 := Scalar.andi v181 v183
  let v170 : BitVec 32 := Scalar.divsi v147 c4_i32_86
  let c1_i32_92 : BitVec 32 := 1#32
  let v185 : BitVec 32 := Scalar.subi v170 c1_i32_92
  let v186 : BitVec 32 := Scalar.select v184 v185 v170
  let c4_i32_93 : BitVec 32 := 4#32
  let v187 : BitVec 32 := Scalar.muli v186 c4_i32_93
  let c384_i32_130 : BitVec 32 := 384#32
  let v263 : BitVec 32 := Scalar.muli v187 c384_i32_130
  let v264 : BitVec 32 := v263
  let v299 : Index := Scalar.indexCast v264
  let c0_140 : Index := 0#32
  ![v299.toNat, 0]
def k0_cond5 (i : grid0.Coords) : BitVec 1 :=
  let arg2 : BitVec 32 := BitVec.ofNat 32 (i 2).val
  let c1_i32_73 : BitVec 32 := 1#32
  let v147 : BitVec 32 := Scalar.addi arg2 c1_i32_73
  let c0_i32_87 : BitVec 32 := 0#32
  let v171 : BitVec 1 := Scalar.cmpi .sgt v147 c0_i32_87
  let v172 : BitVec 32 := Scalar.extui v171
  let c0_i32_88 : BitVec 32 := 0#32
  let v173 : BitVec 1 := Scalar.cmpi .slt v147 c0_i32_88
  let v174 : BitVec 32 := Scalar.extui v173
  let v175 : BitVec 32 := Scalar.subi v172 v174
  let c4_i32_86 : BitVec 32 := 4#32
  let c0_i32_89 : BitVec 32 := 0#32
  let v176 : BitVec 1 := Scalar.cmpi .sgt c4_i32_86 c0_i32_89
  let v177 : BitVec 32 := Scalar.extui v176
  let c0_i32_90 : BitVec 32 := 0#32
  let v178 : BitVec 1 := Scalar.cmpi .slt c4_i32_86 c0_i32_90
  let v179 : BitVec 32 := Scalar.extui v178
  let v180 : BitVec 32 := Scalar.subi v177 v179
  let v181 : BitVec 1 := Scalar.cmpi .ne v175 v180
  let v182 : BitVec 32 := Scalar.remsi v147 c4_i32_86
  let c0_i32_91 : BitVec 32 := 0#32
  let v183 : BitVec 1 := Scalar.cmpi .ne v182 c0_i32_91
  let v184 : BitVec 1 := Scalar.andi v181 v183
  let v170 : BitVec 32 := Scalar.divsi v147 c4_i32_86
  let c1_i32_92 : BitVec 32 := 1#32
  let v185 : BitVec 32 := Scalar.subi v170 c1_i32_92
  let v186 : BitVec 32 := Scalar.select v184 v185 v170
  let c4_i32_93 : BitVec 32 := 4#32
  let v187 : BitVec 32 := Scalar.muli v186 c4_i32_93
  let v188 : BitVec 32 := Scalar.subi v147 v187
  let c4_i32_94 : BitVec 32 := 4#32
  let c0_i32_95 : BitVec 32 := 0#32
  let v189 : BitVec 1 := Scalar.cmpi .eq c4_i32_94 c0_i32_95
  let c1_i32_96 : BitVec 32 := 1#32
  let v190 : BitVec 32 := Scalar.select v189 c1_i32_96 c4_i32_94
  let v191 : BitVec 32 := Scalar.remsi v188 v190
  let c0_i32_98 : BitVec 32 := 0#32
  let v193 : BitVec 1 := Scalar.cmpi .slt v191 c0_i32_98
  let c0_i32_99 : BitVec 32 := 0#32
  let v194 : BitVec 1 := Scalar.cmpi .slt v190 c0_i32_99
  let v195 : BitVec 1 := Scalar.xori v193 v194
  let c0_i32_97 : BitVec 32 := 0#32
  let v192 : BitVec 1 := Scalar.cmpi .ne v191 c0_i32_97
  let v196 : BitVec 1 := Scalar.andi v195 v192
  let v197 : BitVec 32 := Scalar.addi v191 v190
  let v198 : BitVec 32 := Scalar.select v196 v197 v191
  let c2_i32_100 : BitVec 32 := 2#32
  let v199 : BitVec 1 := Scalar.cmpi .sge v198 c2_i32_100
  let c2_i32_102 : BitVec 32 := 2#32
  let c0_i32_103 : BitVec 32 := 0#32
  let v202 : BitVec 32 := Scalar.select v199 c2_i32_102 c0_i32_103
  let v203 : BitVec 32 := Scalar.addi v187 v202
  let v204 : BitVec 32 := Scalar.subi v147 v203
  let c2_i32_104 : BitVec 32 := 2#32
  let c0_i32_105 : BitVec 32 := 0#32
  let v205 : BitVec 1 := Scalar.cmpi .eq c2_i32_104 c0_i32_105
  let c1_i32_106 : BitVec 32 := 1#32
  let v206 : BitVec 32 := Scalar.select v205 c1_i32_106 c2_i32_104
  let v207 : BitVec 32 := Scalar.remsi v204 v206
  let c0_i32_108 : BitVec 32 := 0#32
  let v209 : BitVec 1 := Scalar.cmpi .slt v207 c0_i32_108
  let c0_i32_109 : BitVec 32 := 0#32
  let v210 : BitVec 1 := Scalar.cmpi .slt v206 c0_i32_109
  let v211 : BitVec 1 := Scalar.xori v209 v210
  let c0_i32_107 : BitVec 32 := 0#32
  let v208 : BitVec 1 := Scalar.cmpi .ne v207 c0_i32_107
  let v212 : BitVec 1 := Scalar.andi v211 v208
  let v213 : BitVec 32 := Scalar.addi v207 v206
  let v214 : BitVec 32 := Scalar.select v212 v213 v207
  let c1_i32_110 : BitVec 32 := 1#32
  let v215 : BitVec 1 := Scalar.cmpi .sge v214 c1_i32_110
  let v216 : BitVec 32 := Scalar.extui v215
  let c0_i32_111 : BitVec 32 := 0#32
  let v217 : BitVec 1 := Scalar.cmpi .ne v216 c0_i32_111
  v217

def k0_mult10 (i : grid0.Coords) : BitVec 32 :=
  let arg2 : BitVec 32 := BitVec.ofNat 32 (i 2).val
  let c1_i32_73 : BitVec 32 := 1#32
  let v147 : BitVec 32 := Scalar.addi arg2 c1_i32_73
  let c0_i32_87 : BitVec 32 := 0#32
  let v171 : BitVec 1 := Scalar.cmpi .sgt v147 c0_i32_87
  let v172 : BitVec 32 := Scalar.extui v171
  let c0_i32_88 : BitVec 32 := 0#32
  let v173 : BitVec 1 := Scalar.cmpi .slt v147 c0_i32_88
  let v174 : BitVec 32 := Scalar.extui v173
  let v175 : BitVec 32 := Scalar.subi v172 v174
  let c4_i32_86 : BitVec 32 := 4#32
  let c0_i32_89 : BitVec 32 := 0#32
  let v176 : BitVec 1 := Scalar.cmpi .sgt c4_i32_86 c0_i32_89
  let v177 : BitVec 32 := Scalar.extui v176
  let c0_i32_90 : BitVec 32 := 0#32
  let v178 : BitVec 1 := Scalar.cmpi .slt c4_i32_86 c0_i32_90
  let v179 : BitVec 32 := Scalar.extui v178
  let v180 : BitVec 32 := Scalar.subi v177 v179
  let v181 : BitVec 1 := Scalar.cmpi .ne v175 v180
  let v182 : BitVec 32 := Scalar.remsi v147 c4_i32_86
  let c0_i32_91 : BitVec 32 := 0#32
  let v183 : BitVec 1 := Scalar.cmpi .ne v182 c0_i32_91
  let v184 : BitVec 1 := Scalar.andi v181 v183
  let v170 : BitVec 32 := Scalar.divsi v147 c4_i32_86
  let c1_i32_92 : BitVec 32 := 1#32
  let v185 : BitVec 32 := Scalar.subi v170 c1_i32_92
  let v186 : BitVec 32 := Scalar.select v184 v185 v170
  let c4_i32_93 : BitVec 32 := 4#32
  let v187 : BitVec 32 := Scalar.muli v186 c4_i32_93
  let v188 : BitVec 32 := Scalar.subi v147 v187
  let c4_i32_94 : BitVec 32 := 4#32
  let c0_i32_95 : BitVec 32 := 0#32
  let v189 : BitVec 1 := Scalar.cmpi .eq c4_i32_94 c0_i32_95
  let c1_i32_96 : BitVec 32 := 1#32
  let v190 : BitVec 32 := Scalar.select v189 c1_i32_96 c4_i32_94
  let v191 : BitVec 32 := Scalar.remsi v188 v190
  let c0_i32_98 : BitVec 32 := 0#32
  let v193 : BitVec 1 := Scalar.cmpi .slt v191 c0_i32_98
  let c0_i32_99 : BitVec 32 := 0#32
  let v194 : BitVec 1 := Scalar.cmpi .slt v190 c0_i32_99
  let v195 : BitVec 1 := Scalar.xori v193 v194
  let c0_i32_97 : BitVec 32 := 0#32
  let v192 : BitVec 1 := Scalar.cmpi .ne v191 c0_i32_97
  let v196 : BitVec 1 := Scalar.andi v195 v192
  let v197 : BitVec 32 := Scalar.addi v191 v190
  let v198 : BitVec 32 := Scalar.select v196 v197 v191
  let c2_i32_100 : BitVec 32 := 2#32
  let v199 : BitVec 1 := Scalar.cmpi .sge v198 c2_i32_100
  let c2_i32_102 : BitVec 32 := 2#32
  let c0_i32_103 : BitVec 32 := 0#32
  let v202 : BitVec 32 := Scalar.select v199 c2_i32_102 c0_i32_103
  let v203 : BitVec 32 := Scalar.addi v187 v202
  let c384_i32_130 : BitVec 32 := 384#32
  let v263 : BitVec 32 := Scalar.muli v203 c384_i32_130
  v263
def k0_off31 (i : grid0.Coords) : Fin 2 → Nat :=
  let c0_131 : Index := 0#32
  let arg2 : BitVec 32 := BitVec.ofNat 32 (i 2).val
  let c1_i32_73 : BitVec 32 := 1#32
  let v147 : BitVec 32 := Scalar.addi arg2 c1_i32_73
  let c0_i32_87 : BitVec 32 := 0#32
  let v171 : BitVec 1 := Scalar.cmpi .sgt v147 c0_i32_87
  let v172 : BitVec 32 := Scalar.extui v171
  let c0_i32_88 : BitVec 32 := 0#32
  let v173 : BitVec 1 := Scalar.cmpi .slt v147 c0_i32_88
  let v174 : BitVec 32 := Scalar.extui v173
  let v175 : BitVec 32 := Scalar.subi v172 v174
  let c4_i32_86 : BitVec 32 := 4#32
  let c0_i32_89 : BitVec 32 := 0#32
  let v176 : BitVec 1 := Scalar.cmpi .sgt c4_i32_86 c0_i32_89
  let v177 : BitVec 32 := Scalar.extui v176
  let c0_i32_90 : BitVec 32 := 0#32
  let v178 : BitVec 1 := Scalar.cmpi .slt c4_i32_86 c0_i32_90
  let v179 : BitVec 32 := Scalar.extui v178
  let v180 : BitVec 32 := Scalar.subi v177 v179
  let v181 : BitVec 1 := Scalar.cmpi .ne v175 v180
  let v182 : BitVec 32 := Scalar.remsi v147 c4_i32_86
  let c0_i32_91 : BitVec 32 := 0#32
  let v183 : BitVec 1 := Scalar.cmpi .ne v182 c0_i32_91
  let v184 : BitVec 1 := Scalar.andi v181 v183
  let v170 : BitVec 32 := Scalar.divsi v147 c4_i32_86
  let c1_i32_92 : BitVec 32 := 1#32
  let v185 : BitVec 32 := Scalar.subi v170 c1_i32_92
  let v186 : BitVec 32 := Scalar.select v184 v185 v170
  let c4_i32_93 : BitVec 32 := 4#32
  let v187 : BitVec 32 := Scalar.muli v186 c4_i32_93
  let v188 : BitVec 32 := Scalar.subi v147 v187
  let c4_i32_94 : BitVec 32 := 4#32
  let c0_i32_95 : BitVec 32 := 0#32
  let v189 : BitVec 1 := Scalar.cmpi .eq c4_i32_94 c0_i32_95
  let c1_i32_96 : BitVec 32 := 1#32
  let v190 : BitVec 32 := Scalar.select v189 c1_i32_96 c4_i32_94
  let v191 : BitVec 32 := Scalar.remsi v188 v190
  let c0_i32_98 : BitVec 32 := 0#32
  let v193 : BitVec 1 := Scalar.cmpi .slt v191 c0_i32_98
  let c0_i32_99 : BitVec 32 := 0#32
  let v194 : BitVec 1 := Scalar.cmpi .slt v190 c0_i32_99
  let v195 : BitVec 1 := Scalar.xori v193 v194
  let c0_i32_97 : BitVec 32 := 0#32
  let v192 : BitVec 1 := Scalar.cmpi .ne v191 c0_i32_97
  let v196 : BitVec 1 := Scalar.andi v195 v192
  let v197 : BitVec 32 := Scalar.addi v191 v190
  let v198 : BitVec 32 := Scalar.select v196 v197 v191
  let c2_i32_100 : BitVec 32 := 2#32
  let v199 : BitVec 1 := Scalar.cmpi .sge v198 c2_i32_100
  let c2_i32_102 : BitVec 32 := 2#32
  let c0_i32_103 : BitVec 32 := 0#32
  let v202 : BitVec 32 := Scalar.select v199 c2_i32_102 c0_i32_103
  let v203 : BitVec 32 := Scalar.addi v187 v202
  let c384_i32_130 : BitVec 32 := 384#32
  let v263 : BitVec 32 := Scalar.muli v203 c384_i32_130
  let v264 : BitVec 32 := v263
  let v265 : Index := Scalar.indexCast v264
  ![0, v265.toNat]
def k0_off32 (i : grid0.Coords) : Fin 2 → Nat :=
  let arg2 : BitVec 32 := BitVec.ofNat 32 (i 2).val
  let c1_i32_73 : BitVec 32 := 1#32
  let v147 : BitVec 32 := Scalar.addi arg2 c1_i32_73
  let c0_i32_87 : BitVec 32 := 0#32
  let v171 : BitVec 1 := Scalar.cmpi .sgt v147 c0_i32_87
  let v172 : BitVec 32 := Scalar.extui v171
  let c0_i32_88 : BitVec 32 := 0#32
  let v173 : BitVec 1 := Scalar.cmpi .slt v147 c0_i32_88
  let v174 : BitVec 32 := Scalar.extui v173
  let v175 : BitVec 32 := Scalar.subi v172 v174
  let c4_i32_86 : BitVec 32 := 4#32
  let c0_i32_89 : BitVec 32 := 0#32
  let v176 : BitVec 1 := Scalar.cmpi .sgt c4_i32_86 c0_i32_89
  let v177 : BitVec 32 := Scalar.extui v176
  let c0_i32_90 : BitVec 32 := 0#32
  let v178 : BitVec 1 := Scalar.cmpi .slt c4_i32_86 c0_i32_90
  let v179 : BitVec 32 := Scalar.extui v178
  let v180 : BitVec 32 := Scalar.subi v177 v179
  let v181 : BitVec 1 := Scalar.cmpi .ne v175 v180
  let v182 : BitVec 32 := Scalar.remsi v147 c4_i32_86
  let c0_i32_91 : BitVec 32 := 0#32
  let v183 : BitVec 1 := Scalar.cmpi .ne v182 c0_i32_91
  let v184 : BitVec 1 := Scalar.andi v181 v183
  let v170 : BitVec 32 := Scalar.divsi v147 c4_i32_86
  let c1_i32_92 : BitVec 32 := 1#32
  let v185 : BitVec 32 := Scalar.subi v170 c1_i32_92
  let v186 : BitVec 32 := Scalar.select v184 v185 v170
  let c4_i32_93 : BitVec 32 := 4#32
  let v187 : BitVec 32 := Scalar.muli v186 c4_i32_93
  let v188 : BitVec 32 := Scalar.subi v147 v187
  let c4_i32_94 : BitVec 32 := 4#32
  let c0_i32_95 : BitVec 32 := 0#32
  let v189 : BitVec 1 := Scalar.cmpi .eq c4_i32_94 c0_i32_95
  let c1_i32_96 : BitVec 32 := 1#32
  let v190 : BitVec 32 := Scalar.select v189 c1_i32_96 c4_i32_94
  let v191 : BitVec 32 := Scalar.remsi v188 v190
  let c0_i32_98 : BitVec 32 := 0#32
  let v193 : BitVec 1 := Scalar.cmpi .slt v191 c0_i32_98
  let c0_i32_99 : BitVec 32 := 0#32
  let v194 : BitVec 1 := Scalar.cmpi .slt v190 c0_i32_99
  let v195 : BitVec 1 := Scalar.xori v193 v194
  let c0_i32_97 : BitVec 32 := 0#32
  let v192 : BitVec 1 := Scalar.cmpi .ne v191 c0_i32_97
  let v196 : BitVec 1 := Scalar.andi v195 v192
  let v197 : BitVec 32 := Scalar.addi v191 v190
  let v198 : BitVec 32 := Scalar.select v196 v197 v191
  let c2_i32_100 : BitVec 32 := 2#32
  let v199 : BitVec 1 := Scalar.cmpi .sge v198 c2_i32_100
  let c2_i32_102 : BitVec 32 := 2#32
  let c0_i32_103 : BitVec 32 := 0#32
  let v202 : BitVec 32 := Scalar.select v199 c2_i32_102 c0_i32_103
  let v203 : BitVec 32 := Scalar.addi v187 v202
  let c384_i32_130 : BitVec 32 := 384#32
  let v263 : BitVec 32 := Scalar.muli v203 c384_i32_130
  let v264 : BitVec 32 := v263
  let v287 : Index := Scalar.indexCast v264
  let c0_140 : Index := 0#32
  ![v287.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

abbrev stage0_0 : Fin 2 → Memref sig .tc .vmem S384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4224x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4224x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x768x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S384x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "neg" => some ⊥
  | "scale" => some (((Real.sqrt 128)⁻¹ * (Real.log 2)⁻¹ : ℝ) : EReal)
  | _ => none
-- ==== ReferenceIdeal.lean ====
abbrev S8448x2048 : Shape := ⟨2, ![8448, 2048]⟩
abbrev S32x16 : Shape := ⟨2, ![32, 16]⟩
abbrev S4x128 : Shape := ⟨2, ![4, 128]⟩
abbrev S256 : Shape := ⟨1, ![256]⟩
abbrev S2x4224x8x2x128 : Shape := ⟨5, ![2, 4224, 8, 2, 128]⟩
abbrev S2x4224x8x256 : Shape := ⟨4, ![2, 4224, 8, 256]⟩
abbrev S1x128 : Shape := ⟨2, ![1, 128]⟩
abbrev S128 : Shape := ⟨1, ![128]⟩
abbrev S_ : Shape := ⟨0, ![]⟩
abbrev S4224 : Shape := ⟨1, ![4224]⟩
abbrev S4224x1 : Shape := ⟨2, ![4224, 1]⟩
abbrev S1x4224 : Shape := ⟨2, ![1, 4224]⟩
abbrev S4224x4224 : Shape := ⟨2, ![4224, 4224]⟩
abbrev S4224x4224x1 : Shape := ⟨3, ![4224, 4224, 1]⟩
abbrev S4224x4224x16 : Shape := ⟨3, ![4224, 4224, 16]⟩
abbrev S16x4224x4224 : Shape := ⟨3, ![16, 4224, 4224]⟩
abbrev S8x2x4224x4224 : Shape := ⟨4, ![8, 2, 4224, 4224]⟩
abbrev S2x8x2x4224x4224 : Shape := ⟨5, ![2, 8, 2, 4224, 4224]⟩
abbrev S1x8x2x4224x4224 : Shape := ⟨5, ![1, 8, 2, 4224, 4224]⟩
abbrev S2x8x2x4224 : Shape := ⟨4, ![2, 8, 2, 4224]⟩
abbrev S2x8x2x4224x1 : Shape := ⟨5, ![2, 8, 2, 4224, 1]⟩
abbrev S2x8x1x4224x4224 : Shape := ⟨5, ![2, 8, 1, 4224, 4224]⟩
abbrev S2x8x4224x4224 : Shape := ⟨4, ![2, 8, 4224, 4224]⟩
abbrev S2x8x256x4224 : Shape := ⟨4, ![2, 8, 256, 4224]⟩
abbrev S2x4224x8 : Shape := ⟨3, ![2, 4224, 8]⟩
abbrev S2x4224x8x1 : Shape := ⟨4, ![2, 4224, 8, 1]⟩
abbrev S1x1x1x256 : Shape := ⟨4, ![1, 1, 1, 256]⟩

abbrev nBuf : Space → Nat
  | .hbm => 133
  | .vmem => 0
  | .smem => 0
  | _ => 0

abbrev hbmTy0_0 (i : Nat) : BufTy := match i % 128 with
  | 0 => ⟨S8448x2048, .f32⟩
  | 1 => ⟨S8448x2048, .f32⟩
  | 2 => ⟨S8448x2048, .f32⟩
  | 3 => ⟨S32x16, .f32⟩
  | 4 => ⟨S4x128, .f32⟩
  | 5 => ⟨S256, .f32⟩
  | 6 => ⟨S2x4224x8x2x128, .f32⟩
  | 7 => ⟨S2x4224x8x2x128, .f32⟩
  | 8 => ⟨S2x4224x8x256, .f32⟩
  | 9 => ⟨S1x128, .f32⟩
  | 10 => ⟨S128, .f32⟩
  | 11 => ⟨S1x128, .f32⟩
  | 12 => ⟨S128, .f32⟩
  | 13 => ⟨S128, .f32⟩
  | 14 => ⟨S_, .f32⟩
  | 15 => ⟨S_, .f32⟩
  | 16 => ⟨S_, .f32⟩
  | 17 => ⟨S1x128, .f32⟩
  | 18 => ⟨S128, .f32⟩
  | 19 => ⟨S1x128, .f32⟩
  | 20 => ⟨S128, .f32⟩
  | 21 => ⟨S128, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S4224, .i32⟩
  | 29 => ⟨S4224x1, .i32⟩
  | 30 => ⟨S1x4224, .i32⟩
  | 31 => ⟨S4224x4224, .i32⟩
  | 32 => ⟨S4224x4224, .i32⟩
  | 33 => ⟨S4224x4224, .i32⟩
  | 34 => ⟨S_, .i32⟩
  | 35 => ⟨S4224x4224, .i32⟩
  | 36 => ⟨S4224x4224, .i32⟩
  | 37 => ⟨S_, .i32⟩
  | 38 => ⟨S4224x4224, .i32⟩
  | 39 => ⟨S4224x4224, .i32⟩
  | 40 => ⟨S4224x4224, .f32⟩
  | 41 => ⟨S_, .f32⟩
  | 42 => ⟨S4224x4224, .f32⟩
  | 43 => ⟨S4224x4224, .f32⟩
  | 44 => ⟨S4224x4224, .f32⟩
  | 45 => ⟨S_, .f32⟩
  | 46 => ⟨S4224x4224, .f32⟩
  | 47 => ⟨S4224x4224, .f32⟩
  | 48 => ⟨S_, .f32⟩
  | 49 => ⟨S4224x4224, .f32⟩
  | 50 => ⟨S4224x4224, .f32⟩
  | 51 => ⟨S4224x4224, .i32⟩
  | 52 => ⟨S_, .i32⟩
  | 53 => ⟨S4224x4224, .i32⟩
  | 54 => ⟨S4224x4224, .i32⟩
  | 55 => ⟨S_, .i32⟩
  | 56 => ⟨S4224x4224, .i32⟩
  | 57 => ⟨S4224x4224, .i1⟩
  | 58 => ⟨S_, .i32⟩
  | 59 => ⟨S4224x4224, .i32⟩
  | 60 => ⟨S4224x4224, .i32⟩
  | 61 => ⟨S4224x4224, .i32⟩
  | 62 => ⟨S_, .i32⟩
  | 63 => ⟨S4224x4224, .i32⟩
  | 64 => ⟨S4224x4224, .i1⟩
  | 65 => ⟨S_, .i32⟩
  | 66 => ⟨S4224x4224, .i32⟩
  | 67 => ⟨S4224x4224, .i32⟩
  | 68 => ⟨S4224x4224, .i32⟩
  | 69 => ⟨S4224x4224x1, .i32⟩
  | 70 => ⟨S4224x4224x16, .f32⟩
  | 71 => ⟨S16x4224x4224, .f32⟩
  | 72 => ⟨S8x2x4224x4224, .f32⟩
  | 73 => ⟨S2x8x2x4224x4224, .f32⟩
  | 74 => ⟨S_, .f32⟩
  | 75 => ⟨S_, .f32⟩
  | 76 => ⟨S2x8x2x4224x4224, .f32⟩
  | 77 => ⟨S2x8x2x4224x4224, .f32⟩
  | 78 => ⟨S1x8x2x4224x4224, .f32⟩
  | 79 => ⟨S2x8x2x4224x4224, .f32⟩
  | 80 => ⟨S2x8x2x4224x4224, .f32⟩
  | 81 => ⟨S_, .i32⟩
  | 82 => ⟨S4224x4224, .i32⟩
  | 83 => ⟨S4224x4224, .i1⟩
  | 84 => ⟨S_, .f32⟩
  | 85 => ⟨S_, .f32⟩
  | 86 => ⟨S2x8x2x4224x4224, .i1⟩
  | 87 => ⟨S2x8x2x4224x4224, .f32⟩
  | 88 => ⟨S2x8x2x4224x4224, .f32⟩
  | 89 => ⟨S_, .f32⟩
  | 90 => ⟨S2x8x2x4224, .f32⟩
  | 91 => ⟨S_, .f32⟩
  | 92 => ⟨S2x8x2x4224, .f32⟩
  | 93 => ⟨S2x8x2x4224, .f32⟩
  | 94 => ⟨S2x8x2x4224x1, .f32⟩
  | 95 => ⟨S2x8x2x4224x4224, .f32⟩
  | 96 => ⟨S2x8x2x4224x4224, .f32⟩
  | 97 => ⟨S2x8x2x4224x4224, .f32⟩
  | 98 => ⟨S_, .f32⟩
  | 99 => ⟨S2x8x2x4224, .f32⟩
  | 100 => ⟨S2x8x2x4224x1, .f32⟩
  | 101 => ⟨S2x8x2x4224x4224, .f32⟩
  | 102 => ⟨S2x8x2x4224x4224, .f32⟩
  | 103 => ⟨S2x8x1x4224x4224, .f32⟩
  | 104 => ⟨S2x8x4224x4224, .f32⟩
  | 105 => ⟨S2x8x1x4224x4224, .f32⟩
  | 106 => ⟨S2x8x4224x4224, .f32⟩
  | 107 => ⟨S2x8x4224x4224, .f32⟩
  | 108 => ⟨S2x8x4224x4224, .f32⟩
  | 109 => ⟨S2x8x4224x4224, .f32⟩
  | 110 => ⟨S2x8x256x4224, .f32⟩
  | 111 => ⟨S2x4224x8x256, .f32⟩
  | 112 => ⟨S2x4224x8x256, .f32⟩
  | 113 => ⟨S_, .f32⟩
  | 114 => ⟨S2x4224x8, .f32⟩
  | 115 => ⟨S2x4224x8x1, .f32⟩
  | 116 => ⟨S_, .f32⟩
  | 117 => ⟨S2x4224x8x1, .f32⟩
  | 118 => ⟨S2x4224x8x1, .f32⟩
  | 119 => ⟨S_, .f32⟩
  | 120 => ⟨S2x4224x8x1, .f32⟩
  | 121 => ⟨S2x4224x8x1, .f32⟩
  | 122 => ⟨S2x4224x8x1, .f32⟩
  | 123 => ⟨S2x4224x8x256, .f32⟩
  | 124 => ⟨S2x4224x8x256, .f32⟩
  | 125 => ⟨S1x1x1x256, .f32⟩
  | 126 => ⟨S2x4224x8x256, .f32⟩
  | 127 => ⟨S2x4224x8x256, .f32⟩
  | _ => ⟨S8448x2048, .f32⟩

abbrev hbmTy0_1 (i : Nat) : BufTy := match i % 128 with
  | 0 => ⟨S_, .f32⟩
  | 1 => ⟨S2x4224x8x256, .f32⟩
  | 2 => ⟨S2x4224x8x256, .f32⟩
  | 3 => ⟨S8448x2048, .f32⟩
  | 4 => ⟨S8448x2048, .bf16⟩
  | _ => ⟨S8448x2048, .f32⟩

abbrev hbmTy (i : Nat) : BufTy := match i / 128 with
  | 0 => hbmTy0_0 i
  | 1 => hbmTy0_1 i
  | _ => ⟨S8448x2048, .f32⟩

abbrev bufTy : (tb : Table) → Fin (tcTables nBuf tb) → BufTy
  | .hbm, ⟨i, _⟩ => hbmTy i
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_c_7 : Ref sig .tc := ⟨.hbm, 55, rfl⟩
abbrev main_v40 : Ref sig .tc := ⟨.hbm, 56, rfl⟩
abbrev main_v41 : Ref sig .tc := ⟨.hbm, 57, rfl⟩
abbrev main_c_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_12 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v63 : Ref sig .tc := ⟨.hbm, 88, rfl⟩
abbrev main_cst_14 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_16 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_17 : Ref sig .tc := ⟨.hbm, 113, rfl⟩
abbrev main_v85 : Ref sig .tc := ⟨.hbm, 114, rfl⟩
abbrev main_v86 : Ref sig .tc := ⟨.hbm, 115, rfl⟩
abbrev main_cst_18 : Ref sig .tc := ⟨.hbm, 116, rfl⟩
abbrev main_v87 : Ref sig .tc := ⟨.hbm, 117, rfl⟩
abbrev main_v88 : Ref sig .tc := ⟨.hbm, 118, rfl⟩
abbrev main_cst_19 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_20 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩

abbrev nD : Nat := 1
abbrev τ : Topo := Topo.v7x

variable {F : FTy → Type} [FloatOps F]
-- ==== KernelUp.lean ====
abbrev S8704x2048 : Shape := ⟨2, ![8704, 2048]⟩
abbrev S4x2048x8192 : Shape := ⟨3, ![4, 2048, 8192]⟩
abbrev S8704x8192 : Shape := ⟨2, ![8704, 8192]⟩
abbrev S1088x2048 : Shape := ⟨2, ![1088, 2048]⟩
abbrev S1x2048x1024 : Shape := ⟨3, ![1, 2048, 1024]⟩
abbrev S1088x1024 : Shape := ⟨2, ![1088, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8704x2048, .f32⟩
  | .hbm, ⟨1, _⟩ => ⟨S4x2048x8192, .f32⟩
  | .hbm, ⟨2, _⟩ => ⟨S8704x2048, .bf16⟩
  | .hbm, ⟨3, _⟩ => ⟨S8704x8192, .bf16⟩
  | .local _ .vmem, ⟨0, _⟩ => ⟨S1088x2048, .bf16⟩
  | .local _ .vmem, ⟨1, _⟩ => ⟨S1088x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1088x1024, .bf16⟩
  | .local _ .vmem, ⟨5, _⟩ => ⟨S1088x1024, .bf16⟩
  | .local _ .vmem, ⟨6, _⟩ => ⟨S2048x1024, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceUpIdeal.lean ====
abbrev S8704x2048 : Shape := ⟨2, ![8704, 2048]⟩
abbrev S4x2048x8192 : Shape := ⟨3, ![4, 2048, 8192]⟩
abbrev S1x2048x8192 : Shape := ⟨3, ![1, 2048, 8192]⟩
abbrev S2048x8192 : Shape := ⟨2, ![2048, 8192]⟩
abbrev S8704x8192 : Shape := ⟨2, ![8704, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S4x2048x8192, .f32⟩
  | .hbm, ⟨2, _⟩ => ⟨S1x2048x8192, .f32⟩
  | .hbm, ⟨3, _⟩ => ⟨S2048x8192, .f32⟩
  | .hbm, ⟨4, _⟩ => ⟨S8704x8192, .f32⟩
  | .hbm, ⟨5, _⟩ => ⟨S_, .f32⟩
  | .hbm, ⟨6, _⟩ => ⟨S8704x8192, .f32⟩
  | .hbm, ⟨7, _⟩ => ⟨S8704x8192, .f32⟩
  | .hbm, ⟨8, _⟩ => ⟨S8704x8192, .f32⟩
  | .hbm, ⟨9, _⟩ => ⟨S8704x8192, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelDown.lean ====
abbrev S8704x8192 : Shape := ⟨2, ![8704, 8192]⟩
abbrev S4x8192x2048 : Shape := ⟨3, ![4, 8192, 2048]⟩
abbrev S8704x2048 : Shape := ⟨2, ![8704, 2048]⟩
abbrev S1088x2048 : Shape := ⟨2, ![1088, 2048]⟩
abbrev S1x2048x1024 : Shape := ⟨3, ![1, 2048, 1024]⟩
abbrev S1088x1024 : Shape := ⟨2, ![1088, 1024]⟩
abbrev S2048x1024 : Shape := ⟨2, ![2048, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8704x8192, .f32⟩
  | .hbm, ⟨1, _⟩ => ⟨S4x8192x2048, .f32⟩
  | .hbm, ⟨2, _⟩ => ⟨S8704x2048, .f32⟩
  | .hbm, ⟨3, _⟩ => ⟨S8704x8192, .bf16⟩
  | .hbm, ⟨4, _⟩ => ⟨S4x8192x2048, .bf16⟩
  | .hbm, ⟨5, _⟩ => ⟨S8704x2048, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | .local _ .vmem, ⟨8, _⟩ => ⟨S1088x1024, .f32⟩
  | _, _ => ⟨S8704x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S8704x8192 : Shape := ⟨2, ![8704, 8192]⟩
abbrev S4x8192x2048 : Shape := ⟨3, ![4, 8192, 2048]⟩
abbrev S8704x2048 : Shape := ⟨2, ![8704, 2048]⟩
abbrev S1x8192x2048 : Shape := ⟨3, ![1, 8192, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8704x8192, .f32⟩
  | .hbm, ⟨1, _⟩ => ⟨S4x8192x2048, .f32⟩
  | .hbm, ⟨2, _⟩ => ⟨S8704x2048, .f32⟩
  | .hbm, ⟨3, _⟩ => ⟨S1x8192x2048, .f32⟩
  | .hbm, ⟨4, _⟩ => ⟨S8192x2048, .f32⟩
  | .hbm, ⟨5, _⟩ => ⟨S8704x2048, .f32⟩
  | .hbm, ⟨6, _⟩ => ⟨S8704x2048, .f32⟩
  | _, _ => ⟨S8704x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelIn.lean ====
abbrev S8704x2048 : Shape := ⟨2, ![8704, 2048]⟩
abbrev S2x2048x6144 : Shape := ⟨3, ![2, 2048, 6144]⟩
abbrev S8704x6144 : Shape := ⟨2, ![8704, 6144]⟩
abbrev S1088x2048 : Shape := ⟨2, ![1088, 2048]⟩
abbrev S1x2048x1024 : Shape := ⟨3, ![1, 2048, 1024]⟩
abbrev S1088x1024 : Shape := ⟨2, ![1088, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8704x2048, .f32⟩
  | .hbm, ⟨1, _⟩ => ⟨S2x2048x6144, .f32⟩
  | .hbm, ⟨2, _⟩ => ⟨S8704x2048, .bf16⟩
  | .hbm, ⟨3, _⟩ => ⟨S8704x6144, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1088x1024, .f32⟩
  | .local _ .vmem, ⟨5, _⟩ => ⟨S1088x1024, .f32⟩
  | .local _ .vmem, ⟨6, _⟩ => ⟨S2048x1024, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInIdeal.lean ====
abbrev S8704x2048 : Shape := ⟨2, ![8704, 2048]⟩
abbrev S2x2048x6144 : Shape := ⟨3, ![2, 2048, 6144]⟩
abbrev S1x2048x6144 : Shape := ⟨3, ![1, 2048, 6144]⟩
abbrev S2048x6144 : Shape := ⟨2, ![2048, 6144]⟩
abbrev S8704x6144 : Shape := ⟨2, ![8704, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2x2048x6144, .f32⟩
  | .hbm, ⟨2, _⟩ => ⟨S1x2048x6144, .f32⟩
  | .hbm, ⟨3, _⟩ => ⟨S2048x6144, .f32⟩
  | .hbm, ⟨4, _⟩ => ⟨S8704x6144, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelOut.lean ====
abbrev S8704x2048 : Shape := ⟨2, ![8704, 2048]⟩
abbrev S2x2048x2048 : Shape := ⟨3, ![2, 2048, 2048]⟩
abbrev S1088x2048 : Shape := ⟨2, ![1088, 2048]⟩
abbrev S1x2048x1024 : Shape := ⟨3, ![1, 2048, 1024]⟩
abbrev S1088x1024 : Shape := ⟨2, ![1088, 1024]⟩
abbrev S2048x1024 : Shape := ⟨2, ![2048, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8704x2048, .f32⟩
  | .hbm, ⟨1, _⟩ => ⟨S2x2048x2048, .f32⟩
  | .hbm, ⟨2, _⟩ => ⟨S8704x2048, .f32⟩
  | .hbm, ⟨3, _⟩ => ⟨S8704x2048, .bf16⟩
  | .hbm, ⟨4, _⟩ => ⟨S2x2048x2048, .bf16⟩
  | .hbm, ⟨5, _⟩ => ⟨S8704x2048, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | .local _ .vmem, ⟨8, _⟩ => ⟨S1088x1024, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOutIdeal.lean ====
abbrev S8704x2048 : Shape := ⟨2, ![8704, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2x2048x2048, .f32⟩
  | .hbm, ⟨2, _⟩ => ⟨S8704x2048, .f32⟩
  | .hbm, ⟨3, _⟩ => ⟨S1x2048x2048, .f32⟩
  | .hbm, ⟨4, _⟩ => ⟨S2048x2048, .f32⟩
  | .hbm, ⟨5, _⟩ => ⟨S8704x2048, .f32⟩
  | .hbm, ⟨6, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelInB.lean ====
abbrev S8704x2048 : Shape := ⟨2, ![8704, 2048]⟩
abbrev S2x2048x5264 : Shape := ⟨3, ![2, 2048, 5264]⟩
abbrev S_ : Shape := ⟨0, ![]⟩
abbrev S2x2048x5376 : Shape := ⟨3, ![2, 2048, 5376]⟩
abbrev S8704x5376 : Shape := ⟨2, ![8704, 5376]⟩
abbrev S1088x2048 : Shape := ⟨2, ![1088, 2048]⟩
abbrev S1x2048x768 : Shape := ⟨3, ![1, 2048, 768]⟩
abbrev S1088x768 : Shape := ⟨2, ![1088, 768]⟩
abbrev S2048x768 : Shape := ⟨2, ![2048, 768]⟩

abbrev nBuf : Space → Nat
  | .hbm => 8
  | .vmem => 7
  | .smem => 0
  | _ => 0

abbrev bufTy : (tb : Table) → Fin (tcTables nBuf tb) → BufTy
  | .hbm, ⟨0, _⟩ => ⟨S8704x2048, .f32⟩
  | .hbm, ⟨1, _⟩ => ⟨S2x2048x5264, .f32⟩
  | .hbm, ⟨2, _⟩ => ⟨S_, .i32⟩
  | .hbm, ⟨3, _⟩ => ⟨S_, .f32⟩
  | .hbm, ⟨4, _⟩ => ⟨S2x2048x5376, .f32⟩
  | .hbm, ⟨5, _⟩ => ⟨S2x2048x5376, .bf16⟩
  | .hbm, ⟨6, _⟩ => ⟨S8704x2048, .bf16⟩
  | .hbm, ⟨7, _⟩ => ⟨S8704x5376, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1088x768, .f32⟩
  | .local _ .vmem, ⟨5, _⟩ => ⟨S1088x768, .f32⟩
  | .local _ .vmem, ⟨6, _⟩ => ⟨S1088x768, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInBIdeal.lean ====
abbrev S8704x2048 : Shape := ⟨2, ![8704, 2048]⟩
abbrev S2x2048x5264 : Shape := ⟨3, ![2, 2048, 5264]⟩
abbrev S1x2048x5264 : Shape := ⟨3, ![1, 2048, 5264]⟩
abbrev S2048x5264 : Shape := ⟨2, ![2048, 5264]⟩
abbrev S8704x5264 : Shape := ⟨2, ![8704, 5264]⟩
abbrev S_ : Shape := ⟨0, ![]⟩
abbrev S8704x5376 : Shape := ⟨2, ![8704, 5376]⟩

abbrev nBuf : Space → Nat
  | .hbm => 8
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2x2048x5264, .f32⟩
  | .hbm, ⟨2, _⟩ => ⟨S1x2048x5264, .f32⟩
  | .hbm, ⟨3, _⟩ => ⟨S2048x5264, .f32⟩
  | .hbm, ⟨4, _⟩ => ⟨S8704x5264, .f32⟩
  | .hbm, ⟨5, _⟩ => ⟨S_, .i32⟩
  | .hbm, ⟨6, _⟩ => ⟨S_, .f32⟩
  | .hbm, ⟨7, _⟩ => ⟨S8704x5376, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelNorm.lean ====
abbrev S8704x2048 : Shape := ⟨2, ![8704, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S1x2048, .f32⟩
  | .hbm, ⟨3, _⟩ => ⟨S8704x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S8704x2048 : Shape := ⟨2, ![8704, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S8704x2048, .f32⟩
  | .hbm, ⟨3, _⟩ => ⟨S_, .f32⟩
  | .hbm, ⟨4, _⟩ => ⟨S8704, .f32⟩
  | .hbm, ⟨5, _⟩ => ⟨S8704x1, .f32⟩
  | .hbm, ⟨6, _⟩ => ⟨S_, .f32⟩
  | .hbm, ⟨7, _⟩ => ⟨S8704x1, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S8704x1, .f32⟩
  | .hbm, ⟨13, _⟩ => ⟨S8704x2048, .f32⟩
  | .hbm, ⟨14, _⟩ => ⟨S8704x2048, .f32⟩
  | .hbm, ⟨15, _⟩ => ⟨S1x2048, .f32⟩
  | .hbm, ⟨16, _⟩ => ⟨S8704x2048, .f32⟩
  | .hbm, ⟨17, _⟩ => ⟨S8704x2048, .f32⟩
  | .hbm, ⟨18, _⟩ => ⟨S8704x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelBias.lean ====
abbrev S32x16 : Shape := ⟨2, ![32, 16]⟩
abbrev S784x384 : Shape := ⟨2, ![784, 384]⟩
abbrev S512 : Shape := ⟨1, ![512]⟩
abbrev S16x784x384 : Shape := ⟨3, ![16, 784, 384]⟩
abbrev S1x784x384 : Shape := ⟨3, ![1, 784, 384]⟩
abbrev S1 : Shape := ⟨1, ![1]⟩

abbrev nBuf : Space → Nat
  | .hbm => 4
  | .vmem => 3
  | .smem => 1
  | _ => 0

abbrev bufTy : (tb : Table) → Fin (tcTables nBuf tb) → BufTy
  | .hbm, ⟨0, _⟩ => ⟨S32x16, .f32⟩
  | .hbm, ⟨1, _⟩ => ⟨S784x384, .i32⟩
  | .hbm, ⟨2, _⟩ => ⟨S512, .f32⟩
  | .hbm, ⟨3, _⟩ => ⟨S16x784x384, .f32⟩
  | .local _ .vmem, ⟨0, _⟩ => ⟨S784x384, .i32⟩
  | .local _ .vmem, ⟨1, _⟩ => ⟨S1x784x384, .f32⟩
  | .local _ .vmem, ⟨2, _⟩ => ⟨S1x784x384, .f32⟩
  | .local _ .smem, ⟨0, _⟩ => ⟨S512, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![16], ![false]⟩

def k0_off1 (i : grid0.Coords) (c0_i32_6 : BitVec 32) : Fin 1 → Nat :=
  let arg0 : BitVec 32 := BitVec.ofNat 32 (i 0).val
  let v24 : BitVec 32 := Scalar.addi c0_i32_6 arg0
  let v25 : Index := Scalar.indexCast v24
  ![v25.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S784x384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x784x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelBiasIdeal.lean ====
variable {F : FTy → Type} [FloatOps F] [Named F]
def κ : String → Option EReal := fun
  | "log2e" => some (((Real.log 2)⁻¹ : ℝ) : EReal)
  | "neg" => some ⊥
  | _ => none
-- ==== ReferenceBiasIdeal.lean ====
abbrev S32x16 : Shape := ⟨2, ![32, 16]⟩
abbrev S784x384 : Shape := ⟨2, ![784, 384]⟩
abbrev S_ : Shape := ⟨0, ![]⟩
abbrev S784x384x1 : Shape := ⟨3, ![784, 384, 1]⟩
abbrev S784x384x16 : Shape := ⟨3, ![784, 384, 16]⟩
abbrev S1x16 : Shape := ⟨2, ![1, 16]⟩
abbrev S16 : Shape := ⟨1, ![16]⟩
abbrev S1x1x16 : Shape := ⟨3, ![1, 1, 16]⟩
abbrev S16x784x384 : Shape := ⟨3, ![16, 784, 384]⟩

abbrev nBuf : Space → Nat
  | .hbm => 57
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S784x384, .i32⟩
  | .hbm, ⟨2, _⟩ => ⟨S_, .i32⟩
  | .hbm, ⟨3, _⟩ => ⟨S784x384, .i32⟩
  | .hbm, ⟨4, _⟩ => ⟨S784x384, .i32⟩
  | .hbm, ⟨5, _⟩ => ⟨S_, .i32⟩
  | .hbm, ⟨6, _⟩ => ⟨S784x384, .i32⟩
  | .hbm, ⟨7, _⟩ => ⟨S784x384, .i32⟩
  | .hbm, ⟨8, _⟩ => ⟨S784x384, .f32⟩
  | .hbm, ⟨9, _⟩ => ⟨S_, .f32⟩
  | .hbm, ⟨10, _⟩ => ⟨S784x384, .f32⟩
  | .hbm, ⟨11, _⟩ => ⟨S784x384, .f32⟩
  | .hbm, ⟨12, _⟩ => ⟨S784x384, .f32⟩
  | .hbm, ⟨13, _⟩ => ⟨S_, .f32⟩
  | .hbm, ⟨14, _⟩ => ⟨S784x384, .f32⟩
  | .hbm, ⟨15, _⟩ => ⟨S784x384, .f32⟩
  | .hbm, ⟨16, _⟩ => ⟨S_, .f32⟩
  | .hbm, ⟨17, _⟩ => ⟨S784x384, .f32⟩
  | .hbm, ⟨18, _⟩ => ⟨S784x384, .f32⟩
  | .hbm, ⟨19, _⟩ => ⟨S784x384, .i32⟩
  | .hbm, ⟨20, _⟩ => ⟨S_, .i32⟩
  | .hbm, ⟨21, _⟩ => ⟨S784x384, .i32⟩
  | .hbm, ⟨22, _⟩ => ⟨S784x384, .i32⟩
  | .hbm, ⟨23, _⟩ => ⟨S_, .i32⟩
  | .hbm, ⟨24, _⟩ => ⟨S784x384, .i32⟩
  | .hbm, ⟨25, _⟩ => ⟨S784x384, .i1⟩
  | .hbm, ⟨26, _⟩ => ⟨S_, .i32⟩
  | .hbm, ⟨27, _⟩ => ⟨S784x384, .i32⟩
  | .hbm, ⟨28, _⟩ => ⟨S784x384, .i32⟩
  | .hbm, ⟨29, _⟩ => ⟨S784x384, .i32⟩
  | .hbm, ⟨30, _⟩ => ⟨S_, .i32⟩
  | .hbm, ⟨31, _⟩ => ⟨S784x384, .i32⟩
  | .hbm, ⟨32, _⟩ => ⟨S784x384, .i1⟩
  | .hbm, ⟨33, _⟩ => ⟨S_, .i32⟩
  | .hbm, ⟨34, _⟩ => ⟨S784x384, .i32⟩
  | .hbm, ⟨35, _⟩ => ⟨S784x384, .i32⟩
  | .hbm, ⟨36, _⟩ => ⟨S784x384, .i32⟩
  | .hbm, ⟨37, _⟩ => ⟨S784x384x1, .i32⟩
  | .hbm, ⟨38, _⟩ => ⟨S784x384x16, .f32⟩
  | .hbm, ⟨39, _⟩ => ⟨S1x16, .f32⟩
  | .hbm, ⟨40, _⟩ => ⟨S16, .f32⟩
  | .hbm, ⟨41, _⟩ => ⟨S1x1x16, .f32⟩
  | .hbm, ⟨42, _⟩ => ⟨S784x384x16, .f32⟩
  | .hbm, ⟨43, _⟩ => ⟨S784x384x16, .f32⟩
  | .hbm, ⟨44, _⟩ => ⟨S_, .i32⟩
  | .hbm, ⟨45, _⟩ => ⟨S784x384, .i32⟩
  | .hbm, ⟨46, _⟩ => ⟨S784x384, .i1⟩
  | .hbm, ⟨47, _⟩ => ⟨S16x784x384, .f32⟩
  | .hbm, ⟨48, _⟩ => ⟨S_, .f32⟩
  | .hbm, ⟨49, _⟩ => ⟨S_, .f32⟩
  | .hbm, ⟨50, _⟩ => ⟨S16x784x384, .f32⟩
  | .hbm, ⟨51, _⟩ => ⟨S16x784x384, .f32⟩
  | .hbm, ⟨52, _⟩ => ⟨S_, .f32⟩
  | .hbm, ⟨53, _⟩ => ⟨S_, .f32⟩
  | .hbm, ⟨54, _⟩ => ⟨S16x784x384, .i1⟩
  | .hbm, ⟨55, _⟩ => ⟨S16x784x384, .f32⟩
  | .hbm, ⟨56, _⟩ => ⟨S16x784x384, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_c_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_c_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== KernelPost.lean ====
abbrev S8704x6144 : Shape := ⟨2, ![8704, 6144]⟩
abbrev S128 : Shape := ⟨1, ![128]⟩
abbrev S1x128 : Shape := ⟨2, ![1, 128]⟩
abbrev S256x2048 : Shape := ⟨2, ![256, 2048]⟩
abbrev S4096x128 : Shape := ⟨2, ![4096, 128]⟩
abbrev S128x2048 : Shape := ⟨2, ![128, 2048]⟩
abbrev S2048x128 : Shape := ⟨2, ![2048, 128]⟩
abbrev S128x128 : Shape := ⟨2, ![128, 128]⟩
abbrev S128x1 : Shape := ⟨2, ![128, 1]⟩

abbrev nBuf : Space → Nat
  | .hbm => 10
  | .vmem => 18
  | .smem => 0
  | _ => 0

abbrev bufTy : (tb : Table) → Fin (tcTables nBuf tb) → BufTy
  | .hbm, ⟨0, _⟩ => ⟨S8704x6144, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S256x2048, .bf16⟩
  | .hbm, ⟨6, _⟩ => ⟨S4096x128, .f32⟩
  | .hbm, ⟨7, _⟩ => ⟨S256x2048, .bf16⟩
  | .hbm, ⟨8, _⟩ => ⟨S256x2048, .bf16⟩
  | .hbm, ⟨9, _⟩ => ⟨S4096x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x128, .f32⟩
  | .local _ .vmem, ⟨7, _⟩ => ⟨S1x128, .f32⟩
  | .local _ .vmem, ⟨8, _⟩ => ⟨S128x2048, .bf16⟩
  | .local _ .vmem, ⟨9, _⟩ => ⟨S128x2048, .bf16⟩
  | .local _ .vmem, ⟨10, _⟩ => ⟨S2048x128, .f32⟩
  | .local _ .vmem, ⟨11, _⟩ => ⟨S2048x128, .f32⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S2048x128, .f32⟩
  | .local _ .vmem, ⟨17, _⟩ => ⟨S2048x128, .f32⟩
  | _, _ => ⟨S8704x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c66_i32 : BitVec 32 := 66#32
  let v0 : BitVec 32 := Scalar.addi c66_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c66_i32 : BitVec 32 := 66#32
  let v0 : BitVec 32 := Scalar.addi c66_i32 arg1
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let arg1 : BitVec 32 := BitVec.ofNat 32 (i 1).val
  let c66_i32 : BitVec 32 := 66#32
  let v0 : BitVec 32 := Scalar.addi c66_i32 arg1
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]
-- ==== KernelPostIdeal.lean ====
variable {F : FTy → Type} [FloatOps F] [Named F]
def κ : String → Option EReal := fun
  | "scale" => some (((Real.sqrt 128)⁻¹ * (Real.log 2)⁻¹ : ℝ) : EReal)
  | _ => none
-- ==== ReferencePostIdeal.lean ====
abbrev S8704x6144 : Shape := ⟨2, ![8704, 6144]⟩
abbrev S128 : Shape := ⟨1, ![128]⟩
abbrev S256x6144 : Shape := ⟨2, ![256, 6144]⟩
abbrev S256x2048 : Shape := ⟨2, ![256, 2048]⟩
abbrev S256x8x2x128 : Shape := ⟨4, ![256, 8, 2, 128]⟩
abbrev S_ : Shape := ⟨0, ![]⟩
abbrev S256x8x2 : Shape := ⟨3, ![256, 8, 2]⟩
abbrev S256x8x2x1 : Shape := ⟨4, ![256, 8, 2, 1]⟩
abbrev S1x1x1x128 : Shape := ⟨4, ![1, 1, 1, 128]⟩
abbrev S4096x128 : Shape := ⟨2, ![4096, 128]⟩
abbrev S256x2x8x128 : Shape := ⟨4, ![256, 2, 8, 128]⟩

abbrev nBuf : Space → Nat
  | .hbm => 58
  | .vmem => 0
  | .smem => 0
  | _ => 0

abbrev bufTy : (tb : Table) → Fin (tcTables nBuf tb) → BufTy
  | .hbm, ⟨0, _⟩ => ⟨S8704x6144, .f32⟩
  | .hbm, ⟨1, _⟩ => ⟨S128, .f32⟩
  | .hbm, ⟨2, _⟩ => ⟨S128, .f32⟩
  | .hbm, ⟨3, _⟩ => ⟨S256x6144, .f32⟩
  | .hbm, ⟨4, _⟩ => ⟨S256x2048, .f32⟩
  | .hbm, ⟨5, _⟩ => ⟨S256x8x2x128, .f32⟩
  | .hbm, ⟨6, _⟩ => ⟨S256x8x2x128, .f32⟩
  | .hbm, ⟨7, _⟩ => ⟨S_, .f32⟩
  | .hbm, ⟨8, _⟩ => ⟨S256x8x2, .f32⟩
  | .hbm, ⟨9, _⟩ => ⟨S256x8x2x1, .f32⟩
  | .hbm, ⟨10, _⟩ => ⟨S_, .f32⟩
  | .hbm, ⟨11, _⟩ => ⟨S256x8x2x1, .f32⟩
  | .hbm, ⟨12, _⟩ => ⟨S256x8x2x1, .f32⟩
  | .hbm, ⟨13, _⟩ => ⟨S_, .f32⟩
  | .hbm, ⟨14, _⟩ => ⟨S256x8x2x1, .f32⟩
  | .hbm, ⟨15, _⟩ => ⟨S256x8x2x1, .f32⟩
  | .hbm, ⟨16, _⟩ => ⟨S256x8x2x1, .f32⟩
  | .hbm, ⟨17, _⟩ => ⟨S256x8x2x128, .f32⟩
  | .hbm, ⟨18, _⟩ => ⟨S256x8x2x128, .f32⟩
  | .hbm, ⟨19, _⟩ => ⟨S1x1x1x128, .f32⟩
  | .hbm, ⟨20, _⟩ => ⟨S256x8x2x128, .f32⟩
  | .hbm, ⟨21, _⟩ => ⟨S256x8x2x128, .f32⟩
  | .hbm, ⟨22, _⟩ => ⟨S_, .f32⟩
  | .hbm, ⟨23, _⟩ => ⟨S_, .f32⟩
  | .hbm, ⟨24, _⟩ => ⟨S256x8x2x128, .f32⟩
  | .hbm, ⟨25, _⟩ => ⟨S256x8x2x128, .f32⟩
  | .hbm, ⟨26, _⟩ => ⟨S_, .f32⟩
  | .hbm, ⟨27, _⟩ => ⟨S_, .f32⟩
  | .hbm, ⟨28, _⟩ => ⟨S256x8x2x128, .f32⟩
  | .hbm, ⟨29, _⟩ => ⟨S256x8x2x128, .f32⟩
  | .hbm, ⟨30, _⟩ => ⟨S256x2048, .f32⟩
  | .hbm, ⟨31, _⟩ => ⟨S256x8x2x128, .f32⟩
  | .hbm, ⟨32, _⟩ => ⟨S256x8x2x128, .f32⟩
  | .hbm, ⟨33, _⟩ => ⟨S_, .f32⟩
  | .hbm, ⟨34, _⟩ => ⟨S256x8x2, .f32⟩
  | .hbm, ⟨35, _⟩ => ⟨S256x8x2x1, .f32⟩
  | .hbm, ⟨36, _⟩ => ⟨S_, .f32⟩
  | .hbm, ⟨37, _⟩ => ⟨S256x8x2x1, .f32⟩
  | .hbm, ⟨38, _⟩ => ⟨S256x8x2x1, .f32⟩
  | .hbm, ⟨39, _⟩ => ⟨S_, .f32⟩
  | .hbm, ⟨40, _⟩ => ⟨S256x8x2x1, .f32⟩
  | .hbm, ⟨41, _⟩ => ⟨S256x8x2x1, .f32⟩
  | .hbm, ⟨42, _⟩ => ⟨S256x8x2x1, .f32⟩
  | .hbm, ⟨43, _⟩ => ⟨S256x8x2x128, .f32⟩
  | .hbm, ⟨44, _⟩ => ⟨S256x8x2x128, .f32⟩
  | .hbm, ⟨45, _⟩ => ⟨S1x1x1x128, .f32⟩
  | .hbm, ⟨46, _⟩ => ⟨S256x8x2x128, .f32⟩
  | .hbm, ⟨47, _⟩ => ⟨S256x8x2x128, .f32⟩
  | .hbm, ⟨48, _⟩ => ⟨S256x2048, .f32⟩
  | .hbm, ⟨49, _⟩ => ⟨S256x2048, .f32⟩
  | .hbm, ⟨50, _⟩ => ⟨S256x2048, .bf16⟩
  | .hbm, ⟨51, _⟩ => ⟨S4096x128, .f32⟩
  | .hbm, ⟨52, _⟩ => ⟨S256x2048, .f32⟩
  | .hbm, ⟨53, _⟩ => ⟨S256x2048, .bf16⟩
  | .hbm, ⟨54, _⟩ => ⟨S256x2048, .bf16⟩
  | .hbm, ⟨55, _⟩ => ⟨S256x8x2x128, .f32⟩
  | .hbm, ⟨56, _⟩ => ⟨S256x2x8x128, .f32⟩
  | .hbm, ⟨57, _⟩ => ⟨S4096x128, .f32⟩
  | _, _ => ⟨S8704x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== KernelPostB.lean ====
abbrev S8704x5376 : Shape := ⟨2, ![8704, 5376]⟩
abbrev S128 : Shape := ⟨1, ![128]⟩
abbrev S1x128 : Shape := ⟨2, ![1, 128]⟩
abbrev S256x2048 : Shape := ⟨2, ![256, 2048]⟩
abbrev S1024x128 : Shape := ⟨2, ![1024, 128]⟩
abbrev S256x512 : Shape := ⟨2, ![256, 512]⟩
abbrev S256x128 : Shape := ⟨2, ![256, 128]⟩
abbrev S128x2048 : Shape := ⟨2, ![128, 2048]⟩
abbrev S128x512 : Shape := ⟨2, ![128, 512]⟩
abbrev S128x1024 : Shape := ⟨2, ![128, 1024]⟩
abbrev S128x128 : Shape := ⟨2, ![128, 128]⟩
abbrev S512x128 : Shape := ⟨2, ![512, 128]⟩
abbrev S128x1 : Shape := ⟨2, ![128, 1]⟩

abbrev nBuf : Space → Nat
  | .hbm => 14
  | .vmem => 34
  | .smem => 0
  | _ => 0

abbrev bufTy : (tb : Table) → Fin (tcTables nBuf tb) → BufTy
  | .hbm, ⟨0, _⟩ => ⟨S8704x5376, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S256x2048, .bf16⟩
  | .hbm, ⟨6, _⟩ => ⟨S1024x128, .f32⟩
  | .hbm, ⟨7, _⟩ => ⟨S256x512, .bf16⟩
  | .hbm, ⟨8, _⟩ => ⟨S256x512, .bf16⟩
  | .hbm, ⟨9, _⟩ => ⟨S256x2048, .bf16⟩
  | .hbm, ⟨10, _⟩ => ⟨S256x128, .bf16⟩
  | .hbm, ⟨11, _⟩ => ⟨S256x128, .f32⟩
  | .hbm, ⟨12, _⟩ => ⟨S1024x128, .f32⟩
  | .hbm, ⟨13, _⟩ => ⟨S256x128, .f32⟩
  | .local _ .vmem, ⟨0, _⟩ => ⟨S128x2048, .f32⟩
  | .local _ .vmem, ⟨1, _⟩ => ⟨S128x2048, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S1x128, .f32⟩
  | .local _ .vmem, ⟨16, _⟩ => ⟨S128x2048, .bf16⟩
  | .local _ .vmem, ⟨17, _⟩ => ⟨S128x2048, .bf16⟩
  | .local _ .vmem, ⟨18, _⟩ => ⟨S512x128, .f32⟩
  | .local _ .vmem, ⟨19, _⟩ => ⟨S512x128, .f32⟩
  | .local _ .vmem, ⟨20, _⟩ => ⟨S128x512, .bf16⟩
  | .local _ .vmem, ⟨21, _⟩ => ⟨S128x512, .bf16⟩
  | .local _ .vmem, ⟨22, _⟩ => ⟨S128x512, .bf16⟩
  | .local _ .vmem, ⟨23, _⟩ => ⟨S128x512, .bf16⟩
  | .local _ .vmem, ⟨24, _⟩ => ⟨S128x2048, .bf16⟩
  | .local _ .vmem, ⟨25, _⟩ => ⟨S128x2048, .bf16⟩
  | .local _ .vmem, ⟨26, _⟩ => ⟨S128x128, .bf16⟩
  | .local _ .vmem, ⟨27, _⟩ => ⟨S128x128, .bf16⟩
  | .local _ .vmem, ⟨28, _⟩ => ⟨S128x128, .f32⟩
  | .local _ .vmem, ⟨29, _⟩ => ⟨S128x128, .f32⟩
  | .local _ .vmem, ⟨30, _⟩ => ⟨S512x128, .f32⟩
  | .local _ .vmem, ⟨31, _⟩ => ⟨S512x128, .f32⟩
  | .local _ .vmem, ⟨32, _⟩ => ⟨S128x128, .f32⟩
  | .local _ .vmem, ⟨33, _⟩ => ⟨S128x128, .f32⟩
  | _, _ => ⟨S8704x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v2_7 : Ref sig .tc := ⟨.hbm, 12, rfl⟩
abbrev main_v2_8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c66_i32 : BitVec 32 := 66#32
  let v0 : BitVec 32 := Scalar.addi c66_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c66_i32 : BitVec 32 := 66#32
  let v0 : BitVec 32 := Scalar.addi c66_i32 arg1
  let c4_i32 : BitVec 32 := 4#32
  let c0_i32 : BitVec 32 := 0#32
  ![v0.toNat, c4_i32.toNat]

def cc0_transform_2 (i : grid0.Coords) : Fin 2 → Nat :=
  let arg0 : BitVec 32 := BitVec.ofNat 32 (i 0).val
  let arg1 : BitVec 32 := BitVec.ofNat 32 (i 1).val
  let c66_i32 : BitVec 32 := 66#32
  let v0 : BitVec 32 := Scalar.addi c66_i32 arg1
  let c5_i32 : BitVec 32 := 5#32
  let c0_i32 : BitVec 32 := 0#32
  ![v0.toNat, c5_i32.toNat]

def cc0_transform_3 (i : grid0.Coords) : Fin 2 → Nat :=
  let arg0 : BitVec 32 := BitVec.ofNat 32 (i 0).val
  let arg1 : BitVec 32 := BitVec.ofNat 32 (i 1).val
  let c66_i32 : BitVec 32 := 66#32
  let v0 : BitVec 32 := Scalar.addi c66_i32 arg1
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let arg1 : BitVec 32 := BitVec.ofNat 32 (i 1).val
  let c66_i32 : BitVec 32 := 66#32
  let v0 : BitVec 32 := Scalar.addi c66_i32 arg1
  let c4_i32 : BitVec 32 := 4#32
  let c0_i32 : BitVec 32 := 0#32
  ![v0.toNat, c4_i32.toNat]

def cc0_transform_5 (i : grid0.Coords) : Fin 2 → Nat :=
  let arg0 : BitVec 32 := BitVec.ofNat 32 (i 0).val
  let arg1 : BitVec 32 := BitVec.ofNat 32 (i 1).val
  let c66_i32 : BitVec 32 := 66#32
  let v0 : BitVec 32 := Scalar.addi c66_i32 arg1
  let c40_i32 : BitVec 32 := 40#32
  let c0_i32 : BitVec 32 := 0#32
  ![v0.toNat, c40_i32.toNat]

def cc0_transform_6 (i : grid0.Coords) : Fin 2 → Nat :=
  let arg0 : BitVec 32 := BitVec.ofNat 32 (i 0).val
  let arg1 : BitVec 32 := BitVec.ofNat 32 (i 1).val
  let c66_i32 : BitVec 32 := 66#32
  let v0 : BitVec 32 := Scalar.addi c66_i32 arg1
  let c41_i32 : BitVec 32 := 41#32
  let c0_i32 : BitVec 32 := 0#32
  ![v0.toNat, c41_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]
-- ==== KernelPostBIdeal.lean ====
variable {F : FTy → Type} [FloatOps F] [Named F]
def κ : String → Option EReal := fun
  | "iscale" => some (((Real.sqrt 128)⁻¹ : ℝ) : EReal)
  | "scale" => some (((Real.sqrt 128)⁻¹ * (Real.log 2)⁻¹ : ℝ) : EReal)
  | _ => none
-- ==== ReferencePostBIdeal.lean ====
abbrev S8704x5376 : Shape := ⟨2, ![8704, 5376]⟩
abbrev S128 : Shape := ⟨1, ![128]⟩
abbrev S256x5376 : Shape := ⟨2, ![256, 5376]⟩
abbrev S256x2048 : Shape := ⟨2, ![256, 2048]⟩
abbrev S256x16x128 : Shape := ⟨3, ![256, 16, 128]⟩
abbrev S_ : Shape := ⟨0, ![]⟩
abbrev S256x16 : Shape := ⟨2, ![256, 16]⟩
abbrev S256x16x1 : Shape := ⟨3, ![256, 16, 1]⟩
abbrev S1x1x128 : Shape := ⟨3, ![1, 1, 128]⟩
abbrev S256x512 : Shape := ⟨2, ![256, 512]⟩
abbrev S256x4x128 : Shape := ⟨3, ![256, 4, 128]⟩
abbrev S256x4 : Shape := ⟨2, ![256, 4]⟩
abbrev S256x4x1 : Shape := ⟨3, ![256, 4, 1]⟩
abbrev S256x128 : Shape := ⟨2, ![256, 128]⟩
abbrev S1024x128 : Shape := ⟨2, ![1024, 128]⟩

abbrev nBuf : Space → Nat
  | .hbm => 69
  | .vmem => 0
  | .smem => 0
  | _ => 0

abbrev bufTy : (tb : Table) → Fin (tcTables nBuf tb) → BufTy
  | .hbm, ⟨0, _⟩ => ⟨S8704x5376, .f32⟩
  | .hbm, ⟨1, _⟩ => ⟨S128, .f32⟩
  | .hbm, ⟨2, _⟩ => ⟨S128, .f32⟩
  | .hbm, ⟨3, _⟩ => ⟨S256x5376, .f32⟩
  | .hbm, ⟨4, _⟩ => ⟨S256x2048, .f32⟩
  | .hbm, ⟨5, _⟩ => ⟨S256x16x128, .f32⟩
  | .hbm, ⟨6, _⟩ => ⟨S256x16x128, .f32⟩
  | .hbm, ⟨7, _⟩ => ⟨S_, .f32⟩
  | .hbm, ⟨8, _⟩ => ⟨S256x16, .f32⟩
  | .hbm, ⟨9, _⟩ => ⟨S256x16x1, .f32⟩
  | .hbm, ⟨10, _⟩ => ⟨S_, .f32⟩
  | .hbm, ⟨11, _⟩ => ⟨S256x16x1, .f32⟩
  | .hbm, ⟨12, _⟩ => ⟨S256x16x1, .f32⟩
  | .hbm, ⟨13, _⟩ => ⟨S_, .f32⟩
  | .hbm, ⟨14, _⟩ => ⟨S256x16x1, .f32⟩
  | .hbm, ⟨15, _⟩ => ⟨S256x16x1, .f32⟩
  | .hbm, ⟨16, _⟩ => ⟨S256x16x1, .f32⟩
  | .hbm, ⟨17, _⟩ => ⟨S256x16x128, .f32⟩
  | .hbm, ⟨18, _⟩ => ⟨S256x16x128, .f32⟩
  | .hbm, ⟨19, _⟩ => ⟨S1x1x128, .f32⟩
  | .hbm, ⟨20, _⟩ => ⟨S256x16x128, .f32⟩
  | .hbm, ⟨21, _⟩ => ⟨S256x16x128, .f32⟩
  | .hbm, ⟨22, _⟩ => ⟨S_, .f32⟩
  | .hbm, ⟨23, _⟩ => ⟨S_, .f32⟩
  | .hbm, ⟨24, _⟩ => ⟨S256x16x128, .f32⟩
  | .hbm, ⟨25, _⟩ => ⟨S256x16x128, .f32⟩
  | .hbm, ⟨26, _⟩ => ⟨S_, .f32⟩
  | .hbm, ⟨27, _⟩ => ⟨S_, .f32⟩
  | .hbm, ⟨28, _⟩ => ⟨S256x16x128, .f32⟩
  | .hbm, ⟨29, _⟩ => ⟨S256x16x128, .f32⟩
  | .hbm, ⟨30, _⟩ => ⟨S256x512, .f32⟩
  | .hbm, ⟨31, _⟩ => ⟨S256x4x128, .f32⟩
  | .hbm, ⟨32, _⟩ => ⟨S256x4x128, .f32⟩
  | .hbm, ⟨33, _⟩ => ⟨S_, .f32⟩
  | .hbm, ⟨34, _⟩ => ⟨S256x4, .f32⟩
  | .hbm, ⟨35, _⟩ => ⟨S256x4x1, .f32⟩
  | .hbm, ⟨36, _⟩ => ⟨S_, .f32⟩
  | .hbm, ⟨37, _⟩ => ⟨S256x4x1, .f32⟩
  | .hbm, ⟨38, _⟩ => ⟨S256x4x1, .f32⟩
  | .hbm, ⟨39, _⟩ => ⟨S_, .f32⟩
  | .hbm, ⟨40, _⟩ => ⟨S256x4x1, .f32⟩
  | .hbm, ⟨41, _⟩ => ⟨S256x4x1, .f32⟩
  | .hbm, ⟨42, _⟩ => ⟨S256x4x1, .f32⟩
  | .hbm, ⟨43, _⟩ => ⟨S256x4x128, .f32⟩
  | .hbm, ⟨44, _⟩ => ⟨S256x4x128, .f32⟩
  | .hbm, ⟨45, _⟩ => ⟨S1x1x128, .f32⟩
  | .hbm, ⟨46, _⟩ => ⟨S256x4x128, .f32⟩
  | .hbm, ⟨47, _⟩ => ⟨S256x4x128, .f32⟩
  | .hbm, ⟨48, _⟩ => ⟨S256x512, .f32⟩
  | .hbm, ⟨49, _⟩ => ⟨S256x2048, .f32⟩
  | .hbm, ⟨50, _⟩ => ⟨S_, .f32⟩
  | .hbm, ⟨51, _⟩ => ⟨S_, .f32⟩
  | .hbm, ⟨52, _⟩ => ⟨S256x2048, .f32⟩
  | .hbm, ⟨53, _⟩ => ⟨S256x2048, .f32⟩
  | .hbm, ⟨54, _⟩ => ⟨S256x128, .f32⟩
  | .hbm, ⟨55, _⟩ => ⟨S256x128, .f32⟩
  | .hbm, ⟨56, _⟩ => ⟨S_, .f32⟩
  | .hbm, ⟨57, _⟩ => ⟨S_, .f32⟩
  | .hbm, ⟨58, _⟩ => ⟨S256x128, .f32⟩
  | .hbm, ⟨59, _⟩ => ⟨S256x128, .f32⟩
  | .hbm, ⟨60, _⟩ => ⟨S256x2048, .f32⟩
  | .hbm, ⟨61, _⟩ => ⟨S256x2048, .bf16⟩
  | .hbm, ⟨62, _⟩ => ⟨S1024x128, .f32⟩
  | .hbm, ⟨63, _⟩ => ⟨S256x512, .f32⟩
  | .hbm, ⟨64, _⟩ => ⟨S256x512, .bf16⟩
  | .hbm, ⟨65, _⟩ => ⟨S256x512, .bf16⟩
  | .hbm, ⟨66, _⟩ => ⟨S256x2048, .bf16⟩
  | .hbm, ⟨67, _⟩ => ⟨S256x128, .bf16⟩
  | .hbm, ⟨68, _⟩ => ⟨S1024x128, .f32⟩
  | _, _ => ⟨S8704x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩

abbrev nD : Nat := 1
abbrev τ : Topo := Topo.v7x

variable {F : FTy → Type} [FloatOps F]
-- ==== KernelPostP.lean ====
abbrev S8704x6144 : Shape := ⟨2, ![8704, 6144]⟩
abbrev S128 : Shape := ⟨1, ![128]⟩
abbrev S1x128 : Shape := ⟨2, ![1, 128]⟩
abbrev S8448x2048 : Shape := ⟨2, ![8448, 2048]⟩
abbrev S1x2x65792x128 : Shape := ⟨4, ![1, 2, 65792, 128]⟩
abbrev S128x2048 : Shape := ⟨2, ![128, 2048]⟩
abbrev S1x1x2048x128 : Shape := ⟨4, ![1, 1, 2048, 128]⟩
abbrev S128x128 : Shape := ⟨2, ![128, 128]⟩
abbrev S128x1 : Shape := ⟨2, ![128, 1]⟩
abbrev S1x1x128x128 : Shape := ⟨4, ![1, 1, 128, 128]⟩

abbrev nBuf : Space → Nat
  | .hbm => 10
  | .vmem => 18
  | .smem => 0
  | _ => 0

abbrev bufTy : (tb : Table) → Fin (tcTables nBuf tb) → BufTy
  | .hbm, ⟨0, _⟩ => ⟨S8704x6144, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S8448x2048, .bf16⟩
  | .hbm, ⟨6, _⟩ => ⟨S1x2x65792x128, .f32⟩
  | .hbm, ⟨7, _⟩ => ⟨S8448x2048, .bf16⟩
  | .hbm, ⟨8, _⟩ => ⟨S8448x2048, .bf16⟩
  | .hbm, ⟨9, _⟩ => ⟨S1x2x65792x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x128, .f32⟩
  | .local _ .vmem, ⟨7, _⟩ => ⟨S1x128, .f32⟩
  | .local _ .vmem, ⟨8, _⟩ => ⟨S128x2048, .bf16⟩
  | .local _ .vmem, ⟨9, _⟩ => ⟨S128x2048, .bf16⟩
  | .local _ .vmem, ⟨10, _⟩ => ⟨S1x1x2048x128, .f32⟩
  | .local _ .vmem, ⟨11, _⟩ => ⟨S1x1x2048x128, .f32⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S1x1x2048x128, .f32⟩
  | .local _ .vmem, ⟨17, _⟩ => ⟨S1x1x2048x128, .f32⟩
  | _, _ => ⟨S8704x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 33], ![false, false]⟩

def k0_cond1 (i : grid0.Coords) : BitVec 1 :=
  let arg1 : BitVec 32 := BitVec.ofNat 32 (i 1).val
  let c32_i32 : BitVec 32 := 32#32
  let v36 : BitVec 1 := Scalar.cmpi .slt arg1 c32_i32
  let v37 : BitVec 32 := Scalar.extui v36
  let c0_i32 : BitVec 32 := 0#32
  let v38 : BitVec 1 := Scalar.cmpi .ne v37 c0_i32
  v38

def k0_cond2 (i : grid0.Coords) : BitVec 1 :=
  let arg1 : BitVec 32 := BitVec.ofNat 32 (i 1).val
  let c32_i32_35 : BitVec 32 := 32#32
  let v75 : BitVec 1 := Scalar.cmpi .slt arg1 c32_i32_35
  let v76 : BitVec 32 := Scalar.extui v75
  let c0_i32_36 : BitVec 32 := 0#32
  let v77 : BitVec 1 := Scalar.cmpi .ne v76 c0_i32_36
  v77

def k0_cond3 (i : grid0.Coords) : BitVec 1 :=
  let arg1 : BitVec 32 := BitVec.ofNat 32 (i 1).val
  let c32_i32_55 : BitVec 32 := 32#32
  let v114 : BitVec 1 := Scalar.cmpi .slt arg1 c32_i32_55
  let v115 : BitVec 32 := Scalar.extui v114
  let c0_i32_56 : BitVec 32 := 0#32
  let v116 : BitVec 1 := Scalar.cmpi .ne v115 c0_i32_56
  v116

def k0_cond4 (i : grid0.Coords) : BitVec 1 :=
  let arg1 : BitVec 32 := BitVec.ofNat 32 (i 1).val
  let c32_i32_75 : BitVec 32 := 32#32
  let v153 : BitVec 1 := Scalar.cmpi .slt arg1 c32_i32_75
  let v154 : BitVec 32 := Scalar.extui v153
  let c0_i32_76 : BitVec 32 := 0#32
  let v155 : BitVec 1 := Scalar.cmpi .ne v154 c0_i32_76
  v155

def k0_cond5 (i : grid0.Coords) : BitVec 1 :=
  let arg1 : BitVec 32 := BitVec.ofNat 32 (i 1).val
  let c32_i32_95 : BitVec 32 := 32#32
  let v192 : BitVec 1 := Scalar.cmpi .slt arg1 c32_i32_95
  let v193 : BitVec 32 := Scalar.extui v192
  let c0_i32_96 : BitVec 32 := 0#32
  let v194 : BitVec 1 := Scalar.cmpi .ne v193 c0_i32_96
  v194

def k0_cond6 (i : grid0.Coords) : BitVec 1 :=
  let arg1 : BitVec 32 := BitVec.ofNat 32 (i 1).val
  let c32_i32_115 : BitVec 32 := 32#32
  let v231 : BitVec 1 := Scalar.cmpi .slt arg1 c32_i32_115
  let v232 : BitVec 32 := Scalar.extui v231
  let c0_i32_116 : BitVec 32 := 0#32
  let v233 : BitVec 1 := Scalar.cmpi .ne v232 c0_i32_116
  v233

def k0_cond7 (i : grid0.Coords) : BitVec 1 :=
  let arg1 : BitVec 32 := BitVec.ofNat 32 (i 1).val
  let c32_i32_135 : BitVec 32 := 32#32
  let v270 : BitVec 1 := Scalar.cmpi .slt arg1 c32_i32_135
  let v271 : BitVec 32 := Scalar.extui v270
  let c0_i32_136 : BitVec 32 := 0#32
  let v272 : BitVec 1 := Scalar.cmpi .ne v271 c0_i32_136
  v272

def k0_cond8 (i : grid0.Coords) : BitVec 1 :=
  let arg1 : BitVec 32 := BitVec.ofNat 32 (i 1).val
  let c32_i32_155 : BitVec 32 := 32#32
  let v309 : BitVec 1 := Scalar.cmpi .slt arg1 c32_i32_155
  let v310 : BitVec 32 := Scalar.extui v309
  let c0_i32_156 : BitVec 32 := 0#32
  let v311 : BitVec 1 := Scalar.cmpi .ne v310 c0_i32_156
  v311

def k0_cond9 (i : grid0.Coords) : BitVec 1 :=
  let arg1 : BitVec 32 := BitVec.ofNat 32 (i 1).val
  let c32_i32_175 : BitVec 32 := 32#32
  let v348 : BitVec 1 := Scalar.cmpi .slt arg1 c32_i32_175
  let v349 : BitVec 32 := Scalar.extui v348
  let c0_i32_176 : BitVec 32 := 0#32
  let v350 : BitVec 1 := Scalar.cmpi .ne v349 c0_i32_176
  v350

def k0_cond10 (i : grid0.Coords) : BitVec 1 :=
  let arg1 : BitVec 32 := BitVec.ofNat 32 (i 1).val
  let c32_i32_195 : BitVec 32 := 32#32
  let v387 : BitVec 1 := Scalar.cmpi .slt arg1 c32_i32_195
  let v388 : BitVec 32 := Scalar.extui v387
  let c0_i32_196 : BitVec 32 := 0#32
  let v389 : BitVec 1 := Scalar.cmpi .ne v388 c0_i32_196
  v389

def k0_cond11 (i : grid0.Coords) : BitVec 1 :=
  let arg1 : BitVec 32 := BitVec.ofNat 32 (i 1).val
  let c32_i32_215 : BitVec 32 := 32#32
  let v426 : BitVec 1 := Scalar.cmpi .slt arg1 c32_i32_215
  let v427 : BitVec 32 := Scalar.extui v426
  let c0_i32_216 : BitVec 32 := 0#32
  let v428 : BitVec 1 := Scalar.cmpi .ne v427 c0_i32_216
  v428

def k0_cond12 (i : grid0.Coords) : BitVec 1 :=
  let arg1 : BitVec 32 := BitVec.ofNat 32 (i 1).val
  let c32_i32_235 : BitVec 32 := 32#32
  let v465 : BitVec 1 := Scalar.cmpi .slt arg1 c32_i32_235
  let v466 : BitVec 32 := Scalar.extui v465
  let c0_i32_236 : BitVec 32 := 0#32
  let v467 : BitVec 1 := Scalar.cmpi .ne v466 c0_i32_236
  v467

def k0_cond13 (i : grid0.Coords) : BitVec 1 :=
  let arg1 : BitVec 32 := BitVec.ofNat 32 (i 1).val
  let c32_i32_255 : BitVec 32 := 32#32
  let v504 : BitVec 1 := Scalar.cmpi .slt arg1 c32_i32_255
  let v505 : BitVec 32 := Scalar.extui v504
  let c0_i32_256 : BitVec 32 := 0#32
  let v506 : BitVec 1 := Scalar.cmpi .ne v505 c0_i32_256
  v506

def k0_cond14 (i : grid0.Coords) : BitVec 1 :=
  let arg1 : BitVec 32 := BitVec.ofNat 32 (i 1).val
  let c32_i32_275 : BitVec 32 := 32#32
  let v543 : BitVec 1 := Scalar.cmpi .slt arg1 c32_i32_275
  let v544 : BitVec 32 := Scalar.extui v543
  let c0_i32_276 : BitVec 32 := 0#32
  let v545 : BitVec 1 := Scalar.cmpi .ne v544 c0_i32_276
  v545

def k0_cond15 (i : grid0.Coords) : BitVec 1 :=
  let arg1 : BitVec 32 := BitVec.ofNat 32 (i 1).val
  let c32_i32_295 : BitVec 32 := 32#32
  let v582 : BitVec 1 := Scalar.cmpi .slt arg1 c32_i32_295
  let v583 : BitVec 32 := Scalar.extui v582
  let c0_i32_296 : BitVec 32 := 0#32
  let v584 : BitVec 1 := Scalar.cmpi .ne v583 c0_i32_296
  v584

def k0_cond16 (i : grid0.Coords) : BitVec 1 :=
  let arg1 : BitVec 32 := BitVec.ofNat 32 (i 1).val
  let c32_i32_315 : BitVec 32 := 32#32
  let v621 : BitVec 1 := Scalar.cmpi .slt arg1 c32_i32_315
  let v622 : BitVec 32 := Scalar.extui v621
  let c0_i32_316 : BitVec 32 := 0#32
  let v623 : BitVec 1 := Scalar.cmpi .ne v622 c0_i32_316
  v623

def cc0_transform_0 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  let c0_i32_1 : BitVec 32 := 0#32
  ![c0_i32.toNat, arg0.toNat, v0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  let c0_i32_1 : BitVec 32 := 0#32
  ![c0_i32.toNat, arg0.toNat, v0.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelPostPIdeal.lean ====
variable {F : FTy → Type} [FloatOps F] [Named F]
def κ : String → Option EReal := fun
  | "scale" => some (((Real.sqrt 128)⁻¹ * (Real.log 2)⁻¹ : ℝ) : EReal)
  | _ => none
-- ==== ReferencePostPIdeal.lean ====
abbrev S8704x6144 : Shape := ⟨2, ![8704, 6144]⟩
abbrev S128 : Shape := ⟨1, ![128]⟩
abbrev S8448x6144 : Shape := ⟨2, ![8448, 6144]⟩
abbrev S8448x2048 : Shape := ⟨2, ![8448, 2048]⟩
abbrev S8448x8x2x128 : Shape := ⟨4, ![8448, 8, 2, 128]⟩
abbrev S_ : Shape := ⟨0, ![]⟩
abbrev S8448x8x2 : Shape := ⟨3, ![8448, 8, 2]⟩
abbrev S8448x8x2x1 : Shape := ⟨4, ![8448, 8, 2, 1]⟩
abbrev S1x1x1x128 : Shape := ⟨4, ![1, 1, 1, 128]⟩

abbrev nBuf : Space → Nat
  | .hbm => 54
  | .vmem => 0
  | .smem => 0
  | _ => 0

abbrev bufTy : (tb : Table) → Fin (tcTables nBuf tb) → BufTy
  | .hbm, ⟨0, _⟩ => ⟨S8704x6144, .f32⟩
  | .hbm, ⟨1, _⟩ => ⟨S128, .f32⟩
  | .hbm, ⟨2, _⟩ => ⟨S128, .f32⟩
  | .hbm, ⟨3, _⟩ => ⟨S8448x6144, .f32⟩
  | .hbm, ⟨4, _⟩ => ⟨S8448x2048, .f32⟩
  | .hbm, ⟨5, _⟩ => ⟨S8448x8x2x128, .f32⟩
  | .hbm, ⟨6, _⟩ => ⟨S8448x8x2x128, .f32⟩
  | .hbm, ⟨7, _⟩ => ⟨S_, .f32⟩
  | .hbm, ⟨8, _⟩ => ⟨S8448x8x2, .f32⟩
  | .hbm, ⟨9, _⟩ => ⟨S8448x8x2x1, .f32⟩
  | .hbm, ⟨10, _⟩ => ⟨S_, .f32⟩
  | .hbm, ⟨11, _⟩ => ⟨S8448x8x2x1, .f32⟩
  | .hbm, ⟨12, _⟩ => ⟨S8448x8x2x1, .f32⟩
  | .hbm, ⟨13, _⟩ => ⟨S_, .f32⟩
  | .hbm, ⟨14, _⟩ => ⟨S8448x8x2x1, .f32⟩
  | .hbm, ⟨15, _⟩ => ⟨S8448x8x2x1, .f32⟩
  | .hbm, ⟨16, _⟩ => ⟨S8448x8x2x1, .f32⟩
  | .hbm, ⟨17, _⟩ => ⟨S8448x8x2x128, .f32⟩
  | .hbm, ⟨18, _⟩ => ⟨S8448x8x2x128, .f32⟩
  | .hbm, ⟨19, _⟩ => ⟨S1x1x1x128, .f32⟩
  | .hbm, ⟨20, _⟩ => ⟨S8448x8x2x128, .f32⟩
  | .hbm, ⟨21, _⟩ => ⟨S8448x8x2x128, .f32⟩
  | .hbm, ⟨22, _⟩ => ⟨S_, .f32⟩
  | .hbm, ⟨23, _⟩ => ⟨S_, .f32⟩
  | .hbm, ⟨24, _⟩ => ⟨S8448x8x2x128, .f32⟩
  | .hbm, ⟨25, _⟩ => ⟨S8448x8x2x128, .f32⟩
  | .hbm, ⟨26, _⟩ => ⟨S_, .f32⟩
  | .hbm, ⟨27, _⟩ => ⟨S_, .f32⟩
  | .hbm, ⟨28, _⟩ => ⟨S8448x8x2x128, .f32⟩
  | .hbm, ⟨29, _⟩ => ⟨S8448x8x2x128, .f32⟩
  | .hbm, ⟨30, _⟩ => ⟨S8448x2048, .f32⟩
  | .hbm, ⟨31, _⟩ => ⟨S8448x8x2x128, .f32⟩
  | .hbm, ⟨32, _⟩ => ⟨S8448x8x2x128, .f32⟩
  | .hbm, ⟨33, _⟩ => ⟨S_, .f32⟩
  | .hbm, ⟨34, _⟩ => ⟨S8448x8x2, .f32⟩
  | .hbm, ⟨35, _⟩ => ⟨S8448x8x2x1, .f32⟩
  | .hbm, ⟨36, _⟩ => ⟨S_, .f32⟩
  | .hbm, ⟨37, _⟩ => ⟨S8448x8x2x1, .f32⟩
  | .hbm, ⟨38, _⟩ => ⟨S8448x8x2x1, .f32⟩
  | .hbm, ⟨39, _⟩ => ⟨S_, .f32⟩
  | .hbm, ⟨40, _⟩ => ⟨S8448x8x2x1, .f32⟩
  | .hbm, ⟨41, _⟩ => ⟨S8448x8x2x1, .f32⟩
  | .hbm, ⟨42, _⟩ => ⟨S8448x8x2x1, .f32⟩
  | .hbm, ⟨43, _⟩ => ⟨S8448x8x2x128, .f32⟩
  | .hbm, ⟨44, _⟩ => ⟨S8448x8x2x128, .f32⟩
  | .hbm, ⟨45, _⟩ => ⟨S1x1x1x128, .f32⟩
  | .hbm, ⟨46, _⟩ => ⟨S8448x8x2x128, .f32⟩
  | .hbm, ⟨47, _⟩ => ⟨S8448x8x2x128, .f32⟩
  | .hbm, ⟨48, _⟩ => ⟨S8448x2048, .f32⟩
  | .hbm, ⟨49, _⟩ => ⟨S8448x2048, .f32⟩
  | .hbm, ⟨50, _⟩ => ⟨S8448x2048, .bf16⟩
  | .hbm, ⟨51, _⟩ => ⟨S8448x2048, .f32⟩
  | .hbm, ⟨52, _⟩ => ⟨S8448x2048, .bf16⟩
  | .hbm, ⟨53, _⟩ => ⟨S8448x2048, .bf16⟩
  | _, _ => ⟨S8704x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Proof.KernelPlaces.lean ====
/-
  Where the attention kernel's body reads and writes, at a point of its grid: the closed forms of its offsets, trip counts
  and conditions, in the query tile's number `i 2`.
-/
module

public import proofs.«01_k».proof.Proof.Gen.Kernel
public import proofs.«01_k».proof.Proof.Gen.Kernel.Skeleton
public import proofs.«01_k».proof.Proof.Gen.Kernel.Points
public import Idealize.ShloMosaic.Lib.Exec
public import Idealize.ShloMosaic.Lib.Tactic

@[expose] public section

namespace Cert.Kernel.Attn

open Cert.Kernel Cert.Kernel.Gen
open Idealize.ShloMosaic Idealize.ShloMosaic.TcCoe Idealize.ShloMosaic.Tactic

theorem trips1 : ∀ i : grid0.Coords, (k0_t1_loop i).trips = ((i 2).val - 1) / 4 := by decide +kernel
theorem trips2 : ∀ i : grid0.Coords, (k0_t2_loop i).trips = 0 := by decide +kernel
theorem trips3 : ∀ i : grid0.Coords, (k0_t3_loop i).trips = ((i 2).val + 1) / 4 := by decide +kernel
theorem trips4 : ∀ i : grid0.Coords, (k0_t4_loop i).trips = 0 := by decide +kernel

theorem off1_eq : ∀ (i : grid0.Coords) (k : Fin (k0_t1_loop i).trips), k0_off1 i k = ![1536 * k.val, 0] := by decide +kernel
theorem off2_eq : ∀ (i : grid0.Coords) (k : Fin (k0_t1_loop i).trips), k0_off2 i k = ![0, 1536 * k.val] := by decide +kernel
theorem off3_eq : ∀ (i : grid0.Coords) (k : Fin (k0_t1_loop i).trips), k0_off3 i k = ![1536 * k.val, 128] := by decide +kernel
theorem off4_eq : ∀ (i : grid0.Coords) (k : Fin (k0_t1_loop i).trips), k0_off4 i k = ![384, 1536 * k.val] := by decide +kernel
theorem off9_eq : ∀ i : grid0.Coords, k0_off9 i = ![1536 * (((i 2).val - 1) / 4), 0] := by decide +kernel
theorem off10_eq : ∀ i : grid0.Coords, k0_off10 i = ![0, 1536 * (((i 2).val - 1) / 4)] := by decide +kernel
theorem off11_eq : ∀ i : grid0.Coords, k0_off11 i = ![1536 * (((i 2).val - 1) / 4), 128] := by decide +kernel
theorem off12_eq : ∀ i : grid0.Coords, k0_off12 i = ![384, 1536 * (((i 2).val - 1) / 4)] := by decide +kernel
theorem off13_eq : ∀ i : grid0.Coords, k0_off13 i = ![768 * (((i 2).val - 1) / 2), 0] := by decide +kernel
theorem off14_eq : ∀ i : grid0.Coords, k0_off14 i = ![0, 768 * (((i 2).val - 1) / 2)] := by decide +kernel
theorem off15_eq : ∀ i : grid0.Coords, k0_off15 i = ![768 * (((i 2).val - 1) / 2), 128] := by decide +kernel
theorem off16_eq : ∀ i : grid0.Coords, k0_off16 i = ![384, 768 * (((i 2).val - 1) / 2)] := by decide +kernel
theorem off17_eq : ∀ i : grid0.Coords, k0_cond3 i = 1#1 → k0_off17 i = ![384 * ((i 2).val - 1), 0] := by decide +kernel
theorem off18_eq : ∀ i : grid0.Coords, k0_cond3 i = 1#1 → k0_off18 i = ![0, 384 * ((i 2).val - 1)] := by decide +kernel
theorem off19_eq : ∀ i : grid0.Coords, k0_cond3 i = 1#1 → k0_off19 i = ![384 * ((i 2).val - 1), 128] := by decide +kernel
theorem off20_eq : ∀ i : grid0.Coords, k0_cond3 i = 1#1 → k0_off20 i = ![384, 384 * ((i 2).val - 1)] := by decide +kernel
theorem off31_eq : ∀ i : grid0.Coords, k0_off31 i = ![0, 768 * (((i 2).val + 1) / 2)] := by decide +kernel
theorem off32_eq : ∀ i : grid0.Coords, k0_off32 i = ![768 * (((i 2).val + 1) / 2), 0] := by decide +kernel

instance (i : grid0.Coords) (k : Fin (k0_t1_loop i).trips) : ClosedOff (k0_off2 i k) := ⟨_, off2_eq i k⟩
instance (i : grid0.Coords) (k : Fin (k0_t1_loop i).trips) : ClosedOff (k0_off4 i k) := ⟨_, off4_eq i k⟩
instance (i : grid0.Coords) : ClosedOff (k0_off10 i) := ⟨_, off10_eq i⟩
instance (i : grid0.Coords) : ClosedOff (k0_off12 i) := ⟨_, off12_eq i⟩
instance (i : grid0.Coords) : ClosedOff (k0_off14 i) := ⟨_, off14_eq i⟩
instance (i : grid0.Coords) : ClosedOff (k0_off16 i) := ⟨_, off16_eq i⟩

theorem cond1 : ∀ i : grid0.Coords, k0_cond1 i = 1#1 ↔ 2 ≤ ((i 2).val - 1) % 4 := by decide +kernel
theorem cond2 : ∀ i : grid0.Coords, k0_cond2 i = 1#1 ↔ ((i 2).val - 1) % 2 = 1 := by decide +kernel
theorem cond3 : ∀ i : grid0.Coords, k0_cond3 i = 1#1 ↔ 1 ≤ (i 2).val := by decide +kernel
theorem cond4 : ∀ i : grid0.Coords, k0_cond4 i = 1#1 ↔ 2 ≤ ((i 2).val + 1) % 4 := by decide +kernel
theorem cond5 : ∀ i : grid0.Coords, k0_cond5 i = 1#1 ↔ ((i 2).val + 1) % 2 = 1 := by decide +kernel

end Cert.Kernel.Attn
-- ==== Proof.KernelParts.lean ====
/-
  The attention kernel's body, part by part, at any float model: every part runs to its end and leaves the buffers it
  was given held whole, the inputs at the contents they had and the others at some contents.  That is all the frame of
  the program needs.
-/
module

public import proofs.«01_k».proof.Proof.KernelPlaces
public import proofs.«01_k».proof.Proof.Gen.Kernel.Loops
public import proofs.«01_k».proof.Proof.Gen.Kernel.Launch

@[expose] public section

set_option maxRecDepth 8192
set_option maxHeartbeats 4000000

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
abbrev 𝒱₀ : Variants := Variants.none

/-- A buffer held whole at the contents `f`. -/
abbrev pt (c : Dev nD) {sp : Space} {S : Shape} {e : EltTy} (m : Memref sig .tc sp S e) (f : Buf (Elt F) (m.view.loc (c : Thread nD τ))) : sProp 𝕄 :=
  m.view.loc (c : Thread nD τ) ↦[m.view.set]{fullShare} f

/-- A buffer held whole at some contents. -/
abbrev ex (c : Dev nD) {sp : Space} {S : Shape} {e : EltTy} (m : Memref sig .tc sp S e) : sProp 𝕄 :=
  iprop(∃ f, pt c m f)

/-- One program after another. -/
theorem seq {c : Dev nD} {α β : Type} {R : sProp 𝕄} {p : Prog (TpuEff nD τ sig (Elt F) Λ₀ .tc) α} {k : α → Prog (TpuEff nD τ sig (Elt F) Λ₀ .tc) β} {S : α → sProp 𝕄} {Q : β → sProp 𝕄}
    (h : R ⊢ wp frame (wpE (defs₀ (F := F)) 𝒱₀ (c : Thread nD τ) none) Set.univ p S)
    (h' : ∀ a, S a ⊢ wp frame (wpE (defs₀ (F := F)) 𝒱₀ (c : Thread nD τ) none) Set.univ (k a) Q) :
    R ⊢ wp frame (wpE (defs₀ (F := F)) 𝒱₀ (c : Thread nD τ) none) Set.univ (p >>= k) Q := by
  rw [wp_bind]
  iintro H
  iapply (wp_wand_r frame (wpE (defs₀ (F := F)) 𝒱₀ (c : Thread nD τ) none) Set.univ)
  isplitl [H]
  · iapply h; iexact H
  iintro %a HS
  iapply (h' a); iexact HS

/-- Words only, then a program. -/
theorem seqWords {c : Dev nD} {α β : Type} {R : sProp 𝕄} {p : Prog (TpuEff nD τ sig (Elt F) Λ₀ .tc) α} {k : α → Prog (TpuEff nD τ sig (Elt F) Λ₀ .tc) β} {Q : β → sProp 𝕄} (a : α)
    (h : p = pure a) (h' : R ⊢ wp frame (wpE (defs₀ (F := F)) 𝒱₀ (c : Thread nD τ) none) Set.univ (k a) Q) :
    R ⊢ wp frame (wpE (defs₀ (F := F)) 𝒱₀ (c : Thread nD τ) none) Set.univ (p >>= k) Q := by
  rw [h, pure_bind]; exact h'

variable (c : Dev nD) (i : grid0.Coords)
  (arg3 : Memref sig .tc .vmem S384x256 .f32) (harg3 : arg3.IsWhole)
  (arg4 : Memref sig .tc .vmem S4224x256 .bf16) (harg4 : arg4.IsWhole)
  (arg5 : Memref sig .tc .vmem S4224x256 .bf16) (harg5 : arg5.IsWhole)
  (arg6 : Memref sig .tc .vmem S2x768x384 .f32) (harg6 : arg6.IsWhole)
  (arg7 : Memref sig .tc .vmem S4x128 .f32) (harg7 : arg7.IsWhole)
  (arg8 : Memref sig .tc .vmem S1x256 .f32) (harg8 : arg8.IsWhole)
  (arg9 : Memref sig .tc .vmem S384x256 .bf16) (harg9 : arg9.IsWhole)
  (arg10 : Memref sig .tc .vmem S768x4224 .f32) (harg10 : arg10.IsWhole)
  (arg11 : Memref sig .tc .vmem S768x128 .f32) (harg11 : arg11.IsWhole)
  (arg12 : Memref sig .tc .vmem S768x128 .f32) (harg12 : arg12.IsWhole)
  (arg13 : Memref sig .tc .vmem S768x256 .f32) (harg13 : arg13.IsWhole)
  (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ)))

/-- The kernel's eleven buffers: the six inputs at their contents, the output and the scratch at some. -/
abbrev St : sProp 𝕄 :=
  iprop(pt c arg3 f3 ∗ pt c arg4 f4 ∗ pt c arg5 f5 ∗ pt c arg6 f6 ∗ pt c arg7 f7 ∗ pt c arg8 f8 ∗ ex c arg9 ∗ ex c arg10 ∗ ex c arg11 ∗ ex c arg12 ∗ ex c arg13)

/-- One trip of the scores' loop. -/
theorem trip1 (v3 v7 : FVec F S384x128 .bf16) (w0 w1 : BitVec 32) (k : Fin (k0_t1_loop i).trips) :
    St c arg3 arg4 arg5 arg6 arg7 arg8 arg9 arg10 arg11 arg12 arg13 f3 f4 f5 f6 f7 f8
      ⊢ wp frame (wpE (defs₀ (F := F)) 𝒱₀ (c : Thread nD τ) none) Set.univ
        (k0_t1_body (F := F) i arg3 harg3 arg4 harg4 arg5 harg5 arg6 harg6 arg7 harg7 arg8 harg8 arg9 harg9 arg10 harg10 arg11 harg11 arg12 harg12 arg13 harg13 v3 v7 w0 w1 k ())
        (fun _ => St c arg3 arg4 arg5 arg6 arg7 arg8 arg9 arg10 arg11 arg12 arg13 f3 f4 f5 f6 f7 f8) := by
  iintro ⟨H3, H4, H5, H6, H7, H8, ⟨%f9, H9⟩, ⟨%f10, H10⟩, ⟨%f11, H11⟩, ⟨%f12, H12⟩, ⟨%f13, H13⟩⟩
  sl_unfold [k0_t1_body]
  sl_exec_parts
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iexists _; iexact H13

set_option warn.classDefReducibility false in
/-- Loop 1's invariant: the buffers are held. -/
@[sl_loop] def loopInv1 (v3 v7 : FVec F S384x128 .bf16) (w0 w1 : BitVec 32) :
    Gen.LoopInvTy_k0_t1 (F := F) Unit ℕ (UR sig nD τ) ℕ 𝒱₀ c none Set.univ i arg3 harg3 arg4 harg4 arg5 harg5 arg6 harg6 arg7 harg7 arg8 harg8 arg9 harg9 arg10 harg10 arg11 harg11 arg12 harg12 arg13 harg13 v3 v7 w0 w1 where
  inv _ _ := St c arg3 arg4 arg5 arg6 arg7 arg8 arg9 arg10 arg11 arg12 arg13 f3 f4 f5 f6 f7 f8
  step k acc := trip1 c i arg3 harg3 arg4 harg4 arg5 harg5 arg6 harg6 arg7 harg7 arg8 harg8 arg9 harg9 arg10 harg10 arg11 harg11 arg12 harg12 arg13 harg13 f3 f4 f5 f6 f7 f8 v3 v7 w0 w1 k

set_option warn.classDefReducibility false in
/-- Loop 2's invariant: the buffers are held. -/
@[sl_loop] def loopInv2 (v3 v7 : FVec F S384x128 .bf16) (w0 w1 : BitVec 32) :
    Gen.LoopInvTy_k0_t2 (F := F) Unit ℕ (UR sig nD τ) ℕ 𝒱₀ c none Set.univ i arg3 harg3 arg4 harg4 arg5 harg5 arg6 harg6 arg7 harg7 arg8 harg8 arg9 harg9 arg10 harg10 arg11 harg11 arg12 harg12 arg13 harg13 v3 v7 w0 w1 where
  inv _ _ := St c arg3 arg4 arg5 arg6 arg7 arg8 arg9 arg10 arg11 arg12 arg13 f3 f4 f5 f6 f7 f8
  step k acc := (Nat.not_lt_zero _ (Nat.lt_of_lt_of_eq k.isLt (trips2 i))).elim

/-- One trip of the weighted sums' loop. -/
theorem trip3 (w0 w1 : BitVec 32) (k : Fin (k0_t3_loop i).trips) :
    St c arg3 arg4 arg5 arg6 arg7 arg8 arg9 arg10 arg11 arg12 arg13 f3 f4 f5 f6 f7 f8
      ⊢ wp frame (wpE (defs₀ (F := F)) 𝒱₀ (c : Thread nD τ) none) Set.univ
        (k0_t3_body (F := F) i arg3 harg3 arg4 harg4 arg5 harg5 arg6 harg6 arg7 harg7 arg8 harg8 arg9 harg9 arg10 harg10 arg11 harg11 arg12 harg12 arg13 harg13 w0 w1 k ())
        (fun _ => St c arg3 arg4 arg5 arg6 arg7 arg8 arg9 arg10 arg11 arg12 arg13 f3 f4 f5 f6 f7 f8) := by
  iintro ⟨H3, H4, H5, H6, H7, H8, ⟨%f9, H9⟩, ⟨%f10, H10⟩, ⟨%f11, H11⟩, ⟨%f12, H12⟩, ⟨%f13, H13⟩⟩
  sl_unfold [k0_t3_body]
  sl_exec_parts
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iexists _; iexact H13

set_option warn.classDefReducibility false in
/-- Loop 3's invariant: the buffers are held. -/
@[sl_loop] def loopInv3 (w0 w1 : BitVec 32) :
    Gen.LoopInvTy_k0_t3 (F := F) Unit ℕ (UR sig nD τ) ℕ 𝒱₀ c none Set.univ i arg3 harg3 arg4 harg4 arg5 harg5 arg6 harg6 arg7 harg7 arg8 harg8 arg9 harg9 arg10 harg10 arg11 harg11 arg12 harg12 arg13 harg13 w0 w1 where
  inv _ _ := St c arg3 arg4 arg5 arg6 arg7 arg8 arg9 arg10 arg11 arg12 arg13 f3 f4 f5 f6 f7 f8
  step k acc := trip3 c i arg3 harg3 arg4 harg4 arg5 harg5 arg6 harg6 arg7 harg7 arg8 harg8 arg9 harg9 arg10 harg10 arg11 harg11 arg12 harg12 arg13 harg13 f3 f4 f5 f6 f7 f8 w0 w1 k

set_option warn.classDefReducibility false in
/-- Loop 4's invariant: the buffers are held. -/
@[sl_loop] def loopInv4 (w0 w1 : BitVec 32) :
    Gen.LoopInvTy_k0_t4 (F := F) Unit ℕ (UR sig nD τ) ℕ 𝒱₀ c none Set.univ i arg3 harg3 arg4 harg4 arg5 harg5 arg6 harg6 arg7 harg7 arg8 harg8 arg9 harg9 arg10 harg10 arg11 harg11 arg12 harg12 arg13 harg13 w0 w1 where
  inv _ _ := St c arg3 arg4 arg5 arg6 arg7 arg8 arg9 arg10 arg11 arg12 arg13 f3 f4 f5 f6 f7 f8
  step k acc := (Nat.not_lt_zero _ (Nat.lt_of_lt_of_eq k.isLt (trips4 i))).elim

/-- The scaled queries are read and the running maxima reset. -/
theorem part8  :
    St c arg3 arg4 arg5 arg6 arg7 arg8 arg9 arg10 arg11 arg12 arg13 f3 f4 f5 f6 f7 f8
      ⊢ wp frame (wpE (defs₀ (F := F)) 𝒱₀ (c : Thread nD τ) none) Set.univ
        (k0_part8 (F := F) i arg3 harg3 arg4 harg4 arg5 harg5 arg6 harg6 arg7 harg7 arg8 harg8 arg9 harg9 arg10 harg10 arg11 harg11 arg12 harg12 arg13 harg13 )
        (fun _ => St c arg3 arg4 arg5 arg6 arg7 arg8 arg9 arg10 arg11 arg12 arg13 f3 f4 f5 f6 f7 f8) := by
  iintro ⟨H3, H4, H5, H6, H7, H8, ⟨%f9, H9⟩, ⟨%f10, H10⟩, ⟨%f11, H11⟩, ⟨%f12, H12⟩, ⟨%f13, H13⟩⟩
  sl_unfold [k0_part8]
  sl_exec_parts
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iexists _; iexact H13

/-- The scores of four key tiles at a time. -/
theorem part10 (v3 v7 : FVec F S384x128 .bf16) (w0 w1 : BitVec 32) :
    St c arg3 arg4 arg5 arg6 arg7 arg8 arg9 arg10 arg11 arg12 arg13 f3 f4 f5 f6 f7 f8
      ⊢ wp frame (wpE (defs₀ (F := F)) 𝒱₀ (c : Thread nD τ) none) Set.univ
        (k0_part10 (F := F) i arg3 harg3 arg4 harg4 arg5 harg5 arg6 harg6 arg7 harg7 arg8 harg8 arg9 harg9 arg10 harg10 arg11 harg11 arg12 harg12 arg13 harg13 v3 v7 w0 w1)
        (fun _ => St c arg3 arg4 arg5 arg6 arg7 arg8 arg9 arg10 arg11 arg12 arg13 f3 f4 f5 f6 f7 f8) := by
  iintro ⟨H3, H4, H5, H6, H7, H8, ⟨%f9, H9⟩, ⟨%f10, H10⟩, ⟨%f11, H11⟩, ⟨%f12, H12⟩, ⟨%f13, H13⟩⟩
  sl_unfold [k0_part10]
  sl_exec_parts
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iexists _; iexact H13

/-- The rest of that loop, which never runs. -/
theorem part12 (v3 v7 : FVec F S384x128 .bf16) (w0 w1 : BitVec 32) :
    St c arg3 arg4 arg5 arg6 arg7 arg8 arg9 arg10 arg11 arg12 arg13 f3 f4 f5 f6 f7 f8
      ⊢ wp frame (wpE (defs₀ (F := F)) 𝒱₀ (c : Thread nD τ) none) Set.univ
        (k0_part12 (F := F) i arg3 harg3 arg4 harg4 arg5 harg5 arg6 harg6 arg7 harg7 arg8 harg8 arg9 harg9 arg10 harg10 arg11 harg11 arg12 harg12 arg13 harg13 v3 v7 w0 w1)
        (fun _ => St c arg3 arg4 arg5 arg6 arg7 arg8 arg9 arg10 arg11 arg12 arg13 f3 f4 f5 f6 f7 f8) := by
  iintro ⟨H3, H4, H5, H6, H7, H8, ⟨%f9, H9⟩, ⟨%f10, H10⟩, ⟨%f11, H11⟩, ⟨%f12, H12⟩, ⟨%f13, H13⟩⟩
  sl_unfold [k0_part12]
  sl_exec_parts
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iexists _; iexact H13

/-- The scores of two more key tiles. -/
theorem part14 (v3 v7 : FVec F S384x128 .bf16) (w0 : BitVec 32) :
    St c arg3 arg4 arg5 arg6 arg7 arg8 arg9 arg10 arg11 arg12 arg13 f3 f4 f5 f6 f7 f8
      ⊢ wp frame (wpE (defs₀ (F := F)) 𝒱₀ (c : Thread nD τ) none) Set.univ
        (k0_part14 (F := F) i arg3 harg3 arg4 harg4 arg5 harg5 arg6 harg6 arg7 harg7 arg8 harg8 arg9 harg9 arg10 harg10 arg11 harg11 arg12 harg12 arg13 harg13 v3 v7 w0)
        (fun _ => St c arg3 arg4 arg5 arg6 arg7 arg8 arg9 arg10 arg11 arg12 arg13 f3 f4 f5 f6 f7 f8) := by
  iintro ⟨H3, H4, H5, H6, H7, H8, ⟨%f9, H9⟩, ⟨%f10, H10⟩, ⟨%f11, H11⟩, ⟨%f12, H12⟩, ⟨%f13, H13⟩⟩
  sl_unfold [k0_part14]
  by_cases hC : k0_cond1 i = 1#1
  · sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iexists _; iexact H13
  · sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iexists _; iexact H13

/-- The scores of one more key tile. -/
theorem part16 (v3 v7 : FVec F S384x128 .bf16) (w0 : BitVec 32) :
    St c arg3 arg4 arg5 arg6 arg7 arg8 arg9 arg10 arg11 arg12 arg13 f3 f4 f5 f6 f7 f8
      ⊢ wp frame (wpE (defs₀ (F := F)) 𝒱₀ (c : Thread nD τ) none) Set.univ
        (k0_part16 (F := F) i arg3 harg3 arg4 harg4 arg5 harg5 arg6 harg6 arg7 harg7 arg8 harg8 arg9 harg9 arg10 harg10 arg11 harg11 arg12 harg12 arg13 harg13 v3 v7 w0)
        (fun _ => St c arg3 arg4 arg5 arg6 arg7 arg8 arg9 arg10 arg11 arg12 arg13 f3 f4 f5 f6 f7 f8) := by
  iintro ⟨H3, H4, H5, H6, H7, H8, ⟨%f9, H9⟩, ⟨%f10, H10⟩, ⟨%f11, H11⟩, ⟨%f12, H12⟩, ⟨%f13, H13⟩⟩
  sl_unfold [k0_part16]
  by_cases hC : k0_cond2 i = 1#1
  · sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iexists _; iexact H13
  · sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iexists _; iexact H13

/-- The scores of the key tile before the diagonal. -/
theorem part18 (v3 v7 : FVec F S384x128 .bf16) (w0 : BitVec 32) :
    St c arg3 arg4 arg5 arg6 arg7 arg8 arg9 arg10 arg11 arg12 arg13 f3 f4 f5 f6 f7 f8
      ⊢ wp frame (wpE (defs₀ (F := F)) 𝒱₀ (c : Thread nD τ) none) Set.univ
        (k0_part18 (F := F) i arg3 harg3 arg4 harg4 arg5 harg5 arg6 harg6 arg7 harg7 arg8 harg8 arg9 harg9 arg10 harg10 arg11 harg11 arg12 harg12 arg13 harg13 w0 v3 v7)
        (fun _ => St c arg3 arg4 arg5 arg6 arg7 arg8 arg9 arg10 arg11 arg12 arg13 f3 f4 f5 f6 f7 f8) := by
  iintro ⟨H3, H4, H5, H6, H7, H8, ⟨%f9, H9⟩, ⟨%f10, H10⟩, ⟨%f11, H11⟩, ⟨%f12, H12⟩, ⟨%f13, H13⟩⟩
  sl_unfold [k0_part18]
  by_cases hC : k0_cond3 i = 1#1
  · letI : ClosedOff (k0_off18 i) := ⟨![0, 384 * ((i 2).val - 1)], off18_eq i hC⟩
    letI : ClosedOff (k0_off20 i) := ⟨![384, 384 * ((i 2).val - 1)], off20_eq i hC⟩
    sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iexists _; iexact H13
  · sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iexists _; iexact H13

/-- The scores of the diagonal key tile. -/
theorem part19 (v3 v7 : FVec F S384x128 .bf16) (w0 : BitVec 32) :
    St c arg3 arg4 arg5 arg6 arg7 arg8 arg9 arg10 arg11 arg12 arg13 f3 f4 f5 f6 f7 f8
      ⊢ wp frame (wpE (defs₀ (F := F)) 𝒱₀ (c : Thread nD τ) none) Set.univ
        (k0_part19 (F := F) i arg3 harg3 arg4 harg4 arg5 harg5 arg6 harg6 arg7 harg7 arg8 harg8 arg9 harg9 arg10 harg10 arg11 harg11 arg12 harg12 arg13 harg13 w0 v3 v7)
        (fun _ => St c arg3 arg4 arg5 arg6 arg7 arg8 arg9 arg10 arg11 arg12 arg13 f3 f4 f5 f6 f7 f8) := by
  iintro ⟨H3, H4, H5, H6, H7, H8, ⟨%f9, H9⟩, ⟨%f10, H10⟩, ⟨%f11, H11⟩, ⟨%f12, H12⟩, ⟨%f13, H13⟩⟩
  sl_unfold [k0_part19]
  sl_exec_parts
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iexists _; iexact H13

/-- The row maxima; the sums are reset. -/
theorem part20 (w0 : BitVec 32) (a : FVec F S384x384 .f32) (b : Vec F S384x128 .f32) (d : FVec F S384x128 .f32) :
    St c arg3 arg4 arg5 arg6 arg7 arg8 arg9 arg10 arg11 arg12 arg13 f3 f4 f5 f6 f7 f8
      ⊢ wp frame (wpE (defs₀ (F := F)) 𝒱₀ (c : Thread nD τ) none) Set.univ
        (k0_part20 (F := F) i arg3 harg3 arg4 harg4 arg5 harg5 arg6 harg6 arg7 harg7 arg8 harg8 arg9 harg9 arg10 harg10 arg11 harg11 arg12 harg12 arg13 harg13 w0 a b d)
        (fun _ => St c arg3 arg4 arg5 arg6 arg7 arg8 arg9 arg10 arg11 arg12 arg13 f3 f4 f5 f6 f7 f8) := by
  iintro ⟨H3, H4, H5, H6, H7, H8, ⟨%f9, H9⟩, ⟨%f10, H10⟩, ⟨%f11, H11⟩, ⟨%f12, H12⟩, ⟨%f13, H13⟩⟩
  sl_unfold [k0_part20]
  sl_exec_parts
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iexists _; iexact H13

/-- The weighted sums over four key tiles at a time. -/
theorem part22 (w0 w1 : BitVec 32) :
    St c arg3 arg4 arg5 arg6 arg7 arg8 arg9 arg10 arg11 arg12 arg13 f3 f4 f5 f6 f7 f8
      ⊢ wp frame (wpE (defs₀ (F := F)) 𝒱₀ (c : Thread nD τ) none) Set.univ
        (k0_part22 (F := F) i arg3 harg3 arg4 harg4 arg5 harg5 arg6 harg6 arg7 harg7 arg8 harg8 arg9 harg9 arg10 harg10 arg11 harg11 arg12 harg12 arg13 harg13 w0 w1)
        (fun _ => St c arg3 arg4 arg5 arg6 arg7 arg8 arg9 arg10 arg11 arg12 arg13 f3 f4 f5 f6 f7 f8) := by
  iintro ⟨H3, H4, H5, H6, H7, H8, ⟨%f9, H9⟩, ⟨%f10, H10⟩, ⟨%f11, H11⟩, ⟨%f12, H12⟩, ⟨%f13, H13⟩⟩
  sl_unfold [k0_part22]
  sl_exec_parts
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iexists _; iexact H13

/-- The rest of that loop, which never runs. -/
theorem part24 (w0 w1 : BitVec 32) :
    St c arg3 arg4 arg5 arg6 arg7 arg8 arg9 arg10 arg11 arg12 arg13 f3 f4 f5 f6 f7 f8
      ⊢ wp frame (wpE (defs₀ (F := F)) 𝒱₀ (c : Thread nD τ) none) Set.univ
        (k0_part24 (F := F) i arg3 harg3 arg4 harg4 arg5 harg5 arg6 harg6 arg7 harg7 arg8 harg8 arg9 harg9 arg10 harg10 arg11 harg11 arg12 harg12 arg13 harg13 w0 w1)
        (fun _ => St c arg3 arg4 arg5 arg6 arg7 arg8 arg9 arg10 arg11 arg12 arg13 f3 f4 f5 f6 f7 f8) := by
  iintro ⟨H3, H4, H5, H6, H7, H8, ⟨%f9, H9⟩, ⟨%f10, H10⟩, ⟨%f11, H11⟩, ⟨%f12, H12⟩, ⟨%f13, H13⟩⟩
  sl_unfold [k0_part24]
  sl_exec_parts
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iexists _; iexact H13

/-- Two more key tiles' weighted sums. -/
theorem part26 (w0 : BitVec 32) :
    St c arg3 arg4 arg5 arg6 arg7 arg8 arg9 arg10 arg11 arg12 arg13 f3 f4 f5 f6 f7 f8
      ⊢ wp frame (wpE (defs₀ (F := F)) 𝒱₀ (c : Thread nD τ) none) Set.univ
        (k0_part26 (F := F) i arg3 harg3 arg4 harg4 arg5 harg5 arg6 harg6 arg7 harg7 arg8 harg8 arg9 harg9 arg10 harg10 arg11 harg11 arg12 harg12 arg13 harg13 w0)
        (fun _ => St c arg3 arg4 arg5 arg6 arg7 arg8 arg9 arg10 arg11 arg12 arg13 f3 f4 f5 f6 f7 f8) := by
  iintro ⟨H3, H4, H5, H6, H7, H8, ⟨%f9, H9⟩, ⟨%f10, H10⟩, ⟨%f11, H11⟩, ⟨%f12, H12⟩, ⟨%f13, H13⟩⟩
  sl_unfold [k0_part26]
  by_cases hC : k0_cond4 i = 1#1
  · sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iexists _; iexact H13
  · sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iexists _; iexact H13

/-- One more key tile's weighted sums. -/
theorem part28 (w0 : BitVec 32) :
    St c arg3 arg4 arg5 arg6 arg7 arg8 arg9 arg10 arg11 arg12 arg13 f3 f4 f5 f6 f7 f8
      ⊢ wp frame (wpE (defs₀ (F := F)) 𝒱₀ (c : Thread nD τ) none) Set.univ
        (k0_part28 (F := F) i arg3 harg3 arg4 harg4 arg5 harg5 arg6 harg6 arg7 harg7 arg8 harg8 arg9 harg9 arg10 harg10 arg11 harg11 arg12 harg12 arg13 harg13 w0)
        (fun _ => St c arg3 arg4 arg5 arg6 arg7 arg8 arg9 arg10 arg11 arg12 arg13 f3 f4 f5 f6 f7 f8) := by
  iintro ⟨H3, H4, H5, H6, H7, H8, ⟨%f9, H9⟩, ⟨%f10, H10⟩, ⟨%f11, H11⟩, ⟨%f12, H12⟩, ⟨%f13, H13⟩⟩
  sl_unfold [k0_part28]
  by_cases hC : k0_cond5 i = 1#1
  · sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iexists _; iexact H13
  · sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iexists _; iexact H13

/-- The output block is formed. -/
theorem part29  :
    St c arg3 arg4 arg5 arg6 arg7 arg8 arg9 arg10 arg11 arg12 arg13 f3 f4 f5 f6 f7 f8
      ⊢ wp frame (wpE (defs₀ (F := F)) 𝒱₀ (c : Thread nD τ) none) Set.univ
        (k0_part29 (F := F) i arg3 harg3 arg4 harg4 arg5 harg5 arg6 harg6 arg7 harg7 arg8 harg8 arg9 harg9 arg10 harg10 arg11 harg11 arg12 harg12 arg13 harg13 )
        (fun _ => St c arg3 arg4 arg5 arg6 arg7 arg8 arg9 arg10 arg11 arg12 arg13 f3 f4 f5 f6 f7 f8) := by
  iintro ⟨H3, H4, H5, H6, H7, H8, ⟨%f9, H9⟩, ⟨%f10, H10⟩, ⟨%f11, H11⟩, ⟨%f12, H12⟩, ⟨%f13, H13⟩⟩
  sl_unfold [k0_part29]
  sl_exec_parts
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iexists _; iexact H13

/-- THE BODY: it runs to its end and leaves the eleven buffers held. -/
theorem body :
    St c arg3 arg4 arg5 arg6 arg7 arg8 arg9 arg10 arg11 arg12 arg13 f3 f4 f5 f6 f7 f8
      ⊢ wp frame (wpE (defs₀ (F := F)) 𝒱₀ (c : Thread nD τ) none) Set.univ
        (cc0_diff_attn_prompt (F := F) i arg3 harg3 arg4 harg4 arg5 harg5 arg6 harg6 arg7 harg7 arg8 harg8 arg9 harg9 arg10 harg10 arg11 harg11 arg12 harg12 arg13 harg13)
        (fun _ => St c arg3 arg4 arg5 arg6 arg7 arg8 arg9 arg10 arg11 arg12 arg13 f3 f4 f5 f6 f7 f8) := by
  rw [cc0_diff_attn_prompt_eq_skeleton]
  unfold cc0_diff_attn_prompt_skel
  refine seq (part8 c i arg3 harg3 arg4 harg4 arg5 harg5 arg6 harg6 arg7 harg7 arg8 harg8 arg9 harg9 arg10 harg10 arg11 harg11 arg12 harg12 arg13 harg13 f3 f4 f5 f6 f7 f8) fun ⟨_, v3, v7, _, _, _⟩ => ?_
  refine seqWords _ rfl ?_
  refine seq (part10 c i arg3 harg3 arg4 harg4 arg5 harg5 arg6 harg6 arg7 harg7 arg8 harg8 arg9 harg9 arg10 harg10 arg11 harg11 arg12 harg12 arg13 harg13 f3 f4 f5 f6 f7 f8 v3 v7 _ _) fun _ => ?_
  refine seqWords _ rfl ?_
  refine seq (part12 c i arg3 harg3 arg4 harg4 arg5 harg5 arg6 harg6 arg7 harg7 arg8 harg8 arg9 harg9 arg10 harg10 arg11 harg11 arg12 harg12 arg13 harg13 f3 f4 f5 f6 f7 f8 v3 v7 _ _) fun _ => ?_
  refine seqWords _ rfl ?_
  refine seq (part14 c i arg3 harg3 arg4 harg4 arg5 harg5 arg6 harg6 arg7 harg7 arg8 harg8 arg9 harg9 arg10 harg10 arg11 harg11 arg12 harg12 arg13 harg13 f3 f4 f5 f6 f7 f8 v3 v7 _) fun _ => ?_
  refine seqWords _ rfl ?_
  refine seq (part16 c i arg3 harg3 arg4 harg4 arg5 harg5 arg6 harg6 arg7 harg7 arg8 harg8 arg9 harg9 arg10 harg10 arg11 harg11 arg12 harg12 arg13 harg13 f3 f4 f5 f6 f7 f8 v3 v7 _) fun _ => ?_
  refine seqWords _ rfl ?_
  refine seq (part18 c i arg3 harg3 arg4 harg4 arg5 harg5 arg6 harg6 arg7 harg7 arg8 harg8 arg9 harg9 arg10 harg10 arg11 harg11 arg12 harg12 arg13 harg13 f3 f4 f5 f6 f7 f8 v3 v7 _) fun _ => ?_
  refine seq (part19 c i arg3 harg3 arg4 harg4 arg5 harg5 arg6 harg6 arg7 harg7 arg8 harg8 arg9 harg9 arg10 harg10 arg11 harg11 arg12 harg12 arg13 harg13 f3 f4 f5 f6 f7 f8 v3 v7 _) fun ⟨_, _, _⟩ => ?_
  refine seq (part20 c i arg3 harg3 arg4 harg4 arg5 harg5 arg6 harg6 arg7 harg7 arg8 harg8 arg9 harg9 arg10 harg10 arg11 harg11 arg12 harg12 arg13 harg13 f3 f4 f5 f6 f7 f8 _ _ _ _) fun ⟨_, _, _, _, _⟩ => ?_
  refine seqWords _ rfl ?_
  refine seq (part22 c i arg3 harg3 arg4 harg4 arg5 harg5 arg6 harg6 arg7 harg7 arg8 harg8 arg9 harg9 arg10 harg10 arg11 harg11 arg12 harg12 arg13 harg13 f3 f4 f5 f6 f7 f8 _ _) fun _ => ?_
  refine seqWords _ rfl ?_
  refine seq (part24 c i arg3 harg3 arg4 harg4 arg5 harg5 arg6 harg6 arg7 harg7 arg8 harg8 arg9 harg9 arg10 harg10 arg11 harg11 arg12 harg12 arg13 harg13 f3 f4 f5 f6 f7 f8 _ _) fun _ => ?_
  refine seqWords _ rfl ?_
  refine seq (part26 c i arg3 harg3 arg4 harg4 arg5 harg5 arg6 harg6 arg7 harg7 arg8 harg8 arg9 harg9 arg10 harg10 arg11 harg11 arg12 harg12 arg13 harg13 f3 f4 f5 f6 f7 f8 _) fun _ => ?_
  refine seqWords _ rfl ?_
  refine seq (part28 c i arg3 harg3 arg4 harg4 arg5 harg5 arg6 harg6 arg7 harg7 arg8 harg8 arg9 harg9 arg10 harg10 arg11 harg11 arg12 harg12 arg13 harg13 f3 f4 f5 f6 f7 f8 _) fun _ => ?_
  refine seq (part29 c i arg3 harg3 arg4 harg4 arg5 harg5 arg6 harg6 arg7 harg7 arg8 harg8 arg9 harg9 arg10 harg10 arg11 harg11 arg12 harg12 arg13 harg13 f3 f4 f5 f6 f7 f8) fun v => ?_
  iintro ⟨H3, H4, H5, H6, H7, H8, ⟨%f9, H9⟩, ⟨%f10, H10⟩, ⟨%f11, H11⟩, ⟨%f12, H12⟩, ⟨%f13, H13⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iexists _; iexact H13

end Cert.Kernel.Attn

end
-- ==== Proof.KernelFrame.lean ====
/-
  The frame of the attention program at any float model: it terminates, nothing faults, its arguments end unchanged and
  every semaphore counter ends at zero.  The body's run is `body`; the output's contents are not named.
-/
module

public import proofs.«01_k».proof.Proof.KernelParts
public import proofs.«01_k».proof.Proof.Gen.Kernel.Frame

@[expose] public section

set_option maxRecDepth 8192
set_option maxHeartbeats 400000

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data: the inputs' blocks stay, the output's block is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Dat.unnamed 6 t
  Φ _ := Pipeline.ΦA spec0 c
  q _ := fullShare
  owed _ := 0

theorem A_eq (c : Dev nD) (w : Fin cfg0.W) : (dats m 0 c).A w = V m c (Pipeline.arrRef spec0 w) := by
  dsimp only [dats]

/-- The output window is forgotten. -/
def fgt (w : Fin cfg0.W) : Bool := decide (w = 6)

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

theorem pt_whole (c : Dev nD) (b : Ref sig .tc) (f : Buf (Elt F) ((c : Thread nD τ).loc b)) :
    (pt c (Memref.whole b) f : sProp 𝕄) = iprop(((c : Thread nD τ).loc b) ↦{fullShare} f) := by
  unfold pt; simp only [Memref.view_whole, View.set_whole]

theorem ex_whole (c : Dev nD) (b : Ref sig .tc) :
    (ex c (Memref.whole b) : sProp 𝕄) = iprop(∃ f : Buf (Elt F) ((c : Thread nD τ).loc b), ((c : Thread nD τ).loc b) ↦{fullShare} f) :=
  congrArg (fun P => iprop(∃ f, P f)) (funext fun f => pt_whole c b f)

theorem scratch_eq (c : Dev nD) :
    (Pipeline.scopedRest (Ix := Unit) (Name := ℕ) (U := UR sig nD τ) (Lvl := ℕ) (Val := Elt F) spec0 c : sProp 𝕄)
      = iprop(ex c (Memref.whole cc0_scratch0) ∗ ex c (Memref.whole cc0_scratch1) ∗ ex c (Memref.whole cc0_scratch2) ∗ ex c (Memref.whole cc0_scratch3)) := by
  rw [scopedRest0_eq, ex_whole, ex_whole, ex_whole, ex_whole]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ X, owns (c : Thread nD τ) (st0_6 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (∃ X, owns (c : Thread nD τ) (st0_6 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  simp only [after_0, after_1, after_2, after_3, after_4, after_5]
  unfold Pipeline.ΦA owns
  rw [scratch_eq]
  iintro ⟨⟨⟨HS0, HS1, HS2, HS3⟩, Hg⟩, HW, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%X, %f6, %h6, H6⟩⟩
  iapply (wp_wand_r frame (wpE (defs₀ (F := F)) Variants.none (c : Thread nD τ) none) Set.univ)
  isplitl [H0 H1 H2 H3 H4 H5 H6 HS0 HS1 HS2 HS3]
  · iapply (body c (grid0.coords t) (f3 := f0) (f4 := f1) (f5 := f2) (f6 := f3) (f7 := f4) (f8 := f5))
    isplitl [H0]; · iexact H0
    isplitl [H1]; · iexact H1
    isplitl [H2]; · iexact H2
    isplitl [H3]; · iexact H3
    isplitl [H4]; · iexact H4
    isplitl [H5]; · iexact H5
    isplitl [H6]; · iexists f6; iexact H6
    isplitl [HS0]; · iexact HS0
    isplitl [HS1]; · iexact HS1
    isplitl [HS2]; · iexact HS2
    iexact HS3
  iintro %_ ⟨H0, H1, H2, H3, H4, H5, ⟨%g6, H6⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [HW]; · iexact HW
  isplitl [H0]
  · iexists f0; isplitr; · ipureintro; exact h0.trans (before0_0_of m (dats m 0 c) (A_eq m c 0) (after_0 m c) t d0)
    iexact H0
  isplitl [H1]
  · iexists f1; isplitr; · ipureintro; exact h1.trans (before0_1_of m (dats m 0 c) (A_eq m c 1) (after_1 m c) t d1)
    iexact H1
  isplitl [H2]
  · iexists f2; isplitr; · ipureintro; exact h2.trans (before0_2_of m (dats m 0 c) (A_eq m c 2) (after_2 m c) t d2)
    iexact H2
  isplitl [H3]
  · iexists f3; isplitr; · ipureintro; exact h3.trans (before0_3_of m (dats m 0 c) (A_eq m c 3) (after_3 m c) t d3)
    iexact H3
  isplitl [H4]
  · iexists f4; isplitr; · ipureintro; exact h4.trans (before0_4_of m (dats m 0 c) (A_eq m c 4) (after_4 m c) t d4)
    iexact H4
  isplitl [H5]
  · iexists f5; isplitr; · ipureintro; exact h5.trans (before0_5_of m (dats m 0 c) (A_eq m c 5) (after_5 m c) t d5)
    iexact H5
  iexists _; iexists g6; isplitr; · ipureintro; rfl
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (h.1.arr_in c 4 rfl).trans (V_main_arg4 m c),
      ((h.1 c).2 main_arg5 (Pipeline.mem_restRefs_of main_arg5 (by decide) (by decide))).trans (V_main_arg5 m c)⟩, h.2⟩) (run_main m ρ)

end Cert.Kernel.Attn

end
-- ==== Proof.Places.lean ====
/-
  Where the attention kernel's body reads and writes, at a point of its grid: the closed forms of its offsets, trip counts
  and conditions, in the query tile's number `i 2`.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Exec
public import Idealize.ShloMosaic.Lib.Tactic

@[expose] public section

namespace Cert.KernelIdeal.Attn

open Cert.KernelIdeal Cert.KernelIdeal.Gen
open Idealize.ShloMosaic Idealize.ShloMosaic.TcCoe Idealize.ShloMosaic.Tactic

theorem trips1 : ∀ i : grid0.Coords, (k0_t1_loop i).trips = ((i 2).val - 1) / 4 := by decide +kernel
theorem trips2 : ∀ i : grid0.Coords, (k0_t2_loop i).trips = 0 := by decide +kernel
theorem trips3 : ∀ i : grid0.Coords, (k0_t3_loop i).trips = ((i 2).val + 1) / 4 := by decide +kernel
theorem trips4 : ∀ i : grid0.Coords, (k0_t4_loop i).trips = 0 := by decide +kernel

theorem off1_eq : ∀ (i : grid0.Coords) (k : Fin (k0_t1_loop i).trips), k0_off1 i k = ![1536 * k.val, 0] := by decide +kernel
theorem off2_eq : ∀ (i : grid0.Coords) (k : Fin (k0_t1_loop i).trips), k0_off2 i k = ![0, 1536 * k.val] := by decide +kernel
theorem off3_eq : ∀ (i : grid0.Coords) (k : Fin (k0_t1_loop i).trips), k0_off3 i k = ![1536 * k.val, 128] := by decide +kernel
theorem off4_eq : ∀ (i : grid0.Coords) (k : Fin (k0_t1_loop i).trips), k0_off4 i k = ![384, 1536 * k.val] := by decide +kernel
theorem off9_eq : ∀ i : grid0.Coords, k0_off9 i = ![1536 * (((i 2).val - 1) / 4), 0] := by decide +kernel
theorem off10_eq : ∀ i : grid0.Coords, k0_off10 i = ![0, 1536 * (((i 2).val - 1) / 4)] := by decide +kernel
theorem off11_eq : ∀ i : grid0.Coords, k0_off11 i = ![1536 * (((i 2).val - 1) / 4), 128] := by decide +kernel
theorem off12_eq : ∀ i : grid0.Coords, k0_off12 i = ![384, 1536 * (((i 2).val - 1) / 4)] := by decide +kernel
theorem off13_eq : ∀ i : grid0.Coords, k0_off13 i = ![768 * (((i 2).val - 1) / 2), 0] := by decide +kernel
theorem off14_eq : ∀ i : grid0.Coords, k0_off14 i = ![0, 768 * (((i 2).val - 1) / 2)] := by decide +kernel
theorem off15_eq : ∀ i : grid0.Coords, k0_off15 i = ![768 * (((i 2).val - 1) / 2), 128] := by decide +kernel
theorem off16_eq : ∀ i : grid0.Coords, k0_off16 i = ![384, 768 * (((i 2).val - 1) / 2)] := by decide +kernel
theorem off17_eq : ∀ i : grid0.Coords, k0_cond3 i = 1#1 → k0_off17 i = ![384 * ((i 2).val - 1), 0] := by decide +kernel
theorem off18_eq : ∀ i : grid0.Coords, k0_cond3 i = 1#1 → k0_off18 i = ![0, 384 * ((i 2).val - 1)] := by decide +kernel
theorem off19_eq : ∀ i : grid0.Coords, k0_cond3 i = 1#1 → k0_off19 i = ![384 * ((i 2).val - 1), 128] := by decide +kernel
theorem off20_eq : ∀ i : grid0.Coords, k0_cond3 i = 1#1 → k0_off20 i = ![384, 384 * ((i 2).val - 1)] := by decide +kernel
theorem off31_eq : ∀ i : grid0.Coords, k0_off31 i = ![0, 768 * (((i 2).val + 1) / 2)] := by decide +kernel
theorem off32_eq : ∀ i : grid0.Coords, k0_off32 i = ![768 * (((i 2).val + 1) / 2), 0] := by decide +kernel

theorem off21_eq : ∀ i : grid0.Coords, k0_off21 i = ![384 * (i 2).val, 0] := by decide +kernel
theorem off22_eq : ∀ i : grid0.Coords, k0_off22 i = ![0, 384 * (i 2).val] := by decide +kernel
theorem off23_eq : ∀ i : grid0.Coords, k0_off23 i = ![384 * (i 2).val, 128] := by decide +kernel
theorem off24_eq : ∀ i : grid0.Coords, k0_off24 i = ![384, 384 * (i 2).val] := by decide +kernel
theorem off25_eq : ∀ (i : grid0.Coords) (k : Fin (k0_t3_loop i).trips), k0_off25 i k = ![0, 1536 * k.val] := by decide +kernel
theorem off26_eq : ∀ (i : grid0.Coords) (k : Fin (k0_t3_loop i).trips), k0_off26 i k = ![1536 * k.val, 0] := by decide +kernel
theorem off29_eq : ∀ i : grid0.Coords, k0_off29 i = ![0, 1536 * (((i 2).val + 1) / 4)] := by decide +kernel
theorem off30_eq : ∀ i : grid0.Coords, k0_off30 i = ![1536 * (((i 2).val + 1) / 4), 0] := by decide +kernel

instance (i : grid0.Coords) (k : Fin (k0_t1_loop i).trips) : ClosedOff (k0_off2 i k) := ⟨_, off2_eq i k⟩
instance (i : grid0.Coords) (k : Fin (k0_t1_loop i).trips) : ClosedOff (k0_off4 i k) := ⟨_, off4_eq i k⟩
instance (i : grid0.Coords) : ClosedOff (k0_off10 i) := ⟨_, off10_eq i⟩
instance (i : grid0.Coords) : ClosedOff (k0_off12 i) := ⟨_, off12_eq i⟩
instance (i : grid0.Coords) : ClosedOff (k0_off14 i) := ⟨_, off14_eq i⟩
instance (i : grid0.Coords) : ClosedOff (k0_off16 i) := ⟨_, off16_eq i⟩

theorem cond1 : ∀ i : grid0.Coords, k0_cond1 i = 1#1 ↔ 2 ≤ ((i 2).val - 1) % 4 := by decide +kernel
theorem cond2 : ∀ i : grid0.Coords, k0_cond2 i = 1#1 ↔ ((i 2).val - 1) % 2 = 1 := by decide +kernel
theorem cond3 : ∀ i : grid0.Coords, k0_cond3 i = 1#1 ↔ 1 ≤ (i 2).val := by decide +kernel
theorem cond4 : ∀ i : grid0.Coords, k0_cond4 i = 1#1 ↔ 2 ≤ ((i 2).val + 1) % 4 := by decide +kernel
theorem cond5 : ∀ i : grid0.Coords, k0_cond5 i = 1#1 ↔ ((i 2).val + 1) % 2 = 1 := by decide +kernel

end Cert.KernelIdeal.Attn
-- ==== Proof.Spec.lean ====
/-
  What the attention kernel computes at one grid point, as plain functions of row and column numbers: the scores `E` of
  the point's 768 query rows (384 of either map) against the keys, their row maxima `M`, the weights `P`, and what the
  scratch arrays hold after some of the key tiles have been visited (`Scored`, `Summed`).
-/
module

public import proofs.«01_k».proof.Proof.Gen.KernelIdeal.Skeleton
public import Idealize.ShloMosaic.Lib.ValueIdx
public import Idealize.ShloMosaic.Lib.Pointwise
public import Idealize.ShloMosaic.Lib.WritesUnit
public import Idealize.ShloMosaic.Lib.VecWindow

@[expose] public section

noncomputable section

namespace Cert.KernelIdeal.Attn

open Cert.KernelIdeal Cert.KernelIdeal.Gen
open Idealize.ShloMosaic

/-- An array's element by row and column number, zero outside the array. -/
def at2 {m n : ℕ} (X : (⟨2, ![m, n]⟩ : Shape).Idx → EReal) (r c : ℕ) : EReal :=
  if h : r < m ∧ c < n then X (ix2 ⟨r, h.1⟩ ⟨c, h.2⟩) else 0

/-- The same of an array of three axes. -/
def at3 {l m n : ℕ} (X : (⟨3, ![l, m, n]⟩ : Shape).Idx → EReal) (p r c : ℕ) : EReal :=
  if h : p < l ∧ r < m ∧ c < n then X (ix3 ⟨p, h.1⟩ ⟨r, h.2.1⟩ ⟨c, h.2.2⟩) else 0

theorem at2_lt {m n : ℕ} (X : (⟨2, ![m, n]⟩ : Shape).Idx → EReal) {r c : ℕ} (hr : r < m) (hc : c < n) :
    at2 X r c = X (ix2 ⟨r, hr⟩ ⟨c, hc⟩) := dif_pos ⟨hr, hc⟩

theorem at3_lt {l m n : ℕ} (X : (⟨3, ![l, m, n]⟩ : Shape).Idx → EReal) {p r c : ℕ} (hp : p < l) (hr : r < m) (hc : c < n) :
    at3 X p r c = X (ix3 ⟨p, hp⟩ ⟨r, hr⟩ ⟨c, hc⟩) := dif_pos ⟨hp, hr, hc⟩

theorem at2_ix {m n : ℕ} (X : (⟨2, ![m, n]⟩ : Shape).Idx → EReal) (r : Fin m) (c : Fin n) :
    X (ix2 r c) = at2 X r.val c.val := (at2_lt X r.isLt c.isLt).symm

theorem at3_ix {l m n : ℕ} (X : (⟨3, ![l, m, n]⟩ : Shape).Idx → EReal) (p : Fin l) (r : Fin m) (c : Fin n) :
    X (ix3 p r c) = at3 X p.val r.val c.val := (at3_lt X p.isLt r.isLt c.isLt).symm

/-- An array read back after a store into a rectangle of it: the payload inside, what was there before outside. -/
theorem at2_writes {m n s0 s1 : ℕ} {e : EltTy} {sp : Space} (v : View sig .tc sp ⟨2, ![m, n]⟩ e) (hE : Elt Ideal e = EReal)
    (f : v.ty.Contents (Elt Ideal)) {off : Fin 2 → ℕ} (inb : ∀ a, off a + (![s0, s1] : Fin 2 → ℕ) a ≤ (![m, n] : Fin 2 → ℕ) a)
    (w : (⟨2, ![s0, s1]⟩ : Shape).Idx → Elt Ideal e) (L : List (View.Piece (Elt Ideal) ⟨2, ![m, n]⟩ e)) (o0 o1 : ℕ)
    (hoff : off = ![o0, o1]) (r c : ℕ) :
    at2 (fun x => cast hE (v.read (Elt Ideal) (v.writes (Elt Ideal) f ((⟨Rect.unit (s := ⟨2, ![m, n]⟩) off ![s0, s1] inb, w⟩ : View.Piece (Elt Ideal) ⟨2, ![m, n]⟩ e) :: L)) x)) r c
      = if (o0 ≤ r ∧ r < o0 + s0) ∧ o1 ≤ c ∧ c < o1 + s1 then at2 (fun x => cast hE (w x)) (r - o0) (c - o1)
        else at2 (fun x => cast hE (v.read (Elt Ideal) (v.writes (Elt Ideal) f L) x)) r c := by
  subst hoff
  have h0 : o0 + s0 ≤ m := inb 0
  have h1 : o1 + s1 ≤ n := inb 1
  split_ifs with h
  · rw [at2_lt _ (show r < m by omega) (show c < n by omega), at2_lt _ (show r - o0 < s0 by omega) (show c - o1 < s1 by omega)]
    refine congrArg (cast hE) (View.read_writes_cons_unit_of_mem v f inb w L _ _ rfl ?_)
    intro a
    fin_cases a
    · show r = o0 + (r - o0); omega
    · show c = o1 + (c - o1); omega
  · unfold at2
    split_ifs with hb
    · have hh : (r < o0 ∨ o0 + s0 ≤ r) ∨ (c < o1 ∨ o1 + s1 ≤ c) := by omega
      rcases hh with hh | hh
      · exact congrArg (cast hE) (View.read_writes_cons_unit_of_not_mem v f inb w L _ rfl 0 hh)
      · exact congrArg (cast hE) (View.read_writes_cons_unit_of_not_mem v f inb w L _ rfl 1 hh)
    · rfl

/-- A load of a rectangle, by row and column number. -/
theorem at2_load {m n s0 s1 : ℕ} {e : EltTy} {sp : Space} (v : View sig .tc sp ⟨2, ![m, n]⟩ e) (hE : Elt Ideal e = EReal)
    (f : v.ty.Contents (Elt Ideal)) {off : Fin 2 → ℕ} (inb : ∀ a, off a + (![s0, s1] : Fin 2 → ℕ) a ≤ (![m, n] : Fin 2 → ℕ) a) (o0 o1 : ℕ)
    (hoff : off = ![o0, o1]) {r c : ℕ} (hr : r < s0) (hc : c < s1) :
    at2 (m := s0) (n := s1) (fun x => cast hE (v.readAt (Elt Ideal) (Rect.unit (s := ⟨2, ![m, n]⟩) off ![s0, s1] inb).toLoadRect f x)) r c
      = at2 (fun x => cast hE (v.read (Elt Ideal) f x)) (o0 + r) (o1 + c) := by
  subst hoff
  have h0 : o0 + s0 ≤ m := inb 0
  have h1 : o1 + s1 ≤ n := inb 1
  rw [at2_lt _ hr hc, at2_lt _ (show o0 + r < m by omega) (show o1 + c < n by omega)]
  refine congrArg (fun x => cast hE (v.read (Elt Ideal) f x)) ?_
  funext a
  refine Fin.ext ?_
  fin_cases a
  · show o0 + 1 * r = o0 + r; omega
  · show o1 + 1 * c = o1 + c; omega

theorem at2_writes32 {m n s0 s1 : ℕ} {sp : Space} (v : View sig .tc sp ⟨2, ![m, n]⟩ .f32)
    (f : v.ty.Contents (Elt Ideal)) {off : Fin 2 → ℕ} (inb : ∀ a, off a + (![s0, s1] : Fin 2 → ℕ) a ≤ (![m, n] : Fin 2 → ℕ) a)
    (w : (⟨2, ![s0, s1]⟩ : Shape).Idx → Elt Ideal .f32) (L : List (View.Piece (Elt Ideal) ⟨2, ![m, n]⟩ .f32)) (o0 o1 : ℕ)
    (hoff : off = ![o0, o1]) (r c : ℕ) :
    at2 (v.read (Elt Ideal) (v.writes (Elt Ideal) f ((⟨Rect.unit (s := ⟨2, ![m, n]⟩) off ![s0, s1] inb, w⟩ : View.Piece (Elt Ideal) ⟨2, ![m, n]⟩ .f32) :: L))) r c
      = if (o0 ≤ r ∧ r < o0 + s0) ∧ o1 ≤ c ∧ c < o1 + s1 then at2 w (r - o0) (c - o1)
        else at2 (v.read (Elt Ideal) (v.writes (Elt Ideal) f L)) r c :=
  at2_writes v rfl f inb w L o0 o1 hoff r c

theorem at2_load32 {m n s0 s1 : ℕ} {sp : Space} (v : View sig .tc sp ⟨2, ![m, n]⟩ .f32)
    (f : v.ty.Contents (Elt Ideal)) {off : Fin 2 → ℕ} (inb : ∀ a, off a + (![s0, s1] : Fin 2 → ℕ) a ≤ (![m, n] : Fin 2 → ℕ) a) (o0 o1 : ℕ)
    (hoff : off = ![o0, o1]) {r c : ℕ} (hr : r < s0) (hc : c < s1) :
    at2 (m := s0) (n := s1) (v.readAt (Elt Ideal) (Rect.unit (s := ⟨2, ![m, n]⟩) off ![s0, s1] inb).toLoadRect f) r c
      = at2 (v.read (Elt Ideal) f) (o0 + r) (o1 + c) :=
  at2_load v rfl f inb o0 o1 hoff hr hc

theorem at2_load16 {m n s0 s1 : ℕ} {sp : Space} (v : View sig .tc sp ⟨2, ![m, n]⟩ .bf16)
    (f : v.ty.Contents (Elt Ideal)) {off : Fin 2 → ℕ} (inb : ∀ a, off a + (![s0, s1] : Fin 2 → ℕ) a ≤ (![m, n] : Fin 2 → ℕ) a) (o0 o1 : ℕ)
    (hoff : off = ![o0, o1]) {r c : ℕ} (hr : r < s0) (hc : c < s1) :
    at2 (m := s0) (n := s1) (v.readAt (Elt Ideal) (Rect.unit (s := ⟨2, ![m, n]⟩) off ![s0, s1] inb).toLoadRect f) r c
      = at2 (v.read (Elt Ideal) f) (o0 + r) (o1 + c) :=
  at2_load v rfl f inb o0 o1 hoff hr hc

/-- A load of one plane's rectangle of an array of three axes. -/
theorem at3_load {l m n s0 s1 : ℕ} {sp : Space} (v : View sig .tc sp ⟨3, ![l, m, n]⟩ .f32)
    (f : v.ty.Contents (Elt Ideal)) {off : Fin 3 → ℕ} (inb : ∀ a, off a + (![1, s0, s1] : Fin 3 → ℕ) a ≤ (![l, m, n] : Fin 3 → ℕ) a) (p o0 o1 : ℕ)
    (hoff : off = ![p, o0, o1]) {r c : ℕ} (hr : r < s0) (hc : c < s1) :
    at3 (l := 1) (m := s0) (n := s1) (v.readAt (Elt Ideal) (Rect.unit (s := ⟨3, ![l, m, n]⟩) off ![1, s0, s1] inb).toLoadRect f) 0 r c
      = at3 (v.read (Elt Ideal) f) p (o0 + r) (o1 + c) := by
  subst hoff
  have hp : p + 1 ≤ l := inb 0
  have h0 : o0 + s0 ≤ m := inb 1
  have h1 : o1 + s1 ≤ n := inb 2
  rw [at3_lt _ Nat.one_pos hr hc, at3_lt _ (show p < l by omega) (show o0 + r < m by omega) (show o1 + c < n by omega)]
  refine congrArg (v.read (Elt Ideal) f) ?_
  funext a
  refine Fin.ext ?_
  fin_cases a
  · show p + 1 * 0 = p; omega
  · show o0 + 1 * r = o0 + r; omega
  · show o1 + 1 * c = o1 + c; omega

/-- Two to the power of `x`. -/
def ex2 (x : EReal) : EReal := (FloatOps.exp2 (x : Ideal .f32) : Ideal .f32)

/-- The factor the queries are scaled by: one over the root of the head's width, in units of base-2 logarithms. -/
def σ : EReal := (((Real.sqrt 128)⁻¹ * (Real.log 2)⁻¹ : ℝ) : EReal)

theorem named_scale : (Named.named κ "scale" 0x3E0293EE#32 : Ideal .f32) = σ :=
  IdealRules.named_const.ideal_named_scalar _ _ _ _ rfl

theorem named_neg : (Named.named κ "neg" 0xF149F2CA#32 : Ideal .f32) = (⊥ : EReal) :=
  IdealRules.named_const.ideal_named_scalar _ _ _ _ rfl

section
variable (qi : ℕ) (q : Vec Ideal S384x256 .f32) (k v : Vec Ideal S4224x256 .bf16) (b : Vec Ideal S2x768x384 .f32)

/-- The scaled product of query row `a` of map `m` with key row `c`. -/
def dotE (m a c : ℕ) : EReal := ∑ d : Fin 128, at2 q a (128 * m + d.val) * σ * at2 k c (128 * m + d.val)

/-- The score of query row `a` of map `m` against key row `c`: with the bias on the two key tiles nearest the
    diagonal, without it on the tiles further away. -/
def score (m a c : ℕ) : EReal :=
  if c / 384 + 1 < qi then dotE q k m a c
  else if c / 384 + 1 = qi then dotE q k m a c + at3 b m (384 + a) (c % 384)
  else dotE q k m a c + at3 b m a (c % 384)

/-- The same, the two maps' rows numbered one after the other. -/
def E (r c : ℕ) : EReal := if r < 384 then score qi q k b 0 r c else score qi q k b 1 (r - 384) c

/-- The row's greatest score. -/
def M (r : ℕ) : EReal := (Finset.range (384 * (qi + 1))).sup (E qi q k b r)

/-- The weight of key row `c` in row `r`, not yet divided by the sum. -/
def P (r c : ℕ) : EReal := ex2 (E qi q k b r c - M qi q k b r)

/-- After the first `T` key tiles: their scores are stored, and each of the 128 lanes holds the greatest score among
    the columns that fall to it. -/
def Scored (T : ℕ) (s : Vec Ideal S768x4224 .f32) (mx : Vec Ideal S768x128 .f32) : Prop :=
  (∀ r < 768, ∀ c < 384 * T, at2 s r c = E qi q k b r c)
  ∧ ∀ r < 768, ∀ l < 128, at2 mx r l = (Finset.range (3 * T)).sup fun j => E qi q k b r (128 * j + l)

/-- After the first `T` key tiles: the lanes' sums of weights and the weighted sums of the values. -/
def Summed (T : ℕ) (ls : Vec Ideal S768x128 .f32) (acc : Vec Ideal S768x256 .f32) : Prop :=
  (∀ r < 768, ∀ l < 128, at2 ls r l = ∑ j ∈ Finset.range (3 * T), P qi q k b r (128 * j + l))
  ∧ ∀ r < 768, ∀ d < 256, at2 acc r d = ∑ c ∈ Finset.range (384 * T), P qi q k b r c * at2 v c d

/-- All the lane sums. -/
def lsArr : FVec Ideal S768x128 .f32 := fun x => ∑ j ∈ Finset.range (3 * (qi + 1)), P qi q k b (x 0).val (128 * j + (x 1).val)

/-- All the weighted sums. -/
def accArr : FVec Ideal S768x256 .f32 := fun x => ∑ c ∈ Finset.range (384 * (qi + 1)), P qi q k b (x 0).val c * at2 v c (x 1).val

/-- The point's block of the result. -/
def outBlk (lp : Vec Ideal S4x128 .f32) (sl : Vec Ideal S1x256 .f32) : FVec Ideal S384x256 .bf16 :=
  k0_pay89 (accArr qi q k v b) (lsArr qi q k b) lp sl

theorem Summed.eq {ls : Vec Ideal S768x128 .f32} {acc : Vec Ideal S768x256 .f32} (h : Summed qi q k v b (qi + 1) ls acc) :
    ls = lsArr qi q k b ∧ acc = accArr qi q k v b := by
  constructor
  · funext x
    have h' := h.1 (x 0).val (x 0).isLt (x 1).val (x 1).isLt
    exact (congrArg ls (ValueIdx.eq_ix2 x)).trans ((at2_lt ls (x 0).isLt (x 1).isLt).symm.trans h')
  · funext x
    have h' := h.2 (x 0).val (x 0).isLt (x 1).val (x 1).isLt
    exact (congrArg acc (ValueIdx.eq_ix2 x)).trans ((at2_lt acc (x 0).isLt (x 1).isLt).symm.trans h')

/-- A sup over a longer range, split. -/
theorem sup_range_add (g : ℕ → EReal) (m n : ℕ) :
    (Finset.range (m + n)).sup g = max ((Finset.range m).sup g) ((Finset.range n).sup fun j => g (m + j)) := by
  induction n with
  | zero => simp
  | succ n ih => rw [← Nat.add_assoc, Finset.range_add_one, Finset.sup_insert, ih, Finset.range_add_one, Finset.sup_insert]; ac_rfl

theorem Scored.add {T n : ℕ} {s s' : Vec Ideal S768x4224 .f32} {mx mx' : Vec Ideal S768x128 .f32} (h : Scored qi q k b T s mx)
    (hs : ∀ r < 768, ∀ c, at2 s' r c = if 384 * T ≤ c ∧ c < 384 * T + 384 * n then E qi q k b r c else at2 s r c)
    (hm : ∀ r < 768, ∀ l < 128, at2 mx' r l = max (at2 mx r l) ((Finset.range (3 * n)).sup fun j => E qi q k b r (384 * T + (128 * j + l)))) :
    Scored qi q k b (T + n) s' mx' := by
  refine ⟨fun r hr c hc => ?_, fun r hr l hl => ?_⟩
  · rw [hs r hr c]
    split_ifs with hh
    · rfl
    · exact h.1 r hr c (by omega)
  · rw [hm r hr l hl, h.2 r hr l hl, Nat.mul_add, sup_range_add]
    congr 2
    funext j
    congr 1
    omega

theorem Summed.add {T n : ℕ} {ls ls' : Vec Ideal S768x128 .f32} {acc acc' : Vec Ideal S768x256 .f32} (h : Summed qi q k v b T ls acc)
    (hs : ∀ r < 768, ∀ l < 128, at2 ls' r l = at2 ls r l + ∑ j ∈ Finset.range (3 * n), P qi q k b r (384 * T + (128 * j + l)))
    (ha : ∀ r < 768, ∀ d < 256, at2 acc' r d = at2 acc r d + ∑ j ∈ Finset.range (384 * n), P qi q k b r (384 * T + j) * at2 v (384 * T + j) d) :
    Summed qi q k v b (T + n) ls' acc' := by
  refine ⟨fun r hr l hl => ?_, fun r hr d hd => ?_⟩
  · rw [hs r hr l hl, h.1 r hr l hl, Nat.mul_add, Finset.sum_range_add]
    congr 1
    refine Finset.sum_congr rfl fun j _ => ?_
    congr 1
    omega
  · rw [ha r hr d hd, h.2 r hr d hd, Nat.mul_add, Finset.sum_range_add]

/-- The greatest over the lanes of the lanes' greatest is the row's greatest. -/
theorem sup_lanes (g : ℕ → EReal) (T : ℕ) :
    ((Finset.range 128).sup fun l => (Finset.range (3 * T)).sup fun j => g (128 * j + l)) = (Finset.range (384 * T)).sup g := by
  refine le_antisymm (Finset.sup_le fun l hl => Finset.sup_le fun j hj => ?_) (Finset.sup_le fun c hc => ?_)
  · refine Finset.le_sup (f := g) ?_
    simp only [Finset.mem_range] at *
    omega
  · have hc' := Finset.mem_range.mp hc
    have e : c = 128 * (c / 128) + c % 128 := (Nat.div_add_mod c 128).symm
    calc g c = g (128 * (c / 128) + c % 128) := by rw [← e]
      _ ≤ (Finset.range (3 * T)).sup fun j => g (128 * j + c % 128) :=
        Finset.le_sup (f := fun j => g (128 * j + c % 128)) (Finset.mem_range.mpr (by omega))
      _ ≤ _ := Finset.le_sup (f := fun l => (Finset.range (3 * T)).sup fun j => g (128 * j + l)) (Finset.mem_range.mpr (Nat.mod_lt _ (by decide)))

end

end Cert.KernelIdeal.Attn

end
-- ==== Proof.Pay.lean ====
/-
  The attention kernel's payloads, element by element, by row and column number.
-/
module

public import proofs.«01_k».proof.Proof.Spec

@[expose] public section

noncomputable section

namespace Cert.KernelIdeal.Attn

open Cert.KernelIdeal Cert.KernelIdeal.Gen
open Idealize.ShloMosaic

/-! ## The scores -/

theorem dot12 (x : FVec Ideal S384x128 .bf16) (K : Vec Ideal S1536x128 .bf16) {a j : ℕ} (ha : a < 384) (hj : j < 1536) :
    at2 (k0_pay1 x K) a j = ∑ d : Fin 128, at2 x a d.val * at2 K j d.val := by
  rw [at2_lt _ ha hj]
  pointwise [k0_pay1]
  simp only [at2_ix]
theorem dot12' (x : FVec Ideal S384x128 .bf16) (K : Vec Ideal S1536x128 .bf16) {a j : ℕ} (ha : a < 384) (hj : j < 1536) :
    at2 (k0_pay2 x K) a j = at2 (k0_pay1 x K) a j := by
  rw [at2_lt _ ha hj, at2_lt _ ha hj]
  unfold k0_pay2
  pointwise
theorem dot12'' (x : FVec Ideal S384x1536 .f32) {a j : ℕ} (ha : a < 384) (hj : j < 1536) :
    at2 (k0_pay58 x) a j = at2 x a j := by
  rw [at2_lt _ ha hj, at2_lt _ ha hj]
  unfold k0_pay58
  pointwise
theorem dot6 (x : FVec Ideal S384x128 .bf16) (K : Vec Ideal S768x128 .bf16) {a j : ℕ} (ha : a < 384) (hj : j < 768) :
    at2 (k0_pay9 x K) a j = ∑ d : Fin 128, at2 x a d.val * at2 K j d.val := by
  rw [at2_lt _ ha hj]
  pointwise [k0_pay9]
  simp only [at2_ix]
theorem dot6' (x : FVec Ideal S384x128 .bf16) (K : Vec Ideal S768x128 .bf16) {a j : ℕ} (ha : a < 384) (hj : j < 768) :
    at2 (k0_pay10 x K) a j = at2 (k0_pay9 x K) a j := by
  rw [at2_lt _ ha hj, at2_lt _ ha hj]
  unfold k0_pay10
  pointwise
theorem dot3 (x : FVec Ideal S384x128 .bf16) (K : Vec Ideal S384x128 .bf16) {a j : ℕ} (ha : a < 384) (hj : j < 384) :
    at2 (k0_pay63 x K) a j = ∑ d : Fin 128, at2 x a d.val * at2 K j d.val := by
  rw [at2_lt _ ha hj]
  pointwise [k0_pay63]
  simp only [at2_ix]
theorem dot3' (x : FVec Ideal S384x128 .bf16) (K : Vec Ideal S384x128 .bf16) {a j : ℕ} (ha : a < 384) (hj : j < 384) :
    at2 (k0_pay64 x K) a j = at2 (k0_pay63 x K) a j := by
  rw [at2_lt _ ha hj, at2_lt _ ha hj]
  unfold k0_pay64
  pointwise
theorem dotB (x : FVec Ideal S384x128 .bf16) (K : Vec Ideal S384x128 .bf16) (B : Vec Ideal S1x384x384 .f32) {a j : ℕ} (ha : a < 384) (hj : j < 384) :
    at2 (k0_pay15 x K B) a j = ∑ d : Fin 128, at2 x a d.val * at2 K j d.val + at3 B 0 a j := by
  rw [at2_lt _ ha hj, at3_lt _ Nat.one_pos ha hj]
  pointwise [k0_pay15]
  simp only [at2_ix]
theorem dotB' (x : FVec Ideal S384x128 .bf16) (K : Vec Ideal S384x128 .bf16) (B : Vec Ideal S1x384x384 .f32) {a j : ℕ} (ha : a < 384) (hj : j < 384) :
    at2 (k0_pay16 x K B) a j = at2 (k0_pay15 x K B) a j := by
  rw [at2_lt _ ha hj, at2_lt _ ha hj]
  unfold k0_pay16
  pointwise

/-! ## The lanes' maxima -/

theorem sup12 (g : ℕ → EReal) : (Finset.range 12).sup g = max (max (max (max (max (max (max (max (max (max (max (g 0) (g 1)) (g 2)) (g 3)) (g 4)) (g 5)) (g 6)) (g 7)) (g 8)) (g 9)) (g 10)) (g 11) := by
  simp only [Finset.range_add_one, Finset.sup_insert, Finset.range_zero, Finset.sup_empty, sup_bot_eq]
  ac_rfl
theorem sup6 (g : ℕ → EReal) : (Finset.range 6).sup g = max (max (max (max (max (g 0) (g 1)) (g 2)) (g 3)) (g 4)) (g 5) := by
  simp only [Finset.range_add_one, Finset.sup_insert, Finset.range_zero, Finset.sup_empty, sup_bot_eq]
  ac_rfl
theorem sup3 (g : ℕ → EReal) : (Finset.range 3).sup g = max (max (g 0) (g 1)) (g 2) := by
  simp only [Finset.range_add_one, Finset.sup_insert, Finset.range_zero, Finset.sup_empty, sup_bot_eq]
  ac_rfl

theorem max12 (x : FVec Ideal S384x1536 .f32) (mx : Vec Ideal S384x128 .f32) {a l : ℕ} (ha : a < 384) (hl : l < 128) :
    at2 (k0_pay59 x mx) a l = max (at2 mx a l) ((Finset.range 12).sup fun j => at2 x a (128 * j + l)) := by
  rw [at2_lt _ ha hl, sup12]
  pointwise [k0_pay59]
  simp only [at2_ix, Nat.reduceMul, Nat.zero_add]
theorem max12' (x : FVec Ideal S384x128 .bf16) (K : Vec Ideal S1536x128 .bf16) (mx : Vec Ideal S384x128 .f32) {a l : ℕ} (ha : a < 384) (hl : l < 128) :
    at2 (k0_pay3 x K mx) a l = max (at2 mx a l) ((Finset.range 12).sup fun j => at2 (k0_pay1 x K) a (128 * j + l)) := by
  rw [at2_lt _ ha hl, sup12]
  unfold k0_pay3
  generalize k0_pay1 x K = X
  pointwise
  simp only [at2_ix, Nat.reduceMul, Nat.zero_add]
theorem max6 (x : FVec Ideal S384x128 .bf16) (K : Vec Ideal S768x128 .bf16) (mx : Vec Ideal S384x128 .f32) {a l : ℕ} (ha : a < 384) (hl : l < 128) :
    at2 (k0_pay11 x K mx) a l = max (at2 mx a l) ((Finset.range 6).sup fun j => at2 (k0_pay9 x K) a (128 * j + l)) := by
  rw [at2_lt _ ha hl, sup6]
  unfold k0_pay11
  generalize k0_pay9 x K = X
  pointwise
  simp only [at2_ix, Nat.reduceMul, Nat.zero_add]
theorem max6' (x : FVec Ideal S384x128 .bf16) (K : Vec Ideal S768x128 .bf16) (mx : Vec Ideal S384x128 .f32) {a l : ℕ} (ha : a < 384) (hl : l < 128) :
    at2 (k0_pay62 (k0_pay12 x K) mx (k0_pay14 x K)) a l = max (at2 mx a l) ((Finset.range 6).sup fun j => at2 (k0_pay12 x K) a (128 * j + l)) := by
  rw [at2_lt _ ha hl, sup6]
  unfold k0_pay62 k0_pay14
  generalize k0_pay12 x K = X
  pointwise
  simp only [at2_ix, Nat.reduceMul, Nat.zero_add]
theorem max3 (x : FVec Ideal S384x128 .bf16) (K : Vec Ideal S384x128 .bf16) (mx : Vec Ideal S384x128 .f32) {a l : ℕ} (ha : a < 384) (hl : l < 128) :
    at2 (k0_pay65 x K mx) a l = max (at2 mx a l) ((Finset.range 3).sup fun j => at2 (k0_pay63 x K) a (128 * j + l)) := by
  rw [at2_lt _ ha hl, sup3]
  unfold k0_pay65
  generalize k0_pay63 x K = X
  pointwise
  simp only [at2_ix, Nat.reduceMul, Nat.zero_add]
theorem maxB (x : FVec Ideal S384x128 .bf16) (K : Vec Ideal S384x128 .bf16) (B : Vec Ideal S1x384x384 .f32) (mx : Vec Ideal S384x128 .f32) {a l : ℕ} (ha : a < 384) (hl : l < 128) :
    at2 (k0_pay17 x K B mx) a l = max (at2 mx a l) ((Finset.range 3).sup fun j => at2 (k0_pay15 x K B) a (128 * j + l)) := by
  rw [at2_lt _ ha hl, sup3]
  unfold k0_pay17
  generalize k0_pay15 x K B = X
  pointwise
  simp only [at2_ix, Nat.reduceMul, Nat.zero_add]
theorem maxB' (x : FVec Ideal S384x128 .bf16) (K : Vec Ideal S384x128 .bf16) (B : Vec Ideal S1x384x384 .f32) (mx : Vec Ideal S384x128 .f32) {a l : ℕ} (ha : a < 384) (hl : l < 128) :
    at2 (k0_pay69 (k0_pay18 x K B) mx (k0_pay20 x K B)) a l = max (at2 mx a l) ((Finset.range 3).sup fun j => at2 (k0_pay18 x K B) a (128 * j + l)) := by
  rw [at2_lt _ ha hl, sup3]
  unfold k0_pay69 k0_pay20
  generalize k0_pay18 x K B = X
  pointwise
  simp only [at2_ix, Nat.reduceMul, Nat.zero_add]
theorem maxB'' (x : FVec Ideal S384x128 .bf16) (K : Vec Ideal S384x128 .bf16) (B : Vec Ideal S1x384x384 .f32) (mx : Vec Ideal S384x128 .f32) {a l : ℕ} (ha : a < 384) (hl : l < 128) :
    at2 (k0_pay76 (k0_pay73 x K B) mx (k0_pay75 x K B)) a l = max (at2 mx a l) ((Finset.range 3).sup fun j => at2 (k0_pay73 x K B) a (128 * j + l)) := by
  rw [at2_lt _ ha hl, sup3]
  unfold k0_pay76 k0_pay75
  generalize k0_pay73 x K B = X
  pointwise
  simp only [at2_ix, Nat.reduceMul, Nat.zero_add]

theorem start_max {r l : ℕ} (hr : r < 768) (hl : l < 128) : at2 (k0_pay57 (F := Ideal)) r l = ⊥ := by
  rw [at2_lt _ hr hl]
  pointwise [k0_pay57]
  exact named_neg
theorem start_ls {r l : ℕ} (hr : r < 768) (hl : l < 128) : at2 (k0_pay78 (F := Ideal)) r l = 0 := by
  rw [at2_lt _ hr hl]
  pointwise [k0_pay78]
theorem start_acc {r l : ℕ} (hr : r < 768) (hl : l < 256) : at2 (k0_pay79 (F := Ideal)) r l = 0 := by
  rw [at2_lt _ hr hl]
  pointwise [k0_pay79]
theorem scaled (x : Vec Ideal S384x128 .f32) {a d : ℕ} (ha : a < 384) (hd : d < 128) : at2 (k0_pay55 x) a d = at2 x a d * σ := by
  rw [at2_lt _ ha hd, at2_lt _ ha hd]
  pointwise [k0_pay55]
  exact congrArg _ named_scale
theorem row_max (x : Vec Ideal S768x128 .f32) {r l : ℕ} (hr : r < 768) (hl : l < 128) :
    at2 (k0_pay77 x) r l = (Finset.range 128).sup (at2 x r) := by
  rw [at2_lt _ hr hl]
  pointwise [k0_pay77]
  have h : Ideal.ofBits .f32 0xFF800000#32 = (⊥ : EReal) := by simp [Ideal.ofBits, Ideal.ieee]
  rw [h]
  refine le_antisymm ?_ (Finset.sup_le fun l hl => ?_)
  · refine Finset.fold_max_le _ |>.mpr ⟨bot_le, fun y _ => ?_⟩
    exact (at2_ix x ⟨r, hr⟩ y).trans_le <| Finset.le_sup (f := at2 x r) (Finset.mem_range.mpr y.isLt)
  · rw [at2_lt _ hr (Finset.mem_range.mp hl)]
    exact (Finset.le_fold_max _).mpr (.inr ⟨⟨l, Finset.mem_range.mp hl⟩, Finset.mem_univ _, le_rfl⟩)

/-! ## The weights and the weighted sums -/

theorem sums12 (s : Vec Ideal S768x1536 .f32) (mx ls : Vec Ideal S768x128 .f32) {r l : ℕ} (hr : r < 768) (hl : l < 128) :
    at2 (k0_pay80 (k0_pay33 s mx) ls) r l = at2 ls r l + ∑ j ∈ Finset.range 12, ex2 (at2 s r (128 * j + l) - at2 mx r l) := by
  rw [at2_lt _ hr hl]
  pointwise [k0_pay80, k0_pay33, k0_pay21, k0_pay22, k0_pay23, k0_pay24, k0_pay25, k0_pay26, k0_pay27, k0_pay28, k0_pay29, k0_pay30, k0_pay31, k0_pay32]
  simp only [at2_ix, Finset.sum_range_succ, Finset.sum_range_zero, Nat.reduceMul, zero_add]
  rfl
theorem sums6 (s : Vec Ideal S768x768 .f32) (mx ls : Vec Ideal S768x128 .f32) {r l : ℕ} (hr : r < 768) (hl : l < 128) :
    at2 (k0_pay53 s mx ls) r l = at2 ls r l + ∑ j ∈ Finset.range 6, ex2 (at2 s r (128 * j + l) - at2 mx r l) := by
  rw [at2_lt _ hr hl]
  pointwise [k0_pay53, k0_pay47, k0_pay48, k0_pay49, k0_pay50, k0_pay51, k0_pay52]
  simp only [at2_ix, Finset.sum_range_succ, Finset.sum_range_zero, Nat.reduceMul, zero_add]
  rfl
theorem sums3 (s : Vec Ideal S768x384 .f32) (mx ls : Vec Ideal S768x128 .f32) {r l : ℕ} (hr : r < 768) (hl : l < 128) :
    at2 (k0_pay87 s mx ls) r l = at2 ls r l + ∑ j ∈ Finset.range 3, ex2 (at2 s r (128 * j + l) - at2 mx r l) := by
  rw [at2_lt _ hr hl]
  pointwise [k0_pay87, k0_pay84, k0_pay85, k0_pay86]
  simp only [at2_ix, Finset.sum_range_succ, Finset.sum_range_zero, Nat.reduceMul, zero_add]
  rfl

theorem acc3 (s : Vec Ideal S768x384 .f32) (mx : Vec Ideal S768x128 .f32) (acc : Vec Ideal S768x256 .f32) (V : Vec Ideal S384x256 .bf16) {r d : ℕ} (hr : r < 768) (hd : d < 256) :
    at2 (k0_pay88 s mx acc V) r d = at2 acc r d + ∑ j ∈ Finset.range 384, ex2 (at2 s r j - at2 mx r (j % 128)) * at2 V j d := by
  rw [at2_lt _ hr hd, Finset.sum_range]
  pointwise [k0_pay88, k0_pay84, k0_pay85, k0_pay86]
  simp only [at2_ix]
  congr 1
theorem acc6 (s : Vec Ideal S768x768 .f32) (mx : Vec Ideal S768x128 .f32) (acc : Vec Ideal S768x256 .f32) (V : Vec Ideal S768x256 .bf16) {r d : ℕ} (hr : r < 768) (hd : d < 256) :
    at2 (k0_pay54 s mx acc V) r d = at2 acc r d + ∑ j ∈ Finset.range 768, ex2 (at2 s r j - at2 mx r (j % 128)) * at2 V j d := by
  rw [at2_lt _ hr hd, Finset.sum_range]
  pointwise [k0_pay54, k0_pay47, k0_pay48, k0_pay49, k0_pay50, k0_pay51, k0_pay52]
  simp only [at2_ix]
  congr 1
/-- Slabs of 128 columns laid side by side, read at a column: slab `i`'s column `y` is column `128 i + y`. -/
theorem slabs (G : ℕ → EReal) (j : S768x1536.Idx) : ∀ (ps : List (FVec Ideal S768x128 .f32)) (o : ℕ)
    (_ : ∀ i p, ps[i]? = some p → ∀ y (hy : y < 128), p (ix2 (j 0) ⟨y, hy⟩) = G (o + 128 * i + y))
    (hs : ∀ s' ∈ (ps.map fun p => (⟨S768x128, p⟩ : (s : Shape) × (s.Idx → EReal))).map (·.1), s'.FitsOff S768x1536 1) (c : ℕ)
    (hc : c < (axisSizes S768x1536 1 (ps.map fun p => (⟨S768x128, p⟩ : (s : Shape) × (s.Idx → EReal)))).sum),
    concatenateAt S768x1536 1 j (ps.map fun p => (⟨S768x128, p⟩ : (s : Shape) × (s.Idx → EReal))) hs c hc = G (o + c)
  | [], _, _, _, _, hc => absurd hc (Nat.not_lt_zero _)
  | [p], o, h, hs, c, hc => by
    have hc' : c < 128 := by simpa [axisSizes] using hc
    refine (concatenateAt_singleton (t := S768x1536) 1 j p hs c hc).trans ?_
    refine (congrArg p ?_).trans (h 0 p rfl c hc')
    funext b
    fin_cases b
    · rfl
    · rfl
  | p :: p' :: ps, o, h, hs, c, hc => by
    refine (concatenateAt_cons (t := S768x1536) 1 j p _ _ hs c hc).trans ?_
    split_ifs with hlt
    · refine (congrArg p ?_).trans (h 0 p rfl c hlt)
      funext b
      fin_cases b
      · rfl
      · rfl
    · have hge : 128 ≤ c := Nat.le_of_not_lt hlt
      refine (slabs G j (p' :: ps) (o + 128) (fun i q hq y hy => ?_) _ (c - 128) _).trans (congrArg G (by omega))
      exact (h (i + 1) q hq y hy).trans (congrArg G (by omega))

theorem acc12_eq (p0 p1 p2 p3 p4 p5 p6 p7 p8 p9 p10 p11 : FVec Ideal S768x128 .f32) (acc : Vec Ideal S768x256 .f32) (V : Vec Ideal S1536x256 .bf16) (C : FVec Ideal S768x1536 .f32)
    (hC : C = concatenate S768x1536 1 [⟨S768x128, p0⟩, ⟨S768x128, p1⟩, ⟨S768x128, p2⟩, ⟨S768x128, p3⟩, ⟨S768x128, p4⟩, ⟨S768x128, p5⟩, ⟨S768x128, p6⟩, ⟨S768x128, p7⟩, ⟨S768x128, p8⟩, ⟨S768x128, p9⟩, ⟨S768x128, p10⟩, ⟨S768x128, p11⟩] concatenates_S768x128_S768x128_S768x128_S768x128_S768x128_S768x128_S768x128_S768x128_S768x128_S768x128_S768x128_S768x128_S768x1536_d1)
    {r d : ℕ} (hr : r < 768) (hd : d < 256) :
    at2 (k0_pay81 p0 p1 p2 p3 p4 p5 p6 p7 p8 p9 p10 p11 acc V) r d = at2 acc r d + ∑ x : Fin 1536, C (ix2 ⟨r, hr⟩ x) * at2 V x.val d := by
  rw [at2_lt _ hr hd]
  unfold k0_pay81
  rw [← hC]
  clear hC
  pointwise
  simp only [at2_ix]

theorem acc12_of (s : Vec Ideal S768x1536 .f32) (mx : Vec Ideal S768x128 .f32) (acc : Vec Ideal S768x256 .f32) (V : Vec Ideal S1536x256 .bf16) {r d : ℕ} (hr : r < 768) (hd : d < 256)
    (p0 p1 p2 p3 p4 p5 p6 p7 p8 p9 p10 p11 : FVec Ideal S768x128 .f32) (h0 : ∀ l < 128, at2 p0 r l = ex2 (at2 s r (0 + l) - at2 mx r l)) (h1 : ∀ l < 128, at2 p1 r l = ex2 (at2 s r (128 + l) - at2 mx r l)) (h2 : ∀ l < 128, at2 p2 r l = ex2 (at2 s r (256 + l) - at2 mx r l)) (h3 : ∀ l < 128, at2 p3 r l = ex2 (at2 s r (384 + l) - at2 mx r l)) (h4 : ∀ l < 128, at2 p4 r l = ex2 (at2 s r (512 + l) - at2 mx r l)) (h5 : ∀ l < 128, at2 p5 r l = ex2 (at2 s r (640 + l) - at2 mx r l)) (h6 : ∀ l < 128, at2 p6 r l = ex2 (at2 s r (768 + l) - at2 mx r l)) (h7 : ∀ l < 128, at2 p7 r l = ex2 (at2 s r (896 + l) - at2 mx r l)) (h8 : ∀ l < 128, at2 p8 r l = ex2 (at2 s r (1024 + l) - at2 mx r l)) (h9 : ∀ l < 128, at2 p9 r l = ex2 (at2 s r (1152 + l) - at2 mx r l)) (h10 : ∀ l < 128, at2 p10 r l = ex2 (at2 s r (1280 + l) - at2 mx r l)) (h11 : ∀ l < 128, at2 p11 r l = ex2 (at2 s r (1408 + l) - at2 mx r l)) :
    at2 (k0_pay81 p0 p1 p2 p3 p4 p5 p6 p7 p8 p9 p10 p11 acc V) r d
      = at2 acc r d + ∑ j ∈ Finset.range 1536, ex2 (at2 s r j - at2 mx r (j % 128)) * at2 V j d := by
  rw [Finset.sum_range]
  rw [acc12_eq p0 p1 p2 p3 p4 p5 p6 p7 p8 p9 p10 p11 acc V _ rfl hr hd]
  refine congrArg (at2 acc r d + ·) (Finset.sum_congr rfl fun x _ => congrArg (· * at2 V x.val d) ?_)
  rw [concatenate_apply]
  refine (slabs (fun j => ex2 (at2 s r j - at2 mx r (j % 128))) _ [p0, p1, p2, p3, p4, p5, p6, p7, p8, p9, p10, p11] 0 ?_ _ _ _).trans (by simp only [Nat.zero_add]; rfl)
  have fin : ∀ (p : FVec Ideal S768x128 .f32) (o : ℕ) (hp : ∀ l < 128, at2 p r l = ex2 (at2 s r (o + l) - at2 mx r l)) (ho : o % 128 = 0) (y : ℕ) (hy : y < 128),
      p (ix2 ⟨r, hr⟩ ⟨y, hy⟩) = ex2 (at2 s r (o + y) - at2 mx r ((o + y) % 128)) := by
    intro p o hp ho y hy
    refine (at2_ix p ⟨r, hr⟩ ⟨y, hy⟩).trans ?_
    show at2 p r y = _
    rw [hp y hy, show (o + y) % 128 = y by omega]
  intro i p hp y hy
  rcases i with _ | _ | _ | _ | _ | _ | _ | _ | _ | _ | _ | _ | i
  · cases hp; exact fin _ _ h0 (by omega) y hy
  · cases hp; exact fin _ _ h1 (by omega) y hy
  · cases hp; exact fin _ _ h2 (by omega) y hy
  · cases hp; exact fin _ _ h3 (by omega) y hy
  · cases hp; exact fin _ _ h4 (by omega) y hy
  · cases hp; exact fin _ _ h5 (by omega) y hy
  · cases hp; exact fin _ _ h6 (by omega) y hy
  · cases hp; exact fin _ _ h7 (by omega) y hy
  · cases hp; exact fin _ _ h8 (by omega) y hy
  · cases hp; exact fin _ _ h9 (by omega) y hy
  · cases hp; exact fin _ _ h10 (by omega) y hy
  · cases hp; exact fin _ _ h11 (by omega) y hy
  · cases hp
theorem acc12 (s : Vec Ideal S768x1536 .f32) (mx : Vec Ideal S768x128 .f32) (acc : Vec Ideal S768x256 .f32) (V : Vec Ideal S1536x256 .bf16) {r d : ℕ} (hr : r < 768) (hd : d < 256) :
    at2 (k0_pay81 (k0_pay21 s mx) (k0_pay22 s mx) (k0_pay23 s mx) (k0_pay24 s mx) (k0_pay25 s mx) (k0_pay26 s mx) (k0_pay27 s mx) (k0_pay28 s mx) (k0_pay29 s mx) (k0_pay30 s mx) (k0_pay31 s mx) (k0_pay32 s mx) acc V) r d
      = at2 acc r d + ∑ j ∈ Finset.range 1536, ex2 (at2 s r j - at2 mx r (j % 128)) * at2 V j d := by
  apply acc12_of s mx acc V hr hd
  all_goals
    intro l hl
    rw [at2_lt _ hr hl]
    pointwise [k0_pay21, k0_pay22, k0_pay23, k0_pay24, k0_pay25, k0_pay26, k0_pay27, k0_pay28, k0_pay29, k0_pay30, k0_pay31, k0_pay32]
    simp only [at2_ix, Nat.zero_add]
    rfl

end Cert.KernelIdeal.Attn

end
-- ==== Proof.Stages.lean ====
/-
  What one visit of some key tiles leaves in the scratch arrays: the scores stored beside those already there with the
  lanes' maxima raised (`Scored.store`), and the lanes' sums and the weighted sums increased (`Summed.store`).
-/
module

public import proofs.«01_k».proof.Proof.Pay

@[expose] public section

noncomputable section

namespace Cert.KernelIdeal.Attn

open Cert.KernelIdeal Cert.KernelIdeal.Gen
open Idealize.ShloMosaic

variable (qi : ℕ) (q : Vec Ideal S384x256 .f32) (k v : Vec Ideal S4224x256 .bf16) (b : Vec Ideal S2x768x384 .f32)

theorem E_row {m a : ℕ} (hm : m < 2) (ha : a < 384) (c : ℕ) : E qi q k b (384 * m + a) c = score qi q k b m a c := by
  unfold E
  obtain rfl | rfl : m = 0 ∨ m = 1 := by omega
  · rw [if_pos (by omega), show 384 * 0 + a = a by omega]
  · rw [if_neg (by omega), show 384 * 1 + a - 384 = a by omega]

theorem E_far {m a c : ℕ} (hm : m < 2) (ha : a < 384) (hc : c / 384 + 1 < qi) : E qi q k b (384 * m + a) c = dotE q k m a c := by
  rw [E_row qi q k b hm ha, score, if_pos hc]

theorem E_near {m a j : ℕ} (hm : m < 2) (ha : a < 384) (h : 1 ≤ qi) (hj : j < 384) :
    E qi q k b (384 * m + a) (384 * (qi - 1) + j) = dotE q k m a (384 * (qi - 1) + j) + at3 b m (384 + a) j := by
  have h1 : (384 * (qi - 1) + j) / 384 = qi - 1 := by omega
  have h2 : (384 * (qi - 1) + j) % 384 = j := by omega
  rw [E_row qi q k b hm ha, score, h1, h2, if_neg (by omega), if_pos (by omega)]

theorem E_diag {m a j : ℕ} (hm : m < 2) (ha : a < 384) (hj : j < 384) :
    E qi q k b (384 * m + a) (384 * qi + j) = dotE q k m a (384 * qi + j) + at3 b m a j := by
  have h1 : (384 * qi + j) / 384 = qi := by omega
  have h2 : (384 * qi + j) % 384 = j := by omega
  rw [E_row qi q k b hm ha, score, h1, h2, if_neg (by omega), if_neg (by omega)]

/-- The queries of map `m`, scaled. -/
def Qs (m : ℕ) (x : FVec Ideal S384x128 .bf16) : Prop := ∀ a < 384, ∀ d < 128, at2 x a d = at2 q a (128 * m + d) * σ

/-- A product of the scaled queries with `N` rows of the keys, by row and column number. -/
theorem dot_of {N m c0 : ℕ} {x : FVec Ideal S384x128 .bf16} (hx : Qs q m x) (K : (⟨2, ![N, 128]⟩ : Shape).Idx → EReal)
    (hK : ∀ j < N, ∀ d < 128, at2 K j d = at2 k (c0 + j) (128 * m + d)) {a j : ℕ} (ha : a < 384) (hj : j < N) :
    (∑ d : Fin 128, at2 x a d.val * at2 K j d.val) = dotE q k m a (c0 + j) := by
  unfold dotE
  refine Finset.sum_congr rfl fun d _ => ?_
  rw [hx a ha d.val d.isLt, hK j hj d.val d.isLt]

theorem Scored.store {T n N : ℕ} (hN : N = 384 * n) {sp sp' : Space} {v10 : View sig .tc sp ⟨2, ![768, 4224]⟩ .f32} {v11 : View sig .tc sp' ⟨2, ![768, 128]⟩ .f32}
    {f10 : v10.ty.Contents (Elt Ideal)} {f11 : v11.ty.Contents (Elt Ideal)} (h : Scored qi q k b T (v10.read (Elt Ideal) f10) (v11.read (Elt Ideal) f11))
    {a0 a1 : Fin 2 → ℕ} (i0 : ∀ a, a0 a + (![384, N] : Fin 2 → ℕ) a ≤ (![768, 4224] : Fin 2 → ℕ) a) (i1 : ∀ a, a1 a + (![384, N] : Fin 2 → ℕ) a ≤ (![768, 4224] : Fin 2 → ℕ) a)
    (j0 : ∀ a, (![0, 0] : Fin 2 → ℕ) a + (![384, 128] : Fin 2 → ℕ) a ≤ (![768, 128] : Fin 2 → ℕ) a) (j1 : ∀ a, (![384, 0] : Fin 2 → ℕ) a + (![384, 128] : Fin 2 → ℕ) a ≤ (![768, 128] : Fin 2 → ℕ) a)
    (w0 w1 : (⟨2, ![384, N]⟩ : Shape).Idx → EReal) (u0 u1 : (⟨2, ![384, 128]⟩ : Shape).Idx → EReal)
    (h0 : a0 = ![0, 384 * T]) (h1 : a1 = ![384, 384 * T])
    (hw0 : ∀ a < 384, ∀ j < N, at2 w0 a j = E qi q k b a (384 * T + j))
    (hw1 : ∀ a < 384, ∀ j < N, at2 w1 a j = E qi q k b (384 + a) (384 * T + j))
    (hu0 : ∀ a < 384, ∀ l < 128, at2 u0 a l = max (at2 (v11.read (Elt Ideal) f11) a l) ((Finset.range (3 * n)).sup fun j => at2 w0 a (128 * j + l)))
    (hu1 : ∀ a < 384, ∀ l < 128, at2 u1 a l = max (at2 (v11.read (Elt Ideal) f11) (384 + a) l) ((Finset.range (3 * n)).sup fun j => at2 w1 a (128 * j + l))) :
    Scored qi q k b (T + n)
      (v10.read (Elt Ideal) (v10.writes (Elt Ideal) f10 [⟨Rect.unit (s := ⟨2, ![768, 4224]⟩) a1 ![384, N] i1, w1⟩, ⟨Rect.unit (s := ⟨2, ![768, 4224]⟩) a0 ![384, N] i0, w0⟩]))
      (v11.read (Elt Ideal) (v11.writes (Elt Ideal) f11 [⟨Rect.unit (s := ⟨2, ![768, 128]⟩) ![384, 0] ![384, 128] j1, u1⟩, ⟨Rect.unit (s := ⟨2, ![768, 128]⟩) ![0, 0] ![384, 128] j0, u0⟩])) := by
  refine h.add qi q k b (fun r hr c => ?_) (fun r hr l hl => ?_)
  · refine (at2_writes32 v10 f10 i1 w1 _ 384 (384 * T) h1 r c).trans ?_
    rw [at2_writes32 v10 f10 i0 w0 _ 0 (384 * T) h0 r c]
    by_cases hc : 384 * T ≤ c ∧ c < 384 * T + 384 * n
    · rw [if_pos hc]
      by_cases hr' : r < 384
      · rw [if_neg (by omega), if_pos (by omega), Nat.sub_zero, hw0 r hr' _ (by omega), show 384 * T + (c - 384 * T) = c by omega]
      · rw [if_pos (by omega), hw1 (r - 384) (by omega) _ (by omega), show 384 * T + (c - 384 * T) = c by omega, show 384 + (r - 384) = r by omega]
    · rw [if_neg hc, if_neg (by omega), if_neg (by omega)]
      rfl
  · refine (at2_writes32 v11 f11 j1 u1 _ 384 0 rfl r l).trans ?_
    rw [at2_writes32 v11 f11 j0 u0 _ 0 0 rfl r l]
    have key : ∀ (w : (⟨2, ![384, N]⟩ : Shape).Idx → EReal) (a r' : ℕ) (hw : ∀ j < N, at2 w a j = E qi q k b r' (384 * T + j)),
        ((Finset.range (3 * n)).sup fun j => at2 w a (128 * j + l)) = (Finset.range (3 * n)).sup fun j => E qi q k b r' (384 * T + (128 * j + l)) := by
      intro w a r' hw
      refine Finset.sup_congr rfl fun j hj => ?_
      have := Finset.mem_range.mp hj
      rw [hw _ (by omega)]
    by_cases hr' : r < 384
    · rw [if_neg (by omega), if_pos (by omega), Nat.sub_zero, Nat.sub_zero, hu0 r hr' l hl, key w0 r r (hw0 r hr')]
    · rw [if_pos (by omega), Nat.sub_zero, hu1 (r - 384) (by omega) l hl, key w1 (r - 384) r (fun j hj => by rw [hw1 (r - 384) (by omega) j hj, show 384 + (r - 384) = r by omega]), show 384 + (r - 384) = r by omega]

/-- The scores of the first `T` tiles and the row maxima are there. -/
def Ready (s : Vec Ideal S768x4224 .f32) (mx : Vec Ideal S768x128 .f32) : Prop :=
  (∀ r < 768, ∀ c < 384 * (qi + 1), at2 s r c = E qi q k b r c) ∧ ∀ r < 768, ∀ l < 128, at2 mx r l = M qi q k b r

theorem Summed.store {T n N : ℕ} (hN : N = 384 * n) (hT : T + n ≤ qi + 1) {sp sp' : Space} {v12 : View sig .tc sp ⟨2, ![768, 128]⟩ .f32} {v13 : View sig .tc sp' ⟨2, ![768, 256]⟩ .f32}
    {f12 : v12.ty.Contents (Elt Ideal)} {f13 : v13.ty.Contents (Elt Ideal)} (h : Summed qi q k v b T (v12.read (Elt Ideal) f12) (v13.read (Elt Ideal) f13))
    (j0 : ∀ a, (![0, 0] : Fin 2 → ℕ) a + (![768, 128] : Fin 2 → ℕ) a ≤ (![768, 128] : Fin 2 → ℕ) a) (j1 : ∀ a, (![0, 0] : Fin 2 → ℕ) a + (![768, 256] : Fin 2 → ℕ) a ≤ (![768, 256] : Fin 2 → ℕ) a)
    (u0 : (⟨2, ![768, 128]⟩ : Shape).Idx → EReal) (u1 : (⟨2, ![768, 256]⟩ : Shape).Idx → EReal)
    {s : Vec Ideal S768x4224 .f32} {mx : Vec Ideal S768x128 .f32} (hr : Ready qi q k b s mx)
    (S : (⟨2, ![768, N]⟩ : Shape).Idx → EReal) (hS : ∀ r < 768, ∀ j < N, at2 S r j = at2 s r (384 * T + j))
    (X : (⟨2, ![768, 128]⟩ : Shape).Idx → EReal) (hX : ∀ r < 768, ∀ l < 128, at2 X r l = at2 mx r l)
    (Vt : (⟨2, ![N, 256]⟩ : Shape).Idx → EReal) (hV : ∀ j < N, ∀ d < 256, at2 Vt j d = at2 v (384 * T + j) d)
    (hu0 : ∀ r < 768, ∀ l < 128, at2 u0 r l = at2 (v12.read (Elt Ideal) f12) r l + ∑ j ∈ Finset.range (3 * n), ex2 (at2 S r (128 * j + l) - at2 X r l))
    (hu1 : ∀ r < 768, ∀ d < 256, at2 u1 r d = at2 (v13.read (Elt Ideal) f13) r d + ∑ j ∈ Finset.range N, ex2 (at2 S r j - at2 X r (j % 128)) * at2 Vt j d) :
    Summed qi q k v b (T + n)
      (v12.read (Elt Ideal) (v12.writes (Elt Ideal) f12 [⟨Rect.unit (s := ⟨2, ![768, 128]⟩) ![0, 0] ![768, 128] j0, u0⟩]))
      (v13.read (Elt Ideal) (v13.writes (Elt Ideal) f13 [⟨Rect.unit (s := ⟨2, ![768, 256]⟩) ![0, 0] ![768, 256] j1, u1⟩])) := by
  have key : ∀ r < 768, ∀ j < N, ∀ l < 128, ex2 (at2 S r j - at2 X r l) = P qi q k b r (384 * T + j) := by
    intro r hr' j hj l hl
    rw [hS r hr' j hj, hX r hr' l hl, hr.1 r hr' _ (by omega), hr.2 r hr' l hl]
    rfl
  refine h.add qi q k v b (fun r hr' l hl => ?_) (fun r hr' d hd => ?_)
  · refine (at2_writes32 v12 f12 j0 u0 _ 0 0 rfl r l).trans ?_
    rw [if_pos (by omega), Nat.sub_zero, Nat.sub_zero, hu0 r hr' l hl]
    refine congrArg _ (Finset.sum_congr rfl fun j hj => ?_)
    have := Finset.mem_range.mp hj
    exact key r hr' _ (by omega) l hl
  · refine (at2_writes32 v13 f13 j1 u1 _ 0 0 rfl r d).trans ?_
    rw [if_pos (by omega), Nat.sub_zero, Nat.sub_zero, hu1 r hr' d hd, ← hN]
    refine congrArg _ (Finset.sum_congr rfl fun j hj => ?_)
    have := Finset.mem_range.mp hj
    rw [key r hr' j this _ (Nat.mod_lt _ (by decide)), hV j this d hd]

end Cert.KernelIdeal.Attn

end
-- ==== Proof.Visits.lean ====
/-
  The stages of the kernel's body, as facts of the four scratch arrays, and how each part's loads and stores take one to
  the next.
-/
module

public import proofs.«01_k».proof.Proof.Stages

@[expose] public section

noncomputable section

namespace Cert.KernelIdeal.Attn

open Cert.KernelIdeal Cert.KernelIdeal.Gen
open Idealize.ShloMosaic

/-- A fact of the four scratch arrays: the scores, the maxima, the lanes' sums, the weighted sums. -/
abbrev Stage := Vec Ideal S768x4224 .f32 → Vec Ideal S768x128 .f32 → Vec Ideal S768x128 .f32 → Vec Ideal S768x256 .f32 → Prop

variable (qi : ℕ) (q : Vec Ideal S384x256 .f32) (k v : Vec Ideal S4224x256 .bf16) (b : Vec Ideal S2x768x384 .f32)

/-- The two maps' scaled queries are `v3` and `v7`, and the first `T` tiles are scored. -/
def scoredAt (v3 v7 : FVec Ideal S384x128 .bf16) (T : ℕ) : Stage := fun s mx _ _ =>
  Qs q 0 v3 ∧ Qs q 1 v7 ∧ Scored qi q k b T s mx

/-- All tiles are scored, but for the second map's diagonal tile `x` and its lanes' maxima `y`, `z`. -/
def halfAt (x : FVec Ideal S384x384 .f32) (y : Vec Ideal S384x128 .f32) (z : FVec Ideal S384x128 .f32) : Stage := fun s mx _ _ =>
  (∀ r < 768, ∀ c < 384 * (qi + 1), at2 s r c = E qi q k b r c)
  ∧ (∀ r < 384, ∀ l < 128, at2 mx r l = (Finset.range (3 * (qi + 1))).sup fun j => E qi q k b r (128 * j + l))
  ∧ ∀ r < 384, ∀ l < 128, at2 (k0_pay76 x y z) r l = (Finset.range (3 * (qi + 1))).sup fun j => E qi q k b (384 + r) (128 * j + l)

/-- The scores and row maxima are there, and the sums over the first `T` tiles. -/
def summedAt (T : ℕ) : Stage := fun s mx ls acc => Ready qi q k b s mx ∧ Summed qi q k v b T ls acc

/-- A load of a whole array. -/
theorem loads_whole {m n : ℕ} {sp : Space} (v : View sig .tc sp ⟨2, ![m, n]⟩ .f32) (f : v.ty.Contents (Elt Ideal))
    (inb : ∀ a, (![0, 0] : Fin 2 → ℕ) a + (![m, n] : Fin 2 → ℕ) a ≤ (![m, n] : Fin 2 → ℕ) a) :
    v.readAt (Elt Ideal) (Rect.unit (s := ⟨2, ![m, n]⟩) ![0, 0] ![m, n] inb).toLoadRect f = v.read (Elt Ideal) f := by
  funext x
  refine congrArg (v.read (Elt Ideal) f) (funext fun a => Fin.ext ?_)
  fin_cases a
  · show 0 + 1 * (x 0).val = (x 0).val; omega
  · show 0 + 1 * (x 1).val = (x 1).val; omega

/-- What a store of the whole array leaves. -/
theorem read_whole {m n : ℕ} {sp : Space} {v : View sig .tc sp ⟨2, ![m, n]⟩ .bf16} (f : v.ty.Contents (Elt Ideal)) (w : (⟨2, ![m, n]⟩ : Shape).Idx → EReal)
    {inb : ∀ a, (![0, 0] : Fin 2 → ℕ) a + (![m, n] : Fin 2 → ℕ) a ≤ (![m, n] : Fin 2 → ℕ) a} :
    v.read (Elt Ideal) (v.writes (Elt Ideal) f [⟨Rect.unit (s := ⟨2, ![m, n]⟩) ![0, 0] ![m, n] inb, w⟩]) = w := by
  funext x
  have h0 : (x 0).val < m := (x 0).isLt
  have h1 : (x 1).val < n := (x 1).isLt
  have h : at2 (m := m) (n := n) (v.read (Elt Ideal) (v.writes (Elt Ideal) f [⟨Rect.unit (s := ⟨2, ![m, n]⟩) ![0, 0] ![m, n] inb, w⟩])) (x 0).val (x 1).val
      = at2 (m := m) (n := n) w (x 0).val (x 1).val := by
    refine (at2_writes v rfl f inb w [] 0 0 rfl _ _).trans ?_
    rw [if_pos (by omega), Nat.sub_zero, Nat.sub_zero]
    rfl
  rw [ValueIdx.eq_ix2 x]
  exact (at2_lt (m := m) (n := n) _ h0 h1).symm.trans (h.trans (at2_lt (m := m) (n := n) _ h0 h1))

theorem E_far0 {a c : ℕ} (ha : a < 384) (hc : c / 384 + 1 < qi) : E qi q k b a c = dotE q k 0 a c :=
  (congrArg (fun r => E qi q k b r c) (show a = 384 * 0 + a by omega)).trans (E_far qi q k b (by decide) ha hc)

theorem E_far1 {a c : ℕ} (ha : a < 384) (hc : c / 384 + 1 < qi) : E qi q k b (384 + a) c = dotE q k 1 a c :=
  E_far qi q k b (m := 1) (by decide) ha hc

section
variable {sp3 sp4 sp5 sp6 sp10 sp11 sp12 sp13 : Space} {v3' : View sig .tc sp3 ⟨2, ![384, 256]⟩ .f32} {v4 : View sig .tc sp4 ⟨2, ![4224, 256]⟩ .bf16} {v5 : View sig .tc sp5 ⟨2, ![4224, 256]⟩ .bf16}
  {v6 : View sig .tc sp6 ⟨3, ![2, 768, 384]⟩ .f32} {v10 : View sig .tc sp10 ⟨2, ![768, 4224]⟩ .f32} {v11 : View sig .tc sp11 ⟨2, ![768, 128]⟩ .f32}
  {v12 : View sig .tc sp12 ⟨2, ![768, 128]⟩ .f32} {v13 : View sig .tc sp13 ⟨2, ![768, 256]⟩ .f32}
  {f3 : v3'.ty.Contents (Elt Ideal)} {f4 : v4.ty.Contents (Elt Ideal)} {f5 : v5.ty.Contents (Elt Ideal)} {f6 : v6.ty.Contents (Elt Ideal)}
  {f10 : v10.ty.Contents (Elt Ideal)} {f11 : v11.ty.Contents (Elt Ideal)} {f12 : v12.ty.Contents (Elt Ideal)} {f13 : v13.ty.Contents (Elt Ideal)}
  {x3 x7 : FVec Ideal S384x128 .bf16} {ls : Vec Ideal S768x128 .f32} {acc : Vec Ideal S768x256 .f32}

/-- A visit of `n` key tiles far from the diagonal, `N` columns of scores. -/
theorem visit_far {T n N : ℕ} (hN : N = 384 * n) (hT : T + n < qi)
    (hs : scoredAt qi q (v4.read (Elt Ideal) f4) b x3 x7 T (v10.read (Elt Ideal) f10) (v11.read (Elt Ideal) f11) ls acc)
    {o1 o2 o3 o4 : Fin 2 → ℕ} {i1 : ∀ a, o1 a + (![N, 128] : Fin 2 → ℕ) a ≤ (![4224, 256] : Fin 2 → ℕ) a} {i2 : ∀ a, o2 a + (![384, N] : Fin 2 → ℕ) a ≤ (![768, 4224] : Fin 2 → ℕ) a}
    {i3 : ∀ a, o3 a + (![N, 128] : Fin 2 → ℕ) a ≤ (![4224, 256] : Fin 2 → ℕ) a} {i4 : ∀ a, o4 a + (![384, N] : Fin 2 → ℕ) a ≤ (![768, 4224] : Fin 2 → ℕ) a}
    {j0 : ∀ a, (![0, 0] : Fin 2 → ℕ) a + (![384, 128] : Fin 2 → ℕ) a ≤ (![768, 128] : Fin 2 → ℕ) a} {j1 : ∀ a, (![384, 0] : Fin 2 → ℕ) a + (![384, 128] : Fin 2 → ℕ) a ≤ (![768, 128] : Fin 2 → ℕ) a}
    (h1 : o1 = ![384 * T, 0]) (h2 : o2 = ![0, 384 * T]) (h3 : o3 = ![384 * T, 128]) (h4 : o4 = ![384, 384 * T])
    {w0 w1 : (⟨2, ![384, N]⟩ : Shape).Idx → EReal} {u0 u1 : (⟨2, ![384, 128]⟩ : Shape).Idx → EReal}
    (hw0 : ∀ {a j : ℕ}, a < 384 → j < N → at2 w0 a j = ∑ d : Fin 128, at2 x3 a d.val * at2 (m := N) (n := 128) (v4.readAt (Elt Ideal) (Rect.unit (s := ⟨2, ![4224, 256]⟩) o1 ![N, 128] i1).toLoadRect f4) j d.val)
    (hw1 : ∀ {a j : ℕ}, a < 384 → j < N → at2 w1 a j = ∑ d : Fin 128, at2 x7 a d.val * at2 (m := N) (n := 128) (v4.readAt (Elt Ideal) (Rect.unit (s := ⟨2, ![4224, 256]⟩) o3 ![N, 128] i3).toLoadRect f4) j d.val)
    (hu0 : ∀ {a l : ℕ}, a < 384 → l < 128 → at2 u0 a l = max (at2 (m := 384) (n := 128) (v11.readAt (Elt Ideal) (Rect.unit (s := ⟨2, ![768, 128]⟩) ![0, 0] ![384, 128] j0).toLoadRect f11) a l) ((Finset.range (3 * n)).sup fun j => at2 w0 a (128 * j + l)))
    (hu1 : ∀ {a l : ℕ}, a < 384 → l < 128 → at2 u1 a l = max (at2 (m := 384) (n := 128) (v11.readAt (Elt Ideal) (Rect.unit (s := ⟨2, ![768, 128]⟩) ![384, 0] ![384, 128] j1).toLoadRect f11) a l) ((Finset.range (3 * n)).sup fun j => at2 w1 a (128 * j + l))) :
    scoredAt qi q (v4.read (Elt Ideal) f4) b x3 x7 (T + n)
      (v10.read (Elt Ideal) (v10.writes (Elt Ideal) f10 [⟨Rect.unit (s := ⟨2, ![768, 4224]⟩) o4 ![384, N] i4, w1⟩, ⟨Rect.unit (s := ⟨2, ![768, 4224]⟩) o2 ![384, N] i2, w0⟩]))
      (v11.read (Elt Ideal) (v11.writes (Elt Ideal) f11 [⟨Rect.unit (s := ⟨2, ![768, 128]⟩) ![384, 0] ![384, 128] j1, u1⟩, ⟨Rect.unit (s := ⟨2, ![768, 128]⟩) ![0, 0] ![384, 128] j0, u0⟩])) ls acc := by
  refine ⟨hs.1, hs.2.1, hs.2.2.store qi q _ b hN i2 i4 j0 j1 _ _ _ _ h2 h4 (fun a ha j hj => ?_) (fun a ha j hj => ?_) (fun a ha l hl => ?_) (fun a ha l hl => ?_)⟩
  · rw [hw0 ha hj, E_far0 _ _ _ _ ha (by omega)]
    refine dot_of q _ hs.1 _ (fun j hj d hd => ?_) ha hj
    rw [at2_load16 v4 f4 i1 _ _ h1 hj hd]
  · rw [hw1 ha hj, E_far1 _ _ _ _ ha (by omega)]
    refine dot_of q _ hs.2.1 _ (fun j hj d hd => ?_) ha hj
    rw [at2_load16 v4 f4 i3 _ _ h3 hj hd]
  · rw [hu0 ha hl, at2_load32 v11 f11 j0 0 0 rfl ha hl, Nat.zero_add, Nat.zero_add]
  · rw [hu1 ha hl, at2_load32 v11 f11 j1 384 0 rfl ha hl, Nat.zero_add]

/-- A visit of one of the two key tiles nearest the diagonal: the scores get the bias rows from `o` on. -/
theorem visit_near {T o : ℕ} (hE : ∀ {m a j : ℕ}, m < 2 → a < 384 → j < 384 → E qi q (v4.read (Elt Ideal) f4) (v6.read (Elt Ideal) f6) (384 * m + a) (384 * T + j) = dotE q (v4.read (Elt Ideal) f4) m a (384 * T + j) + at3 (v6.read (Elt Ideal) f6) m (o + a) j)
    (hs : scoredAt qi q (v4.read (Elt Ideal) f4) (v6.read (Elt Ideal) f6) x3 x7 T (v10.read (Elt Ideal) f10) (v11.read (Elt Ideal) f11) ls acc)
    {o1 o2 o3 o4 : Fin 2 → ℕ} {i1 : ∀ a, o1 a + (![384, 128] : Fin 2 → ℕ) a ≤ (![4224, 256] : Fin 2 → ℕ) a} {i2 : ∀ a, o2 a + (![384, 384] : Fin 2 → ℕ) a ≤ (![768, 4224] : Fin 2 → ℕ) a}
    {i3 : ∀ a, o3 a + (![384, 128] : Fin 2 → ℕ) a ≤ (![4224, 256] : Fin 2 → ℕ) a} {i4 : ∀ a, o4 a + (![384, 384] : Fin 2 → ℕ) a ≤ (![768, 4224] : Fin 2 → ℕ) a}
    {b0 : ∀ a, (![0, o, 0] : Fin 3 → ℕ) a + (![1, 384, 384] : Fin 3 → ℕ) a ≤ (![2, 768, 384] : Fin 3 → ℕ) a} {b1 : ∀ a, (![1, o, 0] : Fin 3 → ℕ) a + (![1, 384, 384] : Fin 3 → ℕ) a ≤ (![2, 768, 384] : Fin 3 → ℕ) a}
    {j0 : ∀ a, (![0, 0] : Fin 2 → ℕ) a + (![384, 128] : Fin 2 → ℕ) a ≤ (![768, 128] : Fin 2 → ℕ) a} {j1 : ∀ a, (![384, 0] : Fin 2 → ℕ) a + (![384, 128] : Fin 2 → ℕ) a ≤ (![768, 128] : Fin 2 → ℕ) a}
    (h1 : o1 = ![384 * T, 0]) (h2 : o2 = ![0, 384 * T]) (h3 : o3 = ![384 * T, 128]) (h4 : o4 = ![384, 384 * T])
    {w0 w1 : (⟨2, ![384, 384]⟩ : Shape).Idx → EReal} {u0 u1 : (⟨2, ![384, 128]⟩ : Shape).Idx → EReal}
    (hw0 : ∀ {a j : ℕ}, a < 384 → j < 384 → at2 w0 a j = ∑ d : Fin 128, at2 x3 a d.val * at2 (m := 384) (n := 128) (v4.readAt (Elt Ideal) (Rect.unit (s := ⟨2, ![4224, 256]⟩) o1 ![384, 128] i1).toLoadRect f4) j d.val
      + at3 (l := 1) (m := 384) (n := 384) (v6.readAt (Elt Ideal) (Rect.unit (s := ⟨3, ![2, 768, 384]⟩) ![0, o, 0] ![1, 384, 384] b0).toLoadRect f6) 0 a j)
    (hw1 : ∀ {a j : ℕ}, a < 384 → j < 384 → at2 w1 a j = ∑ d : Fin 128, at2 x7 a d.val * at2 (m := 384) (n := 128) (v4.readAt (Elt Ideal) (Rect.unit (s := ⟨2, ![4224, 256]⟩) o3 ![384, 128] i3).toLoadRect f4) j d.val
      + at3 (l := 1) (m := 384) (n := 384) (v6.readAt (Elt Ideal) (Rect.unit (s := ⟨3, ![2, 768, 384]⟩) ![1, o, 0] ![1, 384, 384] b1).toLoadRect f6) 0 a j)
    (hu0 : ∀ {a l : ℕ}, a < 384 → l < 128 → at2 u0 a l = max (at2 (m := 384) (n := 128) (v11.readAt (Elt Ideal) (Rect.unit (s := ⟨2, ![768, 128]⟩) ![0, 0] ![384, 128] j0).toLoadRect f11) a l) ((Finset.range 3).sup fun j => at2 w0 a (128 * j + l)))
    (hu1 : ∀ {a l : ℕ}, a < 384 → l < 128 → at2 u1 a l = max (at2 (m := 384) (n := 128) (v11.readAt (Elt Ideal) (Rect.unit (s := ⟨2, ![768, 128]⟩) ![384, 0] ![384, 128] j1).toLoadRect f11) a l) ((Finset.range 3).sup fun j => at2 w1 a (128 * j + l))) :
    scoredAt qi q (v4.read (Elt Ideal) f4) (v6.read (Elt Ideal) f6) x3 x7 (T + 1)
      (v10.read (Elt Ideal) (v10.writes (Elt Ideal) f10 [⟨Rect.unit (s := ⟨2, ![768, 4224]⟩) o4 ![384, 384] i4, w1⟩, ⟨Rect.unit (s := ⟨2, ![768, 4224]⟩) o2 ![384, 384] i2, w0⟩]))
      (v11.read (Elt Ideal) (v11.writes (Elt Ideal) f11 [⟨Rect.unit (s := ⟨2, ![768, 128]⟩) ![384, 0] ![384, 128] j1, u1⟩, ⟨Rect.unit (s := ⟨2, ![768, 128]⟩) ![0, 0] ![384, 128] j0, u0⟩])) ls acc := by
  refine ⟨hs.1, hs.2.1, hs.2.2.store qi q _ _ (n := 1) rfl i2 i4 j0 j1 _ _ _ _ h2 h4 (fun a ha j hj => ?_) (fun a ha j hj => ?_) (fun a ha l hl => ?_) (fun a ha l hl => ?_)⟩
  · have e := hE (m := 0) (by decide) ha hj
    rw [Nat.mul_zero, Nat.zero_add] at e
    rw [hw0 ha hj, e, at3_load v6 f6 b0 0 o 0 rfl ha hj, Nat.zero_add]
    congr 1
    refine dot_of q _ hs.1 _ (fun j hj d hd => ?_) ha hj
    rw [at2_load16 v4 f4 i1 _ _ h1 hj hd]
  · have e := hE (m := 1) (by decide) ha hj
    rw [Nat.mul_one] at e
    rw [hw1 ha hj, e, at3_load v6 f6 b1 1 o 0 rfl ha hj, Nat.zero_add]
    congr 1
    refine dot_of q _ hs.2.1 _ (fun j hj d hd => ?_) ha hj
    rw [at2_load16 v4 f4 i3 _ _ h3 hj hd]
  · rw [hu0 ha hl, at2_load32 v11 f11 j0 0 0 rfl ha hl, Nat.zero_add, Nat.zero_add]
  · rw [hu1 ha hl, at2_load32 v11 f11 j1 384 0 rfl ha hl, Nat.zero_add]

/-- The first map's maxima are stored, the second map's are at hand. -/
theorem half {x : FVec Ideal S384x384 .f32} {y : Vec Ideal S384x128 .f32} {z : FVec Ideal S384x128 .f32} {s : Vec Ideal S768x4224 .f32} {u0 : (⟨2, ![384, 128]⟩ : Shape).Idx → EReal}
    {j0 : ∀ a, (![0, 0] : Fin 2 → ℕ) a + (![384, 128] : Fin 2 → ℕ) a ≤ (![768, 128] : Fin 2 → ℕ) a} {j1 : ∀ a, (![384, 0] : Fin 2 → ℕ) a + (![384, 128] : Fin 2 → ℕ) a ≤ (![768, 128] : Fin 2 → ℕ) a}
    (h : scoredAt qi q k b x3 x7 (qi + 1) s
      (v11.read (Elt Ideal) (v11.writes (Elt Ideal) f11 [⟨Rect.unit (s := ⟨2, ![768, 128]⟩) ![384, 0] ![384, 128] j1, k0_pay76 x y z⟩, ⟨Rect.unit (s := ⟨2, ![768, 128]⟩) ![0, 0] ![384, 128] j0, u0⟩])) ls acc) :
    halfAt qi q k b x y z s (v11.read (Elt Ideal) (v11.writes (Elt Ideal) f11 [⟨Rect.unit (s := ⟨2, ![768, 128]⟩) ![0, 0] ![384, 128] j0, u0⟩])) ls acc := by
  refine ⟨h.2.2.1, fun r hr l hl => ?_, fun r hr l hl => ?_⟩
  · rw [← h.2.2.2 r (by omega) l hl, at2_writes32 v11 f11 j1 _ _ 384 0 rfl r l, if_neg (by omega)]
  · rw [← h.2.2.2 (384 + r) (by omega) l hl, at2_writes32 v11 f11 j1 _ _ 384 0 rfl (384 + r) l, if_pos (by omega),
      show 384 + r - 384 = r by omega, Nat.sub_zero]

/-- The lanes' maxima become row maxima; the sums start at zero. -/
theorem start {x : FVec Ideal S384x384 .f32} {y : Vec Ideal S384x128 .f32} {z : FVec Ideal S384x128 .f32} {s : Vec Ideal S768x4224 .f32}
    {j0 : ∀ a, (![0, 0] : Fin 2 → ℕ) a + (![768, 128] : Fin 2 → ℕ) a ≤ (![768, 128] : Fin 2 → ℕ) a} {j1 : ∀ a, (![384, 0] : Fin 2 → ℕ) a + (![384, 128] : Fin 2 → ℕ) a ≤ (![768, 128] : Fin 2 → ℕ) a}
    {j3 : ∀ a, (![0, 0] : Fin 2 → ℕ) a + (![768, 256] : Fin 2 → ℕ) a ≤ (![768, 256] : Fin 2 → ℕ) a}
    (h : halfAt qi q k b x y z s (v11.read (Elt Ideal) f11) ls acc) :
    summedAt qi q k v b 0 s
      (v11.read (Elt Ideal) (v11.writes (Elt Ideal) f11 [⟨Rect.unit (s := ⟨2, ![768, 128]⟩) ![0, 0] ![768, 128] j0,
        k0_pay77 (v11.readAt (Elt Ideal) (Rect.unit (s := ⟨2, ![768, 128]⟩) ![0, 0] ![768, 128] j0).toLoadRect (v11.writes (Elt Ideal) f11 [⟨Rect.unit (s := ⟨2, ![768, 128]⟩) ![384, 0] ![384, 128] j1, k0_pay76 x y z⟩]))⟩,
        ⟨Rect.unit (s := ⟨2, ![768, 128]⟩) ![384, 0] ![384, 128] j1, k0_pay76 x y z⟩]))
      (v12.read (Elt Ideal) (v12.writes (Elt Ideal) f12 [⟨Rect.unit (s := ⟨2, ![768, 128]⟩) ![0, 0] ![768, 128] j0, k0_pay78 (F := Ideal)⟩]))
      (v13.read (Elt Ideal) (v13.writes (Elt Ideal) f13 [⟨Rect.unit (s := ⟨2, ![768, 256]⟩) ![0, 0] ![768, 256] j3, k0_pay79 (F := Ideal)⟩])) := by
  refine ⟨⟨fun r hr c hc => h.1 r hr c hc, fun r hr l hl => ?_⟩, fun r hr l hl => ?_, fun r hr d hd => ?_⟩
  · rw [at2_writes32 v11 f11 j0 _ _ 0 0 rfl r l, if_pos (by omega), Nat.sub_zero, Nat.sub_zero, row_max _ hr hl, M, ← sup_lanes]
    refine Finset.sup_congr rfl fun l' hl' => ?_
    have hl' := Finset.mem_range.mp hl'
    rw [at2_load32 v11 _ j0 0 0 rfl hr hl', at2_writes32 v11 f11 j1 _ _ 384 0 rfl (0 + r) (0 + l')]
    by_cases hr' : r < 384
    · rw [if_neg (by omega), Nat.zero_add, Nat.zero_add]
      exact h.2.1 r hr' l' hl'
    · rw [if_pos (by omega), show 0 + r - 384 = r - 384 by omega, show 0 + l' - 0 = l' by omega, h.2.2 (r - 384) (by omega) l' hl',
        show 384 + (r - 384) = r by omega]
  · rw [at2_writes32 v12 f12 j0 _ _ 0 0 rfl r l, if_pos (by omega), Nat.sub_zero, Nat.sub_zero, start_ls hr hl]
    simp
  · rw [at2_writes32 v13 f13 j3 _ _ 0 0 rfl r d, if_pos (by omega), Nat.sub_zero, Nat.sub_zero, start_acc hr hd]
    simp

/-- A visit of `n` key tiles by the weighted sums. -/
theorem visit_sums {T n N : ℕ} (hN : N = 384 * n) (hT : T + n ≤ qi + 1)
    (hs : summedAt qi q k (v5.read (Elt Ideal) f5) b T (v10.read (Elt Ideal) f10) (v11.read (Elt Ideal) f11) (v12.read (Elt Ideal) f12) (v13.read (Elt Ideal) f13))
    {o1 o2 : Fin 2 → ℕ} {i1 : ∀ a, o1 a + (![768, N] : Fin 2 → ℕ) a ≤ (![768, 4224] : Fin 2 → ℕ) a} {i2 : ∀ a, o2 a + (![N, 256] : Fin 2 → ℕ) a ≤ (![4224, 256] : Fin 2 → ℕ) a}
    {j0 : ∀ a, (![0, 0] : Fin 2 → ℕ) a + (![768, 128] : Fin 2 → ℕ) a ≤ (![768, 128] : Fin 2 → ℕ) a} {j1 : ∀ a, (![0, 0] : Fin 2 → ℕ) a + (![768, 256] : Fin 2 → ℕ) a ≤ (![768, 256] : Fin 2 → ℕ) a}
    (h1 : o1 = ![0, 384 * T]) (h2 : o2 = ![384 * T, 0])
    {u0 : (⟨2, ![768, 128]⟩ : Shape).Idx → EReal} {u1 : (⟨2, ![768, 256]⟩ : Shape).Idx → EReal}
    (hu0 : ∀ {r l : ℕ}, r < 768 → l < 128 → at2 u0 r l = at2 (m := 768) (n := 128) (v12.readAt (Elt Ideal) (Rect.unit (s := ⟨2, ![768, 128]⟩) ![0, 0] ![768, 128] j0).toLoadRect f12) r l
      + ∑ j ∈ Finset.range (3 * n), ex2 (at2 (m := 768) (n := N) (v10.readAt (Elt Ideal) (Rect.unit (s := ⟨2, ![768, 4224]⟩) o1 ![768, N] i1).toLoadRect f10) r (128 * j + l) - at2 (m := 768) (n := 128) (v11.readAt (Elt Ideal) (Rect.unit (s := ⟨2, ![768, 128]⟩) ![0, 0] ![768, 128] j0).toLoadRect f11) r l))
    (hu1 : ∀ {r d : ℕ}, r < 768 → d < 256 → at2 u1 r d = at2 (m := 768) (n := 256) (v13.readAt (Elt Ideal) (Rect.unit (s := ⟨2, ![768, 256]⟩) ![0, 0] ![768, 256] j1).toLoadRect f13) r d
      + ∑ j ∈ Finset.range N, ex2 (at2 (m := 768) (n := N) (v10.readAt (Elt Ideal) (Rect.unit (s := ⟨2, ![768, 4224]⟩) o1 ![768, N] i1).toLoadRect f10) r j - at2 (m := 768) (n := 128) (v11.readAt (Elt Ideal) (Rect.unit (s := ⟨2, ![768, 128]⟩) ![0, 0] ![768, 128] j0).toLoadRect f11) r (j % 128))
        * at2 (m := N) (n := 256) (v5.readAt (Elt Ideal) (Rect.unit (s := ⟨2, ![4224, 256]⟩) o2 ![N, 256] i2).toLoadRect f5) j d) :
    summedAt qi q k (v5.read (Elt Ideal) f5) b (T + n) (v10.read (Elt Ideal) f10) (v11.read (Elt Ideal) f11)
      (v12.read (Elt Ideal) (v12.writes (Elt Ideal) f12 [⟨Rect.unit (s := ⟨2, ![768, 128]⟩) ![0, 0] ![768, 128] j0, u0⟩]))
      (v13.read (Elt Ideal) (v13.writes (Elt Ideal) f13 [⟨Rect.unit (s := ⟨2, ![768, 256]⟩) ![0, 0] ![768, 256] j1, u1⟩])) := by
  refine ⟨hs.1, hs.2.store qi q k _ b hN hT j0 j1 u0 u1 hs.1
    (v10.readAt (Elt Ideal) (Rect.unit (s := ⟨2, ![768, 4224]⟩) o1 ![768, N] i1).toLoadRect f10) ?_
    (v11.readAt (Elt Ideal) (Rect.unit (s := ⟨2, ![768, 128]⟩) ![0, 0] ![768, 128] j0).toLoadRect f11) ?_
    (v5.readAt (Elt Ideal) (Rect.unit (s := ⟨2, ![4224, 256]⟩) o2 ![N, 256] i2).toLoadRect f5) ?_ ?_ ?_⟩
  · intro r hr j hj
    rw [at2_load32 v10 f10 i1 _ _ h1 hr hj, Nat.zero_add]
  · intro r hr l hl
    rw [at2_load32 v11 f11 j0 0 0 rfl hr hl, Nat.zero_add, Nat.zero_add]
  · intro j hj d hd
    rw [at2_load16 v5 f5 i2 _ _ h2 hj hd, Nat.zero_add]
  · intro r hr l hl
    rw [hu0 hr hl, at2_load32 v12 f12 j0 0 0 rfl hr hl, Nat.zero_add, Nat.zero_add]
  · intro r hr d hd
    rw [hu1 hr hd, at2_load32 v13 f13 j1 0 0 rfl hr hd, Nat.zero_add, Nat.zero_add]

/-- The queries read and scaled; nothing is scored yet. -/
theorem scored_zero {i0 : ∀ a, (![0, 0] : Fin 2 → ℕ) a + (![384, 128] : Fin 2 → ℕ) a ≤ (![384, 256] : Fin 2 → ℕ) a} {i1 : ∀ a, (![0, 128] : Fin 2 → ℕ) a + (![384, 128] : Fin 2 → ℕ) a ≤ (![384, 256] : Fin 2 → ℕ) a}
    {j0 : ∀ a, (![0, 0] : Fin 2 → ℕ) a + (![768, 128] : Fin 2 → ℕ) a ≤ (![768, 128] : Fin 2 → ℕ) a} {s : Vec Ideal S768x4224 .f32} :
    scoredAt qi (v3'.read (Elt Ideal) f3) k b
      (k0_pay55 (v3'.readAt (Elt Ideal) (Rect.unit (s := ⟨2, ![384, 256]⟩) ![0, 0] ![384, 128] i0).toLoadRect f3))
      (k0_pay56 (v3'.readAt (Elt Ideal) (Rect.unit (s := ⟨2, ![384, 256]⟩) ![0, 128] ![384, 128] i1).toLoadRect f3)) 0 s
      (v11.read (Elt Ideal) (v11.writes (Elt Ideal) f11 [⟨Rect.unit (s := ⟨2, ![768, 128]⟩) ![0, 0] ![768, 128] j0, k0_pay57 (F := Ideal)⟩])) ls acc := by
  refine ⟨fun a ha d hd => ?_, fun a ha d hd => ?_, fun r hr c hc => absurd hc (by omega), fun r hr l hl => ?_⟩
  · rw [scaled _ ha hd, at2_load32 v3' f3 i0 0 0 rfl ha hd, Nat.zero_add, Nat.zero_add]
  · refine (scaled _ ha hd).trans ?_
    rw [at2_load32 v3' f3 i1 0 128 rfl ha hd, Nat.zero_add, Nat.mul_one]
  · rw [at2_writes32 v11 f11 j0 _ _ 0 0 rfl r l, if_pos (by omega), Nat.sub_zero, Nat.sub_zero, start_max hr hl]
    simp

theorem combine {sp7 sp8 : Space} {v7 : View sig .tc sp7 ⟨2, ![4, 128]⟩ .f32} {v8 : View sig .tc sp8 ⟨2, ![1, 256]⟩ .f32} {f7 : v7.ty.Contents (Elt Ideal)} {f8 : v8.ty.Contents (Elt Ideal)}
    {j12 : ∀ a, (![0, 0] : Fin 2 → ℕ) a + (![768, 128] : Fin 2 → ℕ) a ≤ (![768, 128] : Fin 2 → ℕ) a} {j13 : ∀ a, (![0, 0] : Fin 2 → ℕ) a + (![768, 256] : Fin 2 → ℕ) a ≤ (![768, 256] : Fin 2 → ℕ) a}
    {j7 : ∀ a, (![0, 0] : Fin 2 → ℕ) a + (![4, 128] : Fin 2 → ℕ) a ≤ (![4, 128] : Fin 2 → ℕ) a} {j8 : ∀ a, (![0, 0] : Fin 2 → ℕ) a + (![1, 256] : Fin 2 → ℕ) a ≤ (![1, 256] : Fin 2 → ℕ) a}
    {s : Vec Ideal S768x4224 .f32} {mx : Vec Ideal S768x128 .f32}
    (h : summedAt qi q k v b (qi + 1) s mx (v12.read (Elt Ideal) f12) (v13.read (Elt Ideal) f13)) :
    k0_pay89 (v13.readAt (Elt Ideal) (Rect.unit (s := ⟨2, ![768, 256]⟩) ![0, 0] ![768, 256] j13).toLoadRect f13)
      (v12.readAt (Elt Ideal) (Rect.unit (s := ⟨2, ![768, 128]⟩) ![0, 0] ![768, 128] j12).toLoadRect f12)
      (v7.readAt (Elt Ideal) (Rect.unit (s := ⟨2, ![4, 128]⟩) ![0, 0] ![4, 128] j7).toLoadRect f7)
      (v8.readAt (Elt Ideal) (Rect.unit (s := ⟨2, ![1, 256]⟩) ![0, 0] ![1, 256] j8).toLoadRect f8)
      = outBlk qi q k v b (v7.read (Elt Ideal) f7) (v8.read (Elt Ideal) f8) := by
  have h7 := loads_whole v7 f7 j7
  have h8 := loads_whole v8 f8 j8
  have h12 := loads_whole v12 f12 j12
  have h13 := loads_whole v13 f13 j13
  have e := h.2.eq
  rw [outBlk, ← e.1, ← e.2]
  exact congr (congr (congr (congrArg k0_pay89 h13) h12) h7) h8

end

end Cert.KernelIdeal.Attn

end
-- ==== Proof.IdealParts.lean ====
/-
  The attention kernel's body, part by part, on ideal numbers: every part leaves the inputs as they were and takes one
  stage of the row-wise softmax to the next (`Scored`, `Ready`, `Summed`).
-/
module

public import proofs.«01_k».proof.Proof.Places
public import proofs.«01_k».proof.Proof.Visits
public import proofs.«01_k».proof.Proof.Gen.KernelIdeal.Loops
public import proofs.«01_k».proof.Proof.Gen.KernelIdeal.Launch

@[expose] public section

set_option maxRecDepth 8192
set_option maxHeartbeats 1000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ
abbrev 𝒱₀ : Variants := Variants.none

/-- A buffer held whole at the contents `f`. -/
abbrev pt (c : Dev nD) {sp : Space} {S : Shape} {e : EltTy} (m : Memref sig .tc sp S e) (f : Buf (Elt Ideal) (m.view.loc (c : Thread nD τ))) : sProp 𝕄 :=
  m.view.loc (c : Thread nD τ) ↦[m.view.set]{fullShare} f

/-- A buffer held whole at some contents. -/
abbrev ex (c : Dev nD) {sp : Space} {S : Shape} {e : EltTy} (m : Memref sig .tc sp S e) : sProp 𝕄 :=
  iprop(∃ f, pt c m f)

/-- One program after another. -/
theorem seq {c : Dev nD} {α β : Type} {R : sProp 𝕄} {p : Prog (TpuEff nD τ sig (Elt Ideal) Λ₀ .tc) α} {k : α → Prog (TpuEff nD τ sig (Elt Ideal) Λ₀ .tc) β} {S : α → sProp 𝕄} {Q : β → sProp 𝕄}
    (h : R ⊢ wp frame (wpE (defs₀ (F := Ideal)) 𝒱₀ (c : Thread nD τ) none) Set.univ p S)
    (h' : ∀ a, S a ⊢ wp frame (wpE (defs₀ (F := Ideal)) 𝒱₀ (c : Thread nD τ) none) Set.univ (k a) Q) :
    R ⊢ wp frame (wpE (defs₀ (F := Ideal)) 𝒱₀ (c : Thread nD τ) none) Set.univ (p >>= k) Q := by
  rw [wp_bind]
  iintro H
  iapply (wp_wand_r frame (wpE (defs₀ (F := Ideal)) 𝒱₀ (c : Thread nD τ) none) Set.univ)
  isplitl [H]
  · iapply h; iexact H
  iintro %a HS
  iapply (h' a); iexact HS

/-- Words only, then a program. -/
theorem seqWords {c : Dev nD} {α β : Type} {R : sProp 𝕄} {p : Prog (TpuEff nD τ sig (Elt Ideal) Λ₀ .tc) α} {k : α → Prog (TpuEff nD τ sig (Elt Ideal) Λ₀ .tc) β} {Q : β → sProp 𝕄} (a : α)
    (h : p = pure a) (h' : R ⊢ wp frame (wpE (defs₀ (F := Ideal)) 𝒱₀ (c : Thread nD τ) none) Set.univ (k a) Q) :
    R ⊢ wp frame (wpE (defs₀ (F := Ideal)) 𝒱₀ (c : Thread nD τ) none) Set.univ (p >>= k) Q := by
  rw [h, pure_bind]; exact h'

variable (c : Dev nD) (i : grid0.Coords)
  (arg3 : Memref sig .tc .vmem S384x256 .f32) (harg3 : arg3.IsWhole)
  (arg4 : Memref sig .tc .vmem S4224x256 .bf16) (harg4 : arg4.IsWhole)
  (arg5 : Memref sig .tc .vmem S4224x256 .bf16) (harg5 : arg5.IsWhole)
  (arg6 : Memref sig .tc .vmem S2x768x384 .f32) (harg6 : arg6.IsWhole)
  (arg7 : Memref sig .tc .vmem S4x128 .f32) (harg7 : arg7.IsWhole)
  (arg8 : Memref sig .tc .vmem S1x256 .f32) (harg8 : arg8.IsWhole)
  (arg9 : Memref sig .tc .vmem S384x256 .bf16) (harg9 : arg9.IsWhole)
  (arg10 : Memref sig .tc .vmem S768x4224 .f32) (harg10 : arg10.IsWhole)
  (arg11 : Memref sig .tc .vmem S768x128 .f32) (harg11 : arg11.IsWhole)
  (arg12 : Memref sig .tc .vmem S768x128 .f32) (harg12 : arg12.IsWhole)
  (arg13 : Memref sig .tc .vmem S768x256 .f32) (harg13 : arg13.IsWhole)
  (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ)))

/-- A buffer's contents, as an array. -/
abbrev rd {sp : Space} {S : Shape} {e : EltTy} (m : Memref sig .tc sp S e) {c : Dev nD} (f : Buf (Elt Ideal) (m.view.loc (c : Thread nD τ))) : Vec Ideal S e := m.view.read (Elt Ideal) f

/-- The kernel's eleven buffers: the six inputs at their contents, the output at some, the four scratch arrays at some
    that `s` holds of. -/
abbrev St (s : Stage) : sProp 𝕄 :=
  iprop(pt c arg3 f3 ∗ pt c arg4 f4 ∗ pt c arg5 f5 ∗ pt c arg6 f6 ∗ pt c arg7 f7 ∗ pt c arg8 f8 ∗ ex c arg9 ∗ ∃ f10 f11 f12 f13, pt c arg10 f10 ∗ pt c arg11 f11 ∗ pt c arg12 f12 ∗ pt c arg13 f13 ∗ ⌜s (rd arg10 f10) (rd arg11 f11) (rd arg12 f12) (rd arg13 f13)⌝)

/-- One trip of the scores' loop. -/
theorem trip1 (v3 v7 : FVec Ideal S384x128 .bf16) (w0 w1 : BitVec 32) (k : Fin (k0_t1_loop i).trips) :
    St c arg3 arg4 arg5 arg6 arg7 arg8 arg9 arg10 arg11 arg12 arg13 f3 f4 f5 f6 f7 f8 (scoredAt (i 2).val (rd arg3 f3) (rd arg4 f4) (rd arg6 f6) v3 v7 (4 * k.val))
      ⊢ wp frame (wpE (defs₀ (F := Ideal)) 𝒱₀ (c : Thread nD τ) none) Set.univ
        (k0_t1_body (F := Ideal) i arg3 harg3 arg4 harg4 arg5 harg5 arg6 harg6 arg7 harg7 arg8 harg8 arg9 harg9 arg10 harg10 arg11 harg11 arg12 harg12 arg13 harg13 v3 v7 w0 w1 k ())
        (fun _ => St c arg3 arg4 arg5 arg6 arg7 arg8 arg9 arg10 arg11 arg12 arg13 f3 f4 f5 f6 f7 f8 (scoredAt (i 2).val (rd arg3 f3) (rd arg4 f4) (rd arg6 f6) v3 v7 (4 * (k.val + 1)))) := by
  iintro ⟨H3, H4, H5, H6, H7, H8, ⟨%f9, H9⟩, ⟨%f10, %f11, %f12, %f13, H10, H11, H12, H13, %hs⟩⟩
  sl_unfold [k0_t1_body]
  sl_exec_parts
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _, _, _, _
  isplitl [H10]; · iexact H10
  isplitl [H11]; · iexact H11
  isplitl [H12]; · iexact H12
  isplitl [H13]; · iexact H13
  ipureintro
  have hk := lt_of_lt_of_eq k.isLt (trips1 i)
  exact visit_far (i 2).val _ _ (n := 4) (N := 1536) rfl (by omega) hs
    ((off1_eq i k).trans (by rw [show 384 * (4 * k.val) = 1536 * k.val by omega])) ((off2_eq i k).trans (by rw [show 384 * (4 * k.val) = 1536 * k.val by omega]))
    ((off3_eq i k).trans (by rw [show 384 * (4 * k.val) = 1536 * k.val by omega])) ((off4_eq i k).trans (by rw [show 384 * (4 * k.val) = 1536 * k.val by omega]))
    (w0 := k0_pay2 v3 _) (w1 := k0_pay58 (k0_pay4 v7 _)) (u0 := k0_pay3 v3 _ _) (u1 := k0_pay59 (k0_pay4 v7 _) _)
    (fun ha hj => (dot12' _ _ ha hj).trans (dot12 _ _ ha hj)) (fun ha hj => (dot12'' _ ha hj).trans (dot12 _ _ ha hj))
    (fun ha hl => (max12' _ _ _ ha hl).trans (congrArg _ (Finset.sup_congr rfl fun j hj => (dot12' _ _ ha (by have := Finset.mem_range.mp hj; omega)).symm)))
    (fun ha hl => (max12 _ _ ha hl).trans (congrArg _ (Finset.sup_congr rfl fun j hj => (dot12'' _ ha (by have := Finset.mem_range.mp hj; omega)).symm)))

set_option warn.classDefReducibility false in
/-- Loop 1's invariant. -/
@[sl_loop] def loopInv1 (v3 v7 : FVec Ideal S384x128 .bf16) (w0 w1 : BitVec 32) :
    Gen.LoopInvTy_k0_t1 (F := Ideal) Unit ℕ (UR sig nD τ) ℕ 𝒱₀ c none Set.univ i arg3 harg3 arg4 harg4 arg5 harg5 arg6 harg6 arg7 harg7 arg8 harg8 arg9 harg9 arg10 harg10 arg11 harg11 arg12 harg12 arg13 harg13 v3 v7 w0 w1 where
  inv k _ := St c arg3 arg4 arg5 arg6 arg7 arg8 arg9 arg10 arg11 arg12 arg13 f3 f4 f5 f6 f7 f8 (scoredAt (i 2).val (rd arg3 f3) (rd arg4 f4) (rd arg6 f6) v3 v7 (4 * k))
  step k acc := trip1 c i arg3 harg3 arg4 harg4 arg5 harg5 arg6 harg6 arg7 harg7 arg8 harg8 arg9 harg9 arg10 harg10 arg11 harg11 arg12 harg12 arg13 harg13 f3 f4 f5 f6 f7 f8 v3 v7 w0 w1 k

set_option warn.classDefReducibility false in
/-- Loop 2's invariant. -/
@[sl_loop] def loopInv2 (v3 v7 : FVec Ideal S384x128 .bf16) (w0 w1 : BitVec 32) :
    Gen.LoopInvTy_k0_t2 (F := Ideal) Unit ℕ (UR sig nD τ) ℕ 𝒱₀ c none Set.univ i arg3 harg3 arg4 harg4 arg5 harg5 arg6 harg6 arg7 harg7 arg8 harg8 arg9 harg9 arg10 harg10 arg11 harg11 arg12 harg12 arg13 harg13 v3 v7 w0 w1 where
  inv k _ := St c arg3 arg4 arg5 arg6 arg7 arg8 arg9 arg10 arg11 arg12 arg13 f3 f4 f5 f6 f7 f8 (scoredAt (i 2).val (rd arg3 f3) (rd arg4 f4) (rd arg6 f6) v3 v7 (4 * (((i 2).val - 1) / 4)))
  step k acc := (Nat.not_lt_zero _ (Nat.lt_of_lt_of_eq k.isLt (trips2 i))).elim

/-- One trip of the weighted sums' loop. -/
theorem trip3 (w0 w1 : BitVec 32) (k : Fin (k0_t3_loop i).trips) :
    St c arg3 arg4 arg5 arg6 arg7 arg8 arg9 arg10 arg11 arg12 arg13 f3 f4 f5 f6 f7 f8 (summedAt (i 2).val (rd arg3 f3) (rd arg4 f4) (rd arg5 f5) (rd arg6 f6) (4 * k.val))
      ⊢ wp frame (wpE (defs₀ (F := Ideal)) 𝒱₀ (c : Thread nD τ) none) Set.univ
        (k0_t3_body (F := Ideal) i arg3 harg3 arg4 harg4 arg5 harg5 arg6 harg6 arg7 harg7 arg8 harg8 arg9 harg9 arg10 harg10 arg11 harg11 arg12 harg12 arg13 harg13 w0 w1 k ())
        (fun _ => St c arg3 arg4 arg5 arg6 arg7 arg8 arg9 arg10 arg11 arg12 arg13 f3 f4 f5 f6 f7 f8 (summedAt (i 2).val (rd arg3 f3) (rd arg4 f4) (rd arg5 f5) (rd arg6 f6) (4 * (k.val + 1)))) := by
  iintro ⟨H3, H4, H5, H6, H7, H8, ⟨%f9, H9⟩, ⟨%f10, %f11, %f12, %f13, H10, H11, H12, H13, %hs⟩⟩
  sl_unfold [k0_t3_body]
  sl_exec_parts
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _, _, _, _
  isplitl [H10]; · iexact H10
  isplitl [H11]; · iexact H11
  isplitl [H12]; · iexact H12
  isplitl [H13]; · iexact H13
  ipureintro
  have hk := lt_of_lt_of_eq k.isLt (trips3 i)
  have hT : 4 * k.val + 4 ≤ (i 2).val + 1 := by omega
  have o1 : k0_off25 i k = ![0, 384 * (4 * k.val)] := (off25_eq i k).trans (by rw [show 384 * (4 * k.val) = 1536 * k.val by omega])
  have o2 : k0_off26 i k = ![384 * (4 * k.val), 0] := (off26_eq i k).trans (by rw [show 384 * (4 * k.val) = 1536 * k.val by omega])
  have e21 : trip3.sl.v271 c i arg10 arg11 k f10 f11 = k0_pay21 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11) := rfl
  have e22 : trip3.sl.v274 c i arg10 arg11 k f10 f11 = k0_pay22 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11) := rfl
  have e23 : trip3.sl.v277 c i arg10 arg11 k f10 f11 = k0_pay23 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11) := rfl
  have e24 : trip3.sl.v280 c i arg10 arg11 k f10 f11 = k0_pay24 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11) := rfl
  have e25 : trip3.sl.v283 c i arg10 arg11 k f10 f11 = k0_pay25 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11) := rfl
  have e26 : trip3.sl.v286 c i arg10 arg11 k f10 f11 = k0_pay26 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11) := rfl
  have e27 : trip3.sl.v289 c i arg10 arg11 k f10 f11 = k0_pay27 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11) := rfl
  have e28 : trip3.sl.v292 c i arg10 arg11 k f10 f11 = k0_pay28 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11) := rfl
  have e29 : trip3.sl.v295 c i arg10 arg11 k f10 f11 = k0_pay29 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11) := rfl
  have e30 : trip3.sl.v298 c i arg10 arg11 k f10 f11 = k0_pay30 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11) := rfl
  have e31 : trip3.sl.v301 c i arg10 arg11 k f10 f11 = k0_pay31 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11) := rfl
  have e32 : trip3.sl.v304 c i arg10 arg11 k f10 f11 = k0_pay32 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11) := rfl
  have e33 : trip3.sl.v315 c i arg10 arg11 k f10 f11 = k0_pay33 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11) := rfl
  rw [e21, e22, e23, e24, e25, e26, e27, e28, e29, e30, e31, e32, e33]
  have key := visit_sums (i 2).val _ _ _ (n := 4) (N := 1536) (i1 := k0_off25_inb i k) (i2 := k0_off26_inb i k) (j0 := inb_S768x128_S768x128_0_0) (j1 := inb_S768x256_S768x256_0_0) rfl hT hs o1 o2
    (u0 := k0_pay80 (k0_pay33 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11)) (arg12.view.readAt (Elt Ideal) (Rect.unit (s := S768x128) ![0, 0] S768x128.size inb_S768x128_S768x128_0_0).toLoadRect f12)) (u1 := k0_pay81 (k0_pay21 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11)) (k0_pay22 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11)) (k0_pay23 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11)) (k0_pay24 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11)) (k0_pay25 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11)) (k0_pay26 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11)) (k0_pay27 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11)) (k0_pay28 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11)) (k0_pay29 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11)) (k0_pay30 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11)) (k0_pay31 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11)) (k0_pay32 (arg10.view.readAt (Elt Ideal) (Rect.unit (s := S768x4224) (k0_off25 i k) S768x1536.size (k0_off25_inb i k)).toLoadRect f10) (arg11.view.readAt (Elt Ideal) (Rect.unit (s := S768x128) ![0, 0] S768x128.size inb_S768x128_S768x128_0_0).toLoadRect f11)) (arg13.view.readAt (Elt Ideal) (Rect.unit (s := S768x256) ![0, 0] S768x256.size inb_S768x256_S768x256_0_0).toLoadRect f13) (arg5.view.readAt (Elt Ideal) (Rect.unit (s := S4224x256) (k0_off26 i k) S1536x256.size (k0_off26_inb i k)).toLoadRect f5))
    (fun hr hl => sums12 _ _ _ hr hl) (fun hr hd => acc12 _ _ _ _ hr hd)
  exact key

set_option warn.classDefReducibility false in
/-- Loop 3's invariant. -/
@[sl_loop] def loopInv3 (w0 w1 : BitVec 32) :
    Gen.LoopInvTy_k0_t3 (F := Ideal) Unit ℕ (UR sig nD τ) ℕ 𝒱₀ c none Set.univ i arg3 harg3 arg4 harg4 arg5 harg5 arg6 harg6 arg7 harg7 arg8 harg8 arg9 harg9 arg10 harg10 arg11 harg11 arg12 harg12 arg13 harg13 w0 w1 where
  inv k _ := St c arg3 arg4 arg5 arg6 arg7 arg8 arg9 arg10 arg11 arg12 arg13 f3 f4 f5 f6 f7 f8 (summedAt (i 2).val (rd arg3 f3) (rd arg4 f4) (rd arg5 f5) (rd arg6 f6) (4 * k))
  step k acc := trip3 c i arg3 harg3 arg4 harg4 arg5 harg5 arg6 harg6 arg7 harg7 arg8 harg8 arg9 harg9 arg10 harg10 arg11 harg11 arg12 harg12 arg13 harg13 f3 f4 f5 f6 f7 f8 w0 w1 k

set_option warn.classDefReducibility false in
/-- Loop 4's invariant. -/
@[sl_loop] def loopInv4 (w0 w1 : BitVec 32) :
    Gen.LoopInvTy_k0_t4 (F := Ideal) Unit ℕ (UR sig nD τ) ℕ 𝒱₀ c none Set.univ i arg3 harg3 arg4 harg4 arg5 harg5 arg6 harg6 arg7 harg7 arg8 harg8 arg9 harg9 arg10 harg10 arg11 harg11 arg12 harg12 arg13 harg13 w0 w1 where
  inv k _ := St c arg3 arg4 arg5 arg6 arg7 arg8 arg9 arg10 arg11 arg12 arg13 f3 f4 f5 f6 f7 f8 (summedAt (i 2).val (rd arg3 f3) (rd arg4 f4) (rd arg5 f5) (rd arg6 f6) (4 * (((i 2).val + 1) / 4)))
  step k acc := (Nat.not_lt_zero _ (Nat.lt_of_lt_of_eq k.isLt (trips4 i))).elim

/-- The scaled queries are read and the running maxima reset. -/
theorem part8  :
    St c arg3 arg4 arg5 arg6 arg7 arg8 arg9 arg10 arg11 arg12 arg13 f3 f4 f5 f6 f7 f8 (fun _ _ _ _ => True)
      ⊢ wp frame (wpE (defs₀ (F := Ideal)) 𝒱₀ (c : Thread nD τ) none) Set.univ
        (k0_part8 (F := Ideal) i arg3 harg3 arg4 harg4 arg5 harg5 arg6 harg6 arg7 harg7 arg8 harg8 arg9 harg9 arg10 harg10 arg11 harg11 arg12 harg12 arg13 harg13 )
        (fun a => St c arg3 arg4 arg5 arg6 arg7 arg8 arg9 arg10 arg11 arg12 arg13 f3 f4 f5 f6 f7 f8 (scoredAt (i 2).val (rd arg3 f3) (rd arg4 f4) (rd arg6 f6) a.2.1 a.2.2.1 0)) := by
  iintro ⟨H3, H4, H5, H6, H7, H8, ⟨%f9, H9⟩, ⟨%f10, %f11, %f12, %f13, H10, H11, H12, H13, %hs⟩⟩
  sl_unfold [k0_part8]
  sl_exec_parts
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _, _, _, _
  isplitl [H10]; · iexact H10
  isplitl [H11]; · iexact H11
  isplitl [H12]; · iexact H12
  isplitl [H13]; · iexact H13
  ipureintro
  exact scored_zero (i 2).val _ _

/-- The scores of four key tiles at a time. -/
theorem part10 (v3 v7 : FVec Ideal S384x128 .bf16) (w0 w1 : BitVec 32) :
    St c arg3 arg4 arg5 arg6 arg7 arg8 arg9 arg10 arg11 arg12 arg13 f3 f4 f5 f6 f7 f8 (scoredAt (i 2).val (rd arg3 f3) (rd arg4 f4) (rd arg6 f6) v3 v7 (0))
      ⊢ wp frame (wpE (defs₀ (F := Ideal)) 𝒱₀ (c : Thread nD τ) none) Set.univ
        (k0_part10 (F := Ideal) i arg3 harg3 arg4 harg4 arg5 harg5 arg6 harg6 arg7 harg7 arg8 harg8 arg9 harg9 arg10 harg10 arg11 harg11 arg12 harg12 arg13 harg13 v3 v7 w0 w1)
        (fun _ => St c arg3 arg4 arg5 arg6 arg7 arg8 arg9 arg10 arg11 arg12 arg13 f3 f4 f5 f6 f7 f8 (scoredAt (i 2).val (rd arg3 f3) (rd arg4 f4) (rd arg6 f6) v3 v7 (4 * (((i 2).val - 1) / 4)))) := by
  iintro ⟨H3, H4, H5, H6, H7, H8, ⟨%f9, H9⟩, ⟨%f10, %f11, %f12, %f13, H10, H11, H12, H13, %hs⟩⟩
  sl_unfold [k0_part10]
  sl_exec_parts
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _, _, _, _
  isplitl [H10]; · iexact H10
  isplitl [H11]; · iexact H11
  isplitl [H12]; · iexact H12
  isplitl [H13]; · iexact H13
  ipureintro
  have e : (k0_t1_loop i).trips = ((i 2).val - 1) / 4 := trips1 i
  exact e ▸ hL11

/-- The rest of that loop, which never runs. -/
theorem part12 (v3 v7 : FVec Ideal S384x128 .bf16) (w0 w1 : BitVec 32) :
    St c arg3 arg4 arg5 arg6 arg7 arg8 arg9 arg10 arg11 arg12 arg13 f3 f4 f5 f6 f7 f8 (scoredAt (i 2).val (rd arg3 f3) (rd arg4 f4) (rd arg6 f6) v3 v7 (4 * (((i 2).val - 1) / 4)))
      ⊢ wp frame (wpE (defs₀ (F := Ideal)) 𝒱₀ (c : Thread nD τ) none) Set.univ
        (k0_part12 (F := Ideal) i arg3 harg3 arg4 harg4 arg5 harg5 arg6 harg6 arg7 harg7 arg8 harg8 arg9 harg9 arg10 harg10 arg11 harg11 arg12 harg12 arg13 harg13 v3 v7 w0 w1)
        (fun _ => St c arg3 arg4 arg5 arg6 arg7 arg8 arg9 arg10 arg11 arg12 arg13 f3 f4 f5 f6 f7 f8 (scoredAt (i 2).val (rd arg3 f3) (rd arg4 f4) (rd arg6 f6) v3 v7 (4 * (((i 2).val - 1) / 4)))) := by
  iintro ⟨H3, H4, H5, H6, H7, H8, ⟨%f9, H9⟩, ⟨%f10, %f11, %f12, %f13, H10, H11, H12, H13, %hs⟩⟩
  sl_unfold [k0_part12]
  sl_exec_parts
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _, _, _, _
  isplitl [H10]; · iexact H10
  isplitl [H11]; · iexact H11
  isplitl [H12]; · iexact H12
  isplitl [H13]; · iexact H13
  ipureintro
  exact hL11

/-- The scores of two more key tiles. -/
theorem part14 (v3 v7 : FVec Ideal S384x128 .bf16) (w0 : BitVec 32) :
    St c arg3 arg4 arg5 arg6 arg7 arg8 arg9 arg10 arg11 arg12 arg13 f3 f4 f5 f6 f7 f8 (scoredAt (i 2).val (rd arg3 f3) (rd arg4 f4) (rd arg6 f6) v3 v7 (4 * (((i 2).val - 1) / 4)))
      ⊢ wp frame (wpE (defs₀ (F := Ideal)) 𝒱₀ (c : Thread nD τ) none) Set.univ
        (k0_part14 (F := Ideal) i arg3 harg3 arg4 harg4 arg5 harg5 arg6 harg6 arg7 harg7 arg8 harg8 arg9 harg9 arg10 harg10 arg11 harg11 arg12 harg12 arg13 harg13 v3 v7 w0)
        (fun _ => St c arg3 arg4 arg5 arg6 arg7 arg8 arg9 arg10 arg11 arg12 arg13 f3 f4 f5 f6 f7 f8 (scoredAt (i 2).val (rd arg3 f3) (rd arg4 f4) (rd arg6 f6) v3 v7 (2 * (((i 2).val - 1) / 2)))) := by
  iintro ⟨H3, H4, H5, H6, H7, H8, ⟨%f9, H9⟩, ⟨%f10, %f11, %f12, %f13, H10, H11, H12, H13, %hs⟩⟩
  sl_unfold [k0_part14]
  by_cases hC : k0_cond1 i = 1#1
  · sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _, _, _, _
    isplitl [H10]; · iexact H10
    isplitl [H11]; · iexact H11
    isplitl [H12]; · iexact H12
    isplitl [H13]; · iexact H13
    ipureintro
    have h := (cond1 i).mp hC
    have hq := (i 2).isLt
    have e : 2 * (((i 2).val - 1) / 2) = 4 * (((i 2).val - 1) / 4) + 2 := by omega
    rw [e]
    exact visit_far (i 2).val _ _ (n := 2) (N := 768) rfl (by omega) hs
      ((off9_eq i).trans (by rw [show 384 * (4 * (((i 2).val - 1) / 4)) = 1536 * (((i 2).val - 1) / 4) by omega])) ((off10_eq i).trans (by rw [show 384 * (4 * (((i 2).val - 1) / 4)) = 1536 * (((i 2).val - 1) / 4) by omega])) ((off11_eq i).trans (by rw [show 384 * (4 * (((i 2).val - 1) / 4)) = 1536 * (((i 2).val - 1) / 4) by omega])) ((off12_eq i).trans (by rw [show 384 * (4 * (((i 2).val - 1) / 4)) = 1536 * (((i 2).val - 1) / 4) by omega]))
      (w0 := k0_pay10 v3 _) (w1 := k0_pay13 v7 _) (u0 := k0_pay11 v3 _ _) (u1 := k0_pay62 (k0_pay12 v7 _) _ (k0_pay14 v7 _))
      (fun ha hj => (dot6' _ _ ha hj).trans (dot6 _ _ ha hj)) (fun ha hj => (dot6' _ _ ha hj).trans (dot6 _ _ ha hj))
      (fun ha hl => (max6 _ _ _ ha hl).trans (congrArg _ (Finset.sup_congr rfl fun j hj => (dot6' _ _ ha (by have := Finset.mem_range.mp hj; omega)).symm)))
      (fun ha hl => (max6' _ _ _ ha hl).trans (congrArg _ (Finset.sup_congr rfl fun j hj => (dot6' _ _ ha (by have := Finset.mem_range.mp hj; omega)).symm)))
  · sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _, _, _, _
    isplitl [H10]; · iexact H10
    isplitl [H11]; · iexact H11
    isplitl [H12]; · iexact H12
    isplitl [H13]; · iexact H13
    ipureintro
    have h := mt (cond1 i).mpr hC
    exact (show 4 * (((i 2).val - 1) / 4) = 2 * (((i 2).val - 1) / 2) by omega) ▸ hs

/-- The scores of one more key tile. -/
theorem part16 (v3 v7 : FVec Ideal S384x128 .bf16) (w0 : BitVec 32) :
    St c arg3 arg4 arg5 arg6 arg7 arg8 arg9 arg10 arg11 arg12 arg13 f3 f4 f5 f6 f7 f8 (scoredAt (i 2).val (rd arg3 f3) (rd arg4 f4) (rd arg6 f6) v3 v7 (2 * (((i 2).val - 1) / 2)))
      ⊢ wp frame (wpE (defs₀ (F := Ideal)) 𝒱₀ (c : Thread nD τ) none) Set.univ
        (k0_part16 (F := Ideal) i arg3 harg3 arg4 harg4 arg5 harg5 arg6 harg6 arg7 harg7 arg8 harg8 arg9 harg9 arg10 harg10 arg11 harg11 arg12 harg12 arg13 harg13 v3 v7 w0)
        (fun _ => St c arg3 arg4 arg5 arg6 arg7 arg8 arg9 arg10 arg11 arg12 arg13 f3 f4 f5 f6 f7 f8 (scoredAt (i 2).val (rd arg3 f3) (rd arg4 f4) (rd arg6 f6) v3 v7 (((i 2).val - 1)))) := by
  iintro ⟨H3, H4, H5, H6, H7, H8, ⟨%f9, H9⟩, ⟨%f10, %f11, %f12, %f13, H10, H11, H12, H13, %hs⟩⟩
  sl_unfold [k0_part16]
  by_cases hC : k0_cond2 i = 1#1
  · sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _, _, _, _
    isplitl [H10]; · iexact H10
    isplitl [H11]; · iexact H11
    isplitl [H12]; · iexact H12
    isplitl [H13]; · iexact H13
    ipureintro
    have h := (cond2 i).mp hC
    have hq := (i 2).isLt
    have e : ((i 2).val - 1) = 2 * (((i 2).val - 1) / 2) + 1 := by omega
    rw [e]
    exact visit_far (i 2).val _ _ (n := 1) (N := 384) rfl (by omega) hs
      ((off13_eq i).trans (by rw [show 384 * (2 * (((i 2).val - 1) / 2)) = 768 * (((i 2).val - 1) / 2) by omega])) ((off14_eq i).trans (by rw [show 384 * (2 * (((i 2).val - 1) / 2)) = 768 * (((i 2).val - 1) / 2) by omega])) ((off15_eq i).trans (by rw [show 384 * (2 * (((i 2).val - 1) / 2)) = 768 * (((i 2).val - 1) / 2) by omega])) ((off16_eq i).trans (by rw [show 384 * (2 * (((i 2).val - 1) / 2)) = 768 * (((i 2).val - 1) / 2) by omega]))
      (w0 := k0_pay64 v3 _) (w1 := k0_pay67 v7 _) (u0 := k0_pay65 v3 _ _) (u1 := k0_pay68 v7 _ _)
      (fun ha hj => (dot3' _ _ ha hj).trans (dot3 _ _ ha hj)) (fun ha hj => (dot3' _ _ ha hj).trans (dot3 _ _ ha hj))
      (fun ha hl => (max3 _ _ _ ha hl).trans (congrArg _ (Finset.sup_congr rfl fun j hj => (dot3' _ _ ha (by have := Finset.mem_range.mp hj; omega)).symm)))
      (fun ha hl => (max3 _ _ _ ha hl).trans (congrArg _ (Finset.sup_congr rfl fun j hj => (dot3' _ _ ha (by have := Finset.mem_range.mp hj; omega)).symm)))
  · sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _, _, _, _
    isplitl [H10]; · iexact H10
    isplitl [H11]; · iexact H11
    isplitl [H12]; · iexact H12
    isplitl [H13]; · iexact H13
    ipureintro
    have h := mt (cond2 i).mpr hC
    exact (show 2 * (((i 2).val - 1) / 2) = ((i 2).val - 1) by omega) ▸ hs

/-- The scores of the key tile before the diagonal. -/
theorem part18 (v3 v7 : FVec Ideal S384x128 .bf16) (w0 : BitVec 32) :
    St c arg3 arg4 arg5 arg6 arg7 arg8 arg9 arg10 arg11 arg12 arg13 f3 f4 f5 f6 f7 f8 (scoredAt (i 2).val (rd arg3 f3) (rd arg4 f4) (rd arg6 f6) v3 v7 (((i 2).val - 1)))
      ⊢ wp frame (wpE (defs₀ (F := Ideal)) 𝒱₀ (c : Thread nD τ) none) Set.univ
        (k0_part18 (F := Ideal) i arg3 harg3 arg4 harg4 arg5 harg5 arg6 harg6 arg7 harg7 arg8 harg8 arg9 harg9 arg10 harg10 arg11 harg11 arg12 harg12 arg13 harg13 w0 v3 v7)
        (fun _ => St c arg3 arg4 arg5 arg6 arg7 arg8 arg9 arg10 arg11 arg12 arg13 f3 f4 f5 f6 f7 f8 (scoredAt (i 2).val (rd arg3 f3) (rd arg4 f4) (rd arg6 f6) v3 v7 ((i 2).val))) := by
  iintro ⟨H3, H4, H5, H6, H7, H8, ⟨%f9, H9⟩, ⟨%f10, %f11, %f12, %f13, H10, H11, H12, H13, %hs⟩⟩
  sl_unfold [k0_part18]
  by_cases hC : k0_cond3 i = 1#1
  · letI : ClosedOff (k0_off18 i) := ⟨![0, 384 * ((i 2).val - 1)], off18_eq i hC⟩
    letI : ClosedOff (k0_off20 i) := ⟨![384, 384 * ((i 2).val - 1)], off20_eq i hC⟩
    sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _, _, _, _
    isplitl [H10]; · iexact H10
    isplitl [H11]; · iexact H11
    isplitl [H12]; · iexact H12
    isplitl [H13]; · iexact H13
    ipureintro
    have h := (cond3 i).mp hC
    have hq : (i 2).val = (i 2).val - 1 + 1 := by omega
    refine cast (congrArg (fun T => scoredAt (i 2).val _ _ _ v3 v7 T _ _ _ _) hq.symm) (visit_near (i 2).val _ (T := (i 2).val - 1) (o := 384) ?_ hs
      (off17_eq i hC) (off18_eq i hC) (off19_eq i hC) (off20_eq i hC)
      (w0 := k0_pay16 v3 _ _) (w1 := k0_pay19 v7 _ _) (u0 := k0_pay17 v3 _ _ _) (u1 := k0_pay69 (k0_pay18 v7 _ _) _ (k0_pay20 v7 _ _))
      (fun ha hj => (dotB' _ _ _ ha hj).trans (dotB _ _ _ ha hj)) (fun ha hj => (dotB' _ _ _ ha hj).trans (dotB _ _ _ ha hj))
      (fun ha hl => (maxB _ _ _ _ ha hl).trans (congrArg _ (Finset.sup_congr rfl fun j hj => (dotB' _ _ _ ha (by have := Finset.mem_range.mp hj; omega)).symm)))
      (fun ha hl => (maxB' _ _ _ _ ha hl).trans (congrArg _ (Finset.sup_congr rfl fun j hj => (dotB' _ _ _ ha (by have := Finset.mem_range.mp hj; omega)).symm))))
    intro m a j hm ha hj
    exact E_near (i 2).val _ _ _ hm ha h hj
  · sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _, _, _, _
    isplitl [H10]; · iexact H10
    isplitl [H11]; · iexact H11
    isplitl [H12]; · iexact H12
    isplitl [H13]; · iexact H13
    ipureintro
    have h := mt (cond3 i).mpr hC
    exact cast (congrArg (fun T => scoredAt (i 2).val (rd arg3 f3) (rd arg4 f4) (rd arg6 f6) v3 v7 T (rd arg10 f10) (rd arg11 f11) (rd arg12 f12) (rd arg13 f13)) (show (i 2).val - 1 = (i 2).val by omega)) hs

/-- The scores of the diagonal key tile. -/
theorem part19 (v3 v7 : FVec Ideal S384x128 .bf16) (w0 : BitVec 32) :
    St c arg3 arg4 arg5 arg6 arg7 arg8 arg9 arg10 arg11 arg12 arg13 f3 f4 f5 f6 f7 f8 (scoredAt (i 2).val (rd arg3 f3) (rd arg4 f4) (rd arg6 f6) v3 v7 ((i 2).val))
      ⊢ wp frame (wpE (defs₀ (F := Ideal)) 𝒱₀ (c : Thread nD τ) none) Set.univ
        (k0_part19 (F := Ideal) i arg3 harg3 arg4 harg4 arg5 harg5 arg6 harg6 arg7 harg7 arg8 harg8 arg9 harg9 arg10 harg10 arg11 harg11 arg12 harg12 arg13 harg13 w0 v3 v7)
        (fun a => St c arg3 arg4 arg5 arg6 arg7 arg8 arg9 arg10 arg11 arg12 arg13 f3 f4 f5 f6 f7 f8 (halfAt (i 2).val (rd arg3 f3) (rd arg4 f4) (rd arg6 f6) a.1 a.2.1 a.2.2)) := by
  iintro ⟨H3, H4, H5, H6, H7, H8, ⟨%f9, H9⟩, ⟨%f10, %f11, %f12, %f13, H10, H11, H12, H13, %hs⟩⟩
  sl_unfold [k0_part19]
  sl_exec_parts
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _, _, _, _
  isplitl [H10]; · iexact H10
  isplitl [H11]; · iexact H11
  isplitl [H12]; · iexact H12
  isplitl [H13]; · iexact H13
  ipureintro
  refine half (i 2).val _ _ _ (x := k0_pay73 v7 _ _) (z := k0_pay75 v7 _ _) (visit_near (i 2).val _ (T := (i 2).val) (o := 0) ?_ hs
    (off21_eq i) (off22_eq i) (off23_eq i) (off24_eq i)
    (w0 := k0_pay71 v3 _ _) (w1 := k0_pay74 v7 _ _) (u0 := k0_pay72 v3 _ _ _) (u1 := k0_pay76 (k0_pay73 v7 _ _) _ (k0_pay75 v7 _ _))
    (fun ha hj => (dotB' _ _ _ ha hj).trans (dotB _ _ _ ha hj)) (fun ha hj => (dotB' _ _ _ ha hj).trans (dotB _ _ _ ha hj))
    (fun ha hl => (maxB _ _ _ _ ha hl).trans (congrArg _ (Finset.sup_congr rfl fun j hj => (dotB' _ _ _ ha (by have := Finset.mem_range.mp hj; omega)).symm)))
    (fun ha hl => (maxB'' _ _ _ _ ha hl).trans (congrArg _ (Finset.sup_congr rfl fun j hj => (dotB' _ _ _ ha (by have := Finset.mem_range.mp hj; omega)).symm))))
  intro m a j hm ha hj
  rw [Nat.zero_add]
  exact E_diag (i 2).val _ _ _ hm ha hj

/-- The row maxima; the sums are reset. -/
theorem part20 (w0 : BitVec 32) (a : FVec Ideal S384x384 .f32) (b : Vec Ideal S384x128 .f32) (d : FVec Ideal S384x128 .f32) :
    St c arg3 arg4 arg5 arg6 arg7 arg8 arg9 arg10 arg11 arg12 arg13 f3 f4 f5 f6 f7 f8 (halfAt (i 2).val (rd arg3 f3) (rd arg4 f4) (rd arg6 f6) a b d)
      ⊢ wp frame (wpE (defs₀ (F := Ideal)) 𝒱₀ (c : Thread nD τ) none) Set.univ
        (k0_part20 (F := Ideal) i arg3 harg3 arg4 harg4 arg5 harg5 arg6 harg6 arg7 harg7 arg8 harg8 arg9 harg9 arg10 harg10 arg11 harg11 arg12 harg12 arg13 harg13 w0 a b d)
        (fun _ => St c arg3 arg4 arg5 arg6 arg7 arg8 arg9 arg10 arg11 arg12 arg13 f3 f4 f5 f6 f7 f8 (summedAt (i 2).val (rd arg3 f3) (rd arg4 f4) (rd arg5 f5) (rd arg6 f6) (0))) := by
  iintro ⟨H3, H4, H5, H6, H7, H8, ⟨%f9, H9⟩, ⟨%f10, %f11, %f12, %f13, H10, H11, H12, H13, %hs⟩⟩
  sl_unfold [k0_part20]
  sl_exec_parts
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _, _, _, _
  isplitl [H10]; · iexact H10
  isplitl [H11]; · iexact H11
  isplitl [H12]; · iexact H12
  isplitl [H13]; · iexact H13
  ipureintro
  exact start (i 2).val _ _ _ _ hs

/-- The weighted sums over four key tiles at a time. -/
theorem part22 (w0 w1 : BitVec 32) :
    St c arg3 arg4 arg5 arg6 arg7 arg8 arg9 arg10 arg11 arg12 arg13 f3 f4 f5 f6 f7 f8 (summedAt (i 2).val (rd arg3 f3) (rd arg4 f4) (rd arg5 f5) (rd arg6 f6) (0))
      ⊢ wp frame (wpE (defs₀ (F := Ideal)) 𝒱₀ (c : Thread nD τ) none) Set.univ
        (k0_part22 (F := Ideal) i arg3 harg3 arg4 harg4 arg5 harg5 arg6 harg6 arg7 harg7 arg8 harg8 arg9 harg9 arg10 harg10 arg11 harg11 arg12 harg12 arg13 harg13 w0 w1)
        (fun _ => St c arg3 arg4 arg5 arg6 arg7 arg8 arg9 arg10 arg11 arg12 arg13 f3 f4 f5 f6 f7 f8 (summedAt (i 2).val (rd arg3 f3) (rd arg4 f4) (rd arg5 f5) (rd arg6 f6) (4 * (((i 2).val + 1) / 4)))) := by
  iintro ⟨H3, H4, H5, H6, H7, H8, ⟨%f9, H9⟩, ⟨%f10, %f11, %f12, %f13, H10, H11, H12, H13, %hs⟩⟩
  sl_unfold [k0_part22]
  sl_exec_parts
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _, _, _, _
  isplitl [H10]; · iexact H10
  isplitl [H11]; · iexact H11
  isplitl [H12]; · iexact H12
  isplitl [H13]; · iexact H13
  ipureintro
  have e : (k0_t3_loop i).trips = ((i 2).val + 1) / 4 := trips3 i
  exact e ▸ hL11

/-- The rest of that loop, which never runs. -/
theorem part24 (w0 w1 : BitVec 32) :
    St c arg3 arg4 arg5 arg6 arg7 arg8 arg9 arg10 arg11 arg12 arg13 f3 f4 f5 f6 f7 f8 (summedAt (i 2).val (rd arg3 f3) (rd arg4 f4) (rd arg5 f5) (rd arg6 f6) (4 * (((i 2).val + 1) / 4)))
      ⊢ wp frame (wpE (defs₀ (F := Ideal)) 𝒱₀ (c : Thread nD τ) none) Set.univ
        (k0_part24 (F := Ideal) i arg3 harg3 arg4 harg4 arg5 harg5 arg6 harg6 arg7 harg7 arg8 harg8 arg9 harg9 arg10 harg10 arg11 harg11 arg12 harg12 arg13 harg13 w0 w1)
        (fun _ => St c arg3 arg4 arg5 arg6 arg7 arg8 arg9 arg10 arg11 arg12 arg13 f3 f4 f5 f6 f7 f8 (summedAt (i 2).val (rd arg3 f3) (rd arg4 f4) (rd arg5 f5) (rd arg6 f6) (4 * (((i 2).val + 1) / 4)))) := by
  iintro ⟨H3, H4, H5, H6, H7, H8, ⟨%f9, H9⟩, ⟨%f10, %f11, %f12, %f13, H10, H11, H12, H13, %hs⟩⟩
  sl_unfold [k0_part24]
  sl_exec_parts
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _, _, _, _
  isplitl [H10]; · iexact H10
  isplitl [H11]; · iexact H11
  isplitl [H12]; · iexact H12
  isplitl [H13]; · iexact H13
  ipureintro
  exact hL11

/-- Two more key tiles' weighted sums. -/
theorem part26 (w0 : BitVec 32) :
    St c arg3 arg4 arg5 arg6 arg7 arg8 arg9 arg10 arg11 arg12 arg13 f3 f4 f5 f6 f7 f8 (summedAt (i 2).val (rd arg3 f3) (rd arg4 f4) (rd arg5 f5) (rd arg6 f6) (4 * (((i 2).val + 1) / 4)))
      ⊢ wp frame (wpE (defs₀ (F := Ideal)) 𝒱₀ (c : Thread nD τ) none) Set.univ
        (k0_part26 (F := Ideal) i arg3 harg3 arg4 harg4 arg5 harg5 arg6 harg6 arg7 harg7 arg8 harg8 arg9 harg9 arg10 harg10 arg11 harg11 arg12 harg12 arg13 harg13 w0)
        (fun _ => St c arg3 arg4 arg5 arg6 arg7 arg8 arg9 arg10 arg11 arg12 arg13 f3 f4 f5 f6 f7 f8 (summedAt (i 2).val (rd arg3 f3) (rd arg4 f4) (rd arg5 f5) (rd arg6 f6) (2 * (((i 2).val + 1) / 2)))) := by
  iintro ⟨H3, H4, H5, H6, H7, H8, ⟨%f9, H9⟩, ⟨%f10, %f11, %f12, %f13, H10, H11, H12, H13, %hs⟩⟩
  sl_unfold [k0_part26]
  by_cases hC : k0_cond4 i = 1#1
  · sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _, _, _, _
    isplitl [H10]; · iexact H10
    isplitl [H11]; · iexact H11
    isplitl [H12]; · iexact H12
    isplitl [H13]; · iexact H13
    ipureintro
    have h := (cond4 i).mp hC
    have e : 2 * (((i 2).val + 1) / 2) = 4 * (((i 2).val + 1) / 4) + 2 := by omega
    rw [e]
    have hT : 4 * (((i 2).val + 1) / 4) + 2 ≤ (i 2).val + 1 := by omega
    have o1 : k0_off29 i = ![0, 384 * (4 * (((i 2).val + 1) / 4))] := (off29_eq i).trans (by rw [show 384 * (4 * (((i 2).val + 1) / 4)) = 1536 * (((i 2).val + 1) / 4) by omega])
    have o2 : k0_off30 i = ![384 * (4 * (((i 2).val + 1) / 4)), 0] := (off30_eq i).trans (by rw [show 384 * (4 * (((i 2).val + 1) / 4)) = 1536 * (((i 2).val + 1) / 4) by omega])
    have e1 : part26.sl.v295 c i arg10 arg11 arg12 f10 f11 f12 hC = k0_pay53 (arg10.view.readAt (Elt Ideal) (Rect.unit (s := S768x4224) (k0_off29 i) S768x768.size (k0_off29_inb i hC)).toLoadRect f10) (arg11.view.readAt (Elt Ideal) (Rect.unit (s := S768x128) ![0, 0] S768x128.size inb_S768x128_S768x128_0_0).toLoadRect f11) (arg12.view.readAt (Elt Ideal) (Rect.unit (s := S768x128) ![0, 0] S768x128.size inb_S768x128_S768x128_0_0).toLoadRect f12) := rfl
    have e2 : part26.sl.v306 c i arg5 arg10 arg11 arg13 f5 f10 f11 f13 hC = k0_pay54 (arg10.view.readAt (Elt Ideal) (Rect.unit (s := S768x4224) (k0_off29 i) S768x768.size (k0_off29_inb i hC)).toLoadRect f10) (arg11.view.readAt (Elt Ideal) (Rect.unit (s := S768x128) ![0, 0] S768x128.size inb_S768x128_S768x128_0_0).toLoadRect f11) (arg13.view.readAt (Elt Ideal) (Rect.unit (s := S768x256) ![0, 0] S768x256.size inb_S768x256_S768x256_0_0).toLoadRect f13) (arg5.view.readAt (Elt Ideal) (Rect.unit (s := S4224x256) (k0_off30 i) S768x256.size (k0_off30_inb i hC)).toLoadRect f5) := rfl
    rw [e1, e2]
    have key := visit_sums (i 2).val _ _ _ (n := 2) (N := 768) (i1 := k0_off29_inb i hC) (i2 := k0_off30_inb i hC) (j0 := inb_S768x128_S768x128_0_0) (j1 := inb_S768x256_S768x256_0_0) rfl hT hs o1 o2
      (u0 := k0_pay53 (arg10.view.readAt (Elt Ideal) (Rect.unit (s := S768x4224) (k0_off29 i) S768x768.size (k0_off29_inb i hC)).toLoadRect f10) (arg11.view.readAt (Elt Ideal) (Rect.unit (s := S768x128) ![0, 0] S768x128.size inb_S768x128_S768x128_0_0).toLoadRect f11) (arg12.view.readAt (Elt Ideal) (Rect.unit (s := S768x128) ![0, 0] S768x128.size inb_S768x128_S768x128_0_0).toLoadRect f12)) (u1 := k0_pay54 (arg10.view.readAt (Elt Ideal) (Rect.unit (s := S768x4224) (k0_off29 i) S768x768.size (k0_off29_inb i hC)).toLoadRect f10) (arg11.view.readAt (Elt Ideal) (Rect.unit (s := S768x128) ![0, 0] S768x128.size inb_S768x128_S768x128_0_0).toLoadRect f11) (arg13.view.readAt (Elt Ideal) (Rect.unit (s := S768x256) ![0, 0] S768x256.size inb_S768x256_S768x256_0_0).toLoadRect f13) (arg5.view.readAt (Elt Ideal) (Rect.unit (s := S4224x256) (k0_off30 i) S768x256.size (k0_off30_inb i hC)).toLoadRect f5))
      (fun hr hl => sums6 _ _ _ hr hl) (fun hr hd => acc6 _ _ _ _ hr hd)
    exact key
  · sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _, _, _, _
    isplitl [H10]; · iexact H10
    isplitl [H11]; · iexact H11
    isplitl [H12]; · iexact H12
    isplitl [H13]; · iexact H13
    ipureintro
    have h := mt (cond4 i).mpr hC
    exact (show 4 * (((i 2).val + 1) / 4) = 2 * (((i 2).val + 1) / 2) by omega) ▸ hs

/-- One more key tile's weighted sums. -/
theorem part28 (w0 : BitVec 32) :
    St c arg3 arg4 arg5 arg6 arg7 arg8 arg9 arg10 arg11 arg12 arg13 f3 f4 f5 f6 f7 f8 (summedAt (i 2).val (rd arg3 f3) (rd arg4 f4) (rd arg5 f5) (rd arg6 f6) (2 * (((i 2).val + 1) / 2)))
      ⊢ wp frame (wpE (defs₀ (F := Ideal)) 𝒱₀ (c : Thread nD τ) none) Set.univ
        (k0_part28 (F := Ideal) i arg3 harg3 arg4 harg4 arg5 harg5 arg6 harg6 arg7 harg7 arg8 harg8 arg9 harg9 arg10 harg10 arg11 harg11 arg12 harg12 arg13 harg13 w0)
        (fun _ => St c arg3 arg4 arg5 arg6 arg7 arg8 arg9 arg10 arg11 arg12 arg13 f3 f4 f5 f6 f7 f8 (summedAt (i 2).val (rd arg3 f3) (rd arg4 f4) (rd arg5 f5) (rd arg6 f6) ((i 2).val + 1))) := by
  iintro ⟨H3, H4, H5, H6, H7, H8, ⟨%f9, H9⟩, ⟨%f10, %f11, %f12, %f13, H10, H11, H12, H13, %hs⟩⟩
  sl_unfold [k0_part28]
  by_cases hC : k0_cond5 i = 1#1
  · sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _, _, _, _
    isplitl [H10]; · iexact H10
    isplitl [H11]; · iexact H11
    isplitl [H12]; · iexact H12
    isplitl [H13]; · iexact H13
    ipureintro
    have h := (cond5 i).mp hC
    have e : (i 2).val + 1 = 2 * (((i 2).val + 1) / 2) + 1 := by omega
    rw [e]
    have hT : 2 * (((i 2).val + 1) / 2) + 1 ≤ (i 2).val + 1 := by omega
    have o1 : k0_off31 i = ![0, 384 * (2 * (((i 2).val + 1) / 2))] := (off31_eq i).trans (by rw [show 384 * (2 * (((i 2).val + 1) / 2)) = 768 * (((i 2).val + 1) / 2) by omega])
    have o2 : k0_off32 i = ![384 * (2 * (((i 2).val + 1) / 2)), 0] := (off32_eq i).trans (by rw [show 384 * (2 * (((i 2).val + 1) / 2)) = 768 * (((i 2).val + 1) / 2) by omega])
    have e1 : part28.sl.v283 c i arg10 arg11 arg12 f10 f11 f12 hC = k0_pay87 (arg10.view.readAt (Elt Ideal) (Rect.unit (s := S768x4224) (k0_off31 i) S768x384.size (k0_off31_inb i hC)).toLoadRect f10) (arg11.view.readAt (Elt Ideal) (Rect.unit (s := S768x128) ![0, 0] S768x128.size inb_S768x128_S768x128_0_0).toLoadRect f11) (arg12.view.readAt (Elt Ideal) (Rect.unit (s := S768x128) ![0, 0] S768x128.size inb_S768x128_S768x128_0_0).toLoadRect f12) := rfl
    have e2 : part28.sl.v294 c i arg5 arg10 arg11 arg13 f5 f10 f11 f13 hC = k0_pay88 (arg10.view.readAt (Elt Ideal) (Rect.unit (s := S768x4224) (k0_off31 i) S768x384.size (k0_off31_inb i hC)).toLoadRect f10) (arg11.view.readAt (Elt Ideal) (Rect.unit (s := S768x128) ![0, 0] S768x128.size inb_S768x128_S768x128_0_0).toLoadRect f11) (arg13.view.readAt (Elt Ideal) (Rect.unit (s := S768x256) ![0, 0] S768x256.size inb_S768x256_S768x256_0_0).toLoadRect f13) (arg5.view.readAt (Elt Ideal) (Rect.unit (s := S4224x256) (k0_off32 i) S384x256.size (k0_off32_inb i hC)).toLoadRect f5) := rfl
    rw [e1, e2]
    have key := visit_sums (i 2).val _ _ _ (n := 1) (N := 384) (i1 := k0_off31_inb i hC) (i2 := k0_off32_inb i hC) (j0 := inb_S768x128_S768x128_0_0) (j1 := inb_S768x256_S768x256_0_0) rfl hT hs o1 o2
      (u0 := k0_pay87 (arg10.view.readAt (Elt Ideal) (Rect.unit (s := S768x4224) (k0_off31 i) S768x384.size (k0_off31_inb i hC)).toLoadRect f10) (arg11.view.readAt (Elt Ideal) (Rect.unit (s := S768x128) ![0, 0] S768x128.size inb_S768x128_S768x128_0_0).toLoadRect f11) (arg12.view.readAt (Elt Ideal) (Rect.unit (s := S768x128) ![0, 0] S768x128.size inb_S768x128_S768x128_0_0).toLoadRect f12)) (u1 := k0_pay88 (arg10.view.readAt (Elt Ideal) (Rect.unit (s := S768x4224) (k0_off31 i) S768x384.size (k0_off31_inb i hC)).toLoadRect f10) (arg11.view.readAt (Elt Ideal) (Rect.unit (s := S768x128) ![0, 0] S768x128.size inb_S768x128_S768x128_0_0).toLoadRect f11) (arg13.view.readAt (Elt Ideal) (Rect.unit (s := S768x256) ![0, 0] S768x256.size inb_S768x256_S768x256_0_0).toLoadRect f13) (arg5.view.readAt (Elt Ideal) (Rect.unit (s := S4224x256) (k0_off32 i) S384x256.size (k0_off32_inb i hC)).toLoadRect f5))
      (fun hr hl => sums3 _ _ _ hr hl) (fun hr hd => acc3 _ _ _ _ hr hd)
    exact key
  · sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _, _, _, _
    isplitl [H10]; · iexact H10
    isplitl [H11]; · iexact H11
    isplitl [H12]; · iexact H12
    isplitl [H13]; · iexact H13
    ipureintro
    have h := mt (cond5 i).mpr hC
    exact (show 2 * (((i 2).val + 1) / 2) = (i 2).val + 1 by omega) ▸ hs

/-- The heads' combination. -/
theorem part29 :
    St c arg3 arg4 arg5 arg6 arg7 arg8 arg9 arg10 arg11 arg12 arg13 f3 f4 f5 f6 f7 f8 (summedAt (i 2).val (rd arg3 f3) (rd arg4 f4) (rd arg5 f5) (rd arg6 f6) ((i 2).val + 1))
      ⊢ wp frame (wpE (defs₀ (F := Ideal)) 𝒱₀ (c : Thread nD τ) none) Set.univ
        (k0_part29 (F := Ideal) i arg3 harg3 arg4 harg4 arg5 harg5 arg6 harg6 arg7 harg7 arg8 harg8 arg9 harg9 arg10 harg10 arg11 harg11 arg12 harg12 arg13 harg13)
        (fun a => St c arg3 arg4 arg5 arg6 arg7 arg8 arg9 arg10 arg11 arg12 arg13 f3 f4 f5 f6 f7 f8 (fun _ _ _ _ => a = outBlk (i 2).val (rd arg3 f3) (rd arg4 f4) (rd arg5 f5) (rd arg6 f6) (rd arg7 f7) (rd arg8 f8))) := by
  iintro ⟨H3, H4, H5, H6, H7, H8, ⟨%f9, H9⟩, ⟨%f10, %f11, %f12, %f13, H10, H11, H12, H13, %hs⟩⟩
  sl_unfold [k0_part29]
  sl_exec_parts
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _, _, _, _
  isplitl [H10]; · iexact H10
  isplitl [H11]; · iexact H11
  isplitl [H12]; · iexact H12
  isplitl [H13]; · iexact H13
  ipureintro
  exact combine (i 2).val _ _ _ _ hs

/-- THE BODY: it leaves the point's block in the output and the inputs as they were. -/
theorem body :
    St c arg3 arg4 arg5 arg6 arg7 arg8 arg9 arg10 arg11 arg12 arg13 f3 f4 f5 f6 f7 f8 (fun _ _ _ _ => True)
      ⊢ wp frame (wpE (defs₀ (F := Ideal)) 𝒱₀ (c : Thread nD τ) none) Set.univ
        (cc0_diff_attn_prompt (F := Ideal) i arg3 harg3 arg4 harg4 arg5 harg5 arg6 harg6 arg7 harg7 arg8 harg8 arg9 harg9 arg10 harg10 arg11 harg11 arg12 harg12 arg13 harg13)
        (fun _ => iprop(pt c arg3 f3 ∗ pt c arg4 f4 ∗ pt c arg5 f5 ∗ pt c arg6 f6 ∗ pt c arg7 f7 ∗ pt c arg8 f8
          ∗ (∃ f9, ⌜rd arg9 f9 = outBlk (i 2).val (rd arg3 f3) (rd arg4 f4) (rd arg5 f5) (rd arg6 f6) (rd arg7 f7) (rd arg8 f8)⌝ ∗ pt c arg9 f9) ∗ ex c arg10 ∗ ex c arg11 ∗ ex c arg12 ∗ ex c arg13)) := by
  rw [cc0_diff_attn_prompt_eq_skeleton]
  unfold cc0_diff_attn_prompt_skel
  refine seq (part8 c i arg3 harg3 arg4 harg4 arg5 harg5 arg6 harg6 arg7 harg7 arg8 harg8 arg9 harg9 arg10 harg10 arg11 harg11 arg12 harg12 arg13 harg13 f3 f4 f5 f6 f7 f8) fun ⟨_, v3, v7, _, _, _⟩ => ?_
  refine seqWords _ rfl ?_
  refine seq (part10 c i arg3 harg3 arg4 harg4 arg5 harg5 arg6 harg6 arg7 harg7 arg8 harg8 arg9 harg9 arg10 harg10 arg11 harg11 arg12 harg12 arg13 harg13 f3 f4 f5 f6 f7 f8 v3 v7 _ _) fun _ => ?_
  refine seqWords _ rfl ?_
  refine seq (part12 c i arg3 harg3 arg4 harg4 arg5 harg5 arg6 harg6 arg7 harg7 arg8 harg8 arg9 harg9 arg10 harg10 arg11 harg11 arg12 harg12 arg13 harg13 f3 f4 f5 f6 f7 f8 v3 v7 _ _) fun _ => ?_
  refine seqWords _ rfl ?_
  refine seq (part14 c i arg3 harg3 arg4 harg4 arg5 harg5 arg6 harg6 arg7 harg7 arg8 harg8 arg9 harg9 arg10 harg10 arg11 harg11 arg12 harg12 arg13 harg13 f3 f4 f5 f6 f7 f8 v3 v7 _) fun _ => ?_
  refine seqWords _ rfl ?_
  refine seq (part16 c i arg3 harg3 arg4 harg4 arg5 harg5 arg6 harg6 arg7 harg7 arg8 harg8 arg9 harg9 arg10 harg10 arg11 harg11 arg12 harg12 arg13 harg13 f3 f4 f5 f6 f7 f8 v3 v7 _) fun _ => ?_
  refine seqWords _ rfl ?_
  refine seq (part18 c i arg3 harg3 arg4 harg4 arg5 harg5 arg6 harg6 arg7 harg7 arg8 harg8 arg9 harg9 arg10 harg10 arg11 harg11 arg12 harg12 arg13 harg13 f3 f4 f5 f6 f7 f8 v3 v7 _) fun _ => ?_
  refine seq (part19 c i arg3 harg3 arg4 harg4 arg5 harg5 arg6 harg6 arg7 harg7 arg8 harg8 arg9 harg9 arg10 harg10 arg11 harg11 arg12 harg12 arg13 harg13 f3 f4 f5 f6 f7 f8 v3 v7 _) fun ⟨_, _, _⟩ => ?_
  refine seq (part20 c i arg3 harg3 arg4 harg4 arg5 harg5 arg6 harg6 arg7 harg7 arg8 harg8 arg9 harg9 arg10 harg10 arg11 harg11 arg12 harg12 arg13 harg13 f3 f4 f5 f6 f7 f8 _ _ _ _) fun ⟨_, _, _, _, _⟩ => ?_
  refine seqWords _ rfl ?_
  refine seq (part22 c i arg3 harg3 arg4 harg4 arg5 harg5 arg6 harg6 arg7 harg7 arg8 harg8 arg9 harg9 arg10 harg10 arg11 harg11 arg12 harg12 arg13 harg13 f3 f4 f5 f6 f7 f8 _ _) fun _ => ?_
  refine seqWords _ rfl ?_
  refine seq (part24 c i arg3 harg3 arg4 harg4 arg5 harg5 arg6 harg6 arg7 harg7 arg8 harg8 arg9 harg9 arg10 harg10 arg11 harg11 arg12 harg12 arg13 harg13 f3 f4 f5 f6 f7 f8 _ _) fun _ => ?_
  refine seqWords _ rfl ?_
  refine seq (part26 c i arg3 harg3 arg4 harg4 arg5 harg5 arg6 harg6 arg7 harg7 arg8 harg8 arg9 harg9 arg10 harg10 arg11 harg11 arg12 harg12 arg13 harg13 f3 f4 f5 f6 f7 f8 _) fun _ => ?_
  refine seqWords _ rfl ?_
  refine seq (part28 c i arg3 harg3 arg4 harg4 arg5 harg5 arg6 harg6 arg7 harg7 arg8 harg8 arg9 harg9 arg10 harg10 arg11 harg11 arg12 harg12 arg13 harg13 f3 f4 f5 f6 f7 f8 _) fun _ => ?_
  refine seq (part29 c i arg3 harg3 arg4 harg4 arg5 harg5 arg6 harg6 arg7 harg7 arg8 harg8 arg9 harg9 arg10 harg10 arg11 harg11 arg12 harg12 arg13 harg13 f3 f4 f5 f6 f7 f8) fun v => ?_
  iintro ⟨H3, H4, H5, H6, H7, H8, ⟨%f9, H9⟩, ⟨%f10, %f11, %f12, %f13, H10, H11, H12, H13, %hs⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]
  · iexists _
    isplitr
    rotate_left
    · iexact H9
    ipureintro
    exact (read_whole _ _).trans hs
  isplitl [H10]; · iexists _; iexact H10
  isplitl [H11]; · iexists _; iexact H11
  isplitl [H12]; · iexists _; iexact H12
  iexists _; iexact H13

end Cert.KernelIdeal.Attn

end
-- ==== Proof.IdealFrame.lean ====
/-
  The run of the attention program on ideal numbers: it terminates, nothing faults, its arguments end unchanged, every
  semaphore counter ends at zero, and the result's block at each grid point is `outBlk` of that point's input blocks.
-/
module

public import proofs.«01_k».proof.Proof.IdealParts
public import proofs.«01_k».proof.Proof.Gen.KernelIdeal.Frame

@[expose] public section

set_option maxRecDepth 8192
set_option maxHeartbeats 400000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-- The result's block at a grid point. -/
def oblk (c : Dev nD) (t : Fin cfg0.N) : FVec Ideal S384x256 .bf16 :=
  outBlk (grid0.coords t 2).val (iblk m c 0 t) (iblk m c 1 t) (iblk m c 2 t) (iblk m c 3 t) (iblk m c 4 t) (iblk m c 5 t)

/-- The pipeline's proof data: the inputs' blocks stay, the output's block is `oblk`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oblk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = oblk m c t := by dsimp only [dats]

theorem pt_whole (c : Dev nD) (b : Ref sig .tc) (f : Buf (Elt Ideal) ((c : Thread nD τ).loc b)) :
    (pt c (Memref.whole b) f : sProp 𝕄) = iprop(((c : Thread nD τ).loc b) ↦{fullShare} f) := by
  unfold pt; simp only [Memref.view_whole, View.set_whole]

theorem ex_whole (c : Dev nD) (b : Ref sig .tc) :
    (ex c (Memref.whole b) : sProp 𝕄) = iprop(∃ f : Buf (Elt Ideal) ((c : Thread nD τ).loc b), ((c : Thread nD τ).loc b) ↦{fullShare} f) :=
  congrArg (fun P => iprop(∃ f, P f)) (funext fun f => pt_whole c b f)

theorem scratch_eq (c : Dev nD) :
    (Pipeline.scopedRest (Ix := Unit) (Name := ℕ) (U := UR sig nD τ) (Lvl := ℕ) (Val := Elt Ideal) spec0 c : sProp 𝕄)
      = iprop(ex c (Memref.whole cc0_scratch0) ∗ ex c (Memref.whole cc0_scratch1) ∗ ex c (Memref.whole cc0_scratch2) ∗ ex c (Memref.whole cc0_scratch3)) := by
  rw [scopedRest0_eq, ex_whole, ex_whole, ex_whole, ex_whole]

/-- What the body has before a point … -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))
/-- … and after it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  simp only [after_0, after_1, after_2, after_3, after_4, after_5, after_6]
  unfold Pipeline.ΦA owns
  rw [scratch_eq]
  iintro ⟨⟨⟨⟨%e0, HS0⟩, ⟨%e1, HS1⟩, ⟨%e2, HS2⟩, ⟨%e3, HS3⟩⟩, Hg⟩, HW, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩⟩
  have b0 := h0.trans (before0_0_of m (dats m 0 c) (A_eq m c 0) (after_0 m c) t d0)
  have b1 := h1.trans (before0_1_of m (dats m 0 c) (A_eq m c 1) (after_1 m c) t d1)
  have b2 := h2.trans (before0_2_of m (dats m 0 c) (A_eq m c 2) (after_2 m c) t d2)
  have b3 := h3.trans (before0_3_of m (dats m 0 c) (A_eq m c 3) (after_3 m c) t d3)
  have b4 := h4.trans (before0_4_of m (dats m 0 c) (A_eq m c 4) (after_4 m c) t d4)
  have b5 := h5.trans (before0_5_of m (dats m 0 c) (A_eq m c 5) (after_5 m c) t d5)
  iapply (wp_wand_r frame (wpE (defs₀ (F := Ideal)) Variants.none (c : Thread nD τ) none) Set.univ)
  isplitl [H0 H1 H2 H3 H4 H5 H6 HS0 HS1 HS2 HS3]
  · iapply (body c (grid0.coords t) (f3 := f0) (f4 := f1) (f5 := f2) (f6 := f3) (f7 := f4) (f8 := f5))
    isplitl [H0]; · iexact H0
    isplitl [H1]; · iexact H1
    isplitl [H2]; · iexact H2
    isplitl [H3]; · iexact H3
    isplitl [H4]; · iexact H4
    isplitl [H5]; · iexact H5
    isplitl [H6]; · iexists f6; iexact H6
    iexists e0, e1, e2, e3
    isplitl [HS0]; · iexact HS0
    isplitl [HS1]; · iexact HS1
    isplitl [HS2]; · iexact HS2
    isplitl [HS3]; · iexact HS3
    ipureintro; trivial
  iintro %_ ⟨H0, H1, H2, H3, H4, H5, ⟨%g6, %hg, H6⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [HW]; · iexact HW
  isplitl [H0]
  · iexists f0; isplitr; · ipureintro; exact b0
    iexact H0
  isplitl [H1]
  · iexists f1; isplitr; · ipureintro; exact b1
    iexact H1
  isplitl [H2]
  · iexists f2; isplitr; · ipureintro; exact b2
    iexact H2
  isplitl [H3]
  · iexists f3; isplitr; · ipureintro; exact b3
    iexact H3
  isplitl [H4]
  · iexists f4; isplitr; · ipureintro; exact b4
    iexact H4
  isplitl [H5]
  · iexists f5; isplitr; · ipureintro; exact b5
    iexact H5
  iexists g6; isplitr
  · ipureintro
    refine hg.trans ?_
    unfold oblk
    rw [← b0, ← b1, ← b2, ← b3, ← b4, ← b5]
  iexact H6

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME. -/
theorem frame_main : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 4).trans (((dats m 0 c).arrAt_in 4 rfl _).trans ((A_eq m c 4).trans (V_main_arg4 m c))),
      ((h.1 c).2 main_arg5 (Pipeline.mem_restRefs_of main_arg5 (by decide) (by decide))).trans (V_main_arg5 m c)⟩, h.2⟩) (run_main m ρ)

/-- THE RUN, with the result array as the pipeline leaves it. -/
theorem run_out : θ_run defs (onTc (τ := τ) (main (F := Ideal))) ⟨m, fun _ => 0, ρ⟩ (fun r => ∀ c : Dev nD,
      r.2.mem ((c.tc : Thread nD τ).loc main_v46) = (dats m 0 c).arrAt 6 cfg0.N) :=
  (θ_run defs _ _).mono (fun _ h c => (h.1 c).1 6) (run_main m ρ)

end Cert.KernelIdeal.Attn

end
-- ==== Proof.Gather.lean ====
/-
  The rows of a table at an array of row numbers, read at one element.
-/
module

public import Idealize.ShloMosaic.Lib.ValueIdxCore
public import Idealize.ShloMosaic.Lib.StableHlo

@[expose] public section

noncomputable section

namespace Cert.Rows

open Idealize.ShloMosaic Idealize.ShloMosaic.ValueIdx

variable {α : Type}

/-- Whole rows of a table `[N, C]` taken at row numbers `[A, B, 1]`: entry `(a, b, c)` of the result is column `c` of
    the row whose number stands at `(a, b)`, read signed and held within the table. -/
theorem gather_at {N C A B w : Nat} (hN : 0 < N) (d : GatherDims ⟨2, ![N, C]⟩ ⟨3, ![A, B, 1]⟩ ⟨3, ![A, B, C]⟩)
    (wf : GatherDims.WF ⟨2, ![N, C]⟩ ⟨3, ![A, B, 1]⟩ ⟨3, ![A, B, C]⟩ [2] [0] [] [0] [] 2 ![1, C])
    (hd : d = { offsetDims := [2], collapsedSliceDims := [0], operandBatchingDims := [], startIndicesBatchingDims := [],
                startIndexMap := [0], indexVectorDim := 2, sliceSizes := ![1, C], wf := wf })
    (x : (⟨2, ![N, C]⟩ : Shape).Idx → α) (idx : IVec ⟨3, ![A, B, 1]⟩ w) (a : Fin A) (b : Fin B) (c : Fin C) :
    Host.gather d x idx (ix3 a b c)
      = x (ix2 ⟨min (idx (ix3 a b ⟨0, Nat.one_pos⟩)).toInt.toNat (N - 1), by omega⟩ c) := by
  subst hd
  unfold Host.gather
  congr 1
  funext e
  refine Fin.ext ?_
  match e with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    congr 1
    congr 2
    congr 1
    funext f
    refine Fin.ext ?_
    match f with
    | ⟨0, _⟩ => rfl
    | ⟨1, _⟩ => rfl
    | ⟨2, _⟩ => rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (by simp)]
    simp only [Nat.zero_add, Nat.add_zero]
    rfl

end Cert.Rows

end
-- ==== Proof.Bucket.lean ====
/-
  The relative position buckets, as a function of the 32-bit word that holds query position less key position.
-/
module

public import Idealize.ShloMosaic.Lib.Pointwise
public import Idealize.ShloMosaic.Lib.StableHlo.Predicate

@[expose] public section

noncomputable section

namespace Cert.Bucket

open Idealize.ShloMosaic Idealize.ShloMosaic.StableHlo

/-- The distance: no less than zero. -/
def dist (w : BitVec 32) : BitVec 32 := IntOp.maxsi w 0#32

/-- The bucket of a distance that has none of its own: a logarithm of the distance, held at the last bucket. -/
def far (w : BitVec 32) : BitVec 32 :=
  IntOp.minsi (IntOp.addi 16#32 (Ideal.fptosi 32 (Ideal.div (Ideal.log (Ideal.div (((IntOp.maxsi (dist w) 1#32).toInt : ℝ) : EReal)
    (Ideal.ofBits .f32 0x41800000#32))) (Ideal.ofBits .f32 0x40051592#32) * Ideal.ofBits .f32 0x41800000#32))) 31#32

/-- The bucket of a distance. -/
def bucket (w : BitVec 32) : BitVec 32 := Scalar.select (IntOp.cmpi .slt (dist w) 16#32) (dist w) (far w)

/-- The row of the table that is read for it. -/
def row (w : BitVec 32) : ℕ :=
  min (Scalar.select (IntOp.cmpi .slt (bucket w) 0#32) (IntOp.addi (bucket w) 32#32) (bucket w)).toInt.toNat 31

theorem row_lt (w : BitVec 32) : row w < 32 := by unfold row; omega

theorem sixteen : Ideal.ofBits .f32 0x41800000#32 = ((16 : ℝ) : EReal) := by
  simp [Ideal.ofBits, Ideal.ieee]
  norm_num
  rw [← EReal.coe_mul]
  norm_num

theorem logScale : ∃ L : ℝ, Ideal.ofBits .f32 0x40051592#32 = (L : EReal) ∧ 2 < L ∧ L < 2.08 := by
  refine ⟨8721810 / 4194304, ?_, by norm_num, by norm_num⟩
  simp [Ideal.ofBits, Ideal.ieee]
  norm_num
  rw [← EReal.coe_mul]
  norm_num

/-- Every distance from 385 on has the last bucket. -/
theorem row_far {n : ℕ} (h : 385 ≤ n) (h' : n < 4224) : row (BitVec.ofNat 32 n) = 31 := by
  obtain ⟨L, hL, L1, L2⟩ := logScale
  have hn : (BitVec.ofNat 32 n).toInt = n := Predicate.toInt_ofNat_small n (by omega)
  have hd : dist (BitVec.ofNat 32 n) = BitVec.ofNat 32 n := by
    unfold dist IntOp.maxsi
    rw [if_pos]
    simp only [BitVec.slt, hn, show (0#32 : BitVec 32).toInt = 0 from rfl, decide_eq_true_eq]
    omega
  have hd1 : IntOp.maxsi (BitVec.ofNat 32 n) 1#32 = BitVec.ofNat 32 n := by
    unfold IntOp.maxsi
    rw [if_pos]
    simp only [BitVec.slt, hn, show (1#32 : BitVec 32).toInt = 1 from rfl, decide_eq_true_eq]
    omega
  have hfar : far (BitVec.ofNat 32 n) = 31#32 := by
    unfold far
    have hp : (0 : ℝ) < n / 16 := by
      have : (385 : ℝ) ≤ n := by exact_mod_cast h
      positivity
    have hlo : 2 ≤ Real.log (n / 16) := by
      rw [Real.le_log_iff_exp_le hp]
      have e : Real.exp 2 = Real.exp (1 / 4) ^ 8 := by rw [← Real.exp_nat_mul]; norm_num
      have hq : Real.exp (1 / 4) ≤ 4 / 3 := by
        have h1 := Real.one_sub_le_exp_neg (1 / 4)
        rw [Real.exp_neg] at h1
        have h2 := Real.exp_pos (1 / 4 : ℝ)
        have h3 : (3 / 4 : ℝ) * Real.exp (1 / 4) ≤ (Real.exp (1 / 4))⁻¹ * Real.exp (1 / 4) :=
          mul_le_mul_of_nonneg_right (by linarith) h2.le
        rw [inv_mul_cancel₀ h2.ne'] at h3
        linarith
      have : (385 : ℝ) ≤ n := by exact_mod_cast h
      rw [e]
      calc Real.exp (1 / 4) ^ 8 ≤ (4 / 3 : ℝ) ^ 8 := pow_le_pow_left₀ (Real.exp_pos _).le hq 8
        _ ≤ n / 16 := by norm_num; linarith
    have hhi : Real.log (n / 16) ≤ 264 := by
      have := Real.log_le_sub_one_of_pos hp
      have : (n : ℝ) ≤ 4224 := by exact_mod_cast h'.le
      linarith
    have hx : ∃ f : ℕ, 15 ≤ f ∧ f < 3000 ∧ Ideal.fptosi 32 (Ideal.div (Ideal.log (Ideal.div (((n : ℤ) : ℝ) : EReal) ((16 : ℝ) : EReal))) (L : EReal) * ((16 : ℝ) : EReal))
        = BitVec.ofNat 32 f := by
      have hL0 : L ≠ 0 := by linarith
      rw [Ideal.div_coe (by norm_num : (16 : ℝ) ≠ 0), ← EReal.coe_mul, show ((n : ℤ) : ℝ) * (1 / 16) = (n : ℝ) / 16 by push_cast; ring, Ideal.log_coe,
        if_neg (not_le.mpr hp), Ideal.div_coe hL0, ← EReal.coe_mul, ← EReal.coe_mul]
      set x : ℝ := Real.log (n / 16) * (1 / L) * 16 with hxdef
      have hx' : x = Real.log (n / 16) * 16 / L := by rw [hxdef]; ring
      have x1 : (15 : ℝ) ≤ x := by
        rw [hx', le_div_iff₀ (by linarith)]; nlinarith
      have x2 : x < 3000 := by
        rw [hx', div_lt_iff₀ (by linarith)]; nlinarith
      have f1 : (15 : ℤ) ≤ ⌊x⌋ := Int.le_floor.mpr (by exact_mod_cast x1)
      have f2 : ⌊x⌋ < (3000 : ℤ) := Int.floor_lt.mpr (by exact_mod_cast x2)
      refine ⟨⌊x⌋.toNat, by omega, by omega, ?_⟩
      unfold Ideal.fptosi
      rw [Ideal.toIntClamped_coe, if_pos (by linarith)]
      have e : max (-((2 ^ (32 - 1) : ℕ) : ℤ)) (min (((2 ^ (32 - 1) : ℕ) : ℤ) - 1) ⌊x⌋) = ((⌊x⌋.toNat : ℕ) : ℤ) := by
        norm_num
        omega
      rw [e]
      exact BitVec.ofInt_natCast ..
    obtain ⟨f, f1, f2, hf⟩ := hx
    rw [hd, hd1, hn, sixteen, hL, hf]
    unfold IntOp.minsi IntOp.addi
    rw [if_neg]
    rw [← BitVec.ofNat_add]
    simp only [BitVec.slt, Predicate.toInt_ofNat_small (16 + f) (by omega)]
    simp
    omega
  have hb : bucket (BitVec.ofNat 32 n) = 31#32 := by
    unfold bucket
    rw [hfar, hd]
    have : IntOp.cmpi .slt (BitVec.ofNat 32 n) 16#32 = 0#1 := by
      simp only [IntOp.cmpi, BitVec.slt, hn, show (16#32 : BitVec 32).toInt = 16 from rfl]
      rw [decide_eq_false (by omega)]
      rfl
    rw [this]; rfl
  unfold row
  rw [hb]
  decide

end Cert.Bucket

end
-- ==== Proof.HostAt.lean ====
module

public import proofs.«01_k».proof.Proof.Gen.KernelIdeal.Frame
public import proofs.«01_k».proof.Proof.Gather
public import proofs.«01_k».proof.Proof.Bucket
public import Idealize.ShloMosaic.Lib.StableHlo.ReadAt
public import Idealize.ShloMosaic.Lib.Pointwise
public import Idealize.ShloMosaic.Lib.Tactic.CleanTypes

/-!
What the host hands to the kernel, element by element: the tiles of the position bias, made from the rows of the
bias table; the keys, the values and the norm's weights come through as they are.
-/

@[expose] public section

set_option maxRecDepth 8192
set_option maxHeartbeats 1000000

noncomputable section

namespace Cert.KernelIdeal.Attn

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

/-- The words of the tiles: row less column. -/
def word : IVec S768x384 32 := subi (iotaInDim S768x384 32 0) (iotaInDim S768x384 32 1)

/-- The buckets of the tiles' words. -/
def tileBucket (w : IVec S768x384 32) : IVec S768x384 32 :=
  let far := maxsi w (broadcastInDim S768x384 ![] bcast_S_S768x384 (constantI S_ 32 0#32))
  select (cmpi .slt far (broadcastInDim S768x384 ![] bcast_S_S768x384 (constantI S_ 32 16#32))) far
    (minsi (addi (broadcastInDim S768x384 ![] bcast_S_S768x384 (constantI S_ 32 16#32))
      (fptosi 32 (mulf (F := Ideal) (Host.divf (Host.log (Host.divf
        (sitofp .f32 (maxsi far (broadcastInDim S768x384 ![] bcast_S_S768x384 (constantI S_ 32 1#32))))
        (broadcastInDim S768x384 ![] bcast_S_S768x384 (constant S_ .f32 0x41800000#32))))
        (broadcastInDim S768x384 ![] bcast_S_S768x384 (constant S_ .f32 0x40051592#32)))
        (broadcastInDim S768x384 ![] bcast_S_S768x384 (constant S_ .f32 0x41800000#32)))))
      (broadcastInDim S768x384 ![] bcast_S_S768x384 (constantI S_ 32 31#32)))

/-- The numbers of the table's rows. -/
def tileRow (bk : IVec S768x384 32) : IVec S768x384x1 32 :=
  broadcastInDim S768x384x1 ![0, 1] bcast_S768x384_S768x384x1_0_1
    (select (cmpi .slt bk (broadcastInDim S768x384 ![] bcast_S_S768x384 (constantI S_ 32 0#32)))
      (addi bk (broadcastInDim S768x384 ![] bcast_S_S768x384 (constantI S_ 32 32#32))) bk)

/-- The rows of the table. -/
def tileTaken (bk : IVec S768x384 32) (T : FVec Ideal S32x16 .f32) : FVec Ideal S768x384x16 .f32 :=
  Host.gather gather_S32x16_S768x384x1_S768x384x16_2_0_n_n_0_2_116 T (tileRow bk)

/-- The tiles, from the words, the rows taken and the table. -/
def tile (w : IVec S768x384 32) (G : FVec Ideal S768x384x16 .f32) (T : FVec Ideal S32x16 .f32) : FVec Ideal S16x768x384 .f32 :=
  select (broadcastInDim S16x768x384 ![0, 1, 2] bcast_S1x768x384_S16x768x384_0_1_2
      (cmpi .slt (broadcastInDim S1x768x384 ![1, 2] bcast_S768x384_S1x768x384_1_2 w)
        (broadcastInDim S1x768x384 ![] bcast_S_S1x768x384 (constantI S_ 32 0#32))))
    (broadcastInDim S16x768x384 ![] bcast_S_S16x768x384 (constant (F := Ideal) S_ .f32 0xFF800000#32))
    (Host.divf (subf (transpose S16x768x384 [2, 0, 1] G transposes_S768x384x16_S16x768x384_2_0_1)
        (broadcastInDim S16x768x384 ![0, 1, 2] bcast_S16x1x1_S16x768x384_0_1_2
          (broadcastInDim S16x1x1 ![0] bcast_S16_S16x1x1_0
            (shapeCast S16 (extractStridedSlice S1x16 ![31, 0] T slices_S32x16_S1x16_31_0) shapeCasts_S1x16_S16))))
      (broadcastInDim S16x768x384 ![] bcast_S_S16x768x384 (Host.log (constant (F := Ideal) S_ .f32 0x40000000#32))))

theorem tileBucket_at (i : Fin 768) (j : Fin 384) :
    tileBucket word (ix2 i j) = Bucket.bucket (IntOp.subi (BitVec.ofNat 32 i.val) (BitVec.ofNat 32 j.val)) := by
  unfold tileBucket word
  pointwise
  rfl

theorem tileRow_at (bk : IVec S768x384 32) (i : Fin 768) (j : Fin 384) (z : Fin 1) :
    tileRow bk (ix3 i j z) = Scalar.select (IntOp.cmpi .slt (bk (ix2 i j)) 0#32) (IntOp.addi (bk (ix2 i j)) 32#32) (bk (ix2 i j)) := by
  unfold tileRow
  pointwise

theorem tileTaken_at (T : FVec Ideal S32x16 .f32) (i : Fin 768) (j : Fin 384) (n : Fin 16) :
    tileTaken (tileBucket word) T (ix3 i j n)
      = T (ix2 ⟨Bucket.row (IntOp.subi (BitVec.ofNat 32 i.val) (BitVec.ofNat 32 j.val)), Bucket.row_lt _⟩ n) := by
  have e := Rows.gather_at (by decide) gather_S32x16_S768x384x1_S768x384x16_2_0_n_n_0_2_116
    gather_S32x16_S768x384x1_S768x384x16_2_0_n_n_0_2_116_wf rfl T (tileRow (tileBucket word)) i j n
  refine e.trans ((congrArg (fun r : BitVec 32 => T (ix2 ⟨min r.toInt.toNat (32 - 1), by omega⟩ n)) (tileRow_at (tileBucket word) i j ⟨0, Nat.one_pos⟩)).trans ?_)
  simp only [tileBucket_at]
  rfl

theorem tile_at (w : IVec S768x384 32) (G : FVec Ideal S768x384x16 .f32) (T : FVec Ideal S32x16 .f32) (n : Fin 16) (i : Fin 768) (j : Fin 384) :
    tile w G T (ix3 n i j) = Scalar.select (IntOp.cmpi .slt (w (ix2 i j)) 0#32) (⊥ : EReal)
      (Ideal.div ((G (ix3 i j n) : EReal) - (T (ix2 ⟨31, by decide⟩ n) : EReal)) (Ideal.log (Ideal.ofBits .f32 0x40000000#32))) := by
  have e : Ideal.ofBits .f32 0xFF800000#32 = ⊥ := by simp [Ideal.ofBits, Ideal.ieee]
  unfold tile
  rw [← e]
  pointwise

theorem word_at (i : Fin 768) (j : Fin 384) : word (ix2 i j) = IntOp.subi (BitVec.ofNat 32 i.val) (BitVec.ofNat 32 j.val) := by
  unfold word
  pointwise

theorem V_tile : V m c main_v44 = tile word (tileTaken (tileBucket word) (m ((c : Thread nD τ).loc main_arg3))) (m ((c : Thread nD τ).loc main_arg3)) := by
  unfold V
  simp only [List.flatten_cons, List.flatten_nil, List.append_nil]
  after_reads_simp
  simp -implicitDefEqProofs only [StableHlo.TRef.toBuf, StableHlo.TRef.ofBuf, cast_cast, cast_eq, id]
  unfold tile tileTaken tileRow tileBucket word
  clean_types
  rfl

theorem V_gain : V m c main_v45 = shapeCast S1x256 (m ((c : Thread nD τ).loc main_arg5)) shapeCasts_S256_S1x256 := by
  unfold V
  simp only [List.flatten_cons, List.flatten_nil, List.append_nil]
  after_reads_simp
  rfl

theorem V_keys : V m c main_v0 = m ((c : Thread nD τ).loc main_arg1) := by
  unfold V
  simp only [List.flatten_cons, List.flatten_nil, List.append_nil]
  after_reads_simp
  rfl

theorem V_values : V m c main_v1 = m ((c : Thread nD τ).loc main_arg2) := by
  unfold V
  simp only [List.flatten_cons, List.flatten_nil, List.append_nil]
  after_reads_simp
  rfl

end Cert.KernelIdeal.Attn
-- ==== Proof.Softmax.lean ====
/-
  A row of weights, computed two ways: powers of two of scores less a constant of the row, and exponentials of the scores.
-/
module

public import Idealize.ShloMosaic.Lib.Pointwise
public import Idealize.ShloMosaic.Lib.StableHlo.Predicate

@[expose] public section

noncomputable section

namespace Cert.Softmax

open Idealize.ShloMosaic

/-- A power of two of a number given in units of `log 2` is an exponential. -/
theorem two_rpow (x : ℝ) : Real.rpow 2 (x / Real.log 2) = Real.exp x := by
  have h : Real.log 2 ≠ 0 := (Real.log_pos (by norm_num)).ne'
  show (2 : ℝ) ^ (x / Real.log 2) = _
  rw [Real.rpow_def_of_pos (by norm_num), mul_div_cancel₀ _ h]

/-- The weights of one row: a key at or before the query weighs the exponential of its score less the greatest score;
    the keys after the query weigh nothing. Computed in powers of two from scores that are `t` less, among the first `n`
    keys; and in exponentials among all `N` keys. -/
theorem weights {n N i : ℕ} (hi : i < n) (hn : n ≤ N) (r : ℕ → ℝ) (t : ℝ) (E : ℕ → EReal) (s : Fin N → EReal)
    (hE : ∀ c < n, E c = if c ≤ i then (((r c - t) / Real.log 2 : ℝ) : EReal) else ⊥)
    (hs : ∀ j : Fin N, s j = if j.val ≤ i then (r j.val : EReal) else ⊥) :
    ∃ p : ℕ → ℝ, (∀ c, 0 ≤ p c) ∧ (∀ c, n ≤ c → p c = 0) ∧ 0 < ∑ c ∈ Finset.range n, p c
      ∧ (∀ c < n, Ideal.exp2 (E c - (Finset.range n).sup E) = (p c : EReal))
      ∧ ∀ j : Fin N, Ideal.exp (s j - max ⊥ (Finset.fold max ⊥ s Finset.univ)) = (p j.val : EReal) := by
  have hl : 0 < Real.log 2 := Real.log_pos (by norm_num)
  have hne : (Finset.range (i + 1)).Nonempty := ⟨0, by simp⟩
  obtain ⟨k, hk, hm⟩ := Finset.exists_max_image (Finset.range (i + 1)) r hne
  have hk' : k ≤ i := by simpa [Nat.lt_succ_iff] using hk
  have hm' : ∀ c ≤ i, r c ≤ r k := fun c hc => hm c (by simpa [Nat.lt_succ_iff] using hc)
  have hM : (Finset.range n).sup E = (((r k - t) / Real.log 2 : ℝ) : EReal) := by
    refine le_antisymm (Finset.sup_le fun c hc => ?_) ?_
    · rw [hE c (Finset.mem_range.mp hc)]
      split_ifs with h
      · exact EReal.coe_le_coe_iff.mpr (div_le_div_of_nonneg_right (sub_le_sub_right (hm' c h) t) hl.le)
      · exact bot_le
    · have := Finset.le_sup (f := E) (Finset.mem_range.mpr (lt_of_le_of_lt hk' hi))
      rwa [hE k (lt_of_le_of_lt hk' hi), if_pos hk'] at this
  have hR : max ⊥ (Finset.fold max ⊥ s Finset.univ) = ((r k : ℝ) : EReal) := by
    rw [max_eq_right bot_le]
    refine le_antisymm ?_ ?_
    · refine (Finset.fold_max_le _).mpr ⟨bot_le, fun j _ => ?_⟩
      rw [hs j]
      split_ifs with h
      · exact EReal.coe_le_coe_iff.mpr (hm' _ h)
      · exact bot_le
    · refine (Finset.le_fold_max _).mpr (Or.inr ⟨⟨k, by omega⟩, Finset.mem_univ _, ?_⟩)
      rw [hs, if_pos hk']
  refine ⟨fun c => if c ≤ i then Real.exp (r c - r k) else 0, fun c => ?_, fun c hc => ?_, ?_, fun c hc => ?_, fun j => ?_⟩
  · dsimp only
    split_ifs
    · exact (Real.exp_pos _).le
    · exact le_rfl
  · exact if_neg (by omega)
  · refine Finset.sum_pos' (fun c _ => ?_) ⟨k, Finset.mem_range.mpr (by omega), ?_⟩
    · split_ifs
      · exact (Real.exp_pos _).le
      · exact le_rfl
    · rw [if_pos hk']
      exact Real.exp_pos _
  · rw [hM, hE c hc]
    dsimp only
    split_ifs with h
    · rw [← EReal.coe_sub, Ideal.exp2_coe, ← sub_div, sub_sub_sub_cancel_right, two_rpow]
    · rw [EReal.bot_sub, Ideal.exp2_bot, EReal.coe_zero]
  · rw [hR, hs j]
    dsimp only
    split_ifs with h
    · rw [← EReal.coe_sub, Ideal.exp_coe]
    · rw [EReal.bot_sub, Ideal.exp_bot, EReal.coe_zero]

/-- A sum of reals among the extended reals. -/
theorem coe_sum {ι : Type} (S : Finset ι) (f : ι → ℝ) : (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

/-- A quotient by a real that is not zero. -/
theorem div_real (x : ℝ) {y : ℝ} (h : y ≠ 0) : Ideal.div (x : EReal) (y : EReal) = ((x / y : ℝ) : EReal) := by
  rw [Ideal.div_coe h, ← EReal.coe_mul]
  congr 1
  ring

/-- A sum over `n` columns by lanes of 128: first within each lane, then over the lanes. -/
theorem sum_lanes {α : Type} [AddCommMonoid α] (g : ℕ → α) (T : ℕ) :
    (∑ l : Fin 128, ∑ j ∈ Finset.range (3 * T), g (128 * j + l.val)) = ∑ c ∈ Finset.range (384 * T), g c := by
  rw [Finset.sum_comm]
  have e : 384 * T = 3 * T * 128 := by ring
  rw [e]
  generalize 3 * T = n
  induction n with
  | zero => simp
  | succ n ih =>
    rw [Finset.sum_range_succ, ih, Nat.add_mul, Nat.one_mul, Finset.sum_range_add, ← Fin.sum_univ_eq_sum_range (fun l => g (n * 128 + l))]
    congr 1
    refine Finset.sum_congr rfl fun l _ => ?_
    rw [Nat.mul_comm]

/-- One element of the difference of two weighted means: of the means themselves, and of the values weighted by the
    difference of the normalised weights. -/
theorem means {n N : ℕ} (hn : n ≤ N) (p0 p1 v : ℕ → ℝ) (l : ℝ) (h0 : ∀ c, n ≤ c → p0 c = 0) (h1 : ∀ c, n ≤ c → p1 c = 0)
    (g0 : 0 < ∑ c ∈ Finset.range n, p0 c) (g1 : 0 < ∑ c ∈ Finset.range n, p1 c) :
    (Ideal.div (∑ c ∈ Finset.range n, (p0 c : EReal) * (v c : EReal)) (∑ c ∈ Finset.range n, (p0 c : EReal))
        - (l : EReal) * Ideal.div (∑ c ∈ Finset.range n, (p1 c : EReal) * (v c : EReal)) (∑ c ∈ Finset.range n, (p1 c : EReal)) : EReal)
      = ∑ j : Fin N, (v j.val : EReal) * (Ideal.div (p0 j.val : EReal) (∑ x : Fin N, (p0 x.val : EReal))
          - (l : EReal) * Ideal.div (p1 j.val : EReal) (∑ x : Fin N, (p1 x.val : EReal))) := by
  have hall : ∀ f : ℕ → ℝ, (∀ c, n ≤ c → f c = 0) → ∑ x : Fin N, f x.val = ∑ c ∈ Finset.range n, f c := fun f hf => by
    rw [Fin.sum_univ_eq_sum_range f N]
    exact (Finset.sum_subset (Finset.range_subset_range.mpr hn) fun c _ hc => hf c (by simpa using hc)).symm
  have s0 : (∑ x : Fin N, (p0 x.val : EReal)) = ((∑ c ∈ Finset.range n, p0 c : ℝ) : EReal) := by
    rw [coe_sum, hall p0 h0]
  have s1 : (∑ x : Fin N, (p1 x.val : EReal)) = ((∑ c ∈ Finset.range n, p1 c : ℝ) : EReal) := by
    rw [coe_sum, hall p1 h1]
  simp only [s0, s1, ← EReal.coe_mul, coe_sum, div_real _ g0.ne', div_real _ g1.ne', ← EReal.coe_sub]
  congr 1
  rw [hall (fun c => v c * (p0 c / (∑ c ∈ Finset.range n, p0 c) - l * (p1 c / ∑ c ∈ Finset.range n, p1 c)))
    (fun c hc => by simp [h0 c hc, h1 c hc])]
  rw [Finset.sum_div, Finset.sum_div, Finset.mul_sum, ← Finset.sum_sub_distrib]
  refine Finset.sum_congr rfl fun c _ => ?_
  ring

end Cert.Softmax

end
-- ==== Proof.RefAt.lean ====
/-
  The reference's arrays, read at one element.
-/
module

public import proofs.«01_k».proof.Proof.Gen.ReferenceIdeal.Run
public import proofs.«01_k».proof.Proof.Gather
public import proofs.«01_k».proof.Proof.Bucket
public import Idealize.ShloMosaic.Lib.Pointwise
public import Idealize.ShloMosaic.Lib.Tactic.CleanTypes

@[expose] public section

set_option maxRecDepth 8192
set_option maxHeartbeats 400000

noncomputable section

namespace Cert.ReferenceIdeal.Attn

open Cert.ReferenceIdeal Cert.ReferenceIdeal.Gen Cert.ReferenceIdeal.Value
open Idealize.ShloMosaic Idealize.ShloMosaic.TcCoe Idealize.SL.Sem Idealize.ShloMosaic.StableHlo

variable (V0 : Valuation τ sig (Elt Ideal))

theorem minusInf : Ideal.ofBits .f32 0xFF800000#32 = ⊥ := by simp [Ideal.ofBits, Ideal.ieee]

/-- The queries, the keys, the values, the table and the four vectors of `λ`. -/
abbrev aq : FVec Ideal S8448x2048 .f32 := V0 (Proc.devRef .tc main_arg0)
@[inherit_doc aq] abbrev ak : FVec Ideal S8448x2048 .f32 := V0 (Proc.devRef .tc main_arg1)
@[inherit_doc aq] abbrev av : FVec Ideal S8448x2048 .f32 := V0 (Proc.devRef .tc main_arg2)
@[inherit_doc aq] abbrev at' : FVec Ideal S32x16 .f32 := V0 (Proc.devRef .tc main_arg3)
@[inherit_doc aq] abbrev alp : FVec Ideal S4x128 .f32 := V0 (Proc.devRef .tc main_arg4)

/-! ## The scores -/

/-- The scores, the keys after a query left out. -/
def sc : FVec Ideal S2x8x2x4224x4224 .f32 := res_main_v63 V0

/-- Query position less key position, a 32-bit word. -/
def dw (i j : ℕ) : BitVec 32 := IntOp.subi (BitVec.ofNat 32 i) (BitVec.ofNat 32 j)

theorem dw_at (i j : Fin 4224) : res_main_v24 V0 (ix2 i j) = dw i.val j.val := by
  unfold res_main_v24 res_main_v19
  clean_types
  pointwise
  rfl

theorem bucket_at (i j : Fin 4224) : res_main_v44 V0 (ix2 i j) = Bucket.bucket (dw i.val j.val) := by
  unfold res_main_v44 res_main_v26
  clean_types
  pointwise
  rw [dw_at]
  rfl

/-- A query row by a key row, both of one map of one head. -/
def qk (q k : FVec Ideal S8448x2048 .f32) (b : Fin 2) (h : Fin 8) (m : Fin 2) (i j : Fin 4224) : EReal :=
  ∑ x : Fin 128, (q (ix2 ⟨b.val * 4224 + i.val, by omega⟩ ⟨h.val * 256 + m.val * 128 + x.val, by omega⟩) : EReal)
    * (k (ix2 ⟨b.val * 4224 + j.val, by omega⟩ ⟨h.val * 256 + m.val * 128 + x.val, by omega⟩) : EReal)

/-- The table's rows, by bucket. -/
def rows (bk : IVec S4224x4224 32) (T : FVec Ideal S32x16 .f32) : FVec Ideal S4224x4224x16 .f32 :=
  Host.gather gather_S32x16_S4224x4224x1_S4224x4224x16_2_0_n_n_0_2_116 T (broadcastInDim S4224x4224x1 ![0, 1] bcast_S4224x4224_S4224x4224x1_0_1 (select (cmpi .slt bk (broadcastInDim S4224x4224 ![] bcast_S_S4224x4224 (constantI S_ 32 0#32))) (addi bk (broadcastInDim S4224x4224 ![] bcast_S_S4224x4224 (constantI S_ 32 32#32))) bk))

theorem number_at (bk : IVec S4224x4224 32) (i j : Fin 4224) (z : Fin 1) :
    broadcastInDim S4224x4224x1 ![0, 1] bcast_S4224x4224_S4224x4224x1_0_1 (select (cmpi .slt bk (broadcastInDim S4224x4224 ![] bcast_S_S4224x4224 (constantI S_ 32 0#32))) (addi bk (broadcastInDim S4224x4224 ![] bcast_S_S4224x4224 (constantI S_ 32 32#32))) bk) (ix3 i j z)
      = Scalar.select (IntOp.cmpi .slt (bk (ix2 i j)) 0#32) (IntOp.addi (bk (ix2 i j)) 32#32) (bk (ix2 i j)) := by
  pointwise

theorem rows_at (bk : IVec S4224x4224 32) (T : FVec Ideal S32x16 .f32) (i j : Fin 4224) (c : Fin 16) :
    rows bk T (ix3 i j c) = T (ix2 ⟨min (Scalar.select (IntOp.cmpi .slt (bk (ix2 i j)) 0#32) (IntOp.addi (bk (ix2 i j)) 32#32) (bk (ix2 i j))).toInt.toNat (32 - 1), by omega⟩ c) := by
  have e := Rows.gather_at (by decide) gather_S32x16_S4224x4224x1_S4224x4224x16_2_0_n_n_0_2_116 gather_S32x16_S4224x4224x1_S4224x4224x16_2_0_n_n_0_2_116_wf rfl T
    (broadcastInDim S4224x4224x1 ![0, 1] bcast_S4224x4224_S4224x4224x1_0_1 (select (cmpi .slt bk (broadcastInDim S4224x4224 ![] bcast_S_S4224x4224 (constantI S_ 32 0#32))) (addi bk (broadcastInDim S4224x4224 ![] bcast_S_S4224x4224 (constantI S_ 32 32#32))) bk)) i j c
  exact e.trans (congrArg (fun w : BitVec 32 => T (ix2 ⟨min w.toInt.toNat (32 - 1), by omega⟩ c)) (number_at bk i j ⟨0, Nat.one_pos⟩))

/-- The scores, from the words and the biases. -/
def scores (w : IVec S4224x4224 32) (q k : FVec Ideal S8448x2048 .f32) (G : FVec Ideal S4224x4224x16 .f32) : FVec Ideal S2x8x2x4224x4224 .f32 :=
  select (broadcastInDim S2x8x2x4224x4224 ![3, 4] bcast_S4224x4224_S2x8x2x4224x4224_3_4 (cmpi .sge w (broadcastInDim S4224x4224 ![] bcast_S_S4224x4224 (constantI S_ 32 0#32)))) (addf (Host.divf (Host.dotGeneral dot_S2x4224x8x2x128_S2x4224x8x2x128_S2x8x2x4224x4224_4_4_1_1_023_023 none (shapeCast _ q shapeCasts_S8448x2048_S2x4224x8x2x128) (shapeCast _ k shapeCasts_S8448x2048_S2x4224x8x2x128)) (broadcastInDim S2x8x2x4224x4224 ![] bcast_S_S2x8x2x4224x4224 (Host.sqrt (constant S_ .f32 0x43000000#32)))) (broadcastInDim S2x8x2x4224x4224 ![0, 1, 2, 3, 4] bcast_S1x8x2x4224x4224_S2x8x2x4224x4224_0_1_2_3_4 (broadcastInDim S1x8x2x4224x4224 ![1, 2, 3, 4] bcast_S8x2x4224x4224_S1x8x2x4224x4224_1_2_3_4 (shapeCast _ (transpose S16x4224x4224 [2, 0, 1] G transposes_S4224x4224x16_S16x4224x4224_2_0_1) shapeCasts_S16x4224x4224_S8x2x4224x4224)))) (broadcastInDim S2x8x2x4224x4224 ![] bcast_S_S2x8x2x4224x4224 (id (constant S_ .f32 0xFF800000#32)))

theorem scores_at (w : IVec S4224x4224 32) (q k : FVec Ideal S8448x2048 .f32) (G : FVec Ideal S4224x4224x16 .f32) (b : Fin 2) (h : Fin 8) (m : Fin 2) (i j : Fin 4224) :
    scores w q k G (ix5 b h m i j) = Scalar.select (IntOp.cmpi .sge (w (ix2 i j)) 0#32)
      (Ideal.div (qk q k b h m i j) (Ideal.sqrt (Ideal.ofBits .f32 0x43000000#32)) + (G (ix3 i j ⟨h.val * 2 + m.val, by omega⟩) : EReal)) ⊥ := by
  unfold scores qk
  rw [← minusInf]
  pointwise
  rfl

theorem sc_eq : sc V0 = scores (res_main_v24 V0) (aq V0) (ak V0) (rows (res_main_v44 V0) (at' V0)) := by
  unfold sc res_main_v63 scores rows
  with_reducible rfl

theorem sc_at (b : Fin 2) (h : Fin 8) (m : Fin 2) (i j : Fin 4224) :
    (sc V0 (ix5 b h m i j) : EReal) = Scalar.select (IntOp.cmpi .sge (dw i.val j.val) 0#32)
      (Ideal.div (qk (aq V0) (ak V0) b h m i j) (Ideal.sqrt (Ideal.ofBits .f32 0x43000000#32))
        + (at' V0 (ix2 ⟨Bucket.row (dw i.val j.val), Bucket.row_lt _⟩ ⟨h.val * 2 + m.val, by omega⟩) : EReal)) ⊥ := by
  rw [sc_eq, scores_at, rows_at, dw_at]
  simp only [bucket_at]
  rfl

/-! ## The weights -/

/-- The greatest of a row. -/
theorem rowMax (x : FVec Ideal S2x8x2x4224x4224 .f32) (b : Fin 2) (h : Fin 8) (m : Fin 2) (i : Fin 4224) :
    Host.reduce FloatOps.maximumf x (constant S_ .f32 0xFF800000#32) reducesTo_S2x8x2x4224x4224_S2x8x2x4224_d4 h_S_ (ix4 b h m i)
      = Finset.fold max (Ideal.ofBits .f32 0xFF800000#32) (fun j => x (ix5 b h m i j)) Finset.univ := by
  pointwise

/-- The exponentials of an array of scores less the numbers of their rows. -/
def expo (x : FVec Ideal S2x8x2x4224x4224 .f32) (R : FVec Ideal S2x8x2x4224 .f32) : FVec Ideal S2x8x2x4224x4224 .f32 :=
  Host.exp (subf x (broadcastInDim S2x8x2x4224x4224 ![0, 1, 2, 3, 4] bcast_S2x8x2x4224x1_S2x8x2x4224x4224_0_1_2_3_4 (broadcastInDim S2x8x2x4224x1 ![0, 1, 2, 3] bcast_S2x8x2x4224_S2x8x2x4224x1_0_1_2_3 (maximumf (broadcastInDim S2x8x2x4224 ![] bcast_S_S2x8x2x4224 (constant S_ .f32 0xFF800000#32)) R))))

theorem expo_at (x : FVec Ideal S2x8x2x4224x4224 .f32) (R : FVec Ideal S2x8x2x4224 .f32) (b : Fin 2) (h : Fin 8) (m : Fin 2) (i j : Fin 4224) :
    expo x R (ix5 b h m i j) = Ideal.exp ((x (ix5 b h m i j) : EReal) - max ⊥ (R (ix4 b h m i))) := by
  unfold expo
  pointwise
  rw [minusInf]

theorem rows_eq (x : FVec Ideal S2x8x2x4224x4224 .f32) (R : FVec Ideal S2x8x2x4224 .f32) (b : Fin 2) (h : Fin 8) (m : Fin 2) (i : Fin 4224)
    (hR : R = Host.reduce FloatOps.maximumf x (constant S_ .f32 0xFF800000#32) reducesTo_S2x8x2x4224x4224_S2x8x2x4224_d4 h_S_) :
    R (ix4 b h m i) = Finset.fold max (⊥ : EReal) (fun j => (x (ix5 b h m i j) : EReal)) Finset.univ := by
  rw [hR, rowMax, minusInf]

/-- The weights before they are divided. -/
def ep : FVec Ideal S2x8x2x4224x4224 .f32 := res_main_v70 V0

theorem exps_eq : ep V0 = expo (sc V0) (Host.reduce FloatOps.maximumf (sc V0) (constant S_ .f32 0xFF800000#32) reducesTo_S2x8x2x4224x4224_S2x8x2x4224_d4 h_S_) := by
  unfold ep res_main_v70 expo sc
  with_reducible rfl

theorem ep_at (b : Fin 2) (h : Fin 8) (m : Fin 2) (i j : Fin 4224) :
    (ep V0 (ix5 b h m i j) : EReal)
      = Ideal.exp ((sc V0 (ix5 b h m i j) : EReal) - max ⊥ (Finset.fold max (⊥ : EReal) (fun x => (sc V0 (ix5 b h m i x) : EReal)) Finset.univ)) := by
  rw [exps_eq]
  generalize hR : Host.reduce FloatOps.maximumf (sc V0) (constant S_ .f32 0xFF800000#32) reducesTo_S2x8x2x4224x4224_S2x8x2x4224_d4 h_S_ = R
  rw [expo_at, rows_eq _ R b h m i hR.symm]

/-- The weights. -/
def nrm : FVec Ideal S2x8x2x4224x4224 .f32 := res_main_v74 V0

theorem nrm_at (b : Fin 2) (h : Fin 8) (m : Fin 2) (i j : Fin 4224) :
    (nrm V0 (ix5 b h m i j) : EReal) = Ideal.div (ep V0 (ix5 b h m i j)) (∑ x : Fin 4224, (ep V0 (ix5 b h m i x) : EReal)) := by
  unfold nrm ep res_main_v74
  clean_types
  pointwise

/-! ## The weighted means and their difference -/

/-- The reference's `λ`. -/
def lam (lp : FVec Ideal S4x128 .f32) : EReal :=
  Ideal.exp (∑ x : Fin 128, (lp (ix2 0 x) * lp (ix2 1 x) : EReal)) - Ideal.exp (∑ x : Fin 128, (lp (ix2 2 x) * lp (ix2 3 x) : EReal))
    + Ideal.ofBits .f32 0x3E4CCCCD#32

/-- The weights by the values. -/
theorem dotV (v : FVec Ideal S2x4224x8x256 .f32) (w : FVec Ideal S2x8x4224x4224 .f32) (b : Fin 2) (h : Fin 8) (i : Fin 4224) (d : Fin 256) :
    Host.dotGeneral dot_S2x4224x8x256_S2x8x4224x4224_S2x8x256x4224_1_3_3_2_02_01 none v w (ix4 b h d i)
      = (∑ j : Fin 4224, v (ix4 b j h d) * w (ix4 b h i j) : EReal) := by
  pointwise

theorem move_at (x : FVec Ideal S2x8x256x4224 .f32) (b : Fin 2) (h : Fin 8) (i : Fin 4224) (d : Fin 256) :
    transpose S2x4224x8x256 [0, 3, 1, 2] x transposes_S2x8x256x4224_S2x4224x8x256_0_3_1_2 (ix4 b i h d) = x (ix4 b h d i) := by
  pointwise

/-- The values by head. -/
theorem val_at (x : FVec Ideal S8448x2048 .f32) (b : Fin 2) (h : Fin 8) (j : Fin 4224) (d : Fin 256) :
    shapeCast S2x4224x8x256 x shapeCasts_S8448x2048_S2x4224x8x256 (ix4 b j h d) = x (ix2 ⟨b.val * 4224 + j.val, by omega⟩ ⟨h.val * 256 + d.val, by omega⟩) := by
  pointwise

/-- The difference of the two maps' weights. -/
def diff (a : FVec Ideal S2x8x2x4224x4224 .f32) (lp : FVec Ideal S4x128 .f32) : FVec Ideal S2x8x4224x4224 .f32 :=
  (subf (shapeCast _ (extractStridedSlice S2x8x1x4224x4224 ![0, 0, 0, 0, 0] a slices_S2x8x2x4224x4224_S2x8x1x4224x4224_0_0_0_0_0) shapeCasts_S2x8x1x4224x4224_S2x8x4224x4224) (mulf (broadcastInDim S2x8x4224x4224 ![] bcast_S_S2x8x4224x4224 (addf (subf (Host.exp (Host.reduceAdd (mulf (shapeCast _ (extractStridedSlice S1x128 ![0, 0] lp slices_S4x128_S1x128_0_0) shapeCasts_S1x128_S128) (shapeCast _ (extractStridedSlice S1x128 ![1, 0] lp slices_S4x128_S1x128_1_0) shapeCasts_S1x128_S128)) (constant S_ .f32 0x00000000#32) reducesTo_S128_S_d0 h_S_)) (Host.exp (Host.reduceAdd (mulf (shapeCast _ (extractStridedSlice S1x128 ![2, 0] lp slices_S4x128_S1x128_2_0) shapeCasts_S1x128_S128) (shapeCast _ (extractStridedSlice S1x128 ![3, 0] lp slices_S4x128_S1x128_3_0) shapeCasts_S1x128_S128)) (constant S_ .f32 0x00000000#32) reducesTo_S128_S_d0 h_S_))) (constant S_ .f32 0x3E4CCCCD#32))) (shapeCast _ (extractStridedSlice S2x8x1x4224x4224 ![0, 0, 1, 0, 0] a slices_S2x8x2x4224x4224_S2x8x1x4224x4224_0_0_1_0_0) shapeCasts_S2x8x1x4224x4224_S2x8x4224x4224)))

theorem diff_at (a : FVec Ideal S2x8x2x4224x4224 .f32) (lp : FVec Ideal S4x128 .f32) (b : Fin 2) (h : Fin 8) (i j : Fin 4224) :
    diff a lp (ix4 b h i j) = ((a (ix5 b h 0 i j) : EReal) - lam lp * (a (ix5 b h 1 i j) : EReal)) := by
  unfold diff lam
  pointwise

/-- The difference of the weighted means. -/
def mn : FVec Ideal S2x4224x8x256 .f32 := res_main_v83 V0

theorem mn_eq : mn V0 = transpose S2x4224x8x256 [0, 3, 1, 2] (Host.dotGeneral dot_S2x4224x8x256_S2x8x4224x4224_S2x8x256x4224_1_3_3_2_02_01 none
      (shapeCast S2x4224x8x256 (av V0) shapeCasts_S8448x2048_S2x4224x8x256)
      (diff (nrm V0) (alp V0))) transposes_S2x8x256x4224_S2x4224x8x256_0_3_1_2 := by
  unfold mn res_main_v83 diff nrm
  with_reducible rfl

theorem mn_at (b : Fin 2) (h : Fin 8) (i : Fin 4224) (d : Fin 256) :
    (mn V0 (ix4 b i h d) : EReal) = ∑ j : Fin 4224,
      (av V0 (ix2 ⟨b.val * 4224 + j.val, by omega⟩ ⟨h.val * 256 + d.val, by omega⟩) : EReal)
        * ((nrm V0 (ix5 b h 0 i j) : EReal) - lam (alp V0) * (nrm V0 (ix5 b h 1 i j) : EReal)) := by
  rw [mn_eq, move_at, dotV]
  refine Finset.sum_congr rfl fun j _ => ?_
  rw [val_at, diff_at]

/-! ## The result -/

/-- What the norm makes of one row of a head. -/
def normed (o : Fin 256 → EReal) (g : EReal) (d : Fin 256) : EReal :=
  o d * Ideal.rsqrt (Ideal.div (∑ x, o x * o x) (Ideal.ofBits .f32 0x43800000#32) + Ideal.ofBits .f32 0x358637BD#32) * g * Ideal.ofBits .f32 0x3F4CCCCD#32

/-- The result from the difference of the weighted means. -/
def result (x : FVec Ideal S2x4224x8x256 .f32) (g : FVec Ideal S256 .f32) : FVec Ideal S8448x2048 .bf16 :=
  truncf .bf16 (shapeCast _ (mulf (mulf (mulf x (broadcastInDim S2x4224x8x256 ![0, 1, 2, 3] bcast_S2x4224x8x1_S2x4224x8x256_0_1_2_3 (Host.rsqrt (addf (Host.divf (broadcastInDim S2x4224x8x1 ![0, 1, 2] bcast_S2x4224x8_S2x4224x8x1_0_1_2 (Host.reduceAdd (mulf x x) (constant S_ .f32 0x00000000#32) reducesTo_S2x4224x8x256_S2x4224x8_d3 h_S_)) (broadcastInDim S2x4224x8x1 ![] bcast_S_S2x4224x8x1 (constant S_ .f32 0x43800000#32))) (broadcastInDim S2x4224x8x1 ![] bcast_S_S2x4224x8x1 (constant S_ .f32 0x358637BD#32)))))) (broadcastInDim S2x4224x8x256 ![0, 1, 2, 3] bcast_S1x1x1x256_S2x4224x8x256_0_1_2_3 (broadcastInDim S1x1x1x256 ![3] bcast_S256_S1x1x1x256_3 g))) (broadcastInDim S2x4224x8x256 ![] bcast_S_S2x4224x8x256 (constant S_ .f32 0x3F4CCCCD#32))) shapeCasts_S2x4224x8x256_S8448x2048) bitsLt_bf16_f32

theorem result_at (x : FVec Ideal S2x4224x8x256 .f32) (g : FVec Ideal S256 .f32) (r : Fin 8448) (c : Fin 2048) :
    (result x g (ix2 r c) : EReal)
      = normed (fun e => x (ix4 ⟨r.val / 4224, by omega⟩ ⟨r.val % 4224, by omega⟩ ⟨c.val / 256, by omega⟩ e)) (g (ix1 ⟨c.val % 256, by omega⟩)) ⟨c.val % 256, by omega⟩ := by
  unfold result normed
  pointwise

end Cert.ReferenceIdeal.Attn

end
-- ==== Proof.Rows.lean ====
/-
  One row of the attention, as both programs compute it: over finite queries, keys and bias the kernel's scores and the
  reference's are one row of real scores, masked alike.
-/
module

public import proofs.«01_k».proof.Proof.Spec
public import proofs.«01_k».proof.Proof.Stages
public import proofs.«01_k».proof.Proof.HostAt
public import proofs.«01_k».proof.Proof.Softmax
public import proofs.«01_k».proof.Proof.RefAt

@[expose] public section

noncomputable section

namespace Cert.Rows

open Idealize.ShloMosaic Cert.KernelIdeal.Attn
open Cert.ReferenceIdeal.Attn (dw)

/-! ## Words -/

theorem dw_shift (x u w : ℕ) : dw (x + u) (x + w) = dw u w := by
  unfold dw IntOp.subi
  rw [BitVec.ofNat_add, BitVec.ofNat_add]
  apply BitVec.eq_of_toNat_eq
  simp [BitVec.toNat_sub, BitVec.toNat_add]
  omega

theorem dw_sub {u w : ℕ} (h : w ≤ u) : dw u w = BitVec.ofNat 32 (u - w) := by
  have e := dw_shift w (u - w) 0
  rw [Nat.add_zero, show w + (u - w) = u by omega] at e
  rw [e]
  unfold dw IntOp.subi
  simp

theorem toInt_dw {u w : ℕ} (hu : u < 4224) (hw : w < 4224) : (dw u w).toInt = (u : ℤ) - w := by
  unfold dw IntOp.subi
  rw [BitVec.toInt_sub, StableHlo.Predicate.toInt_ofNat_small u (by omega), StableHlo.Predicate.toInt_ofNat_small w (by omega)]
  simp only [Int.bmod]
  omega

theorem select_slt {u w : ℕ} (hu : u < 4224) (hw : w < 4224) (A B : EReal) :
    Scalar.select (IntOp.cmpi .slt (dw u w) 0#32) A B = if u < w then A else B := by
  unfold Scalar.select IntOp.cmpi
  simp only [BitVec.slt, toInt_dw hu hw, show (0#32 : BitVec 32).toInt = 0 from rfl]
  by_cases h : u < w
  · rw [if_pos h, if_pos]
    simp [show (u : ℤ) - w < 0 by omega]
  · rw [if_neg h, if_neg]
    simp [show ¬ (u : ℤ) - w < 0 by omega]

theorem select_sge {u w : ℕ} (hu : u < 4224) (hw : w < 4224) (A B : EReal) :
    Scalar.select (IntOp.cmpi .sge (dw u w) 0#32) A B = if w ≤ u then A else B := by
  unfold Scalar.select IntOp.cmpi
  simp only [BitVec.sle, toInt_dw hu hw, show (0#32 : BitVec 32).toInt = 0 from rfl]
  by_cases h : w ≤ u
  · rw [if_pos h, if_pos]
    simp [h]
  · rw [if_neg h, if_neg]
    simp [h]

/-! ## Constants -/

theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee]
    norm_num
    rw [← EReal.coe_mul]
    norm_num
  rw [e, Ideal.log_coe, if_neg (by norm_num)]

theorem sqrt_width : Ideal.sqrt (Ideal.ofBits .f32 0x43000000#32) = ((Real.sqrt 128 : ℝ) : EReal) := by
  have e : Ideal.ofBits .f32 0x43000000#32 = ((128 : ℝ) : EReal) := by
    simp [Ideal.ofBits, Ideal.ieee]
    norm_num
    rw [← EReal.coe_mul]
    norm_num
  rw [e, Ideal.sqrt_coe, if_neg (by norm_num)]

theorem log2_ne : Real.log 2 ≠ 0 := (Real.log_pos (by norm_num)).ne'

theorem root_ne : Real.sqrt 128 ≠ 0 := (Real.sqrt_pos.mpr (by norm_num)).ne'

/-! ## The scores of a row -/

section
variable (q k : ℕ → ℕ → ℝ) (T : ℕ → ℕ → ℝ)

/-- A query row by a key row, over the reals. -/
def dotR (b h m i j : ℕ) : ℝ := ∑ x : Fin 128, q (b * 4224 + i) (h * 256 + m * 128 + x.val) * k (b * 4224 + j) (h * 256 + m * 128 + x.val)

/-- The score of a key for a query. -/
def scoreR (b h m i j : ℕ) : ℝ := dotR q k b h m i j / Real.sqrt 128 + T (Bucket.row (dw i j)) (h * 2 + m)

theorem dotE_real (Q : Vec Ideal Cert.KernelIdeal.S384x256 .f32) (K : Vec Ideal Cert.KernelIdeal.S4224x256 .bf16) {b h qi a m c : ℕ} (ha : a < 384) (hm : m < 2) (hc : c < 4224)
    (hQ : ∀ a < 384, ∀ d < 256, at2 Q a d = ((q (b * 4224 + (384 * qi + a)) (h * 256 + d) : ℝ) : EReal))
    (hK : ∀ c < 4224, ∀ d < 256, at2 K c d = ((k (b * 4224 + c) (h * 256 + d) : ℝ) : EReal)) :
    dotE Q K m a c = ((dotR q k b h m (384 * qi + a) c / Real.sqrt 128 / Real.log 2 : ℝ) : EReal) := by
  have e : dotR q k b h m (384 * qi + a) c / Real.sqrt 128 / Real.log 2
      = ∑ x : Fin 128, q (b * 4224 + (384 * qi + a)) (h * 256 + m * 128 + x.val) * ((Real.sqrt 128)⁻¹ * (Real.log 2)⁻¹) * k (b * 4224 + c) (h * 256 + m * 128 + x.val) := by
    rw [dotR, div_div, div_eq_mul_inv, mul_inv, Finset.sum_mul]
    exact Finset.sum_congr rfl fun x _ => by ring
  rw [e, ← Softmax.coe_sum]
  unfold dotE
  refine Finset.sum_congr rfl fun x _ => ?_
  have hx := x.isLt
  rw [hQ a ha _ (by omega), hK c hc _ (by omega), show h * 256 + (128 * m + x.val) = h * 256 + m * 128 + x.val by omega, σ, ← EReal.coe_mul, ← EReal.coe_mul]

/-- The kernel's score: the reference's, less the farthest bucket's bias, in units of base-2 logarithms. -/
theorem E_real (Q : Vec Ideal Cert.KernelIdeal.S384x256 .f32) (K : Vec Ideal Cert.KernelIdeal.S4224x256 .bf16) (B : Vec Ideal Cert.KernelIdeal.S2x768x384 .f32)
    {b h qi a m : ℕ} (ha : a < 384) (hm : m < 2) (hq : qi < 11)
    (hQ : ∀ a < 384, ∀ d < 256, at2 Q a d = ((q (b * 4224 + (384 * qi + a)) (h * 256 + d) : ℝ) : EReal))
    (hK : ∀ c < 4224, ∀ d < 256, at2 K c d = ((k (b * 4224 + c) (h * 256 + d) : ℝ) : EReal))
    (hB : ∀ m < 2, ∀ r < 768, ∀ j < 384, at3 B m r j = Scalar.select (IntOp.cmpi .slt (dw r j) 0#32) (⊥ : EReal)
      (Ideal.div ((T (Bucket.row (dw r j)) (h * 2 + m) : EReal) - (T 31 (h * 2 + m) : EReal)) (Ideal.log (Ideal.ofBits .f32 0x40000000#32))))
    {c : ℕ} (hc : c < 384 * (qi + 1)) :
    E qi Q K B (384 * m + a) c
      = if c ≤ 384 * qi + a then (((scoreR q k T b h m (384 * qi + a) c - T 31 (h * 2 + m)) / Real.log 2 : ℝ) : EReal) else ⊥ := by
  have tail : ∀ r < 768, ∀ j < 384, dw r j = dw (384 * qi + a) c → ¬ r < j → dotE Q K m a c + at3 B m r j
      = (((scoreR q k T b h m (384 * qi + a) c - T 31 (h * 2 + m)) / Real.log 2 : ℝ) : EReal) := by
    intro r hr j hj e hlt
    rw [hB m hm r hr j hj, select_slt (by omega) (by omega), if_neg hlt, log_two, ← EReal.coe_sub, Softmax.div_real _ log2_ne, e,
      dotE_real q k Q K ha hm (by omega) hQ hK, ← EReal.coe_add]
    congr 1
    unfold scoreR
    ring
  rw [E_row qi Q K B hm ha, score]
  split_ifs with h1 h2 h3 h4 h5
  · rw [dotE_real q k Q K ha hm (by omega) hQ hK]
    congr 1
    rw [scoreR, dw_sub h2, Bucket.row_far (by omega) (by omega)]
    ring
  · omega
  · refine tail (384 + a) (by omega) (c % 384) (by omega) ?_ (by omega)
    obtain ⟨y, rfl⟩ : ∃ y, qi = y + 1 := ⟨c / 384, by omega⟩
    have e := dw_shift (384 * y) (384 + a) (c % 384)
    rw [← e]
    congr 1 <;> omega
  · omega
  · refine tail a (by omega) (c % 384) (by omega) ?_ (by omega)
    have e := dw_shift (384 * qi) a (c % 384)
    rw [← e]
    congr 1
    omega
  · rw [hB m hm a (by omega) (c % 384) (by omega), select_slt (by omega) (by omega), if_pos (by omega), EReal.add_bot]

end

end Cert.Rows

end
-- ==== Proof.Equal.lean ====
/-
  One block of the kernel's result is that block of the reference's.
-/
module

public import proofs.«01_k».proof.Proof.Rows

@[expose] public section

set_option maxRecDepth 8192
set_option maxHeartbeats 1000000

noncomputable section

namespace Cert.Equal

open Idealize.ShloMosaic Cert.KernelIdeal.Attn Cert.KernelIdeal.Gen Cert.Rows
open Cert.ReferenceIdeal.Attn (dw qk sc ep nrm mn lam normed result aq ak av at' alp sc_at ep_at nrm_at mn_at result_at)

/-- The kernel's last step at one element: the two weighted means, their difference, the norm. -/
theorem pay_at (acc : FVec Ideal Cert.KernelIdeal.S768x256 .f32) (ls : FVec Ideal Cert.KernelIdeal.S768x128 .f32) (lp : FVec Ideal Cert.KernelIdeal.S4x128 .f32) (sl : FVec Ideal Cert.KernelIdeal.S1x256 .f32)
    (a : Fin 384) (d : Fin 256) :
    (k0_pay89 (F := Ideal) acc ls lp sl (ix2 a d) : EReal) = normed (fun e =>
      Ideal.div (acc (ix2 ⟨a.val, by omega⟩ e)) (∑ x : Fin 128, (ls (ix2 ⟨a.val, by omega⟩ x) : EReal))
        - lam lp * Ideal.div (acc (ix2 ⟨384 + a.val, by omega⟩ e)) (∑ x : Fin 128, (ls (ix2 ⟨384 + a.val, by omega⟩ x) : EReal))) (sl (ix2 0 d)) d := by
  unfold normed lam
  pointwise [k0_pay89]

section
variable (V0 : Valuation Cert.ReferenceIdeal.τ Cert.ReferenceIdeal.sig (Elt Ideal))
variable (q k v : ℕ → ℕ → ℝ) (T : ℕ → ℕ → ℝ) (l : ℝ)

/-- The launch arrays are those of real numbers. -/
structure Finite : Prop where
  hq : ∀ (r : Fin 8448) (c : Fin 2048), (aq V0 (ix2 r c) : EReal) = (q r.val c.val : EReal)
  hk : ∀ (r : Fin 8448) (c : Fin 2048), (ak V0 (ix2 r c) : EReal) = (k r.val c.val : EReal)
  hv : ∀ (r : Fin 8448) (c : Fin 2048), (av V0 (ix2 r c) : EReal) = (v r.val c.val : EReal)
  hT : ∀ (r : Fin 32) (c : Fin 16), (at' V0 (ix2 r c) : EReal) = (T r.val c.val : EReal)
  hl : lam (alp V0) = (l : EReal)

variable {V0 q k v T l}

theorem sc_real (H : Finite V0 q k v T l) (b : Fin 2) (h : Fin 8) (m : Fin 2) (i j : Fin 4224) :
    (sc V0 (ix5 b h m i j) : EReal) = if j.val ≤ i.val then (scoreR q k T b.val h.val m.val i.val j.val : EReal) else ⊥ := by
  have e : qk (aq V0) (ak V0) b h m i j = (dotR q k b.val h.val m.val i.val j.val : EReal) := by
    unfold qk dotR
    rw [← Softmax.coe_sum]
    refine Finset.sum_congr rfl fun x _ => ?_
    rw [H.hq, H.hk, EReal.coe_mul]
  rw [sc_at, select_sge i.isLt j.isLt, e, H.hT, sqrt_width, Softmax.div_real _ root_ne, ← EReal.coe_add]
  rfl

/-- What the kernel reads at the grid point of batch `b`, head `h` and query tile `qi`. -/
structure Blocks (V0 : Valuation Cert.ReferenceIdeal.τ Cert.ReferenceIdeal.sig (Elt Ideal)) (b h qi : ℕ) (Q : Vec Ideal Cert.KernelIdeal.S384x256 .f32) (K W : Vec Ideal Cert.KernelIdeal.S4224x256 .bf16)
    (B : Vec Ideal Cert.KernelIdeal.S2x768x384 .f32) : Prop where
  Q_at : ∀ (a : Fin 384) (d : Fin 256) (r : Fin 8448) (c : Fin 2048), r.val = b * 4224 + (384 * qi + a.val) → c.val = h * 256 + d.val → (Q (ix2 a d) : EReal) = aq V0 (ix2 r c)
  K_at : ∀ (j : Fin 4224) (d : Fin 256) (r : Fin 8448) (c : Fin 2048), r.val = b * 4224 + j.val → c.val = h * 256 + d.val → (K (ix2 j d) : EReal) = ak V0 (ix2 r c)
  W_at : ∀ (j : Fin 4224) (d : Fin 256) (r : Fin 8448) (c : Fin 2048), r.val = b * 4224 + j.val → c.val = h * 256 + d.val → (W (ix2 j d) : EReal) = av V0 (ix2 r c)
  B_at : ∀ (m : Fin 2) (r : Fin 768) (j : Fin 384) (n : Fin 16), n.val = h * 2 + m.val → (B (ix3 m r j) : EReal) = Scalar.select (IntOp.cmpi .slt (dw r.val j.val) 0#32) (⊥ : EReal)
    (Ideal.div ((at' V0 (ix2 ⟨Bucket.row (dw r.val j.val), Bucket.row_lt _⟩ n) : EReal) - (at' V0 (ix2 ⟨31, by decide⟩ n) : EReal)) (Ideal.log (Ideal.ofBits .f32 0x40000000#32)))

variable {Q : Vec Ideal Cert.KernelIdeal.S384x256 .f32} {K W : Vec Ideal Cert.KernelIdeal.S4224x256 .bf16} {B : Vec Ideal Cert.KernelIdeal.S2x768x384 .f32}

/-- The weights of one row, of the kernel's and of the reference's. -/
theorem row (H : Finite V0 q k v T l) (b : Fin 2) (h : Fin 8) (qi : Fin 11) (D : Blocks V0 b.val h.val qi.val Q K W B) (m : Fin 2) (a : Fin 384) (i : Fin 4224) (hi : i.val = 384 * qi.val + a.val) :
    ∃ p : ℕ → ℝ, (∀ c, 384 * (qi.val + 1) ≤ c → p c = 0) ∧ 0 < ∑ c ∈ Finset.range (384 * (qi.val + 1)), p c
      ∧ (∀ c < 384 * (qi.val + 1), P qi.val Q K B (384 * m.val + a.val) c = (p c : EReal))
      ∧ ∀ j : Fin 4224, (ep V0 (ix5 b h m i j) : EReal) = (p j.val : EReal) := by
  have hQ : ∀ a < 384, ∀ d < 256, at2 Q a d = ((q (b.val * 4224 + (384 * qi.val + a)) (h.val * 256 + d) : ℝ) : EReal) := by
    intro a ha d hd
    exact (at2_lt Q ha hd).trans ((D.Q_at ⟨a, ha⟩ ⟨d, hd⟩ ⟨b.val * 4224 + (384 * qi.val + a), by omega⟩ ⟨h.val * 256 + d, by omega⟩ rfl rfl).trans (H.hq _ _))
  have hK : ∀ c < 4224, ∀ d < 256, at2 K c d = ((k (b.val * 4224 + c) (h.val * 256 + d) : ℝ) : EReal) := by
    intro c hc d hd
    exact (at2_lt K hc hd).trans ((D.K_at ⟨c, hc⟩ ⟨d, hd⟩ ⟨b.val * 4224 + c, by omega⟩ ⟨h.val * 256 + d, by omega⟩ rfl rfl).trans (H.hk _ _))
  have hB : ∀ m < 2, ∀ r < 768, ∀ j < 384, at3 B m r j = Scalar.select (IntOp.cmpi .slt (dw r j) 0#32) (⊥ : EReal)
      (Ideal.div ((T (Bucket.row (dw r j)) (h.val * 2 + m) : EReal) - (T 31 (h.val * 2 + m) : EReal)) (Ideal.log (Ideal.ofBits .f32 0x40000000#32))) := by
    intro m hm r hr j hj
    have e := D.B_at ⟨m, hm⟩ ⟨r, hr⟩ ⟨j, hj⟩ ⟨h.val * 2 + m, by omega⟩ rfl
    rw [H.hT, H.hT] at e
    exact (at3_lt B hm hr hj).trans e
  obtain ⟨p, _, h2, h3, h4, h5⟩ := Softmax.weights (n := 384 * (qi.val + 1)) (N := 4224) (i := 384 * qi.val + a.val) (by omega) (by omega)
    (fun j => scoreR q k T b.val h.val m.val (384 * qi.val + a.val) j) (T 31 (h.val * 2 + m.val)) (E qi.val Q K B (384 * m.val + a.val)) (fun j => (sc V0 (ix5 b h m i j) : EReal))
    (fun c hc => E_real q k T Q K B a.isLt m.isLt qi.isLt hQ hK hB hc)
    (fun j => by rw [sc_real H, hi])
  exact ⟨p, h2, h3, h4, fun j => (ep_at V0 b h m i j).trans (h5 j)⟩

/-- The difference of the two weighted means, of the kernel's and of the reference's. -/
theorem mean (H : Finite V0 q k v T l) (b : Fin 2) (h : Fin 8) (qi : Fin 11) (D : Blocks V0 b.val h.val qi.val Q K W B) (a : Fin 384) (i : Fin 4224) (hi : i.val = 384 * qi.val + a.val) (d : Fin 256) :
    (Ideal.div (accArr qi.val Q K W B (ix2 ⟨a.val, by omega⟩ d)) (∑ x : Fin 128, (lsArr qi.val Q K B (ix2 ⟨a.val, by omega⟩ x) : EReal))
      - lam (alp V0) * Ideal.div (accArr qi.val Q K W B (ix2 ⟨384 + a.val, by omega⟩ d)) (∑ x : Fin 128, (lsArr qi.val Q K B (ix2 ⟨384 + a.val, by omega⟩ x) : EReal)) : EReal)
      = mn V0 (ix4 b i h d) := by
  obtain ⟨p0, z0, g0, P0, e0⟩ := row H b h qi D 0 a i hi
  obtain ⟨p1, z1, g1, P1, e1⟩ := row H b h qi D 1 a i hi
  have hn : 384 * (qi.val + 1) ≤ 4224 := by omega
  have hacc : ∀ (r : Fin 768) (p : ℕ → ℝ), (∀ c < 384 * (qi.val + 1), P qi.val Q K B r.val c = (p c : EReal)) →
      (accArr qi.val Q K W B (ix2 r d) : EReal) = ∑ c ∈ Finset.range (384 * (qi.val + 1)), (p c : EReal) * (v (b.val * 4224 + c) (h.val * 256 + d.val) : EReal) := by
    intro r p hp
    refine Finset.sum_congr rfl fun c hc => ?_
    have hc' : c < 384 * (qi.val + 1) := Finset.mem_range.mp hc
    have hw : at2 W c d.val = (v (b.val * 4224 + c) (h.val * 256 + d.val) : EReal) :=
      (at2_lt W (show c < 4224 by omega) d.isLt).trans ((D.W_at ⟨c, by omega⟩ d ⟨b.val * 4224 + c, by omega⟩ ⟨h.val * 256 + d.val, by omega⟩ rfl rfl).trans (H.hv _ _))
    show P qi.val Q K B r.val c * at2 W c d.val = _
    rw [hp c hc', hw]
  have hls : ∀ (r : Fin 768) (p : ℕ → ℝ), (∀ c < 384 * (qi.val + 1), P qi.val Q K B r.val c = (p c : EReal)) →
      (∑ x : Fin 128, (lsArr qi.val Q K B (ix2 r x) : EReal)) = ∑ c ∈ Finset.range (384 * (qi.val + 1)), (p c : EReal) := by
    intro r p hp
    refine (Softmax.sum_lanes (fun c => P qi.val Q K B r.val c) (qi.val + 1)).trans (Finset.sum_congr rfl fun c hc => hp c (Finset.mem_range.mp hc))
  have P0' : ∀ c < 384 * (qi.val + 1), P qi.val Q K B (⟨a.val, by omega⟩ : Fin 768).val c = (p0 c : EReal) := by
    intro c hc
    have e := P0 c hc
    simpa using e
  have P1' : ∀ c < 384 * (qi.val + 1), P qi.val Q K B (⟨384 + a.val, by omega⟩ : Fin 768).val c = (p1 c : EReal) := by
    intro c hc
    have e := P1 c hc
    simpa using e
  rw [hacc _ p0 P0', hacc _ p1 P1', hls _ p0 P0', hls _ p1 P1', H.hl,
    Softmax.means hn p0 p1 (fun c => v (b.val * 4224 + c) (h.val * 256 + d.val)) l z0 z1 g0 g1, mn_at]
  refine Finset.sum_congr rfl fun j _ => ?_
  rw [H.hv, nrm_at, nrm_at, H.hl, e0, e1]
  simp only [e0, e1]

/-- An element of the kernel's block is the reference's. -/
theorem block (H : Finite V0 q k v T l) (b : Fin 2) (h : Fin 8) (qi : Fin 11) (D : Blocks V0 b.val h.val qi.val Q K W B)
    (sl : FVec Ideal Cert.KernelIdeal.S1x256 .f32) (g : FVec Ideal Cert.ReferenceIdeal.S256 .f32) (hg : ∀ d : Fin 256, (sl (ix2 0 d) : EReal) = g (ix1 d))
    (a : Fin 384) (d : Fin 256) (r : Fin 8448) (c : Fin 2048) (hr : r.val = b.val * 4224 + (384 * qi.val + a.val)) (hc : c.val = h.val * 256 + d.val) :
    (outBlk qi.val Q K W B (alp V0) sl (ix2 a d) : EReal) = result (mn V0) g (ix2 r c) := by
  have hb : (⟨r.val / 4224, by omega⟩ : Fin 2) = b := Fin.ext (by show r.val / 4224 = b.val; omega)
  have hi : (⟨r.val % 4224, by omega⟩ : Fin 4224) = ⟨384 * qi.val + a.val, by omega⟩ := Fin.ext (by show r.val % 4224 = 384 * qi.val + a.val; omega)
  have hh : (⟨c.val / 256, by omega⟩ : Fin 8) = h := Fin.ext (by show c.val / 256 = h.val; omega)
  have hd : (⟨c.val % 256, by omega⟩ : Fin 256) = d := Fin.ext (by show c.val % 256 = d.val; omega)
  rw [result_at, hb, hi, hh, hd]
  unfold outBlk
  rw [pay_at, hg]
  congr 1
  funext e
  exact mean H b h qi D a ⟨384 * qi.val + a.val, by omega⟩ rfl e

end

end Cert.Equal

end
-- ==== Proof.Final.lean ====
/-
  The kernel's result array: block by block it is the reference's result.
-/
module

public import proofs.«01_k».proof.Proof.IdealFrame
public import proofs.«01_k».proof.Proof.HostAt
public import proofs.«01_k».proof.Proof.Equal
public import Idealize.ShloMosaic.Lib.Pipeline.ValueKit.Geometry

@[expose] public section

set_option maxRecDepth 8192
set_option maxHeartbeats 1000000

noncomputable section

namespace Cert.KernelIdeal.Attn

open Cert.KernelIdeal Cert.KernelIdeal.Gen
open Idealize.ShloMosaic Idealize.ShloMosaic.TcCoe Idealize.SL.Sem

variable (m : (ℓ : Loc nD τ sig) → Buf (Elt Ideal) ℓ) (c : Dev nD)

/-! ## Which block each window is on -/

theorem at_0 : ∀ t : Fin cfg0.N, win0_0.index t = ![(grid0.coords t 0).val * 11 + (grid0.coords t 2).val, (grid0.coords t 1).val] :=
  (by decide +kernel : ∀ t : Fin grid0.N, _)
theorem at_1 : ∀ t : Fin cfg0.N, win0_1.index t = ![(grid0.coords t 0).val, (grid0.coords t 1).val] :=
  (by decide +kernel : ∀ t : Fin grid0.N, _)
theorem at_2 : ∀ t : Fin cfg0.N, win0_2.index t = ![(grid0.coords t 0).val, (grid0.coords t 1).val] :=
  (by decide +kernel : ∀ t : Fin grid0.N, _)
theorem at_3 : ∀ t : Fin cfg0.N, win0_3.index t = ![(grid0.coords t 1).val, 0, 0] :=
  (by decide +kernel : ∀ t : Fin grid0.N, _)
theorem at_4 : ∀ t : Fin cfg0.N, win0_4.index t = ![0, 0] :=
  (by decide +kernel : ∀ t : Fin grid0.N, _)
theorem at_5 : ∀ t : Fin cfg0.N, win0_5.index t = ![0, 0] :=
  (by decide +kernel : ∀ t : Fin grid0.N, _)
theorem at_6 : ∀ t : Fin cfg0.N, win0_6.index t = ![(grid0.coords t 0).val * 11 + (grid0.coords t 2).val, (grid0.coords t 1).val] :=
  (by decide +kernel : ∀ t : Fin grid0.N, _)

/-! ## The blocks, element by element -/

theorem blk_0 (t : Fin cfg0.N) (a : Fin 384) (d : Fin 256) (r : Fin 8448) (e : Fin 2048)
    (hr : r.val = (grid0.coords t 0).val * 4224 + (384 * (grid0.coords t 2).val + a.val)) (he : e.val = (grid0.coords t 1).val * 256 + d.val) :
    (iblk m c 0 t (ix2 a d) : EReal) = m ((c : Thread nD τ).loc main_arg0) (ix2 r e) := by
  blk_simp [iblk]
  rw [V_main_arg0]
  refine congrArg (m ((c : Thread nD τ).loc main_arg0)) ?_
  blk_ext [at_0]

theorem blk_1 (t : Fin cfg0.N) (j : Fin 4224) (d : Fin 256) (r : Fin 8448) (e : Fin 2048)
    (hr : r.val = (grid0.coords t 0).val * 4224 + j.val) (he : e.val = (grid0.coords t 1).val * 256 + d.val) :
    (iblk m c 1 t (ix2 j d) : EReal) = m ((c : Thread nD τ).loc main_arg1) (ix2 r e) := by
  blk_simp [iblk]
  rw [V_keys]
  refine congrArg (m ((c : Thread nD τ).loc main_arg1)) ?_
  blk_ext [at_1]

theorem blk_2 (t : Fin cfg0.N) (j : Fin 4224) (d : Fin 256) (r : Fin 8448) (e : Fin 2048)
    (hr : r.val = (grid0.coords t 0).val * 4224 + j.val) (he : e.val = (grid0.coords t 1).val * 256 + d.val) :
    (iblk m c 2 t (ix2 j d) : EReal) = m ((c : Thread nD τ).loc main_arg2) (ix2 r e) := by
  blk_simp [iblk]
  rw [V_values]
  refine congrArg (m ((c : Thread nD τ).loc main_arg2)) ?_
  blk_ext [at_2]

theorem blk_3 (t : Fin cfg0.N) (p : Fin 2) (r : Fin 768) (j : Fin 384) (n : Fin 16) (hn : n.val = (grid0.coords t 1).val * 2 + p.val) :
    (iblk m c 3 t (ix3 p r j) : EReal)
      = tile word (tileTaken (tileBucket word) (m ((c : Thread nD τ).loc main_arg3))) (m ((c : Thread nD τ).loc main_arg3)) (ix3 n r j) := by
  blk_simp [iblk]
  rw [V_tile]
  refine congrArg (tile word (tileTaken (tileBucket word) (m ((c : Thread nD τ).loc main_arg3))) (m ((c : Thread nD τ).loc main_arg3))) ?_
  blk_ext [at_3]

theorem blk_4 (t : Fin cfg0.N) : iblk m c 4 t = m ((c : Thread nD τ).loc main_arg4) := by
  funext y
  blk_simp [iblk]
  rw [V_main_arg4]
  refine congrArg (m ((c : Thread nD τ).loc main_arg4)) ?_
  blk_ext [at_4]

theorem gain_at (g : FVec Ideal S256 .f32) (d : Fin 256) : shapeCast S1x256 g shapeCasts_S256_S1x256 (ix2 0 d) = g (ix1 d) := by
  pointwise

theorem blk_5 (t : Fin cfg0.N) (d : Fin 256) : (iblk m c 5 t (ix2 0 d) : EReal) = m ((c : Thread nD τ).loc main_arg5) (ix1 d) := by
  refine Eq.trans ?_ (gain_at (m ((c : Thread nD τ).loc main_arg5)) d)
  blk_simp [iblk]
  rw [V_gain]
  refine congrArg (shapeCast S1x256 (m ((c : Thread nD τ).loc main_arg5)) shapeCasts_S256_S1x256) ?_
  blk_ext [at_5]

/-! ## The result -/

open Cert.ReferenceIdeal.Attn (mn result aq ak av at' alp)

/-- The kernel's result is the reference's, over finite launch arrays. -/
theorem final_out (V0 : Valuation Cert.ReferenceIdeal.τ Cert.ReferenceIdeal.sig (Elt Ideal)) (q k v : ℕ → ℕ → ℝ) (T : ℕ → ℕ → ℝ) (l : ℝ) (H : Cert.Equal.Finite V0 q k v T l)
    (h0 : aq V0 = m ((c : Thread nD τ).loc main_arg0)) (h1 : ak V0 = m ((c : Thread nD τ).loc main_arg1)) (h2 : av V0 = m ((c : Thread nD τ).loc main_arg2))
    (h3 : at' V0 = m ((c : Thread nD τ).loc main_arg3)) (h4 : alp V0 = m ((c : Thread nD τ).loc main_arg4)) :
    (dats m 0 c).arrAt 6 cfg0.N = result (mn V0) (m ((c : Thread nD τ).loc main_arg5)) := by
  refine (dats m 0 c).arrAt_eq_of_covers 6 _ (by decide +kernel) fun t hf y => ?_
  blk_simp
  rw [after_6]
  have D : Cert.Equal.Blocks V0 (grid0.coords t 0).val (grid0.coords t 1).val (grid0.coords t 2).val (iblk m c 0 t) (iblk m c 1 t) (iblk m c 2 t) (iblk m c 3 t) := by
    refine ⟨fun a d r e hr he => ?_, fun j d r e hr he => ?_, fun j d r e hr he => ?_, fun p r j n hn => ?_⟩
    · rw [h0]; exact blk_0 m c t a d r e hr he
    · rw [h1]; exact blk_1 m c t j d r e hr he
    · rw [h2]; exact blk_2 m c t j d r e hr he
    · rw [h3]; exact (blk_3 m c t p r j n hn).trans ((tile_at _ _ _ n r j).trans (by rw [word_at, tileTaken_at]; rfl))
  have hy0 : (y 0).val < 384 := (y 0).isLt
  have hy1 : (y 1).val < 256 := (y 1).isLt
  have c0 : (grid0.coords t 0).val < 2 := (grid0.coords t 0).isLt
  have c1 : (grid0.coords t 1).val < 8 := (grid0.coords t 1).isLt
  have c2 : (grid0.coords t 2).val < 11 := (grid0.coords t 2).isLt
  have key := Cert.Equal.block H (grid0.coords t 0) (grid0.coords t 1) (grid0.coords t 2) D (iblk m c 5 t) (m ((c : Thread nD τ).loc main_arg5)) (blk_5 m c t)
    ⟨(y 0).val, hy0⟩ ⟨(y 1).val, hy1⟩ ⟨(grid0.coords t 0).val * 4224 + (384 * (grid0.coords t 2).val + (y 0).val), by omega⟩ ⟨(grid0.coords t 1).val * 256 + (y 1).val, by omega⟩ rfl rfl
  rw [h4, ← blk_4 m c t] at key
  refine Eq.trans ?_ (key.trans (congrArg (result (mn V0) (m ((c : Thread nD τ).loc main_arg5))) ?_))
  · exact congrArg (oblk m c t) (ValueIdx.eq_ix2 y)
  · symm
    blk_ext [at_6]

end Cert.KernelIdeal.Attn

end
-- ==== Proof.Proper.lean ====
/-
  What the precondition says: every number of the queries, the keys, the values, the bias table and the vectors of `λ` is
  finite.
-/
module

public import proofs.«01_k».proof.Pre_finite
public import Idealize.ShloMosaic.Lib.ReduceAll
public import Idealize.ShloMosaic.Lib.Pointwise

@[expose] public section

noncomputable section

namespace Cert.Proper

open Idealize.ShloMosaic Cert.Pre_finite Cert.Pre_finite.Facts

/-- A number whose size is less than infinity is real. -/
theorem real_of (x : EReal) (h : Ideal.cmp .olt (max x (-x)) (Ideal.ofBits .f32 0x7F800000#32) = 1#1) : ∃ r : ℝ, x = (r : EReal) := by
  have t : Ideal.ofBits .f32 0x7F800000#32 = (⊤ : EReal) := by simp [Ideal.ofBits, Ideal.ieee]
  rw [t] at h
  unfold Ideal.cmp at h
  induction x with
  | bot => simp at h
  | top => simp at h
  | coe r => exact ⟨r, rfl⟩

instance : Subsingleton S_.Idx := ⟨fun a b => funext fun i => i.elim0⟩

variable [Pre_finite.Facts]

theorem all_real {s : Shape} (x : FVec Ideal s .f32) (b : S_.BroadcastsInDim s (![] : Fin 0 → Fin s.rank)) {ax : List (Fin s.rank)} (hr : s.ReducesTo ax S_) (j : S_.Idx)
    (h : Host.reduce IntOp.andi (cmpf .olt (Host.absf x) (broadcastInDim s ![] b (constant (F := Ideal) S_ .f32 0x7F800000#32))) (constantI S_ 1 1#1) hr h_S_ j = 1#1) (i : s.Idx) :
    ∃ r : ℝ, (x i : EReal) = (r : EReal) := by
  have e := Host.reduce_andi_all _ _ _ _ j h i
  exact real_of _ e

theorem all (a0 a1 a2 : FVec Ideal S8448x2048 .f32) (a3 : FVec Ideal S32x16 .f32) (a4 : FVec Ideal S4x128 .f32) (a5 : FVec Ideal S256 .f32)
    (h : fn (F := Ideal) a0 a1 a2 a3 a4 a5 = fun _ => 1#1) :
    (∀ i, ∃ r : ℝ, (a0 i : EReal) = (r : EReal)) ∧ (∀ i, ∃ r : ℝ, (a1 i : EReal) = (r : EReal)) ∧ (∀ i, ∃ r : ℝ, (a2 i : EReal) = (r : EReal))
      ∧ (∀ i, ∃ r : ℝ, (a3 i : EReal) = (r : EReal)) ∧ ∀ i, ∃ r : ℝ, (a4 i : EReal) = (r : EReal) := by
  have j : S_.Idx := fun i => i.elim0
  have e := congrFun h j
  unfold fn fn_part1 at e
  have e4 := IntOp.andi_eq_one.mp e
  have e3 := IntOp.andi_eq_one.mp e4.1
  have e2 := IntOp.andi_eq_one.mp e3.1
  have e1 := IntOp.andi_eq_one.mp e2.1
  have g0 := all_real a0 bcast_S_S8448x2048 reducesTo_S8448x2048_S_d0_1 j e1.1
  have g1 := all_real a1 bcast_S_S8448x2048 reducesTo_S8448x2048_S_d0_1 j e1.2
  have g2 := all_real a2 bcast_S_S8448x2048 reducesTo_S8448x2048_S_d0_1 j e2.2
  have g3 := all_real a3 bcast_S_S32x16 reducesTo_S32x16_S_d0_1 j e3.2
  have g4 := all_real a4 bcast_S_S4x128 reducesTo_S4x128_S_d0_1 j e4.2
  exact ⟨g0, g1, g2, g3, g4⟩

end Cert.Proper

end
-- ==== Proof.Product.lean ====
/-
  The product of a row and a column, which the matrix products are stated with.
-/
module

public import Idealize.ShloMosaic.Lib.Pointwise

@[expose] public section

noncomputable section

namespace Cert.Product

/-- A row times a column. -/
def dot {n : ℕ} (x w : Fin n → EReal) : EReal := ∑ k, x k * w k

theorem dot_congr {n : ℕ} {x y w v : Fin n → EReal} (h : ∀ k, x k = y k) (h' : ∀ k, w k = v k) : dot x w = dot y v :=
  Finset.sum_congr rfl fun k _ => congrArg₂ (fun a b : EReal => a * b) (h k) (h' k)

/-- The first `j` terms of a row times a column. -/
def upto {n : ℕ} (x w : Fin n → EReal) (j : ℕ) : EReal := ∑ k ∈ Finset.range j, if h : k < n then x ⟨k, h⟩ * w ⟨k, h⟩ else 0

theorem upto_zero {n : ℕ} (x w : Fin n → EReal) : upto x w 0 = 0 := Finset.sum_range_zero _

/-- All the terms are the product. -/
theorem upto_all {n : ℕ} (x w : Fin n → EReal) : upto x w n = dot x w := by
  unfold upto dot
  rw [Finset.sum_range]
  exact Finset.sum_congr rfl fun k _ => dif_pos k.isLt

/-- A block of `b` terms more. -/
theorem upto_add {n b j : ℕ} (x w : Fin n → EReal) (y v : Fin b → EReal) (hj : j + b ≤ n)
    (hy : ∀ k : Fin b, y k = x ⟨j + k.val, by omega⟩) (hv : ∀ k : Fin b, v k = w ⟨j + k.val, by omega⟩) :
    upto x w (j + b) = upto x w j + dot y v := by
  unfold upto dot
  rw [Finset.sum_range_add, Finset.sum_range (n := b)]
  refine congrArg (_ + ·) (Finset.sum_congr rfl fun k _ => ?_)
  rw [dif_pos (show j + k.val < n by omega), hy, hv]

/-- The square of the positive part. -/
def relu2 (x : EReal) : EReal := max x 0 * max x 0

end Cert.Product

end
-- ==== Proof.Up.lean ====
/-
  The feed-forward network's first product: the weights wait in a scratch that is filled once for each column of blocks, and
  each block of the result is the squared positive part of a product of rows with that scratch.
-/
module

public import proofs.«01_k».proof.Proof.Gen.KernelUpIdeal.Value
public import proofs.«01_k».proof.Proof.Gen.ReferenceUpIdeal.Run
public import proofs.«01_k».proof.Proof.Product
public import Idealize.ShloMosaic.Lib.StableHlo.ReadAt
public import Idealize.ShloMosaic.Lib.Tactic.CleanTypes
public import Idealize.ShloMosaic.Lib.Pipeline.ValueKit
public import Idealize.ShloMosaic.Lib.Pipeline.ReadBack

@[expose] public section

set_option maxRecDepth 8192
set_option maxHeartbeats 1000000

noncomputable section

/-! ## The reference at one place -/

namespace Cert.ReferenceUpIdeal.Value

open Cert.Product
open Cert.ReferenceUpIdeal Cert.ReferenceUpIdeal.Gen Idealize.ShloMosaic

/-- What the reference computes. -/
def up (h : FVec Ideal S8704x2048 .f32) (w : FVec Ideal S4x2048x8192 .f32) : FVec Ideal S8704x8192 .bf16 :=
  truncf .bf16 (mulf (maximumf (Host.dotGeneral dot_S8704x2048_S2048x8192_S8704x8192_1_0_0_1_n_n none h (shapeCast _ (extractStridedSlice S1x2048x8192 ![0, 0, 0] w slices_S4x2048x8192_S1x2048x8192_0_0_0) shapeCasts_S1x2048x8192_S2048x8192)) (broadcastInDim S8704x8192 ![] bcast_S_S8704x8192 (constant S_ .f32 0x00000000#32))) (maximumf (Host.dotGeneral dot_S8704x2048_S2048x8192_S8704x8192_1_0_0_1_n_n none h (shapeCast _ (extractStridedSlice S1x2048x8192 ![0, 0, 0] w slices_S4x2048x8192_S1x2048x8192_0_0_0) shapeCasts_S1x2048x8192_S2048x8192)) (broadcastInDim S8704x8192 ![] bcast_S_S8704x8192 (constant S_ .f32 0x00000000#32)))) bitsLt_bf16_f32

/-- One place of it. -/
theorem up_at (h : FVec Ideal S8704x2048 .f32) (w : FVec Ideal S4x2048x8192 .f32) (r : Fin 8704) (n : Fin 8192) :
    (up h w (ix2 r n) : EReal) = relu2 (dot (fun k : Fin 2048 => h (ix2 r k)) fun k => w (ix3 0 k n)) := by
  unfold up relu2 dot
  pointwise

end Cert.ReferenceUpIdeal.Value

/-! ## The kernel -/

namespace Cert.KernelUpIdeal.Value

open Cert.Product
open Cert.ReferenceUpIdeal.Value (up up_at)
open Cert.KernelUpIdeal Cert.KernelUpIdeal.Gen
open Idealize.ShloMosaic Idealize.ShloMosaic.TcCoe Idealize.SL.Sem

variable (m : (ℓ : Loc nD τ sig) → Buf (Elt Ideal) ℓ) (c : Dev nD)

theorem at_0 : ∀ t : Fin cfg0.N, win0_0.index t = ![t.val % 8, 0] :=
  (by decide +kernel : ∀ t : Fin grid0.N, _)
theorem at_1 : ∀ t : Fin cfg0.N, win0_1.index t = ![0, 0, t.val / 8] :=
  (by decide +kernel : ∀ t : Fin grid0.N, _)
theorem at_2 : ∀ t : Fin cfg0.N, win0_2.index t = ![t.val % 8, t.val / 8] :=
  (by decide +kernel : ∀ t : Fin grid0.N, _)

theorem V_rows : V m c main_v0 = (m ((c : Thread nD τ).loc main_arg0) : FVec Ideal S8704x2048 .f32) := by
  unfold V
  after_reads_simp
  rfl

theorem rows_at (t : Fin cfg0.N) (a : Fin 1088) (k : Fin 2048) (r : Fin 8704) (hr : r.val = t.val % 8 * 1088 + a.val) :
    (iblk m c 0 t (ix2 a k) : EReal) = m ((c : Thread nD τ).loc main_arg0) (ix2 r k) := by
  blk_simp [iblk]
  rw [V_rows]
  refine congrArg (m ((c : Thread nD τ).loc main_arg0)) ?_
  blk_ext [at_0]

theorem weights_at (t : Fin cfg0.N) (k : Fin 2048) (b : Fin 1024) (n : Fin 8192) (hn : n.val = t.val / 8 * 1024 + b.val) :
    (iblk m c 1 t (ix3 0 k b) : EReal) = m ((c : Thread nD τ).loc main_arg1) (ix3 0 k n) := by
  blk_simp [iblk]
  rw [V_main_arg1]
  refine congrArg (m ((c : Thread nD τ).loc main_arg1)) ?_
  blk_ext [at_1]

/-- What the scratch is filled with. -/
theorem fill_at (x : Vec Ideal S1x2048x1024 .f32) (k : Fin 2048) (b : Fin 1024) : (k0_pay1 x (ix2 k b) : EReal) = x (ix3 0 k b) := by
  unfold k0_pay1
  pointwise

/-- One place of a block of the result. -/
theorem pay_at (x : Vec Ideal S1088x2048 .bf16) (w : Vec Ideal S2048x1024 .bf16) (a : Fin 1088) (b : Fin 1024) :
    (k0_pay2 x w (ix2 a b) : EReal) = relu2 (dot (fun k : Fin 2048 => x (ix2 a k)) fun k => w (ix2 k b)) := by
  unfold k0_pay2 relu2 dot
  pointwise

/-- The scratch after a point holds the weights of the point's column of blocks. -/
theorem scratch_at (n : ℕ) (hn : n < cfg0.N) (k : Fin 2048) (b : Fin 1024) (w : Fin 8192) (hw : w.val = n / 8 * 1024 + b.val) :
    ((outsAt0 m c n hn).2 (ix2 k b) : EReal) = m ((c : Thread nD τ).loc main_arg1) (ix3 0 k w) := by
  induction n generalizing w with
  | zero =>
    have e := outsAt0_A m c ⟨0, hn⟩ (Nat.zero_mod _)
    rw [show outsAt0 m c 0 hn = _ from e]
    frame_out
    rw [fill_at]
    exact weights_at m c ⟨0, hn⟩ k b w hw
  | succ n ih =>
    by_cases h0 : (n + 1) % 8 = 0
    · rw [show outsAt0 m c (n + 1) hn = _ from outsAt0_A m c ⟨n + 1, hn⟩ h0]
      frame_out
      rw [fill_at]
      exact weights_at m c ⟨n + 1, hn⟩ k b w hw
    · rw [show outsAt0 m c (n + 1) hn = _ from outsAt0_B m c ⟨n + 1, hn⟩ h0]
      exact ih (Nat.lt_of_succ_lt hn) w (by omega)

/-- A block's place, from the rows and from weights that agree with the array's. -/
theorem block_at (t : Fin cfg0.N) (a : Fin 1088) (b : Fin 1024) (r : Fin 8704) (n : Fin 8192) (hr : r.val = t.val % 8 * 1088 + a.val)
    (w : Vec Ideal S2048x1024 .bf16) (hw : ∀ k : Fin 2048, (w (ix2 k b) : EReal) = m ((c : Thread nD τ).loc main_arg1) (ix3 0 k n)) :
    (k0_pay2 (iblk m c 0 t) w (ix2 a b) : EReal) = up (m ((c : Thread nD τ).loc main_arg0)) (m ((c : Thread nD τ).loc main_arg1)) (ix2 r n) := by
  rw [up_at, pay_at]
  exact congrArg relu2 (dot_congr (fun k => rows_at m c t a k r hr) hw)

/-- What a point leaves in the result's block. -/
theorem out_at (t : Fin cfg0.N) (a : Fin 1088) (b : Fin 1024) (r : Fin 8704) (n : Fin 8192) (hr : r.val = t.val % 8 * 1088 + a.val)
    (hn : n.val = t.val / 8 * 1024 + b.val) :
    ((outsAt0 m c t.val t.isLt).1 (ix2 a b) : EReal) = up (m ((c : Thread nD τ).loc main_arg0)) (m ((c : Thread nD τ).loc main_arg1)) (ix2 r n) := by
  by_cases h0 : t.val % 8 = 0
  · rw [outsAt0_A m c t h0]
    frame_out
    exact block_at m c t a b r n hr _ fun k => (fill_at _ k b).trans (weights_at m c t k b n hn)
  · rw [outsAt0_B m c t h0]
    frame_out
    simp only [read_unread_whole]
    exact block_at m c t a b r n hr _ fun k => scratch_at m c _ _ k b n (by omega)

/-- The result array is the reference's. -/
theorem final_up : (dats m 0 c).arrAt 2 cfg0.N
    = up (m ((c : Thread nD τ).loc main_arg0)) (m ((c : Thread nD τ).loc main_arg1)) := by
  refine (dats m 0 c).arrAt_eq_of_covers 2 _ (by decide +kernel) fun t hf y => ?_
  blk_simp
  rw [after0_2]
  have ht : t.val < 64 := lt_of_lt_of_eq t.isLt N_0
  have h0 : (y 0).val < 1088 := (y 0).isLt
  have h1 : (y 1).val < 1024 := (y 1).isLt
  have e := out_at m c t ⟨(y 0).val, h0⟩ ⟨(y 1).val, h1⟩ ⟨t.val % 8 * 1088 + (y 0).val, by omega⟩ ⟨t.val / 8 * 1024 + (y 1).val, by omega⟩ rfl rfl
  refine Eq.trans ?_ (e.trans ?_)
  · refine congrArg (outsAt0 m c t.val t.isLt).1 ?_
    blk_ext []
  · refine congrArg (up (m ((c : Thread nD τ).loc main_arg0)) (m ((c : Thread nD τ).loc main_arg1))) ?_
    blk_ext [at_2]

end Cert.KernelUpIdeal.Value

end
-- ==== Proof.Down.lean ====
/-
  The feed-forward network's second product: an accumulator starts from zero, takes four blocks of terms, and the last point
  adds the layer's input and writes the block.
-/
module

public import proofs.«01_k».proof.Proof.Gen.KernelDownIdeal.Value
public import proofs.«01_k».proof.Proof.Gen.ReferenceDownIdeal.Run
public import proofs.«01_k».proof.Proof.Product
public import Idealize.ShloMosaic.Lib.StableHlo.ReadAt
public import Idealize.ShloMosaic.Lib.Tactic.CleanTypes
public import Idealize.ShloMosaic.Lib.Pipeline.ValueKit
public import Idealize.ShloMosaic.Lib.Pipeline.ReadBack

@[expose] public section

set_option maxRecDepth 8192
set_option maxHeartbeats 1000000

noncomputable section

/-! ## The reference at one place -/

namespace Cert.ReferenceDownIdeal.Value

open Cert.Product
open Cert.ReferenceDownIdeal Cert.ReferenceDownIdeal.Gen Idealize.ShloMosaic

/-- What the reference computes. -/
def down (h : FVec Ideal S8704x8192 .f32) (w : FVec Ideal S4x8192x2048 .f32) (x : FVec Ideal S8704x2048 .f32) : FVec Ideal S8704x2048 .f32 :=
  addf x (Host.dotGeneral dot_S8704x8192_S8192x2048_S8704x2048_1_0_0_1_n_n none h (shapeCast _ (extractStridedSlice S1x8192x2048 ![0, 0, 0] w slices_S4x8192x2048_S1x8192x2048_0_0_0) shapeCasts_S1x8192x2048_S8192x2048))

/-- One place of it. -/
theorem down_at (h : FVec Ideal S8704x8192 .f32) (w : FVec Ideal S4x8192x2048 .f32) (x : FVec Ideal S8704x2048 .f32) (r : Fin 8704) (n : Fin 2048) :
    (down h w x (ix2 r n) : EReal) = x (ix2 r n) + dot (fun k : Fin 8192 => h (ix2 r k)) fun k => w (ix3 0 k n) := by
  unfold down dot
  pointwise

end Cert.ReferenceDownIdeal.Value

/-! ## The kernel -/

namespace Cert.KernelDownIdeal.Value

open Cert.Product
open Cert.ReferenceDownIdeal.Value (down down_at)
open Cert.KernelDownIdeal Cert.KernelDownIdeal.Gen
open Idealize.ShloMosaic Idealize.ShloMosaic.TcCoe Idealize.SL.Sem

variable (m : (ℓ : Loc nD τ sig) → Buf (Elt Ideal) ℓ) (c : Dev nD)

theorem at_0 : ∀ t : Fin cfg0.N, win0_0.index t = ![t.val / 8, t.val % 4] :=
  (by decide +kernel : ∀ t : Fin grid0.N, _)
theorem at_1 : ∀ t : Fin cfg0.N, win0_1.index t = ![0, t.val % 4, t.val / 4 % 2] :=
  (by decide +kernel : ∀ t : Fin grid0.N, _)
theorem at_2 : ∀ t : Fin cfg0.N, win0_2.index t = ![t.val / 8, t.val / 4 % 2] :=
  (by decide +kernel : ∀ t : Fin grid0.N, _)
theorem at_3 : ∀ t : Fin cfg0.N, win0_3.index t = ![t.val / 8, t.val / 4 % 2] :=
  (by decide +kernel : ∀ t : Fin grid0.N, _)

theorem V_rows : V m c main_v0 = (m ((c : Thread nD τ).loc main_arg0) : FVec Ideal S8704x8192 .f32) := by
  unfold V
  after_reads_simp
  rfl

theorem V_weights : V m c main_v1 = (m ((c : Thread nD τ).loc main_arg1) : FVec Ideal S4x8192x2048 .f32) := by
  unfold V
  after_reads_simp
  rfl

theorem rows_at (t : Fin cfg0.N) (a : Fin 1088) (k : Fin 2048) (r : Fin 8704) (l : Fin 8192) (hr : r.val = t.val / 8 * 1088 + a.val)
    (hl : l.val = t.val % 4 * 2048 + k.val) : (iblk m c 0 t (ix2 a k) : EReal) = m ((c : Thread nD τ).loc main_arg0) (ix2 r l) := by
  blk_simp [iblk]
  rw [V_rows]
  refine congrArg (m ((c : Thread nD τ).loc main_arg0)) ?_
  blk_ext [at_0]

theorem weights_at (t : Fin cfg0.N) (k : Fin 2048) (b : Fin 1024) (l : Fin 8192) (n : Fin 2048) (hl : l.val = t.val % 4 * 2048 + k.val)
    (hn : n.val = t.val / 4 % 2 * 1024 + b.val) : (iblk m c 1 t (ix3 0 k b) : EReal) = m ((c : Thread nD τ).loc main_arg1) (ix3 0 l n) := by
  blk_simp [iblk]
  rw [V_weights]
  refine congrArg (m ((c : Thread nD τ).loc main_arg1)) ?_
  blk_ext [at_1]

theorem input_at (t : Fin cfg0.N) (a : Fin 1088) (b : Fin 1024) (r : Fin 8704) (n : Fin 2048) (hr : r.val = t.val / 8 * 1088 + a.val)
    (hn : n.val = t.val / 4 % 2 * 1024 + b.val) : (iblk m c 2 t (ix2 a b) : EReal) = m ((c : Thread nD τ).loc main_arg2) (ix2 r n) := by
  blk_simp [iblk]
  rw [V_main_arg2]
  refine congrArg (m ((c : Thread nD τ).loc main_arg2)) ?_
  blk_ext [at_2]

/-- The accumulator starts from zero. -/
theorem zero_at (a : Fin 1088) (b : Fin 1024) : (k0_pay1 (F := Ideal) (ix2 a b) : EReal) = 0 := by
  unfold k0_pay1
  pointwise

/-- A point adds the product of its blocks. -/
theorem add_at (acc : Vec Ideal S1088x1024 .f32) (x : Vec Ideal S1088x2048 .bf16) (w : Vec Ideal S1x2048x1024 .bf16) (a : Fin 1088) (b : Fin 1024) :
    (k0_pay2 acc x w (ix2 a b) : EReal) = acc (ix2 a b) + dot (fun k : Fin 2048 => x (ix2 a k)) fun k => w (ix3 0 k b) := by
  unfold k0_pay2 dot
  pointwise

/-- The last point adds the layer's input. -/
theorem close_at (acc x : Vec Ideal S1088x1024 .f32) (a : Fin 1088) (b : Fin 1024) :
    (k0_pay3 acc x (ix2 a b) : EReal) = acc (ix2 a b) + x (ix2 a b) := by
  unfold k0_pay3
  pointwise

/-- The first `j` terms of the product at a place. -/
def head (r : Fin 8704) (n : Fin 2048) (j : ℕ) : EReal :=
  upto (fun k : Fin 8192 => m ((c : Thread nD τ).loc main_arg0) (ix2 r k)) (fun k => m ((c : Thread nD τ).loc main_arg1) (ix3 0 k n)) j

/-- A point takes the accumulator one block of terms further. -/
theorem step_at (t : Fin cfg0.N) (acc : Vec Ideal S1088x1024 .f32) (a : Fin 1088) (b : Fin 1024) (r : Fin 8704) (n : Fin 2048)
    (hr : r.val = t.val / 8 * 1088 + a.val) (hn : n.val = t.val / 4 % 2 * 1024 + b.val)
    (hacc : (acc (ix2 a b) : EReal) = head m c r n (t.val % 4 * 2048)) :
    (k0_pay2 acc (iblk m c 0 t) (iblk m c 1 t) (ix2 a b) : EReal) = head m c r n ((t.val % 4 + 1) * 2048) := by
  rw [add_at, hacc, Nat.succ_mul]
  have ht : t.val % 4 < 4 := Nat.mod_lt _ (by norm_num)
  exact (upto_add _ _ _ _ (by omega) (fun k => rows_at m c t a k r _ hr rfl) fun k => weights_at m c t k b _ n rfl hn).symm

/-- The accumulator after a point holds the terms of the blocks met so far. -/
theorem scratch_at (q : ℕ) (hq : q < cfg0.N) (a : Fin 1088) (b : Fin 1024) (r : Fin 8704) (n : Fin 2048)
    (hr : r.val = q / 8 * 1088 + a.val) (hn : n.val = q / 4 % 2 * 1024 + b.val) :
    ((outsAt0 m c q hq).2 (ix2 a b) : EReal) = head m c r n ((q % 4 + 1) * 2048) := by
  induction q generalizing r n with
  | zero =>
    rw [show outsAt0 m c 0 hq = _ from outsAt0_A m c ⟨0, hq⟩ (Nat.zero_mod _) (Nat.zero_ne_add_one 2)]
    frame_out
    exact step_at m c ⟨0, hq⟩ _ a b r n hr hn ((zero_at a b).trans (upto_zero _ _).symm)
  | succ q ih =>
    by_cases h0 : (q + 1) % 4 = 0
    · rw [show outsAt0 m c (q + 1) hq = _ from outsAt0_A m c ⟨q + 1, hq⟩ h0 (by dsimp only; omega)]
      frame_out
      exact step_at m c ⟨q + 1, hq⟩ _ a b r n hr hn
        ((zero_at a b).trans ((upto_zero _ _).symm.trans (congrArg (head m c r n) (by dsimp only; omega))))
    · have e := (ih (Nat.lt_of_succ_lt hq) r n (by omega) (by omega)).trans
        (congrArg (head m c r n) (show (q % 4 + 1) * 2048 = (q + 1) % 4 * 2048 by omega))
      by_cases h1 : (q + 1) % 4 = 3
      · rw [show outsAt0 m c (q + 1) hq = _ from outsAt0_C m c ⟨q + 1, hq⟩ h0 h1]
        frame_out
        simp only [read_unread_whole]
        exact step_at m c ⟨q + 1, hq⟩ _ a b r n hr hn e
      · rw [show outsAt0 m c (q + 1) hq = _ from outsAt0_B m c ⟨q + 1, hq⟩ h0 h1]
        frame_out
        simp only [read_unread_whole]
        exact step_at m c ⟨q + 1, hq⟩ _ a b r n hr hn e

/-- What the last point of a block leaves in it. -/
theorem out_at (t : Fin cfg0.N) (h1 : t.val % 4 = 3) (a : Fin 1088) (b : Fin 1024) (r : Fin 8704) (n : Fin 2048) (hr : r.val = t.val / 8 * 1088 + a.val)
    (hn : n.val = t.val / 4 % 2 * 1024 + b.val) :
    ((outsAt0 m c t.val t.isLt).1 (ix2 a b) : EReal) = down (m ((c : Thread nD τ).loc main_arg0)) (m ((c : Thread nD τ).loc main_arg1)) (m ((c : Thread nD τ).loc main_arg2)) (ix2 r n) := by
  have h0 : ¬t.val % 4 = 0 := by omega
  have e := (scratch_at m c (t.val - 1) (Nat.lt_of_le_of_lt (Nat.sub_le _ _) t.isLt) a b r n (by omega) (by omega)).trans
    (congrArg (head m c r n) (show ((t.val - 1) % 4 + 1) * 2048 = t.val % 4 * 2048 by omega))
  rw [outsAt0_C m c t h0 h1]
  frame_out
  simp only [read_unread_whole]
  rw [close_at, step_at m c t _ a b r n hr hn e, input_at m c t a b r n hr hn, down_at, h1]
  have e' : head m c r n ((3 + 1) * 2048) = dot (fun k : Fin 8192 => m ((c : Thread nD τ).loc main_arg0) (ix2 r k)) fun k => m ((c : Thread nD τ).loc main_arg1) (ix3 0 k n) := by
    rw [show (3 + 1) * 2048 = 8192 by norm_num]
    exact upto_all _ _
  rw [e', add_comm]

/-- The result array is the reference's. -/
theorem final_down : (dats m 0 c).arrAt 3 cfg0.N
    = down (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have ht : t.val < 64 := lt_of_lt_of_eq t.isLt N_0
  have h0 : (y 0).val < 1088 := (y 0).isLt
  have h1 : (y 1).val < 1024 := (y 1).isLt
  have e := out_at m c t ((flush0_3 t).mp hf) ⟨(y 0).val, h0⟩ ⟨(y 1).val, h1⟩ ⟨t.val / 8 * 1088 + (y 0).val, by omega⟩ ⟨t.val / 4 % 2 * 1024 + (y 1).val, by omega⟩ rfl rfl
  refine Eq.trans ?_ (e.trans ?_)
  · refine congrArg (outsAt0 m c t.val t.isLt).1 ?_
    blk_ext []
  · refine congrArg (down (m ((c : Thread nD τ).loc main_arg0)) (m ((c : Thread nD τ).loc main_arg1)) (m ((c : Thread nD τ).loc main_arg2))) ?_
    blk_ext [at_3]

end Cert.KernelDownIdeal.Value

end
-- ==== Proof.In.lean ====
/-
  The input projection of the attention layers: the weights wait in a scratch that is filled once for each column of blocks,
  and each block of the result is a product of rows with that scratch.
-/
module

public import proofs.«01_k».proof.Proof.Gen.KernelInIdeal.Value
public import proofs.«01_k».proof.Proof.Gen.ReferenceInIdeal.Run
public import proofs.«01_k».proof.Proof.Product
public import Idealize.ShloMosaic.Lib.StableHlo.ReadAt
public import Idealize.ShloMosaic.Lib.Tactic.CleanTypes
public import Idealize.ShloMosaic.Lib.Pipeline.ValueKit
public import Idealize.ShloMosaic.Lib.Pipeline.ReadBack

@[expose] public section

set_option maxRecDepth 8192
set_option maxHeartbeats 1000000

noncomputable section

/-! ## The reference at one place -/

namespace Cert.ReferenceInIdeal.Value

open Cert.Product
open Cert.ReferenceInIdeal Cert.ReferenceInIdeal.Gen Idealize.ShloMosaic

/-- What the reference computes. -/
def proj (h : FVec Ideal S8704x2048 .f32) (w : FVec Ideal S2x2048x6144 .f32) : FVec Ideal S8704x6144 .f32 :=
  Host.dotGeneral dot_S8704x2048_S2048x6144_S8704x6144_1_0_0_1_n_n none h (shapeCast _ (extractStridedSlice S1x2048x6144 ![0, 0, 0] w slices_S2x2048x6144_S1x2048x6144_0_0_0) shapeCasts_S1x2048x6144_S2048x6144)

/-- One place of it. -/
theorem proj_at (h : FVec Ideal S8704x2048 .f32) (w : FVec Ideal S2x2048x6144 .f32) (r : Fin 8704) (n : Fin 6144) :
    (proj h w (ix2 r n) : EReal) = dot (fun k : Fin 2048 => h (ix2 r k)) fun k => w (ix3 0 k n) := by
  unfold proj dot
  pointwise

end Cert.ReferenceInIdeal.Value

/-! ## The kernel -/

namespace Cert.KernelInIdeal.Value

open Cert.Product
open Cert.ReferenceInIdeal.Value (proj proj_at)
open Cert.KernelInIdeal Cert.KernelInIdeal.Gen
open Idealize.ShloMosaic Idealize.ShloMosaic.TcCoe Idealize.SL.Sem

variable (m : (ℓ : Loc nD τ sig) → Buf (Elt Ideal) ℓ) (c : Dev nD)

theorem at_0 : ∀ t : Fin cfg0.N, win0_0.index t = ![t.val % 8, 0] :=
  (by decide +kernel : ∀ t : Fin grid0.N, _)
theorem at_1 : ∀ t : Fin cfg0.N, win0_1.index t = ![0, 0, t.val / 8] :=
  (by decide +kernel : ∀ t : Fin grid0.N, _)
theorem at_2 : ∀ t : Fin cfg0.N, win0_2.index t = ![t.val % 8, t.val / 8] :=
  (by decide +kernel : ∀ t : Fin grid0.N, _)

theorem V_rows : V m c main_v0 = (m ((c : Thread nD τ).loc main_arg0) : FVec Ideal S8704x2048 .f32) := by
  unfold V
  after_reads_simp
  rfl

theorem rows_at (t : Fin cfg0.N) (a : Fin 1088) (k : Fin 2048) (r : Fin 8704) (hr : r.val = t.val % 8 * 1088 + a.val) :
    (iblk m c 0 t (ix2 a k) : EReal) = m ((c : Thread nD τ).loc main_arg0) (ix2 r k) := by
  blk_simp [iblk]
  rw [V_rows]
  refine congrArg (m ((c : Thread nD τ).loc main_arg0)) ?_
  blk_ext [at_0]

theorem weights_at (t : Fin cfg0.N) (k : Fin 2048) (b : Fin 1024) (n : Fin 6144) (hn : n.val = t.val / 8 * 1024 + b.val) :
    (iblk m c 1 t (ix3 0 k b) : EReal) = m ((c : Thread nD τ).loc main_arg1) (ix3 0 k n) := by
  blk_simp [iblk]
  rw [V_main_arg1]
  refine congrArg (m ((c : Thread nD τ).loc main_arg1)) ?_
  blk_ext [at_1]

/-- What the scratch is filled with. -/
theorem fill_at (x : Vec Ideal S1x2048x1024 .f32) (k : Fin 2048) (b : Fin 1024) : (k0_pay1 x (ix2 k b) : EReal) = x (ix3 0 k b) := by
  unfold k0_pay1
  pointwise

/-- One place of a block of the result. -/
theorem pay_at (x : Vec Ideal S1088x2048 .bf16) (w : Vec Ideal S2048x1024 .bf16) (a : Fin 1088) (b : Fin 1024) :
    (k0_pay2 x w (ix2 a b) : EReal) = dot (fun k : Fin 2048 => x (ix2 a k)) fun k => w (ix2 k b) := by
  unfold k0_pay2 dot
  pointwise

/-- The scratch after a point holds the weights of the point's column of blocks. -/
theorem scratch_at (n : ℕ) (hn : n < cfg0.N) (k : Fin 2048) (b : Fin 1024) (w : Fin 6144) (hw : w.val = n / 8 * 1024 + b.val) :
    ((outsAt0 m c n hn).2 (ix2 k b) : EReal) = m ((c : Thread nD τ).loc main_arg1) (ix3 0 k w) := by
  induction n generalizing w with
  | zero =>
    have e := outsAt0_A m c ⟨0, hn⟩ (Nat.zero_mod _)
    rw [show outsAt0 m c 0 hn = _ from e]
    frame_out
    rw [fill_at]
    exact weights_at m c ⟨0, hn⟩ k b w hw
  | succ n ih =>
    by_cases h0 : (n + 1) % 8 = 0
    · rw [show outsAt0 m c (n + 1) hn = _ from outsAt0_A m c ⟨n + 1, hn⟩ h0]
      frame_out
      rw [fill_at]
      exact weights_at m c ⟨n + 1, hn⟩ k b w hw
    · rw [show outsAt0 m c (n + 1) hn = _ from outsAt0_B m c ⟨n + 1, hn⟩ h0]
      exact ih (Nat.lt_of_succ_lt hn) w (by omega)

/-- A block's place, from the rows and from weights that agree with the array's. -/
theorem block_at (t : Fin cfg0.N) (a : Fin 1088) (b : Fin 1024) (r : Fin 8704) (n : Fin 6144) (hr : r.val = t.val % 8 * 1088 + a.val)
    (w : Vec Ideal S2048x1024 .bf16) (hw : ∀ k : Fin 2048, (w (ix2 k b) : EReal) = m ((c : Thread nD τ).loc main_arg1) (ix3 0 k n)) :
    (k0_pay2 (iblk m c 0 t) w (ix2 a b) : EReal) = proj (m ((c : Thread nD τ).loc main_arg0)) (m ((c : Thread nD τ).loc main_arg1)) (ix2 r n) := by
  rw [proj_at, pay_at]
  exact dot_congr (fun k => rows_at m c t a k r hr) hw

/-- What a point leaves in the result's block. -/
theorem out_at (t : Fin cfg0.N) (a : Fin 1088) (b : Fin 1024) (r : Fin 8704) (n : Fin 6144) (hr : r.val = t.val % 8 * 1088 + a.val)
    (hn : n.val = t.val / 8 * 1024 + b.val) :
    ((outsAt0 m c t.val t.isLt).1 (ix2 a b) : EReal) = proj (m ((c : Thread nD τ).loc main_arg0)) (m ((c : Thread nD τ).loc main_arg1)) (ix2 r n) := by
  by_cases h0 : t.val % 8 = 0
  · rw [outsAt0_A m c t h0]
    frame_out
    exact block_at m c t a b r n hr _ fun k => (fill_at _ k b).trans (weights_at m c t k b n hn)
  · rw [outsAt0_B m c t h0]
    frame_out
    simp only [read_unread_whole]
    exact block_at m c t a b r n hr _ fun k => scratch_at m c _ _ k b n (by omega)

/-- The result array is the reference's. -/
theorem final_proj : (dats m 0 c).arrAt 2 cfg0.N
    = proj (m ((c : Thread nD τ).loc main_arg0)) (m ((c : Thread nD τ).loc main_arg1)) := by
  refine (dats m 0 c).arrAt_eq_of_covers 2 _ (by decide +kernel) fun t hf y => ?_
  blk_simp
  rw [after0_2]
  have ht : t.val < 48 := lt_of_lt_of_eq t.isLt N_0
  have h0 : (y 0).val < 1088 := (y 0).isLt
  have h1 : (y 1).val < 1024 := (y 1).isLt
  have e := out_at m c t ⟨(y 0).val, h0⟩ ⟨(y 1).val, h1⟩ ⟨t.val % 8 * 1088 + (y 0).val, by omega⟩ ⟨t.val / 8 * 1024 + (y 1).val, by omega⟩ rfl rfl
  refine Eq.trans ?_ (e.trans ?_)
  · refine congrArg (outsAt0 m c t.val t.isLt).1 ?_
    blk_ext []
  · refine congrArg (proj (m ((c : Thread nD τ).loc main_arg0)) (m ((c : Thread nD τ).loc main_arg1))) ?_
    blk_ext [at_2]

end Cert.KernelInIdeal.Value

end
-- ==== Proof.Out.lean ====
/-
  The output projection of the attention layers: each block of the result is the layer's input plus a product of rows with
  the weights.
-/
module

public import proofs.«01_k».proof.Proof.Gen.KernelOutIdeal.Value
public import proofs.«01_k».proof.Proof.Gen.ReferenceOutIdeal.Run
public import proofs.«01_k».proof.Proof.Product
public import Idealize.ShloMosaic.Lib.StableHlo.ReadAt
public import Idealize.ShloMosaic.Lib.Tactic.CleanTypes
public import Idealize.ShloMosaic.Lib.Pipeline.ValueKit
public import Idealize.ShloMosaic.Lib.Pipeline.ReadBack

@[expose] public section

set_option maxRecDepth 8192
set_option maxHeartbeats 1000000

noncomputable section

/-! ## The reference at one place -/

namespace Cert.ReferenceOutIdeal.Value

open Cert.Product
open Cert.ReferenceOutIdeal Cert.ReferenceOutIdeal.Gen Idealize.ShloMosaic

/-- What the reference computes. -/
def outProj (h : FVec Ideal S8704x2048 .f32) (w : FVec Ideal S2x2048x2048 .f32) (x : FVec Ideal S8704x2048 .f32) : FVec Ideal S8704x2048 .f32 :=
  addf x (Host.dotGeneral dot_S8704x2048_S2048x2048_S8704x2048_1_0_0_1_n_n none h (shapeCast _ (extractStridedSlice S1x2048x2048 ![0, 0, 0] w slices_S2x2048x2048_S1x2048x2048_0_0_0) shapeCasts_S1x2048x2048_S2048x2048))

/-- One place of it. -/
theorem outProj_at (h : FVec Ideal S8704x2048 .f32) (w : FVec Ideal S2x2048x2048 .f32) (x : FVec Ideal S8704x2048 .f32) (r : Fin 8704) (n : Fin 2048) :
    (outProj h w x (ix2 r n) : EReal) = x (ix2 r n) + dot (fun k : Fin 2048 => h (ix2 r k)) fun k => w (ix3 0 k n) := by
  unfold outProj dot
  pointwise

end Cert.ReferenceOutIdeal.Value

/-! ## The kernel -/

namespace Cert.KernelOutIdeal.Value

open Cert.Product
open Cert.ReferenceOutIdeal.Value (outProj outProj_at)
open Cert.KernelOutIdeal Cert.KernelOutIdeal.Gen
open Idealize.ShloMosaic Idealize.ShloMosaic.TcCoe Idealize.SL.Sem

variable (m : (ℓ : Loc nD τ sig) → Buf (Elt Ideal) ℓ) (c : Dev nD)

theorem at_0 : ∀ t : Fin cfg0.N, win0_0.index t = ![t.val / 2, 0] :=
  (by decide +kernel : ∀ t : Fin grid0.N, _)
theorem at_1 : ∀ t : Fin cfg0.N, win0_1.index t = ![0, 0, t.val % 2] :=
  (by decide +kernel : ∀ t : Fin grid0.N, _)
theorem at_2 : ∀ t : Fin cfg0.N, win0_2.index t = ![t.val / 2, t.val % 2] :=
  (by decide +kernel : ∀ t : Fin grid0.N, _)
theorem at_3 : ∀ t : Fin cfg0.N, win0_3.index t = ![t.val / 2, t.val % 2] :=
  (by decide +kernel : ∀ t : Fin grid0.N, _)

theorem V_rows : V m c main_v0 = (m ((c : Thread nD τ).loc main_arg0) : FVec Ideal S8704x2048 .f32) := by
  unfold V
  after_reads_simp
  rfl

theorem V_weights : V m c main_v1 = (m ((c : Thread nD τ).loc main_arg1) : FVec Ideal S2x2048x2048 .f32) := by
  unfold V
  after_reads_simp
  rfl

theorem rows_at (t : Fin cfg0.N) (a : Fin 1088) (k : Fin 2048) (r : Fin 8704) (l : Fin 2048) (hr : r.val = t.val / 2 * 1088 + a.val)
    (hl : l.val = 0 * 2048 + k.val) : (iblk m c 0 t (ix2 a k) : EReal) = m ((c : Thread nD τ).loc main_arg0) (ix2 r l) := by
  blk_simp [iblk]
  rw [V_rows]
  refine congrArg (m ((c : Thread nD τ).loc main_arg0)) ?_
  blk_ext [at_0]

theorem weights_at (t : Fin cfg0.N) (k : Fin 2048) (b : Fin 1024) (l : Fin 2048) (n : Fin 2048) (hl : l.val = 0 * 2048 + k.val)
    (hn : n.val = t.val % 2 * 1024 + b.val) : (iblk m c 1 t (ix3 0 k b) : EReal) = m ((c : Thread nD τ).loc main_arg1) (ix3 0 l n) := by
  blk_simp [iblk]
  rw [V_weights]
  refine congrArg (m ((c : Thread nD τ).loc main_arg1)) ?_
  blk_ext [at_1]

theorem input_at (t : Fin cfg0.N) (a : Fin 1088) (b : Fin 1024) (r : Fin 8704) (n : Fin 2048) (hr : r.val = t.val / 2 * 1088 + a.val)
    (hn : n.val = t.val % 2 * 1024 + b.val) : (iblk m c 2 t (ix2 a b) : EReal) = m ((c : Thread nD τ).loc main_arg2) (ix2 r n) := by
  blk_simp [iblk]
  rw [V_main_arg2]
  refine congrArg (m ((c : Thread nD τ).loc main_arg2)) ?_
  blk_ext [at_2]

/-- The accumulator starts from zero. -/
theorem zero_at (a : Fin 1088) (b : Fin 1024) : (k0_pay1 (F := Ideal) (ix2 a b) : EReal) = 0 := by
  unfold k0_pay1
  pointwise

/-- A point adds the product of its blocks. -/
theorem add_at (acc : Vec Ideal S1088x1024 .f32) (x : Vec Ideal S1088x2048 .bf16) (w : Vec Ideal S1x2048x1024 .bf16) (a : Fin 1088) (b : Fin 1024) :
    (k0_pay2 acc x w (ix2 a b) : EReal) = acc (ix2 a b) + dot (fun k : Fin 2048 => x (ix2 a k)) fun k => w (ix3 0 k b) := by
  unfold k0_pay2 dot
  pointwise

/-- The last point adds the layer's input. -/
theorem close_at (acc x : Vec Ideal S1088x1024 .f32) (a : Fin 1088) (b : Fin 1024) :
    (k0_pay3 acc x (ix2 a b) : EReal) = acc (ix2 a b) + x (ix2 a b) := by
  unfold k0_pay3
  pointwise

/-- What a point leaves in the result's block. -/
theorem out_at (t : Fin cfg0.N) (a : Fin 1088) (b : Fin 1024) (r : Fin 8704) (n : Fin 2048) (hr : r.val = t.val / 2 * 1088 + a.val)
    (hn : n.val = t.val % 2 * 1024 + b.val) :
    (outsAt0 m c t (ix2 a b) : EReal) = outProj (m ((c : Thread nD τ).loc main_arg0)) (m ((c : Thread nD τ).loc main_arg1)) (m ((c : Thread nD τ).loc main_arg2)) (ix2 r n) := by
  unfold outsAt0
  frame_out
  rw [close_at, add_at, zero_at, zero_add, input_at m c t a b r n hr hn, outProj_at,
    dot_congr (fun k => rows_at m c t a k r k hr (by omega)) fun k => weights_at m c t k b k n (by omega) hn, add_comm]

/-- The result array is the reference's. -/
theorem final_outProj : (dats m 0 c).arrAt 3 cfg0.N
    = outProj (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have ht : t.val < 16 := lt_of_lt_of_eq t.isLt N_0
  have h0 : (y 0).val < 1088 := (y 0).isLt
  have h1 : (y 1).val < 1024 := (y 1).isLt
  have e := out_at m c t ⟨(y 0).val, h0⟩ ⟨(y 1).val, h1⟩ ⟨t.val / 2 * 1088 + (y 0).val, by omega⟩ ⟨t.val % 2 * 1024 + (y 1).val, by omega⟩ rfl rfl
  refine Eq.trans ?_ (e.trans ?_)
  · refine congrArg (outsAt0 m c t) ?_
    blk_ext []
  · refine congrArg (outProj (m ((c : Thread nD τ).loc main_arg0)) (m ((c : Thread nD τ).loc main_arg1)) (m ((c : Thread nD τ).loc main_arg2))) ?_
    blk_ext [at_3]

end Cert.KernelOutIdeal.Value

end
-- ==== Proof.InB.lean ====
/-
  The projection into the indexed sparse attention: the weights are padded to a multiple of the block's columns, and each block
  of the result is a product of rows with the padded weights. The columns of the padding are zeros.
-/
module

public import proofs.«01_k».proof.Proof.Gen.KernelInBIdeal.Value
public import proofs.«01_k».proof.Proof.Gen.ReferenceInBIdeal.Run
public import proofs.«01_k».proof.Proof.Product
public import Idealize.ShloMosaic.Lib.StableHlo.ReadAt
public import Idealize.ShloMosaic.Lib.Tactic.CleanTypes
public import Idealize.ShloMosaic.Lib.Pipeline.ValueKit
public import Idealize.ShloMosaic.Lib.Pipeline.ReadBack

@[expose] public section

set_option maxRecDepth 8192
set_option maxHeartbeats 1000000

noncomputable section

/-! ## The reference at one place -/

namespace Cert.ReferenceInBIdeal.Value

open Cert.Product
open Cert.ReferenceInBIdeal Cert.ReferenceInBIdeal.Gen Idealize.ShloMosaic

/-- The padding is zero. -/
theorem fill : (FloatOps.sitofp (F := Ideal) FTy.f32 (0#32) : EReal) = 0 := by
  show (((0#32 : BitVec 32).toInt : ℝ) : EReal) = 0
  simp

/-- What the reference computes. -/
def projB (h : FVec Ideal S8704x2048 .f32) (w : FVec Ideal S2x2048x5264 .f32) : FVec Ideal S8704x5376 .f32 :=
  pad S8704x5376 ![0, 0] ![0, 112] ![0, 0] (Host.dotGeneral dot_S8704x2048_S2048x5264_S8704x5264_1_0_0_1_n_n none h (shapeCast _ (extractStridedSlice S1x2048x5264 ![0, 0, 0] w slices_S2x2048x5264_S1x2048x5264_0_0_0) shapeCasts_S1x2048x5264_S2048x5264)) (sitofp .f32 (constantI S_ 32 0#32)) pads_S8704x5264_S8704x5376_000_01120 h_S_

/-- A place in a column of the weights. -/
theorem projB_at (h : FVec Ideal S8704x2048 .f32) (w : FVec Ideal S2x2048x5264 .f32) (r : Fin 8704) (n : Fin 5376) (hn : n.val < 5264) :
    (projB h w (ix2 r n) : EReal) = dot (fun k : Fin 2048 => h (ix2 r k)) fun k => w (ix3 0 k ⟨n.val, hn⟩) := by
  unfold projB dot
  pointwise
  simp [hn]

/-- A place in a column of the padding. -/
theorem projB_pad (h : FVec Ideal S8704x2048 .f32) (w : FVec Ideal S2x2048x5264 .f32) (r : Fin 8704) (n : Fin 5376) (hn : ¬n.val < 5264) :
    (projB h w (ix2 r n) : EReal) = 0 := by
  unfold projB
  pointwise
  simp [hn, fill]

end Cert.ReferenceInBIdeal.Value

/-! ## The kernel -/

namespace Cert.KernelInBIdeal.Value

open Cert.Product
open Cert.ReferenceInBIdeal.Value (projB projB_at projB_pad fill)
open Cert.KernelInBIdeal Cert.KernelInBIdeal.Gen
open Idealize.ShloMosaic Idealize.ShloMosaic.TcCoe Idealize.SL.Sem

variable (m : (ℓ : Loc nD τ sig) → Buf (Elt Ideal) ℓ) (c : Dev nD)

theorem at_0 : ∀ t : Fin cfg0.N, win0_0.index t = ![t.val / 7, 0] :=
  (by decide +kernel : ∀ t : Fin grid0.N, _)
theorem at_1 : ∀ t : Fin cfg0.N, win0_1.index t = ![0, 0, t.val % 7] :=
  (by decide +kernel : ∀ t : Fin grid0.N, _)
theorem at_2 : ∀ t : Fin cfg0.N, win0_2.index t = ![t.val / 7, t.val % 7] :=
  (by decide +kernel : ∀ t : Fin grid0.N, _)

theorem V_rows : V m c main_v2 = (m ((c : Thread nD τ).loc main_arg0) : FVec Ideal S8704x2048 .f32) := by
  unfold V
  after_reads_simp
  rfl

/-- The weights with the padding. -/
def padded (w : FVec Ideal S2x2048x5264 .f32) : FVec Ideal S2x2048x5376 .f32 :=
  pad S2x2048x5376 ![0, 0, 0] ![0, 0, 112] ![0, 0, 0] w (sitofp .f32 (constantI S_ 32 0#32)) pads_S2x2048x5264_S2x2048x5376_000_000_01120 h_S_

theorem padded_at (w : FVec Ideal S2x2048x5264 .f32) (k : Fin 2048) (n : Fin 5376) (hn : n.val < 5264) :
    (padded w (ix3 0 k n) : EReal) = w (ix3 0 k ⟨n.val, hn⟩) := by
  unfold padded
  pointwise
  simp [hn]

theorem padded_pad (w : FVec Ideal S2x2048x5264 .f32) (k : Fin 2048) (n : Fin 5376) (hn : ¬n.val < 5264) :
    (padded w (ix3 0 k n) : EReal) = 0 := by
  unfold padded
  pointwise
  simp [hn, fill]

theorem V_weights : V m c main_v1 = padded (m ((c : Thread nD τ).loc main_arg1)) := by
  unfold V padded
  after_reads_simp
  rfl

theorem rows_at (t : Fin cfg0.N) (a : Fin 1088) (k : Fin 2048) (r : Fin 8704) (hr : r.val = t.val / 7 * 1088 + a.val) :
    (iblk m c 0 t (ix2 a k) : EReal) = m ((c : Thread nD τ).loc main_arg0) (ix2 r k) := by
  blk_simp [iblk]
  rw [V_rows]
  refine congrArg (m ((c : Thread nD τ).loc main_arg0)) ?_
  blk_ext [at_0]

theorem weights_at (t : Fin cfg0.N) (k : Fin 2048) (b : Fin 768) (n : Fin 5376) (hn : n.val = t.val % 7 * 768 + b.val) :
    (iblk m c 1 t (ix3 0 k b) : EReal) = padded (m ((c : Thread nD τ).loc main_arg1)) (ix3 0 k n) := by
  blk_simp [iblk]
  rw [V_weights]
  refine congrArg (padded (m ((c : Thread nD τ).loc main_arg1))) ?_
  blk_ext [at_1]

/-- The accumulator starts from zero. -/
theorem zero_at (a : Fin 1088) (b : Fin 768) : (k0_pay1 (F := Ideal) (ix2 a b) : EReal) = 0 := by
  unfold k0_pay1
  pointwise

/-- A point adds the product of its blocks. -/
theorem add_at (acc : Vec Ideal S1088x768 .f32) (x : Vec Ideal S1088x2048 .bf16) (w : Vec Ideal S1x2048x768 .bf16) (a : Fin 1088) (b : Fin 768) :
    (k0_pay2 acc x w (ix2 a b) : EReal) = acc (ix2 a b) + dot (fun k : Fin 2048 => x (ix2 a k)) fun k => w (ix3 0 k b) := by
  unfold k0_pay2 dot
  pointwise

/-- A row times a column of zeros. -/
theorem dot_zero {n : ℕ} (x w : Fin n → EReal) (h : ∀ k, w k = 0) : dot x w = 0 :=
  Finset.sum_eq_zero fun k _ => by rw [h, mul_zero]

/-- What a point leaves in the result's block. -/
theorem out_at (t : Fin cfg0.N) (a : Fin 1088) (b : Fin 768) (r : Fin 8704) (n : Fin 5376) (hr : r.val = t.val / 7 * 1088 + a.val)
    (hn : n.val = t.val % 7 * 768 + b.val) :
    (outsAt0 m c t (ix2 a b) : EReal) = projB (m ((c : Thread nD τ).loc main_arg0)) (m ((c : Thread nD τ).loc main_arg1)) (ix2 r n) := by
  unfold outsAt0
  frame_out
  rw [add_at, zero_at, zero_add, dot_congr (fun k => rows_at m c t a k r hr) fun k => weights_at m c t k b n hn]
  by_cases h : n.val < 5264
  · rw [projB_at _ _ r n h]
    exact dot_congr (fun k => rfl) fun k => padded_at _ k n h
  · rw [projB_pad _ _ r n h]
    exact dot_zero _ _ fun k => padded_pad _ k n h

/-- The result array is the reference's. -/
theorem final_projB : (dats m 0 c).arrAt 2 cfg0.N
    = projB (m ((c : Thread nD τ).loc main_arg0)) (m ((c : Thread nD τ).loc main_arg1)) := by
  refine (dats m 0 c).arrAt_eq_of_covers 2 _ (by decide +kernel) fun t hf y => ?_
  blk_simp
  rw [after0_2]
  have ht : t.val < 56 := lt_of_lt_of_eq t.isLt N_0
  have h0 : (y 0).val < 1088 := (y 0).isLt
  have h1 : (y 1).val < 768 := (y 1).isLt
  have e := out_at m c t ⟨(y 0).val, h0⟩ ⟨(y 1).val, h1⟩ ⟨t.val / 7 * 1088 + (y 0).val, by omega⟩ ⟨t.val % 7 * 768 + (y 1).val, by omega⟩ rfl rfl
  refine Eq.trans ?_ (e.trans ?_)
  · refine congrArg (outsAt0 m c t) ?_
    blk_ext []
  · refine congrArg (projB (m ((c : Thread nD τ).loc main_arg0)) (m ((c : Thread nD τ).loc main_arg1))) ?_
    blk_ext [at_2]

end Cert.KernelInBIdeal.Value

end
-- ==== Proof.Norm.lean ====
/-
  The norm before each attention and each feed-forward network: a row divided by the root of its mean square, times a gain.
-/
module

public import proofs.«01_k».proof.Proof.Gen.KernelNormIdeal.Value
public import proofs.«01_k».proof.Proof.Gen.ReferenceNormIdeal.Run
public import proofs.«01_k».proof.Proof.Product
public import Idealize.ShloMosaic.Lib.StableHlo.ReadAt
public import Idealize.ShloMosaic.Lib.Tactic.CleanTypes
public import Idealize.ShloMosaic.Lib.Pipeline.ValueKit
public import Idealize.ShloMosaic.Lib.Pipeline.ReadBack

@[expose] public section

set_option maxRecDepth 8192
set_option maxHeartbeats 1000000

noncomputable section

/-! ## The reference at one place -/

namespace Cert.ReferenceNormIdeal.Value

open Cert.ReferenceNormIdeal Cert.ReferenceNormIdeal.Gen Idealize.ShloMosaic

/-- What the reference computes. -/
def norm (x : FVec Ideal S8704x2048 .f32) (g : FVec Ideal S2048 .f32) : FVec Ideal S8704x2048 .bf16 :=
  truncf .bf16 (mulf (mulf x (broadcastInDim S8704x2048 ![0, 1] bcast_S8704x1_S8704x2048_0_1 (Host.rsqrt (addf (Host.divf (broadcastInDim S8704x1 ![0] bcast_S8704_S8704x1_0 (Host.reduceAdd (mulf x x) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 g))) bitsLt_bf16_f32

/-- An entry of a row, with its gain. -/
def entry (x : Fin 2048 → EReal) (n : Fin 2048) (g : EReal) : EReal :=
  x n * Ideal.rsqrt (Ideal.div (∑ k, x k * x k) (Ideal.ofBits .f32 0x45000000#32) + Ideal.ofBits .f32 0x358637BD#32) * g

/-- One place of it. -/
theorem norm_at (x : FVec Ideal S8704x2048 .f32) (g : FVec Ideal S2048 .f32) (r : Fin 8704) (n : Fin 2048) :
    (norm x g (ix2 r n) : EReal) = entry (fun k => x (ix2 r k)) n (g (ix1 n)) := by
  unfold norm entry
  pointwise

end Cert.ReferenceNormIdeal.Value

/-! ## The kernel -/

namespace Cert.KernelNormIdeal.Value

open Cert.ReferenceNormIdeal.Value (norm norm_at entry)
open Cert.KernelNormIdeal Cert.KernelNormIdeal.Gen
open Idealize.ShloMosaic Idealize.ShloMosaic.TcCoe Idealize.SL.Sem

variable (m : (ℓ : Loc nD τ sig) → Buf (Elt Ideal) ℓ) (c : Dev nD)

theorem at_0 : ∀ t : Fin cfg0.N, win0_0.index t = ![t.val, 0] :=
  (by decide +kernel : ∀ t : Fin grid0.N, _)
theorem at_1 : ∀ t : Fin cfg0.N, win0_1.index t = ![0, 0] :=
  (by decide +kernel : ∀ t : Fin grid0.N, _)
theorem at_2 : ∀ t : Fin cfg0.N, win0_2.index t = ![t.val, 0] :=
  (by decide +kernel : ∀ t : Fin grid0.N, _)

/-- The gain as one row. -/
def gain (g : FVec Ideal S2048 .f32) : FVec Ideal S1x2048 .f32 := shapeCast S1x2048 g shapeCasts_S2048_S1x2048

theorem gain_at (g : FVec Ideal S2048 .f32) (n : Fin 2048) : (gain g (ix2 0 n) : EReal) = g (ix1 n) := by
  unfold gain
  pointwise

theorem V_gain : V m c main_v0 = gain (m ((c : Thread nD τ).loc main_arg1)) := by
  unfold V gain
  after_reads_simp
  rfl

theorem rows_at (t : Fin cfg0.N) (a : Fin 512) (k : Fin 2048) (r : Fin 8704) (hr : r.val = t.val * 512 + a.val) :
    (iblk m c 0 t (ix2 a k) : EReal) = m ((c : Thread nD τ).loc main_arg0) (ix2 r k) := by
  blk_simp [iblk]
  rw [V_main_arg0]
  refine congrArg (m ((c : Thread nD τ).loc main_arg0)) ?_
  blk_ext [at_0]

theorem gains_at (t : Fin cfg0.N) (n : Fin 2048) :
    (iblk m c 1 t (ix2 0 n) : EReal) = m ((c : Thread nD τ).loc main_arg1) (ix1 n) := by
  blk_simp [iblk]
  rw [V_gain]
  refine Eq.trans (congrArg (gain (m ((c : Thread nD τ).loc main_arg1))) ?_) (gain_at _ n)
  blk_ext [at_1]

/-- One place of a block of the result. -/
theorem pay_at (x : Vec Ideal S512x2048 .f32) (g : Vec Ideal S1x2048 .f32) (a : Fin 512) (n : Fin 2048) :
    (k0_pay1 x g (ix2 a n) : EReal) = entry (fun k => x (ix2 a k)) n (g (ix2 0 n)) := by
  unfold k0_pay1 entry
  pointwise

/-- What a point leaves in the result's block. -/
theorem out_at (t : Fin cfg0.N) (a : Fin 512) (n : Fin 2048) (r : Fin 8704) (hr : r.val = t.val * 512 + a.val) :
    (out0_2 (iblk m c 0 t) (iblk m c 1 t) (ix2 a n) : EReal) = norm (m ((c : Thread nD τ).loc main_arg0)) (m ((c : Thread nD τ).loc main_arg1)) (ix2 r n) := by
  frame_out
  rw [pay_at, norm_at, gains_at]
  exact congrArg (fun x => entry x n _) (funext fun k => rows_at m c t a k r hr)

/-- The result array is the reference's. -/
theorem final_norm : (dats m 0 c).arrAt 2 cfg0.N
    = norm (m ((c : Thread nD τ).loc main_arg0)) (m ((c : Thread nD τ).loc main_arg1)) := by
  refine (dats m 0 c).arrAt_eq_of_covers 2 _ (by decide +kernel) fun t hf y => ?_
  blk_simp
  rw [after0_2]
  have ht : t.val < 17 := lt_of_lt_of_eq t.isLt N_0
  have h0 : (y 0).val < 512 := (y 0).isLt
  have h1 : (y 1).val < 2048 := (y 1).isLt
  have e := out_at m c t ⟨(y 0).val, h0⟩ ⟨(y 1).val, h1⟩ ⟨t.val * 512 + (y 0).val, by omega⟩ rfl
  refine Eq.trans ?_ (e.trans ?_)
  · refine congrArg (out0_2 (iblk m c 0 t) (iblk m c 1 t)) ?_
    blk_ext []
  · refine congrArg (norm (m ((c : Thread nD τ).loc main_arg0)) (m ((c : Thread nD τ).loc main_arg1))) ?_
    blk_ext [at_2]

end Cert.KernelNormIdeal.Value

end
-- ==== Proof.BiasTiles.lean ====
/-
  The tiles of the position bias: a table's row for each distance, less the row of the far distances, in the base of two.
-/
module

public import proofs.«01_k».proof.Proof.Gen.KernelBiasIdeal.Value
public import proofs.«01_k».proof.Proof.Gen.ReferenceBiasIdeal.Run
public import proofs.«01_k».proof.Proof.Gather
public import proofs.«01_k».proof.Proof.Bucket
public import Idealize.ShloMosaic.Lib.StableHlo.ReadAt
public import Idealize.ShloMosaic.Lib.Tactic.CleanTypes
public import Idealize.ShloMosaic.Lib.Pipeline.ValueKit
public import Idealize.ShloMosaic.Lib.Pipeline.ReadBack

@[expose] public section

set_option maxRecDepth 8192
set_option maxHeartbeats 1000000

noncomputable section

/-! ## The buckets are the rows of the table -/

namespace Cert.Bucket

open Idealize.ShloMosaic Idealize.ShloMosaic.StableHlo

/-- The logarithm of a distance that has no bucket of its own is neither negative nor large. -/
theorem steps {n : ℤ} (h : 16 ≤ n) (h' : n < 2 ^ 31) : ∃ f : ℕ, f < 2 ^ 30 ∧
    Ideal.fptosi 32 (Ideal.div (Ideal.log (Ideal.div ((n : ℝ) : EReal) (Ideal.ofBits .f32 0x41800000#32)))
      (Ideal.ofBits .f32 0x40051592#32) * Ideal.ofBits .f32 0x41800000#32) = BitVec.ofNat 32 f := by
  obtain ⟨L, hL, L1, L2⟩ := logScale
  have hL0 : L ≠ 0 := by linarith
  have n1 : (16 : ℝ) ≤ n := by exact_mod_cast h
  have n2 : (n : ℝ) < 2 ^ 31 := by exact_mod_cast h'
  have hp : (0 : ℝ) < n / 16 := by linarith
  have hlo : 0 ≤ Real.log (n / 16) := Real.log_nonneg (by linarith)
  have hhi := Real.log_le_sub_one_of_pos hp
  rw [sixteen, hL, Ideal.div_coe (by norm_num : (16 : ℝ) ≠ 0), ← EReal.coe_mul,
    show (n : ℝ) * (1 / 16) = (n : ℝ) / 16 by ring, Ideal.log_coe,
    if_neg (not_le.mpr hp), Ideal.div_coe hL0, ← EReal.coe_mul, ← EReal.coe_mul]
  set x : ℝ := Real.log (n / 16) * (1 / L) * 16 with hxdef
  have hx' : x = Real.log (n / 16) * 16 / L := by rw [hxdef]; ring
  have x1 : (0 : ℝ) ≤ x := by
    rw [hx']; positivity
  have x2 : x < 2 ^ 30 := by
    rw [hx', div_lt_iff₀ (by linarith)]; nlinarith
  have f1 : (0 : ℤ) ≤ ⌊x⌋ := Int.floor_nonneg.mpr x1
  have f2 : ⌊x⌋ < (2 ^ 30 : ℤ) := Int.floor_lt.mpr (by exact_mod_cast x2)
  refine ⟨⌊x⌋.toNat, by omega, ?_⟩
  unfold Ideal.fptosi
  rw [Ideal.toIntClamped_coe, if_pos x1]
  have e : max (-((2 ^ (32 - 1) : ℕ) : ℤ)) (min (((2 ^ (32 - 1) : ℕ) : ℤ) - 1) ⌊x⌋) = ((⌊x⌋.toNat : ℕ) : ℤ) := by
    norm_num
    omega
  rw [e]
  exact BitVec.ofInt_natCast ..

theorem zero_le_dist (w : BitVec 32) : 0 ≤ (dist w).toInt := by
  unfold dist IntOp.maxsi
  split_ifs with h
  · simp only [BitVec.slt, show (0#32 : BitVec 32).toInt = 0 from rfl, decide_eq_true_eq] at h
    omega
  · decide

theorem far_lt (w : BitVec 32) (h : 16 ≤ (dist w).toInt) : ∃ k : ℕ, k < 32 ∧ far w = BitVec.ofNat 32 k := by
  have hd : IntOp.maxsi (dist w) 1#32 = dist w := by
    unfold IntOp.maxsi
    rw [if_pos]
    simp only [BitVec.slt, show (1#32 : BitVec 32).toInt = 1 from rfl, decide_eq_true_eq]
    omega
  have h' : (dist w).toInt < 2 ^ 31 := by
    have := BitVec.toInt_lt (x := dist w)
    simpa using this
  obtain ⟨f, hf, e⟩ := steps h h'
  unfold far
  rw [hd, e]
  unfold IntOp.minsi IntOp.addi
  rw [← BitVec.ofNat_add]
  split_ifs with hs
  · rw [BitVec.slt, Predicate.toInt_ofNat_small (16 + f) (by omega)] at hs
    simp at hs
    exact ⟨16 + f, by omega, rfl⟩
  · exact ⟨31, by omega, rfl⟩

/-- Every bucket is one of thirty-two. -/
theorem bucket_lt (w : BitVec 32) : ∃ k : ℕ, k < 32 ∧ bucket w = BitVec.ofNat 32 k := by
  have h0 := zero_le_dist w
  unfold bucket
  by_cases h : (dist w).toInt < 16
  · refine ⟨(dist w).toInt.toNat, by omega, ?_⟩
    have : IntOp.cmpi .slt (dist w) 16#32 = 1#1 := by
      simp only [IntOp.cmpi, BitVec.slt, show (16#32 : BitVec 32).toInt = 16 from rfl]
      rw [decide_eq_true h]
      rfl
    rw [this]
    show dist w = _
    apply BitVec.eq_of_toInt_eq
    rw [Predicate.toInt_ofNat_small _ (by omega)]
    omega
  · have : IntOp.cmpi .slt (dist w) 16#32 = 0#1 := by
      simp only [IntOp.cmpi, BitVec.slt, show (16#32 : BitVec 32).toInt = 16 from rfl]
      rw [decide_eq_false h]
      rfl
    rw [this]
    exact far_lt w (by omega)

/-- The bucket is the number of the row that is read. -/
theorem bucket_row (w : BitVec 32) : bucket w = BitVec.ofNat 32 (row w) := by
  obtain ⟨k, hk, e⟩ := bucket_lt w
  unfold row
  rw [e]
  interval_cases k <;> rfl

/-- The entry whose number a bucket is, found by a comparison with each of the first `n` numbers. -/
def chosen (b : BitVec 32) (e : Fin 32 → EReal) : ℕ → EReal
  | 0 => 0
  | n + 1 => Scalar.select (IntOp.cmpi .eq b (BitVec.ofNat 32 n)) (e (Fin.ofNat 32 n)) (chosen b e n)

theorem chosen_eq (e : Fin 32 → EReal) (k : ℕ) (hk : k < 32) (n : ℕ) (hn : k < n) (hn' : n ≤ 32) :
    chosen (BitVec.ofNat 32 k) e n = e ⟨k, hk⟩ := by
  induction n with
  | zero => omega
  | succ n ih =>
    unfold chosen
    by_cases h : k = n
    · subst h
      have : IntOp.cmpi .eq (BitVec.ofNat 32 k) (BitVec.ofNat 32 k) = 1#1 := by simp [IntOp.cmpi]
      rw [this]
      show e _ = _
      congr 1
      exact Fin.ext (Nat.mod_eq_of_lt hk)
    · have : IntOp.cmpi .eq (BitVec.ofNat 32 k) (BitVec.ofNat 32 n) = 0#1 := by
        have hne : BitVec.ofNat 32 k ≠ BitVec.ofNat 32 n := fun he => h (by
          have := congrArg BitVec.toNat he
          simp only [BitVec.toNat_ofNat] at this
          omega)
        unfold IntOp.cmpi
        rw [beq_false_of_ne hne]
        rfl
      rw [this]
      exact ih (by omega) (by omega)

end Cert.Bucket

/-! ## The reference at one place -/

namespace Cert.ReferenceBiasIdeal.Value

open Cert Cert.ReferenceBiasIdeal Cert.ReferenceBiasIdeal.Gen Idealize.ShloMosaic

/-- The buckets of the distances. -/
def buckets (w : IVec S784x384 32) : IVec S784x384 32 :=
  select (cmpi .slt (maxsi w (broadcastInDim S784x384 ![] bcast_S_S784x384 (constantI S_ 32 0#32))) (broadcastInDim S784x384 ![] bcast_S_S784x384 (constantI S_ 32 16#32)))
    (maxsi w (broadcastInDim S784x384 ![] bcast_S_S784x384 (constantI S_ 32 0#32)))
    (minsi (addi (broadcastInDim S784x384 ![] bcast_S_S784x384 (constantI S_ 32 16#32))
      (fptosi 32 (mulf (F := Ideal) (Host.divf (Host.log (Host.divf
        (sitofp .f32 (maxsi (maxsi w (broadcastInDim S784x384 ![] bcast_S_S784x384 (constantI S_ 32 0#32))) (broadcastInDim S784x384 ![] bcast_S_S784x384 (constantI S_ 32 1#32))))
        (broadcastInDim S784x384 ![] bcast_S_S784x384 (constant S_ .f32 0x41800000#32))))
        (broadcastInDim S784x384 ![] bcast_S_S784x384 (constant S_ .f32 0x40051592#32)))
        (broadcastInDim S784x384 ![] bcast_S_S784x384 (constant S_ .f32 0x41800000#32)))))
      (broadcastInDim S784x384 ![] bcast_S_S784x384 (constantI S_ 32 31#32)))

/-- The numbers of the table's rows. -/
def rows (b : IVec S784x384 32) : IVec S784x384x1 32 :=
  broadcastInDim S784x384x1 ![0, 1] bcast_S784x384_S784x384x1_0_1
    (select (cmpi .slt b (broadcastInDim S784x384 ![] bcast_S_S784x384 (constantI S_ 32 0#32)))
      (addi b (broadcastInDim S784x384 ![] bcast_S_S784x384 (constantI S_ 32 32#32))) b)

/-- The rows of the table. -/
def taken (b : IVec S784x384 32) (T : FVec Ideal S32x16 .f32) : FVec Ideal S784x384x16 .f32 :=
  Host.gather gather_S32x16_S784x384x1_S784x384x16_2_0_n_n_0_2_116 T (rows b)

/-- The tiles, from the distances, the rows taken and the table. -/
def tiles (w : IVec S784x384 32) (G : FVec Ideal S784x384x16 .f32) (T : FVec Ideal S32x16 .f32) : FVec Ideal S16x784x384 .f32 :=
  select (broadcastInDim S16x784x384 ![1, 2] bcast_S784x384_S16x784x384_1_2 (cmpi .slt w (broadcastInDim S784x384 ![] bcast_S_S784x384 (constantI S_ 32 0#32))))
    (broadcastInDim S16x784x384 ![] bcast_S_S16x784x384 (id (constant (F := Ideal) S_ .f32 0xFF800000#32)))
    (Host.divf (transpose S16x784x384 [2, 0, 1] (subf G
      (broadcastInDim S784x384x16 ![0, 1, 2] bcast_S1x1x16_S784x384x16_0_1_2 (broadcastInDim S1x1x16 ![2] bcast_S16_S1x1x16_2
        (shapeCast _ (extractStridedSlice S1x16 ![31, 0] T slices_S32x16_S1x16_31_0) shapeCasts_S1x16_S16))))
      transposes_S784x384x16_S16x784x384_2_0_1)
      (broadcastInDim S16x784x384 ![] bcast_S_S16x784x384 (Host.log (constant (F := Ideal) S_ .f32 0x40000000#32))))

/-- What the reference computes. -/
def bias (T : FVec Ideal S32x16 .f32) (w : IVec S784x384 32) : FVec Ideal S16x784x384 .f32 := tiles w (taken (buckets w) T) T

theorem buckets_at (w : IVec S784x384 32) (i : Fin 784) (j : Fin 384) : buckets w (ix2 i j) = Bucket.bucket (w (ix2 i j)) := by
  unfold buckets
  pointwise
  rfl

theorem rows_at (b : IVec S784x384 32) (i : Fin 784) (j : Fin 384) (z : Fin 1) :
    rows b (ix3 i j z) = Scalar.select (IntOp.cmpi .slt (b (ix2 i j)) 0#32) (IntOp.addi (b (ix2 i j)) 32#32) (b (ix2 i j)) := by
  unfold rows
  pointwise

theorem taken_at (T : FVec Ideal S32x16 .f32) (w : IVec S784x384 32) (i : Fin 784) (j : Fin 384) (n : Fin 16) :
    taken (buckets w) T (ix3 i j n) = T (ix2 ⟨Bucket.row (w (ix2 i j)), Bucket.row_lt _⟩ n) := by
  have e := Rows.gather_at (by decide) gather_S32x16_S784x384x1_S784x384x16_2_0_n_n_0_2_116
    gather_S32x16_S784x384x1_S784x384x16_2_0_n_n_0_2_116_wf rfl T (rows (buckets w)) i j n
  refine e.trans ((congrArg (fun r : BitVec 32 => T (ix2 ⟨min r.toInt.toNat (32 - 1), by omega⟩ n)) (rows_at (buckets w) i j ⟨0, Nat.one_pos⟩)).trans ?_)
  simp only [buckets_at]
  rfl

/-- One place of a tile, from the place's distance, the entry of its bucket and the entry of the far distances. -/
def entry (w : BitVec 32) (x far : EReal) : EReal :=
  Scalar.select (IntOp.cmpi .slt w 0#32) (⊥ : EReal) ((x - far) * (((Real.log 2)⁻¹ : ℝ) : EReal))

theorem two : Ideal.ofBits .f32 0x40000000#32 = ((2 : ℝ) : EReal) := by
  simp [Ideal.ofBits, Ideal.ieee]
  norm_num
  rw [← EReal.coe_mul]
  norm_num

theorem tiles_at (w : IVec S784x384 32) (G : FVec Ideal S784x384x16 .f32) (T : FVec Ideal S32x16 .f32) (n : Fin 16) (i : Fin 784) (j : Fin 384) :
    tiles w G T (ix3 n i j) = entry (w (ix2 i j)) (G (ix3 i j n)) (T (ix2 ⟨31, by decide⟩ n)) := by
  have e : Ideal.ofBits .f32 0xFF800000#32 = ⊥ := by simp [Ideal.ofBits, Ideal.ieee]
  have h2 : Ideal.log (Ideal.ofBits .f32 0x40000000#32) = ((Real.log 2 : ℝ) : EReal) := by
    rw [two, Ideal.log_coe, if_neg (by norm_num)]
  have hd (x : EReal) : x * (((Real.log 2)⁻¹ : ℝ) : EReal) = Ideal.div x (Ideal.log (Ideal.ofBits .f32 0x40000000#32)) := by
    rw [h2, Ideal.div_coe (Real.log_pos (by norm_num)).ne', one_div]
  unfold tiles entry
  rw [← e, hd]
  pointwise
  rfl

/-- One place of the result. -/
theorem bias_at (T : FVec Ideal S32x16 .f32) (w : IVec S784x384 32) (n : Fin 16) (i : Fin 784) (j : Fin 384) :
    bias T w (ix3 n i j) = entry (w (ix2 i j)) (T (ix2 ⟨Bucket.row (w (ix2 i j)), Bucket.row_lt _⟩ n)) (T (ix2 ⟨31, by decide⟩ n)) := by
  unfold bias
  rw [tiles_at, taken_at]

end Cert.ReferenceBiasIdeal.Value

/-! ## The kernel -/

namespace Cert.KernelBiasIdeal.Value

open Cert.ReferenceBiasIdeal.Value (bias bias_at entry)
open Cert.KernelBiasIdeal Cert.KernelBiasIdeal.Gen
open Idealize.ShloMosaic Idealize.ShloMosaic.TcCoe Idealize.SL.Sem

theorem named_neg : (Named.named κ "neg" 0xF149F2CA#32 : Ideal .f32) = (⊥ : EReal) :=
  IdealRules.named_const.ideal_named_scalar _ _ _ _ rfl

theorem named_log2e : (Named.named κ "log2e" 0x3FB8AA3B#32 : Ideal .f32) = (((Real.log 2)⁻¹ : ℝ) : EReal) :=
  IdealRules.named_const.ideal_named_scalar _ _ _ _ rfl

/-- The buckets of a block's distances. -/
theorem bucket_at (d : Vec Ideal S784x384 .i32) (i : Fin 784) (j : Fin 384) : k0_pay2 (F := Ideal) d (ix2 i j) = Bucket.bucket (d (ix2 i j)) := by
  unfold k0_pay2
  pointwise
  rfl

/-- The block that a point stores, from the distances and the thirty-two words of the point's head. -/
def pay (d : Vec Ideal S784x384 .i32) (b : IVec S784x384 32) (e : Fin 32 → EReal) : FVec Ideal S1x784x384 .f32 :=
  k0_pay1 d b
    (k0_pay13 b
      (k0_pay10 b
        (k0_pay8 b (k0_pay6 b
          (select (cmpi .eq b (broadcast S784x384 1#32)) (broadcast S784x384 (e 1)) (select (cmpi .eq b (broadcast S784x384 0#32)) (broadcast S784x384 (e 0)) (broadcast S784x384 (Ideal.ofBits .f32 0x00000000#32))))
          (cmpi .eq b (broadcast S784x384 2#32)) (k0_pay5 (e 2)) (e 3) (e 4) (e 5) (e 6) (e 7) (e 8))
          (k0_pay7 b) (e 9) (e 10) (e 11) (e 12) (e 13) (e 14) (e 15))
        k0_pay9 (e 16) (e 17) (e 18) (e 19) (e 20) (e 21))
      (k0_pay11 b) (k0_pay12 (e 22)) (e 23) (e 24) (e 25) (e 26) (e 27) (e 28))
    (k0_pay14 b) (e 29) (e 30) (e 31) (e 31)

theorem pay_at (d : Vec Ideal S784x384 .i32) (b : IVec S784x384 32) (e : Fin 32 → EReal) (i : Fin 784) (j : Fin 384) :
    pay d b e (ix3 0 i j) = entry (d (ix2 i j)) (Bucket.chosen (b (ix2 i j)) e 32) (e 31) := by
  unfold pay k0_pay1 k0_pay13 k0_pay10 k0_pay8 k0_pay6 k0_pay7 k0_pay5 k0_pay9 k0_pay11 k0_pay12 k0_pay14 entry
  rw [named_neg, named_log2e]
  pointwise
  rfl

/-- The words of a point's head. -/
def words (i : grid0.Coords) (x : Vec Ideal S512 .f32) (r : Fin 32) : EReal :=
  x (ix1 ⟨16 * r.val + (i 0).val, by have := r.isLt; have : (i 0).val < 16 := (i 0).isLt; omega⟩)

/-- A word as the kernel reads it. -/
def word (i : grid0.Coords) (x : Vec Ideal S512 .f32) (r : Fin 32) : EReal :=
  View.ld x (Rect.unit (s := S512) (k0_off1 i (BitVec.ofNat 32 (16 * r.val))) S1.size (k0_off1_inb i r)) (Shape.Idx.first (numel1_S1.symm ▸ Nat.one_pos))

theorem word_at (i : grid0.Coords) (x : Vec Ideal S512 .f32) (r : Fin 32) : word i x r = words i x r := by
  unfold word words
  refine congrArg x ?_
  funext a
  refine Fin.ext ?_
  match a with
  | ⟨0, _⟩ =>
    have e := congrFun (k0_off1_eq i r) 0
    show k0_off1 i (BitVec.ofNat 32 (16 * r.val)) 0 + 1 * 0 = 16 * r.val + (i 0).val
    rw [e]; rfl

/-- What a point leaves in the result's block. -/
theorem out_eq (c : Dev nD) (i : grid0.Coords) (arg1 : Memref sig .tc .smem S512 .f32) (h1 : arg1.IsWhole)
    (arg2 : Memref sig .tc .vmem S784x384 .i32) (h2 : arg2.IsWhole) (arg3 : Memref sig .tc .vmem S1x784x384 .f32)
    (h3 : arg3.IsWhole) (x0 : Vec Ideal S512 .f32) (x1 : Vec Ideal S784x384 .i32) :
    out0_A_2 c i arg1 h1 arg2 h2 arg3 h3 x0 x1 = pay x1 (k0_pay2 (F := Ideal) x1) (words i x0) := by
  rw [← show word i x0 = words i x0 from funext (word_at i x0)]
  unfold out0_A_2 kernelRun0_A
  frame_out
  rfl

variable (m : (ℓ : Loc nD τ sig) → Buf (Elt Ideal) ℓ) (c : Dev nD)

theorem at_0 : ∀ t : Fin cfg0.N, win0_0.index t = ![0] :=
  (by decide +kernel : ∀ t : Fin grid0.N, _)
theorem at_1 : ∀ t : Fin cfg0.N, win0_1.index t = ![0, 0] :=
  (by decide +kernel : ∀ t : Fin grid0.N, _)
theorem at_2 : ∀ t : Fin cfg0.N, win0_2.index t = ![t.val, 0, 0] :=
  (by decide +kernel : ∀ t : Fin grid0.N, _)
theorem point : ∀ t : Fin cfg0.N, (grid0.coords t 0).val = t.val :=
  (by decide +kernel : ∀ t : Fin grid0.N, _)

/-- The table as one row. -/
def flat (T : FVec Ideal S32x16 .f32) : FVec Ideal S512 .f32 := shapeCast S512 T shapeCasts_S32x16_S512

theorem flat_at (T : FVec Ideal S32x16 .f32) (r : Fin 32) (n : Fin 16) (k : Fin 512) (hk : k.val = 16 * r.val + n.val) :
    (flat T (ix1 k) : EReal) = T (ix2 r n) := by
  unfold flat
  refine shapeCast_apply _ _ _ _ ?_
  rw [Shape.rowMajor_val_two, Shape.rowMajor_val_one]
  show r.val * 16 + n.val = k.val
  omega

theorem V_flat : V m c main_v0 = flat (m ((c : Thread nD τ).loc main_arg0)) := by
  unfold V flat
  after_reads_simp
  rfl

theorem words_at (t : Fin cfg0.N) (n : Fin 16) (hn : n.val = t.val) (r : Fin 32) :
    words (grid0.coords t) (iblk m c 0 t) r = m ((c : Thread nD τ).loc main_arg0) (ix2 r n) := by
  have e := point t
  have hr := r.isLt
  have hn' := n.isLt
  unfold words
  blk_simp [iblk]
  rw [V_flat]
  refine Eq.trans (congrArg (flat (m ((c : Thread nD τ).loc main_arg0))) ?_) (flat_at _ r n ⟨16 * r.val + n.val, by omega⟩ rfl)
  blk_ext [at_0]

theorem dist_at (t : Fin cfg0.N) (i : Fin 784) (j : Fin 384) :
    iblk m c 1 t (ix2 i j) = m ((c : Thread nD τ).loc main_arg1) (ix2 i j) := by
  blk_simp [iblk]
  rw [V_main_arg1]
  refine congrArg (m ((c : Thread nD τ).loc main_arg1)) ?_
  blk_ext [at_1]

/-- One place of what a point leaves. -/
theorem out_at (t : Fin cfg0.N) (n : Fin 16) (hn : n.val = t.val) (i : Fin 784) (j : Fin 384) :
    (outsAt0 m c t (ix3 0 i j) : EReal)
      = bias (m ((c : Thread nD τ).loc main_arg0)) (m ((c : Thread nD τ).loc main_arg1)) (ix3 n i j) := by
  unfold outsAt0
  rw [out_eq, pay_at, bias_at, bucket_at, dist_at, Bucket.bucket_row,
    Bucket.chosen_eq _ _ (Bucket.row_lt _) 32 (Bucket.row_lt _) le_rfl, words_at m c t n hn, words_at m c t n hn]
  rfl

/-- The result array is the reference's. -/
theorem final_bias : (dats m 0 c).arrAt 2 cfg0.N
    = bias (m ((c : Thread nD τ).loc main_arg0)) (m ((c : Thread nD τ).loc main_arg1)) := by
  refine (dats m 0 c).arrAt_eq_of_covers 2 _ (by decide +kernel) fun t hf y => ?_
  blk_simp
  rw [after0_2]
  have ht : t.val < 16 := lt_of_lt_of_eq t.isLt N_0
  have h0 : (y 0).val < 1 := (y 0).isLt
  have h1 : (y 1).val < 784 := (y 1).isLt
  have h2 : (y 2).val < 384 := (y 2).isLt
  have e := out_at m c t ⟨t.val, ht⟩ rfl ⟨(y 1).val, h1⟩ ⟨(y 2).val, h2⟩
  refine Eq.trans ?_ (e.trans ?_)
  · refine congrArg (outsAt0 m c t) ?_
    blk_ext []
  · refine congrArg (bias (m ((c : Thread nD τ).loc main_arg0)) (m ((c : Thread nD τ).loc main_arg1))) ?_
    blk_ext [at_2]

end Cert.KernelBiasIdeal.Value

end
-- ==== Proof.PostRun.lean ====
/-
  One run of the per-head normalisation's body at any float model: the inputs are kept, the outputs end at some contents.
-/
module

public import proofs.«01_k».proof.Proof.Gen.KernelPost.Frame
public import proofs.«01_k».proof.Proof.Gen.KernelPost.Skeleton
public import proofs.«01_k».proof.Proof.Gen.KernelPost.Points
public import Idealize.ShloMosaic.Lib.Claim

@[expose] public section

set_option maxRecDepth 16384

noncomputable section

namespace Cert.KernelPost.Post

open Cert.KernelPost Cert.KernelPost.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body on whole blocks: the inputs' blocks end as they were, the outputs' at some contents. -/
theorem body (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x2048 .bf16) (harg7 : arg7.IsWhole) (arg8 : Memref sig .tc .vmem S2048x128 .f32) (harg8 : arg8.IsWhole) (arg9 : Memref sig .tc .vmem S128x2048 .bf16) (harg9 : arg9.IsWhole) (arg10 : Memref sig .tc .vmem S128x2048 .bf16) (harg10 : arg10.IsWhole) (arg11 : Memref sig .tc .vmem S2048x128 .f32) (harg11 : arg11.IsWhole)
    (x0 x1 x2 : Vec F S128x2048 .f32) (x3 x4 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f)) -∗ K ⟨⟩))
      ⊢ wp frame (wpE (defs₀ (F := F)) Variants.none c none) E (cc0_diff_post_tail i arg2 harg2 arg3 harg3 arg4 harg4 arg5 harg5 arg6 harg6 arg7 harg7 arg8 harg8 arg9 harg9 arg10 harg10 arg11 harg11) K := by
  simp only [cc0_diff_post_tail_eq_skeleton]; unfold cc0_diff_post_tail_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2
  obtain rfl := harg5.eq_unread hf3; obtain rfl := harg6.eq_unread hf4
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]; · iexists _; iexact H5
  isplitl [H6]; · iexists _; iexact H6
  isplitl [H7]; · iexists _; iexact H7
  isplitl [H8]; · iexists _; iexact H8
  iexists _; iexact H9

end Cert.KernelPost.Post

end
-- ==== Proof.PostFrame.lean ====
/-
  The frame of the per-head normalisation at any float model: it terminates, nothing faults, its arguments end unchanged and
  every semaphore counter ends at zero.  The outputs' contents are not named.
-/
module

public import proofs.«01_k».proof.Proof.PostRun

@[expose] public section

set_option maxRecDepth 16384

noncomputable section

namespace Cert.KernelPost.Post

open Cert.KernelPost Cert.KernelPost.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data: the inputs' blocks stay, the outputs' are not named; three inputs share one array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Dat.unnamed 5 t
    | ⟨6, _⟩ => Dat.unnamed 6 t
    | ⟨7, _⟩ => Dat.unnamed 7 t
    | ⟨8, _⟩ => Dat.unnamed 8 t
    | ⟨9, _⟩ => Dat.unnamed 9 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-- The output windows are forgotten. -/
def fgt (w : Fin cfg0.W) : Bool := decide (5 ≤ w.val)

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body c (grid0.coords t) _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, ⟨%e5, H5⟩, ⟨%e6, H6⟩, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns
  isplitl [H5]
  · iexists _; iexists e5; isplitr; · ipureintro; rfl
    iexact H5
  isplitl [H6]
  · iexists _; iexists e6; isplitr; · ipureintro; rfl
    iexact H6
  isplitl [H7]
  · iexists _; iexists e7; isplitr; · ipureintro; rfl
    iexact H7
  isplitl [H8]
  · iexists _; iexists e8; isplitr; · ipureintro; rfl
    iexact H8
  iexists _; iexists e9; isplitr; · ipureintro; rfl
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hΦ := fun _ _ => rfl)

/-- THE FRAME. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.arr_in c 2 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.KernelPost.Post

end
-- ==== Proof.PostRunIdeal.lean ====
/-
  One run of the idealized per-head normalisation's body, with what it stores in each output as a list of pieces.
-/
module

public import proofs.«01_k».proof.Proof.Gen.KernelPostIdeal.Frame
public import proofs.«01_k».proof.Proof.Gen.KernelPostIdeal.Skeleton
public import proofs.«01_k».proof.Proof.Gen.KernelPostIdeal.Points
public import Idealize.ShloMosaic.Lib.Claim

@[expose] public section

set_option maxRecDepth 16384

noncomputable section

namespace Cert.KernelPostIdeal.Post

open Cert.KernelPostIdeal Cert.KernelPostIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The pieces the body's stores leave in the five outputs (last first), with the run that leaves them. -/
def run (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x2048 .bf16) (harg7 : arg7.IsWhole) (arg8 : Memref sig .tc .vmem S2048x128 .f32) (harg8 : arg8.IsWhole) (arg9 : Memref sig .tc .vmem S128x2048 .bf16) (harg9 : arg9.IsWhole) (arg10 : Memref sig .tc .vmem S128x2048 .bf16) (harg10 : arg10.IsWhole) (arg11 : Memref sig .tc .vmem S2048x128 .f32) (harg11 : arg11.IsWhole)
    (x0 x1 x2 : Vec F S128x2048 .f32) (x3 x4 : Vec F S1x128 .f32) :
    { L : List (View.Piece (Elt F) S128x2048 .bf16) × List (View.Piece (Elt F) S2048x128 .f32) × List (View.Piece (Elt F) S128x2048 .bf16) × List (View.Piece (Elt F) S128x2048 .bf16) × List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2.1) ∗ (∃ f, arg10.view.loc (c : Thread nD τ) ↦[arg10.view.set]{fullShare} arg10.view.writes (Elt F) f L.2.2.2.1) ∗ (∃ f, arg11.view.loc (c : Thread nD τ) ↦[arg11.view.set]{fullShare} arg11.view.writes (Elt F) f L.2.2.2.2)) -∗ K ⟨⟩))
          ⊢ wp frame (wpE (defs₀ (F := F)) Variants.none c none) E (cc0_diff_post_tail i arg2 harg2 arg3 harg3 arg4 harg4 arg5 harg5 arg6 harg6 arg7 harg7 arg8 harg8 arg9 harg9 arg10 harg10 arg11 harg11) K } := by
  refine ⟨⟨?_, ?_, ?_, ?_, ?_⟩, fun E K => ?run⟩
  case run =>
    simp only [cc0_diff_post_tail_eq_skeleton]; unfold cc0_diff_post_tail_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2
    obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    iexists _; iexact H9

end Cert.KernelPostIdeal.Post

end
-- ==== Proof.PostRef.lean ====
/-
  What the attention's per-head normalisation computes, at one place: a head's 128 entries divided by the root of their mean
  square, times a gain; the queries then over √128 and over log 2; the values as they are.
-/
module

public import proofs.«01_k».proof.Proof.Gen.ReferencePostIdeal.Run
public import proofs.«01_k».proof.Proof.Product
public import Idealize.ShloMosaic.Lib.StableHlo.ReadAt
public import Idealize.ShloMosaic.Lib.Tactic.CleanTypes

@[expose] public section

set_option maxRecDepth 8192
set_option maxHeartbeats 1000000

noncomputable section

namespace Cert.ReferencePostIdeal.Value

open Cert.ReferencePostIdeal Cert.ReferencePostIdeal.Gen Idealize.ShloMosaic

/-- The queries', the keys' and the values' columns of the samples' rows. -/
def qs (z : FVec Ideal S8704x6144 .f32) : FVec Ideal S256x2048 .f32 := extractStridedSlice S256x2048 ![0, 0] (extractStridedSlice S256x6144 ![8448, 0] z slices_S8704x6144_S256x6144_8448_0) slices_S256x6144_S256x2048_0_0
def ks (z : FVec Ideal S8704x6144 .f32) : FVec Ideal S256x2048 .f32 := extractStridedSlice S256x2048 ![0, 2048] (extractStridedSlice S256x6144 ![8448, 0] z slices_S8704x6144_S256x6144_8448_0) slices_S256x6144_S256x2048_0_2048
def vs (z : FVec Ideal S8704x6144 .f32) : FVec Ideal S256x2048 .f32 := extractStridedSlice S256x2048 ![0, 4096] (extractStridedSlice S256x6144 ![8448, 0] z slices_S8704x6144_S256x6144_8448_0) slices_S256x6144_S256x2048_0_4096

/-- Each head's entries normalised, times the gain. -/
def normed (x : FVec Ideal S256x2048 .f32) (g : FVec Ideal S128 .f32) : FVec Ideal S256x8x2x128 .f32 :=
  mulf (mulf (shapeCast S256x8x2x128 x shapeCasts_S256x2048_S256x8x2x128) (broadcastInDim S256x8x2x128 ![0, 1, 2, 3] bcast_S256x8x2x1_S256x8x2x128_0_1_2_3 (Host.rsqrt (addf (Host.divf (broadcastInDim S256x8x2x1 ![0, 1, 2] bcast_S256x8x2_S256x8x2x1_0_1_2 (Host.reduceAdd (mulf (shapeCast S256x8x2x128 x shapeCasts_S256x2048_S256x8x2x128) (shapeCast S256x8x2x128 x shapeCasts_S256x2048_S256x8x2x128)) (constant S_ .f32 0x00000000#32) reducesTo_S256x8x2x128_S256x8x2_d3 h_S_)) (broadcastInDim S256x8x2x1 ![] bcast_S_S256x8x2x1 (constant S_ .f32 0x43000000#32))) (broadcastInDim S256x8x2x1 ![] bcast_S_S256x8x2x1 (constant S_ .f32 0x358637BD#32)))))) (broadcastInDim S256x8x2x128 ![0, 1, 2, 3] bcast_S1x1x1x128_S256x8x2x128_0_1_2_3 (broadcastInDim S1x1x1x128 ![3] bcast_S128_S1x1x1x128_3 g))

/-- The five results. -/
def outQ (x : FVec Ideal S256x2048 .f32) (g : FVec Ideal S128 .f32) : FVec Ideal S256x2048 .bf16 :=
  truncf .bf16 (shapeCast _ (Host.divf (Host.divf (normed x g) (broadcastInDim S256x8x2x128 ![] bcast_S_S256x8x2x128 (Host.sqrt (constant S_ .f32 0x43000000#32)))) (broadcastInDim S256x8x2x128 ![] bcast_S_S256x8x2x128 (Host.log (constant S_ .f32 0x40000000#32)))) shapeCasts_S256x8x2x128_S256x2048) bitsLt_bf16_f32
def outK (x : FVec Ideal S256x2048 .f32) (g : FVec Ideal S128 .f32) : FVec Ideal S4096x128 .f32 :=
  shapeCast S4096x128 (normed x g) shapeCasts_S256x8x2x128_S4096x128
def outKb (x : FVec Ideal S256x2048 .f32) (g : FVec Ideal S128 .f32) : FVec Ideal S256x2048 .bf16 :=
  truncf .bf16 (shapeCast S256x2048 (normed x g) shapeCasts_S256x8x2x128_S256x2048) bitsLt_bf16_f32
def outVb (x : FVec Ideal S256x2048 .f32) : FVec Ideal S256x2048 .bf16 := truncf .bf16 x bitsLt_bf16_f32
def outV (x : FVec Ideal S256x2048 .f32) : FVec Ideal S4096x128 .f32 :=
  shapeCast S4096x128 (transpose S256x2x8x128 [0, 2, 1, 3] (shapeCast S256x8x2x128 x shapeCasts_S256x2048_S256x8x2x128) transposes_S256x8x2x128_S256x2x8x128_0_2_1_3) shapeCasts_S256x2x8x128_S4096x128

/-- An entry of a head, with its gain. -/
def entry (x : Fin 128 → EReal) (n : Fin 128) (g : EReal) : EReal :=
  x n * Ideal.rsqrt (Ideal.div (∑ k, x k * x k) (Ideal.ofBits .f32 0x43000000#32) + Ideal.ofBits .f32 0x358637BD#32) * g

/-- The queries' factor: one over √128 · log 2. -/
def factor : EReal := (((Real.sqrt 128)⁻¹ * (Real.log 2)⁻¹ : ℝ) : EReal)

theorem two : Ideal.ofBits .f32 0x40000000#32 = ((2 : ℝ) : EReal) := by
  simp [Ideal.ofBits, Ideal.ieee]
  norm_num
  rw [← EReal.coe_mul]
  norm_num

theorem root : Ideal.sqrt (Ideal.ofBits .f32 0x43000000#32) = ((Real.sqrt 128 : ℝ) : EReal) := by
  have e : Ideal.ofBits .f32 0x43000000#32 = ((128 : ℝ) : EReal) := by
    simp [Ideal.ofBits, Ideal.ieee]
    norm_num
    rw [← EReal.coe_mul]
    norm_num
  rw [e, Ideal.sqrt_coe, if_neg (by norm_num)]

theorem factor_eq (x : EReal) : Ideal.div (Ideal.div x (Ideal.sqrt (Ideal.ofBits .f32 0x43000000#32))) (Ideal.log (Ideal.ofBits .f32 0x40000000#32))
    = x * factor := by
  have h2 : Ideal.log (Ideal.ofBits .f32 0x40000000#32) = ((Real.log 2 : ℝ) : EReal) := by
    rw [two, Ideal.log_coe, if_neg (by norm_num)]
  rw [h2, root, Ideal.div_coe (Real.log_pos (by norm_num)).ne', Ideal.div_coe (Real.sqrt_pos.mpr (by norm_num)).ne', mul_assoc,
    ← EReal.coe_mul, one_div, one_div]
  rfl

theorem outQ_at (x : FVec Ideal S256x2048 .f32) (g : FVec Ideal S128 .f32) (r : Fin 256) (c : Fin 2048) :
    (outQ x g (ix2 r c) : EReal)
      = entry (fun k => x (ix2 r ⟨c.val / 128 * 128 + k.val, by omega⟩)) ⟨c.val % 128, by omega⟩ (g (ix1 ⟨c.val % 128, by omega⟩)) * factor := by
  have e (k : Fin 128) : (⟨c.val / 256 * 256 + c.val / 128 % 2 * 128 + k.val, by omega⟩ : Fin 2048) = ⟨c.val / 128 * 128 + k.val, by omega⟩ :=
    Fin.ext (by show c.val / 256 * 256 + c.val / 128 % 2 * 128 + k.val = c.val / 128 * 128 + k.val; omega)
  have e' : (⟨c.val / 128 * 128 + c.val % 128, by omega⟩ : Fin 2048) = c := Fin.ext (by show c.val / 128 * 128 + c.val % 128 = c.val; omega)
  rw [← factor_eq]
  unfold outQ normed entry
  pointwise
  simp only [e, e']

theorem outKb_at (x : FVec Ideal S256x2048 .f32) (g : FVec Ideal S128 .f32) (r : Fin 256) (c : Fin 2048) :
    (outKb x g (ix2 r c) : EReal)
      = entry (fun k => x (ix2 r ⟨c.val / 128 * 128 + k.val, by omega⟩)) ⟨c.val % 128, by omega⟩ (g (ix1 ⟨c.val % 128, by omega⟩)) := by
  have e (k : Fin 128) : (⟨c.val / 256 * 256 + c.val / 128 % 2 * 128 + k.val, by omega⟩ : Fin 2048) = ⟨c.val / 128 * 128 + k.val, by omega⟩ :=
    Fin.ext (by show c.val / 256 * 256 + c.val / 128 % 2 * 128 + k.val = c.val / 128 * 128 + k.val; omega)
  have e' : (⟨c.val / 128 * 128 + c.val % 128, by omega⟩ : Fin 2048) = c := Fin.ext (by show c.val / 128 * 128 + c.val % 128 = c.val; omega)
  unfold outKb normed entry
  pointwise
  simp only [e, e']

theorem outK_at (x : FVec Ideal S256x2048 .f32) (g : FVec Ideal S128 .f32) (r : Fin 4096) (n : Fin 128) :
    (outK x g (ix2 r n) : EReal)
      = entry (fun k => x (ix2 ⟨r.val / 16, by omega⟩ ⟨r.val % 16 * 128 + k.val, by omega⟩)) n (g (ix1 n)) := by
  have e (k : Fin 128) : (⟨r.val / 2 % 8 * 256 + r.val % 2 * 128 + k.val, by omega⟩ : Fin 2048) = ⟨r.val % 16 * 128 + k.val, by omega⟩ :=
    Fin.ext (by show r.val / 2 % 8 * 256 + r.val % 2 * 128 + k.val = r.val % 16 * 128 + k.val; omega)
  unfold outK normed entry
  pointwise
  simp only [e]

theorem outV_at (x : FVec Ideal S256x2048 .f32) (r : Fin 4096) (n : Fin 128) :
    (outV x (ix2 r n) : EReal)
      = x (ix2 ⟨r.val / 16, by omega⟩ ⟨r.val % 8 * 256 + r.val / 8 % 2 * 128 + n.val, by omega⟩) := by
  unfold outV
  pointwise

theorem qs_at (z : FVec Ideal S8704x6144 .f32) (r : Fin 256) (c : Fin 2048) :
    (qs z (ix2 r c) : EReal) = z (ix2 ⟨8448 + r.val, by omega⟩ ⟨c.val, by omega⟩) := by
  unfold qs
  pointwise

theorem ks_at (z : FVec Ideal S8704x6144 .f32) (r : Fin 256) (c : Fin 2048) :
    (ks z (ix2 r c) : EReal) = z (ix2 ⟨8448 + r.val, by omega⟩ ⟨2048 + c.val, by omega⟩) := by
  unfold ks
  pointwise

theorem vs_at (z : FVec Ideal S8704x6144 .f32) (r : Fin 256) (c : Fin 2048) :
    (vs z (ix2 r c) : EReal) = z (ix2 ⟨8448 + r.val, by omega⟩ ⟨4096 + c.val, by omega⟩) := by
  unfold vs
  pointwise

end Cert.ReferencePostIdeal.Value

end
-- ==== Proof.PostBlocks.lean ====
/-
  What the per-head normalisation stores at each place of its five output blocks, read off the pieces its run leaves.
-/
module

public import proofs.«01_k».proof.Proof.PostRunIdeal
public import proofs.«01_k».proof.Proof.PostRef
public import Idealize.ShloMosaic.Lib.WholeRead
public import Idealize.ShloMosaic.Lib.Pipeline.ValueKit
public import Idealize.ShloMosaic.Lib.Pipeline.ReadBack

@[expose] public section

set_option maxRecDepth 16384
set_option maxHeartbeats 1000000

noncomputable section

namespace Cert.KernelPostIdeal.Post

open Cert.ReferencePostIdeal.Value (entry factor)
open Cert.KernelPostIdeal Cert.KernelPostIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

/-! ## Pieces that agree with one function -/

/-- Where every piece holds one function's values and the pieces cover an index, that index reads the function. -/
theorem canon_agree {s : Shape} {e : EltTy} (G : s.Idx → Elt Ideal e) : ∀ L : List (View.Piece (Elt Ideal) s e),
    (∀ p ∈ L, ∀ x, p.2 x = G (p.1.emb x)) → ∀ y, (∃ p ∈ L, y ∈ p.1.set) → View.canon L y = G y
  | [], _, _, h => by obtain ⟨_, hm, _⟩ := h; exact absurd hm List.not_mem_nil
  | p :: L, ha, y, h => by
    by_cases hy : y ∈ p.1.set
    · obtain ⟨x, rfl⟩ := p.1.exists_idx_of_mem hy
      exact (View.canon_cons_emb p.1 p.2 L x).trans (ha p List.mem_cons_self x)
    · rw [View.canon_cons_of_not_mem p L hy]
      obtain ⟨p', hm, hy'⟩ := h
      refine canon_agree G L (fun p hp => ha p (List.mem_cons_of_mem _ hp)) y ⟨p', ?_, hy'⟩
      rcases List.mem_cons.mp hm with rfl | hm
      · exact absurd hy' hy
      · exact hm

/-! ## The five blocks -/

theorem named_scale : (Named.named κ "scale" 0x3E0293EE#32 : Ideal .f32) = factor := IdealRules.named_const.ideal_named_scalar _ _ _ _ rfl

def blkQ (x : Vec Ideal S128x2048 .f32) (g : Vec Ideal S1x128 .f32) : Vec Ideal S128x2048 .bf16 := fun y =>
  entry (fun k => x (ix2 ⟨(y 0).val, (y 0).isLt⟩ ⟨(y 1).val / 128 * 128 + k.val, by have : (y 1).val < 2048 := (y 1).isLt; omega⟩)) ⟨(y 1).val % 128, by omega⟩
    (g (ix2 0 ⟨(y 1).val % 128, by omega⟩)) * factor

def blkKb (x : Vec Ideal S128x2048 .f32) (g : Vec Ideal S1x128 .f32) : Vec Ideal S128x2048 .bf16 := fun y =>
  entry (fun k => x (ix2 ⟨(y 0).val, (y 0).isLt⟩ ⟨(y 1).val / 128 * 128 + k.val, by have : (y 1).val < 2048 := (y 1).isLt; omega⟩)) ⟨(y 1).val % 128, by omega⟩
    (g (ix2 0 ⟨(y 1).val % 128, by omega⟩))

def blkK (x : Vec Ideal S128x2048 .f32) (g : Vec Ideal S1x128 .f32) : Vec Ideal S2048x128 .f32 := fun y =>
  entry (fun k => x (ix2 ⟨(y 0).val / 16, by have : (y 0).val < 2048 := (y 0).isLt; omega⟩ ⟨(y 0).val % 16 * 128 + k.val, by omega⟩)) ⟨(y 1).val, (y 1).isLt⟩
    (g (ix2 0 ⟨(y 1).val, (y 1).isLt⟩))

def blkV (x : Vec Ideal S128x2048 .f32) : Vec Ideal S2048x128 .f32 := fun y =>
  x (ix2 ⟨(y 0).val / 16, by have : (y 0).val < 2048 := (y 0).isLt; omega⟩
    ⟨(y 0).val % 8 * 256 + (y 0).val / 8 % 2 * 128 + (y 1).val, by have : (y 1).val < 128 := (y 1).isLt; omega⟩)

/-! ## One piece -/

theorem payQ_at (x : Vec Ideal S128x128 .f32) (g : Vec Ideal S1x128 .f32) (a n : Fin 128) :
    (k0_pay2 x g (ix2 a n) : EReal) = entry (fun k => x (ix2 a k)) n (g (ix2 0 n)) * factor := by
  rw [← named_scale]
  unfold k0_pay2 entry
  pointwise

theorem payK_at (x : Vec Ideal S128x128 .f32) (g : Vec Ideal S1x128 .f32) (a n : Fin 128) :
    (k0_pay3 x g (ix2 a n) : EReal) = entry (fun k => x (ix2 a k)) n (g (ix2 0 n)) := by
  unfold k0_pay3 entry
  pointwise

/-- An index of a block of 128 rows and columns. -/
theorem sq (x : S128x128.Idx) : x = ix2 ⟨(x 0).val, (x 0).isLt⟩ ⟨(x 1).val, (x 1).isLt⟩ := by
  funext a
  match a with
  | ⟨0, _⟩ => rfl
  | ⟨1, _⟩ => rfl

section Piece
variable {az : Memref sig .tc .vmem S128x2048 .f32} (hz : az.IsWhole) {ag : Memref sig .tc .vmem S1x128 .f32} (hg : ag.IsWhole)
  (z : Vec Ideal S128x2048 .f32) (g : Vec Ideal S1x128 .f32)
  {o : ℕ} (ho : ∀ a, (![0, o] : Fin 2 → Nat) a + S128x128.size a ≤ S128x2048.size a) (hi : ∀ a, (![0, 0] : Fin 2 → Nat) a + S1x128.size a ≤ S1x128.size a)

/-- The columns a piece reads, and the gain. -/
abbrev cols : Vec Ideal S128x128 .f32 := View.readAt (Elt Ideal) az.view (Rect.unit (s := S128x2048) ![0, o] S128x128.size ho).toLoadRect (hz.unread z)
abbrev gains : Vec Ideal S1x128 .f32 := View.readAt (Elt Ideal) ag.view (Rect.unit (s := S1x128) ![0, 0] S1x128.size hi).toLoadRect (hg.unread g)

theorem cols_at (a k : Fin 128) (c : Fin 2048) (hc : c.val = o + k.val) : cols hz z ho (ix2 a k) = z (ix2 ⟨a.val, a.isLt⟩ c) := by
  refine (hz.readAt_unread z _ _).trans (congrArg z ?_)
  funext i
  match i with
  | ⟨0, _⟩ => exact Fin.ext (by show 0 + 1 * a.val = a.val; omega)
  | ⟨1, _⟩ => exact Fin.ext (by show o + 1 * k.val = c.val; omega)

theorem gains_at (n : Fin 128) : gains hg g hi (ix2 0 n) = g (ix2 0 n) := by
  refine (hg.readAt_unread g _ _).trans (congrArg g ?_)
  funext i
  match i with
  | ⟨0, _⟩ => rfl
  | ⟨1, _⟩ => exact Fin.ext (by show 0 + 1 * n.val = n.val; omega)

include hz in
theorem entry_at (a n : Fin 128) (hb : ∀ k : Fin 128, o + k.val < 2048) : entry (fun k => cols hz z ho (ix2 a k)) n (gains hg g hi (ix2 0 n))
    = entry (fun k => z (ix2 a ⟨o + k.val, hb k⟩)) n (g (ix2 0 n)) := by
  rw [gains_at]
  exact congrArg (fun x => entry x n _) (funext fun k => cols_at hz z ho a k _ rfl)

include ho in
theorem fits (k : Fin 128) : o + k.val < 2048 := by
  have h : o + 128 ≤ 2048 := ho 1
  omega

/-- A piece of the normalised queries. -/
theorem pieceQ (h : o % 128 = 0) (x : S128x128.Idx) :
    k0_pay2 (cols hz z ho) (gains hg g hi) x = blkQ z g ((Rect.unit (s := S128x2048) ![0, o] S128x128.size ho).emb x) := by
  obtain ⟨a, n, rfl⟩ : ∃ a n : Fin 128, x = ix2 a n := ⟨_, _, sq x⟩
  have e0 : ((Rect.unit (s := S128x2048) ![0, o] S128x128.size ho).emb (ix2 a n) 0).val = a.val := by
    show 0 + 1 * a.val = _; omega
  have e1 (k : Fin 128) : ((Rect.unit (s := S128x2048) ![0, o] S128x128.size ho).emb (ix2 a n) 1).val / 128 * 128 + k.val = o + k.val := by
    show (o + 1 * n.val) / 128 * 128 + k.val = _; omega
  have e2 : ((Rect.unit (s := S128x2048) ![0, o] S128x128.size ho).emb (ix2 a n) 1).val % 128 = n.val := by
    show (o + 1 * n.val) % 128 = _; omega
  refine (payQ_at _ _ _ _).trans ?_
  rw [entry_at hz hg z g ho hi a n (fits ho)]
  simp only [blkQ, e0, e1, e2]

/-- A piece of the normalised keys. -/
theorem pieceKb (h : o % 128 = 0) (x : S128x128.Idx) :
    k0_pay4 (cols hz z ho) (gains hg g hi) x = blkKb z g ((Rect.unit (s := S128x2048) ![0, o] S128x128.size ho).emb x) := by
  obtain ⟨a, n, rfl⟩ : ∃ a n : Fin 128, x = ix2 a n := ⟨_, _, sq x⟩
  have e0 : ((Rect.unit (s := S128x2048) ![0, o] S128x128.size ho).emb (ix2 a n) 0).val = a.val := by
    show 0 + 1 * a.val = _; omega
  have e1 (k : Fin 128) : ((Rect.unit (s := S128x2048) ![0, o] S128x128.size ho).emb (ix2 a n) 1).val / 128 * 128 + k.val = o + k.val := by
    show (o + 1 * n.val) / 128 * 128 + k.val = _; omega
  have e2 : ((Rect.unit (s := S128x2048) ![0, o] S128x128.size ho).emb (ix2 a n) 1).val % 128 = n.val := by
    show (o + 1 * n.val) % 128 = _; omega
  refine (payK_at _ _ _ _).trans ?_
  rw [entry_at hz hg z g ho hi a n (fits ho)]
  simp only [blkKb, e0, e1, e2]

/-- A piece of the keys' rows: one head's, every sixteenth row. -/
theorem pieceK {q : ℕ} (hq hp) (ho : ∀ a, (![0, 128 * q] : Fin 2 → Nat) a + S128x128.size a ≤ S128x2048.size a) (h' : q < 16) (x : S128x128.Idx) :
    k0_pay3 (cols hz z ho) (gains hg g hi) x = blkK z g ((⟨⟨![q, 0], ![128, 128], ![16, 1], hq⟩, hp⟩ : Rect S2048x128).emb x) := by
  obtain ⟨a, n, rfl⟩ : ∃ a n : Fin 128, x = ix2 a n := ⟨_, _, sq x⟩
  have e0 : ((⟨⟨![q, 0], ![128, 128], ![16, 1], hq⟩, hp⟩ : Rect S2048x128).emb (ix2 a n) 0).val / 16 = a.val := by
    show (q + 16 * a.val) / 16 = _; omega
  have e1 (k : Fin 128) : ((⟨⟨![q, 0], ![128, 128], ![16, 1], hq⟩, hp⟩ : Rect S2048x128).emb (ix2 a n) 0).val % 16 * 128 + k.val = 128 * q + k.val := by
    show (q + 16 * a.val) % 16 * 128 + k.val = _; omega
  have e2 : ((⟨⟨![q, 0], ![128, 128], ![16, 1], hq⟩, hp⟩ : Rect S2048x128).emb (ix2 a n) 1).val = n.val := by
    show 0 + 1 * n.val = _; omega
  refine (payK_at _ _ _ _).trans ?_
  rw [entry_at hz hg z g ho hi a n (fits ho)]
  simp only [blkK, e0, e1, e2]

/-- A piece of the values' rows. -/
theorem pieceV {q : ℕ} (hq hp) (ho : ∀ a, (![0, q % 8 * 256 + q / 8 * 128] : Fin 2 → Nat) a + S128x128.size a ≤ S128x2048.size a) (h' : q < 16) (x : S128x128.Idx) :
    cols hz z ho x = blkV z ((⟨⟨![q, 0], ![128, 128], ![16, 1], hq⟩, hp⟩ : Rect S2048x128).emb x) := by
  obtain ⟨a, n, rfl⟩ : ∃ a n : Fin 128, x = ix2 a n := ⟨_, _, sq x⟩
  have e0 : ((⟨⟨![q, 0], ![128, 128], ![16, 1], hq⟩, hp⟩ : Rect S2048x128).emb (ix2 a n) 0).val / 16 = a.val := by
    show (q + 16 * a.val) / 16 = _; omega
  have e1 : ((⟨⟨![q, 0], ![128, 128], ![16, 1], hq⟩, hp⟩ : Rect S2048x128).emb (ix2 a n) 0).val % 8 * 256 + ((⟨⟨![q, 0], ![128, 128], ![16, 1], hq⟩, hp⟩ : Rect S2048x128).emb (ix2 a n) 0).val / 8 % 2 * 128
      + ((⟨⟨![q, 0], ![128, 128], ![16, 1], hq⟩, hp⟩ : Rect S2048x128).emb (ix2 a n) 1).val = q % 8 * 256 + q / 8 * 128 + n.val := by
    show (q + 16 * a.val) % 8 * 256 + (q + 16 * a.val) / 8 % 2 * 128 + (0 + 1 * n.val) = _; omega
  refine (cols_at hz z ho _ _ ⟨q % 8 * 256 + q / 8 * 128 + n.val, fits ho n⟩ rfl).trans ?_
  simp only [blkV, e0, e1]

end Piece

/-! ## The blocks the run leaves -/

/-- Sixteen pieces, each every sixteenth row from its own first one on, cover the rows. -/
theorem cover_rows (L : List (View.Piece (Elt Ideal) S2048x128 .f32)) (qs : List ℕ) (hs : ∀ q, q < 16 → q ∈ qs)
    (h : (L.map fun p => (p.1.off 0, p.1.off 1, p.1.size 0, p.1.size 1, p.1.stride 0, p.1.stride 1))
      = (qs.map fun q => (q, 0, 128, 128, 16, 1))) (y : S2048x128.Idx) : ∃ p ∈ L, y ∈ p.1.set := by
  have h0 : (y 0).val < 2048 := (y 0).isLt
  have h1 : (y 1).val < 128 := (y 1).isLt
  have hm : ((y 0).val % 16, 0, 128, 128, 16, 1) ∈ (qs.map fun q => (q, 0, 128, 128, 16, 1)) :=
    List.mem_map.mpr ⟨(y 0).val % 16, hs _ (by omega), rfl⟩
  rw [← h] at hm
  obtain ⟨p, hp, e⟩ := List.mem_map.mp hm
  simp only [Prod.mk.injEq] at e
  obtain ⟨o0, o1, s0, s1, t0, t1⟩ := e
  refine ⟨p, hp, p.1.mem_set.mpr fun a => ?_⟩
  match a with
  | ⟨0, _⟩ => exact ⟨(y 0).val / 16, lt_of_lt_of_eq (by omega) s0.symm, by
      show (y 0).val = p.1.off 0 + p.1.stride 0 * ((y 0).val / 16)
      rw [o0, t0]; omega⟩
  | ⟨1, _⟩ => exact ⟨(y 1).val, lt_of_lt_of_eq h1 s1.symm, by
      show (y 1).val = p.1.off 1 + p.1.stride 1 * (y 1).val
      rw [o1, t1]; omega⟩

variable (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x2048 .bf16) (harg7 : arg7.IsWhole) (arg8 : Memref sig .tc .vmem S2048x128 .f32) (harg8 : arg8.IsWhole) (arg9 : Memref sig .tc .vmem S128x2048 .bf16) (harg9 : arg9.IsWhole) (arg10 : Memref sig .tc .vmem S128x2048 .bf16) (harg10 : arg10.IsWhole) (arg11 : Memref sig .tc .vmem S2048x128 .f32) (harg11 : arg11.IsWhole)
  (x0 x1 x2 : Vec Ideal S128x2048 .f32) (x3 x4 : Vec Ideal S1x128 .f32)

/-- The normalised queries. -/
theorem coverQ (y : S128x2048.Idx) : ∃ p ∈ (run c i arg2 harg2 arg3 harg3 arg4 harg4 arg5 harg5 arg6 harg6 arg7 harg7 arg8 harg8 arg9 harg9 arg10 harg10 arg11 harg11 x0 x1 x2 x3 x4).1.1, y ∈ p.1.set :=
  View.cover_of_tiledL (run c i arg2 harg2 arg3 harg3 arg4 harg4 arg5 harg5 arg6 harg6 arg7 harg7 arg8 harg8 arg9 harg9 arg10 harg10 arg11 harg11 x0 x1 x2 x3 x4).1.1 S128x128.size (by sl_kernel_rfl) y

theorem agreeQ : ∀ p ∈ (run c i arg2 harg2 arg3 harg3 arg4 harg4 arg5 harg5 arg6 harg6 arg7 harg7 arg8 harg8 arg9 harg9 arg10 harg10 arg11 harg11 x0 x1 x2 x3 x4).1.1, ∀ x, p.2 x = (blkQ x0 x3) (p.1.emb x) := by
  unfold run
  dsimp only
  simp only [List.forall_mem_cons, List.not_mem_nil, false_implies, implies_true, _root_.and_true]
  refine ⟨?_, ?_, ?_, ?_, ?_, ?_, ?_, ?_, ?_, ?_, ?_, ?_, ?_, ?_, ?_, ?_⟩
  all_goals refine fun x => Eq.trans ?_ (pieceQ harg2 harg5 x0 x3 ?_ ?_ ?_ x)
  all_goals first | rfl | decide

theorem leavesQ (f) : arg7.view.read (Elt Ideal) (arg7.view.writes (Elt Ideal) f (run c i arg2 harg2 arg3 harg3 arg4 harg4 arg5 harg5 arg6 harg6 arg7 harg7 arg8 harg8 arg9 harg9 arg10 harg10 arg11 harg11 x0 x1 x2 x3 x4).1.1) = blkQ x0 x3 := by
  rw [View.read_writes_eq_canon _ _ _ (coverQ c i arg2 harg2 arg3 harg3 arg4 harg4 arg5 harg5 arg6 harg6 arg7 harg7 arg8 harg8 arg9 harg9 arg10 harg10 arg11 harg11 x0 x1 x2 x3 x4)]
  funext y
  exact canon_agree _ _ (agreeQ c i arg2 harg2 arg3 harg3 arg4 harg4 arg5 harg5 arg6 harg6 arg7 harg7 arg8 harg8 arg9 harg9 arg10 harg10 arg11 harg11 x0 x1 x2 x3 x4) y (coverQ c i arg2 harg2 arg3 harg3 arg4 harg4 arg5 harg5 arg6 harg6 arg7 harg7 arg8 harg8 arg9 harg9 arg10 harg10 arg11 harg11 x0 x1 x2 x3 x4 y)

/-- The keys' rows. -/
theorem coverK (y : S2048x128.Idx) : ∃ p ∈ (run c i arg2 harg2 arg3 harg3 arg4 harg4 arg5 harg5 arg6 harg6 arg7 harg7 arg8 harg8 arg9 harg9 arg10 harg10 arg11 harg11 x0 x1 x2 x3 x4).1.2.1, y ∈ p.1.set :=
  cover_rows (run c i arg2 harg2 arg3 harg3 arg4 harg4 arg5 harg5 arg6 harg6 arg7 harg7 arg8 harg8 arg9 harg9 arg10 harg10 arg11 harg11 x0 x1 x2 x3 x4).1.2.1 [15, 14, 13, 12, 11, 10, 9, 8, 7, 6, 5, 4, 3, 2, 1, 0] (by decide) (by sl_kernel_rfl) y

theorem agreeK : ∀ p ∈ (run c i arg2 harg2 arg3 harg3 arg4 harg4 arg5 harg5 arg6 harg6 arg7 harg7 arg8 harg8 arg9 harg9 arg10 harg10 arg11 harg11 x0 x1 x2 x3 x4).1.2.1, ∀ x, p.2 x = (blkK x1 x4) (p.1.emb x) := by
  unfold run
  dsimp only
  simp only [List.forall_mem_cons, List.not_mem_nil, false_implies, implies_true, _root_.and_true]
  refine ⟨?_, ?_, ?_, ?_, ?_, ?_, ?_, ?_, ?_, ?_, ?_, ?_, ?_, ?_, ?_, ?_⟩
  all_goals refine fun x => Eq.trans ?_ (pieceK harg3 harg6 x1 x4 ?_ _ _ ?_ ?_ x)
  all_goals first | rfl | decide

theorem leavesK (f) : arg8.view.read (Elt Ideal) (arg8.view.writes (Elt Ideal) f (run c i arg2 harg2 arg3 harg3 arg4 harg4 arg5 harg5 arg6 harg6 arg7 harg7 arg8 harg8 arg9 harg9 arg10 harg10 arg11 harg11 x0 x1 x2 x3 x4).1.2.1) = blkK x1 x4 := by
  rw [View.read_writes_eq_canon _ _ _ (coverK c i arg2 harg2 arg3 harg3 arg4 harg4 arg5 harg5 arg6 harg6 arg7 harg7 arg8 harg8 arg9 harg9 arg10 harg10 arg11 harg11 x0 x1 x2 x3 x4)]
  funext y
  exact canon_agree _ _ (agreeK c i arg2 harg2 arg3 harg3 arg4 harg4 arg5 harg5 arg6 harg6 arg7 harg7 arg8 harg8 arg9 harg9 arg10 harg10 arg11 harg11 x0 x1 x2 x3 x4) y (coverK c i arg2 harg2 arg3 harg3 arg4 harg4 arg5 harg5 arg6 harg6 arg7 harg7 arg8 harg8 arg9 harg9 arg10 harg10 arg11 harg11 x0 x1 x2 x3 x4 y)

/-- The normalised keys. -/
theorem coverKb (y : S128x2048.Idx) : ∃ p ∈ (run c i arg2 harg2 arg3 harg3 arg4 harg4 arg5 harg5 arg6 harg6 arg7 harg7 arg8 harg8 arg9 harg9 arg10 harg10 arg11 harg11 x0 x1 x2 x3 x4).1.2.2.1, y ∈ p.1.set :=
  View.cover_of_tiledL (run c i arg2 harg2 arg3 harg3 arg4 harg4 arg5 harg5 arg6 harg6 arg7 harg7 arg8 harg8 arg9 harg9 arg10 harg10 arg11 harg11 x0 x1 x2 x3 x4).1.2.2.1 S128x128.size (by sl_kernel_rfl) y

theorem agreeKb : ∀ p ∈ (run c i arg2 harg2 arg3 harg3 arg4 harg4 arg5 harg5 arg6 harg6 arg7 harg7 arg8 harg8 arg9 harg9 arg10 harg10 arg11 harg11 x0 x1 x2 x3 x4).1.2.2.1, ∀ x, p.2 x = (blkKb x1 x4) (p.1.emb x) := by
  unfold run
  dsimp only
  simp only [List.forall_mem_cons, List.not_mem_nil, false_implies, implies_true, _root_.and_true]
  refine ⟨?_, ?_, ?_, ?_, ?_, ?_, ?_, ?_, ?_, ?_, ?_, ?_, ?_, ?_, ?_, ?_⟩
  all_goals refine fun x => Eq.trans ?_ (pieceKb harg3 harg6 x1 x4 ?_ ?_ ?_ x)
  all_goals first | rfl | decide

theorem leavesKb (f) : arg9.view.read (Elt Ideal) (arg9.view.writes (Elt Ideal) f (run c i arg2 harg2 arg3 harg3 arg4 harg4 arg5 harg5 arg6 harg6 arg7 harg7 arg8 harg8 arg9 harg9 arg10 harg10 arg11 harg11 x0 x1 x2 x3 x4).1.2.2.1) = blkKb x1 x4 := by
  rw [View.read_writes_eq_canon _ _ _ (coverKb c i arg2 harg2 arg3 harg3 arg4 harg4 arg5 harg5 arg6 harg6 arg7 harg7 arg8 harg8 arg9 harg9 arg10 harg10 arg11 harg11 x0 x1 x2 x3 x4)]
  funext y
  exact canon_agree _ _ (agreeKb c i arg2 harg2 arg3 harg3 arg4 harg4 arg5 harg5 arg6 harg6 arg7 harg7 arg8 harg8 arg9 harg9 arg10 harg10 arg11 harg11 x0 x1 x2 x3 x4) y (coverKb c i arg2 harg2 arg3 harg3 arg4 harg4 arg5 harg5 arg6 harg6 arg7 harg7 arg8 harg8 arg9 harg9 arg10 harg10 arg11 harg11 x0 x1 x2 x3 x4 y)

/-- The values' rows. -/
theorem coverV (y : S2048x128.Idx) : ∃ p ∈ (run c i arg2 harg2 arg3 harg3 arg4 harg4 arg5 harg5 arg6 harg6 arg7 harg7 arg8 harg8 arg9 harg9 arg10 harg10 arg11 harg11 x0 x1 x2 x3 x4).1.2.2.2.2, y ∈ p.1.set :=
  cover_rows (run c i arg2 harg2 arg3 harg3 arg4 harg4 arg5 harg5 arg6 harg6 arg7 harg7 arg8 harg8 arg9 harg9 arg10 harg10 arg11 harg11 x0 x1 x2 x3 x4).1.2.2.2.2 [15, 7, 14, 6, 13, 5, 12, 4, 11, 3, 10, 2, 9, 1, 8, 0] (by decide) (by sl_kernel_rfl) y

theorem agreeV : ∀ p ∈ (run c i arg2 harg2 arg3 harg3 arg4 harg4 arg5 harg5 arg6 harg6 arg7 harg7 arg8 harg8 arg9 harg9 arg10 harg10 arg11 harg11 x0 x1 x2 x3 x4).1.2.2.2.2, ∀ x, p.2 x = (blkV x2) (p.1.emb x) := by
  unfold run
  dsimp only
  simp only [List.forall_mem_cons, List.not_mem_nil, false_implies, implies_true, _root_.and_true]
  refine ⟨?_, ?_, ?_, ?_, ?_, ?_, ?_, ?_, ?_, ?_, ?_, ?_, ?_, ?_, ?_, ?_⟩
  all_goals refine fun x => Eq.trans ?_ (pieceV harg4 x2 _ _ ?_ ?_ x)
  all_goals first | rfl | decide

theorem leavesV (f) : arg11.view.read (Elt Ideal) (arg11.view.writes (Elt Ideal) f (run c i arg2 harg2 arg3 harg3 arg4 harg4 arg5 harg5 arg6 harg6 arg7 harg7 arg8 harg8 arg9 harg9 arg10 harg10 arg11 harg11 x0 x1 x2 x3 x4).1.2.2.2.2) = blkV x2 := by
  rw [View.read_writes_eq_canon _ _ _ (coverV c i arg2 harg2 arg3 harg3 arg4 harg4 arg5 harg5 arg6 harg6 arg7 harg7 arg8 harg8 arg9 harg9 arg10 harg10 arg11 harg11 x0 x1 x2 x3 x4)]
  funext y
  exact canon_agree _ _ (agreeV c i arg2 harg2 arg3 harg3 arg4 harg4 arg5 harg5 arg6 harg6 arg7 harg7 arg8 harg8 arg9 harg9 arg10 harg10 arg11 harg11 x0 x1 x2 x3 x4) y (coverV c i arg2 harg2 arg3 harg3 arg4 harg4 arg5 harg5 arg6 harg6 arg7 harg7 arg8 harg8 arg9 harg9 arg10 harg10 arg11 harg11 x0 x1 x2 x3 x4 y)

/-- The values' copy. -/
theorem leavesVb (f) : arg10.view.read (Elt Ideal) (arg10.view.writes (Elt Ideal) f (run c i arg2 harg2 arg3 harg3 arg4 harg4 arg5 harg5 arg6 harg6 arg7 harg7 arg8 harg8 arg9 harg9 arg10 harg10 arg11 harg11 x0 x1 x2 x3 x4).1.2.2.2.1) = fun y => x2 y := by
  have hc (y : S128x2048.Idx) : ∃ p ∈ (run c i arg2 harg2 arg3 harg3 arg4 harg4 arg5 harg5 arg6 harg6 arg7 harg7 arg8 harg8 arg9 harg9 arg10 harg10 arg11 harg11 x0 x1 x2 x3 x4).1.2.2.2.1, y ∈ p.1.set :=
    View.cover_of_tiledL (run c i arg2 harg2 arg3 harg3 arg4 harg4 arg5 harg5 arg6 harg6 arg7 harg7 arg8 harg8 arg9 harg9 arg10 harg10 arg11 harg11 x0 x1 x2 x3 x4).1.2.2.2.1 S128x2048.size (by sl_kernel_rfl) y
  have ha : ∀ p ∈ (run c i arg2 harg2 arg3 harg3 arg4 harg4 arg5 harg5 arg6 harg6 arg7 harg7 arg8 harg8 arg9 harg9 arg10 harg10 arg11 harg11 x0 x1 x2 x3 x4).1.2.2.2.1, ∀ x, p.2 x = x2 (p.1.emb x) := by
    unfold run
    dsimp only
    simp only [List.forall_mem_cons, List.not_mem_nil, false_implies, implies_true, _root_.and_true]
    exact fun x => harg4.readAt_unread x2 _ x
  rw [View.read_writes_eq_canon _ _ _ hc]
  funext y
  exact canon_agree _ _ ha y (hc y)

end Cert.KernelPostIdeal.Post

end
-- ==== Proof.PostFrameIdeal.lean ====
/-
  The per-head normalisation over the extended reals: what each grid point leaves in its five output blocks, the run with its
  five result arrays named, and the frame.
-/
module

public import proofs.«01_k».proof.Proof.PostBlocks

@[expose] public section

set_option maxRecDepth 16384

noncomputable section

namespace Cert.KernelPostIdeal.Post

open Cert.KernelPostIdeal Cert.KernelPostIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-- The pipeline's proof data: the inputs' blocks stay, each output's is the body's result; three inputs share one array. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blkQ (iblk m c 0 t) (iblk m c 3 t)
    | ⟨6, _⟩ => blkK (iblk m c 1 t) (iblk m c 4 t)
    | ⟨7, _⟩ => blkKb (iblk m c 1 t) (iblk m c 4 t)
    | ⟨8, _⟩ => fun y => iblk m c 2 t y
    | ⟨9, _⟩ => blkV (iblk m c 2 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (blkQ (iblk m c 0 t) (iblk m c 3 t)) := by dsimp only [dats]
theorem after_6 (c : Dev nD) (t : Fin cfg0.N) : (dats m 0 c).after 6 t = (blkK (iblk m c 1 t) (iblk m c 4 t)) := by dsimp only [dats]
theorem after_7 (c : Dev nD) (t : Fin cfg0.N) : (dats m 0 c).after 7 t = (blkKb (iblk m c 1 t) (iblk m c 4 t)) := by dsimp only [dats]
theorem after_8 (c : Dev nD) (t : Fin cfg0.N) : (dats m 0 c).after 8 t = (fun y => iblk m c 2 t y) := by dsimp only [dats]; rfl
theorem after_9 (c : Dev nD) (t : Fin cfg0.N) : (dats m 0 c).after 9 t = (blkV (iblk m c 2 t)) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((run c (grid0.coords t) _ _ _ _ _ _ _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, ⟨%e5, H5⟩, ⟨%e6, H6⟩, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns
  isplitl [H5]
  · iexists _; isplitr; swap; · iexact H5
    ipureintro; exact leavesQ _ _ _ _ _ _ _ _ _ _ _ _ _ _ _ _ _ _ _ _ _ _ _ _ _ _ _ _
  isplitl [H6]
  · iexists _; isplitr; swap; · iexact H6
    ipureintro; exact leavesK _ _ _ _ _ _ _ _ _ _ _ _ _ _ _ _ _ _ _ _ _ _ _ _ _ _ _ _
  isplitl [H7]
  · iexists _; isplitr; swap; · iexact H7
    ipureintro; exact leavesKb _ _ _ _ _ _ _ _ _ _ _ _ _ _ _ _ _ _ _ _ _ _ _ _ _ _ _ _
  isplitl [H8]
  · iexists _; isplitr; swap; · iexact H8
    ipureintro; exact leavesVb _ _ _ _ _ _ _ _ _ _ _ _ _ _ _ _ _ _ _ _ _ _ _ _ _ _ _ _
  iexists _; isplitr; swap; · iexact H9
  ipureintro; exact leavesV _ _ _ _ _ _ _ _ _ _ _ _ _ _ _ _ _ _ _ _ _ _ _ _ _ _ _ _

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := Ideal))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run with its five result arrays named, the arguments unchanged and every counter at zero. -/
theorem run_blocks : θ_run defs (onTc (τ := τ) (main (F := Ideal))) ⟨m, fun _ => 0, ρ⟩ fun r => (∀ c : Dev nD,
      r.2.mem ((c : Thread nD τ).loc main_v2_0) = (dats m 0 c).arrAt 5 cfg0.N
      ∧ r.2.mem ((c : Thread nD τ).loc main_v2_1) = (dats m 0 c).arrAt 6 cfg0.N
      ∧ r.2.mem ((c : Thread nD τ).loc main_v2_2) = (dats m 0 c).arrAt 7 cfg0.N
      ∧ r.2.mem ((c : Thread nD τ).loc main_v2_3) = (dats m 0 c).arrAt 8 cfg0.N
      ∧ r.2.mem ((c : Thread nD τ).loc main_v2_4) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 :=
  (θ_run defs _ _).mono (fun r h => ⟨fun c => ⟨(h.1 c).1 5, (h.1 c).1 6, (h.1 c).1 7, (h.1 c).1 8, (h.1 c).1 9,
      ((h.1 c).1 2).trans (((dats m 0 c).arrAt_in 2 rfl _).trans ((A_eq m c 2).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (run_main m ρ)

/-- THE FRAME. -/
theorem frame_main : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2.2.2.2.2, h.2⟩) (run_blocks m ρ)

end Cert.KernelPostIdeal.Post

end
-- ==== Proof.PostFinal.lean ====
/-
  The five result arrays of the per-head normalisation are the reference's.
-/
module

public import proofs.«01_k».proof.Proof.PostFrameIdeal
public import Idealize.ShloMosaic.Lib.Tactic.CleanTypes

@[expose] public section

set_option maxRecDepth 8192
set_option maxHeartbeats 1000000

noncomputable section

namespace Cert.KernelPostIdeal.Post

open Cert.ReferencePostIdeal.Value (entry factor qs ks vs outQ outK outKb outVb outV outQ_at outK_at outKb_at outV_at qs_at ks_at vs_at)
open Cert.KernelPostIdeal Cert.KernelPostIdeal.Gen
open Idealize.ShloMosaic Idealize.ShloMosaic.TcCoe Idealize.SL.Sem

variable (m : (ℓ : Loc nD τ sig) → Buf (Elt Ideal) ℓ) (c : Dev nD)

theorem at_0 : ∀ t : Fin cfg0.N, win0_0.index t = ![66 + t.val, 0] :=
  (by decide +kernel : ∀ t : Fin grid0.N, _)
theorem at_1 : ∀ t : Fin cfg0.N, win0_1.index t = ![66 + t.val, 1] :=
  (by decide +kernel : ∀ t : Fin grid0.N, _)
theorem at_2 : ∀ t : Fin cfg0.N, win0_2.index t = ![66 + t.val, 2] :=
  (by decide +kernel : ∀ t : Fin grid0.N, _)
theorem at_3 : ∀ t : Fin cfg0.N, win0_3.index t = ![0, 0] :=
  (by decide +kernel : ∀ t : Fin grid0.N, _)
theorem at_4 : ∀ t : Fin cfg0.N, win0_4.index t = ![0, 0] :=
  (by decide +kernel : ∀ t : Fin grid0.N, _)
theorem at_5 : ∀ t : Fin cfg0.N, win0_5.index t = ![t.val, 0] :=
  (by decide +kernel : ∀ t : Fin grid0.N, _)
theorem at_6 : ∀ t : Fin cfg0.N, win0_6.index t = ![t.val, 0] :=
  (by decide +kernel : ∀ t : Fin grid0.N, _)
theorem at_7 : ∀ t : Fin cfg0.N, win0_7.index t = ![t.val, 0] :=
  (by decide +kernel : ∀ t : Fin grid0.N, _)
theorem at_8 : ∀ t : Fin cfg0.N, win0_8.index t = ![t.val, 0] :=
  (by decide +kernel : ∀ t : Fin grid0.N, _)
theorem at_9 : ∀ t : Fin cfg0.N, win0_9.index t = ![t.val, 0] :=
  (by decide +kernel : ∀ t : Fin grid0.N, _)

/-- A gain as one row. -/
def gain (g : FVec Ideal S128 .f32) : FVec Ideal S1x128 .f32 := shapeCast S1x128 g shapeCasts_S128_S1x128

theorem gain_at (g : FVec Ideal S128 .f32) (n : Fin 128) : (gain g (ix2 0 n) : EReal) = g (ix1 n) := by
  unfold gain
  pointwise

theorem V_gain0 : V m c main_v0 = gain (m ((c : Thread nD τ).loc main_arg1)) := by
  unfold V gain
  after_reads_simp
  rfl

theorem V_gain1 : V m c main_v1 = gain (m ((c : Thread nD τ).loc main_arg2)) := by
  unfold V gain
  after_reads_simp
  rfl

theorem qs_block (t : Fin cfg0.N) (a : Fin 128) (k : Fin 2048) (r : Fin 256) (hr : r.val = t.val * 128 + a.val) :
    (iblk m c 0 t (ix2 a k) : EReal) = qs (m ((c : Thread nD τ).loc main_arg0)) (ix2 r k) := by
  rw [qs_at]
  blk_simp [iblk]
  rw [V_main_arg0]
  refine congrArg (m ((c : Thread nD τ).loc main_arg0)) ?_
  blk_ext [at_0]

theorem ks_block (t : Fin cfg0.N) (a : Fin 128) (k : Fin 2048) (r : Fin 256) (hr : r.val = t.val * 128 + a.val) :
    (iblk m c 1 t (ix2 a k) : EReal) = ks (m ((c : Thread nD τ).loc main_arg0)) (ix2 r k) := by
  rw [ks_at]
  blk_simp [iblk]
  rw [V_main_arg0]
  refine congrArg (m ((c : Thread nD τ).loc main_arg0)) ?_
  blk_ext [at_1]

theorem vs_block (t : Fin cfg0.N) (a : Fin 128) (k : Fin 2048) (r : Fin 256) (hr : r.val = t.val * 128 + a.val) :
    (iblk m c 2 t (ix2 a k) : EReal) = vs (m ((c : Thread nD τ).loc main_arg0)) (ix2 r k) := by
  rw [vs_at]
  blk_simp [iblk]
  rw [V_main_arg0]
  refine congrArg (m ((c : Thread nD τ).loc main_arg0)) ?_
  blk_ext [at_2]

theorem gain0_block (t : Fin cfg0.N) (n : Fin 128) :
    (iblk m c 3 t (ix2 0 n) : EReal) = m ((c : Thread nD τ).loc main_arg1) (ix1 n) := by
  blk_simp [iblk]
  rw [V_gain0]
  refine Eq.trans (congrArg (gain (m ((c : Thread nD τ).loc main_arg1))) ?_) (gain_at _ n)
  blk_ext [at_3]

theorem gain1_block (t : Fin cfg0.N) (n : Fin 128) :
    (iblk m c 4 t (ix2 0 n) : EReal) = m ((c : Thread nD τ).loc main_arg2) (ix1 n) := by
  blk_simp [iblk]
  rw [V_gain1]
  refine Eq.trans (congrArg (gain (m ((c : Thread nD τ).loc main_arg2))) ?_) (gain_at _ n)
  blk_ext [at_4]

theorem q_block (t : Fin cfg0.N) (a : Fin 128) (n : Fin 2048) (r : Fin 256) (hr : r.val = t.val * 128 + a.val) :
    (blkQ (iblk m c 0 t) (iblk m c 3 t) (ix2 a n) : EReal) = outQ (qs (m ((c : Thread nD τ).loc main_arg0))) (m ((c : Thread nD τ).loc main_arg1)) (ix2 r n) := by
  rw [outQ_at]
  unfold blkQ
  rw [gain0_block]
  exact congrArg (fun x => entry x _ _ * factor) (funext fun k => qs_block m c t a _ r hr)

theorem kb_block (t : Fin cfg0.N) (a : Fin 128) (n : Fin 2048) (r : Fin 256) (hr : r.val = t.val * 128 + a.val) :
    (blkKb (iblk m c 1 t) (iblk m c 4 t) (ix2 a n) : EReal) = outKb (ks (m ((c : Thread nD τ).loc main_arg0))) (m ((c : Thread nD τ).loc main_arg2)) (ix2 r n) := by
  rw [outKb_at]
  unfold blkKb
  rw [gain1_block]
  exact congrArg (fun x => entry x _ _) (funext fun k => ks_block m c t a _ r hr)

theorem k_block (t : Fin cfg0.N) (a : Fin 2048) (n : Fin 128) (r : Fin 4096) (hr : r.val = t.val * 2048 + a.val) :
    (blkK (iblk m c 1 t) (iblk m c 4 t) (ix2 a n) : EReal) = outK (ks (m ((c : Thread nD τ).loc main_arg0))) (m ((c : Thread nD τ).loc main_arg2)) (ix2 r n) := by
  have e (k : Fin 128) : (⟨r.val % 16 * 128 + k.val, by omega⟩ : Fin 2048) = ⟨a.val % 16 * 128 + k.val, by omega⟩ :=
    Fin.ext (by show r.val % 16 * 128 + k.val = a.val % 16 * 128 + k.val; omega)
  rw [outK_at]
  simp only [e]
  unfold blkK
  rw [gain1_block]
  exact congrArg (fun x => entry x _ _) (funext fun k => ks_block m c t _ _ _ (by show r.val / 16 = t.val * 128 + a.val / 16; omega))

theorem v_block (t : Fin cfg0.N) (a : Fin 2048) (n : Fin 128) (r : Fin 4096) (hr : r.val = t.val * 2048 + a.val) :
    (blkV (iblk m c 2 t) (ix2 a n) : EReal) = outV (vs (m ((c : Thread nD τ).loc main_arg0))) (ix2 r n) := by
  have e : (⟨r.val % 8 * 256 + r.val / 8 % 2 * 128 + n.val, by omega⟩ : Fin 2048) = ⟨a.val % 8 * 256 + a.val / 8 % 2 * 128 + n.val, by omega⟩ :=
    Fin.ext (by show r.val % 8 * 256 + r.val / 8 % 2 * 128 + n.val = a.val % 8 * 256 + a.val / 8 % 2 * 128 + n.val; omega)
  rw [outV_at, e]
  unfold blkV
  exact vs_block m c t _ _ _ (by show r.val / 16 = t.val * 128 + a.val / 16; omega)

theorem vb_block (t : Fin cfg0.N) (a : Fin 128) (n : Fin 2048) (r : Fin 256) (hr : r.val = t.val * 128 + a.val) :
    (iblk m c 2 t (ix2 a n) : EReal) = outVb (vs (m ((c : Thread nD τ).loc main_arg0))) (ix2 r n) :=
  vs_block m c t a n r hr

/-- The queries. -/
theorem final_q : (dats m 0 c).arrAt 5 cfg0.N = outQ (qs (m ((c : Thread nD τ).loc main_arg0))) (m ((c : Thread nD τ).loc main_arg1)) := by
  refine (dats m 0 c).arrAt_eq_of_covers 5 _ (by decide +kernel) fun t hf y => ?_
  blk_simp
  rw [after_5]
  have ht : t.val < 2 := lt_of_lt_of_eq t.isLt N_0
  have h0 : (y 0).val < 128 := (y 0).isLt
  have h1 : (y 1).val < 2048 := (y 1).isLt
  have e := q_block m c t ⟨(y 0).val, h0⟩ ⟨(y 1).val, h1⟩ ⟨t.val * 128 + (y 0).val, by omega⟩ rfl
  refine Eq.trans ?_ (e.trans ?_)
  · refine congrArg (blkQ (iblk m c 0 t) (iblk m c 3 t)) ?_
    blk_ext []
  · refine congrArg (outQ (qs (m ((c : Thread nD τ).loc main_arg0))) (m ((c : Thread nD τ).loc main_arg1))) ?_
    blk_ext [at_5]

/-- The keys' rows. -/
theorem final_k : (dats m 0 c).arrAt 6 cfg0.N = outK (ks (m ((c : Thread nD τ).loc main_arg0))) (m ((c : Thread nD τ).loc main_arg2)) := by
  refine (dats m 0 c).arrAt_eq_of_covers 6 _ (by decide +kernel) fun t hf y => ?_
  blk_simp
  rw [after_6]
  have ht : t.val < 2 := lt_of_lt_of_eq t.isLt N_0
  have h0 : (y 0).val < 2048 := (y 0).isLt
  have h1 : (y 1).val < 128 := (y 1).isLt
  have e := k_block m c t ⟨(y 0).val, h0⟩ ⟨(y 1).val, h1⟩ ⟨t.val * 2048 + (y 0).val, by omega⟩ rfl
  refine Eq.trans ?_ (e.trans ?_)
  · refine congrArg (blkK (iblk m c 1 t) (iblk m c 4 t)) ?_
    blk_ext []
  · refine congrArg (outK (ks (m ((c : Thread nD τ).loc main_arg0))) (m ((c : Thread nD τ).loc main_arg2))) ?_
    blk_ext [at_6]

/-- The keys. -/
theorem final_kb : (dats m 0 c).arrAt 7 cfg0.N = outKb (ks (m ((c : Thread nD τ).loc main_arg0))) (m ((c : Thread nD τ).loc main_arg2)) := by
  refine (dats m 0 c).arrAt_eq_of_covers 7 _ (by decide +kernel) fun t hf y => ?_
  blk_simp
  rw [after_7]
  have ht : t.val < 2 := lt_of_lt_of_eq t.isLt N_0
  have h0 : (y 0).val < 128 := (y 0).isLt
  have h1 : (y 1).val < 2048 := (y 1).isLt
  have e := kb_block m c t ⟨(y 0).val, h0⟩ ⟨(y 1).val, h1⟩ ⟨t.val * 128 + (y 0).val, by omega⟩ rfl
  refine Eq.trans ?_ (e.trans ?_)
  · refine congrArg (blkKb (iblk m c 1 t) (iblk m c 4 t)) ?_
    blk_ext []
  · refine congrArg (outKb (ks (m ((c : Thread nD τ).loc main_arg0))) (m ((c : Thread nD τ).loc main_arg2))) ?_
    blk_ext [at_7]

/-- The values. -/
theorem final_vb : (dats m 0 c).arrAt 8 cfg0.N = outVb (vs (m ((c : Thread nD τ).loc main_arg0))) := by
  refine (dats m 0 c).arrAt_eq_of_covers 8 _ (by decide +kernel) fun t hf y => ?_
  blk_simp
  rw [after_8]
  have ht : t.val < 2 := lt_of_lt_of_eq t.isLt N_0
  have h0 : (y 0).val < 128 := (y 0).isLt
  have h1 : (y 1).val < 2048 := (y 1).isLt
  have e := vb_block m c t ⟨(y 0).val, h0⟩ ⟨(y 1).val, h1⟩ ⟨t.val * 128 + (y 0).val, by omega⟩ rfl
  refine Eq.trans ?_ (e.trans ?_)
  · refine congrArg (fun y => iblk m c 2 t y) ?_
    blk_ext []
  · refine congrArg (outVb (vs (m ((c : Thread nD τ).loc main_arg0)))) ?_
    blk_ext [at_8]

/-- The values' rows. -/
theorem final_v : (dats m 0 c).arrAt 9 cfg0.N = outV (vs (m ((c : Thread nD τ).loc main_arg0))) := by
  refine (dats m 0 c).arrAt_eq_of_covers 9 _ (by decide +kernel) fun t hf y => ?_
  blk_simp
  rw [after_9]
  have ht : t.val < 2 := lt_of_lt_of_eq t.isLt N_0
  have h0 : (y 0).val < 2048 := (y 0).isLt
  have h1 : (y 1).val < 128 := (y 1).isLt
  have e := v_block m c t ⟨(y 0).val, h0⟩ ⟨(y 1).val, h1⟩ ⟨t.val * 2048 + (y 0).val, by omega⟩ rfl
  refine Eq.trans ?_ (e.trans ?_)
  · refine congrArg (blkV (iblk m c 2 t)) ?_
    blk_ext []
  · refine congrArg (outV (vs (m ((c : Thread nD τ).loc main_arg0)))) ?_
    blk_ext [at_9]

end Cert.KernelPostIdeal.Post

end
-- ==== Proof.PostBFrame.lean ====
/-
  The frame of the indexed sparse attention's per-head normalisation at any float model: it terminates, nothing faults, its arguments end unchanged and
  every semaphore counter ends at zero.  The outputs' contents are not named.
-/
module

public import proofs.«01_k».proof.Proof.PostBRun

@[expose] public section

set_option maxRecDepth 16384

noncomputable section

namespace Cert.KernelPostB.Post

open Cert.KernelPostB Cert.KernelPostB.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data: the inputs' blocks stay, the outputs' are not named; seven inputs share one array. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => iblk m c 5 t
    | ⟨6, _⟩ => iblk m c 6 t
    | ⟨7, _⟩ => iblk m c 7 t
    | ⟨8, _⟩ => iblk m c 8 t
    | ⟨9, _⟩ => Dat.unnamed 9 t
    | ⟨10, _⟩ => Dat.unnamed 10 t
    | ⟨11, _⟩ => Dat.unnamed 11 t
    | ⟨12, _⟩ => Dat.unnamed 12 t
    | ⟨13, _⟩ => Dat.unnamed 13 t
    | ⟨14, _⟩ => Dat.unnamed 14 t
    | ⟨15, _⟩ => Dat.unnamed 15 t
    | ⟨16, _⟩ => Dat.unnamed 16 t
    | ⟨17, _⟩ => Dat.unnamed 17 t
    | ⟨n + 18, h⟩ => absurd h (Nat.not_lt.mpr (Nat.le_add_left 18 n))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-- The output windows are forgotten. -/
def fgt (w : Fin cfg0.W) : Bool := decide (9 ≤ w.val)

theorem after_0 (c : Dev nD) (t : Fin cfg0.N) : (dats m 0 c).after 0 t = X0_0 m c t := by dsimp only [dats]
theorem after_1 (c : Dev nD) (t : Fin cfg0.N) : (dats m 0 c).after 1 t = X0_1 m c t := by dsimp only [dats]
theorem after_2 (c : Dev nD) (t : Fin cfg0.N) : (dats m 0 c).after 2 t = X0_2 m c t := by dsimp only [dats]
theorem after_3 (c : Dev nD) (t : Fin cfg0.N) : (dats m 0 c).after 3 t = X0_3 m c t := by dsimp only [dats]
theorem after_4 (c : Dev nD) (t : Fin cfg0.N) : (dats m 0 c).after 4 t = X0_4 m c t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = X0_3 m c t :=
  before0_3_of m (dats m 0 c) (A_eq m c 3) (after_3 m c) t d
theorem before_4 (c : Dev nD) (t : Fin cfg0.N) (d) : (dats m 0 c).before 4 t d = X0_4 m c t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ X, owns (c : Thread nD τ) (st0_9 t) fullShare X) ∗ (∃ X, owns (c : Thread nD τ) (st0_10 t) fullShare X) ∗ (∃ X, owns (c : Thread nD τ) (st0_11 t) fullShare X) ∗ (∃ X, owns (c : Thread nD τ) (st0_12 t) fullShare X) ∗ (∃ X, owns (c : Thread nD τ) (st0_13 t) fullShare X) ∗ (∃ X, owns (c : Thread nD τ) (st0_14 t) fullShare X) ∗ (∃ X, owns (c : Thread nD τ) (st0_15 t) fullShare X) ∗ (∃ X, owns (c : Thread nD τ) (st0_16 t) fullShare X) ∗ (∃ X, owns (c : Thread nD τ) (st0_17 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ (∃ X, owns (c : Thread nD τ) (st0_9 t) fullShare X) ∗ (∃ X, owns (c : Thread nD τ) (st0_10 t) fullShare X) ∗ (∃ X, owns (c : Thread nD τ) (st0_11 t) fullShare X) ∗ (∃ X, owns (c : Thread nD τ) (st0_12 t) fullShare X) ∗ (∃ X, owns (c : Thread nD τ) (st0_13 t) fullShare X) ∗ (∃ X, owns (c : Thread nD τ) (st0_14 t) fullShare X) ∗ (∃ X, owns (c : Thread nD τ) (st0_15 t) fullShare X) ∗ (∃ X, owns (c : Thread nD τ) (st0_16 t) fullShare X) ∗ (∃ X, owns (c : Thread nD τ) (st0_17 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (body c (grid0.coords t) _ _ _ _ _ _ _ _ _ _ _ _ _ _ _ _ _ _ _ _ _ _ _ _ _ _ _ _ _ _ _ _ _ _ _ _ (X0_0 m c t) (X0_1 m c t) (X0_2 m c t) (X0_3 m c t) (X0_4 m c t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns
  isplitl [H9]
  · iexists _; iexists e9; isplitr; · ipureintro; rfl
    iexact H9
  isplitl [H10]
  · iexists _; iexists e10; isplitr; · ipureintro; rfl
    iexact H10
  isplitl [H11]
  · iexists _; iexists e11; isplitr; · ipureintro; rfl
    iexact H11
  isplitl [H12]
  · iexists _; iexists e12; isplitr; · ipureintro; rfl
    iexact H12
  isplitl [H13]
  · iexists _; iexists e13; isplitr; · ipureintro; rfl
    iexact H13
  isplitl [H14]
  · iexists _; iexists e14; isplitr; · ipureintro; rfl
    iexact H14
  isplitl [H15]
  · iexists _; iexists e15; isplitr; · ipureintro; rfl
    iexact H15
  isplitl [H16]
  · iexists _; iexists e16; isplitr; · ipureintro; rfl
    iexact H16
  iexists _; iexists e17; isplitr; · ipureintro; rfl
  iexact H17

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hΦ := fun _ _ => rfl)

/-- THE FRAME. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.arr_in c 6 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.KernelPostB.Post

end
-- ==== Proof.PostBRunIdeal.lean ====
/-
  One run of the idealized indexed sparse attention's per-head normalisation's body, with what it stores in each output as a list of pieces.
-/
module

public import proofs.«01_k».proof.Proof.Gen.KernelPostBIdeal.Frame
public import proofs.«01_k».proof.Proof.Gen.KernelPostBIdeal.Skeleton
public import proofs.«01_k».proof.Proof.Gen.KernelPostBIdeal.Points
public import Idealize.ShloMosaic.Lib.Claim

@[expose] public section

set_option maxRecDepth 16384

noncomputable section

namespace Cert.KernelPostBIdeal.Post

open Cert.KernelPostBIdeal Cert.KernelPostBIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The pieces the body's stores leave in the nine outputs (last first), with the run that leaves them. -/
def run (c : Dev nD) (i : grid0.Coords) (arg2 : Memref sig .tc .vmem S128x2048 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x2048 .bf16) (harg11 : arg11.IsWhole) (arg12 : Memref sig .tc .vmem S512x128 .f32) (harg12 : arg12.IsWhole) (arg13 : Memref sig .tc .vmem S128x512 .bf16) (harg13 : arg13.IsWhole) (arg14 : Memref sig .tc .vmem S128x512 .bf16) (harg14 : arg14.IsWhole) (arg15 : Memref sig .tc .vmem S128x2048 .bf16) (harg15 : arg15.IsWhole) (arg16 : Memref sig .tc .vmem S128x128 .bf16) (harg16 : arg16.IsWhole) (arg17 : Memref sig .tc .vmem S128x128 .f32) (harg17 : arg17.IsWhole) (arg18 : Memref sig .tc .vmem S512x128 .f32) (harg18 : arg18.IsWhole) (arg19 : Memref sig .tc .vmem S128x128 .f32) (harg19 : arg19.IsWhole)
    (x0 : Vec F S128x2048 .f32) (x1 : Vec F S128x512 .f32) (x2 : Vec F S128x512 .f32) (x3 : Vec F S128x1024 .f32) (x4 : Vec F S128x1024 .f32) (x5 : Vec F S128x128 .f32) (x6 : Vec F S128x128 .f32) (x7 : Vec F S1x128 .f32) (x8 : Vec F S1x128 .f32) :
    { L : List (View.Piece (Elt F) S128x2048 .bf16) × List (View.Piece (Elt F) S512x128 .f32) × List (View.Piece (Elt F) S128x512 .bf16) × List (View.Piece (Elt F) S128x512 .bf16) × List (View.Piece (Elt F) S128x2048 .bf16) × List (View.Piece (Elt F) S128x128 .bf16) × List (View.Piece (Elt F) S128x128 .f32) × List (View.Piece (Elt F) S512x128 .f32) × List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L.1) ∗ (∃ f, arg12.view.loc (c : Thread nD τ) ↦[arg12.view.set]{fullShare} arg12.view.writes (Elt F) f L.2.1) ∗ (∃ f, arg13.view.loc (c : Thread nD τ) ↦[arg13.view.set]{fullShare} arg13.view.writes (Elt F) f L.2.2.1) ∗ (∃ f, arg14.view.loc (c : Thread nD τ) ↦[arg14.view.set]{fullShare} arg14.view.writes (Elt F) f L.2.2.2.1) ∗ (∃ f, arg15.view.loc (c : Thread nD τ) ↦[arg15.view.set]{fullShare} arg15.view.writes (Elt F) f L.2.2.2.2.1) ∗ (∃ f, arg16.view.loc (c : Thread nD τ) ↦[arg16.view.set]{fullShare} arg16.view.writes (Elt F) f L.2.2.2.2.2.1) ∗ (∃ f, arg17.view.loc (c : Thread nD τ) ↦[arg17.view.set]{fullShare} arg17.view.writes (Elt F) f L.2.2.2.2.2.2.1) ∗ (∃ f, arg18.view.loc (c : Thread nD τ) ↦[arg18.view.set]{fullShare} arg18.view.writes (Elt F) f L.2.2.2.2.2.2.2.1) ∗ (∃ f, arg19.view.loc (c : Thread nD τ) ↦[arg19.view.set]{fullShare} arg19.view.writes (Elt F) f L.2.2.2.2.2.2.2.2)) -∗ K ⟨⟩))
          ⊢ wp frame (wpE (defs₀ (F := F)) Variants.none c none) E (cc0_dsa_post_tail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨⟨?_, ?_, ?_, ?_, ?_, ?_, ?_, ?_, ?_⟩, fun E K => ?run⟩
  case run =>
    simp only [cc0_dsa_post_tail_eq_skeleton]; unfold cc0_dsa_post_tail_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17

end Cert.KernelPostBIdeal.Post

end
-- ==== Proof.PostBRef.lean ====
/-
  What the indexed sparse attention's per-head normalisation computes, at one place: a head's 128 entries divided by the root of
  their mean square, times a gain; the queries then over √128 and over log 2; the index queries over √128, the index weights
  over 4; the values and the index keys as they are.
-/
module

public import proofs.«01_k».proof.Proof.Gen.ReferencePostBIdeal.Run
public import proofs.«01_k».proof.Proof.PostRef
public import Idealize.ShloMosaic.Lib.StableHlo.ReadAt
public import Idealize.ShloMosaic.Lib.Tactic.CleanTypes

@[expose] public section

set_option maxRecDepth 8192
set_option maxHeartbeats 1000000

noncomputable section

namespace Cert.ReferencePostBIdeal.Value

open Cert.ReferencePostIdeal.Value (entry factor factor_eq root)
open Cert.ReferencePostBIdeal Cert.ReferencePostBIdeal.Gen Idealize.ShloMosaic

/-- The columns of the samples' rows: the queries', the keys', the values', the index queries', keys' and weights'. -/
def qs (z : FVec Ideal S8704x5376 .f32) : FVec Ideal S256x2048 .f32 := extractStridedSlice S256x2048 ![0, 0] (extractStridedSlice S256x5376 ![8448, 0] z slices_S8704x5376_S256x5376_8448_0) slices_S256x5376_S256x2048_0_0
def ks (z : FVec Ideal S8704x5376 .f32) : FVec Ideal S256x512 .f32 := extractStridedSlice S256x512 ![0, 2048] (extractStridedSlice S256x5376 ![8448, 0] z slices_S8704x5376_S256x5376_8448_0) slices_S256x5376_S256x512_0_2048
def vs (z : FVec Ideal S8704x5376 .f32) : FVec Ideal S256x512 .f32 := extractStridedSlice S256x512 ![0, 2560] (extractStridedSlice S256x5376 ![8448, 0] z slices_S8704x5376_S256x5376_8448_0) slices_S256x5376_S256x512_0_2560
def iqs (z : FVec Ideal S8704x5376 .f32) : FVec Ideal S256x2048 .f32 := extractStridedSlice S256x2048 ![0, 3072] (extractStridedSlice S256x5376 ![8448, 0] z slices_S8704x5376_S256x5376_8448_0) slices_S256x5376_S256x2048_0_3072
def iks (z : FVec Ideal S8704x5376 .f32) : FVec Ideal S256x128 .f32 := extractStridedSlice S256x128 ![0, 5120] (extractStridedSlice S256x5376 ![8448, 0] z slices_S8704x5376_S256x5376_8448_0) slices_S256x5376_S256x128_0_5120
def iws (z : FVec Ideal S8704x5376 .f32) : FVec Ideal S256x128 .f32 := extractStridedSlice S256x128 ![0, 5248] (extractStridedSlice S256x5376 ![8448, 0] z slices_S8704x5376_S256x5376_8448_0) slices_S256x5376_S256x128_0_5248

/-- Each head's entries normalised, times the gain: sixteen heads of queries, four of keys. -/
def normedQ (x : FVec Ideal S256x2048 .f32) (g : FVec Ideal S128 .f32) : FVec Ideal S256x16x128 .f32 :=
  mulf (mulf (shapeCast S256x16x128 x shapeCasts_S256x2048_S256x16x128) (broadcastInDim S256x16x128 ![0, 1, 2] bcast_S256x16x1_S256x16x128_0_1_2 (Host.rsqrt (addf (Host.divf (broadcastInDim S256x16x1 ![0, 1] bcast_S256x16_S256x16x1_0_1 (Host.reduceAdd (mulf (shapeCast S256x16x128 x shapeCasts_S256x2048_S256x16x128) (shapeCast S256x16x128 x shapeCasts_S256x2048_S256x16x128)) (constant S_ .f32 0x00000000#32) reducesTo_S256x16x128_S256x16_d2 h_S_)) (broadcastInDim S256x16x1 ![] bcast_S_S256x16x1 (constant S_ .f32 0x43000000#32))) (broadcastInDim S256x16x1 ![] bcast_S_S256x16x1 (constant S_ .f32 0x358637BD#32)))))) (broadcastInDim S256x16x128 ![0, 1, 2] bcast_S1x1x128_S256x16x128_0_1_2 (broadcastInDim S1x1x128 ![2] bcast_S128_S1x1x128_2 g))
def normedK (x : FVec Ideal S256x512 .f32) (g : FVec Ideal S128 .f32) : FVec Ideal S256x4x128 .f32 :=
  mulf (mulf (shapeCast S256x4x128 x shapeCasts_S256x512_S256x4x128) (broadcastInDim S256x4x128 ![0, 1, 2] bcast_S256x4x1_S256x4x128_0_1_2 (Host.rsqrt (addf (Host.divf (broadcastInDim S256x4x1 ![0, 1] bcast_S256x4_S256x4x1_0_1 (Host.reduceAdd (mulf (shapeCast S256x4x128 x shapeCasts_S256x512_S256x4x128) (shapeCast S256x4x128 x shapeCasts_S256x512_S256x4x128)) (constant S_ .f32 0x00000000#32) reducesTo_S256x4x128_S256x4_d2 h_S_)) (broadcastInDim S256x4x1 ![] bcast_S_S256x4x1 (constant S_ .f32 0x43000000#32))) (broadcastInDim S256x4x1 ![] bcast_S_S256x4x1 (constant S_ .f32 0x358637BD#32)))))) (broadcastInDim S256x4x128 ![0, 1, 2] bcast_S1x1x128_S256x4x128_0_1_2 (broadcastInDim S1x1x128 ![2] bcast_S128_S1x1x128_2 g))

/-- The nine results. -/
def outQ (x : FVec Ideal S256x2048 .f32) (g : FVec Ideal S128 .f32) : FVec Ideal S256x2048 .bf16 :=
  truncf .bf16 (shapeCast _ (Host.divf (Host.divf (normedQ x g) (broadcastInDim S256x16x128 ![] bcast_S_S256x16x128 (Host.sqrt (constant S_ .f32 0x43000000#32)))) (broadcastInDim S256x16x128 ![] bcast_S_S256x16x128 (Host.log (constant S_ .f32 0x40000000#32)))) shapeCasts_S256x16x128_S256x2048) bitsLt_bf16_f32
def outK (x : FVec Ideal S256x512 .f32) (g : FVec Ideal S128 .f32) : FVec Ideal S1024x128 .f32 :=
  shapeCast S1024x128 (normedK x g) shapeCasts_S256x4x128_S1024x128
def outKb (x : FVec Ideal S256x512 .f32) (g : FVec Ideal S128 .f32) : FVec Ideal S256x512 .bf16 :=
  truncf .bf16 (shapeCast S256x512 (normedK x g) shapeCasts_S256x4x128_S256x512) bitsLt_bf16_f32
def outVb (x : FVec Ideal S256x512 .f32) : FVec Ideal S256x512 .bf16 := truncf .bf16 x bitsLt_bf16_f32
def outIq (x : FVec Ideal S256x2048 .f32) : FVec Ideal S256x2048 .bf16 :=
  truncf .bf16 (Host.divf x (broadcastInDim S256x2048 ![] bcast_S_S256x2048 (Host.sqrt (constant S_ .f32 0x43000000#32)))) bitsLt_bf16_f32
def outIkb (x : FVec Ideal S256x128 .f32) : FVec Ideal S256x128 .bf16 := truncf .bf16 x bitsLt_bf16_f32
def outIw (x : FVec Ideal S256x128 .f32) : FVec Ideal S256x128 .f32 :=
  Host.divf x (broadcastInDim S256x128 ![] bcast_S_S256x128 (Host.sqrt (constant S_ .f32 0x41800000#32)))
def outV (x : FVec Ideal S256x512 .f32) : FVec Ideal S1024x128 .f32 := shapeCast S1024x128 x shapeCasts_S256x512_S1024x128

/-- The index queries' factor: one over √128. -/
def ifactor : EReal := (((Real.sqrt 128)⁻¹ : ℝ) : EReal)

theorem ifactor_eq (x : EReal) : Ideal.div x (Ideal.sqrt (Ideal.ofBits .f32 0x43000000#32)) = x * ifactor := by
  rw [root, Ideal.div_coe (Real.sqrt_pos.mpr (by norm_num)).ne', one_div]
  rfl

/-- A quarter. -/
theorem quarter : Ideal.ofBits .f32 0x3E800000#32 = ((4⁻¹ : ℝ) : EReal) := by
  simp [Ideal.ofBits, Ideal.ieee]
  norm_num
  rw [← EReal.coe_mul]
  norm_num

theorem four : Ideal.sqrt (Ideal.ofBits .f32 0x41800000#32) = ((4 : ℝ) : EReal) := by
  have e : Ideal.ofBits .f32 0x41800000#32 = ((16 : ℝ) : EReal) := by
    simp [Ideal.ofBits, Ideal.ieee]
    norm_num
    rw [← EReal.coe_mul]
    norm_num
  rw [e, Ideal.sqrt_coe, if_neg (by norm_num), show (16 : ℝ) = 4 ^ 2 by norm_num, Real.sqrt_sq (by norm_num)]

theorem quarter_eq (x : EReal) : Ideal.div x (Ideal.sqrt (Ideal.ofBits .f32 0x41800000#32)) = x * Ideal.ofBits .f32 0x3E800000#32 := by
  rw [four, Ideal.div_coe (by norm_num), quarter, one_div]

theorem outQ_at (x : FVec Ideal S256x2048 .f32) (g : FVec Ideal S128 .f32) (r : Fin 256) (c : Fin 2048) :
    (outQ x g (ix2 r c) : EReal)
      = entry (fun k => x (ix2 r ⟨c.val / 128 * 128 + k.val, by omega⟩)) ⟨c.val % 128, by omega⟩ (g (ix1 ⟨c.val % 128, by omega⟩)) * factor := by
  have e' : (⟨c.val / 128 * 128 + c.val % 128, by omega⟩ : Fin 2048) = c := Fin.ext (by show c.val / 128 * 128 + c.val % 128 = c.val; omega)
  rw [← factor_eq]
  unfold outQ normedQ entry
  pointwise
  try simp only [e']

theorem outKb_at (x : FVec Ideal S256x512 .f32) (g : FVec Ideal S128 .f32) (r : Fin 256) (c : Fin 512) :
    (outKb x g (ix2 r c) : EReal)
      = entry (fun k => x (ix2 r ⟨c.val / 128 * 128 + k.val, by omega⟩)) ⟨c.val % 128, by omega⟩ (g (ix1 ⟨c.val % 128, by omega⟩)) := by
  have e' : (⟨c.val / 128 * 128 + c.val % 128, by omega⟩ : Fin 512) = c := Fin.ext (by show c.val / 128 * 128 + c.val % 128 = c.val; omega)
  unfold outKb normedK entry
  pointwise
  try simp only [e']

theorem outK_at (x : FVec Ideal S256x512 .f32) (g : FVec Ideal S128 .f32) (r : Fin 1024) (n : Fin 128) :
    (outK x g (ix2 r n) : EReal)
      = entry (fun k => x (ix2 ⟨r.val / 4, by omega⟩ ⟨r.val % 4 * 128 + k.val, by omega⟩)) n (g (ix1 n)) := by
  unfold outK normedK entry
  pointwise

theorem outV_at (x : FVec Ideal S256x512 .f32) (r : Fin 1024) (n : Fin 128) :
    (outV x (ix2 r n) : EReal) = x (ix2 ⟨r.val / 4, by omega⟩ ⟨r.val % 4 * 128 + n.val, by omega⟩) := by
  unfold outV
  pointwise

theorem outIq_at (x : FVec Ideal S256x2048 .f32) (r : Fin 256) (c : Fin 2048) :
    (outIq x (ix2 r c) : EReal) = x (ix2 r c) * ifactor := by
  rw [← ifactor_eq]
  unfold outIq
  pointwise

theorem outIw_at (x : FVec Ideal S256x128 .f32) (r : Fin 256) (c : Fin 128) :
    (outIw x (ix2 r c) : EReal) = x (ix2 r c) * Ideal.ofBits .f32 0x3E800000#32 := by
  rw [← quarter_eq]
  unfold outIw
  pointwise

theorem qs_at (z : FVec Ideal S8704x5376 .f32) (r : Fin 256) (c : Fin 2048) :
    (qs z (ix2 r c) : EReal) = z (ix2 ⟨8448 + r.val, by omega⟩ ⟨c.val, by omega⟩) := by
  unfold qs
  pointwise

theorem ks_at (z : FVec Ideal S8704x5376 .f32) (r : Fin 256) (c : Fin 512) :
    (ks z (ix2 r c) : EReal) = z (ix2 ⟨8448 + r.val, by omega⟩ ⟨2048 + c.val, by omega⟩) := by
  unfold ks
  pointwise

theorem vs_at (z : FVec Ideal S8704x5376 .f32) (r : Fin 256) (c : Fin 512) :
    (vs z (ix2 r c) : EReal) = z (ix2 ⟨8448 + r.val, by omega⟩ ⟨2560 + c.val, by omega⟩) := by
  unfold vs
  pointwise

theorem iqs_at (z : FVec Ideal S8704x5376 .f32) (r : Fin 256) (c : Fin 2048) :
    (iqs z (ix2 r c) : EReal) = z (ix2 ⟨8448 + r.val, by omega⟩ ⟨3072 + c.val, by omega⟩) := by
  unfold iqs
  pointwise

theorem iks_at (z : FVec Ideal S8704x5376 .f32) (r : Fin 256) (c : Fin 128) :
    (iks z (ix2 r c) : EReal) = z (ix2 ⟨8448 + r.val, by omega⟩ ⟨5120 + c.val, by omega⟩) := by
  unfold iks
  pointwise

theorem iws_at (z : FVec Ideal S8704x5376 .f32) (r : Fin 256) (c : Fin 128) :
    (iws z (ix2 r c) : EReal) = z (ix2 ⟨8448 + r.val, by omega⟩ ⟨5248 + c.val, by omega⟩) := by
  unfold iws
  pointwise

end Cert.ReferencePostBIdeal.Value

end
-- ==== Proof.PostBBlocks.lean ====
/-
  What the indexed sparse attention's per-head normalisation stores at each place of its nine output blocks, read off the pieces its run leaves.
-/
module

public import proofs.«01_k».proof.Proof.PostBRunIdeal
public import proofs.«01_k».proof.Proof.PostBRef
public import proofs.«01_k».proof.Proof.PostBlocks
public import Idealize.ShloMosaic.Lib.WholeRead
public import Idealize.ShloMosaic.Lib.Pipeline.ValueKit
public import Idealize.ShloMosaic.Lib.Pipeline.ReadBack

@[expose] public section

set_option maxRecDepth 16384
set_option maxHeartbeats 1000000

noncomputable section

namespace Cert.KernelPostBIdeal.Post

open Cert.ReferencePostIdeal.Value (entry factor)
open Cert.ReferencePostBIdeal.Value (ifactor)
open Cert.KernelPostIdeal.Post (canon_agree sq)
open Cert.KernelPostBIdeal Cert.KernelPostBIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

/-! ## The nine blocks -/

theorem named_scale : (Named.named κ "scale" 0x3E0293EE#32 : Ideal .f32) = factor := IdealRules.named_const.ideal_named_scalar _ _ _ _ rfl
theorem named_iscale : (Named.named κ "iscale" 0x3DB504F3#32 : Ideal .f32) = ifactor := IdealRules.named_const.ideal_named_scalar _ _ _ _ rfl

def blkQ (x : Vec Ideal S128x2048 .f32) (g : Vec Ideal S1x128 .f32) : Vec Ideal S128x2048 .bf16 := fun y =>
  entry (fun k => x (ix2 ⟨(y 0).val, (y 0).isLt⟩ ⟨(y 1).val / 128 * 128 + k.val, by have : (y 1).val < 2048 := (y 1).isLt; omega⟩)) ⟨(y 1).val % 128, by omega⟩
    (g (ix2 0 ⟨(y 1).val % 128, by omega⟩)) * factor

def blkKb (x : Vec Ideal S128x512 .f32) (g : Vec Ideal S1x128 .f32) : Vec Ideal S128x512 .bf16 := fun y =>
  entry (fun k => x (ix2 ⟨(y 0).val, (y 0).isLt⟩ ⟨(y 1).val / 128 * 128 + k.val, by have : (y 1).val < 512 := (y 1).isLt; omega⟩)) ⟨(y 1).val % 128, by omega⟩
    (g (ix2 0 ⟨(y 1).val % 128, by omega⟩))

def blkK (x : Vec Ideal S128x512 .f32) (g : Vec Ideal S1x128 .f32) : Vec Ideal S512x128 .f32 := fun y =>
  entry (fun k => x (ix2 ⟨(y 0).val / 4, by have : (y 0).val < 512 := (y 0).isLt; omega⟩ ⟨(y 0).val % 4 * 128 + k.val, by omega⟩)) ⟨(y 1).val, (y 1).isLt⟩
    (g (ix2 0 ⟨(y 1).val, (y 1).isLt⟩))

def blkV (x : Vec Ideal S128x512 .f32) : Vec Ideal S512x128 .f32 := fun y =>
  x (ix2 ⟨(y 0).val / 4, by have : (y 0).val < 512 := (y 0).isLt; omega⟩
    ⟨(y 0).val % 4 * 128 + (y 1).val, by have : (y 1).val < 128 := (y 1).isLt; omega⟩)

def blkIq (x x' : Vec Ideal S128x1024 .f32) : Vec Ideal S128x2048 .bf16 := fun y =>
  (if h : (y 1).val < 1024 then x (ix2 ⟨(y 0).val, (y 0).isLt⟩ ⟨(y 1).val, h⟩)
    else x' (ix2 ⟨(y 0).val, (y 0).isLt⟩ ⟨(y 1).val - 1024, by have : (y 1).val < 2048 := (y 1).isLt; omega⟩)) * ifactor

def blkIw (x : Vec Ideal S128x128 .f32) : Vec Ideal S128x128 .f32 := fun y => x y * Ideal.ofBits .f32 0x3E800000#32

/-! ## One piece -/

theorem payQ_at (x : Vec Ideal S128x128 .f32) (g : Vec Ideal S1x128 .f32) (a n : Fin 128) :
    (k0_pay3 x g (ix2 a n) : EReal) = entry (fun k => x (ix2 a k)) n (g (ix2 0 n)) * factor := by
  rw [← named_scale]
  unfold k0_pay3 entry
  pointwise

theorem payK_at (x : Vec Ideal S128x128 .f32) (g : Vec Ideal S1x128 .f32) (a n : Fin 128) :
    (k0_pay19 x g (ix2 a n) : EReal) = entry (fun k => x (ix2 a k)) n (g (ix2 0 n)) := by
  unfold k0_pay19 entry
  pointwise

theorem payIq_at (x : Vec Ideal S128x1024 .f32) (a : Fin 128) (n : Fin 1024) :
    (k0_pay30 x (ix2 a n) : EReal) = x (ix2 a n) * ifactor := by
  rw [← named_iscale]
  unfold k0_pay30
  pointwise

theorem payIw_at (x : Vec Ideal S128x128 .f32) (a n : Fin 128) :
    (k0_pay2 x (ix2 a n) : EReal) = x (ix2 a n) * Ideal.ofBits .f32 0x3E800000#32 := by
  unfold k0_pay2
  pointwise

section Piece
variable {w : ℕ} {az : Memref sig .tc .vmem ⟨2, ![128, w]⟩ .f32} (hz : az.IsWhole) {ag : Memref sig .tc .vmem S1x128 .f32} (hg : ag.IsWhole)
  (z : Vec Ideal ⟨2, ![128, w]⟩ .f32) (g : Vec Ideal S1x128 .f32)
  {o : ℕ} (ho : ∀ a, (![0, o] : Fin 2 → Nat) a + S128x128.size a ≤ (⟨2, ![128, w]⟩ : Shape).size a) (hi : ∀ a, (![0, 0] : Fin 2 → Nat) a + S1x128.size a ≤ S1x128.size a)

/-- The columns a piece reads, and the gain. -/
abbrev cols : Vec Ideal S128x128 .f32 := View.readAt (Elt Ideal) az.view (Rect.unit (s := ⟨2, ![128, w]⟩) ![0, o] S128x128.size ho).toLoadRect (hz.unread z)
abbrev gains : Vec Ideal S1x128 .f32 := View.readAt (Elt Ideal) ag.view (Rect.unit (s := S1x128) ![0, 0] S1x128.size hi).toLoadRect (hg.unread g)

theorem cols_at (a k : Fin 128) (c : Fin w) (hc : c.val = o + k.val) : cols hz z ho (ix2 a k) = z (ix2 ⟨a.val, a.isLt⟩ c) := by
  refine (hz.readAt_unread z _ _).trans (congrArg z ?_)
  funext i
  match i with
  | ⟨0, _⟩ => exact Fin.ext (by show 0 + 1 * a.val = a.val; omega)
  | ⟨1, _⟩ => exact Fin.ext (by show o + 1 * k.val = c.val; omega)

theorem gains_at (n : Fin 128) : gains hg g hi (ix2 0 n) = g (ix2 0 n) := by
  refine (hg.readAt_unread g _ _).trans (congrArg g ?_)
  funext i
  match i with
  | ⟨0, _⟩ => rfl
  | ⟨1, _⟩ => exact Fin.ext (by show 0 + 1 * n.val = n.val; omega)

include hz in
theorem entry_at (a n : Fin 128) (hb : ∀ k : Fin 128, o + k.val < w) : entry (fun k => cols hz z ho (ix2 a k)) n (gains hg g hi (ix2 0 n))
    = entry (fun k => z (ix2 a ⟨o + k.val, hb k⟩)) n (g (ix2 0 n)) := by
  rw [gains_at]
  exact congrArg (fun x => entry x n _) (funext fun k => cols_at hz z ho a k _ rfl)

include ho in
theorem fits (k : Fin 128) : o + k.val < w := by
  have h : o + 128 ≤ w := ho 1
  omega

end Piece

section Queries
variable {az : Memref sig .tc .vmem S128x2048 .f32} (hz : az.IsWhole) {ag : Memref sig .tc .vmem S1x128 .f32} (hg : ag.IsWhole)
  (z : Vec Ideal S128x2048 .f32) (g : Vec Ideal S1x128 .f32)
  {o : ℕ} (ho : ∀ a, (![0, o] : Fin 2 → Nat) a + S128x128.size a ≤ S128x2048.size a) (hi : ∀ a, (![0, 0] : Fin 2 → Nat) a + S1x128.size a ≤ S1x128.size a)

/-- A piece of the normalised queries. -/
theorem pieceQ (h : o % 128 = 0) (x : S128x128.Idx) :
    k0_pay3 (cols hz z ho) (gains hg g hi) x = blkQ z g ((Rect.unit (s := S128x2048) ![0, o] S128x128.size ho).emb x) := by
  obtain ⟨a, n, rfl⟩ : ∃ a n : Fin 128, x = ix2 a n := ⟨_, _, sq x⟩
  have e0 : ((Rect.unit (s := S128x2048) ![0, o] S128x128.size ho).emb (ix2 a n) 0).val = a.val := by
    show 0 + 1 * a.val = _; omega
  have e1 (k : Fin 128) : ((Rect.unit (s := S128x2048) ![0, o] S128x128.size ho).emb (ix2 a n) 1).val / 128 * 128 + k.val = o + k.val := by
    show (o + 1 * n.val) / 128 * 128 + k.val = _; omega
  have e2 : ((Rect.unit (s := S128x2048) ![0, o] S128x128.size ho).emb (ix2 a n) 1).val % 128 = n.val := by
    show (o + 1 * n.val) % 128 = _; omega
  refine (payQ_at _ _ _ _).trans ?_
  rw [entry_at hz hg z g ho hi a n (fits ho)]
  simp only [blkQ, e0, e1, e2]

end Queries

section Keys
variable {az : Memref sig .tc .vmem S128x512 .f32} (hz : az.IsWhole) {ag : Memref sig .tc .vmem S1x128 .f32} (hg : ag.IsWhole)
  (z : Vec Ideal S128x512 .f32) (g : Vec Ideal S1x128 .f32)
  {o : ℕ} (ho : ∀ a, (![0, o] : Fin 2 → Nat) a + S128x128.size a ≤ S128x512.size a) (hi : ∀ a, (![0, 0] : Fin 2 → Nat) a + S1x128.size a ≤ S1x128.size a)

/-- A piece of the normalised keys. -/
theorem pieceKb (h : o % 128 = 0) (x : S128x128.Idx) :
    k0_pay20 (cols hz z ho) (gains hg g hi) x = blkKb z g ((Rect.unit (s := S128x512) ![0, o] S128x128.size ho).emb x) := by
  obtain ⟨a, n, rfl⟩ : ∃ a n : Fin 128, x = ix2 a n := ⟨_, _, sq x⟩
  have e0 : ((Rect.unit (s := S128x512) ![0, o] S128x128.size ho).emb (ix2 a n) 0).val = a.val := by
    show 0 + 1 * a.val = _; omega
  have e1 (k : Fin 128) : ((Rect.unit (s := S128x512) ![0, o] S128x128.size ho).emb (ix2 a n) 1).val / 128 * 128 + k.val = o + k.val := by
    show (o + 1 * n.val) / 128 * 128 + k.val = _; omega
  have e2 : ((Rect.unit (s := S128x512) ![0, o] S128x128.size ho).emb (ix2 a n) 1).val % 128 = n.val := by
    show (o + 1 * n.val) % 128 = _; omega
  refine (payK_at _ _ _ _).trans ?_
  rw [entry_at hz hg z g ho hi a n (fits ho)]
  simp only [blkKb, e0, e1, e2]

/-- A piece of the keys' rows: one head's, every fourth row. -/
theorem pieceK {q : ℕ} (hq hp) (ho : ∀ a, (![0, 128 * q] : Fin 2 → Nat) a + S128x128.size a ≤ S128x512.size a) (h' : q < 4) (x : S128x128.Idx) :
    k0_pay19 (cols hz z ho) (gains hg g hi) x = blkK z g ((⟨⟨![q, 0], ![128, 128], ![4, 1], hq⟩, hp⟩ : Rect S512x128).emb x) := by
  obtain ⟨a, n, rfl⟩ : ∃ a n : Fin 128, x = ix2 a n := ⟨_, _, sq x⟩
  have e0 : ((⟨⟨![q, 0], ![128, 128], ![4, 1], hq⟩, hp⟩ : Rect S512x128).emb (ix2 a n) 0).val / 4 = a.val := by
    show (q + 4 * a.val) / 4 = _; omega
  have e1 (k : Fin 128) : ((⟨⟨![q, 0], ![128, 128], ![4, 1], hq⟩, hp⟩ : Rect S512x128).emb (ix2 a n) 0).val % 4 * 128 + k.val = 128 * q + k.val := by
    show (q + 4 * a.val) % 4 * 128 + k.val = _; omega
  have e2 : ((⟨⟨![q, 0], ![128, 128], ![4, 1], hq⟩, hp⟩ : Rect S512x128).emb (ix2 a n) 1).val = n.val := by
    show 0 + 1 * n.val = _; omega
  refine (payK_at _ _ _ _).trans ?_
  rw [entry_at hz hg z g ho hi a n (fits ho)]
  simp only [blkK, e0, e1, e2]

/-- A piece of the values' rows. -/
theorem pieceV {q : ℕ} (hq hp) (ho : ∀ a, (![0, 128 * q] : Fin 2 → Nat) a + S128x128.size a ≤ S128x512.size a) (h' : q < 4) (x : S128x128.Idx) :
    cols hz z ho x = blkV z ((⟨⟨![q, 0], ![128, 128], ![4, 1], hq⟩, hp⟩ : Rect S512x128).emb x) := by
  obtain ⟨a, n, rfl⟩ : ∃ a n : Fin 128, x = ix2 a n := ⟨_, _, sq x⟩
  have e0 : ((⟨⟨![q, 0], ![128, 128], ![4, 1], hq⟩, hp⟩ : Rect S512x128).emb (ix2 a n) 0).val / 4 = a.val := by
    show (q + 4 * a.val) / 4 = _; omega
  have e1 : ((⟨⟨![q, 0], ![128, 128], ![4, 1], hq⟩, hp⟩ : Rect S512x128).emb (ix2 a n) 0).val % 4 * 128
      + ((⟨⟨![q, 0], ![128, 128], ![4, 1], hq⟩, hp⟩ : Rect S512x128).emb (ix2 a n) 1).val = 128 * q + n.val := by
    show (q + 4 * a.val) % 4 * 128 + (0 + 1 * n.val) = _; omega
  refine (cols_at hz z ho _ _ ⟨128 * q + n.val, fits ho n⟩ rfl).trans ?_
  simp only [blkV, e0, e1]

end Keys

section Halves
variable {a1 a2 : Memref sig .tc .vmem S128x1024 .f32} (h1 : a1.IsWhole) (h2 : a2.IsWhole) (z z' : Vec Ideal S128x1024 .f32)
  (hi : ∀ a, (![0, 0] : Fin 2 → Nat) a + S128x1024.size a ≤ S128x1024.size a)

theorem half_at {az : Memref sig .tc .vmem S128x1024 .f32} (hz : az.IsWhole) (z : Vec Ideal S128x1024 .f32) (a : Fin 128) (n : Fin 1024) :
    View.readAt (Elt Ideal) az.view (Rect.unit (s := S128x1024) ![0, 0] S128x1024.size hi).toLoadRect (hz.unread z) (ix2 a n) = z (ix2 a n) := by
  refine (hz.readAt_unread z _ _).trans (congrArg z ?_)
  funext i
  match i with
  | ⟨0, _⟩ => exact Fin.ext (by show 0 + 1 * a.val = a.val; omega)
  | ⟨1, _⟩ => exact Fin.ext (by show 0 + 1 * n.val = n.val; omega)

/-- An index of half the index queries. -/
theorem halves (x : S128x1024.Idx) : x = ix2 ⟨(x 0).val, (x 0).isLt⟩ ⟨(x 1).val, (x 1).isLt⟩ := by
  funext a
  match a with
  | ⟨0, _⟩ => rfl
  | ⟨1, _⟩ => rfl

/-- The first half of the index queries. -/
theorem pieceIq0 (ho : ∀ a, (![0, 0] : Fin 2 → Nat) a + S128x1024.size a ≤ S128x2048.size a) (x : S128x1024.Idx) :
    k0_pay30 (View.readAt (Elt Ideal) a1.view (Rect.unit (s := S128x1024) ![0, 0] S128x1024.size hi).toLoadRect (h1.unread z)) x
      = blkIq z z' ((Rect.unit (s := S128x2048) ![0, 0] S128x1024.size ho).emb x) := by
  obtain ⟨a, n, rfl⟩ : ∃ (a : Fin 128) (n : Fin 1024), x = ix2 a n := ⟨_, _, halves x⟩
  have e0 : ((Rect.unit (s := S128x2048) ![0, 0] S128x1024.size ho).emb (ix2 a n) 0).val = a.val := by
    show 0 + 1 * a.val = _; omega
  have e1 : ((Rect.unit (s := S128x2048) ![0, 0] S128x1024.size ho).emb (ix2 a n) 1).val = n.val := by
    show 0 + 1 * n.val = _; omega
  refine (payIq_at _ _ _).trans ?_
  rw [half_at]
  simp only [blkIq, e0, e1]
  rw [dif_pos n.isLt]

/-- The second half of the index queries. -/
theorem pieceIq1 (ho : ∀ a, (![0, 1024] : Fin 2 → Nat) a + S128x1024.size a ≤ S128x2048.size a) (x : S128x1024.Idx) :
    k0_pay30 (View.readAt (Elt Ideal) a2.view (Rect.unit (s := S128x1024) ![0, 0] S128x1024.size hi).toLoadRect (h2.unread z')) x
      = blkIq z z' ((Rect.unit (s := S128x2048) ![0, 1024] S128x1024.size ho).emb x) := by
  obtain ⟨a, n, rfl⟩ : ∃ (a : Fin 128) (n : Fin 1024), x = ix2 a n := ⟨_, _, halves x⟩
  have e0 : ((Rect.unit (s := S128x2048) ![0, 1024] S128x1024.size ho).emb (ix2 a n) 0).val = a.val := by
    show 0 + 1 * a.val = _; omega
  have e1 : ((Rect.unit (s := S128x2048) ![0, 1024] S128x1024.size ho).emb (ix2 a n) 1).val = 1024 + n.val := by
    show 1024 + 1 * n.val = _; omega
  refine (payIq_at _ _ _).trans ?_
  rw [half_at]
  simp only [blkIq, e0, e1, Nat.add_sub_cancel_left]
  rw [dif_neg (by omega)]

end Halves

/-- A piece of the index weights. -/
theorem pieceIw {az : Memref sig .tc .vmem S128x128 .f32} (hz : az.IsWhole) (z : Vec Ideal S128x128 .f32)
    (hi hi' : ∀ a, (![0, 0] : Fin 2 → Nat) a + S128x128.size a ≤ S128x128.size a) (x : S128x128.Idx) :
    k0_pay2 (View.readAt (Elt Ideal) az.view (Rect.unit (s := S128x128) ![0, 0] S128x128.size hi).toLoadRect (hz.unread z)) x
      = blkIw z ((Rect.unit (s := S128x128) ![0, 0] S128x128.size hi').emb x) := by
  obtain ⟨a, n, rfl⟩ : ∃ a n : Fin 128, x = ix2 a n := ⟨_, _, sq x⟩
  exact (payIw_at _ _ _).trans (congrArg (· * Ideal.ofBits .f32 0x3E800000#32) (hz.readAt_unread z _ _))

/-! ## The blocks the run leaves -/

/-- Four pieces, each every fourth row from its own first one on, cover the rows. -/
theorem cover_rows (L : List (View.Piece (Elt Ideal) S512x128 .f32)) (qs : List ℕ) (hs : ∀ q, q < 4 → q ∈ qs)
    (h : (L.map fun p => (p.1.off 0, p.1.off 1, p.1.size 0, p.1.size 1, p.1.stride 0, p.1.stride 1))
      = (qs.map fun q => (q, 0, 128, 128, 4, 1))) (y : S512x128.Idx) : ∃ p ∈ L, y ∈ p.1.set := by
  have h0 : (y 0).val < 512 := (y 0).isLt
  have h1 : (y 1).val < 128 := (y 1).isLt
  have hm : ((y 0).val % 4, 0, 128, 128, 4, 1) ∈ (qs.map fun q => (q, 0, 128, 128, 4, 1)) :=
    List.mem_map.mpr ⟨(y 0).val % 4, hs _ (by omega), rfl⟩
  rw [← h] at hm
  obtain ⟨p, hp, e⟩ := List.mem_map.mp hm
  simp only [Prod.mk.injEq] at e
  obtain ⟨o0, o1, s0, s1, t0, t1⟩ := e
  refine ⟨p, hp, p.1.mem_set.mpr fun a => ?_⟩
  match a with
  | ⟨0, _⟩ => exact ⟨(y 0).val / 4, lt_of_lt_of_eq (by omega) s0.symm, by
      show (y 0).val = p.1.off 0 + p.1.stride 0 * ((y 0).val / 4)
      rw [o0, t0]; omega⟩
  | ⟨1, _⟩ => exact ⟨(y 1).val, lt_of_lt_of_eq h1 s1.symm, by
      show (y 1).val = p.1.off 1 + p.1.stride 1 * (y 1).val
      rw [o1, t1]; omega⟩

variable (c : Dev nD) (i : grid0.Coords) (arg2 : Memref sig .tc .vmem S128x2048 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x2048 .bf16) (harg11 : arg11.IsWhole) (arg12 : Memref sig .tc .vmem S512x128 .f32) (harg12 : arg12.IsWhole) (arg13 : Memref sig .tc .vmem S128x512 .bf16) (harg13 : arg13.IsWhole) (arg14 : Memref sig .tc .vmem S128x512 .bf16) (harg14 : arg14.IsWhole) (arg15 : Memref sig .tc .vmem S128x2048 .bf16) (harg15 : arg15.IsWhole) (arg16 : Memref sig .tc .vmem S128x128 .bf16) (harg16 : arg16.IsWhole) (arg17 : Memref sig .tc .vmem S128x128 .f32) (harg17 : arg17.IsWhole) (arg18 : Memref sig .tc .vmem S512x128 .f32) (harg18 : arg18.IsWhole) (arg19 : Memref sig .tc .vmem S128x128 .f32) (harg19 : arg19.IsWhole)
  (x0 : Vec Ideal S128x2048 .f32) (x1 : Vec Ideal S128x512 .f32) (x2 : Vec Ideal S128x512 .f32) (x3 : Vec Ideal S128x1024 .f32) (x4 : Vec Ideal S128x1024 .f32) (x5 : Vec Ideal S128x128 .f32) (x6 : Vec Ideal S128x128 .f32) (x7 : Vec Ideal S1x128 .f32) (x8 : Vec Ideal S1x128 .f32)

/-- The normalised queries. -/
theorem coverQ (y : S128x2048.Idx) : ∃ p ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.1, y ∈ p.1.set :=
  View.cover_of_tiledL (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.1 S128x128.size (by sl_kernel_rfl) y

theorem agreeQ : ∀ p ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.1, ∀ x, p.2 x = (blkQ x0 x7) (p.1.emb x) := by
  unfold run
  dsimp only
  simp only [List.forall_mem_cons, List.not_mem_nil, false_implies, implies_true, _root_.and_true]
  refine ⟨?_, ?_, ?_, ?_, ?_, ?_, ?_, ?_, ?_, ?_, ?_, ?_, ?_, ?_, ?_, ?_⟩
  all_goals refine fun x => Eq.trans ?_ (pieceQ harg2 harg9 x0 x7 ?_ ?_ ?_ x)
  all_goals first | rfl | decide

theorem leavesQ (f) : arg11.view.read (Elt Ideal) (arg11.view.writes (Elt Ideal) f (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.1) = blkQ x0 x7 := by
  rw [View.read_writes_eq_canon _ _ _ (coverQ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8)]
  funext y
  exact canon_agree _ _ (agreeQ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8) y (coverQ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 y)

/-- The keys' rows. -/
theorem coverK (y : S512x128.Idx) : ∃ p ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.1, y ∈ p.1.set :=
  cover_rows (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.1 [3, 2, 1, 0] (by decide) (by sl_kernel_rfl) y

theorem agreeK : ∀ p ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.1, ∀ x, p.2 x = (blkK x1 x8) (p.1.emb x) := by
  unfold run
  dsimp only
  simp only [List.forall_mem_cons, List.not_mem_nil, false_implies, implies_true, _root_.and_true]
  refine ⟨?_, ?_, ?_, ?_⟩
  all_goals refine fun x => Eq.trans ?_ (pieceK harg3 harg10 x1 x8 ?_ _ _ ?_ ?_ x)
  all_goals first | rfl | decide

theorem leavesK (f) : arg12.view.read (Elt Ideal) (arg12.view.writes (Elt Ideal) f (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.1) = blkK x1 x8 := by
  rw [View.read_writes_eq_canon _ _ _ (coverK c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8)]
  funext y
  exact canon_agree _ _ (agreeK c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8) y (coverK c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 y)

/-- The normalised keys. -/
theorem coverKb (y : S128x512.Idx) : ∃ p ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.1, y ∈ p.1.set :=
  View.cover_of_tiledL (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.1 S128x128.size (by sl_kernel_rfl) y

theorem agreeKb : ∀ p ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.1, ∀ x, p.2 x = (blkKb x1 x8) (p.1.emb x) := by
  unfold run
  dsimp only
  simp only [List.forall_mem_cons, List.not_mem_nil, false_implies, implies_true, _root_.and_true]
  refine ⟨?_, ?_, ?_, ?_⟩
  all_goals refine fun x => Eq.trans ?_ (pieceKb harg3 harg10 x1 x8 ?_ ?_ ?_ x)
  all_goals first | rfl | decide

theorem leavesKb (f) : arg13.view.read (Elt Ideal) (arg13.view.writes (Elt Ideal) f (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.1) = blkKb x1 x8 := by
  rw [View.read_writes_eq_canon _ _ _ (coverKb c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8)]
  funext y
  exact canon_agree _ _ (agreeKb c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8) y (coverKb c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 y)

/-- The values' copy. -/
theorem coverVb (y : S128x512.Idx) : ∃ p ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.1, y ∈ p.1.set :=
  View.cover_of_tiledL (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.1 S128x512.size (by sl_kernel_rfl) y

theorem agreeVb : ∀ p ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.1, ∀ x, p.2 x = (fun y => x2 y) (p.1.emb x) := by
  unfold run
  dsimp only
  simp only [List.forall_mem_cons, List.not_mem_nil, false_implies, implies_true, _root_.and_true]
  exact fun x => harg4.readAt_unread x2 _ x

theorem leavesVb (f) : arg14.view.read (Elt Ideal) (arg14.view.writes (Elt Ideal) f (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.1) = fun y => x2 y := by
  rw [View.read_writes_eq_canon _ _ _ (coverVb c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8)]
  funext y
  exact canon_agree _ _ (agreeVb c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8) y (coverVb c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 y)

/-- The index queries. -/
theorem coverIq (y : S128x2048.Idx) : ∃ p ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.2.1, y ∈ p.1.set :=
  View.cover_of_tiledL (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.2.1 S128x1024.size (by sl_kernel_rfl) y

theorem agreeIq : ∀ p ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.2.1, ∀ x, p.2 x = (blkIq x3 x4) (p.1.emb x) := by
  unfold run
  dsimp only
  simp only [List.forall_mem_cons, List.not_mem_nil, false_implies, implies_true, _root_.and_true]
  refine ⟨fun x => Eq.trans ?_ (pieceIq1 harg6 x3 x4 ?_ ?_ x), fun x => Eq.trans ?_ (pieceIq0 harg5 x3 x4 ?_ ?_ x)⟩
  all_goals first | rfl | decide

theorem leavesIq (f) : arg15.view.read (Elt Ideal) (arg15.view.writes (Elt Ideal) f (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.2.1) = blkIq x3 x4 := by
  rw [View.read_writes_eq_canon _ _ _ (coverIq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8)]
  funext y
  exact canon_agree _ _ (agreeIq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8) y (coverIq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 y)

/-- The index keys' copy. -/
theorem coverIkb (y : S128x128.Idx) : ∃ p ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.2.2.1, y ∈ p.1.set :=
  View.cover_of_tiledL (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.2.2.1 S128x128.size (by sl_kernel_rfl) y

theorem agreeIkb : ∀ p ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.2.2.1, ∀ x, p.2 x = (fun y => x5 y) (p.1.emb x) := by
  unfold run
  dsimp only
  simp only [List.forall_mem_cons, List.not_mem_nil, false_implies, implies_true, _root_.and_true]
  exact fun x => harg7.readAt_unread x5 _ x

theorem leavesIkb (f) : arg16.view.read (Elt Ideal) (arg16.view.writes (Elt Ideal) f (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.2.2.1) = fun y => x5 y := by
  rw [View.read_writes_eq_canon _ _ _ (coverIkb c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8)]
  funext y
  exact canon_agree _ _ (agreeIkb c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8) y (coverIkb c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 y)

/-- The index weights. -/
theorem coverIw (y : S128x128.Idx) : ∃ p ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.2.2.2.1, y ∈ p.1.set :=
  View.cover_of_tiledL (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.2.2.2.1 S128x128.size (by sl_kernel_rfl) y

theorem agreeIw : ∀ p ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.2.2.2.1, ∀ x, p.2 x = (blkIw x6) (p.1.emb x) := by
  unfold run
  dsimp only
  simp only [List.forall_mem_cons, List.not_mem_nil, false_implies, implies_true, _root_.and_true]
  refine fun x => Eq.trans ?_ (pieceIw harg8 x6 ?_ ?_ x)
  all_goals first | rfl | decide

theorem leavesIw (f) : arg17.view.read (Elt Ideal) (arg17.view.writes (Elt Ideal) f (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.2.2.2.1) = blkIw x6 := by
  rw [View.read_writes_eq_canon _ _ _ (coverIw c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8)]
  funext y
  exact canon_agree _ _ (agreeIw c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8) y (coverIw c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 y)

/-- The values' rows. -/
theorem coverV (y : S512x128.Idx) : ∃ p ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.2.2.2.2.1, y ∈ p.1.set :=
  cover_rows (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.2.2.2.2.1 [3, 2, 1, 0] (by decide) (by sl_kernel_rfl) y

theorem agreeV : ∀ p ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.2.2.2.2.1, ∀ x, p.2 x = (blkV x2) (p.1.emb x) := by
  unfold run
  dsimp only
  simp only [List.forall_mem_cons, List.not_mem_nil, false_implies, implies_true, _root_.and_true]
  refine ⟨?_, ?_, ?_, ?_⟩
  all_goals refine fun x => Eq.trans ?_ (pieceV harg4 x2 _ _ ?_ ?_ x)
  all_goals first | rfl | decide

theorem leavesV (f) : arg18.view.read (Elt Ideal) (arg18.view.writes (Elt Ideal) f (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.2.2.2.2.1) = blkV x2 := by
  rw [View.read_writes_eq_canon _ _ _ (coverV c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8)]
  funext y
  exact canon_agree _ _ (agreeV c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8) y (coverV c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 y)

/-- The index keys. -/
theorem coverIk (y : S128x128.Idx) : ∃ p ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.2.2.2.2.2, y ∈ p.1.set :=
  View.cover_of_tiledL (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.2.2.2.2.2 S128x128.size (by sl_kernel_rfl) y

theorem agreeIk : ∀ p ∈ (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.2.2.2.2.2, ∀ x, p.2 x = (fun y => x5 y) (p.1.emb x) := by
  unfold run
  dsimp only
  simp only [List.forall_mem_cons, List.not_mem_nil, false_implies, implies_true, _root_.and_true]
  exact fun x => harg7.readAt_unread x5 _ x

theorem leavesIk (f) : arg19.view.read (Elt Ideal) (arg19.view.writes (Elt Ideal) f (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8).1.2.2.2.2.2.2.2.2) = fun y => x5 y := by
  rw [View.read_writes_eq_canon _ _ _ (coverIk c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8)]
  funext y
  exact canon_agree _ _ (agreeIk c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8) y (coverIk c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 y)

end Cert.KernelPostBIdeal.Post

end
-- ==== Proof.PostBFrameIdeal.lean ====
/-
  The indexed sparse attention's per-head normalisation over the extended reals: what each grid point leaves in its nine output
  blocks, the run with its nine result arrays named, and the frame.
-/
module

public import proofs.«01_k».proof.Proof.PostBBlocks

@[expose] public section

set_option maxRecDepth 16384

noncomputable section

namespace Cert.KernelPostBIdeal.Post

open Cert.KernelPostBIdeal Cert.KernelPostBIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-- The pipeline's proof data: the inputs' blocks stay, each output's is the body's result; seven inputs share one array. -/
def dats (_ : Fin 1) (c : Dev nD) : Dat τ (Elt Ideal) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => iblk m c 5 t
    | ⟨6, _⟩ => iblk m c 6 t
    | ⟨7, _⟩ => iblk m c 7 t
    | ⟨8, _⟩ => iblk m c 8 t
    | ⟨9, _⟩ => blkQ (X0_0 m c t) (iblk m c 7 t)
    | ⟨10, _⟩ => blkK (X0_1 m c t) (iblk m c 8 t)
    | ⟨11, _⟩ => blkKb (X0_1 m c t) (iblk m c 8 t)
    | ⟨12, _⟩ => fun y => X0_2 m c t y
    | ⟨13, _⟩ => blkIq (X0_3 m c t) (X0_4 m c t)
    | ⟨14, _⟩ => fun y => iblk m c 5 t y
    | ⟨15, _⟩ => blkIw (iblk m c 6 t)
    | ⟨16, _⟩ => blkV (X0_2 m c t)
    | ⟨17, _⟩ => fun y => iblk m c 5 t y
    | ⟨n + 18, h⟩ => absurd h (Nat.not_lt.mpr (Nat.le_add_left 18 n))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = X0_1 m c t := by dsimp only [dats]
theorem after_2 (c : Dev nD) (t : Fin cfg0.N) : (dats m 0 c).after 2 t = X0_2 m c t := by dsimp only [dats]
theorem after_3 (c : Dev nD) (t : Fin cfg0.N) : (dats m 0 c).after 3 t = X0_3 m c t := by dsimp only [dats]
theorem after_4 (c : Dev nD) (t : Fin cfg0.N) : (dats m 0 c).after 4 t = X0_4 m c t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (blkQ (X0_0 m c t) (iblk m c 7 t)) := by dsimp only [dats]
theorem after_10 (c : Dev nD) (t : Fin cfg0.N) : (dats m 0 c).after 10 t = (blkK (X0_1 m c t) (iblk m c 8 t)) := by dsimp only [dats]
theorem after_11 (c : Dev nD) (t : Fin cfg0.N) : (dats m 0 c).after 11 t = (blkKb (X0_1 m c t) (iblk m c 8 t)) := by dsimp only [dats]
theorem after_12 (c : Dev nD) (t : Fin cfg0.N) : (dats m 0 c).after 12 t = (fun y => X0_2 m c t y) := by dsimp only [dats]; rfl
theorem after_13 (c : Dev nD) (t : Fin cfg0.N) : (dats m 0 c).after 13 t = (blkIq (X0_3 m c t) (X0_4 m c t)) := by dsimp only [dats]
theorem after_14 (c : Dev nD) (t : Fin cfg0.N) : (dats m 0 c).after 14 t = (fun y => iblk m c 5 t y) := by dsimp only [dats]; rfl
theorem after_15 (c : Dev nD) (t : Fin cfg0.N) : (dats m 0 c).after 15 t = (blkIw (iblk m c 6 t)) := by dsimp only [dats]
theorem after_16 (c : Dev nD) (t : Fin cfg0.N) : (dats m 0 c).after 16 t = (blkV (X0_2 m c t)) := by dsimp only [dats]
theorem after_17 (c : Dev nD) (t : Fin cfg0.N) : (dats m 0 c).after 17 t = (fun y => iblk m c 5 t y) := by dsimp only [dats]; rfl
theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = X0_3 m c t :=
  before0_3_of m (dats m 0 c) (A_eq m c 3) (after_3 m c) t d
theorem before_4 (c : Dev nD) (t : Fin cfg0.N) (d) : (dats m 0 c).before 4 t d = X0_4 m c t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t) ∗ owns (c : Thread nD τ) (st0_17 t) fullShare ((dats m 0 c).after 17 t))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((run c (grid0.coords t) _ _ _ _ _ _ _ _ _ _ _ _ _ _ _ _ _ _ _ _ _ _ _ _ _ _ _ _ _ _ _ _ _ _ _ _ (X0_0 m c t) (X0_1 m c t) (X0_2 m c t) (X0_3 m c t) (X0_4 m c t) (iblk m c 5 t) (iblk m c 6 t) (iblk m c 7 t) (iblk m c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns
  isplitl [H9]
  · iexists _; isplitr; swap; · iexact H9
    ipureintro; exact leavesQ _ _ _ _ _ _ _ _ _ _ _ _ _ _ _ _ _ _ _ _ _ _ _ _ _ _ _ _ _ _ _ _ _ _ _ _ _ _ _ _ _ _ _ _ _ _ _ _
  isplitl [H10]
  · iexists _; isplitr; swap; · iexact H10
    ipureintro; exact leavesK _ _ _ _ _ _ _ _ _ _ _ _ _ _ _ _ _ _ _ _ _ _ _ _ _ _ _ _ _ _ _ _ _ _ _ _ _ _ _ _ _ _ _ _ _ _ _ _
  isplitl [H11]
  · iexists _; isplitr; swap; · iexact H11
    ipureintro; exact leavesKb _ _ _ _ _ _ _ _ _ _ _ _ _ _ _ _ _ _ _ _ _ _ _ _ _ _ _ _ _ _ _ _ _ _ _ _ _ _ _ _ _ _ _ _ _ _ _ _
  isplitl [H12]
  · iexists _; isplitr; swap; · iexact H12
    ipureintro; exact leavesVb _ _ _ _ _ _ _ _ _ _ _ _ _ _ _ _ _ _ _ _ _ _ _ _ _ _ _ _ _ _ _ _ _ _ _ _ _ _ _ _ _ _ _ _ _ _ _ _
  isplitl [H13]
  · iexists _; isplitr; swap; · iexact H13
    ipureintro; exact leavesIq _ _ _ _ _ _ _ _ _ _ _ _ _ _ _ _ _ _ _ _ _ _ _ _ _ _ _ _ _ _ _ _ _ _ _ _ _ _ _ _ _ _ _ _ _ _ _ _
  isplitl [H14]
  · iexists _; isplitr; swap; · iexact H14
    ipureintro; exact leavesIkb _ _ _ _ _ _ _ _ _ _ _ _ _ _ _ _ _ _ _ _ _ _ _ _ _ _ _ _ _ _ _ _ _ _ _ _ _ _ _ _ _ _ _ _ _ _ _ _
  isplitl [H15]
  · iexists _; isplitr; swap; · iexact H15
    ipureintro; exact leavesIw _ _ _ _ _ _ _ _ _ _ _ _ _ _ _ _ _ _ _ _ _ _ _ _ _ _ _ _ _ _ _ _ _ _ _ _ _ _ _ _ _ _ _ _ _ _ _ _
  isplitl [H16]
  · iexists _; isplitr; swap; · iexact H16
    ipureintro; exact leavesV _ _ _ _ _ _ _ _ _ _ _ _ _ _ _ _ _ _ _ _ _ _ _ _ _ _ _ _ _ _ _ _ _ _ _ _ _ _ _ _ _ _ _ _ _ _ _ _
  iexists _; isplitr; swap; · iexact H17
  ipureintro; exact leavesIk _ _ _ _ _ _ _ _ _ _ _ _ _ _ _ _ _ _ _ _ _ _ _ _ _ _ _ _ _ _ _ _ _ _ _ _ _ _ _ _ _ _ _ _ _ _ _ _

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := Ideal))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run with its nine result arrays named, the arguments unchanged and every counter at zero. -/
theorem run_blocks : θ_run defs (onTc (τ := τ) (main (F := Ideal))) ⟨m, fun _ => 0, ρ⟩ fun r => (∀ c : Dev nD,
      r.2.mem ((c : Thread nD τ).loc main_v2_0) = (dats m 0 c).arrAt 9 cfg0.N
      ∧ r.2.mem ((c : Thread nD τ).loc main_v2_1) = (dats m 0 c).arrAt 10 cfg0.N
      ∧ r.2.mem ((c : Thread nD τ).loc main_v2_2) = (dats m 0 c).arrAt 11 cfg0.N
      ∧ r.2.mem ((c : Thread nD τ).loc main_v2_3) = (dats m 0 c).arrAt 12 cfg0.N
      ∧ r.2.mem ((c : Thread nD τ).loc main_v2_4) = (dats m 0 c).arrAt 13 cfg0.N
      ∧ r.2.mem ((c : Thread nD τ).loc main_v2_5) = (dats m 0 c).arrAt 14 cfg0.N
      ∧ r.2.mem ((c : Thread nD τ).loc main_v2_6) = (dats m 0 c).arrAt 15 cfg0.N
      ∧ r.2.mem ((c : Thread nD τ).loc main_v2_7) = (dats m 0 c).arrAt 16 cfg0.N
      ∧ r.2.mem ((c : Thread nD τ).loc main_v2_8) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 :=
  (θ_run defs _ _).mono (fun r h => ⟨fun c => ⟨(h.1 c).1 9, (h.1 c).1 10, (h.1 c).1 11, (h.1 c).1 12, (h.1 c).1 13, (h.1 c).1 14, (h.1 c).1 15, (h.1 c).1 16, (h.1 c).1 17,
      ((h.1 c).1 6).trans (((dats m 0 c).arrAt_in 6 rfl _).trans ((A_eq m c 6).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (run_main m ρ)

/-- THE FRAME. -/
theorem frame_main : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2.2.2.2.2.2.2.2.2, h.2⟩) (run_blocks m ρ)

end Cert.KernelPostBIdeal.Post

end
-- ==== Proof.PostBFinal.lean ====
/-
  The nine result arrays of the indexed sparse attention's per-head normalisation are the reference's.
-/
module

public import proofs.«01_k».proof.Proof.PostBFrameIdeal
public import Idealize.ShloMosaic.Lib.Tactic.CleanTypes

@[expose] public section

set_option maxRecDepth 8192
set_option maxHeartbeats 1000000

noncomputable section

namespace Cert.KernelPostBIdeal.Post

open Cert.ReferencePostIdeal.Value (entry factor)
open Cert.ReferencePostBIdeal.Value (ifactor qs ks vs iqs iks iws outQ outK outKb outVb outIq outIkb outIw outV outQ_at outK_at outKb_at outIq_at outIw_at outV_at qs_at ks_at vs_at iqs_at iks_at iws_at)
open Cert.KernelPostBIdeal Cert.KernelPostBIdeal.Gen
open Idealize.ShloMosaic Idealize.ShloMosaic.TcCoe Idealize.SL.Sem

variable (m : (ℓ : Loc nD τ sig) → Buf (Elt Ideal) ℓ) (c : Dev nD)

theorem at_0 : ∀ t : Fin cfg0.N, win0_0.index t = ![66 + t.val, 0] :=
  (by decide +kernel : ∀ t : Fin grid0.N, _)
theorem at_1 : ∀ t : Fin cfg0.N, win0_1.index t = ![66 + t.val, 4] :=
  (by decide +kernel : ∀ t : Fin grid0.N, _)
theorem at_2 : ∀ t : Fin cfg0.N, win0_2.index t = ![66 + t.val, 5] :=
  (by decide +kernel : ∀ t : Fin grid0.N, _)
theorem at_3 : ∀ t : Fin cfg0.N, win0_3.index t = ![66 + t.val, 3] :=
  (by decide +kernel : ∀ t : Fin grid0.N, _)
theorem at_4 : ∀ t : Fin cfg0.N, win0_4.index t = ![66 + t.val, 4] :=
  (by decide +kernel : ∀ t : Fin grid0.N, _)
theorem at_5 : ∀ t : Fin cfg0.N, win0_5.index t = ![66 + t.val, 40] :=
  (by decide +kernel : ∀ t : Fin grid0.N, _)
theorem at_6 : ∀ t : Fin cfg0.N, win0_6.index t = ![66 + t.val, 41] :=
  (by decide +kernel : ∀ t : Fin grid0.N, _)
theorem at_7 : ∀ t : Fin cfg0.N, win0_7.index t = ![0, 0] :=
  (by decide +kernel : ∀ t : Fin grid0.N, _)
theorem at_8 : ∀ t : Fin cfg0.N, win0_8.index t = ![0, 0] :=
  (by decide +kernel : ∀ t : Fin grid0.N, _)
theorem at_9 : ∀ t : Fin cfg0.N, win0_9.index t = ![t.val, 0] :=
  (by decide +kernel : ∀ t : Fin grid0.N, _)
theorem at_10 : ∀ t : Fin cfg0.N, win0_10.index t = ![t.val, 0] :=
  (by decide +kernel : ∀ t : Fin grid0.N, _)
theorem at_11 : ∀ t : Fin cfg0.N, win0_11.index t = ![t.val, 0] :=
  (by decide +kernel : ∀ t : Fin grid0.N, _)
theorem at_12 : ∀ t : Fin cfg0.N, win0_12.index t = ![t.val, 0] :=
  (by decide +kernel : ∀ t : Fin grid0.N, _)
theorem at_13 : ∀ t : Fin cfg0.N, win0_13.index t = ![t.val, 0] :=
  (by decide +kernel : ∀ t : Fin grid0.N, _)
theorem at_14 : ∀ t : Fin cfg0.N, win0_14.index t = ![t.val, 0] :=
  (by decide +kernel : ∀ t : Fin grid0.N, _)
theorem at_15 : ∀ t : Fin cfg0.N, win0_15.index t = ![t.val, 0] :=
  (by decide +kernel : ∀ t : Fin grid0.N, _)
theorem at_16 : ∀ t : Fin cfg0.N, win0_16.index t = ![t.val, 0] :=
  (by decide +kernel : ∀ t : Fin grid0.N, _)
theorem at_17 : ∀ t : Fin cfg0.N, win0_17.index t = ![t.val, 0] :=
  (by decide +kernel : ∀ t : Fin grid0.N, _)

/-- A gain as one row. -/
def gain (g : FVec Ideal S128 .f32) : FVec Ideal S1x128 .f32 := shapeCast S1x128 g shapeCasts_S128_S1x128

theorem gain_at (g : FVec Ideal S128 .f32) (n : Fin 128) : (gain g (ix2 0 n) : EReal) = g (ix1 n) := by
  unfold gain
  pointwise

theorem V_gain0 : V m c main_v0 = gain (m ((c : Thread nD τ).loc main_arg1)) := by
  unfold V gain
  after_reads_simp
  rfl

theorem V_gain1 : V m c main_v1 = gain (m ((c : Thread nD τ).loc main_arg2)) := by
  unfold V gain
  after_reads_simp
  rfl

/-! ## The blocks the body reads -/

theorem qs_block (t : Fin cfg0.N) (a : Fin 128) (k : Fin 2048) (r : Fin 256) (hr : r.val = t.val * 128 + a.val) :
    (X0_0 m c t (ix2 a k) : EReal) = qs (m ((c : Thread nD τ).loc main_arg0)) (ix2 r k) := by
  rw [qs_at]
  unfold X0_0 Pipeline.Window.fill
  rw [dif_pos (moved0_0 t _)]
  blk_simp [iblk]
  rw [V_main_arg0]
  refine congrArg (m ((c : Thread nD τ).loc main_arg0)) ?_
  blk_ext [at_0]

theorem ks_block (t : Fin cfg0.N) (a : Fin 128) (k : Fin 512) (r : Fin 256) (hr : r.val = t.val * 128 + a.val) :
    (X0_1 m c t (ix2 a k) : EReal) = ks (m ((c : Thread nD τ).loc main_arg0)) (ix2 r k) := by
  rw [ks_at]
  unfold X0_1 Pipeline.Window.fill
  rw [dif_pos (moved0_1 t _)]
  blk_simp [iblk]
  rw [V_main_arg0]
  refine congrArg (m ((c : Thread nD τ).loc main_arg0)) ?_
  blk_ext [at_1]

theorem vs_block (t : Fin cfg0.N) (a : Fin 128) (k : Fin 512) (r : Fin 256) (hr : r.val = t.val * 128 + a.val) :
    (X0_2 m c t (ix2 a k) : EReal) = vs (m ((c : Thread nD τ).loc main_arg0)) (ix2 r k) := by
  rw [vs_at]
  unfold X0_2 Pipeline.Window.fill
  rw [dif_pos (moved0_2 t _)]
  blk_simp [iblk]
  rw [V_main_arg0]
  refine congrArg (m ((c : Thread nD τ).loc main_arg0)) ?_
  blk_ext [at_2]

theorem iqs0_block (t : Fin cfg0.N) (a : Fin 128) (k : Fin 1024) (r : Fin 256) (hr : r.val = t.val * 128 + a.val) :
    (X0_3 m c t (ix2 a k) : EReal) = iqs (m ((c : Thread nD τ).loc main_arg0)) (ix2 r ⟨k.val, by omega⟩) := by
  rw [iqs_at]
  unfold X0_3 Pipeline.Window.fill
  rw [dif_pos (moved0_3 t _)]
  blk_simp [iblk]
  rw [V_main_arg0]
  refine congrArg (m ((c : Thread nD τ).loc main_arg0)) ?_
  blk_ext [at_3]

theorem iqs1_block (t : Fin cfg0.N) (a : Fin 128) (k : Fin 1024) (r : Fin 256) (hr : r.val = t.val * 128 + a.val) :
    (X0_4 m c t (ix2 a k) : EReal) = iqs (m ((c : Thread nD τ).loc main_arg0)) (ix2 r ⟨1024 + k.val, by omega⟩) := by
  rw [iqs_at]
  unfold X0_4 Pipeline.Window.fill
  rw [dif_pos (moved0_4 t _)]
  blk_simp [iblk]
  rw [V_main_arg0]
  refine congrArg (m ((c : Thread nD τ).loc main_arg0)) ?_
  blk_ext [at_4]

theorem iks_block (t : Fin cfg0.N) (a : Fin 128) (k : Fin 128) (r : Fin 256) (hr : r.val = t.val * 128 + a.val) :
    (iblk m c 5 t (ix2 a k) : EReal) = iks (m ((c : Thread nD τ).loc main_arg0)) (ix2 r k) := by
  rw [iks_at]
  blk_simp [iblk]
  rw [V_main_arg0]
  refine congrArg (m ((c : Thread nD τ).loc main_arg0)) ?_
  blk_ext [at_5]

theorem iws_block (t : Fin cfg0.N) (a : Fin 128) (k : Fin 128) (r : Fin 256) (hr : r.val = t.val * 128 + a.val) :
    (iblk m c 6 t (ix2 a k) : EReal) = iws (m ((c : Thread nD τ).loc main_arg0)) (ix2 r k) := by
  rw [iws_at]
  blk_simp [iblk]
  rw [V_main_arg0]
  refine congrArg (m ((c : Thread nD τ).loc main_arg0)) ?_
  blk_ext [at_6]

theorem gain0_block (t : Fin cfg0.N) (n : Fin 128) :
    (iblk m c 7 t (ix2 0 n) : EReal) = m ((c : Thread nD τ).loc main_arg1) (ix1 n) := by
  blk_simp [iblk]
  rw [V_gain0]
  refine Eq.trans (congrArg (gain (m ((c : Thread nD τ).loc main_arg1))) ?_) (gain_at _ n)
  blk_ext [at_7]

theorem gain1_block (t : Fin cfg0.N) (n : Fin 128) :
    (iblk m c 8 t (ix2 0 n) : EReal) = m ((c : Thread nD τ).loc main_arg2) (ix1 n) := by
  blk_simp [iblk]
  rw [V_gain1]
  refine Eq.trans (congrArg (gain (m ((c : Thread nD τ).loc main_arg2))) ?_) (gain_at _ n)
  blk_ext [at_8]

theorem q_block (t : Fin cfg0.N) (a : Fin 128) (n : Fin 2048) (r : Fin 256) (hr : r.val = t.val * 128 + a.val) :
    (blkQ (X0_0 m c t) (iblk m c 7 t) (ix2 a n) : EReal) = outQ (qs (m ((c : Thread nD τ).loc main_arg0))) (m ((c : Thread nD τ).loc main_arg1)) (ix2 r n) := by
  rw [outQ_at]
  unfold blkQ
  rw [gain0_block]
  exact congrArg (fun x => entry x _ _ * factor) (funext fun k => qs_block m c t a _ r hr)

theorem kb_block (t : Fin cfg0.N) (a : Fin 128) (n : Fin 512) (r : Fin 256) (hr : r.val = t.val * 128 + a.val) :
    (blkKb (X0_1 m c t) (iblk m c 8 t) (ix2 a n) : EReal) = outKb (ks (m ((c : Thread nD τ).loc main_arg0))) (m ((c : Thread nD τ).loc main_arg2)) (ix2 r n) := by
  rw [outKb_at]
  unfold blkKb
  rw [gain1_block]
  exact congrArg (fun x => entry x _ _) (funext fun k => ks_block m c t a _ r hr)

theorem k_block (t : Fin cfg0.N) (a : Fin 512) (n : Fin 128) (r : Fin 1024) (hr : r.val = t.val * 512 + a.val) :
    (blkK (X0_1 m c t) (iblk m c 8 t) (ix2 a n) : EReal) = outK (ks (m ((c : Thread nD τ).loc main_arg0))) (m ((c : Thread nD τ).loc main_arg2)) (ix2 r n) := by
  have e (k : Fin 128) : (⟨r.val % 4 * 128 + k.val, by omega⟩ : Fin 512) = ⟨a.val % 4 * 128 + k.val, by omega⟩ :=
    Fin.ext (by show r.val % 4 * 128 + k.val = a.val % 4 * 128 + k.val; omega)
  rw [outK_at]
  simp only [e]
  unfold blkK
  rw [gain1_block]
  exact congrArg (fun x => entry x _ _) (funext fun k => ks_block m c t _ _ _ (by show r.val / 4 = t.val * 128 + a.val / 4; omega))

theorem v_block (t : Fin cfg0.N) (a : Fin 512) (n : Fin 128) (r : Fin 1024) (hr : r.val = t.val * 512 + a.val) :
    (blkV (X0_2 m c t) (ix2 a n) : EReal) = outV (vs (m ((c : Thread nD τ).loc main_arg0))) (ix2 r n) := by
  have e : (⟨r.val % 4 * 128 + n.val, by omega⟩ : Fin 512) = ⟨a.val % 4 * 128 + n.val, by omega⟩ :=
    Fin.ext (by show r.val % 4 * 128 + n.val = a.val % 4 * 128 + n.val; omega)
  rw [outV_at, e]
  unfold blkV
  exact vs_block m c t _ _ _ (by show r.val / 4 = t.val * 128 + a.val / 4; omega)

theorem vb_block (t : Fin cfg0.N) (a : Fin 128) (n : Fin 512) (r : Fin 256) (hr : r.val = t.val * 128 + a.val) :
    (X0_2 m c t (ix2 a n) : EReal) = outVb (vs (m ((c : Thread nD τ).loc main_arg0))) (ix2 r n) :=
  vs_block m c t a n r hr

theorem iq_block (t : Fin cfg0.N) (a : Fin 128) (n : Fin 2048) (r : Fin 256) (hr : r.val = t.val * 128 + a.val) :
    (blkIq (X0_3 m c t) (X0_4 m c t) (ix2 a n) : EReal) = outIq (iqs (m ((c : Thread nD τ).loc main_arg0))) (ix2 r n) := by
  rw [outIq_at]
  by_cases h : n.val < 1024
  · exact congrArg (· * ifactor) ((dif_pos h).trans (iqs0_block m c t a ⟨n.val, h⟩ r hr))
  · refine congrArg (· * ifactor) ((dif_neg h).trans ((iqs1_block m c t a ⟨n.val - 1024, by omega⟩ r hr).trans ?_))
    exact congrArg (fun k => iqs (m ((c : Thread nD τ).loc main_arg0)) (ix2 r k)) (Fin.ext (by show 1024 + (n.val - 1024) = n.val; omega))

theorem ikb_block (t : Fin cfg0.N) (a : Fin 128) (n : Fin 128) (r : Fin 256) (hr : r.val = t.val * 128 + a.val) :
    (iblk m c 5 t (ix2 a n) : EReal) = outIkb (iks (m ((c : Thread nD τ).loc main_arg0))) (ix2 r n) :=
  iks_block m c t a n r hr

theorem iw_block (t : Fin cfg0.N) (a : Fin 128) (n : Fin 128) (r : Fin 256) (hr : r.val = t.val * 128 + a.val) :
    (blkIw (iblk m c 6 t) (ix2 a n) : EReal) = outIw (iws (m ((c : Thread nD τ).loc main_arg0))) (ix2 r n) := by
  rw [outIw_at]
  exact congrArg (· * Ideal.ofBits .f32 0x3E800000#32) (iws_block m c t a n r hr)

/-! ## The nine arrays -/

/-- The queries. -/
theorem final_q : (dats m 0 c).arrAt 9 cfg0.N = outQ (qs (m ((c : Thread nD τ).loc main_arg0))) (m ((c : Thread nD τ).loc main_arg1)) := by
  refine (dats m 0 c).arrAt_eq_of_covers 9 _ (by decide +kernel) fun t hf y => ?_
  blk_simp
  rw [after_9]
  have ht : t.val < 2 := lt_of_lt_of_eq t.isLt N_0
  have h0 : (y 0).val < 128 := (y 0).isLt
  have h1 : (y 1).val < 2048 := (y 1).isLt
  have e := q_block m c t ⟨(y 0).val, h0⟩ ⟨(y 1).val, h1⟩ ⟨t.val * 128 + (y 0).val, by omega⟩ rfl
  refine Eq.trans ?_ (e.trans ?_)
  · refine congrArg (blkQ (X0_0 m c t) (iblk m c 7 t)) ?_
    blk_ext []
  · refine congrArg (outQ (qs (m ((c : Thread nD τ).loc main_arg0))) (m ((c : Thread nD τ).loc main_arg1))) ?_
    blk_ext [at_9]

/-- The keys' rows. -/
theorem final_k : (dats m 0 c).arrAt 10 cfg0.N = outK (ks (m ((c : Thread nD τ).loc main_arg0))) (m ((c : Thread nD τ).loc main_arg2)) := by
  refine (dats m 0 c).arrAt_eq_of_covers 10 _ (by decide +kernel) fun t hf y => ?_
  blk_simp
  rw [after_10]
  have ht : t.val < 2 := lt_of_lt_of_eq t.isLt N_0
  have h0 : (y 0).val < 512 := (y 0).isLt
  have h1 : (y 1).val < 128 := (y 1).isLt
  have e := k_block m c t ⟨(y 0).val, h0⟩ ⟨(y 1).val, h1⟩ ⟨t.val * 512 + (y 0).val, by omega⟩ rfl
  refine Eq.trans ?_ (e.trans ?_)
  · refine congrArg (blkK (X0_1 m c t) (iblk m c 8 t)) ?_
    blk_ext []
  · refine congrArg (outK (ks (m ((c : Thread nD τ).loc main_arg0))) (m ((c : Thread nD τ).loc main_arg2))) ?_
    blk_ext [at_10]

/-- The keys. -/
theorem final_kb : (dats m 0 c).arrAt 11 cfg0.N = outKb (ks (m ((c : Thread nD τ).loc main_arg0))) (m ((c : Thread nD τ).loc main_arg2)) := by
  refine (dats m 0 c).arrAt_eq_of_covers 11 _ (by decide +kernel) fun t hf y => ?_
  blk_simp
  rw [after_11]
  have ht : t.val < 2 := lt_of_lt_of_eq t.isLt N_0
  have h0 : (y 0).val < 128 := (y 0).isLt
  have h1 : (y 1).val < 512 := (y 1).isLt
  have e := kb_block m c t ⟨(y 0).val, h0⟩ ⟨(y 1).val, h1⟩ ⟨t.val * 128 + (y 0).val, by omega⟩ rfl
  refine Eq.trans ?_ (e.trans ?_)
  · refine congrArg (blkKb (X0_1 m c t) (iblk m c 8 t)) ?_
    blk_ext []
  · refine congrArg (outKb (ks (m ((c : Thread nD τ).loc main_arg0))) (m ((c : Thread nD τ).loc main_arg2))) ?_
    blk_ext [at_11]

/-- The values. -/
theorem final_vb : (dats m 0 c).arrAt 12 cfg0.N = outVb (vs (m ((c : Thread nD τ).loc main_arg0))) := by
  refine (dats m 0 c).arrAt_eq_of_covers 12 _ (by decide +kernel) fun t hf y => ?_
  blk_simp
  rw [after_12]
  have ht : t.val < 2 := lt_of_lt_of_eq t.isLt N_0
  have h0 : (y 0).val < 128 := (y 0).isLt
  have h1 : (y 1).val < 512 := (y 1).isLt
  have e := vb_block m c t ⟨(y 0).val, h0⟩ ⟨(y 1).val, h1⟩ ⟨t.val * 128 + (y 0).val, by omega⟩ rfl
  refine Eq.trans ?_ (e.trans ?_)
  · refine congrArg (fun y => X0_2 m c t y) ?_
    blk_ext []
  · refine congrArg (outVb (vs (m ((c : Thread nD τ).loc main_arg0)))) ?_
    blk_ext [at_12]

/-- The index queries. -/
theorem final_iq : (dats m 0 c).arrAt 13 cfg0.N = outIq (iqs (m ((c : Thread nD τ).loc main_arg0))) := by
  refine (dats m 0 c).arrAt_eq_of_covers 13 _ (by decide +kernel) fun t hf y => ?_
  blk_simp
  rw [after_13]
  have ht : t.val < 2 := lt_of_lt_of_eq t.isLt N_0
  have h0 : (y 0).val < 128 := (y 0).isLt
  have h1 : (y 1).val < 2048 := (y 1).isLt
  have e := iq_block m c t ⟨(y 0).val, h0⟩ ⟨(y 1).val, h1⟩ ⟨t.val * 128 + (y 0).val, by omega⟩ rfl
  refine Eq.trans ?_ (e.trans ?_)
  · refine congrArg (blkIq (X0_3 m c t) (X0_4 m c t)) ?_
    blk_ext []
  · refine congrArg (outIq (iqs (m ((c : Thread nD τ).loc main_arg0)))) ?_
    blk_ext [at_13]

/-- The index keys. -/
theorem final_ikb : (dats m 0 c).arrAt 14 cfg0.N = outIkb (iks (m ((c : Thread nD τ).loc main_arg0))) := by
  refine (dats m 0 c).arrAt_eq_of_covers 14 _ (by decide +kernel) fun t hf y => ?_
  blk_simp
  rw [after_14]
  have ht : t.val < 2 := lt_of_lt_of_eq t.isLt N_0
  have h0 : (y 0).val < 128 := (y 0).isLt
  have h1 : (y 1).val < 128 := (y 1).isLt
  have e := ikb_block m c t ⟨(y 0).val, h0⟩ ⟨(y 1).val, h1⟩ ⟨t.val * 128 + (y 0).val, by omega⟩ rfl
  refine Eq.trans ?_ (e.trans ?_)
  · refine congrArg (fun y => iblk m c 5 t y) ?_
    blk_ext []
  · refine congrArg (outIkb (iks (m ((c : Thread nD τ).loc main_arg0)))) ?_
    blk_ext [at_14]

/-- The index weights. -/
theorem final_iw : (dats m 0 c).arrAt 15 cfg0.N = outIw (iws (m ((c : Thread nD τ).loc main_arg0))) := by
  refine (dats m 0 c).arrAt_eq_of_covers 15 _ (by decide +kernel) fun t hf y => ?_
  blk_simp
  rw [after_15]
  have ht : t.val < 2 := lt_of_lt_of_eq t.isLt N_0
  have h0 : (y 0).val < 128 := (y 0).isLt
  have h1 : (y 1).val < 128 := (y 1).isLt
  have e := iw_block m c t ⟨(y 0).val, h0⟩ ⟨(y 1).val, h1⟩ ⟨t.val * 128 + (y 0).val, by omega⟩ rfl
  refine Eq.trans ?_ (e.trans ?_)
  · refine congrArg (blkIw (iblk m c 6 t)) ?_
    blk_ext []
  · refine congrArg (outIw (iws (m ((c : Thread nD τ).loc main_arg0)))) ?_
    blk_ext [at_15]

/-- The values' rows. -/
theorem final_v : (dats m 0 c).arrAt 16 cfg0.N = outV (vs (m ((c : Thread nD τ).loc main_arg0))) := by
  refine (dats m 0 c).arrAt_eq_of_covers 16 _ (by decide +kernel) fun t hf y => ?_
  blk_simp
  rw [after_16]
  have ht : t.val < 2 := lt_of_lt_of_eq t.isLt N_0
  have h0 : (y 0).val < 512 := (y 0).isLt
  have h1 : (y 1).val < 128 := (y 1).isLt
  have e := v_block m c t ⟨(y 0).val, h0⟩ ⟨(y 1).val, h1⟩ ⟨t.val * 512 + (y 0).val, by omega⟩ rfl
  refine Eq.trans ?_ (e.trans ?_)
  · refine congrArg (blkV (X0_2 m c t)) ?_
    blk_ext []
  · refine congrArg (outV (vs (m ((c : Thread nD τ).loc main_arg0)))) ?_
    blk_ext [at_16]

/-- The index keys as they are. -/
theorem final_ik : (dats m 0 c).arrAt 17 cfg0.N = iks (m ((c : Thread nD τ).loc main_arg0)) := by
  refine (dats m 0 c).arrAt_eq_of_covers 17 _ (by decide +kernel) fun t hf y => ?_
  blk_simp
  rw [after_17]
  have ht : t.val < 2 := lt_of_lt_of_eq t.isLt N_0
  have h0 : (y 0).val < 128 := (y 0).isLt
  have h1 : (y 1).val < 128 := (y 1).isLt
  have e := iks_block m c t ⟨(y 0).val, h0⟩ ⟨(y 1).val, h1⟩ ⟨t.val * 128 + (y 0).val, by omega⟩ rfl
  refine Eq.trans ?_ (e.trans ?_)
  · refine congrArg (fun y => iblk m c 5 t y) ?_
    blk_ext []
  · refine congrArg (iks (m ((c : Thread nD τ).loc main_arg0))) ?_
    blk_ext [at_17]

end Cert.KernelPostBIdeal.Post

end
-- ==== Proof.PostPRun.lean ====
/-
  One run of the per-head normalisation's body at any float model: the inputs are kept, the outputs end at some contents.
-/
module

public import proofs.«01_k».proof.Proof.Gen.KernelPostP.Frame
public import proofs.«01_k».proof.Proof.Gen.KernelPostP.Skeleton
public import proofs.«01_k».proof.Proof.Gen.KernelPostP.Points
public import Idealize.ShloMosaic.Lib.Claim

@[expose] public section

set_option maxRecDepth 16384

noncomputable section

namespace Cert.KernelPostP.Post

open Cert.KernelPostP Cert.KernelPostP.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The sixteen conditions are one: all hold or none does. -/
theorem conds (i : grid0.Coords) :
    (k0_cond1 i = 1#1 ∧ k0_cond2 i = 1#1 ∧ k0_cond3 i = 1#1 ∧ k0_cond4 i = 1#1 ∧ k0_cond5 i = 1#1 ∧ k0_cond6 i = 1#1 ∧ k0_cond7 i = 1#1 ∧ k0_cond8 i = 1#1 ∧ k0_cond9 i = 1#1 ∧ k0_cond10 i = 1#1 ∧ k0_cond11 i = 1#1 ∧ k0_cond12 i = 1#1 ∧ k0_cond13 i = 1#1 ∧ k0_cond14 i = 1#1 ∧ k0_cond15 i = 1#1 ∧ k0_cond16 i = 1#1)
      ∨ (¬ k0_cond1 i = 1#1 ∧ ¬ k0_cond2 i = 1#1 ∧ ¬ k0_cond3 i = 1#1 ∧ ¬ k0_cond4 i = 1#1 ∧ ¬ k0_cond5 i = 1#1 ∧ ¬ k0_cond6 i = 1#1 ∧ ¬ k0_cond7 i = 1#1 ∧ ¬ k0_cond8 i = 1#1 ∧ ¬ k0_cond9 i = 1#1 ∧ ¬ k0_cond10 i = 1#1 ∧ ¬ k0_cond11 i = 1#1 ∧ ¬ k0_cond12 i = 1#1 ∧ ¬ k0_cond13 i = 1#1 ∧ ¬ k0_cond14 i = 1#1 ∧ ¬ k0_cond15 i = 1#1 ∧ ¬ k0_cond16 i = 1#1) :=
  (Classical.em (k0_cond1 i = 1#1)).imp (fun h => ⟨h, h, h, h, h, h, h, h, h, h, h, h, h, h, h, h⟩) fun h => ⟨h, h, h, h, h, h, h, h, h, h, h, h, h, h, h, h⟩

set_option maxHeartbeats 16000000 in
/-- The body on whole blocks: the inputs' blocks end as they were, the outputs' at some contents. -/
theorem body (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x2048 .bf16) (harg7 : arg7.IsWhole) (arg8 : Memref sig .tc .vmem S1x1x2048x128 .f32) (harg8 : arg8.IsWhole) (arg9 : Memref sig .tc .vmem S128x2048 .bf16) (harg9 : arg9.IsWhole) (arg10 : Memref sig .tc .vmem S128x2048 .bf16) (harg10 : arg10.IsWhole) (arg11 : Memref sig .tc .vmem S1x1x2048x128 .f32) (harg11 : arg11.IsWhole)
    (x0 x1 x2 : Vec F S128x2048 .f32) (x3 x4 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f)) -∗ K ⟨⟩))
      ⊢ wp frame (wpE (defs₀ (F := F)) Variants.none c none) E (cc0_diff_post_prompt i arg2 harg2 arg3 harg3 arg4 harg4 arg5 harg5 arg6 harg6 arg7 harg7 arg8 harg8 arg9 harg9 arg10 harg10 arg11 harg11) K := by
  simp only [cc0_diff_post_prompt_eq_skeleton]; unfold cc0_diff_post_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2
  obtain rfl := harg5.eq_unread hf3; obtain rfl := harg6.eq_unread hf4
  obtain ⟨h1, h2, h3, h4, h5, h6, h7, h8, h9, h10, h11, h12, h13, h14, h15, h16⟩ | ⟨h1, h2, h3, h4, h5, h6, h7, h8, h9, h10, h11, h12, h13, h14, h15, h16⟩ := conds i
  all_goals
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    iexists _; iexact H9

end Cert.KernelPostP.Post

end
-- ==== Proof.PostPFrame.lean ====
/-
  The frame of the prompt rows' per-head normalisation at any float model: it terminates, nothing faults, its arguments end unchanged and
  every semaphore counter ends at zero.  The outputs' contents are not named.
-/
module

public import proofs.«01_k».proof.Proof.PostPRun

@[expose] public section

set_option maxRecDepth 16384

noncomputable section

namespace Cert.KernelPostP.Post

open Cert.KernelPostP Cert.KernelPostP.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data: the inputs' blocks stay, the outputs' are not named; three inputs share one array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Dat.unnamed 5 t
    | ⟨6, _⟩ => Dat.unnamed 6 t
    | ⟨7, _⟩ => Dat.unnamed 7 t
    | ⟨8, _⟩ => Dat.unnamed 8 t
    | ⟨9, _⟩ => Dat.unnamed 9 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-- The output windows are forgotten. -/
def fgt (w : Fin cfg0.W) : Bool := decide (5 ≤ w.val)

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body c (grid0.coords t) _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, ⟨%e5, H5⟩, ⟨%e6, H6⟩, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns
  isplitl [H5]
  · iexists _; iexists e5; isplitr; · ipureintro; rfl
    iexact H5
  isplitl [H6]
  · iexists _; iexists e6; isplitr; · ipureintro; rfl
    iexact H6
  isplitl [H7]
  · iexists _; iexists e7; isplitr; · ipureintro; rfl
    iexact H7
  isplitl [H8]
  · iexists _; iexists e8; isplitr; · ipureintro; rfl
    iexact H8
  iexists _; iexists e9; isplitr; · ipureintro; rfl
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hΦ := fun _ _ => rfl)

/-- THE FRAME. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.arr_in c 2 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.KernelPostP.Post

end
-- ==== Proof.PostPRunIdeal.lean ====
/-
  One run of the idealized per-head normalisation's body, prompt rows, with what it stores in the three plain outputs as lists of pieces.
-/
module

public import proofs.«01_k».proof.Proof.Gen.KernelPostPIdeal.Frame
public import proofs.«01_k».proof.Proof.Gen.KernelPostPIdeal.Skeleton
public import proofs.«01_k».proof.Proof.Gen.KernelPostPIdeal.Points
public import Idealize.ShloMosaic.Lib.Claim

@[expose] public section

set_option maxRecDepth 16384

noncomputable section

namespace Cert.KernelPostPIdeal.Post

open Cert.KernelPostPIdeal Cert.KernelPostPIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The sixteen conditions are one: all hold or none does. -/
theorem conds (i : grid0.Coords) :
    (k0_cond1 i = 1#1 ∧ k0_cond2 i = 1#1 ∧ k0_cond3 i = 1#1 ∧ k0_cond4 i = 1#1 ∧ k0_cond5 i = 1#1 ∧ k0_cond6 i = 1#1 ∧ k0_cond7 i = 1#1 ∧ k0_cond8 i = 1#1 ∧ k0_cond9 i = 1#1 ∧ k0_cond10 i = 1#1 ∧ k0_cond11 i = 1#1 ∧ k0_cond12 i = 1#1 ∧ k0_cond13 i = 1#1 ∧ k0_cond14 i = 1#1 ∧ k0_cond15 i = 1#1 ∧ k0_cond16 i = 1#1)
      ∨ (¬ k0_cond1 i = 1#1 ∧ ¬ k0_cond2 i = 1#1 ∧ ¬ k0_cond3 i = 1#1 ∧ ¬ k0_cond4 i = 1#1 ∧ ¬ k0_cond5 i = 1#1 ∧ ¬ k0_cond6 i = 1#1 ∧ ¬ k0_cond7 i = 1#1 ∧ ¬ k0_cond8 i = 1#1 ∧ ¬ k0_cond9 i = 1#1 ∧ ¬ k0_cond10 i = 1#1 ∧ ¬ k0_cond11 i = 1#1 ∧ ¬ k0_cond12 i = 1#1 ∧ ¬ k0_cond13 i = 1#1 ∧ ¬ k0_cond14 i = 1#1 ∧ ¬ k0_cond15 i = 1#1 ∧ ¬ k0_cond16 i = 1#1) :=
  (Classical.em (k0_cond1 i = 1#1)).imp (fun h => ⟨h, h, h, h, h, h, h, h, h, h, h, h, h, h, h, h⟩) fun h => ⟨h, h, h, h, h, h, h, h, h, h, h, h, h, h, h, h⟩

set_option maxHeartbeats 16000000 in
/-- The pieces the body's stores leave in the outputs of the queries, the keys and the values (last first; the states' blocks end at some contents), with the run that leaves them. -/
def run (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x2048 .bf16) (harg7 : arg7.IsWhole) (arg8 : Memref sig .tc .vmem S1x1x2048x128 .f32) (harg8 : arg8.IsWhole) (arg9 : Memref sig .tc .vmem S128x2048 .bf16) (harg9 : arg9.IsWhole) (arg10 : Memref sig .tc .vmem S128x2048 .bf16) (harg10 : arg10.IsWhole) (arg11 : Memref sig .tc .vmem S1x1x2048x128 .f32) (harg11 : arg11.IsWhole)
    (x0 x1 x2 : Vec F S128x2048 .f32) (x3 x4 : Vec F S1x128 .f32) :
    { L : List (View.Piece (Elt F) S128x2048 .bf16) × List (View.Piece (Elt F) S128x2048 .bf16) × List (View.Piece (Elt F) S128x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L.1) ∗ (∃ f, arg8.view.loc (c : Thread nD τ) ↦[arg8.view.set]{fullShare} f) ∗ (∃ f, arg9.view.loc (c : Thread nD τ) ↦[arg9.view.set]{fullShare} arg9.view.writes (Elt F) f L.2.1) ∗ (∃ f, arg10.view.loc (c : Thread nD τ) ↦[arg10.view.set]{fullShare} arg10.view.writes (Elt F) f L.2.2) ∗ (∃ f, arg11.view.loc (c : Thread nD τ) ↦[arg11.view.set]{fullShare} f)) -∗ K ⟨⟩))
          ⊢ wp frame (wpE (defs₀ (F := F)) Variants.none c none) E (cc0_diff_post_prompt i arg2 harg2 arg3 harg3 arg4 harg4 arg5 harg5 arg6 harg6 arg7 harg7 arg8 harg8 arg9 harg9 arg10 harg10 arg11 harg11) K } := by
  refine ⟨⟨?_, ?_, ?_⟩, fun E K => ?run⟩
  case run =>
    simp only [cc0_diff_post_prompt_eq_skeleton]; unfold cc0_diff_post_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2
    obtain rfl := harg5.eq_unread hf3; obtain rfl := harg6.eq_unread hf4
    obtain ⟨h1, h2, h3, h4, h5, h6, h7, h8, h9, h10, h11, h12, h13, h14, h15, h16⟩ | ⟨h1, h2, h3, h4, h5, h6, h7, h8, h9, h10, h11, h12, h13, h14, h15, h16⟩ := conds i
    all_goals
      sl_exec
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]; · iexists _; iexact H5
      isplitl [H6]; · iexists _; iexact H6
      isplitl [H7]; · iexists _; iexact H7
      isplitl [H8]; · iexists _; iexact H8
      iexists _; iexact H9

end Cert.KernelPostPIdeal.Post

end
-- ==== Proof.PostPRef.lean ====
/-
  What the per-head normalisation of the prompts' rows computes, at one place: a head's 128 entries divided by the root of their mean
  square, times a gain; the queries then over √128 and over log 2; the values as they are.
-/
module

public import proofs.«01_k».proof.Proof.Gen.ReferencePostPIdeal.Run
public import proofs.«01_k».proof.Proof.PostRef
public import Idealize.ShloMosaic.Lib.StableHlo.ReadAt
public import Idealize.ShloMosaic.Lib.Tactic.CleanTypes

@[expose] public section

set_option maxRecDepth 8192
set_option maxHeartbeats 1000000

noncomputable section

namespace Cert.ReferencePostPIdeal.Value

open Cert.ReferencePostPIdeal Cert.ReferencePostPIdeal.Gen Idealize.ShloMosaic
open Cert.ReferencePostIdeal.Value (entry factor factor_eq)

/-- The queries', the keys' and the values' columns of the prompts' rows. -/
def qs (z : FVec Ideal S8704x6144 .f32) : FVec Ideal S8448x2048 .f32 := extractStridedSlice S8448x2048 ![0, 0] (extractStridedSlice S8448x6144 ![0, 0] z slices_S8704x6144_S8448x6144_0_0) slices_S8448x6144_S8448x2048_0_0
def ks (z : FVec Ideal S8704x6144 .f32) : FVec Ideal S8448x2048 .f32 := extractStridedSlice S8448x2048 ![0, 2048] (extractStridedSlice S8448x6144 ![0, 0] z slices_S8704x6144_S8448x6144_0_0) slices_S8448x6144_S8448x2048_0_2048
def vs (z : FVec Ideal S8704x6144 .f32) : FVec Ideal S8448x2048 .f32 := extractStridedSlice S8448x2048 ![0, 4096] (extractStridedSlice S8448x6144 ![0, 0] z slices_S8704x6144_S8448x6144_0_0) slices_S8448x6144_S8448x2048_0_4096

/-- Each head's entries normalised, times the gain. -/
def normed (x : FVec Ideal S8448x2048 .f32) (g : FVec Ideal S128 .f32) : FVec Ideal S8448x8x2x128 .f32 :=
  mulf (mulf (shapeCast S8448x8x2x128 x shapeCasts_S8448x2048_S8448x8x2x128) (broadcastInDim S8448x8x2x128 ![0, 1, 2, 3] bcast_S8448x8x2x1_S8448x8x2x128_0_1_2_3 (Host.rsqrt (addf (Host.divf (broadcastInDim S8448x8x2x1 ![0, 1, 2] bcast_S8448x8x2_S8448x8x2x1_0_1_2 (Host.reduceAdd (mulf (shapeCast S8448x8x2x128 x shapeCasts_S8448x2048_S8448x8x2x128) (shapeCast S8448x8x2x128 x shapeCasts_S8448x2048_S8448x8x2x128)) (constant S_ .f32 0x00000000#32) reducesTo_S8448x8x2x128_S8448x8x2_d3 h_S_)) (broadcastInDim S8448x8x2x1 ![] bcast_S_S8448x8x2x1 (constant S_ .f32 0x43000000#32))) (broadcastInDim S8448x8x2x1 ![] bcast_S_S8448x8x2x1 (constant S_ .f32 0x358637BD#32)))))) (broadcastInDim S8448x8x2x128 ![0, 1, 2, 3] bcast_S1x1x1x128_S8448x8x2x128_0_1_2_3 (broadcastInDim S1x1x1x128 ![3] bcast_S128_S1x1x1x128_3 g))

/-- The three results. -/
def outQ (x : FVec Ideal S8448x2048 .f32) (g : FVec Ideal S128 .f32) : FVec Ideal S8448x2048 .bf16 :=
  truncf .bf16 (shapeCast _ (Host.divf (Host.divf (normed x g) (broadcastInDim S8448x8x2x128 ![] bcast_S_S8448x8x2x128 (Host.sqrt (constant S_ .f32 0x43000000#32)))) (broadcastInDim S8448x8x2x128 ![] bcast_S_S8448x8x2x128 (Host.log (constant S_ .f32 0x40000000#32)))) shapeCasts_S8448x8x2x128_S8448x2048) bitsLt_bf16_f32
def outKb (x : FVec Ideal S8448x2048 .f32) (g : FVec Ideal S128 .f32) : FVec Ideal S8448x2048 .bf16 :=
  truncf .bf16 (shapeCast S8448x2048 (normed x g) shapeCasts_S8448x8x2x128_S8448x2048) bitsLt_bf16_f32
def outVb (x : FVec Ideal S8448x2048 .f32) : FVec Ideal S8448x2048 .bf16 := truncf .bf16 x bitsLt_bf16_f32
theorem outQ_at (x : FVec Ideal S8448x2048 .f32) (g : FVec Ideal S128 .f32) (r : Fin 8448) (c : Fin 2048) :
    (outQ x g (ix2 r c) : EReal)
      = entry (fun k => x (ix2 r ⟨c.val / 128 * 128 + k.val, by omega⟩)) ⟨c.val % 128, by omega⟩ (g (ix1 ⟨c.val % 128, by omega⟩)) * factor := by
  have e (k : Fin 128) : (⟨c.val / 256 * 256 + c.val / 128 % 2 * 128 + k.val, by omega⟩ : Fin 2048) = ⟨c.val / 128 * 128 + k.val, by omega⟩ :=
    Fin.ext (by show c.val / 256 * 256 + c.val / 128 % 2 * 128 + k.val = c.val / 128 * 128 + k.val; omega)
  have e' : (⟨c.val / 128 * 128 + c.val % 128, by omega⟩ : Fin 2048) = c := Fin.ext (by show c.val / 128 * 128 + c.val % 128 = c.val; omega)
  rw [← factor_eq]
  unfold outQ normed entry
  pointwise
  simp only [e, e']

theorem outKb_at (x : FVec Ideal S8448x2048 .f32) (g : FVec Ideal S128 .f32) (r : Fin 8448) (c : Fin 2048) :
    (outKb x g (ix2 r c) : EReal)
      = entry (fun k => x (ix2 r ⟨c.val / 128 * 128 + k.val, by omega⟩)) ⟨c.val % 128, by omega⟩ (g (ix1 ⟨c.val % 128, by omega⟩)) := by
  have e (k : Fin 128) : (⟨c.val / 256 * 256 + c.val / 128 % 2 * 128 + k.val, by omega⟩ : Fin 2048) = ⟨c.val / 128 * 128 + k.val, by omega⟩ :=
    Fin.ext (by show c.val / 256 * 256 + c.val / 128 % 2 * 128 + k.val = c.val / 128 * 128 + k.val; omega)
  have e' : (⟨c.val / 128 * 128 + c.val % 128, by omega⟩ : Fin 2048) = c := Fin.ext (by show c.val / 128 * 128 + c.val % 128 = c.val; omega)
  unfold outKb normed entry
  pointwise
  simp only [e, e']

theorem qs_at (z : FVec Ideal S8704x6144 .f32) (r : Fin 8448) (c : Fin 2048) :
    (qs z (ix2 r c) : EReal) = z (ix2 ⟨r.val, by omega⟩ ⟨c.val, by omega⟩) := by
  unfold qs
  pointwise

theorem ks_at (z : FVec Ideal S8704x6144 .f32) (r : Fin 8448) (c : Fin 2048) :
    (ks z (ix2 r c) : EReal) = z (ix2 ⟨r.val, by omega⟩ ⟨2048 + c.val, by omega⟩) := by
  unfold ks
  pointwise

theorem vs_at (z : FVec Ideal S8704x6144 .f32) (r : Fin 8448) (c : Fin 2048) :
    (vs z (ix2 r c) : EReal) = z (ix2 ⟨r.val, by omega⟩ ⟨4096 + c.val, by omega⟩) := by
  unfold vs
  pointwise

end Cert.ReferencePostPIdeal.Value

end
-- ==== Proof.PostPBlocks.lean ====
/-
  What the prompt rows' per-head normalisation stores at each place of its blocks of the queries, the keys and the values, read off the pieces its run leaves.
-/
module

public import proofs.«01_k».proof.Proof.PostPRunIdeal
public import proofs.«01_k».proof.Proof.PostPRef
public import proofs.«01_k».proof.Proof.PostBlocks
public import Idealize.ShloMosaic.Lib.WholeRead
public import Idealize.ShloMosaic.Lib.Pipeline.ValueKit
public import Idealize.ShloMosaic.Lib.Pipeline.ReadBack

@[expose] public section

set_option maxRecDepth 16384
set_option maxHeartbeats 1000000

noncomputable section

namespace Cert.KernelPostPIdeal.Post

open Cert.ReferencePostIdeal.Value (entry factor)
open Cert.KernelPostIdeal.Post (canon_agree)
open Cert.KernelPostPIdeal Cert.KernelPostPIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

/-! ## The three blocks -/

theorem named_scale : (Named.named κ "scale" 0x3E0293EE#32 : Ideal .f32) = factor := IdealRules.named_const.ideal_named_scalar _ _ _ _ rfl

def blkQ (x : Vec Ideal S128x2048 .f32) (g : Vec Ideal S1x128 .f32) : Vec Ideal S128x2048 .bf16 := fun y =>
  entry (fun k => x (ix2 ⟨(y 0).val, (y 0).isLt⟩ ⟨(y 1).val / 128 * 128 + k.val, by have : (y 1).val < 2048 := (y 1).isLt; omega⟩)) ⟨(y 1).val % 128, by omega⟩
    (g (ix2 0 ⟨(y 1).val % 128, by omega⟩)) * factor

def blkKb (x : Vec Ideal S128x2048 .f32) (g : Vec Ideal S1x128 .f32) : Vec Ideal S128x2048 .bf16 := fun y =>
  entry (fun k => x (ix2 ⟨(y 0).val, (y 0).isLt⟩ ⟨(y 1).val / 128 * 128 + k.val, by have : (y 1).val < 2048 := (y 1).isLt; omega⟩)) ⟨(y 1).val % 128, by omega⟩
    (g (ix2 0 ⟨(y 1).val % 128, by omega⟩))

/-! ## One piece -/

theorem payQ_at (x : Vec Ideal S128x128 .f32) (g : Vec Ideal S1x128 .f32) (a n : Fin 128) :
    (k0_pay4 x g (ix2 a n) : EReal) = entry (fun k => x (ix2 a k)) n (g (ix2 0 n)) * factor := by
  rw [← named_scale]
  unfold k0_pay4 entry
  pointwise

theorem payK_at (x : Vec Ideal S128x128 .f32) (g : Vec Ideal S1x128 .f32) (a n : Fin 128) :
    (k0_pay5 x g (ix2 a n) : EReal) = entry (fun k => x (ix2 a k)) n (g (ix2 0 n)) := by
  unfold k0_pay5 entry
  pointwise

/-- An index of a block of 128 rows and columns. -/
theorem sq (x : S128x128.Idx) : x = ix2 ⟨(x 0).val, (x 0).isLt⟩ ⟨(x 1).val, (x 1).isLt⟩ := by
  funext a
  match a with
  | ⟨0, _⟩ => rfl
  | ⟨1, _⟩ => rfl

section Piece
variable {az : Memref sig .tc .vmem S128x2048 .f32} (hz : az.IsWhole) {ag : Memref sig .tc .vmem S1x128 .f32} (hg : ag.IsWhole)
  (z : Vec Ideal S128x2048 .f32) (g : Vec Ideal S1x128 .f32)
  {o : ℕ} (ho : ∀ a, (![0, o] : Fin 2 → Nat) a + S128x128.size a ≤ S128x2048.size a) (hi : ∀ a, (![0, 0] : Fin 2 → Nat) a + S1x128.size a ≤ S1x128.size a)

/-- The columns a piece reads, and the gain. -/
abbrev cols : Vec Ideal S128x128 .f32 := View.readAt (Elt Ideal) az.view (Rect.unit (s := S128x2048) ![0, o] S128x128.size ho).toLoadRect (hz.unread z)
abbrev gains : Vec Ideal S1x128 .f32 := View.readAt (Elt Ideal) ag.view (Rect.unit (s := S1x128) ![0, 0] S1x128.size hi).toLoadRect (hg.unread g)

theorem cols_at (a k : Fin 128) (c : Fin 2048) (hc : c.val = o + k.val) : cols hz z ho (ix2 a k) = z (ix2 ⟨a.val, a.isLt⟩ c) := by
  refine (hz.readAt_unread z _ _).trans (congrArg z ?_)
  funext i
  match i with
  | ⟨0, _⟩ => exact Fin.ext (by show 0 + 1 * a.val = a.val; omega)
  | ⟨1, _⟩ => exact Fin.ext (by show o + 1 * k.val = c.val; omega)

theorem gains_at (n : Fin 128) : gains hg g hi (ix2 0 n) = g (ix2 0 n) := by
  refine (hg.readAt_unread g _ _).trans (congrArg g ?_)
  funext i
  match i with
  | ⟨0, _⟩ => rfl
  | ⟨1, _⟩ => exact Fin.ext (by show 0 + 1 * n.val = n.val; omega)

include hz in
theorem entry_at (a n : Fin 128) (hb : ∀ k : Fin 128, o + k.val < 2048) : entry (fun k => cols hz z ho (ix2 a k)) n (gains hg g hi (ix2 0 n))
    = entry (fun k => z (ix2 a ⟨o + k.val, hb k⟩)) n (g (ix2 0 n)) := by
  rw [gains_at]
  exact congrArg (fun x => entry x n _) (funext fun k => cols_at hz z ho a k _ rfl)

include ho in
theorem fits (k : Fin 128) : o + k.val < 2048 := by
  have h : o + 128 ≤ 2048 := ho 1
  omega

/-- A piece of the normalised queries. -/
theorem pieceQ (h : o % 128 = 0) (x : S128x128.Idx) :
    k0_pay4 (cols hz z ho) (gains hg g hi) x = blkQ z g ((Rect.unit (s := S128x2048) ![0, o] S128x128.size ho).emb x) := by
  obtain ⟨a, n, rfl⟩ : ∃ a n : Fin 128, x = ix2 a n := ⟨_, _, sq x⟩
  have e0 : ((Rect.unit (s := S128x2048) ![0, o] S128x128.size ho).emb (ix2 a n) 0).val = a.val := by
    show 0 + 1 * a.val = _; omega
  have e1 (k : Fin 128) : ((Rect.unit (s := S128x2048) ![0, o] S128x128.size ho).emb (ix2 a n) 1).val / 128 * 128 + k.val = o + k.val := by
    show (o + 1 * n.val) / 128 * 128 + k.val = _; omega
  have e2 : ((Rect.unit (s := S128x2048) ![0, o] S128x128.size ho).emb (ix2 a n) 1).val % 128 = n.val := by
    show (o + 1 * n.val) % 128 = _; omega
  refine (payQ_at _ _ _ _).trans ?_
  rw [entry_at hz hg z g ho hi a n (fits ho)]
  simp only [blkQ, e0, e1, e2]

/-- A piece of the normalised keys. -/
theorem pieceKb (h : o % 128 = 0) (x : S128x128.Idx) :
    k0_pay6 (cols hz z ho) (gains hg g hi) x = blkKb z g ((Rect.unit (s := S128x2048) ![0, o] S128x128.size ho).emb x) := by
  obtain ⟨a, n, rfl⟩ : ∃ a n : Fin 128, x = ix2 a n := ⟨_, _, sq x⟩
  have e0 : ((Rect.unit (s := S128x2048) ![0, o] S128x128.size ho).emb (ix2 a n) 0).val = a.val := by
    show 0 + 1 * a.val = _; omega
  have e1 (k : Fin 128) : ((Rect.unit (s := S128x2048) ![0, o] S128x128.size ho).emb (ix2 a n) 1).val / 128 * 128 + k.val = o + k.val := by
    show (o + 1 * n.val) / 128 * 128 + k.val = _; omega
  have e2 : ((Rect.unit (s := S128x2048) ![0, o] S128x128.size ho).emb (ix2 a n) 1).val % 128 = n.val := by
    show (o + 1 * n.val) % 128 = _; omega
  refine (payK_at _ _ _ _).trans ?_
  rw [entry_at hz hg z g ho hi a n (fits ho)]
  simp only [blkKb, e0, e1, e2]

end Piece

/-! ## The blocks the run leaves -/

variable (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x2048 .bf16) (harg7 : arg7.IsWhole) (arg8 : Memref sig .tc .vmem S1x1x2048x128 .f32) (harg8 : arg8.IsWhole) (arg9 : Memref sig .tc .vmem S128x2048 .bf16) (harg9 : arg9.IsWhole) (arg10 : Memref sig .tc .vmem S128x2048 .bf16) (harg10 : arg10.IsWhole) (arg11 : Memref sig .tc .vmem S1x1x2048x128 .f32) (harg11 : arg11.IsWhole)
  (x0 x1 x2 : Vec Ideal S128x2048 .f32) (x3 x4 : Vec Ideal S1x128 .f32)

/-- The normalised queries. -/
theorem coverQ (y : S128x2048.Idx) : ∃ p ∈ (run c i arg2 harg2 arg3 harg3 arg4 harg4 arg5 harg5 arg6 harg6 arg7 harg7 arg8 harg8 arg9 harg9 arg10 harg10 arg11 harg11 x0 x1 x2 x3 x4).1.1, y ∈ p.1.set :=
  View.cover_of_tiledL (run c i arg2 harg2 arg3 harg3 arg4 harg4 arg5 harg5 arg6 harg6 arg7 harg7 arg8 harg8 arg9 harg9 arg10 harg10 arg11 harg11 x0 x1 x2 x3 x4).1.1 S128x128.size (by sl_kernel_rfl) y

theorem agreeQ : ∀ p ∈ (run c i arg2 harg2 arg3 harg3 arg4 harg4 arg5 harg5 arg6 harg6 arg7 harg7 arg8 harg8 arg9 harg9 arg10 harg10 arg11 harg11 x0 x1 x2 x3 x4).1.1, ∀ x, p.2 x = (blkQ x0 x3) (p.1.emb x) := by
  unfold run
  dsimp only
  simp only [List.forall_mem_cons, List.not_mem_nil, false_implies, implies_true, _root_.and_true]
  refine ⟨?_, ?_, ?_, ?_, ?_, ?_, ?_, ?_, ?_, ?_, ?_, ?_, ?_, ?_, ?_, ?_⟩
  all_goals refine fun x => Eq.trans ?_ (pieceQ harg2 harg5 x0 x3 ?_ ?_ ?_ x)
  all_goals first | rfl | decide

theorem leavesQ (f) : arg7.view.read (Elt Ideal) (arg7.view.writes (Elt Ideal) f (run c i arg2 harg2 arg3 harg3 arg4 harg4 arg5 harg5 arg6 harg6 arg7 harg7 arg8 harg8 arg9 harg9 arg10 harg10 arg11 harg11 x0 x1 x2 x3 x4).1.1) = blkQ x0 x3 := by
  rw [View.read_writes_eq_canon _ _ _ (coverQ c i arg2 harg2 arg3 harg3 arg4 harg4 arg5 harg5 arg6 harg6 arg7 harg7 arg8 harg8 arg9 harg9 arg10 harg10 arg11 harg11 x0 x1 x2 x3 x4)]
  funext y
  exact canon_agree _ _ (agreeQ c i arg2 harg2 arg3 harg3 arg4 harg4 arg5 harg5 arg6 harg6 arg7 harg7 arg8 harg8 arg9 harg9 arg10 harg10 arg11 harg11 x0 x1 x2 x3 x4) y (coverQ c i arg2 harg2 arg3 harg3 arg4 harg4 arg5 harg5 arg6 harg6 arg7 harg7 arg8 harg8 arg9 harg9 arg10 harg10 arg11 harg11 x0 x1 x2 x3 x4 y)

/-- The normalised keys. -/
theorem coverKb (y : S128x2048.Idx) : ∃ p ∈ (run c i arg2 harg2 arg3 harg3 arg4 harg4 arg5 harg5 arg6 harg6 arg7 harg7 arg8 harg8 arg9 harg9 arg10 harg10 arg11 harg11 x0 x1 x2 x3 x4).1.2.1, y ∈ p.1.set :=
  View.cover_of_tiledL (run c i arg2 harg2 arg3 harg3 arg4 harg4 arg5 harg5 arg6 harg6 arg7 harg7 arg8 harg8 arg9 harg9 arg10 harg10 arg11 harg11 x0 x1 x2 x3 x4).1.2.1 S128x128.size (by sl_kernel_rfl) y

theorem agreeKb : ∀ p ∈ (run c i arg2 harg2 arg3 harg3 arg4 harg4 arg5 harg5 arg6 harg6 arg7 harg7 arg8 harg8 arg9 harg9 arg10 harg10 arg11 harg11 x0 x1 x2 x3 x4).1.2.1, ∀ x, p.2 x = (blkKb x1 x4) (p.1.emb x) := by
  unfold run
  dsimp only
  simp only [List.forall_mem_cons, List.not_mem_nil, false_implies, implies_true, _root_.and_true]
  refine ⟨?_, ?_, ?_, ?_, ?_, ?_, ?_, ?_, ?_, ?_, ?_, ?_, ?_, ?_, ?_, ?_⟩
  all_goals refine fun x => Eq.trans ?_ (pieceKb harg3 harg6 x1 x4 ?_ ?_ ?_ x)
  all_goals first | rfl | decide

theorem leavesKb (f) : arg9.view.read (Elt Ideal) (arg9.view.writes (Elt Ideal) f (run c i arg2 harg2 arg3 harg3 arg4 harg4 arg5 harg5 arg6 harg6 arg7 harg7 arg8 harg8 arg9 harg9 arg10 harg10 arg11 harg11 x0 x1 x2 x3 x4).1.2.1) = blkKb x1 x4 := by
  rw [View.read_writes_eq_canon _ _ _ (coverKb c i arg2 harg2 arg3 harg3 arg4 harg4 arg5 harg5 arg6 harg6 arg7 harg7 arg8 harg8 arg9 harg9 arg10 harg10 arg11 harg11 x0 x1 x2 x3 x4)]
  funext y
  exact canon_agree _ _ (agreeKb c i arg2 harg2 arg3 harg3 arg4 harg4 arg5 harg5 arg6 harg6 arg7 harg7 arg8 harg8 arg9 harg9 arg10 harg10 arg11 harg11 x0 x1 x2 x3 x4) y (coverKb c i arg2 harg2 arg3 harg3 arg4 harg4 arg5 harg5 arg6 harg6 arg7 harg7 arg8 harg8 arg9 harg9 arg10 harg10 arg11 harg11 x0 x1 x2 x3 x4 y)

/-- The values' copy. -/
theorem leavesVb (f) : arg10.view.read (Elt Ideal) (arg10.view.writes (Elt Ideal) f (run c i arg2 harg2 arg3 harg3 arg4 harg4 arg5 harg5 arg6 harg6 arg7 harg7 arg8 harg8 arg9 harg9 arg10 harg10 arg11 harg11 x0 x1 x2 x3 x4).1.2.2) = fun y => x2 y := by
  have hc (y : S128x2048.Idx) : ∃ p ∈ (run c i arg2 harg2 arg3 harg3 arg4 harg4 arg5 harg5 arg6 harg6 arg7 harg7 arg8 harg8 arg9 harg9 arg10 harg10 arg11 harg11 x0 x1 x2 x3 x4).1.2.2, y ∈ p.1.set :=
    View.cover_of_tiledL (run c i arg2 harg2 arg3 harg3 arg4 harg4 arg5 harg5 arg6 harg6 arg7 harg7 arg8 harg8 arg9 harg9 arg10 harg10 arg11 harg11 x0 x1 x2 x3 x4).1.2.2 S128x2048.size (by sl_kernel_rfl) y
  have ha : ∀ p ∈ (run c i arg2 harg2 arg3 harg3 arg4 harg4 arg5 harg5 arg6 harg6 arg7 harg7 arg8 harg8 arg9 harg9 arg10 harg10 arg11 harg11 x0 x1 x2 x3 x4).1.2.2, ∀ x, p.2 x = x2 (p.1.emb x) := by
    unfold run
    dsimp only
    simp only [List.forall_mem_cons, List.not_mem_nil, false_implies, implies_true, _root_.and_true]
    exact fun x => harg4.readAt_unread x2 _ x
  rw [View.read_writes_eq_canon _ _ _ hc]
  funext y
  exact canon_agree _ _ ha y (hc y)

end Cert.KernelPostPIdeal.Post

end
-- ==== Proof.PostPFrameIdeal.lean ====
/-
  The prompt rows' per-head normalisation over the extended reals: what each grid point leaves in the blocks of the queries, the
  keys and the values, the run with these three result arrays named, and the frame.  The states' contents are not named.
-/
module

public import proofs.«01_k».proof.Proof.PostPBlocks

@[expose] public section

set_option maxRecDepth 16384

noncomputable section

namespace Cert.KernelPostPIdeal.Post

open Cert.KernelPostPIdeal Cert.KernelPostPIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-- The pipeline's proof data: the inputs' blocks stay, three outputs' are the body's results, the states' are not named; three inputs share one array. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blkQ (iblk m c 0 t) (iblk m c 3 t)
    | ⟨6, _⟩ => Dat.unnamed 6 t
    | ⟨7, _⟩ => blkKb (iblk m c 1 t) (iblk m c 4 t)
    | ⟨8, _⟩ => fun y => iblk m c 2 t y
    | ⟨9, _⟩ => Dat.unnamed 9 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-- The states' windows are forgotten. -/
def fgt (w : Fin cfg0.W) : Bool := decide (w.val = 6 ∨ w.val = 9)

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (blkQ (iblk m c 0 t) (iblk m c 3 t)) := by dsimp only [dats]
theorem after_7 (c : Dev nD) (t : Fin cfg0.N) : (dats m 0 c).after 7 t = (blkKb (iblk m c 1 t) (iblk m c 4 t)) := by dsimp only [dats]
theorem after_8 (c : Dev nD) (t : Fin cfg0.N) : (dats m 0 c).after 8 t = (fun y => iblk m c 2 t y) := by dsimp only [dats]; rfl
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ X, owns (c : Thread nD τ) (st0_6 t) fullShare X) ∗ (∃ d, owns (c : Thread nD τ) (st0_7 t) fullShare ((dats m 0 c).before 7 t d)) ∗ (∃ d, owns (c : Thread nD τ) (st0_8 t) fullShare ((dats m 0 c).before 8 t d)) ∗ (∃ X, owns (c : Thread nD τ) (st0_9 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (∃ X, owns (c : Thread nD τ) (st0_6 t) fullShare X) ∗ owns (c : Thread nD τ) (st0_7 t) fullShare ((dats m 0 c).after 7 t) ∗ owns (c : Thread nD τ) (st0_8 t) fullShare ((dats m 0 c).after 8 t) ∗ (∃ X, owns (c : Thread nD τ) (st0_9 t) fullShare X))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((run c (grid0.coords t) _ _ _ _ _ _ _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, ⟨%e5, H5⟩, ⟨%e6, H6⟩, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns
  isplitl [H5]
  · iexists _; isplitr; swap; · iexact H5
    ipureintro; exact leavesQ _ _ _ _ _ _ _ _ _ _ _ _ _ _ _ _ _ _ _ _ _ _ _ _ _ _ _ _
  isplitl [H6]
  · iexists _; iexists e6; isplitr; · ipureintro; rfl
    iexact H6
  isplitl [H7]
  · iexists _; isplitr; swap; · iexact H7
    ipureintro; exact leavesKb _ _ _ _ _ _ _ _ _ _ _ _ _ _ _ _ _ _ _ _ _ _ _ _ _ _ _ _
  isplitl [H8]
  · iexists _; isplitr; swap; · iexact H8
    ipureintro; exact leavesVb _ _ _ _ _ _ _ _ _ _ _ _ _ _ _ _ _ _ _ _ _ _ _ _ _ _ _ _
  iexists _; iexists e9; isplitr; · ipureintro; rfl
  iexact H9

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ fgt := fun t => by
  rw [bigSep_W0, bigSep_W0, defs₀_row]
  exact triple_restated (sound_body m c t) rfl .rfl fun _ => .rfl

set_option backward.isDefEq.respectTransparency.types false in
theorem run_main : θ_run defs (onTc (τ := τ) (main (F := Ideal))) (s₀ m ρ) (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hΦ := fun _ _ => rfl)

/-- The run with the three result arrays named, the arguments unchanged and every counter at zero. -/
theorem run_blocks : θ_run defs (onTc (τ := τ) (main (F := Ideal))) ⟨m, fun _ => 0, ρ⟩ fun r => (∀ c : Dev nD,
      r.2.mem ((c : Thread nD τ).loc main_v2_0) = (dats m 0 c).arrAt 5 cfg0.N
      ∧ r.2.mem ((c : Thread nD τ).loc main_v2_2) = (dats m 0 c).arrAt 7 cfg0.N
      ∧ r.2.mem ((c : Thread nD τ).loc main_v2_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 :=
  (θ_run defs _ _).mono (fun r h => ⟨fun c => ⟨((dats m 0 c).toRForget_arrAt_iff (fgt := fgt) (w := 5) rfl _ _).mp ((h.1 c).1 5),
      ((dats m 0 c).toRForget_arrAt_iff (fgt := fgt) (w := 7) rfl _ _).mp ((h.1 c).1 7),
      ((dats m 0 c).toRForget_arrAt_iff (fgt := fgt) (w := 8) rfl _ _).mp ((h.1 c).1 8),
      (h.1.arr_in c 2 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (run_main m ρ)

/-- THE FRAME. -/
theorem frame_main : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2.2.2, h.2⟩) (run_blocks m ρ)

end Cert.KernelPostPIdeal.Post

end
-- ==== Proof.PostPFinal.lean ====
/-
  The three named result arrays of the prompt rows' per-head normalisation are the reference's.
-/
module

public import proofs.«01_k».proof.Proof.PostPFrameIdeal
public import Idealize.ShloMosaic.Lib.Tactic.CleanTypes

@[expose] public section

set_option maxRecDepth 8192
set_option maxHeartbeats 1000000

noncomputable section

namespace Cert.KernelPostPIdeal.Post

open Cert.ReferencePostPIdeal.Value (qs ks vs outQ outKb outVb outQ_at outKb_at qs_at ks_at vs_at)
open Cert.ReferencePostIdeal.Value (entry factor)
open Cert.KernelPostPIdeal Cert.KernelPostPIdeal.Gen
open Idealize.ShloMosaic Idealize.ShloMosaic.TcCoe Idealize.SL.Sem

variable (m : (ℓ : Loc nD τ sig) → Buf (Elt Ideal) ℓ) (c : Dev nD)

theorem at_0 : ∀ t : Fin cfg0.N, win0_0.index t = ![t.val, 0] :=
  (by decide +kernel : ∀ t : Fin grid0.N, _)
theorem at_1 : ∀ t : Fin cfg0.N, win0_1.index t = ![t.val, 1] :=
  (by decide +kernel : ∀ t : Fin grid0.N, _)
theorem at_2 : ∀ t : Fin cfg0.N, win0_2.index t = ![t.val, 2] :=
  (by decide +kernel : ∀ t : Fin grid0.N, _)
theorem at_3 : ∀ t : Fin cfg0.N, win0_3.index t = ![0, 0] :=
  (by decide +kernel : ∀ t : Fin grid0.N, _)
theorem at_4 : ∀ t : Fin cfg0.N, win0_4.index t = ![0, 0] :=
  (by decide +kernel : ∀ t : Fin grid0.N, _)
theorem at_5 : ∀ t : Fin cfg0.N, win0_5.index t = ![t.val, 0] :=
  (by decide +kernel : ∀ t : Fin grid0.N, _)
theorem at_7 : ∀ t : Fin cfg0.N, win0_7.index t = ![t.val, 0] :=
  (by decide +kernel : ∀ t : Fin grid0.N, _)
theorem at_8 : ∀ t : Fin cfg0.N, win0_8.index t = ![t.val, 0] :=
  (by decide +kernel : ∀ t : Fin grid0.N, _)

/-- A gain as one row. -/
def gain (g : FVec Ideal S128 .f32) : FVec Ideal S1x128 .f32 := shapeCast S1x128 g shapeCasts_S128_S1x128

theorem gain_at (g : FVec Ideal S128 .f32) (n : Fin 128) : (gain g (ix2 0 n) : EReal) = g (ix1 n) := by
  unfold gain
  pointwise

theorem V_gain0 : V m c main_v0 = gain (m ((c : Thread nD τ).loc main_arg1)) := by
  unfold V gain
  after_reads_simp
  rfl

theorem V_gain1 : V m c main_v1 = gain (m ((c : Thread nD τ).loc main_arg2)) := by
  unfold V gain
  after_reads_simp
  rfl

theorem qs_block (t : Fin cfg0.N) (a : Fin 128) (k : Fin 2048) (r : Fin 8448) (hr : r.val = t.val * 128 + a.val) :
    (iblk m c 0 t (ix2 a k) : EReal) = qs (m ((c : Thread nD τ).loc main_arg0)) (ix2 r k) := by
  rw [qs_at]
  blk_simp [iblk]
  rw [V_main_arg0]
  refine congrArg (m ((c : Thread nD τ).loc main_arg0)) ?_
  blk_ext [at_0]

theorem ks_block (t : Fin cfg0.N) (a : Fin 128) (k : Fin 2048) (r : Fin 8448) (hr : r.val = t.val * 128 + a.val) :
    (iblk m c 1 t (ix2 a k) : EReal) = ks (m ((c : Thread nD τ).loc main_arg0)) (ix2 r k) := by
  rw [ks_at]
  blk_simp [iblk]
  rw [V_main_arg0]
  refine congrArg (m ((c : Thread nD τ).loc main_arg0)) ?_
  blk_ext [at_1]

theorem vs_block (t : Fin cfg0.N) (a : Fin 128) (k : Fin 2048) (r : Fin 8448) (hr : r.val = t.val * 128 + a.val) :
    (iblk m c 2 t (ix2 a k) : EReal) = vs (m ((c : Thread nD τ).loc main_arg0)) (ix2 r k) := by
  rw [vs_at]
  blk_simp [iblk]
  rw [V_main_arg0]
  refine congrArg (m ((c : Thread nD τ).loc main_arg0)) ?_
  blk_ext [at_2]

theorem gain0_block (t : Fin cfg0.N) (n : Fin 128) :
    (iblk m c 3 t (ix2 0 n) : EReal) = m ((c : Thread nD τ).loc main_arg1) (ix1 n) := by
  blk_simp [iblk]
  rw [V_gain0]
  refine Eq.trans (congrArg (gain (m ((c : Thread nD τ).loc main_arg1))) ?_) (gain_at _ n)
  blk_ext [at_3]

theorem gain1_block (t : Fin cfg0.N) (n : Fin 128) :
    (iblk m c 4 t (ix2 0 n) : EReal) = m ((c : Thread nD τ).loc main_arg2) (ix1 n) := by
  blk_simp [iblk]
  rw [V_gain1]
  refine Eq.trans (congrArg (gain (m ((c : Thread nD τ).loc main_arg2))) ?_) (gain_at _ n)
  blk_ext [at_4]

theorem q_block (t : Fin cfg0.N) (a : Fin 128) (n : Fin 2048) (r : Fin 8448) (hr : r.val = t.val * 128 + a.val) :
    (blkQ (iblk m c 0 t) (iblk m c 3 t) (ix2 a n) : EReal) = outQ (qs (m ((c : Thread nD τ).loc main_arg0))) (m ((c : Thread nD τ).loc main_arg1)) (ix2 r n) := by
  rw [outQ_at]
  unfold blkQ
  rw [gain0_block]
  exact congrArg (fun x => entry x _ _ * factor) (funext fun k => qs_block m c t a _ r hr)

theorem kb_block (t : Fin cfg0.N) (a : Fin 128) (n : Fin 2048) (r : Fin 8448) (hr : r.val = t.val * 128 + a.val) :
    (blkKb (iblk m c 1 t) (iblk m c 4 t) (ix2 a n) : EReal) = outKb (ks (m ((c : Thread nD τ).loc main_arg0))) (m ((c : Thread nD τ).loc main_arg2)) (ix2 r n) := by
  rw [outKb_at]
  unfold blkKb
  rw [gain1_block]
  exact congrArg (fun x => entry x _ _) (funext fun k => ks_block m c t a _ r hr)

theorem vb_block (t : Fin cfg0.N) (a : Fin 128) (n : Fin 2048) (r : Fin 8448) (hr : r.val = t.val * 128 + a.val) :
    (iblk m c 2 t (ix2 a n) : EReal) = outVb (vs (m ((c : Thread nD τ).loc main_arg0))) (ix2 r n) :=
  vs_block m c t a n r hr

/-- The queries. -/
theorem final_q : (dats m 0 c).arrAt 5 cfg0.N = outQ (qs (m ((c : Thread nD τ).loc main_arg0))) (m ((c : Thread nD τ).loc main_arg1)) := by
  refine (dats m 0 c).arrAt_eq_of_covers 5 _ (by decide +kernel) fun t hf y => ?_
  blk_simp
  rw [after_5]
  have ht : t.val < 66 := lt_of_lt_of_eq t.isLt N_0
  have h0 : (y 0).val < 128 := (y 0).isLt
  have h1 : (y 1).val < 2048 := (y 1).isLt
  have e := q_block m c t ⟨(y 0).val, h0⟩ ⟨(y 1).val, h1⟩ ⟨t.val * 128 + (y 0).val, by omega⟩ rfl
  refine Eq.trans ?_ (e.trans ?_)
  · refine congrArg (blkQ (iblk m c 0 t) (iblk m c 3 t)) ?_
    blk_ext []
  · refine congrArg (outQ (qs (m ((c : Thread nD τ).loc main_arg0))) (m ((c : Thread nD τ).loc main_arg1))) ?_
    blk_ext [at_5]

/-- The keys. -/
theorem final_kb : (dats m 0 c).arrAt 7 cfg0.N = outKb (ks (m ((c : Thread nD τ).loc main_arg0))) (m ((c : Thread nD τ).loc main_arg2)) := by
  refine (dats m 0 c).arrAt_eq_of_covers 7 _ (by decide +kernel) fun t hf y => ?_
  blk_simp
  rw [after_7]
  have ht : t.val < 66 := lt_of_lt_of_eq t.isLt N_0
  have h0 : (y 0).val < 128 := (y 0).isLt
  have h1 : (y 1).val < 2048 := (y 1).isLt
  have e := kb_block m c t ⟨(y 0).val, h0⟩ ⟨(y 1).val, h1⟩ ⟨t.val * 128 + (y 0).val, by omega⟩ rfl
  refine Eq.trans ?_ (e.trans ?_)
  · refine congrArg (blkKb (iblk m c 1 t) (iblk m c 4 t)) ?_
    blk_ext []
  · refine congrArg (outKb (ks (m ((c : Thread nD τ).loc main_arg0))) (m ((c : Thread nD τ).loc main_arg2))) ?_
    blk_ext [at_7]

/-- The values. -/
theorem final_vb : (dats m 0 c).arrAt 8 cfg0.N = outVb (vs (m ((c : Thread nD τ).loc main_arg0))) := by
  refine (dats m 0 c).arrAt_eq_of_covers 8 _ (by decide +kernel) fun t hf y => ?_
  blk_simp
  rw [after_8]
  have ht : t.val < 66 := lt_of_lt_of_eq t.isLt N_0
  have h0 : (y 0).val < 128 := (y 0).isLt
  have h1 : (y 1).val < 2048 := (y 1).isLt
  have e := vb_block m c t ⟨(y 0).val, h0⟩ ⟨(y 1).val, h1⟩ ⟨t.val * 128 + (y 0).val, by omega⟩ rfl
  refine Eq.trans ?_ (e.trans ?_)
  · refine congrArg (fun y => iblk m c 2 t y) ?_
    blk_ext []
  · refine congrArg (outVb (vs (m ((c : Thread nD τ).loc main_arg0)))) ?_
    blk_ext [at_8]

end Cert.KernelPostPIdeal.Post

end
-- ==== Proof.lean ====
/-
  The proof of `Cert.Claim`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.KernelUp
public import proofs.«01_k».proof.Proof.Gen.KernelUp.Frame
public import proofs.«01_k».proof.Proof.Gen.KernelUpIdeal
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.KernelIn
public import proofs.«01_k».proof.Proof.Gen.KernelIn.Frame
public import proofs.«01_k».proof.Proof.Gen.KernelInIdeal
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.KernelInB
public import proofs.«01_k».proof.Proof.Gen.KernelInB.Frame
public import proofs.«01_k».proof.Proof.Gen.KernelInBIdeal
public import proofs.«01_k».proof.Proof.Gen.KernelInBIdeal.Value
public import proofs.«01_k».proof.Proof.Gen.ReferenceInBIdeal
public import proofs.«01_k».proof.Proof.Gen.ReferenceInBIdeal.Run
public import proofs.«01_k».proof.Proof.Gen.KernelNorm
public import proofs.«01_k».proof.Proof.Gen.KernelNorm.Frame
public import proofs.«01_k».proof.Proof.Gen.KernelNormIdeal
public import proofs.«01_k».proof.Proof.Gen.KernelNormIdeal.Value
public import proofs.«01_k».proof.Proof.Gen.ReferenceNormIdeal
public import proofs.«01_k».proof.Proof.Gen.ReferenceNormIdeal.Run
public import proofs.«01_k».proof.Proof.Gen.KernelBias
public import proofs.«01_k».proof.Proof.Gen.KernelBias.Frame
public import proofs.«01_k».proof.Proof.Gen.KernelBiasIdeal
public import proofs.«01_k».proof.Proof.Gen.KernelBiasIdeal.Value
public import proofs.«01_k».proof.Proof.Gen.ReferenceBiasIdeal
public import proofs.«01_k».proof.Proof.Gen.ReferenceBiasIdeal.Run
public import proofs.«01_k».proof.Proof.Gen.KernelPost
public import proofs.«01_k».proof.Proof.Gen.KernelPost.Frame
public import proofs.«01_k».proof.Proof.Gen.KernelPost.Skeleton
public import proofs.«01_k».proof.Proof.Gen.KernelPost.Points
public import proofs.«01_k».proof.Proof.Gen.KernelPostIdeal
public import proofs.«01_k».proof.Proof.Gen.KernelPostIdeal.Frame
public import proofs.«01_k».proof.Proof.Gen.KernelPostIdeal.Skeleton
public import proofs.«01_k».proof.Proof.Gen.KernelPostIdeal.Points
public import proofs.«01_k».proof.Proof.Gen.ReferencePostIdeal
public import proofs.«01_k».proof.Proof.Gen.ReferencePostIdeal.Run
public import proofs.«01_k».proof.Proof.Gen.KernelPostB
public import proofs.«01_k».proof.Proof.Gen.KernelPostB.Frame
public import proofs.«01_k».proof.Proof.Gen.KernelPostB.Skeleton
public import proofs.«01_k».proof.Proof.Gen.KernelPostB.Points
public import proofs.«01_k».proof.Proof.Gen.KernelPostBIdeal
public import proofs.«01_k».proof.Proof.Gen.KernelPostBIdeal.Frame
public import proofs.«01_k».proof.Proof.Gen.KernelPostBIdeal.Skeleton
public import proofs.«01_k».proof.Proof.Gen.KernelPostBIdeal.Points
public import proofs.«01_k».proof.Proof.Gen.ReferencePostBIdeal
public import proofs.«01_k».proof.Proof.Gen.ReferencePostBIdeal.Run
public import proofs.«01_k».proof.Proof.Gen.KernelPostP
public import proofs.«01_k».proof.Proof.Gen.KernelPostP.Frame
public import proofs.«01_k».proof.Proof.Gen.KernelPostP.Skeleton
public import proofs.«01_k».proof.Proof.Gen.KernelPostP.Points
public import proofs.«01_k».proof.Proof.Gen.KernelPostPIdeal
public import proofs.«01_k».proof.Proof.Gen.KernelPostPIdeal.Frame
public import proofs.«01_k».proof.Proof.Gen.KernelPostPIdeal.Skeleton
public import proofs.«01_k».proof.Proof.Gen.KernelPostPIdeal.Points
public import proofs.«01_k».proof.Proof.Gen.ReferencePostPIdeal
public import proofs.«01_k».proof.Proof.Gen.ReferencePostPIdeal.Run
public import proofs.«01_k».proof.Proof.KernelFrame
public import Idealize.ShloMosaic.Lib.Tactic
public import Idealize.ShloMosaic.Lib.Claim
public import proofs.«01_k».proof.Proof.IdealFrame
public import proofs.«01_k».proof.Proof.Final
public import proofs.«01_k».proof.Proof.Proper
public import proofs.«01_k».proof.Proof.Up
public import proofs.«01_k».proof.Proof.Down
public import proofs.«01_k».proof.Proof.In
public import proofs.«01_k».proof.Proof.Out
public import proofs.«01_k».proof.Proof.InB
public import proofs.«01_k».proof.Proof.Norm
public import proofs.«01_k».proof.Proof.BiasTiles
public import proofs.«01_k».proof.Proof.PostFrame
public import proofs.«01_k».proof.Proof.PostFinal
public import proofs.«01_k».proof.Proof.PostBFrame
public import proofs.«01_k».proof.Proof.PostBFinal
public import proofs.«01_k».proof.Proof.PostPFrame
public import proofs.«01_k».proof.Proof.PostPFinal

@[expose] public section

noncomputable section

namespace Cert.Proof

open Idealize.ShloMosaic Idealize.ShloMosaic.TcCoe Idealize.SL.Sem
open Cert.ReferenceIdeal.Attn (mn result aq ak av at' alp lam)
open Cert.KernelIdeal.Attn (at2 at2_lt)

/-- A real array, as a function of row and column numbers. -/
theorem real_at {a b : ℕ} (X : (⟨2, ![a, b]⟩ : Shape).Idx → EReal) (h : ∀ i, ∃ r : ℝ, X i = (r : EReal)) :
    ∃ f : ℕ → ℕ → ℝ, ∀ (r : Fin a) (c : Fin b), X (ix2 r c) = (f r.val c.val : EReal) := by
  refine ⟨fun r c => (at2 X r c).toReal, fun r c => ?_⟩
  obtain ⟨x, hx⟩ := h (ix2 r c)
  show X (ix2 r c) = ((at2 X r.val c.val).toReal : EReal)
  rw [at2_lt X r.isLt c.isLt, hx, EReal.toReal_coe]

/-- `λ` of finite vectors is finite. -/
theorem real_lam (lp : FVec Ideal Cert.ReferenceIdeal.S4x128 .f32) (h : ∀ i, ∃ r : ℝ, (lp i : EReal) = (r : EReal)) : ∃ l : ℝ, lam lp = (l : EReal) := by
  obtain ⟨f, hf⟩ := real_at lp h
  have dot : ∀ i j : Fin 4, (∑ x : Fin 128, (lp (ix2 i x) * lp (ix2 j x) : EReal)) = ((∑ x : Fin 128, f i.val x.val * f j.val x.val : ℝ) : EReal) := by
    intro i j
    rw [← Cert.Softmax.coe_sum]
    refine Finset.sum_congr rfl fun x _ => ?_
    exact (congrArg₂ (fun a b : EReal => a * b) (hf i x) (hf j x)).trans (EReal.coe_mul _ _).symm
  have add : ∃ y : ℝ, Ideal.ofBits .f32 0x3E4CCCCD#32 = (y : EReal) := by
    refine ⟨13421773 / 67108864, ?_⟩
    simp [Ideal.ofBits, Ideal.ieee]
    norm_num
    rw [← EReal.coe_mul]
    norm_num
  obtain ⟨y, hy⟩ := add
  unfold lam
  rw [dot, dot, Ideal.exp_coe, Ideal.exp_coe, hy, ← EReal.coe_sub, ← EReal.coe_add]
  exact ⟨_, rfl⟩

theorem algebraic : Cert.algebraic_KernelIdeal_ReferenceIdeal_pre_finite := by
  intro m g m' g' hpre hagree
  refine ⟨fun c => result (mn (StableHlo.launchContents m' c)) (m ((c : Thread Cert.KernelIdeal.nD Cert.KernelIdeal.τ).loc Cert.KernelIdeal.main_arg5)), ?_, ?_⟩
  · have hrun := Cert.KernelIdeal.Attn.run_out m g
    have hframe := Cert.KernelIdeal.Attn.frame_main m g
    refine (θ_run Cert.KernelIdeal.defs _ _).mono (fun r h c => ⟨(h.1 c).trans ?_, h.2.1 c⟩) (θ_run_and hrun hframe)
    obtain ⟨e0, e1, e2, e3, e4, e5⟩ := hagree c
    obtain ⟨r0, r1, r2, r3, r4⟩ := Cert.Proper.all _ _ _ _ _ _ (hpre c)
    obtain ⟨q, hq⟩ := real_at _ r0
    obtain ⟨k, hk⟩ := real_at _ r1
    obtain ⟨v, hv⟩ := real_at _ r2
    obtain ⟨T, hT⟩ := real_at _ r3
    obtain ⟨l, hl⟩ := real_lam _ r4
    refine Cert.KernelIdeal.Attn.final_out m c (StableHlo.launchContents m' c) q k v T l ⟨?_, ?_, ?_, ?_, ?_⟩ e0 e1 e2 e3 e4
    · intro r c'; exact (congrFun e0 _).trans (hq r c')
    · intro r c'; exact (congrFun e1 _).trans (hk r c')
    · intro r c'; exact (congrFun e2 _).trans (hv r c')
    · intro r c'; exact (congrFun e3 _).trans (hT r c')
    · exact (congrArg lam e4).trans hl
  · refine (θ_run Cert.ReferenceIdeal.defs _ _).mono (fun r h c => ⟨(h c).1.trans ?_, (h c).2⟩) (Cert.ReferenceIdeal.Value.run (F := Ideal) m' g')
    obtain ⟨e0, e1, e2, e3, e4, e5⟩ := hagree c
    refine Eq.trans ?_ (congrArg (result (mn (StableHlo.launchContents m' c))) e5)
    unfold result mn
    with_reducible rfl

theorem algebraic_up : Cert.algebraic_KernelUpIdeal_ReferenceUpIdeal := by
  intro m g m' g' _ hagree
  refine ⟨fun c => Cert.ReferenceUpIdeal.Value.up (m ((c : Thread Cert.KernelUpIdeal.nD Cert.KernelUpIdeal.τ).loc Cert.KernelUpIdeal.main_arg0)) (m ((c : Thread Cert.KernelUpIdeal.nD Cert.KernelUpIdeal.τ).loc Cert.KernelUpIdeal.main_arg1)), ?_, ?_⟩
  · exact (θ_run Cert.KernelUpIdeal.defs _ _).mono (fun r h c => ⟨(h c).1.trans (Cert.KernelUpIdeal.Value.final_up m c), (h c).2⟩)
      (Cert.KernelUpIdeal.Value.run_blocks m g)
  · refine (θ_run Cert.ReferenceUpIdeal.defs _ _).mono (fun r h c => ⟨(h c).1.trans ?_, (h c).2⟩) (Cert.ReferenceUpIdeal.Value.run (F := Ideal) m' g')
    obtain ⟨e0, e1⟩ := hagree c
    rw [e0, e1]
    unfold Cert.ReferenceUpIdeal.Value.up
    with_reducible rfl

theorem algebraic_down : Cert.algebraic_KernelDownIdeal_ReferenceDownIdeal := by
  intro m g m' g' _ hagree
  refine ⟨fun c => Cert.ReferenceDownIdeal.Value.down (m ((c : Thread Cert.KernelDownIdeal.nD Cert.KernelDownIdeal.τ).loc Cert.KernelDownIdeal.main_arg0)) (m ((c : Thread Cert.KernelDownIdeal.nD Cert.KernelDownIdeal.τ).loc Cert.KernelDownIdeal.main_arg1)) (m ((c : Thread Cert.KernelDownIdeal.nD Cert.KernelDownIdeal.τ).loc Cert.KernelDownIdeal.main_arg2)), ?_, ?_⟩
  · exact (θ_run Cert.KernelDownIdeal.defs _ _).mono (fun r h c => ⟨(h c).1.trans (Cert.KernelDownIdeal.Value.final_down m c), (h c).2⟩)
      (Cert.KernelDownIdeal.Value.run_blocks m g)
  · refine (θ_run Cert.ReferenceDownIdeal.defs _ _).mono (fun r h c => ⟨(h c).1.trans ?_, (h c).2⟩) (Cert.ReferenceDownIdeal.Value.run (F := Ideal) m' g')
    obtain ⟨e0, e1, e2⟩ := hagree c
    rw [e0, e1, e2]
    unfold Cert.ReferenceDownIdeal.Value.down
    with_reducible rfl

theorem algebraic_proj : Cert.algebraic_KernelInIdeal_ReferenceInIdeal := by
  intro m g m' g' _ hagree
  refine ⟨fun c => Cert.ReferenceInIdeal.Value.proj (m ((c : Thread Cert.KernelInIdeal.nD Cert.KernelInIdeal.τ).loc Cert.KernelInIdeal.main_arg0)) (m ((c : Thread Cert.KernelInIdeal.nD Cert.KernelInIdeal.τ).loc Cert.KernelInIdeal.main_arg1)), ?_, ?_⟩
  · exact (θ_run Cert.KernelInIdeal.defs _ _).mono (fun r h c => ⟨(h c).1.trans (Cert.KernelInIdeal.Value.final_proj m c), (h c).2⟩)
      (Cert.KernelInIdeal.Value.run_blocks m g)
  · refine (θ_run Cert.ReferenceInIdeal.defs _ _).mono (fun r h c => ⟨(h c).1.trans ?_, (h c).2⟩) (Cert.ReferenceInIdeal.Value.run (F := Ideal) m' g')
    obtain ⟨e0, e1⟩ := hagree c
    rw [e0, e1]
    unfold Cert.ReferenceInIdeal.Value.proj
    with_reducible rfl

theorem algebraic_outProj : Cert.algebraic_KernelOutIdeal_ReferenceOutIdeal := by
  intro m g m' g' _ hagree
  refine ⟨fun c => Cert.ReferenceOutIdeal.Value.outProj (m ((c : Thread Cert.KernelOutIdeal.nD Cert.KernelOutIdeal.τ).loc Cert.KernelOutIdeal.main_arg0)) (m ((c : Thread Cert.KernelOutIdeal.nD Cert.KernelOutIdeal.τ).loc Cert.KernelOutIdeal.main_arg1)) (m ((c : Thread Cert.KernelOutIdeal.nD Cert.KernelOutIdeal.τ).loc Cert.KernelOutIdeal.main_arg2)), ?_, ?_⟩
  · exact (θ_run Cert.KernelOutIdeal.defs _ _).mono (fun r h c => ⟨(h c).1.trans (Cert.KernelOutIdeal.Value.final_outProj m c), (h c).2⟩)
      (Cert.KernelOutIdeal.Value.run_blocks m g)
  · refine (θ_run Cert.ReferenceOutIdeal.defs _ _).mono (fun r h c => ⟨(h c).1.trans ?_, (h c).2⟩) (Cert.ReferenceOutIdeal.Value.run (F := Ideal) m' g')
    obtain ⟨e0, e1, e2⟩ := hagree c
    rw [e0, e1, e2]
    unfold Cert.ReferenceOutIdeal.Value.outProj
    with_reducible rfl

theorem algebraic_projB : Cert.algebraic_KernelInBIdeal_ReferenceInBIdeal := by
  intro m g m' g' _ hagree
  refine ⟨fun c => Cert.ReferenceInBIdeal.Value.projB (m ((c : Thread Cert.KernelInBIdeal.nD Cert.KernelInBIdeal.τ).loc Cert.KernelInBIdeal.main_arg0)) (m ((c : Thread Cert.KernelInBIdeal.nD Cert.KernelInBIdeal.τ).loc Cert.KernelInBIdeal.main_arg1)), ?_, ?_⟩
  · exact (θ_run Cert.KernelInBIdeal.defs _ _).mono (fun r h c => ⟨(h c).1.trans (Cert.KernelInBIdeal.Value.final_projB m c), (h c).2⟩)
      (Cert.KernelInBIdeal.Value.run_blocks m g)
  · refine (θ_run Cert.ReferenceInBIdeal.defs _ _).mono (fun r h c => ⟨(h c).1.trans ?_, (h c).2⟩) (Cert.ReferenceInBIdeal.Value.run (F := Ideal) m' g')
    obtain ⟨e0, e1⟩ := hagree c
    rw [e0, e1]
    unfold Cert.ReferenceInBIdeal.Value.projB
    with_reducible rfl

theorem algebraic_norm : Cert.algebraic_KernelNormIdeal_ReferenceNormIdeal := by
  intro m g m' g' _ hagree
  refine ⟨fun c => Cert.ReferenceNormIdeal.Value.norm (m ((c : Thread Cert.KernelNormIdeal.nD Cert.KernelNormIdeal.τ).loc Cert.KernelNormIdeal.main_arg0)) (m ((c : Thread Cert.KernelNormIdeal.nD Cert.KernelNormIdeal.τ).loc Cert.KernelNormIdeal.main_arg1)), ?_, ?_⟩
  · exact (θ_run Cert.KernelNormIdeal.defs _ _).mono (fun r h c => ⟨(h c).1.trans (Cert.KernelNormIdeal.Value.final_norm m c), (h c).2⟩)
      (Cert.KernelNormIdeal.Value.run_blocks m g)
  · refine (θ_run Cert.ReferenceNormIdeal.defs _ _).mono (fun r h c => ⟨(h c).1.trans ?_, (h c).2⟩) (Cert.ReferenceNormIdeal.Value.run (F := Ideal) m' g')
    obtain ⟨e0, e1⟩ := hagree c
    rw [e0, e1]
    unfold Cert.ReferenceNormIdeal.Value.norm
    with_reducible rfl

theorem algebraic_bias : Cert.algebraic_KernelBiasIdeal_ReferenceBiasIdeal := by
  intro m g m' g' _ hagree
  refine ⟨fun c => Cert.ReferenceBiasIdeal.Value.bias (m ((c : Thread Cert.KernelBiasIdeal.nD Cert.KernelBiasIdeal.τ).loc Cert.KernelBiasIdeal.main_arg0)) (m ((c : Thread Cert.KernelBiasIdeal.nD Cert.KernelBiasIdeal.τ).loc Cert.KernelBiasIdeal.main_arg1)), ?_, ?_⟩
  · exact (θ_run Cert.KernelBiasIdeal.defs _ _).mono (fun r h c => ⟨(h c).1.trans (Cert.KernelBiasIdeal.Value.final_bias m c), (h c).2⟩)
      (Cert.KernelBiasIdeal.Value.run_blocks m g)
  · refine (θ_run Cert.ReferenceBiasIdeal.defs _ _).mono (fun r h c => ⟨(h c).1.trans ?_, (h c).2⟩) (Cert.ReferenceBiasIdeal.Value.run (F := Ideal) m' g')
    obtain ⟨e0, e1⟩ := hagree c
    unfold Cert.ReferenceBiasIdeal.Value.res_main_v38
    rw [e0, e1]
    unfold Cert.ReferenceBiasIdeal.Value.bias Cert.ReferenceBiasIdeal.Value.tiles Cert.ReferenceBiasIdeal.Value.taken Cert.ReferenceBiasIdeal.Value.rows Cert.ReferenceBiasIdeal.Value.buckets
    with_reducible rfl

theorem algebraic_post : Cert.algebraic_KernelPostIdeal_ReferencePostIdeal := by
  intro m g m' g' _ hagree
  refine ⟨fun c => Cert.ReferencePostIdeal.Value.outQ (Cert.ReferencePostIdeal.Value.qs (m ((c : Thread Cert.KernelPostIdeal.nD Cert.KernelPostIdeal.τ).loc Cert.KernelPostIdeal.main_arg0))) (m ((c : Thread Cert.KernelPostIdeal.nD Cert.KernelPostIdeal.τ).loc Cert.KernelPostIdeal.main_arg1)), fun c => Cert.ReferencePostIdeal.Value.outK (Cert.ReferencePostIdeal.Value.ks (m ((c : Thread Cert.KernelPostIdeal.nD Cert.KernelPostIdeal.τ).loc Cert.KernelPostIdeal.main_arg0))) (m ((c : Thread Cert.KernelPostIdeal.nD Cert.KernelPostIdeal.τ).loc Cert.KernelPostIdeal.main_arg2)), fun c => Cert.ReferencePostIdeal.Value.outKb (Cert.ReferencePostIdeal.Value.ks (m ((c : Thread Cert.KernelPostIdeal.nD Cert.KernelPostIdeal.τ).loc Cert.KernelPostIdeal.main_arg0))) (m ((c : Thread Cert.KernelPostIdeal.nD Cert.KernelPostIdeal.τ).loc Cert.KernelPostIdeal.main_arg2)), fun c => Cert.ReferencePostIdeal.Value.outVb (Cert.ReferencePostIdeal.Value.vs (m ((c : Thread Cert.KernelPostIdeal.nD Cert.KernelPostIdeal.τ).loc Cert.KernelPostIdeal.main_arg0))), fun c => Cert.ReferencePostIdeal.Value.outV (Cert.ReferencePostIdeal.Value.vs (m ((c : Thread Cert.KernelPostIdeal.nD Cert.KernelPostIdeal.τ).loc Cert.KernelPostIdeal.main_arg0))), ?_, ?_⟩
  · exact (θ_run Cert.KernelPostIdeal.defs _ _).mono (fun r h c => ⟨(h.1 c).1.trans (Cert.KernelPostIdeal.Post.final_q m c), (h.1 c).2.1.trans (Cert.KernelPostIdeal.Post.final_k m c),
      (h.1 c).2.2.1.trans (Cert.KernelPostIdeal.Post.final_kb m c), (h.1 c).2.2.2.1.trans (Cert.KernelPostIdeal.Post.final_vb m c), (h.1 c).2.2.2.2.1.trans (Cert.KernelPostIdeal.Post.final_v m c),
      (h.1 c).2.2.2.2.2⟩) (Cert.KernelPostIdeal.Post.run_blocks m g)
  · refine (θ_run Cert.ReferencePostIdeal.defs _ _).mono (fun r h c => ⟨(h c).1.trans ?_, (h c).2.1.trans ?_, (h c).2.2.1.trans ?_, (h c).2.2.2.1.trans ?_, (h c).2.2.2.2.1.trans ?_, (h c).2.2.2.2.2⟩) (Cert.ReferencePostIdeal.Value.run (F := Ideal) m' g')
    all_goals
      obtain ⟨e0, e1, e2⟩ := hagree c
    · rw [e0, e1]
      unfold Cert.ReferencePostIdeal.Value.outQ Cert.ReferencePostIdeal.Value.normed Cert.ReferencePostIdeal.Value.qs
      with_reducible rfl
    · rw [e0, e2]
      unfold Cert.ReferencePostIdeal.Value.outK Cert.ReferencePostIdeal.Value.normed Cert.ReferencePostIdeal.Value.ks
      with_reducible rfl
    · rw [e0, e2]
      unfold Cert.ReferencePostIdeal.Value.outKb Cert.ReferencePostIdeal.Value.normed Cert.ReferencePostIdeal.Value.ks
      with_reducible rfl
    · rw [e0]
      unfold Cert.ReferencePostIdeal.Value.outVb Cert.ReferencePostIdeal.Value.vs
      with_reducible rfl
    · rw [e0]
      unfold Cert.ReferencePostIdeal.Value.outV Cert.ReferencePostIdeal.Value.vs
      with_reducible rfl

theorem algebraic_postB : Cert.algebraic_KernelPostBIdeal_ReferencePostBIdeal := by
  intro m g m' g' _ hagree
  refine ⟨fun c => Cert.ReferencePostBIdeal.Value.outQ (Cert.ReferencePostBIdeal.Value.qs (m ((c : Thread Cert.KernelPostBIdeal.nD Cert.KernelPostBIdeal.τ).loc Cert.KernelPostBIdeal.main_arg0))) (m ((c : Thread Cert.KernelPostBIdeal.nD Cert.KernelPostBIdeal.τ).loc Cert.KernelPostBIdeal.main_arg1)), fun c => Cert.ReferencePostBIdeal.Value.outK (Cert.ReferencePostBIdeal.Value.ks (m ((c : Thread Cert.KernelPostBIdeal.nD Cert.KernelPostBIdeal.τ).loc Cert.KernelPostBIdeal.main_arg0))) (m ((c : Thread Cert.KernelPostBIdeal.nD Cert.KernelPostBIdeal.τ).loc Cert.KernelPostBIdeal.main_arg2)), fun c => Cert.ReferencePostBIdeal.Value.outKb (Cert.ReferencePostBIdeal.Value.ks (m ((c : Thread Cert.KernelPostBIdeal.nD Cert.KernelPostBIdeal.τ).loc Cert.KernelPostBIdeal.main_arg0))) (m ((c : Thread Cert.KernelPostBIdeal.nD Cert.KernelPostBIdeal.τ).loc Cert.KernelPostBIdeal.main_arg2)), fun c => Cert.ReferencePostBIdeal.Value.outVb (Cert.ReferencePostBIdeal.Value.vs (m ((c : Thread Cert.KernelPostBIdeal.nD Cert.KernelPostBIdeal.τ).loc Cert.KernelPostBIdeal.main_arg0))), fun c => Cert.ReferencePostBIdeal.Value.outIq (Cert.ReferencePostBIdeal.Value.iqs (m ((c : Thread Cert.KernelPostBIdeal.nD Cert.KernelPostBIdeal.τ).loc Cert.KernelPostBIdeal.main_arg0))), fun c => Cert.ReferencePostBIdeal.Value.outIkb (Cert.ReferencePostBIdeal.Value.iks (m ((c : Thread Cert.KernelPostBIdeal.nD Cert.KernelPostBIdeal.τ).loc Cert.KernelPostBIdeal.main_arg0))), fun c => Cert.ReferencePostBIdeal.Value.outIw (Cert.ReferencePostBIdeal.Value.iws (m ((c : Thread Cert.KernelPostBIdeal.nD Cert.KernelPostBIdeal.τ).loc Cert.KernelPostBIdeal.main_arg0))), fun c => Cert.ReferencePostBIdeal.Value.outV (Cert.ReferencePostBIdeal.Value.vs (m ((c : Thread Cert.KernelPostBIdeal.nD Cert.KernelPostBIdeal.τ).loc Cert.KernelPostBIdeal.main_arg0))), fun c => Cert.ReferencePostBIdeal.Value.iks (m ((c : Thread Cert.KernelPostBIdeal.nD Cert.KernelPostBIdeal.τ).loc Cert.KernelPostBIdeal.main_arg0)), ?_, ?_⟩
  · exact (θ_run Cert.KernelPostBIdeal.defs _ _).mono (fun r h c => ⟨(h.1 c).1.trans (Cert.KernelPostBIdeal.Post.final_q m c), (h.1 c).2.1.trans (Cert.KernelPostBIdeal.Post.final_k m c), (h.1 c).2.2.1.trans (Cert.KernelPostBIdeal.Post.final_kb m c), (h.1 c).2.2.2.1.trans (Cert.KernelPostBIdeal.Post.final_vb m c), (h.1 c).2.2.2.2.1.trans (Cert.KernelPostBIdeal.Post.final_iq m c), (h.1 c).2.2.2.2.2.1.trans (Cert.KernelPostBIdeal.Post.final_ikb m c), (h.1 c).2.2.2.2.2.2.1.trans (Cert.KernelPostBIdeal.Post.final_iw m c), (h.1 c).2.2.2.2.2.2.2.1.trans (Cert.KernelPostBIdeal.Post.final_v m c), (h.1 c).2.2.2.2.2.2.2.2.1.trans (Cert.KernelPostBIdeal.Post.final_ik m c),
      (h.1 c).2.2.2.2.2.2.2.2.2⟩) (Cert.KernelPostBIdeal.Post.run_blocks m g)
  · refine (θ_run Cert.ReferencePostBIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩) (Cert.ReferencePostBIdeal.Value.run (F := Ideal) m' g')
    all_goals
      obtain ⟨e0, e1, e2⟩ := hagree c
    · rw [e0, e1]
      unfold Cert.ReferencePostBIdeal.Value.outQ Cert.ReferencePostBIdeal.Value.normedQ Cert.ReferencePostBIdeal.Value.qs
      with_reducible rfl
    · rw [e0, e2]
      unfold Cert.ReferencePostBIdeal.Value.outK Cert.ReferencePostBIdeal.Value.normedK Cert.ReferencePostBIdeal.Value.ks
      with_reducible rfl
    · rw [e0, e2]
      unfold Cert.ReferencePostBIdeal.Value.outKb Cert.ReferencePostBIdeal.Value.normedK Cert.ReferencePostBIdeal.Value.ks
      with_reducible rfl
    · rw [e0]
      unfold Cert.ReferencePostBIdeal.Value.outVb Cert.ReferencePostBIdeal.Value.vs
      with_reducible rfl
    · rw [e0]
      unfold Cert.ReferencePostBIdeal.Value.outIq Cert.ReferencePostBIdeal.Value.iqs
      with_reducible rfl
    · rw [e0]
      unfold Cert.ReferencePostBIdeal.Value.outIkb Cert.ReferencePostBIdeal.Value.iks
      with_reducible rfl
    · rw [e0]
      unfold Cert.ReferencePostBIdeal.Value.outIw Cert.ReferencePostBIdeal.Value.iws
      with_reducible rfl
    · rw [e0]
      unfold Cert.ReferencePostBIdeal.Value.outV Cert.ReferencePostBIdeal.Value.vs
      with_reducible rfl
    · rw [e0]
      unfold Cert.ReferencePostBIdeal.Value.iks
      with_reducible rfl

/-- The value of the heads' norms of the prompts' rows. -/
theorem algebraic_postP : Cert.algebraic_KernelPostPIdeal_ReferencePostPIdeal := by
  intro m g m' g' _ hagree
  refine ⟨fun c => Cert.ReferencePostPIdeal.Value.outQ (Cert.ReferencePostPIdeal.Value.qs (m ((c : Thread Cert.KernelPostPIdeal.nD Cert.KernelPostPIdeal.τ).loc Cert.KernelPostPIdeal.main_arg0))) (m ((c : Thread Cert.KernelPostPIdeal.nD Cert.KernelPostPIdeal.τ).loc Cert.KernelPostPIdeal.main_arg1)), fun c => Cert.ReferencePostPIdeal.Value.outKb (Cert.ReferencePostPIdeal.Value.ks (m ((c : Thread Cert.KernelPostPIdeal.nD Cert.KernelPostPIdeal.τ).loc Cert.KernelPostPIdeal.main_arg0))) (m ((c : Thread Cert.KernelPostPIdeal.nD Cert.KernelPostPIdeal.τ).loc Cert.KernelPostPIdeal.main_arg2)), fun c => Cert.ReferencePostPIdeal.Value.outVb (Cert.ReferencePostPIdeal.Value.vs (m ((c : Thread Cert.KernelPostPIdeal.nD Cert.KernelPostPIdeal.τ).loc Cert.KernelPostPIdeal.main_arg0))), ?_, ?_⟩
  · exact (θ_run Cert.KernelPostPIdeal.defs _ _).mono (fun r h c => ⟨(h.1 c).1.trans (Cert.KernelPostPIdeal.Post.final_q m c), (h.1 c).2.1.trans (Cert.KernelPostPIdeal.Post.final_kb m c),
      (h.1 c).2.2.1.trans (Cert.KernelPostPIdeal.Post.final_vb m c), (h.1 c).2.2.2⟩) (Cert.KernelPostPIdeal.Post.run_blocks m g)
  · refine (θ_run Cert.ReferencePostPIdeal.defs _ _).mono (fun r h c => ⟨(h c).1.trans ?_, (h c).2.1.trans ?_, (h c).2.2.1.trans ?_, (h c).2.2.2⟩) (Cert.ReferencePostPIdeal.Value.run (F := Ideal) m' g')
    all_goals
      obtain ⟨e0, e1, e2⟩ := hagree c
    · rw [e0, e1]
      unfold Cert.ReferencePostPIdeal.Value.outQ Cert.ReferencePostPIdeal.Value.normed Cert.ReferencePostPIdeal.Value.qs
      with_reducible rfl
    · rw [e0, e2]
      unfold Cert.ReferencePostPIdeal.Value.outKb Cert.ReferencePostPIdeal.Value.normed Cert.ReferencePostPIdeal.Value.ks
      with_reducible rfl
    · rw [e0]
      unfold Cert.ReferencePostPIdeal.Value.outVb Cert.ReferencePostPIdeal.Value.vs
      with_reducible rfl

theorem claim : Cert.Claim := ⟨Cert.Kernel.Gen.facts, Cert.KernelIdeal.Gen.facts, Cert.ReferenceIdeal.Gen.facts, Cert.KernelUp.Gen.facts, Cert.KernelUpIdeal.Gen.facts, Cert.ReferenceUpIdeal.Gen.facts, Cert.KernelDown.Gen.facts, Cert.KernelDownIdeal.Gen.facts, Cert.ReferenceDownIdeal.Gen.facts, Cert.KernelIn.Gen.facts, Cert.KernelInIdeal.Gen.facts, Cert.ReferenceInIdeal.Gen.facts, Cert.KernelOut.Gen.facts, Cert.KernelOutIdeal.Gen.facts, Cert.ReferenceOutIdeal.Gen.facts, Cert.KernelInB.Gen.facts, Cert.KernelInBIdeal.Gen.facts, Cert.ReferenceInBIdeal.Gen.facts, Cert.KernelNorm.Gen.facts, Cert.KernelNormIdeal.Gen.facts, Cert.ReferenceNormIdeal.Gen.facts, Cert.KernelBias.Gen.facts, Cert.KernelBiasIdeal.Gen.facts, Cert.ReferenceBiasIdeal.Gen.facts, Cert.KernelPost.Gen.facts, Cert.KernelPostIdeal.Gen.facts, Cert.ReferencePostIdeal.Gen.facts, Cert.KernelPostB.Gen.facts, Cert.KernelPostBIdeal.Gen.facts, Cert.ReferencePostBIdeal.Gen.facts, Cert.KernelPostP.Gen.facts, Cert.KernelPostPIdeal.Gen.facts, Cert.ReferencePostPIdeal.Gen.facts, Cert.Pre_finite.Gen.facts,
  fun m ρ _ => Cert.Kernel.Attn.frame_main m ρ,
  fun m ρ _ => Cert.KernelIdeal.Attn.frame_main m ρ,
  fun m ρ _ => Cert.KernelIdeal.Attn.frame_main m ρ,
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ),
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ),
  fun m ρ _ => Cert.KernelUp.Gen.frame m ρ,
  fun m ρ _ => Cert.KernelUpIdeal.Gen.frame m ρ,
  fun m ρ _ => (θ_run Cert.ReferenceUpIdeal.defs _ _).mono
    (fun r h => ⟨fun c => (h c).2, Idealize.ShloMosaic.sem_eq_zero_of_no_sems (by decide) r.2⟩)
    (Cert.ReferenceUpIdeal.Value.run (F := Ideal) m ρ),
  fun m ρ _ => Cert.KernelDown.Gen.frame m ρ,
  fun m ρ _ => Cert.KernelDownIdeal.Gen.frame m ρ,
  fun m ρ _ => (θ_run Cert.ReferenceDownIdeal.defs _ _).mono
    (fun r h => ⟨fun c => (h c).2, Idealize.ShloMosaic.sem_eq_zero_of_no_sems (by decide) r.2⟩)
    (Cert.ReferenceDownIdeal.Value.run (F := Ideal) m ρ),
  fun m ρ _ => Cert.KernelIn.Gen.frame m ρ,
  fun m ρ _ => Cert.KernelInIdeal.Gen.frame m ρ,
  fun m ρ _ => (θ_run Cert.ReferenceInIdeal.defs _ _).mono
    (fun r h => ⟨fun c => (h c).2, Idealize.ShloMosaic.sem_eq_zero_of_no_sems (by decide) r.2⟩)
    (Cert.ReferenceInIdeal.Value.run (F := Ideal) m ρ),
  fun m ρ _ => Cert.KernelOut.Gen.frame m ρ,
  fun m ρ _ => Cert.KernelOutIdeal.Gen.frame m ρ,
  fun m ρ _ => (θ_run Cert.ReferenceOutIdeal.defs _ _).mono
    (fun r h => ⟨fun c => (h c).2, Idealize.ShloMosaic.sem_eq_zero_of_no_sems (by decide) r.2⟩)
    (Cert.ReferenceOutIdeal.Value.run (F := Ideal) m ρ),
  fun m ρ _ => Cert.KernelInB.Gen.frame m ρ,
  fun m ρ _ => Cert.KernelInBIdeal.Gen.frame m ρ,
  fun m ρ _ => (θ_run Cert.ReferenceInBIdeal.defs _ _).mono
    (fun r h => ⟨fun c => (h c).2, Idealize.ShloMosaic.sem_eq_zero_of_no_sems (by decide) r.2⟩)
    (Cert.ReferenceInBIdeal.Value.run (F := Ideal) m ρ),
  fun m ρ _ => Cert.KernelNorm.Gen.frame m ρ,
  fun m ρ _ => Cert.KernelNormIdeal.Gen.frame m ρ,
  fun m ρ _ => (θ_run Cert.ReferenceNormIdeal.defs _ _).mono
    (fun r h => ⟨fun c => (h c).2, Idealize.ShloMosaic.sem_eq_zero_of_no_sems (by decide) r.2⟩)
    (Cert.ReferenceNormIdeal.Value.run (F := Ideal) m ρ),
  fun m ρ _ => Cert.KernelBias.Gen.frame m ρ,
  fun m ρ _ => Cert.KernelBiasIdeal.Gen.frame m ρ,
  fun m ρ _ => (θ_run Cert.ReferenceBiasIdeal.defs _ _).mono
    (fun r h => ⟨fun c => (h c).2, Idealize.ShloMosaic.sem_eq_zero_of_no_sems (by decide) r.2⟩)
    (Cert.ReferenceBiasIdeal.Value.run (F := Ideal) m ρ),
  fun m ρ _ => Cert.KernelPost.Post.frame_main m ρ,
  fun m ρ _ => Cert.KernelPostIdeal.Post.frame_main m ρ,
  fun m ρ _ => (θ_run Cert.ReferencePostIdeal.defs _ _).mono
    (fun r h => ⟨fun c => (h c).2.2.2.2.2, Idealize.ShloMosaic.sem_eq_zero_of_no_sems (by decide) r.2⟩)
    (Cert.ReferencePostIdeal.Value.run (F := Ideal) m ρ),
  fun m ρ _ => Cert.KernelPostB.Post.frame_main m ρ,
  fun m ρ _ => Cert.KernelPostBIdeal.Post.frame_main m ρ,
  fun m ρ _ => (θ_run Cert.ReferencePostBIdeal.defs _ _).mono
    (fun r h => ⟨fun c => (h c).2.2.2.2.2.2.2.2.2, Idealize.ShloMosaic.sem_eq_zero_of_no_sems (by decide) r.2⟩)
    (Cert.ReferencePostBIdeal.Value.run (F := Ideal) m ρ),
  fun m ρ _ => Cert.KernelPostP.Post.frame_main m ρ,
  fun m ρ _ => Cert.KernelPostPIdeal.Post.frame_main m ρ,
  fun m ρ _ => (θ_run Cert.ReferencePostPIdeal.defs _ _).mono
    (fun r h => ⟨fun c => (h c).2.2.2, Idealize.ShloMosaic.sem_eq_zero_of_no_sems (by decide) r.2⟩)
    (Cert.ReferencePostPIdeal.Value.run (F := Ideal) m ρ),
  ⟨IdealRules.named_const.statement Cert.KernelIdeal.κ "scale" .f32 0x3E0293EE#32 _ rfl,
    IdealRules.named_const.statement Cert.KernelIdeal.κ "neg" .f32 0xF149F2CA#32 ⊥ rfl⟩,
  algebraic, trivial, algebraic_up, trivial, algebraic_down, trivial, algebraic_proj, trivial, algebraic_outProj, trivial, algebraic_projB, trivial, algebraic_norm,
  ⟨IdealRules.named_const.statement Cert.KernelBiasIdeal.κ "log2e" .f32 0x3FB8AA3B#32 _ rfl,
    IdealRules.named_const.statement Cert.KernelBiasIdeal.κ "neg" .f32 0xF149F2CA#32 ⊥ rfl⟩, algebraic_bias,
  IdealRules.named_const.statement Cert.KernelPostIdeal.κ "scale" .f32 0x3E0293EE#32 _ rfl, algebraic_post,
  ⟨IdealRules.named_const.statement Cert.KernelPostBIdeal.κ "scale" .f32 0x3E0293EE#32 _ rfl,
    IdealRules.named_const.statement Cert.KernelPostBIdeal.κ "iscale" .f32 0x3DB504F3#32 _ rfl⟩, algebraic_postB,
  IdealRules.named_const.statement Cert.KernelPostPIdeal.κ "scale" .f32 0x3E0293EE#32 _ rfl, algebraic_postP⟩

end Cert.Proof

end
